-- ==== Defs.lean ====
def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_Gmlp (m : (ℓ : Loc Cert.Gmlp.nD Cert.Gmlp.τ Cert.Gmlp.sig) → Buf (Elt Bits) ℓ) : Prop :=
  True

def Pre_GmlpIdeal (m : (ℓ : Loc Cert.GmlpIdeal.nD Cert.GmlpIdeal.τ Cert.GmlpIdeal.sig) → Buf (Elt Ideal) ℓ) : Prop :=
  True

def Pre_GmlpIdeal_finite_gmlp [hPre_finite_gmlp : Cert.Pre_finite_gmlp.Facts] (m : (ℓ : Loc Cert.GmlpIdeal.nD Cert.GmlpIdeal.τ Cert.GmlpIdeal.sig) → Buf (Elt Ideal) ℓ) : Prop :=
  ∀ c : Dev Cert.GmlpIdeal.nD,
    (Cert.Pre_finite_gmlp.fn (F := Ideal) (m ((c.tc : Thread Cert.GmlpIdeal.nD Cert.GmlpIdeal.τ).loc Cert.GmlpIdeal.main_arg0)) (m ((c.tc : Thread Cert.GmlpIdeal.nD Cert.GmlpIdeal.τ).loc Cert.GmlpIdeal.main_arg1)) (m ((c.tc : Thread Cert.GmlpIdeal.nD Cert.GmlpIdeal.τ).loc Cert.GmlpIdeal.main_arg2)) (m ((c.tc : Thread Cert.GmlpIdeal.nD Cert.GmlpIdeal.τ).loc Cert.GmlpIdeal.main_arg3)) (m ((c.tc : Thread Cert.GmlpIdeal.nD Cert.GmlpIdeal.τ).loc Cert.GmlpIdeal.main_arg4)) (m ((c.tc : Thread Cert.GmlpIdeal.nD Cert.GmlpIdeal.τ).loc Cert.GmlpIdeal.main_arg5))) = (fun _ => 1#1)

def Pre_GmlpRefIdeal (m : (ℓ : Loc Cert.GmlpRefIdeal.nD Cert.GmlpRefIdeal.τ Cert.GmlpRefIdeal.sig) → Buf (Elt Ideal) ℓ) : Prop :=
  True

def Pre_GmlpRefIdeal_finite_gmlp [hPre_finite_gmlp : Cert.Pre_finite_gmlp.Facts] (m : (ℓ : Loc Cert.GmlpRefIdeal.nD Cert.GmlpRefIdeal.τ Cert.GmlpRefIdeal.sig) → Buf (Elt Ideal) ℓ) : Prop :=
  ∀ c : Dev Cert.GmlpRefIdeal.nD,
    (Cert.Pre_finite_gmlp.fn (F := Ideal) (m ((c.tc : Thread Cert.GmlpRefIdeal.nD Cert.GmlpRefIdeal.τ).loc Cert.GmlpRefIdeal.main_arg0)) (m ((c.tc : Thread Cert.GmlpRefIdeal.nD Cert.GmlpRefIdeal.τ).loc Cert.GmlpRefIdeal.main_arg1)) (m ((c.tc : Thread Cert.GmlpRefIdeal.nD Cert.GmlpRefIdeal.τ).loc Cert.GmlpRefIdeal.main_arg2)) (m ((c.tc : Thread Cert.GmlpRefIdeal.nD Cert.GmlpRefIdeal.τ).loc Cert.GmlpRefIdeal.main_arg3)) (m ((c.tc : Thread Cert.GmlpRefIdeal.nD Cert.GmlpRefIdeal.τ).loc Cert.GmlpRefIdeal.main_arg4)) (m ((c.tc : Thread Cert.GmlpRefIdeal.nD Cert.GmlpRefIdeal.τ).loc Cert.GmlpRefIdeal.main_arg5))) = (fun _ => 1#1)

def Pre_RmsBwd (m : (ℓ : Loc Cert.RmsBwd.nD Cert.RmsBwd.τ Cert.RmsBwd.sig) → Buf (Elt Bits) ℓ) : Prop :=
  True

def Pre_RmsBwdIdeal (m : (ℓ : Loc Cert.RmsBwdIdeal.nD Cert.RmsBwdIdeal.τ Cert.RmsBwdIdeal.sig) → Buf (Elt Ideal) ℓ) : Prop :=
  True

def Pre_RmsBwdIdeal_finite_rms [hPre_finite_rms : Cert.Pre_finite_rms.Facts] (m : (ℓ : Loc Cert.RmsBwdIdeal.nD Cert.RmsBwdIdeal.τ Cert.RmsBwdIdeal.sig) → Buf (Elt Ideal) ℓ) : Prop :=
  ∀ c : Dev Cert.RmsBwdIdeal.nD,
    (Cert.Pre_finite_rms.fn (F := Ideal) (m ((c.tc : Thread Cert.RmsBwdIdeal.nD Cert.RmsBwdIdeal.τ).loc Cert.RmsBwdIdeal.main_arg0)) (m ((c.tc : Thread Cert.RmsBwdIdeal.nD Cert.RmsBwdIdeal.τ).loc Cert.RmsBwdIdeal.main_arg1)) (m ((c.tc : Thread Cert.RmsBwdIdeal.nD Cert.RmsBwdIdeal.τ).loc Cert.RmsBwdIdeal.main_arg2)) (m ((c.tc : Thread Cert.RmsBwdIdeal.nD Cert.RmsBwdIdeal.τ).loc Cert.RmsBwdIdeal.main_arg3))) = (fun _ => 1#1)

def Pre_RmsRefIdeal (m : (ℓ : Loc Cert.RmsRefIdeal.nD Cert.RmsRefIdeal.τ Cert.RmsRefIdeal.sig) → Buf (Elt Ideal) ℓ) : Prop :=
  True

def Pre_RmsRefIdeal_finite_rms [hPre_finite_rms : Cert.Pre_finite_rms.Facts] (m : (ℓ : Loc Cert.RmsRefIdeal.nD Cert.RmsRefIdeal.τ Cert.RmsRefIdeal.sig) → Buf (Elt Ideal) ℓ) : Prop :=
  ∀ c : Dev Cert.RmsRefIdeal.nD,
    (Cert.Pre_finite_rms.fn (F := Ideal) (m ((c.tc : Thread Cert.RmsRefIdeal.nD Cert.RmsRefIdeal.τ).loc Cert.RmsRefIdeal.main_arg0)) (m ((c.tc : Thread Cert.RmsRefIdeal.nD Cert.RmsRefIdeal.τ).loc Cert.RmsRefIdeal.main_arg1)) (m ((c.tc : Thread Cert.RmsRefIdeal.nD Cert.RmsRefIdeal.τ).loc Cert.RmsRefIdeal.main_arg2)) (m ((c.tc : Thread Cert.RmsRefIdeal.nD Cert.RmsRefIdeal.τ).loc Cert.RmsRefIdeal.main_arg3))) = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_finite_loss [hPre_finite_loss : Cert.Pre_finite_loss.Facts] (m : (ℓ : Loc Cert.LossIdeal.nD Cert.LossIdeal.τ Cert.LossIdeal.sig) → Buf (Elt Ideal) ℓ) : Prop :=
  ∀ c : Dev Cert.LossIdeal.nD,
    (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))) = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_finite_loss [hPre_finite_loss : Cert.Pre_finite_loss.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))) = (fun _ => 1#1)

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepIdeal_tame_prep [hPre_tame_prep : Cert.Pre_tame_prep.Facts] (m : (ℓ : Loc Cert.PrepIdeal.nD Cert.PrepIdeal.τ Cert.PrepIdeal.sig) → Buf (Elt Ideal) ℓ) : Prop :=
  ∀ c : Dev Cert.PrepIdeal.nD,
    (Cert.Pre_tame_prep.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5)) (m ((c.tc : Thread Cert.PrepIdeal.nD Cert.PrepIdeal.τ).loc Cert.PrepIdeal.main_arg6)) (m ((c.tc : Thread Cert.PrepIdeal.nD Cert.PrepIdeal.τ).loc Cert.PrepIdeal.main_arg7)) (m ((c.tc : Thread Cert.PrepIdeal.nD Cert.PrepIdeal.τ).loc Cert.PrepIdeal.main_arg8))) = (fun _ => 1#1)

def Pre_PrepRefIdeal (m : (ℓ : Loc Cert.PrepRefIdeal.nD Cert.PrepRefIdeal.τ Cert.PrepRefIdeal.sig) → Buf (Elt Ideal) ℓ) : Prop :=
  True

def Pre_PrepRefIdeal_tame_prep [hPre_tame_prep : Cert.Pre_tame_prep.Facts] (m : (ℓ : Loc Cert.PrepRefIdeal.nD Cert.PrepRefIdeal.τ Cert.PrepRefIdeal.sig) → Buf (Elt Ideal) ℓ) : Prop :=
  ∀ c : Dev Cert.PrepRefIdeal.nD,
    (Cert.Pre_tame_prep.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4)) (m ((c.tc : Thread Cert.PrepRefIdeal.nD Cert.PrepRefIdeal.τ).loc Cert.PrepRefIdeal.main_arg5)) (m ((c.tc : Thread Cert.PrepRefIdeal.nD Cert.PrepRefIdeal.τ).loc Cert.PrepRefIdeal.main_arg6)) (m ((c.tc : Thread Cert.PrepRefIdeal.nD Cert.PrepRefIdeal.τ).loc Cert.PrepRefIdeal.main_arg7)) (m ((c.tc : Thread Cert.PrepRefIdeal.nD Cert.PrepRefIdeal.τ).loc Cert.PrepRefIdeal.main_arg8))) = (fun _ => 1#1)

def Pre_Swi (m : (ℓ : Loc Cert.Swi.nD Cert.Swi.τ Cert.Swi.sig) → Buf (Elt Bits) ℓ) : Prop :=
  True

def Pre_SwiIdeal (m : (ℓ : Loc Cert.SwiIdeal.nD Cert.SwiIdeal.τ Cert.SwiIdeal.sig) → Buf (Elt Ideal) ℓ) : Prop :=
  True

def Pre_SwiIdeal_finite_swi [hPre_finite_swi : Cert.Pre_finite_swi.Facts] (m : (ℓ : Loc Cert.SwiIdeal.nD Cert.SwiIdeal.τ Cert.SwiIdeal.sig) → Buf (Elt Ideal) ℓ) : Prop :=
  ∀ c : Dev Cert.SwiIdeal.nD,
    (Cert.Pre_finite_swi.fn (F := Ideal) (m ((c.tc : Thread Cert.SwiIdeal.nD Cert.SwiIdeal.τ).loc Cert.SwiIdeal.main_arg0)) (m ((c.tc : Thread Cert.SwiIdeal.nD Cert.SwiIdeal.τ).loc Cert.SwiIdeal.main_arg1)) (m ((c.tc : Thread Cert.SwiIdeal.nD Cert.SwiIdeal.τ).loc Cert.SwiIdeal.main_arg2)) (m ((c.tc : Thread Cert.SwiIdeal.nD Cert.SwiIdeal.τ).loc Cert.SwiIdeal.main_arg3))) = (fun _ => 1#1)

def Pre_SwiRefIdeal (m : (ℓ : Loc Cert.SwiRefIdeal.nD Cert.SwiRefIdeal.τ Cert.SwiRefIdeal.sig) → Buf (Elt Ideal) ℓ) : Prop :=
  True

def Pre_SwiRefIdeal_finite_swi [hPre_finite_swi : Cert.Pre_finite_swi.Facts] (m : (ℓ : Loc Cert.SwiRefIdeal.nD Cert.SwiRefIdeal.τ Cert.SwiRefIdeal.sig) → Buf (Elt Ideal) ℓ) : Prop :=
  ∀ c : Dev Cert.SwiRefIdeal.nD,
    (Cert.Pre_finite_swi.fn (F := Ideal) (m ((c.tc : Thread Cert.SwiRefIdeal.nD Cert.SwiRefIdeal.τ).loc Cert.SwiRefIdeal.main_arg0)) (m ((c.tc : Thread Cert.SwiRefIdeal.nD Cert.SwiRefIdeal.τ).loc Cert.SwiRefIdeal.main_arg1)) (m ((c.tc : Thread Cert.SwiRefIdeal.nD Cert.SwiRefIdeal.τ).loc Cert.SwiRefIdeal.main_arg2)) (m ((c.tc : Thread Cert.SwiRefIdeal.nD Cert.SwiRefIdeal.τ).loc Cert.SwiRefIdeal.main_arg3))) = (fun _ => 1#1)

def Pre_GmlpF (m : (ℓ : Loc Cert.GmlpF.nD Cert.GmlpF.τ Cert.GmlpF.sig) → Buf (Elt Bits) ℓ) : Prop :=
  True

def Pre_GmlpFIdeal (m : (ℓ : Loc Cert.GmlpFIdeal.nD Cert.GmlpFIdeal.τ Cert.GmlpFIdeal.sig) → Buf (Elt Ideal) ℓ) : Prop :=
  True

def Pre_GmlpFRefIdeal (m : (ℓ : Loc Cert.GmlpFRefIdeal.nD Cert.GmlpFRefIdeal.τ Cert.GmlpFRefIdeal.sig) → Buf (Elt Ideal) ℓ) : Prop :=
  True

def Pre_RmsF (m : (ℓ : Loc Cert.RmsF.nD Cert.RmsF.τ Cert.RmsF.sig) → Buf (Elt Bits) ℓ) : Prop :=
  True

def Pre_RmsFIdeal (m : (ℓ : Loc Cert.RmsFIdeal.nD Cert.RmsFIdeal.τ Cert.RmsFIdeal.sig) → Buf (Elt Ideal) ℓ) : Prop :=
  True

def Pre_RmsFRefIdeal (m : (ℓ : Loc Cert.RmsFRefIdeal.nD Cert.RmsFRefIdeal.τ Cert.RmsFRefIdeal.sig) → Buf (Elt Ideal) ℓ) : Prop :=
  True

def Pre_PrepF (m : (ℓ : Loc Cert.PrepF.nD Cert.PrepF.τ Cert.PrepF.sig) → Buf (Elt Bits) ℓ) : Prop :=
  True

def Pre_PrepFIdeal (m : (ℓ : Loc Cert.PrepFIdeal.nD Cert.PrepFIdeal.τ Cert.PrepFIdeal.sig) → Buf (Elt Ideal) ℓ) : Prop :=
  True

def Pre_PrepFRefIdeal (m : (ℓ : Loc Cert.PrepFRefIdeal.nD Cert.PrepFRefIdeal.τ Cert.PrepFRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_S5F (m : (ℓ : Loc Cert.S5F.nD Cert.S5F.τ Cert.S5F.sig) → Buf (Elt Bits) ℓ) : Prop :=
  True

def Pre_S5FIdeal (m : (ℓ : Loc Cert.S5FIdeal.nD Cert.S5FIdeal.τ Cert.S5FIdeal.sig) → Buf (Elt Ideal) ℓ) : Prop :=
  True

def Pre_S5FIdeal_finite_s5f [hPre_finite_s5f : Cert.Pre_finite_s5f.Facts] (m : (ℓ : Loc Cert.S5FIdeal.nD Cert.S5FIdeal.τ Cert.S5FIdeal.sig) → Buf (Elt Ideal) ℓ) : Prop :=
  ∀ c : Dev Cert.S5FIdeal.nD,
    (Cert.Pre_finite_s5f.fn (F := Ideal) (m ((c.tc : Thread Cert.S5FIdeal.nD Cert.S5FIdeal.τ).loc Cert.S5FIdeal.main_arg0)) (m ((c.tc : Thread Cert.S5FIdeal.nD Cert.S5FIdeal.τ).loc Cert.S5FIdeal.main_arg1)) (m ((c.tc : Thread Cert.S5FIdeal.nD Cert.S5FIdeal.τ).loc Cert.S5FIdeal.main_arg2)) (m ((c.tc : Thread Cert.S5FIdeal.nD Cert.S5FIdeal.τ).loc Cert.S5FIdeal.main_arg3)) (m ((c.tc : Thread Cert.S5FIdeal.nD Cert.S5FIdeal.τ).loc Cert.S5FIdeal.main_arg4)) (m ((c.tc : Thread Cert.S5FIdeal.nD Cert.S5FIdeal.τ).loc Cert.S5FIdeal.main_arg5)) (m ((c.tc : Thread Cert.S5FIdeal.nD Cert.S5FIdeal.τ).loc Cert.S5FIdeal.main_arg6)) (m ((c.tc : Thread Cert.S5FIdeal.nD Cert.S5FIdeal.τ).loc Cert.S5FIdeal.main_arg7))) = (fun _ => 1#1)

def Pre_S5FRefIdeal (m : (ℓ : Loc Cert.S5FRefIdeal.nD Cert.S5FRefIdeal.τ Cert.S5FRefIdeal.sig) → Buf (Elt Ideal) ℓ) : Prop :=
  True

def Pre_S5FRefIdeal_finite_s5f [hPre_finite_s5f : Cert.Pre_finite_s5f.Facts] (m : (ℓ : Loc Cert.S5FRefIdeal.nD Cert.S5FRefIdeal.τ Cert.S5FRefIdeal.sig) → Buf (Elt Ideal) ℓ) : Prop :=
  ∀ c : Dev Cert.S5FRefIdeal.nD,
    (Cert.Pre_finite_s5f.fn (F := Ideal) (m ((c.tc : Thread Cert.S5FRefIdeal.nD Cert.S5FRefIdeal.τ).loc Cert.S5FRefIdeal.main_arg0)) (m ((c.tc : Thread Cert.S5FRefIdeal.nD Cert.S5FRefIdeal.τ).loc Cert.S5FRefIdeal.main_arg1)) (m ((c.tc : Thread Cert.S5FRefIdeal.nD Cert.S5FRefIdeal.τ).loc Cert.S5FRefIdeal.main_arg2)) (m ((c.tc : Thread Cert.S5FRefIdeal.nD Cert.S5FRefIdeal.τ).loc Cert.S5FRefIdeal.main_arg3)) (m ((c.tc : Thread Cert.S5FRefIdeal.nD Cert.S5FRefIdeal.τ).loc Cert.S5FRefIdeal.main_arg4)) (m ((c.tc : Thread Cert.S5FRefIdeal.nD Cert.S5FRefIdeal.τ).loc Cert.S5FRefIdeal.main_arg5)) (m ((c.tc : Thread Cert.S5FRefIdeal.nD Cert.S5FRefIdeal.τ).loc Cert.S5FRefIdeal.main_arg6)) (m ((c.tc : Thread Cert.S5FRefIdeal.nD Cert.S5FRefIdeal.τ).loc Cert.S5FRefIdeal.main_arg7))) = (fun _ => 1#1)

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Dx (m : (ℓ : Loc Cert.Dx.nD Cert.Dx.τ Cert.Dx.sig) → Buf (Elt Bits) ℓ) : Prop :=
  True

def Pre_DxIdeal (m : (ℓ : Loc Cert.DxIdeal.nD Cert.DxIdeal.τ Cert.DxIdeal.sig) → Buf (Elt Ideal) ℓ) : Prop :=
  True

def Pre_DxRefIdeal (m : (ℓ : Loc Cert.DxRefIdeal.nD Cert.DxRefIdeal.τ Cert.DxRefIdeal.sig) → Buf (Elt Ideal) ℓ) : Prop :=
  True

def Pre_Dw (m : (ℓ : Loc Cert.Dw.nD Cert.Dw.τ Cert.Dw.sig) → Buf (Elt Bits) ℓ) : Prop :=
  True

def Pre_DwIdeal (m : (ℓ : Loc Cert.DwIdeal.nD Cert.DwIdeal.τ Cert.DwIdeal.sig) → Buf (Elt Ideal) ℓ) : Prop :=
  True

def Pre_DwRefIdeal (m : (ℓ : Loc Cert.DwRefIdeal.nD Cert.DwRefIdeal.τ Cert.DwRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_Cast (m : (ℓ : Loc Cert.Cast.nD Cert.Cast.τ Cert.Cast.sig) → Buf (Elt Bits) ℓ) : Prop :=
  True

def Pre_CastIdeal (m : (ℓ : Loc Cert.CastIdeal.nD Cert.CastIdeal.τ Cert.CastIdeal.sig) → Buf (Elt Ideal) ℓ) : Prop :=
  True

def Pre_CastRefIdeal (m : (ℓ : Loc Cert.CastRefIdeal.nD Cert.CastRefIdeal.τ Cert.CastRefIdeal.sig) → Buf (Elt Ideal) ℓ) : Prop :=
  True

def Pre_ChipSum (m : (ℓ : Loc Cert.ChipSum.nD Cert.ChipSum.τ Cert.ChipSum.sig) → Buf (Elt Bits) ℓ) : Prop :=
  True

def Pre_ChipSumIdeal (m : (ℓ : Loc Cert.ChipSumIdeal.nD Cert.ChipSumIdeal.τ Cert.ChipSumIdeal.sig) → Buf (Elt Ideal) ℓ) : Prop :=
  True

def Pre_ChipSumRefIdeal (m : (ℓ : Loc Cert.ChipSumRefIdeal.nD Cert.ChipSumRefIdeal.τ Cert.ChipSumRefIdeal.sig) → Buf (Elt Ideal) ℓ) : Prop :=
  True

def Pre_PartSum (m : (ℓ : Loc Cert.PartSum.nD Cert.PartSum.τ Cert.PartSum.sig) → Buf (Elt Bits) ℓ) : Prop :=
  True

def Pre_PartSumIdeal (m : (ℓ : Loc Cert.PartSumIdeal.nD Cert.PartSumIdeal.τ Cert.PartSumIdeal.sig) → Buf (Elt Ideal) ℓ) : Prop :=
  True

def Pre_PartSumRefIdeal (m : (ℓ : Loc Cert.PartSumRefIdeal.nD Cert.PartSumRefIdeal.τ Cert.PartSumRefIdeal.sig) → Buf (Elt Ideal) ℓ) : Prop :=
  True

def Pre_SliceSum (m : (ℓ : Loc Cert.SliceSum.nD Cert.SliceSum.τ Cert.SliceSum.sig) → Buf (Elt Bits) ℓ) : Prop :=
  True

def Pre_SliceSumIdeal (m : (ℓ : Loc Cert.SliceSumIdeal.nD Cert.SliceSumIdeal.τ Cert.SliceSumIdeal.sig) → Buf (Elt Ideal) ℓ) : Prop :=
  True

def Pre_SliceSumRefIdeal (m : (ℓ : Loc Cert.SliceSumRefIdeal.nD Cert.SliceSumRefIdeal.τ Cert.SliceSumRefIdeal.sig) → Buf (Elt Ideal) ℓ) : Prop :=
  True

def Pre_AdamBig (m : (ℓ : Loc Cert.AdamBig.nD Cert.AdamBig.τ Cert.AdamBig.sig) → Buf (Elt Bits) ℓ) : Prop :=
  True

def Pre_AdamBigIdeal (m : (ℓ : Loc Cert.AdamBigIdeal.nD Cert.AdamBigIdeal.τ Cert.AdamBigIdeal.sig) → Buf (Elt Ideal) ℓ) : Prop :=
  True

def Pre_AdamBigRefIdeal (m : (ℓ : Loc Cert.AdamBigRefIdeal.nD Cert.AdamBigRefIdeal.τ Cert.AdamBigRefIdeal.sig) → Buf (Elt Ideal) ℓ) : Prop :=
  True

def Pre_Pack (m : (ℓ : Loc Cert.Pack.nD Cert.Pack.τ Cert.Pack.sig) → Buf (Elt Bits) ℓ) : Prop :=
  True

def Pre_PackIdeal (m : (ℓ : Loc Cert.PackIdeal.nD Cert.PackIdeal.τ Cert.PackIdeal.sig) → Buf (Elt Ideal) ℓ) : Prop :=
  True

def Pre_PackRefIdeal (m : (ℓ : Loc Cert.PackRefIdeal.nD Cert.PackRefIdeal.τ Cert.PackRefIdeal.sig) → Buf (Elt Ideal) ℓ) : Prop :=
  True

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1))
      ∧ r.2.sem = fun _ => 0)

def quiescent_Gmlp [hGmlp : Cert.Gmlp.Facts] : Prop :=
  ∀ (m : (ℓ : Loc Cert.Gmlp.nD Cert.Gmlp.τ Cert.Gmlp.sig) → Buf (Elt Bits) ℓ) (g : Dev Cert.Gmlp.nD → PrngReg), Pre_Gmlp m →
    θ_run (Cert.Gmlp.defs (F := Bits)) (onTc (τ := Cert.Gmlp.τ) (Cert.Gmlp.main (F := Bits))) ⟨m, fun _ => 0, g⟩ (fun r => (∀ c : Dev Cert.Gmlp.nD,
      r.2.mem ((c.tc : Thread Cert.Gmlp.nD Cert.Gmlp.τ).loc Cert.Gmlp.main_arg0) = m ((c.tc : Thread Cert.Gmlp.nD Cert.Gmlp.τ).loc Cert.Gmlp.main_arg0)
      ∧ r.2.mem ((c.tc : Thread Cert.Gmlp.nD Cert.Gmlp.τ).loc Cert.Gmlp.main_arg1) = m ((c.tc : Thread Cert.Gmlp.nD Cert.Gmlp.τ).loc Cert.Gmlp.main_arg1)
      ∧ r.2.mem ((c.tc : Thread Cert.Gmlp.nD Cert.Gmlp.τ).loc Cert.Gmlp.main_arg2) = m ((c.tc : Thread Cert.Gmlp.nD Cert.Gmlp.τ).loc Cert.Gmlp.main_arg2)
      ∧ r.2.mem ((c.tc : Thread Cert.Gmlp.nD Cert.Gmlp.τ).loc Cert.Gmlp.main_arg3) = m ((c.tc : Thread Cert.Gmlp.nD Cert.Gmlp.τ).loc Cert.Gmlp.main_arg3)
      ∧ r.2.mem ((c.tc : Thread Cert.Gmlp.nD Cert.Gmlp.τ).loc Cert.Gmlp.main_arg4) = m ((c.tc : Thread Cert.Gmlp.nD Cert.Gmlp.τ).loc Cert.Gmlp.main_arg4)
      ∧ r.2.mem ((c.tc : Thread Cert.Gmlp.nD Cert.Gmlp.τ).loc Cert.Gmlp.main_arg5) = m ((c.tc : Thread Cert.Gmlp.nD Cert.Gmlp.τ).loc Cert.Gmlp.main_arg5))
      ∧ r.2.sem = fun _ => 0)

def quiescent_GmlpIdeal [hGmlpIdeal : Cert.GmlpIdeal.Facts] : Prop :=
  ∀ (m : (ℓ : Loc Cert.GmlpIdeal.nD Cert.GmlpIdeal.τ Cert.GmlpIdeal.sig) → Buf (Elt Ideal) ℓ) (g : Dev Cert.GmlpIdeal.nD → PrngReg), Pre_GmlpIdeal m →
    θ_run (Cert.GmlpIdeal.defs (F := Ideal)) (onTc (τ := Cert.GmlpIdeal.τ) (Cert.GmlpIdeal.main (F := Ideal))) ⟨m, fun _ => 0, g⟩ (fun r => (∀ c : Dev Cert.GmlpIdeal.nD,
      r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
      ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
      ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
      ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3)
      ∧ r.2.mem ((c.tc : Thread Cert.GmlpIdeal.nD Cert.GmlpIdeal.τ).loc Cert.GmlpIdeal.main_arg4) = m ((c.tc : Thread Cert.GmlpIdeal.nD Cert.GmlpIdeal.τ).loc Cert.GmlpIdeal.main_arg4)
      ∧ r.2.mem ((c.tc : Thread Cert.GmlpIdeal.nD Cert.GmlpIdeal.τ).loc Cert.GmlpIdeal.main_arg5) = m ((c.tc : Thread Cert.GmlpIdeal.nD Cert.GmlpIdeal.τ).loc Cert.GmlpIdeal.main_arg5))
      ∧ r.2.sem = fun _ => 0)

def quiescent_GmlpIdeal_pre_finite_gmlp [hGmlpIdeal : Cert.GmlpIdeal.Facts] [hPre_finite_gmlp : Cert.Pre_finite_gmlp.Facts] : Prop :=
  ∀ (m : (ℓ : Loc Cert.GmlpIdeal.nD Cert.GmlpIdeal.τ Cert.GmlpIdeal.sig) → Buf (Elt Ideal) ℓ) (g : Dev Cert.GmlpIdeal.nD → PrngReg), Pre_GmlpIdeal_finite_gmlp m →
    θ_run (Cert.GmlpIdeal.defs (F := Ideal)) (onTc (τ := Cert.GmlpIdeal.τ) (Cert.GmlpIdeal.main (F := Ideal))) ⟨m, fun _ => 0, g⟩ (fun r => (∀ c : Dev Cert.GmlpIdeal.nD,
      r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
      ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
      ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
      ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3)
      ∧ r.2.mem ((c.tc : Thread Cert.GmlpIdeal.nD Cert.GmlpIdeal.τ).loc Cert.GmlpIdeal.main_arg4) = m ((c.tc : Thread Cert.GmlpIdeal.nD Cert.GmlpIdeal.τ).loc Cert.GmlpIdeal.main_arg4)
      ∧ r.2.mem ((c.tc : Thread Cert.GmlpIdeal.nD Cert.GmlpIdeal.τ).loc Cert.GmlpIdeal.main_arg5) = m ((c.tc : Thread Cert.GmlpIdeal.nD Cert.GmlpIdeal.τ).loc Cert.GmlpIdeal.main_arg5))
      ∧ r.2.sem = fun _ => 0)

def quiescent_GmlpRefIdeal [hGmlpRefIdeal : Cert.GmlpRefIdeal.Facts] : Prop :=
  ∀ (m : (ℓ : Loc Cert.GmlpRefIdeal.nD Cert.GmlpRefIdeal.τ Cert.GmlpRefIdeal.sig) → Buf (Elt Ideal) ℓ) (g : Dev Cert.GmlpRefIdeal.nD → PrngReg), Pre_GmlpRefIdeal m →
    θ_run (Cert.GmlpRefIdeal.defs (F := Ideal)) (onTc (τ := Cert.GmlpRefIdeal.τ) (Cert.GmlpRefIdeal.main (F := Ideal))) ⟨m, fun _ => 0, g⟩ (fun r => (∀ c : Dev Cert.GmlpRefIdeal.nD,
      r.2.mem ((c.tc : Thread Cert.GmlpRefIdeal.nD Cert.GmlpRefIdeal.τ).loc Cert.GmlpRefIdeal.main_arg0) = m ((c.tc : Thread Cert.GmlpRefIdeal.nD Cert.GmlpRefIdeal.τ).loc Cert.GmlpRefIdeal.main_arg0)
      ∧ r.2.mem ((c.tc : Thread Cert.GmlpRefIdeal.nD Cert.GmlpRefIdeal.τ).loc Cert.GmlpRefIdeal.main_arg1) = m ((c.tc : Thread Cert.GmlpRefIdeal.nD Cert.GmlpRefIdeal.τ).loc Cert.GmlpRefIdeal.main_arg1)
      ∧ r.2.mem ((c.tc : Thread Cert.GmlpRefIdeal.nD Cert.GmlpRefIdeal.τ).loc Cert.GmlpRefIdeal.main_arg2) = m ((c.tc : Thread Cert.GmlpRefIdeal.nD Cert.GmlpRefIdeal.τ).loc Cert.GmlpRefIdeal.main_arg2)
      ∧ r.2.mem ((c.tc : Thread Cert.GmlpRefIdeal.nD Cert.GmlpRefIdeal.τ).loc Cert.GmlpRefIdeal.main_arg3) = m ((c.tc : Thread Cert.GmlpRefIdeal.nD Cert.GmlpRefIdeal.τ).loc Cert.GmlpRefIdeal.main_arg3)
      ∧ r.2.mem ((c.tc : Thread Cert.GmlpRefIdeal.nD Cert.GmlpRefIdeal.τ).loc Cert.GmlpRefIdeal.main_arg4) = m ((c.tc : Thread Cert.GmlpRefIdeal.nD Cert.GmlpRefIdeal.τ).loc Cert.GmlpRefIdeal.main_arg4)
      ∧ r.2.mem ((c.tc : Thread Cert.GmlpRefIdeal.nD Cert.GmlpRefIdeal.τ).loc Cert.GmlpRefIdeal.main_arg5) = m ((c.tc : Thread Cert.GmlpRefIdeal.nD Cert.GmlpRefIdeal.τ).loc Cert.GmlpRefIdeal.main_arg5))
      ∧ r.2.sem = fun _ => 0)

def quiescent_GmlpRefIdeal_pre_finite_gmlp [hGmlpRefIdeal : Cert.GmlpRefIdeal.Facts] [hPre_finite_gmlp : Cert.Pre_finite_gmlp.Facts] : Prop :=
  ∀ (m : (ℓ : Loc Cert.GmlpRefIdeal.nD Cert.GmlpRefIdeal.τ Cert.GmlpRefIdeal.sig) → Buf (Elt Ideal) ℓ) (g : Dev Cert.GmlpRefIdeal.nD → PrngReg), Pre_GmlpRefIdeal_finite_gmlp m →
    θ_run (Cert.GmlpRefIdeal.defs (F := Ideal)) (onTc (τ := Cert.GmlpRefIdeal.τ) (Cert.GmlpRefIdeal.main (F := Ideal))) ⟨m, fun _ => 0, g⟩ (fun r => (∀ c : Dev Cert.GmlpRefIdeal.nD,
      r.2.mem ((c.tc : Thread Cert.GmlpRefIdeal.nD Cert.GmlpRefIdeal.τ).loc Cert.GmlpRefIdeal.main_arg0) = m ((c.tc : Thread Cert.GmlpRefIdeal.nD Cert.GmlpRefIdeal.τ).loc Cert.GmlpRefIdeal.main_arg0)
      ∧ r.2.mem ((c.tc : Thread Cert.GmlpRefIdeal.nD Cert.GmlpRefIdeal.τ).loc Cert.GmlpRefIdeal.main_arg1) = m ((c.tc : Thread Cert.GmlpRefIdeal.nD Cert.GmlpRefIdeal.τ).loc Cert.GmlpRefIdeal.main_arg1)
      ∧ r.2.mem ((c.tc : Thread Cert.GmlpRefIdeal.nD Cert.GmlpRefIdeal.τ).loc Cert.GmlpRefIdeal.main_arg2) = m ((c.tc : Thread Cert.GmlpRefIdeal.nD Cert.GmlpRefIdeal.τ).loc Cert.GmlpRefIdeal.main_arg2)
      ∧ r.2.mem ((c.tc : Thread Cert.GmlpRefIdeal.nD Cert.GmlpRefIdeal.τ).loc Cert.GmlpRefIdeal.main_arg3) = m ((c.tc : Thread Cert.GmlpRefIdeal.nD Cert.GmlpRefIdeal.τ).loc Cert.GmlpRefIdeal.main_arg3)
      ∧ r.2.mem ((c.tc : Thread Cert.GmlpRefIdeal.nD Cert.GmlpRefIdeal.τ).loc Cert.GmlpRefIdeal.main_arg4) = m ((c.tc : Thread Cert.GmlpRefIdeal.nD Cert.GmlpRefIdeal.τ).loc Cert.GmlpRefIdeal.main_arg4)
      ∧ r.2.mem ((c.tc : Thread Cert.GmlpRefIdeal.nD Cert.GmlpRefIdeal.τ).loc Cert.GmlpRefIdeal.main_arg5) = m ((c.tc : Thread Cert.GmlpRefIdeal.nD Cert.GmlpRefIdeal.τ).loc Cert.GmlpRefIdeal.main_arg5))
      ∧ r.2.sem = fun _ => 0)

def quiescent_RmsBwd [hRmsBwd : Cert.RmsBwd.Facts] : Prop :=
  ∀ (m : (ℓ : Loc Cert.RmsBwd.nD Cert.RmsBwd.τ Cert.RmsBwd.sig) → Buf (Elt Bits) ℓ) (g : Dev Cert.RmsBwd.nD → PrngReg), Pre_RmsBwd m →
    θ_run (Cert.RmsBwd.defs (F := Bits)) (onTc (τ := Cert.RmsBwd.τ) (Cert.RmsBwd.main (F := Bits))) ⟨m, fun _ => 0, g⟩ (fun r => (∀ c : Dev Cert.RmsBwd.nD,
      r.2.mem ((c.tc : Thread Cert.RmsBwd.nD Cert.RmsBwd.τ).loc Cert.RmsBwd.main_arg0) = m ((c.tc : Thread Cert.RmsBwd.nD Cert.RmsBwd.τ).loc Cert.RmsBwd.main_arg0)
      ∧ r.2.mem ((c.tc : Thread Cert.RmsBwd.nD Cert.RmsBwd.τ).loc Cert.RmsBwd.main_arg1) = m ((c.tc : Thread Cert.RmsBwd.nD Cert.RmsBwd.τ).loc Cert.RmsBwd.main_arg1)
      ∧ r.2.mem ((c.tc : Thread Cert.RmsBwd.nD Cert.RmsBwd.τ).loc Cert.RmsBwd.main_arg2) = m ((c.tc : Thread Cert.RmsBwd.nD Cert.RmsBwd.τ).loc Cert.RmsBwd.main_arg2)
      ∧ r.2.mem ((c.tc : Thread Cert.RmsBwd.nD Cert.RmsBwd.τ).loc Cert.RmsBwd.main_arg3) = m ((c.tc : Thread Cert.RmsBwd.nD Cert.RmsBwd.τ).loc Cert.RmsBwd.main_arg3))
      ∧ r.2.sem = fun _ => 0)

def quiescent_RmsBwdIdeal [hRmsBwdIdeal : Cert.RmsBwdIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg), Pre_RmsBwdIdeal m →
    θ_run (Cert.RmsBwdIdeal.defs (F := Ideal)) (onTc (τ := Cert.RmsBwdIdeal.τ) (Cert.RmsBwdIdeal.main (F := Ideal))) ⟨m, fun _ => 0, g⟩ (fun r => (∀ c : Dev Cert.RmsBwdIdeal.nD,
      r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
      ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
      ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
      ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ r.2.sem = fun _ => 0)

def quiescent_RmsBwdIdeal_pre_finite_rms [hRmsBwdIdeal : Cert.RmsBwdIdeal.Facts] [hPre_finite_rms : Cert.Pre_finite_rms.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg), Pre_RmsBwdIdeal_finite_rms m →
    θ_run (Cert.RmsBwdIdeal.defs (F := Ideal)) (onTc (τ := Cert.RmsBwdIdeal.τ) (Cert.RmsBwdIdeal.main (F := Ideal))) ⟨m, fun _ => 0, g⟩ (fun r => (∀ c : Dev Cert.RmsBwdIdeal.nD,
      r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
      ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
      ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
      ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ r.2.sem = fun _ => 0)

def quiescent_RmsRefIdeal [hRmsRefIdeal : Cert.RmsRefIdeal.Facts] : Prop :=
  ∀ (m : (ℓ : Loc Cert.RmsRefIdeal.nD Cert.RmsRefIdeal.τ Cert.RmsRefIdeal.sig) → Buf (Elt Ideal) ℓ) (g : Dev Cert.RmsRefIdeal.nD → PrngReg), Pre_RmsRefIdeal m →
    θ_run (Cert.RmsRefIdeal.defs (F := Ideal)) (onTc (τ := Cert.RmsRefIdeal.τ) (Cert.RmsRefIdeal.main (F := Ideal))) ⟨m, fun _ => 0, g⟩ (fun r => (∀ c : Dev Cert.RmsRefIdeal.nD,
      r.2.mem ((c.tc : Thread Cert.RmsRefIdeal.nD Cert.RmsRefIdeal.τ).loc Cert.RmsRefIdeal.main_arg0) = m ((c.tc : Thread Cert.RmsRefIdeal.nD Cert.RmsRefIdeal.τ).loc Cert.RmsRefIdeal.main_arg0)
      ∧ r.2.mem ((c.tc : Thread Cert.RmsRefIdeal.nD Cert.RmsRefIdeal.τ).loc Cert.RmsRefIdeal.main_arg1) = m ((c.tc : Thread Cert.RmsRefIdeal.nD Cert.RmsRefIdeal.τ).loc Cert.RmsRefIdeal.main_arg1)
      ∧ r.2.mem ((c.tc : Thread Cert.RmsRefIdeal.nD Cert.RmsRefIdeal.τ).loc Cert.RmsRefIdeal.main_arg2) = m ((c.tc : Thread Cert.RmsRefIdeal.nD Cert.RmsRefIdeal.τ).loc Cert.RmsRefIdeal.main_arg2)
      ∧ r.2.mem ((c.tc : Thread Cert.RmsRefIdeal.nD Cert.RmsRefIdeal.τ).loc Cert.RmsRefIdeal.main_arg3) = m ((c.tc : Thread Cert.RmsRefIdeal.nD Cert.RmsRefIdeal.τ).loc Cert.RmsRefIdeal.main_arg3))
      ∧ r.2.sem = fun _ => 0)

def quiescent_RmsRefIdeal_pre_finite_rms [hRmsRefIdeal : Cert.RmsRefIdeal.Facts] [hPre_finite_rms : Cert.Pre_finite_rms.Facts] : Prop :=
  ∀ (m : (ℓ : Loc Cert.RmsRefIdeal.nD Cert.RmsRefIdeal.τ Cert.RmsRefIdeal.sig) → Buf (Elt Ideal) ℓ) (g : Dev Cert.RmsRefIdeal.nD → PrngReg), Pre_RmsRefIdeal_finite_rms m →
    θ_run (Cert.RmsRefIdeal.defs (F := Ideal)) (onTc (τ := Cert.RmsRefIdeal.τ) (Cert.RmsRefIdeal.main (F := Ideal))) ⟨m, fun _ => 0, g⟩ (fun r => (∀ c : Dev Cert.RmsRefIdeal.nD,
      r.2.mem ((c.tc : Thread Cert.RmsRefIdeal.nD Cert.RmsRefIdeal.τ).loc Cert.RmsRefIdeal.main_arg0) = m ((c.tc : Thread Cert.RmsRefIdeal.nD Cert.RmsRefIdeal.τ).loc Cert.RmsRefIdeal.main_arg0)
      ∧ r.2.mem ((c.tc : Thread Cert.RmsRefIdeal.nD Cert.RmsRefIdeal.τ).loc Cert.RmsRefIdeal.main_arg1) = m ((c.tc : Thread Cert.RmsRefIdeal.nD Cert.RmsRefIdeal.τ).loc Cert.RmsRefIdeal.main_arg1)
      ∧ r.2.mem ((c.tc : Thread Cert.RmsRefIdeal.nD Cert.RmsRefIdeal.τ).loc Cert.RmsRefIdeal.main_arg2) = m ((c.tc : Thread Cert.RmsRefIdeal.nD Cert.RmsRefIdeal.τ).loc Cert.RmsRefIdeal.main_arg2)
      ∧ r.2.mem ((c.tc : Thread Cert.RmsRefIdeal.nD Cert.RmsRefIdeal.τ).loc Cert.RmsRefIdeal.main_arg3) = m ((c.tc : Thread Cert.RmsRefIdeal.nD Cert.RmsRefIdeal.τ).loc Cert.RmsRefIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossIdeal_pre_finite_loss [hLossIdeal : Cert.LossIdeal.Facts] [hPre_finite_loss : Cert.Pre_finite_loss.Facts] : Prop :=
  ∀ (m : (ℓ : Loc Cert.LossIdeal.nD Cert.LossIdeal.τ Cert.LossIdeal.sig) → Buf (Elt Ideal) ℓ) (g : Dev Cert.LossIdeal.nD → PrngReg), Pre_LossIdeal_finite_loss m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_LossRefIdeal_pre_finite_loss [hLossRefIdeal : Cert.LossRefIdeal.Facts] [hPre_finite_loss : Cert.Pre_finite_loss.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_finite_loss m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4)
      ∧ r.2.mem ((c.tc : Thread Cert.Prep.nD Cert.Prep.τ).loc Cert.Prep.main_arg5) = m ((c.tc : Thread Cert.Prep.nD Cert.Prep.τ).loc Cert.Prep.main_arg5)
      ∧ r.2.mem ((c.tc : Thread Cert.Prep.nD Cert.Prep.τ).loc Cert.Prep.main_arg6) = m ((c.tc : Thread Cert.Prep.nD Cert.Prep.τ).loc Cert.Prep.main_arg6)
      ∧ r.2.mem ((c.tc : Thread Cert.Prep.nD Cert.Prep.τ).loc Cert.Prep.main_arg7) = m ((c.tc : Thread Cert.Prep.nD Cert.Prep.τ).loc Cert.Prep.main_arg7)
      ∧ r.2.mem ((c.tc : Thread Cert.Prep.nD Cert.Prep.τ).loc Cert.Prep.main_arg8) = m ((c.tc : Thread Cert.Prep.nD Cert.Prep.τ).loc Cert.Prep.main_arg8))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
      ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
      ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8))
      ∧ r.2.sem = fun _ => 0)

def quiescent_PrepIdeal_pre_tame_prep [hPrepIdeal : Cert.PrepIdeal.Facts] [hPre_tame_prep : Cert.Pre_tame_prep.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal_tame_prep m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
      ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
      ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5)
      ∧ r.2.mem ((c.tc : Thread Cert.PrepRefIdeal.nD Cert.PrepRefIdeal.τ).loc Cert.PrepRefIdeal.main_arg6) = m ((c.tc : Thread Cert.PrepRefIdeal.nD Cert.PrepRefIdeal.τ).loc Cert.PrepRefIdeal.main_arg6)
      ∧ r.2.mem ((c.tc : Thread Cert.PrepRefIdeal.nD Cert.PrepRefIdeal.τ).loc Cert.PrepRefIdeal.main_arg7) = m ((c.tc : Thread Cert.PrepRefIdeal.nD Cert.PrepRefIdeal.τ).loc Cert.PrepRefIdeal.main_arg7)
      ∧ r.2.mem ((c.tc : Thread Cert.PrepRefIdeal.nD Cert.PrepRefIdeal.τ).loc Cert.PrepRefIdeal.main_arg8) = m ((c.tc : Thread Cert.PrepRefIdeal.nD Cert.PrepRefIdeal.τ).loc Cert.PrepRefIdeal.main_arg8))
      ∧ r.2.sem = fun _ => 0)

def quiescent_PrepRefIdeal_pre_tame_prep [hPrepRefIdeal : Cert.PrepRefIdeal.Facts] [hPre_tame_prep : Cert.Pre_tame_prep.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal_tame_prep m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5)
      ∧ r.2.mem ((c.tc : Thread Cert.PrepRefIdeal.nD Cert.PrepRefIdeal.τ).loc Cert.PrepRefIdeal.main_arg6) = m ((c.tc : Thread Cert.PrepRefIdeal.nD Cert.PrepRefIdeal.τ).loc Cert.PrepRefIdeal.main_arg6)
      ∧ r.2.mem ((c.tc : Thread Cert.PrepRefIdeal.nD Cert.PrepRefIdeal.τ).loc Cert.PrepRefIdeal.main_arg7) = m ((c.tc : Thread Cert.PrepRefIdeal.nD Cert.PrepRefIdeal.τ).loc Cert.PrepRefIdeal.main_arg7)
      ∧ r.2.mem ((c.tc : Thread Cert.PrepRefIdeal.nD Cert.PrepRefIdeal.τ).loc Cert.PrepRefIdeal.main_arg8) = m ((c.tc : Thread Cert.PrepRefIdeal.nD Cert.PrepRefIdeal.τ).loc Cert.PrepRefIdeal.main_arg8))
      ∧ r.2.sem = fun _ => 0)

def quiescent_Swi [hSwi : Cert.Swi.Facts] : Prop :=
  ∀ (m : (ℓ : Loc Cert.Swi.nD Cert.Swi.τ Cert.Swi.sig) → Buf (Elt Bits) ℓ) (g : Dev Cert.Swi.nD → PrngReg), Pre_Swi m →
    θ_run (Cert.Swi.defs (F := Bits)) (onTc (τ := Cert.Swi.τ) (Cert.Swi.main (F := Bits))) ⟨m, fun _ => 0, g⟩ (fun r => (∀ c : Dev Cert.Swi.nD,
      r.2.mem ((c.tc : Thread Cert.Swi.nD Cert.Swi.τ).loc Cert.Swi.main_arg0) = m ((c.tc : Thread Cert.Swi.nD Cert.Swi.τ).loc Cert.Swi.main_arg0)
      ∧ r.2.mem ((c.tc : Thread Cert.Swi.nD Cert.Swi.τ).loc Cert.Swi.main_arg1) = m ((c.tc : Thread Cert.Swi.nD Cert.Swi.τ).loc Cert.Swi.main_arg1)
      ∧ r.2.mem ((c.tc : Thread Cert.Swi.nD Cert.Swi.τ).loc Cert.Swi.main_arg2) = m ((c.tc : Thread Cert.Swi.nD Cert.Swi.τ).loc Cert.Swi.main_arg2)
      ∧ r.2.mem ((c.tc : Thread Cert.Swi.nD Cert.Swi.τ).loc Cert.Swi.main_arg3) = m ((c.tc : Thread Cert.Swi.nD Cert.Swi.τ).loc Cert.Swi.main_arg3))
      ∧ r.2.sem = fun _ => 0)

def quiescent_SwiIdeal [hSwiIdeal : Cert.SwiIdeal.Facts] : Prop :=
  ∀ (m : (ℓ : Loc Cert.SwiIdeal.nD Cert.SwiIdeal.τ Cert.SwiIdeal.sig) → Buf (Elt Ideal) ℓ) (g : Dev Cert.SwiIdeal.nD → PrngReg), Pre_SwiIdeal m →
    θ_run (Cert.SwiIdeal.defs (F := Ideal)) (onTc (τ := Cert.SwiIdeal.τ) (Cert.SwiIdeal.main (F := Ideal))) ⟨m, fun _ => 0, g⟩ (fun r => (∀ c : Dev Cert.SwiIdeal.nD,
      r.2.mem ((c.tc : Thread Cert.SwiIdeal.nD Cert.SwiIdeal.τ).loc Cert.SwiIdeal.main_arg0) = m ((c.tc : Thread Cert.SwiIdeal.nD Cert.SwiIdeal.τ).loc Cert.SwiIdeal.main_arg0)
      ∧ r.2.mem ((c.tc : Thread Cert.SwiIdeal.nD Cert.SwiIdeal.τ).loc Cert.SwiIdeal.main_arg1) = m ((c.tc : Thread Cert.SwiIdeal.nD Cert.SwiIdeal.τ).loc Cert.SwiIdeal.main_arg1)
      ∧ r.2.mem ((c.tc : Thread Cert.SwiIdeal.nD Cert.SwiIdeal.τ).loc Cert.SwiIdeal.main_arg2) = m ((c.tc : Thread Cert.SwiIdeal.nD Cert.SwiIdeal.τ).loc Cert.SwiIdeal.main_arg2)
      ∧ r.2.mem ((c.tc : Thread Cert.SwiIdeal.nD Cert.SwiIdeal.τ).loc Cert.SwiIdeal.main_arg3) = m ((c.tc : Thread Cert.SwiIdeal.nD Cert.SwiIdeal.τ).loc Cert.SwiIdeal.main_arg3))
      ∧ r.2.sem = fun _ => 0)

def quiescent_SwiIdeal_pre_finite_swi [hSwiIdeal : Cert.SwiIdeal.Facts] [hPre_finite_swi : Cert.Pre_finite_swi.Facts] : Prop :=
  ∀ (m : (ℓ : Loc Cert.SwiIdeal.nD Cert.SwiIdeal.τ Cert.SwiIdeal.sig) → Buf (Elt Ideal) ℓ) (g : Dev Cert.SwiIdeal.nD → PrngReg), Pre_SwiIdeal_finite_swi m →
    θ_run (Cert.SwiIdeal.defs (F := Ideal)) (onTc (τ := Cert.SwiIdeal.τ) (Cert.SwiIdeal.main (F := Ideal))) ⟨m, fun _ => 0, g⟩ (fun r => (∀ c : Dev Cert.SwiIdeal.nD,
      r.2.mem ((c.tc : Thread Cert.SwiIdeal.nD Cert.SwiIdeal.τ).loc Cert.SwiIdeal.main_arg0) = m ((c.tc : Thread Cert.SwiIdeal.nD Cert.SwiIdeal.τ).loc Cert.SwiIdeal.main_arg0)
      ∧ r.2.mem ((c.tc : Thread Cert.SwiIdeal.nD Cert.SwiIdeal.τ).loc Cert.SwiIdeal.main_arg1) = m ((c.tc : Thread Cert.SwiIdeal.nD Cert.SwiIdeal.τ).loc Cert.SwiIdeal.main_arg1)
      ∧ r.2.mem ((c.tc : Thread Cert.SwiIdeal.nD Cert.SwiIdeal.τ).loc Cert.SwiIdeal.main_arg2) = m ((c.tc : Thread Cert.SwiIdeal.nD Cert.SwiIdeal.τ).loc Cert.SwiIdeal.main_arg2)
      ∧ r.2.mem ((c.tc : Thread Cert.SwiIdeal.nD Cert.SwiIdeal.τ).loc Cert.SwiIdeal.main_arg3) = m ((c.tc : Thread Cert.SwiIdeal.nD Cert.SwiIdeal.τ).loc Cert.SwiIdeal.main_arg3))
      ∧ r.2.sem = fun _ => 0)

def quiescent_SwiRefIdeal [hSwiRefIdeal : Cert.SwiRefIdeal.Facts] : Prop :=
  ∀ (m : (ℓ : Loc Cert.SwiRefIdeal.nD Cert.SwiRefIdeal.τ Cert.SwiRefIdeal.sig) → Buf (Elt Ideal) ℓ) (g : Dev Cert.SwiRefIdeal.nD → PrngReg), Pre_SwiRefIdeal m →
    θ_run (Cert.SwiRefIdeal.defs (F := Ideal)) (onTc (τ := Cert.SwiRefIdeal.τ) (Cert.SwiRefIdeal.main (F := Ideal))) ⟨m, fun _ => 0, g⟩ (fun r => (∀ c : Dev Cert.SwiRefIdeal.nD,
      r.2.mem ((c.tc : Thread Cert.SwiRefIdeal.nD Cert.SwiRefIdeal.τ).loc Cert.SwiRefIdeal.main_arg0) = m ((c.tc : Thread Cert.SwiRefIdeal.nD Cert.SwiRefIdeal.τ).loc Cert.SwiRefIdeal.main_arg0)
      ∧ r.2.mem ((c.tc : Thread Cert.SwiRefIdeal.nD Cert.SwiRefIdeal.τ).loc Cert.SwiRefIdeal.main_arg1) = m ((c.tc : Thread Cert.SwiRefIdeal.nD Cert.SwiRefIdeal.τ).loc Cert.SwiRefIdeal.main_arg1)
      ∧ r.2.mem ((c.tc : Thread Cert.SwiRefIdeal.nD Cert.SwiRefIdeal.τ).loc Cert.SwiRefIdeal.main_arg2) = m ((c.tc : Thread Cert.SwiRefIdeal.nD Cert.SwiRefIdeal.τ).loc Cert.SwiRefIdeal.main_arg2)
      ∧ r.2.mem ((c.tc : Thread Cert.SwiRefIdeal.nD Cert.SwiRefIdeal.τ).loc Cert.SwiRefIdeal.main_arg3) = m ((c.tc : Thread Cert.SwiRefIdeal.nD Cert.SwiRefIdeal.τ).loc Cert.SwiRefIdeal.main_arg3))
      ∧ r.2.sem = fun _ => 0)

def quiescent_SwiRefIdeal_pre_finite_swi [hSwiRefIdeal : Cert.SwiRefIdeal.Facts] [hPre_finite_swi : Cert.Pre_finite_swi.Facts] : Prop :=
  ∀ (m : (ℓ : Loc Cert.SwiRefIdeal.nD Cert.SwiRefIdeal.τ Cert.SwiRefIdeal.sig) → Buf (Elt Ideal) ℓ) (g : Dev Cert.SwiRefIdeal.nD → PrngReg), Pre_SwiRefIdeal_finite_swi m →
    θ_run (Cert.SwiRefIdeal.defs (F := Ideal)) (onTc (τ := Cert.SwiRefIdeal.τ) (Cert.SwiRefIdeal.main (F := Ideal))) ⟨m, fun _ => 0, g⟩ (fun r => (∀ c : Dev Cert.SwiRefIdeal.nD,
      r.2.mem ((c.tc : Thread Cert.SwiRefIdeal.nD Cert.SwiRefIdeal.τ).loc Cert.SwiRefIdeal.main_arg0) = m ((c.tc : Thread Cert.SwiRefIdeal.nD Cert.SwiRefIdeal.τ).loc Cert.SwiRefIdeal.main_arg0)
      ∧ r.2.mem ((c.tc : Thread Cert.SwiRefIdeal.nD Cert.SwiRefIdeal.τ).loc Cert.SwiRefIdeal.main_arg1) = m ((c.tc : Thread Cert.SwiRefIdeal.nD Cert.SwiRefIdeal.τ).loc Cert.SwiRefIdeal.main_arg1)
      ∧ r.2.mem ((c.tc : Thread Cert.SwiRefIdeal.nD Cert.SwiRefIdeal.τ).loc Cert.SwiRefIdeal.main_arg2) = m ((c.tc : Thread Cert.SwiRefIdeal.nD Cert.SwiRefIdeal.τ).loc Cert.SwiRefIdeal.main_arg2)
      ∧ r.2.mem ((c.tc : Thread Cert.SwiRefIdeal.nD Cert.SwiRefIdeal.τ).loc Cert.SwiRefIdeal.main_arg3) = m ((c.tc : Thread Cert.SwiRefIdeal.nD Cert.SwiRefIdeal.τ).loc Cert.SwiRefIdeal.main_arg3))
      ∧ r.2.sem = fun _ => 0)

def quiescent_GmlpF [hGmlpF : Cert.GmlpF.Facts] : Prop :=
  ∀ (m : (ℓ : Loc Cert.GmlpF.nD Cert.GmlpF.τ Cert.GmlpF.sig) → Buf (Elt Bits) ℓ) (g : Dev Cert.GmlpF.nD → PrngReg), Pre_GmlpF m →
    θ_run (Cert.GmlpF.defs (F := Bits)) (onTc (τ := Cert.GmlpF.τ) (Cert.GmlpF.main (F := Bits))) ⟨m, fun _ => 0, g⟩ (fun r => (∀ c : Dev Cert.GmlpF.nD,
      r.2.mem ((c.tc : Thread Cert.GmlpF.nD Cert.GmlpF.τ).loc Cert.GmlpF.main_arg0) = m ((c.tc : Thread Cert.GmlpF.nD Cert.GmlpF.τ).loc Cert.GmlpF.main_arg0)
      ∧ r.2.mem ((c.tc : Thread Cert.GmlpF.nD Cert.GmlpF.τ).loc Cert.GmlpF.main_arg1) = m ((c.tc : Thread Cert.GmlpF.nD Cert.GmlpF.τ).loc Cert.GmlpF.main_arg1)
      ∧ r.2.mem ((c.tc : Thread Cert.GmlpF.nD Cert.GmlpF.τ).loc Cert.GmlpF.main_arg2) = m ((c.tc : Thread Cert.GmlpF.nD Cert.GmlpF.τ).loc Cert.GmlpF.main_arg2)
      ∧ r.2.mem ((c.tc : Thread Cert.GmlpF.nD Cert.GmlpF.τ).loc Cert.GmlpF.main_arg3) = m ((c.tc : Thread Cert.GmlpF.nD Cert.GmlpF.τ).loc Cert.GmlpF.main_arg3)
      ∧ r.2.mem ((c.tc : Thread Cert.GmlpF.nD Cert.GmlpF.τ).loc Cert.GmlpF.main_arg4) = m ((c.tc : Thread Cert.GmlpF.nD Cert.GmlpF.τ).loc Cert.GmlpF.main_arg4))
      ∧ r.2.sem = fun _ => 0)

def quiescent_GmlpFIdeal [hGmlpFIdeal : Cert.GmlpFIdeal.Facts] : Prop :=
  ∀ (m : (ℓ : Loc Cert.GmlpFIdeal.nD Cert.GmlpFIdeal.τ Cert.GmlpFIdeal.sig) → Buf (Elt Ideal) ℓ) (g : Dev Cert.GmlpFIdeal.nD → PrngReg), Pre_GmlpFIdeal m →
    θ_run (Cert.GmlpFIdeal.defs (F := Ideal)) (onTc (τ := Cert.GmlpFIdeal.τ) (Cert.GmlpFIdeal.main (F := Ideal))) ⟨m, fun _ => 0, g⟩ (fun r => (∀ c : Dev Cert.GmlpFIdeal.nD,
      r.2.mem ((c.tc : Thread Cert.GmlpFIdeal.nD Cert.GmlpFIdeal.τ).loc Cert.GmlpFIdeal.main_arg0) = m ((c.tc : Thread Cert.GmlpFIdeal.nD Cert.GmlpFIdeal.τ).loc Cert.GmlpFIdeal.main_arg0)
      ∧ r.2.mem ((c.tc : Thread Cert.GmlpFIdeal.nD Cert.GmlpFIdeal.τ).loc Cert.GmlpFIdeal.main_arg1) = m ((c.tc : Thread Cert.GmlpFIdeal.nD Cert.GmlpFIdeal.τ).loc Cert.GmlpFIdeal.main_arg1)
      ∧ r.2.mem ((c.tc : Thread Cert.GmlpFIdeal.nD Cert.GmlpFIdeal.τ).loc Cert.GmlpFIdeal.main_arg2) = m ((c.tc : Thread Cert.GmlpFIdeal.nD Cert.GmlpFIdeal.τ).loc Cert.GmlpFIdeal.main_arg2)
      ∧ r.2.mem ((c.tc : Thread Cert.GmlpFIdeal.nD Cert.GmlpFIdeal.τ).loc Cert.GmlpFIdeal.main_arg3) = m ((c.tc : Thread Cert.GmlpFIdeal.nD Cert.GmlpFIdeal.τ).loc Cert.GmlpFIdeal.main_arg3)
      ∧ r.2.mem ((c.tc : Thread Cert.GmlpFIdeal.nD Cert.GmlpFIdeal.τ).loc Cert.GmlpFIdeal.main_arg4) = m ((c.tc : Thread Cert.GmlpFIdeal.nD Cert.GmlpFIdeal.τ).loc Cert.GmlpFIdeal.main_arg4))
      ∧ r.2.sem = fun _ => 0)

def quiescent_GmlpFRefIdeal [hGmlpFRefIdeal : Cert.GmlpFRefIdeal.Facts] : Prop :=
  ∀ (m : (ℓ : Loc Cert.GmlpFRefIdeal.nD Cert.GmlpFRefIdeal.τ Cert.GmlpFRefIdeal.sig) → Buf (Elt Ideal) ℓ) (g : Dev Cert.GmlpFRefIdeal.nD → PrngReg), Pre_GmlpFRefIdeal m →
    θ_run (Cert.GmlpFRefIdeal.defs (F := Ideal)) (onTc (τ := Cert.GmlpFRefIdeal.τ) (Cert.GmlpFRefIdeal.main (F := Ideal))) ⟨m, fun _ => 0, g⟩ (fun r => (∀ c : Dev Cert.GmlpFRefIdeal.nD,
      r.2.mem ((c.tc : Thread Cert.GmlpFRefIdeal.nD Cert.GmlpFRefIdeal.τ).loc Cert.GmlpFRefIdeal.main_arg0) = m ((c.tc : Thread Cert.GmlpFRefIdeal.nD Cert.GmlpFRefIdeal.τ).loc Cert.GmlpFRefIdeal.main_arg0)
      ∧ r.2.mem ((c.tc : Thread Cert.GmlpFRefIdeal.nD Cert.GmlpFRefIdeal.τ).loc Cert.GmlpFRefIdeal.main_arg1) = m ((c.tc : Thread Cert.GmlpFRefIdeal.nD Cert.GmlpFRefIdeal.τ).loc Cert.GmlpFRefIdeal.main_arg1)
      ∧ r.2.mem ((c.tc : Thread Cert.GmlpFRefIdeal.nD Cert.GmlpFRefIdeal.τ).loc Cert.GmlpFRefIdeal.main_arg2) = m ((c.tc : Thread Cert.GmlpFRefIdeal.nD Cert.GmlpFRefIdeal.τ).loc Cert.GmlpFRefIdeal.main_arg2)
      ∧ r.2.mem ((c.tc : Thread Cert.GmlpFRefIdeal.nD Cert.GmlpFRefIdeal.τ).loc Cert.GmlpFRefIdeal.main_arg3) = m ((c.tc : Thread Cert.GmlpFRefIdeal.nD Cert.GmlpFRefIdeal.τ).loc Cert.GmlpFRefIdeal.main_arg3)
      ∧ r.2.mem ((c.tc : Thread Cert.GmlpFRefIdeal.nD Cert.GmlpFRefIdeal.τ).loc Cert.GmlpFRefIdeal.main_arg4) = m ((c.tc : Thread Cert.GmlpFRefIdeal.nD Cert.GmlpFRefIdeal.τ).loc Cert.GmlpFRefIdeal.main_arg4))
      ∧ r.2.sem = fun _ => 0)

def quiescent_RmsF [hRmsF : Cert.RmsF.Facts] : Prop :=
  ∀ (m : (ℓ : Loc Cert.RmsF.nD Cert.RmsF.τ Cert.RmsF.sig) → Buf (Elt Bits) ℓ) (g : Dev Cert.RmsF.nD → PrngReg), Pre_RmsF m →
    θ_run (Cert.RmsF.defs (F := Bits)) (onTc (τ := Cert.RmsF.τ) (Cert.RmsF.main (F := Bits))) ⟨m, fun _ => 0, g⟩ (fun r => (∀ c : Dev Cert.RmsF.nD,
      r.2.mem ((c.tc : Thread Cert.RmsF.nD Cert.RmsF.τ).loc Cert.RmsF.main_arg0) = m ((c.tc : Thread Cert.RmsF.nD Cert.RmsF.τ).loc Cert.RmsF.main_arg0)
      ∧ r.2.mem ((c.tc : Thread Cert.RmsF.nD Cert.RmsF.τ).loc Cert.RmsF.main_arg1) = m ((c.tc : Thread Cert.RmsF.nD Cert.RmsF.τ).loc Cert.RmsF.main_arg1))
      ∧ r.2.sem = fun _ => 0)

def quiescent_RmsFIdeal [hRmsFIdeal : Cert.RmsFIdeal.Facts] : Prop :=
  ∀ (m : (ℓ : Loc Cert.RmsFIdeal.nD Cert.RmsFIdeal.τ Cert.RmsFIdeal.sig) → Buf (Elt Ideal) ℓ) (g : Dev Cert.RmsFIdeal.nD → PrngReg), Pre_RmsFIdeal m →
    θ_run (Cert.RmsFIdeal.defs (F := Ideal)) (onTc (τ := Cert.RmsFIdeal.τ) (Cert.RmsFIdeal.main (F := Ideal))) ⟨m, fun _ => 0, g⟩ (fun r => (∀ c : Dev Cert.RmsFIdeal.nD,
      r.2.mem ((c.tc : Thread Cert.RmsFIdeal.nD Cert.RmsFIdeal.τ).loc Cert.RmsFIdeal.main_arg0) = m ((c.tc : Thread Cert.RmsFIdeal.nD Cert.RmsFIdeal.τ).loc Cert.RmsFIdeal.main_arg0)
      ∧ r.2.mem ((c.tc : Thread Cert.RmsFIdeal.nD Cert.RmsFIdeal.τ).loc Cert.RmsFIdeal.main_arg1) = m ((c.tc : Thread Cert.RmsFIdeal.nD Cert.RmsFIdeal.τ).loc Cert.RmsFIdeal.main_arg1))
      ∧ r.2.sem = fun _ => 0)

def quiescent_RmsFRefIdeal [hRmsFRefIdeal : Cert.RmsFRefIdeal.Facts] : Prop :=
  ∀ (m : (ℓ : Loc Cert.RmsFRefIdeal.nD Cert.RmsFRefIdeal.τ Cert.RmsFRefIdeal.sig) → Buf (Elt Ideal) ℓ) (g : Dev Cert.RmsFRefIdeal.nD → PrngReg), Pre_RmsFRefIdeal m →
    θ_run (Cert.RmsFRefIdeal.defs (F := Ideal)) (onTc (τ := Cert.RmsFRefIdeal.τ) (Cert.RmsFRefIdeal.main (F := Ideal))) ⟨m, fun _ => 0, g⟩ (fun r => (∀ c : Dev Cert.RmsFRefIdeal.nD,
      r.2.mem ((c.tc : Thread Cert.RmsFRefIdeal.nD Cert.RmsFRefIdeal.τ).loc Cert.RmsFRefIdeal.main_arg0) = m ((c.tc : Thread Cert.RmsFRefIdeal.nD Cert.RmsFRefIdeal.τ).loc Cert.RmsFRefIdeal.main_arg0)
      ∧ r.2.mem ((c.tc : Thread Cert.RmsFRefIdeal.nD Cert.RmsFRefIdeal.τ).loc Cert.RmsFRefIdeal.main_arg1) = m ((c.tc : Thread Cert.RmsFRefIdeal.nD Cert.RmsFRefIdeal.τ).loc Cert.RmsFRefIdeal.main_arg1))
      ∧ r.2.sem = fun _ => 0)

def quiescent_PrepF [hPrepF : Cert.PrepF.Facts] : Prop :=
  ∀ (m : (ℓ : Loc Cert.PrepF.nD Cert.PrepF.τ Cert.PrepF.sig) → Buf (Elt Bits) ℓ) (g : Dev Cert.PrepF.nD → PrngReg), Pre_PrepF m →
    θ_run (Cert.PrepF.defs (F := Bits)) (onTc (τ := Cert.PrepF.τ) (Cert.PrepF.main (F := Bits))) ⟨m, fun _ => 0, g⟩ (fun r => (∀ c : Dev Cert.PrepF.nD,
      r.2.mem ((c.tc : Thread Cert.PrepF.nD Cert.PrepF.τ).loc Cert.PrepF.main_arg0) = m ((c.tc : Thread Cert.PrepF.nD Cert.PrepF.τ).loc Cert.PrepF.main_arg0)
      ∧ r.2.mem ((c.tc : Thread Cert.PrepF.nD Cert.PrepF.τ).loc Cert.PrepF.main_arg1) = m ((c.tc : Thread Cert.PrepF.nD Cert.PrepF.τ).loc Cert.PrepF.main_arg1)
      ∧ r.2.mem ((c.tc : Thread Cert.PrepF.nD Cert.PrepF.τ).loc Cert.PrepF.main_arg2) = m ((c.tc : Thread Cert.PrepF.nD Cert.PrepF.τ).loc Cert.PrepF.main_arg2)
      ∧ r.2.mem ((c.tc : Thread Cert.PrepF.nD Cert.PrepF.τ).loc Cert.PrepF.main_arg3) = m ((c.tc : Thread Cert.PrepF.nD Cert.PrepF.τ).loc Cert.PrepF.main_arg3)
      ∧ r.2.mem ((c.tc : Thread Cert.PrepF.nD Cert.PrepF.τ).loc Cert.PrepF.main_arg4) = m ((c.tc : Thread Cert.PrepF.nD Cert.PrepF.τ).loc Cert.PrepF.main_arg4))
      ∧ r.2.sem = fun _ => 0)

def quiescent_PrepFIdeal [hPrepFIdeal : Cert.PrepFIdeal.Facts] : Prop :=
  ∀ (m : (ℓ : Loc Cert.PrepFIdeal.nD Cert.PrepFIdeal.τ Cert.PrepFIdeal.sig) → Buf (Elt Ideal) ℓ) (g : Dev Cert.PrepFIdeal.nD → PrngReg), Pre_PrepFIdeal m →
    θ_run (Cert.PrepFIdeal.defs (F := Ideal)) (onTc (τ := Cert.PrepFIdeal.τ) (Cert.PrepFIdeal.main (F := Ideal))) ⟨m, fun _ => 0, g⟩ (fun r => (∀ c : Dev Cert.PrepFIdeal.nD,
      r.2.mem ((c.tc : Thread Cert.PrepFIdeal.nD Cert.PrepFIdeal.τ).loc Cert.PrepFIdeal.main_arg0) = m ((c.tc : Thread Cert.PrepFIdeal.nD Cert.PrepFIdeal.τ).loc Cert.PrepFIdeal.main_arg0)
      ∧ r.2.mem ((c.tc : Thread Cert.PrepFIdeal.nD Cert.PrepFIdeal.τ).loc Cert.PrepFIdeal.main_arg1) = m ((c.tc : Thread Cert.PrepFIdeal.nD Cert.PrepFIdeal.τ).loc Cert.PrepFIdeal.main_arg1)
      ∧ r.2.mem ((c.tc : Thread Cert.PrepFIdeal.nD Cert.PrepFIdeal.τ).loc Cert.PrepFIdeal.main_arg2) = m ((c.tc : Thread Cert.PrepFIdeal.nD Cert.PrepFIdeal.τ).loc Cert.PrepFIdeal.main_arg2)
      ∧ r.2.mem ((c.tc : Thread Cert.PrepFIdeal.nD Cert.PrepFIdeal.τ).loc Cert.PrepFIdeal.main_arg3) = m ((c.tc : Thread Cert.PrepFIdeal.nD Cert.PrepFIdeal.τ).loc Cert.PrepFIdeal.main_arg3)
      ∧ r.2.mem ((c.tc : Thread Cert.PrepFIdeal.nD Cert.PrepFIdeal.τ).loc Cert.PrepFIdeal.main_arg4) = m ((c.tc : Thread Cert.PrepFIdeal.nD Cert.PrepFIdeal.τ).loc Cert.PrepFIdeal.main_arg4))
      ∧ r.2.sem = fun _ => 0)

def quiescent_PrepFRefIdeal [hPrepFRefIdeal : Cert.PrepFRefIdeal.Facts] : Prop :=
  ∀ (m : (ℓ : Loc Cert.PrepFRefIdeal.nD Cert.PrepFRefIdeal.τ Cert.PrepFRefIdeal.sig) → Buf (Elt Ideal) ℓ) (g : Dev Cert.PrepFRefIdeal.nD → PrngReg), Pre_PrepFRefIdeal m →
    θ_run (Cert.PrepFRefIdeal.defs (F := Ideal)) (onTc (τ := Cert.PrepFRefIdeal.τ) (Cert.PrepFRefIdeal.main (F := Ideal))) ⟨m, fun _ => 0, g⟩ (fun r => (∀ c : Dev Cert.PrepFRefIdeal.nD,
      r.2.mem ((c.tc : Thread Cert.PrepFRefIdeal.nD Cert.PrepFRefIdeal.τ).loc Cert.PrepFRefIdeal.main_arg0) = m ((c.tc : Thread Cert.PrepFRefIdeal.nD Cert.PrepFRefIdeal.τ).loc Cert.PrepFRefIdeal.main_arg0)
      ∧ r.2.mem ((c.tc : Thread Cert.PrepFRefIdeal.nD Cert.PrepFRefIdeal.τ).loc Cert.PrepFRefIdeal.main_arg1) = m ((c.tc : Thread Cert.PrepFRefIdeal.nD Cert.PrepFRefIdeal.τ).loc Cert.PrepFRefIdeal.main_arg1)
      ∧ r.2.mem ((c.tc : Thread Cert.PrepFRefIdeal.nD Cert.PrepFRefIdeal.τ).loc Cert.PrepFRefIdeal.main_arg2) = m ((c.tc : Thread Cert.PrepFRefIdeal.nD Cert.PrepFRefIdeal.τ).loc Cert.PrepFRefIdeal.main_arg2)
      ∧ r.2.mem ((c.tc : Thread Cert.PrepFRefIdeal.nD Cert.PrepFRefIdeal.τ).loc Cert.PrepFRefIdeal.main_arg3) = m ((c.tc : Thread Cert.PrepFRefIdeal.nD Cert.PrepFRefIdeal.τ).loc Cert.PrepFRefIdeal.main_arg3)
      ∧ r.2.mem ((c.tc : Thread Cert.PrepFRefIdeal.nD Cert.PrepFRefIdeal.τ).loc Cert.PrepFRefIdeal.main_arg4) = m ((c.tc : Thread Cert.PrepFRefIdeal.nD Cert.PrepFRefIdeal.τ).loc Cert.PrepFRefIdeal.main_arg4))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3)
      ∧ r.2.mem ((c.tc : Thread Cert.Gate.nD Cert.Gate.τ).loc Cert.Gate.main_arg4) = m ((c.tc : Thread Cert.Gate.nD Cert.Gate.τ).loc Cert.Gate.main_arg4))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_S5F [hS5F : Cert.S5F.Facts] : Prop :=
  ∀ (m : (ℓ : Loc Cert.S5F.nD Cert.S5F.τ Cert.S5F.sig) → Buf (Elt Bits) ℓ) (g : Dev Cert.S5F.nD → PrngReg), Pre_S5F m →
    θ_run (Cert.S5F.defs (F := Bits)) (onTc (τ := Cert.S5F.τ) (Cert.S5F.main (F := Bits))) ⟨m, fun _ => 0, g⟩ (fun r => (∀ c : Dev Cert.S5F.nD,
      r.2.mem ((c.tc : Thread Cert.S5F.nD Cert.S5F.τ).loc Cert.S5F.main_arg0) = m ((c.tc : Thread Cert.S5F.nD Cert.S5F.τ).loc Cert.S5F.main_arg0)
      ∧ r.2.mem ((c.tc : Thread Cert.S5F.nD Cert.S5F.τ).loc Cert.S5F.main_arg1) = m ((c.tc : Thread Cert.S5F.nD Cert.S5F.τ).loc Cert.S5F.main_arg1)
      ∧ r.2.mem ((c.tc : Thread Cert.S5F.nD Cert.S5F.τ).loc Cert.S5F.main_arg2) = m ((c.tc : Thread Cert.S5F.nD Cert.S5F.τ).loc Cert.S5F.main_arg2)
      ∧ r.2.mem ((c.tc : Thread Cert.S5F.nD Cert.S5F.τ).loc Cert.S5F.main_arg3) = m ((c.tc : Thread Cert.S5F.nD Cert.S5F.τ).loc Cert.S5F.main_arg3)
      ∧ r.2.mem ((c.tc : Thread Cert.S5F.nD Cert.S5F.τ).loc Cert.S5F.main_arg4) = m ((c.tc : Thread Cert.S5F.nD Cert.S5F.τ).loc Cert.S5F.main_arg4)
      ∧ r.2.mem ((c.tc : Thread Cert.S5F.nD Cert.S5F.τ).loc Cert.S5F.main_arg5) = m ((c.tc : Thread Cert.S5F.nD Cert.S5F.τ).loc Cert.S5F.main_arg5)
      ∧ r.2.mem ((c.tc : Thread Cert.S5F.nD Cert.S5F.τ).loc Cert.S5F.main_arg6) = m ((c.tc : Thread Cert.S5F.nD Cert.S5F.τ).loc Cert.S5F.main_arg6)
      ∧ r.2.mem ((c.tc : Thread Cert.S5F.nD Cert.S5F.τ).loc Cert.S5F.main_arg7) = m ((c.tc : Thread Cert.S5F.nD Cert.S5F.τ).loc Cert.S5F.main_arg7))
      ∧ r.2.sem = fun _ => 0)

def quiescent_S5FIdeal [hS5FIdeal : Cert.S5FIdeal.Facts] : Prop :=
  ∀ (m : (ℓ : Loc Cert.S5FIdeal.nD Cert.S5FIdeal.τ Cert.S5FIdeal.sig) → Buf (Elt Ideal) ℓ) (g : Dev Cert.S5FIdeal.nD → PrngReg), Pre_S5FIdeal m →
    θ_run (Cert.S5FIdeal.defs (F := Ideal)) (onTc (τ := Cert.S5FIdeal.τ) (Cert.S5FIdeal.main (F := Ideal))) ⟨m, fun _ => 0, g⟩ (fun r => (∀ c : Dev Cert.S5FIdeal.nD,
      r.2.mem ((c.tc : Thread Cert.S5FIdeal.nD Cert.S5FIdeal.τ).loc Cert.S5FIdeal.main_arg0) = m ((c.tc : Thread Cert.S5FIdeal.nD Cert.S5FIdeal.τ).loc Cert.S5FIdeal.main_arg0)
      ∧ r.2.mem ((c.tc : Thread Cert.S5FIdeal.nD Cert.S5FIdeal.τ).loc Cert.S5FIdeal.main_arg1) = m ((c.tc : Thread Cert.S5FIdeal.nD Cert.S5FIdeal.τ).loc Cert.S5FIdeal.main_arg1)
      ∧ r.2.mem ((c.tc : Thread Cert.S5FIdeal.nD Cert.S5FIdeal.τ).loc Cert.S5FIdeal.main_arg2) = m ((c.tc : Thread Cert.S5FIdeal.nD Cert.S5FIdeal.τ).loc Cert.S5FIdeal.main_arg2)
      ∧ r.2.mem ((c.tc : Thread Cert.S5FIdeal.nD Cert.S5FIdeal.τ).loc Cert.S5FIdeal.main_arg3) = m ((c.tc : Thread Cert.S5FIdeal.nD Cert.S5FIdeal.τ).loc Cert.S5FIdeal.main_arg3)
      ∧ r.2.mem ((c.tc : Thread Cert.S5FIdeal.nD Cert.S5FIdeal.τ).loc Cert.S5FIdeal.main_arg4) = m ((c.tc : Thread Cert.S5FIdeal.nD Cert.S5FIdeal.τ).loc Cert.S5FIdeal.main_arg4)
      ∧ r.2.mem ((c.tc : Thread Cert.S5FIdeal.nD Cert.S5FIdeal.τ).loc Cert.S5FIdeal.main_arg5) = m ((c.tc : Thread Cert.S5FIdeal.nD Cert.S5FIdeal.τ).loc Cert.S5FIdeal.main_arg5)
      ∧ r.2.mem ((c.tc : Thread Cert.S5FIdeal.nD Cert.S5FIdeal.τ).loc Cert.S5FIdeal.main_arg6) = m ((c.tc : Thread Cert.S5FIdeal.nD Cert.S5FIdeal.τ).loc Cert.S5FIdeal.main_arg6)
      ∧ r.2.mem ((c.tc : Thread Cert.S5FIdeal.nD Cert.S5FIdeal.τ).loc Cert.S5FIdeal.main_arg7) = m ((c.tc : Thread Cert.S5FIdeal.nD Cert.S5FIdeal.τ).loc Cert.S5FIdeal.main_arg7))
      ∧ r.2.sem = fun _ => 0)

def quiescent_S5FIdeal_pre_finite_s5f [hS5FIdeal : Cert.S5FIdeal.Facts] [hPre_finite_s5f : Cert.Pre_finite_s5f.Facts] : Prop :=
  ∀ (m : (ℓ : Loc Cert.S5FIdeal.nD Cert.S5FIdeal.τ Cert.S5FIdeal.sig) → Buf (Elt Ideal) ℓ) (g : Dev Cert.S5FIdeal.nD → PrngReg), Pre_S5FIdeal_finite_s5f m →
    θ_run (Cert.S5FIdeal.defs (F := Ideal)) (onTc (τ := Cert.S5FIdeal.τ) (Cert.S5FIdeal.main (F := Ideal))) ⟨m, fun _ => 0, g⟩ (fun r => (∀ c : Dev Cert.S5FIdeal.nD,
      r.2.mem ((c.tc : Thread Cert.S5FIdeal.nD Cert.S5FIdeal.τ).loc Cert.S5FIdeal.main_arg0) = m ((c.tc : Thread Cert.S5FIdeal.nD Cert.S5FIdeal.τ).loc Cert.S5FIdeal.main_arg0)
      ∧ r.2.mem ((c.tc : Thread Cert.S5FIdeal.nD Cert.S5FIdeal.τ).loc Cert.S5FIdeal.main_arg1) = m ((c.tc : Thread Cert.S5FIdeal.nD Cert.S5FIdeal.τ).loc Cert.S5FIdeal.main_arg1)
      ∧ r.2.mem ((c.tc : Thread Cert.S5FIdeal.nD Cert.S5FIdeal.τ).loc Cert.S5FIdeal.main_arg2) = m ((c.tc : Thread Cert.S5FIdeal.nD Cert.S5FIdeal.τ).loc Cert.S5FIdeal.main_arg2)
      ∧ r.2.mem ((c.tc : Thread Cert.S5FIdeal.nD Cert.S5FIdeal.τ).loc Cert.S5FIdeal.main_arg3) = m ((c.tc : Thread Cert.S5FIdeal.nD Cert.S5FIdeal.τ).loc Cert.S5FIdeal.main_arg3)
      ∧ r.2.mem ((c.tc : Thread Cert.S5FIdeal.nD Cert.S5FIdeal.τ).loc Cert.S5FIdeal.main_arg4) = m ((c.tc : Thread Cert.S5FIdeal.nD Cert.S5FIdeal.τ).loc Cert.S5FIdeal.main_arg4)
      ∧ r.2.mem ((c.tc : Thread Cert.S5FIdeal.nD Cert.S5FIdeal.τ).loc Cert.S5FIdeal.main_arg5) = m ((c.tc : Thread Cert.S5FIdeal.nD Cert.S5FIdeal.τ).loc Cert.S5FIdeal.main_arg5)
      ∧ r.2.mem ((c.tc : Thread Cert.S5FIdeal.nD Cert.S5FIdeal.τ).loc Cert.S5FIdeal.main_arg6) = m ((c.tc : Thread Cert.S5FIdeal.nD Cert.S5FIdeal.τ).loc Cert.S5FIdeal.main_arg6)
      ∧ r.2.mem ((c.tc : Thread Cert.S5FIdeal.nD Cert.S5FIdeal.τ).loc Cert.S5FIdeal.main_arg7) = m ((c.tc : Thread Cert.S5FIdeal.nD Cert.S5FIdeal.τ).loc Cert.S5FIdeal.main_arg7))
      ∧ r.2.sem = fun _ => 0)

def quiescent_S5FRefIdeal [hS5FRefIdeal : Cert.S5FRefIdeal.Facts] : Prop :=
  ∀ (m : (ℓ : Loc Cert.S5FRefIdeal.nD Cert.S5FRefIdeal.τ Cert.S5FRefIdeal.sig) → Buf (Elt Ideal) ℓ) (g : Dev Cert.S5FRefIdeal.nD → PrngReg), Pre_S5FRefIdeal m →
    θ_run (Cert.S5FRefIdeal.defs (F := Ideal)) (onTc (τ := Cert.S5FRefIdeal.τ) (Cert.S5FRefIdeal.main (F := Ideal))) ⟨m, fun _ => 0, g⟩ (fun r => (∀ c : Dev Cert.S5FRefIdeal.nD,
      r.2.mem ((c.tc : Thread Cert.S5FRefIdeal.nD Cert.S5FRefIdeal.τ).loc Cert.S5FRefIdeal.main_arg0) = m ((c.tc : Thread Cert.S5FRefIdeal.nD Cert.S5FRefIdeal.τ).loc Cert.S5FRefIdeal.main_arg0)
      ∧ r.2.mem ((c.tc : Thread Cert.S5FRefIdeal.nD Cert.S5FRefIdeal.τ).loc Cert.S5FRefIdeal.main_arg1) = m ((c.tc : Thread Cert.S5FRefIdeal.nD Cert.S5FRefIdeal.τ).loc Cert.S5FRefIdeal.main_arg1)
      ∧ r.2.mem ((c.tc : Thread Cert.S5FRefIdeal.nD Cert.S5FRefIdeal.τ).loc Cert.S5FRefIdeal.main_arg2) = m ((c.tc : Thread Cert.S5FRefIdeal.nD Cert.S5FRefIdeal.τ).loc Cert.S5FRefIdeal.main_arg2)
      ∧ r.2.mem ((c.tc : Thread Cert.S5FRefIdeal.nD Cert.S5FRefIdeal.τ).loc Cert.S5FRefIdeal.main_arg3) = m ((c.tc : Thread Cert.S5FRefIdeal.nD Cert.S5FRefIdeal.τ).loc Cert.S5FRefIdeal.main_arg3)
      ∧ r.2.mem ((c.tc : Thread Cert.S5FRefIdeal.nD Cert.S5FRefIdeal.τ).loc Cert.S5FRefIdeal.main_arg4) = m ((c.tc : Thread Cert.S5FRefIdeal.nD Cert.S5FRefIdeal.τ).loc Cert.S5FRefIdeal.main_arg4)
      ∧ r.2.mem ((c.tc : Thread Cert.S5FRefIdeal.nD Cert.S5FRefIdeal.τ).loc Cert.S5FRefIdeal.main_arg5) = m ((c.tc : Thread Cert.S5FRefIdeal.nD Cert.S5FRefIdeal.τ).loc Cert.S5FRefIdeal.main_arg5)
      ∧ r.2.mem ((c.tc : Thread Cert.S5FRefIdeal.nD Cert.S5FRefIdeal.τ).loc Cert.S5FRefIdeal.main_arg6) = m ((c.tc : Thread Cert.S5FRefIdeal.nD Cert.S5FRefIdeal.τ).loc Cert.S5FRefIdeal.main_arg6)
      ∧ r.2.mem ((c.tc : Thread Cert.S5FRefIdeal.nD Cert.S5FRefIdeal.τ).loc Cert.S5FRefIdeal.main_arg7) = m ((c.tc : Thread Cert.S5FRefIdeal.nD Cert.S5FRefIdeal.τ).loc Cert.S5FRefIdeal.main_arg7))
      ∧ r.2.sem = fun _ => 0)

def quiescent_S5FRefIdeal_pre_finite_s5f [hS5FRefIdeal : Cert.S5FRefIdeal.Facts] [hPre_finite_s5f : Cert.Pre_finite_s5f.Facts] : Prop :=
  ∀ (m : (ℓ : Loc Cert.S5FRefIdeal.nD Cert.S5FRefIdeal.τ Cert.S5FRefIdeal.sig) → Buf (Elt Ideal) ℓ) (g : Dev Cert.S5FRefIdeal.nD → PrngReg), Pre_S5FRefIdeal_finite_s5f m →
    θ_run (Cert.S5FRefIdeal.defs (F := Ideal)) (onTc (τ := Cert.S5FRefIdeal.τ) (Cert.S5FRefIdeal.main (F := Ideal))) ⟨m, fun _ => 0, g⟩ (fun r => (∀ c : Dev Cert.S5FRefIdeal.nD,
      r.2.mem ((c.tc : Thread Cert.S5FRefIdeal.nD Cert.S5FRefIdeal.τ).loc Cert.S5FRefIdeal.main_arg0) = m ((c.tc : Thread Cert.S5FRefIdeal.nD Cert.S5FRefIdeal.τ).loc Cert.S5FRefIdeal.main_arg0)
      ∧ r.2.mem ((c.tc : Thread Cert.S5FRefIdeal.nD Cert.S5FRefIdeal.τ).loc Cert.S5FRefIdeal.main_arg1) = m ((c.tc : Thread Cert.S5FRefIdeal.nD Cert.S5FRefIdeal.τ).loc Cert.S5FRefIdeal.main_arg1)
      ∧ r.2.mem ((c.tc : Thread Cert.S5FRefIdeal.nD Cert.S5FRefIdeal.τ).loc Cert.S5FRefIdeal.main_arg2) = m ((c.tc : Thread Cert.S5FRefIdeal.nD Cert.S5FRefIdeal.τ).loc Cert.S5FRefIdeal.main_arg2)
      ∧ r.2.mem ((c.tc : Thread Cert.S5FRefIdeal.nD Cert.S5FRefIdeal.τ).loc Cert.S5FRefIdeal.main_arg3) = m ((c.tc : Thread Cert.S5FRefIdeal.nD Cert.S5FRefIdeal.τ).loc Cert.S5FRefIdeal.main_arg3)
      ∧ r.2.mem ((c.tc : Thread Cert.S5FRefIdeal.nD Cert.S5FRefIdeal.τ).loc Cert.S5FRefIdeal.main_arg4) = m ((c.tc : Thread Cert.S5FRefIdeal.nD Cert.S5FRefIdeal.τ).loc Cert.S5FRefIdeal.main_arg4)
      ∧ r.2.mem ((c.tc : Thread Cert.S5FRefIdeal.nD Cert.S5FRefIdeal.τ).loc Cert.S5FRefIdeal.main_arg5) = m ((c.tc : Thread Cert.S5FRefIdeal.nD Cert.S5FRefIdeal.τ).loc Cert.S5FRefIdeal.main_arg5)
      ∧ r.2.mem ((c.tc : Thread Cert.S5FRefIdeal.nD Cert.S5FRefIdeal.τ).loc Cert.S5FRefIdeal.main_arg6) = m ((c.tc : Thread Cert.S5FRefIdeal.nD Cert.S5FRefIdeal.τ).loc Cert.S5FRefIdeal.main_arg6)
      ∧ r.2.mem ((c.tc : Thread Cert.S5FRefIdeal.nD Cert.S5FRefIdeal.τ).loc Cert.S5FRefIdeal.main_arg7) = m ((c.tc : Thread Cert.S5FRefIdeal.nD Cert.S5FRefIdeal.τ).loc Cert.S5FRefIdeal.main_arg7))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_Dx [hDx : Cert.Dx.Facts] : Prop :=
  ∀ (m : (ℓ : Loc Cert.Dx.nD Cert.Dx.τ Cert.Dx.sig) → Buf (Elt Bits) ℓ) (g : Dev Cert.Dx.nD → PrngReg), Pre_Dx m →
    θ_run (Cert.Dx.defs (F := Bits)) (onTc (τ := Cert.Dx.τ) (Cert.Dx.main (F := Bits))) ⟨m, fun _ => 0, g⟩ (fun r => (∀ c : Dev Cert.Dx.nD,
      r.2.mem ((c.tc : Thread Cert.Dx.nD Cert.Dx.τ).loc Cert.Dx.main_arg0) = m ((c.tc : Thread Cert.Dx.nD Cert.Dx.τ).loc Cert.Dx.main_arg0)
      ∧ r.2.mem ((c.tc : Thread Cert.Dx.nD Cert.Dx.τ).loc Cert.Dx.main_arg1) = m ((c.tc : Thread Cert.Dx.nD Cert.Dx.τ).loc Cert.Dx.main_arg1)
      ∧ r.2.mem ((c.tc : Thread Cert.Dx.nD Cert.Dx.τ).loc Cert.Dx.main_arg2) = m ((c.tc : Thread Cert.Dx.nD Cert.Dx.τ).loc Cert.Dx.main_arg2)
      ∧ r.2.mem ((c.tc : Thread Cert.Dx.nD Cert.Dx.τ).loc Cert.Dx.main_arg3) = m ((c.tc : Thread Cert.Dx.nD Cert.Dx.τ).loc Cert.Dx.main_arg3))
      ∧ r.2.sem = fun _ => 0)

def quiescent_DxIdeal [hDxIdeal : Cert.DxIdeal.Facts] : Prop :=
  ∀ (m : (ℓ : Loc Cert.DxIdeal.nD Cert.DxIdeal.τ Cert.DxIdeal.sig) → Buf (Elt Ideal) ℓ) (g : Dev Cert.DxIdeal.nD → PrngReg), Pre_DxIdeal m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
      ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
      ∧ r.2.mem ((c.tc : Thread Cert.DxIdeal.nD Cert.DxIdeal.τ).loc Cert.DxIdeal.main_arg3) = m ((c.tc : Thread Cert.DxIdeal.nD Cert.DxIdeal.τ).loc Cert.DxIdeal.main_arg3))
      ∧ r.2.sem = fun _ => 0)

def quiescent_DxRefIdeal [hDxRefIdeal : Cert.DxRefIdeal.Facts] : Prop :=
  ∀ (m : (ℓ : Loc Cert.DxRefIdeal.nD Cert.DxRefIdeal.τ Cert.DxRefIdeal.sig) → Buf (Elt Ideal) ℓ) (g : Dev Cert.DxRefIdeal.nD → PrngReg), Pre_DxRefIdeal m →
    θ_run (Cert.DxRefIdeal.defs (F := Ideal)) (onTc (τ := Cert.DxRefIdeal.τ) (Cert.DxRefIdeal.main (F := Ideal))) ⟨m, fun _ => 0, g⟩ (fun r => (∀ c : Dev Cert.DxRefIdeal.nD,
      r.2.mem ((c.tc : Thread Cert.DxRefIdeal.nD Cert.DxRefIdeal.τ).loc Cert.DxRefIdeal.main_arg0) = m ((c.tc : Thread Cert.DxRefIdeal.nD Cert.DxRefIdeal.τ).loc Cert.DxRefIdeal.main_arg0)
      ∧ r.2.mem ((c.tc : Thread Cert.DxRefIdeal.nD Cert.DxRefIdeal.τ).loc Cert.DxRefIdeal.main_arg1) = m ((c.tc : Thread Cert.DxRefIdeal.nD Cert.DxRefIdeal.τ).loc Cert.DxRefIdeal.main_arg1)
      ∧ r.2.mem ((c.tc : Thread Cert.DxRefIdeal.nD Cert.DxRefIdeal.τ).loc Cert.DxRefIdeal.main_arg2) = m ((c.tc : Thread Cert.DxRefIdeal.nD Cert.DxRefIdeal.τ).loc Cert.DxRefIdeal.main_arg2)
      ∧ r.2.mem ((c.tc : Thread Cert.DxRefIdeal.nD Cert.DxRefIdeal.τ).loc Cert.DxRefIdeal.main_arg3) = m ((c.tc : Thread Cert.DxRefIdeal.nD Cert.DxRefIdeal.τ).loc Cert.DxRefIdeal.main_arg3))
      ∧ r.2.sem = fun _ => 0)

def quiescent_Dw [hDw : Cert.Dw.Facts] : Prop :=
  ∀ (m : (ℓ : Loc Cert.Dw.nD Cert.Dw.τ Cert.Dw.sig) → Buf (Elt Bits) ℓ) (g : Dev Cert.Dw.nD → PrngReg), Pre_Dw m →
    θ_run (Cert.Dw.defs (F := Bits)) (onTc (τ := Cert.Dw.τ) (Cert.Dw.main (F := Bits))) ⟨m, fun _ => 0, g⟩ (fun r => (∀ c : Dev Cert.Dw.nD,
      r.2.mem ((c.tc : Thread Cert.Dw.nD Cert.Dw.τ).loc Cert.Dw.main_arg0) = m ((c.tc : Thread Cert.Dw.nD Cert.Dw.τ).loc Cert.Dw.main_arg0)
      ∧ r.2.mem ((c.tc : Thread Cert.Dw.nD Cert.Dw.τ).loc Cert.Dw.main_arg1) = m ((c.tc : Thread Cert.Dw.nD Cert.Dw.τ).loc Cert.Dw.main_arg1)
      ∧ r.2.mem ((c.tc : Thread Cert.Dw.nD Cert.Dw.τ).loc Cert.Dw.main_arg2) = m ((c.tc : Thread Cert.Dw.nD Cert.Dw.τ).loc Cert.Dw.main_arg2))
      ∧ r.2.sem = fun _ => 0)

def quiescent_DwIdeal [hDwIdeal : Cert.DwIdeal.Facts] : Prop :=
  ∀ (m : (ℓ : Loc Cert.DwIdeal.nD Cert.DwIdeal.τ Cert.DwIdeal.sig) → Buf (Elt Ideal) ℓ) (g : Dev Cert.DwIdeal.nD → PrngReg), Pre_DwIdeal m →
    θ_run (Cert.DwIdeal.defs (F := Ideal)) (onTc (τ := Cert.DwIdeal.τ) (Cert.DwIdeal.main (F := Ideal))) ⟨m, fun _ => 0, g⟩ (fun r => (∀ c : Dev Cert.DwIdeal.nD,
      r.2.mem ((c.tc : Thread Cert.DwIdeal.nD Cert.DwIdeal.τ).loc Cert.DwIdeal.main_arg0) = m ((c.tc : Thread Cert.DwIdeal.nD Cert.DwIdeal.τ).loc Cert.DwIdeal.main_arg0)
      ∧ r.2.mem ((c.tc : Thread Cert.DwIdeal.nD Cert.DwIdeal.τ).loc Cert.DwIdeal.main_arg1) = m ((c.tc : Thread Cert.DwIdeal.nD Cert.DwIdeal.τ).loc Cert.DwIdeal.main_arg1)
      ∧ r.2.mem ((c.tc : Thread Cert.DwIdeal.nD Cert.DwIdeal.τ).loc Cert.DwIdeal.main_arg2) = m ((c.tc : Thread Cert.DwIdeal.nD Cert.DwIdeal.τ).loc Cert.DwIdeal.main_arg2))
      ∧ r.2.sem = fun _ => 0)

def quiescent_DwRefIdeal [hDwRefIdeal : Cert.DwRefIdeal.Facts] : Prop :=
  ∀ (m : (ℓ : Loc Cert.DwRefIdeal.nD Cert.DwRefIdeal.τ Cert.DwRefIdeal.sig) → Buf (Elt Ideal) ℓ) (g : Dev Cert.DwRefIdeal.nD → PrngReg), Pre_DwRefIdeal m →
    θ_run (Cert.DwRefIdeal.defs (F := Ideal)) (onTc (τ := Cert.DwRefIdeal.τ) (Cert.DwRefIdeal.main (F := Ideal))) ⟨m, fun _ => 0, g⟩ (fun r => (∀ c : Dev Cert.DwRefIdeal.nD,
      r.2.mem ((c.tc : Thread Cert.DwRefIdeal.nD Cert.DwRefIdeal.τ).loc Cert.DwRefIdeal.main_arg0) = m ((c.tc : Thread Cert.DwRefIdeal.nD Cert.DwRefIdeal.τ).loc Cert.DwRefIdeal.main_arg0)
      ∧ r.2.mem ((c.tc : Thread Cert.DwRefIdeal.nD Cert.DwRefIdeal.τ).loc Cert.DwRefIdeal.main_arg1) = m ((c.tc : Thread Cert.DwRefIdeal.nD Cert.DwRefIdeal.τ).loc Cert.DwRefIdeal.main_arg1)
      ∧ r.2.mem ((c.tc : Thread Cert.DwRefIdeal.nD Cert.DwRefIdeal.τ).loc Cert.DwRefIdeal.main_arg2) = m ((c.tc : Thread Cert.DwRefIdeal.nD Cert.DwRefIdeal.τ).loc Cert.DwRefIdeal.main_arg2))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def quiescent_Cast [hCast : Cert.Cast.Facts] : Prop :=
  ∀ (m : (ℓ : Loc Cert.Cast.nD Cert.Cast.τ Cert.Cast.sig) → Buf (Elt Bits) ℓ) (g : Dev Cert.Cast.nD → PrngReg), Pre_Cast m →
    θ_run (Cert.Cast.defs (F := Bits)) (onTc (τ := Cert.Cast.τ) (Cert.Cast.main (F := Bits))) ⟨m, fun _ => 0, g⟩ (fun r => (∀ c : Dev Cert.Cast.nD,
      r.2.mem ((c.tc : Thread Cert.Cast.nD Cert.Cast.τ).loc Cert.Cast.main_arg0) = m ((c.tc : Thread Cert.Cast.nD Cert.Cast.τ).loc Cert.Cast.main_arg0))
      ∧ r.2.sem = fun _ => 0)

def quiescent_CastIdeal [hCastIdeal : Cert.CastIdeal.Facts] : Prop :=
  ∀ (m : (ℓ : Loc Cert.CastIdeal.nD Cert.CastIdeal.τ Cert.CastIdeal.sig) → Buf (Elt Ideal) ℓ) (g : Dev Cert.CastIdeal.nD → PrngReg), Pre_CastIdeal m →
    θ_run (Cert.CastIdeal.defs (F := Ideal)) (onTc (τ := Cert.CastIdeal.τ) (Cert.CastIdeal.main (F := Ideal))) ⟨m, fun _ => 0, g⟩ (fun r => (∀ c : Dev Cert.CastIdeal.nD,
      r.2.mem ((c.tc : Thread Cert.CastIdeal.nD Cert.CastIdeal.τ).loc Cert.CastIdeal.main_arg0) = m ((c.tc : Thread Cert.CastIdeal.nD Cert.CastIdeal.τ).loc Cert.CastIdeal.main_arg0))
      ∧ r.2.sem = fun _ => 0)

def quiescent_CastRefIdeal [hCastRefIdeal : Cert.CastRefIdeal.Facts] : Prop :=
  ∀ (m : (ℓ : Loc Cert.CastRefIdeal.nD Cert.CastRefIdeal.τ Cert.CastRefIdeal.sig) → Buf (Elt Ideal) ℓ) (g : Dev Cert.CastRefIdeal.nD → PrngReg), Pre_CastRefIdeal m →
    θ_run (Cert.CastRefIdeal.defs (F := Ideal)) (onTc (τ := Cert.CastRefIdeal.τ) (Cert.CastRefIdeal.main (F := Ideal))) ⟨m, fun _ => 0, g⟩ (fun r => (∀ c : Dev Cert.CastRefIdeal.nD,
      r.2.mem ((c.tc : Thread Cert.CastRefIdeal.nD Cert.CastRefIdeal.τ).loc Cert.CastRefIdeal.main_arg0) = m ((c.tc : Thread Cert.CastRefIdeal.nD Cert.CastRefIdeal.τ).loc Cert.CastRefIdeal.main_arg0))
      ∧ r.2.sem = fun _ => 0)

def quiescent_ChipSum [hChipSum : Cert.ChipSum.Facts] : Prop :=
  ∀ (m : (ℓ : Loc Cert.ChipSum.nD Cert.ChipSum.τ Cert.ChipSum.sig) → Buf (Elt Bits) ℓ) (g : Dev Cert.ChipSum.nD → PrngReg), Pre_ChipSum m →
    θ_run (Cert.ChipSum.defs (F := Bits)) (onTc (τ := Cert.ChipSum.τ) (Cert.ChipSum.main (F := Bits))) ⟨m, fun _ => 0, g⟩ (fun r => (∀ c : Dev Cert.ChipSum.nD,
      r.2.mem ((c.tc : Thread Cert.ChipSum.nD Cert.ChipSum.τ).loc Cert.ChipSum.main_arg0) = m ((c.tc : Thread Cert.ChipSum.nD Cert.ChipSum.τ).loc Cert.ChipSum.main_arg0)
      ∧ r.2.mem ((c.tc : Thread Cert.ChipSum.nD Cert.ChipSum.τ).loc Cert.ChipSum.main_arg1) = m ((c.tc : Thread Cert.ChipSum.nD Cert.ChipSum.τ).loc Cert.ChipSum.main_arg1))
      ∧ r.2.sem = fun _ => 0)

def quiescent_ChipSumIdeal [hChipSumIdeal : Cert.ChipSumIdeal.Facts] : Prop :=
  ∀ (m : (ℓ : Loc Cert.ChipSumIdeal.nD Cert.ChipSumIdeal.τ Cert.ChipSumIdeal.sig) → Buf (Elt Ideal) ℓ) (g : Dev Cert.ChipSumIdeal.nD → PrngReg), Pre_ChipSumIdeal m →
    θ_run (Cert.ChipSumIdeal.defs (F := Ideal)) (onTc (τ := Cert.ChipSumIdeal.τ) (Cert.ChipSumIdeal.main (F := Ideal))) ⟨m, fun _ => 0, g⟩ (fun r => (∀ c : Dev Cert.ChipSumIdeal.nD,
      r.2.mem ((c.tc : Thread Cert.ChipSumIdeal.nD Cert.ChipSumIdeal.τ).loc Cert.ChipSumIdeal.main_arg0) = m ((c.tc : Thread Cert.ChipSumIdeal.nD Cert.ChipSumIdeal.τ).loc Cert.ChipSumIdeal.main_arg0)
      ∧ r.2.mem ((c.tc : Thread Cert.ChipSumIdeal.nD Cert.ChipSumIdeal.τ).loc Cert.ChipSumIdeal.main_arg1) = m ((c.tc : Thread Cert.ChipSumIdeal.nD Cert.ChipSumIdeal.τ).loc Cert.ChipSumIdeal.main_arg1))
      ∧ r.2.sem = fun _ => 0)

def quiescent_ChipSumRefIdeal [hChipSumRefIdeal : Cert.ChipSumRefIdeal.Facts] : Prop :=
  ∀ (m : (ℓ : Loc Cert.ChipSumRefIdeal.nD Cert.ChipSumRefIdeal.τ Cert.ChipSumRefIdeal.sig) → Buf (Elt Ideal) ℓ) (g : Dev Cert.ChipSumRefIdeal.nD → PrngReg), Pre_ChipSumRefIdeal m →
    θ_run (Cert.ChipSumRefIdeal.defs (F := Ideal)) (onTc (τ := Cert.ChipSumRefIdeal.τ) (Cert.ChipSumRefIdeal.main (F := Ideal))) ⟨m, fun _ => 0, g⟩ (fun r => (∀ c : Dev Cert.ChipSumRefIdeal.nD,
      r.2.mem ((c.tc : Thread Cert.ChipSumRefIdeal.nD Cert.ChipSumRefIdeal.τ).loc Cert.ChipSumRefIdeal.main_arg0) = m ((c.tc : Thread Cert.ChipSumRefIdeal.nD Cert.ChipSumRefIdeal.τ).loc Cert.ChipSumRefIdeal.main_arg0)
      ∧ r.2.mem ((c.tc : Thread Cert.ChipSumRefIdeal.nD Cert.ChipSumRefIdeal.τ).loc Cert.ChipSumRefIdeal.main_arg1) = m ((c.tc : Thread Cert.ChipSumRefIdeal.nD Cert.ChipSumRefIdeal.τ).loc Cert.ChipSumRefIdeal.main_arg1))
      ∧ r.2.sem = fun _ => 0)

def quiescent_PartSum [hPartSum : Cert.PartSum.Facts] : Prop :=
  ∀ (m : (ℓ : Loc Cert.PartSum.nD Cert.PartSum.τ Cert.PartSum.sig) → Buf (Elt Bits) ℓ) (g : Dev Cert.PartSum.nD → PrngReg), Pre_PartSum m →
    θ_run (Cert.PartSum.defs (F := Bits)) (onTc (τ := Cert.PartSum.τ) (Cert.PartSum.main (F := Bits))) ⟨m, fun _ => 0, g⟩ (fun r => (∀ c : Dev Cert.PartSum.nD,
      r.2.mem ((c.tc : Thread Cert.PartSum.nD Cert.PartSum.τ).loc Cert.PartSum.main_arg0) = m ((c.tc : Thread Cert.PartSum.nD Cert.PartSum.τ).loc Cert.PartSum.main_arg0)
      ∧ r.2.mem ((c.tc : Thread Cert.PartSum.nD Cert.PartSum.τ).loc Cert.PartSum.main_arg1) = m ((c.tc : Thread Cert.PartSum.nD Cert.PartSum.τ).loc Cert.PartSum.main_arg1))
      ∧ r.2.sem = fun _ => 0)

def quiescent_PartSumIdeal [hPartSumIdeal : Cert.PartSumIdeal.Facts] : Prop :=
  ∀ (m : (ℓ : Loc Cert.PartSumIdeal.nD Cert.PartSumIdeal.τ Cert.PartSumIdeal.sig) → Buf (Elt Ideal) ℓ) (g : Dev Cert.PartSumIdeal.nD → PrngReg), Pre_PartSumIdeal m →
    θ_run (Cert.PartSumIdeal.defs (F := Ideal)) (onTc (τ := Cert.PartSumIdeal.τ) (Cert.PartSumIdeal.main (F := Ideal))) ⟨m, fun _ => 0, g⟩ (fun r => (∀ c : Dev Cert.PartSumIdeal.nD,
      r.2.mem ((c.tc : Thread Cert.PartSumIdeal.nD Cert.PartSumIdeal.τ).loc Cert.PartSumIdeal.main_arg0) = m ((c.tc : Thread Cert.PartSumIdeal.nD Cert.PartSumIdeal.τ).loc Cert.PartSumIdeal.main_arg0)
      ∧ r.2.mem ((c.tc : Thread Cert.PartSumIdeal.nD Cert.PartSumIdeal.τ).loc Cert.PartSumIdeal.main_arg1) = m ((c.tc : Thread Cert.PartSumIdeal.nD Cert.PartSumIdeal.τ).loc Cert.PartSumIdeal.main_arg1))
      ∧ r.2.sem = fun _ => 0)

def quiescent_PartSumRefIdeal [hPartSumRefIdeal : Cert.PartSumRefIdeal.Facts] : Prop :=
  ∀ (m : (ℓ : Loc Cert.PartSumRefIdeal.nD Cert.PartSumRefIdeal.τ Cert.PartSumRefIdeal.sig) → Buf (Elt Ideal) ℓ) (g : Dev Cert.PartSumRefIdeal.nD → PrngReg), Pre_PartSumRefIdeal m →
    θ_run (Cert.PartSumRefIdeal.defs (F := Ideal)) (onTc (τ := Cert.PartSumRefIdeal.τ) (Cert.PartSumRefIdeal.main (F := Ideal))) ⟨m, fun _ => 0, g⟩ (fun r => (∀ c : Dev Cert.PartSumRefIdeal.nD,
      r.2.mem ((c.tc : Thread Cert.PartSumRefIdeal.nD Cert.PartSumRefIdeal.τ).loc Cert.PartSumRefIdeal.main_arg0) = m ((c.tc : Thread Cert.PartSumRefIdeal.nD Cert.PartSumRefIdeal.τ).loc Cert.PartSumRefIdeal.main_arg0)
      ∧ r.2.mem ((c.tc : Thread Cert.PartSumRefIdeal.nD Cert.PartSumRefIdeal.τ).loc Cert.PartSumRefIdeal.main_arg1) = m ((c.tc : Thread Cert.PartSumRefIdeal.nD Cert.PartSumRefIdeal.τ).loc Cert.PartSumRefIdeal.main_arg1))
      ∧ r.2.sem = fun _ => 0)

def quiescent_SliceSum [hSliceSum : Cert.SliceSum.Facts] : Prop :=
  ∀ (m : (ℓ : Loc Cert.SliceSum.nD Cert.SliceSum.τ Cert.SliceSum.sig) → Buf (Elt Bits) ℓ) (g : Dev Cert.SliceSum.nD → PrngReg), Pre_SliceSum m →
    θ_run (Cert.SliceSum.defs (F := Bits)) (onTc (τ := Cert.SliceSum.τ) (Cert.SliceSum.main (F := Bits))) ⟨m, fun _ => 0, g⟩ (fun r => (∀ c : Dev Cert.SliceSum.nD,
      r.2.mem ((c.tc : Thread Cert.SliceSum.nD Cert.SliceSum.τ).loc Cert.SliceSum.main_arg0) = m ((c.tc : Thread Cert.SliceSum.nD Cert.SliceSum.τ).loc Cert.SliceSum.main_arg0)
      ∧ r.2.mem ((c.tc : Thread Cert.SliceSum.nD Cert.SliceSum.τ).loc Cert.SliceSum.main_arg1) = m ((c.tc : Thread Cert.SliceSum.nD Cert.SliceSum.τ).loc Cert.SliceSum.main_arg1))
      ∧ r.2.sem = fun _ => 0)

def quiescent_SliceSumIdeal [hSliceSumIdeal : Cert.SliceSumIdeal.Facts] : Prop :=
  ∀ (m : (ℓ : Loc Cert.SliceSumIdeal.nD Cert.SliceSumIdeal.τ Cert.SliceSumIdeal.sig) → Buf (Elt Ideal) ℓ) (g : Dev Cert.SliceSumIdeal.nD → PrngReg), Pre_SliceSumIdeal m →
    θ_run (Cert.SliceSumIdeal.defs (F := Ideal)) (onTc (τ := Cert.SliceSumIdeal.τ) (Cert.SliceSumIdeal.main (F := Ideal))) ⟨m, fun _ => 0, g⟩ (fun r => (∀ c : Dev Cert.SliceSumIdeal.nD,
      r.2.mem ((c.tc : Thread Cert.SliceSumIdeal.nD Cert.SliceSumIdeal.τ).loc Cert.SliceSumIdeal.main_arg0) = m ((c.tc : Thread Cert.SliceSumIdeal.nD Cert.SliceSumIdeal.τ).loc Cert.SliceSumIdeal.main_arg0)
      ∧ r.2.mem ((c.tc : Thread Cert.SliceSumIdeal.nD Cert.SliceSumIdeal.τ).loc Cert.SliceSumIdeal.main_arg1) = m ((c.tc : Thread Cert.SliceSumIdeal.nD Cert.SliceSumIdeal.τ).loc Cert.SliceSumIdeal.main_arg1))
      ∧ r.2.sem = fun _ => 0)

def quiescent_SliceSumRefIdeal [hSliceSumRefIdeal : Cert.SliceSumRefIdeal.Facts] : Prop :=
  ∀ (m : (ℓ : Loc Cert.SliceSumRefIdeal.nD Cert.SliceSumRefIdeal.τ Cert.SliceSumRefIdeal.sig) → Buf (Elt Ideal) ℓ) (g : Dev Cert.SliceSumRefIdeal.nD → PrngReg), Pre_SliceSumRefIdeal m →
    θ_run (Cert.SliceSumRefIdeal.defs (F := Ideal)) (onTc (τ := Cert.SliceSumRefIdeal.τ) (Cert.SliceSumRefIdeal.main (F := Ideal))) ⟨m, fun _ => 0, g⟩ (fun r => (∀ c : Dev Cert.SliceSumRefIdeal.nD,
      r.2.mem ((c.tc : Thread Cert.SliceSumRefIdeal.nD Cert.SliceSumRefIdeal.τ).loc Cert.SliceSumRefIdeal.main_arg0) = m ((c.tc : Thread Cert.SliceSumRefIdeal.nD Cert.SliceSumRefIdeal.τ).loc Cert.SliceSumRefIdeal.main_arg0)
      ∧ r.2.mem ((c.tc : Thread Cert.SliceSumRefIdeal.nD Cert.SliceSumRefIdeal.τ).loc Cert.SliceSumRefIdeal.main_arg1) = m ((c.tc : Thread Cert.SliceSumRefIdeal.nD Cert.SliceSumRefIdeal.τ).loc Cert.SliceSumRefIdeal.main_arg1))
      ∧ r.2.sem = fun _ => 0)

def quiescent_AdamBig [hAdamBig : Cert.AdamBig.Facts] : Prop :=
  ∀ (m : (ℓ : Loc Cert.AdamBig.nD Cert.AdamBig.τ Cert.AdamBig.sig) → Buf (Elt Bits) ℓ) (g : Dev Cert.AdamBig.nD → PrngReg), Pre_AdamBig m →
    θ_run (Cert.AdamBig.defs (F := Bits)) (onTc (τ := Cert.AdamBig.τ) (Cert.AdamBig.main (F := Bits))) ⟨m, fun _ => 0, g⟩ (fun r => (∀ c : Dev Cert.AdamBig.nD,
      r.2.mem ((c.tc : Thread Cert.AdamBig.nD Cert.AdamBig.τ).loc Cert.AdamBig.main_arg0) = m ((c.tc : Thread Cert.AdamBig.nD Cert.AdamBig.τ).loc Cert.AdamBig.main_arg0)
      ∧ r.2.mem ((c.tc : Thread Cert.AdamBig.nD Cert.AdamBig.τ).loc Cert.AdamBig.main_arg1) = m ((c.tc : Thread Cert.AdamBig.nD Cert.AdamBig.τ).loc Cert.AdamBig.main_arg1)
      ∧ r.2.mem ((c.tc : Thread Cert.AdamBig.nD Cert.AdamBig.τ).loc Cert.AdamBig.main_arg2) = m ((c.tc : Thread Cert.AdamBig.nD Cert.AdamBig.τ).loc Cert.AdamBig.main_arg2)
      ∧ r.2.mem ((c.tc : Thread Cert.AdamBig.nD Cert.AdamBig.τ).loc Cert.AdamBig.main_arg3) = m ((c.tc : Thread Cert.AdamBig.nD Cert.AdamBig.τ).loc Cert.AdamBig.main_arg3)
      ∧ r.2.mem ((c.tc : Thread Cert.AdamBig.nD Cert.AdamBig.τ).loc Cert.AdamBig.main_arg4) = m ((c.tc : Thread Cert.AdamBig.nD Cert.AdamBig.τ).loc Cert.AdamBig.main_arg4))
      ∧ r.2.sem = fun _ => 0)

def quiescent_AdamBigIdeal [hAdamBigIdeal : Cert.AdamBigIdeal.Facts] : Prop :=
  ∀ (m : (ℓ : Loc Cert.AdamBigIdeal.nD Cert.AdamBigIdeal.τ Cert.AdamBigIdeal.sig) → Buf (Elt Ideal) ℓ) (g : Dev Cert.AdamBigIdeal.nD → PrngReg), Pre_AdamBigIdeal m →
    θ_run (Cert.AdamBigIdeal.defs (F := Ideal)) (onTc (τ := Cert.AdamBigIdeal.τ) (Cert.AdamBigIdeal.main (F := Ideal))) ⟨m, fun _ => 0, g⟩ (fun r => (∀ c : Dev Cert.AdamBigIdeal.nD,
      r.2.mem ((c.tc : Thread Cert.AdamBigIdeal.nD Cert.AdamBigIdeal.τ).loc Cert.AdamBigIdeal.main_arg0) = m ((c.tc : Thread Cert.AdamBigIdeal.nD Cert.AdamBigIdeal.τ).loc Cert.AdamBigIdeal.main_arg0)
      ∧ r.2.mem ((c.tc : Thread Cert.AdamBigIdeal.nD Cert.AdamBigIdeal.τ).loc Cert.AdamBigIdeal.main_arg1) = m ((c.tc : Thread Cert.AdamBigIdeal.nD Cert.AdamBigIdeal.τ).loc Cert.AdamBigIdeal.main_arg1)
      ∧ r.2.mem ((c.tc : Thread Cert.AdamBigIdeal.nD Cert.AdamBigIdeal.τ).loc Cert.AdamBigIdeal.main_arg2) = m ((c.tc : Thread Cert.AdamBigIdeal.nD Cert.AdamBigIdeal.τ).loc Cert.AdamBigIdeal.main_arg2)
      ∧ r.2.mem ((c.tc : Thread Cert.AdamBigIdeal.nD Cert.AdamBigIdeal.τ).loc Cert.AdamBigIdeal.main_arg3) = m ((c.tc : Thread Cert.AdamBigIdeal.nD Cert.AdamBigIdeal.τ).loc Cert.AdamBigIdeal.main_arg3)
      ∧ r.2.mem ((c.tc : Thread Cert.AdamBigIdeal.nD Cert.AdamBigIdeal.τ).loc Cert.AdamBigIdeal.main_arg4) = m ((c.tc : Thread Cert.AdamBigIdeal.nD Cert.AdamBigIdeal.τ).loc Cert.AdamBigIdeal.main_arg4))
      ∧ r.2.sem = fun _ => 0)

def quiescent_AdamBigRefIdeal [hAdamBigRefIdeal : Cert.AdamBigRefIdeal.Facts] : Prop :=
  ∀ (m : (ℓ : Loc Cert.AdamBigRefIdeal.nD Cert.AdamBigRefIdeal.τ Cert.AdamBigRefIdeal.sig) → Buf (Elt Ideal) ℓ) (g : Dev Cert.AdamBigRefIdeal.nD → PrngReg), Pre_AdamBigRefIdeal m →
    θ_run (Cert.AdamBigRefIdeal.defs (F := Ideal)) (onTc (τ := Cert.AdamBigRefIdeal.τ) (Cert.AdamBigRefIdeal.main (F := Ideal))) ⟨m, fun _ => 0, g⟩ (fun r => (∀ c : Dev Cert.AdamBigRefIdeal.nD,
      r.2.mem ((c.tc : Thread Cert.AdamBigRefIdeal.nD Cert.AdamBigRefIdeal.τ).loc Cert.AdamBigRefIdeal.main_arg0) = m ((c.tc : Thread Cert.AdamBigRefIdeal.nD Cert.AdamBigRefIdeal.τ).loc Cert.AdamBigRefIdeal.main_arg0)
      ∧ r.2.mem ((c.tc : Thread Cert.AdamBigRefIdeal.nD Cert.AdamBigRefIdeal.τ).loc Cert.AdamBigRefIdeal.main_arg1) = m ((c.tc : Thread Cert.AdamBigRefIdeal.nD Cert.AdamBigRefIdeal.τ).loc Cert.AdamBigRefIdeal.main_arg1)
      ∧ r.2.mem ((c.tc : Thread Cert.AdamBigRefIdeal.nD Cert.AdamBigRefIdeal.τ).loc Cert.AdamBigRefIdeal.main_arg2) = m ((c.tc : Thread Cert.AdamBigRefIdeal.nD Cert.AdamBigRefIdeal.τ).loc Cert.AdamBigRefIdeal.main_arg2)
      ∧ r.2.mem ((c.tc : Thread Cert.AdamBigRefIdeal.nD Cert.AdamBigRefIdeal.τ).loc Cert.AdamBigRefIdeal.main_arg3) = m ((c.tc : Thread Cert.AdamBigRefIdeal.nD Cert.AdamBigRefIdeal.τ).loc Cert.AdamBigRefIdeal.main_arg3)
      ∧ r.2.mem ((c.tc : Thread Cert.AdamBigRefIdeal.nD Cert.AdamBigRefIdeal.τ).loc Cert.AdamBigRefIdeal.main_arg4) = m ((c.tc : Thread Cert.AdamBigRefIdeal.nD Cert.AdamBigRefIdeal.τ).loc Cert.AdamBigRefIdeal.main_arg4))
      ∧ r.2.sem = fun _ => 0)

def quiescent_Pack [hPack : Cert.Pack.Facts] : Prop :=
  ∀ (m : (ℓ : Loc Cert.Pack.nD Cert.Pack.τ Cert.Pack.sig) → Buf (Elt Bits) ℓ) (g : Dev Cert.Pack.nD → PrngReg), Pre_Pack m →
    θ_run (Cert.Pack.defs (F := Bits)) (onTc (τ := Cert.Pack.τ) (Cert.Pack.main (F := Bits))) ⟨m, fun _ => 0, g⟩ (fun r => (∀ c : Dev Cert.Pack.nD,
      r.2.mem ((c.tc : Thread Cert.Pack.nD Cert.Pack.τ).loc Cert.Pack.main_arg0) = m ((c.tc : Thread Cert.Pack.nD Cert.Pack.τ).loc Cert.Pack.main_arg0)
      ∧ r.2.mem ((c.tc : Thread Cert.Pack.nD Cert.Pack.τ).loc Cert.Pack.main_arg1) = m ((c.tc : Thread Cert.Pack.nD Cert.Pack.τ).loc Cert.Pack.main_arg1)
      ∧ r.2.mem ((c.tc : Thread Cert.Pack.nD Cert.Pack.τ).loc Cert.Pack.main_arg2) = m ((c.tc : Thread Cert.Pack.nD Cert.Pack.τ).loc Cert.Pack.main_arg2)
      ∧ r.2.mem ((c.tc : Thread Cert.Pack.nD Cert.Pack.τ).loc Cert.Pack.main_arg3) = m ((c.tc : Thread Cert.Pack.nD Cert.Pack.τ).loc Cert.Pack.main_arg3)
      ∧ r.2.mem ((c.tc : Thread Cert.Pack.nD Cert.Pack.τ).loc Cert.Pack.main_arg4) = m ((c.tc : Thread Cert.Pack.nD Cert.Pack.τ).loc Cert.Pack.main_arg4)
      ∧ r.2.mem ((c.tc : Thread Cert.Pack.nD Cert.Pack.τ).loc Cert.Pack.main_arg5) = m ((c.tc : Thread Cert.Pack.nD Cert.Pack.τ).loc Cert.Pack.main_arg5)
      ∧ r.2.mem ((c.tc : Thread Cert.Pack.nD Cert.Pack.τ).loc Cert.Pack.main_arg6) = m ((c.tc : Thread Cert.Pack.nD Cert.Pack.τ).loc Cert.Pack.main_arg6)
      ∧ r.2.mem ((c.tc : Thread Cert.Pack.nD Cert.Pack.τ).loc Cert.Pack.main_arg7) = m ((c.tc : Thread Cert.Pack.nD Cert.Pack.τ).loc Cert.Pack.main_arg7)
      ∧ r.2.mem ((c.tc : Thread Cert.Pack.nD Cert.Pack.τ).loc Cert.Pack.main_arg8) = m ((c.tc : Thread Cert.Pack.nD Cert.Pack.τ).loc Cert.Pack.main_arg8)
      ∧ r.2.mem ((c.tc : Thread Cert.Pack.nD Cert.Pack.τ).loc Cert.Pack.main_arg9) = m ((c.tc : Thread Cert.Pack.nD Cert.Pack.τ).loc Cert.Pack.main_arg9)
      ∧ r.2.mem ((c.tc : Thread Cert.Pack.nD Cert.Pack.τ).loc Cert.Pack.main_arg10) = m ((c.tc : Thread Cert.Pack.nD Cert.Pack.τ).loc Cert.Pack.main_arg10)
      ∧ r.2.mem ((c.tc : Thread Cert.Pack.nD Cert.Pack.τ).loc Cert.Pack.main_arg11) = m ((c.tc : Thread Cert.Pack.nD Cert.Pack.τ).loc Cert.Pack.main_arg11)
      ∧ r.2.mem ((c.tc : Thread Cert.Pack.nD Cert.Pack.τ).loc Cert.Pack.main_arg12) = m ((c.tc : Thread Cert.Pack.nD Cert.Pack.τ).loc Cert.Pack.main_arg12)
      ∧ r.2.mem ((c.tc : Thread Cert.Pack.nD Cert.Pack.τ).loc Cert.Pack.main_arg13) = m ((c.tc : Thread Cert.Pack.nD Cert.Pack.τ).loc Cert.Pack.main_arg13)
      ∧ r.2.mem ((c.tc : Thread Cert.Pack.nD Cert.Pack.τ).loc Cert.Pack.main_arg14) = m ((c.tc : Thread Cert.Pack.nD Cert.Pack.τ).loc Cert.Pack.main_arg14)
      ∧ r.2.mem ((c.tc : Thread Cert.Pack.nD Cert.Pack.τ).loc Cert.Pack.main_arg15) = m ((c.tc : Thread Cert.Pack.nD Cert.Pack.τ).loc Cert.Pack.main_arg15))
      ∧ r.2.sem = fun _ => 0)

def quiescent_PackIdeal [hPackIdeal : Cert.PackIdeal.Facts] : Prop :=
  ∀ (m : (ℓ : Loc Cert.PackIdeal.nD Cert.PackIdeal.τ Cert.PackIdeal.sig) → Buf (Elt Ideal) ℓ) (g : Dev Cert.PackIdeal.nD → PrngReg), Pre_PackIdeal m →
    θ_run (Cert.PackIdeal.defs (F := Ideal)) (onTc (τ := Cert.PackIdeal.τ) (Cert.PackIdeal.main (F := Ideal))) ⟨m, fun _ => 0, g⟩ (fun r => (∀ c : Dev Cert.PackIdeal.nD,
      r.2.mem ((c.tc : Thread Cert.PackIdeal.nD Cert.PackIdeal.τ).loc Cert.PackIdeal.main_arg0) = m ((c.tc : Thread Cert.PackIdeal.nD Cert.PackIdeal.τ).loc Cert.PackIdeal.main_arg0)
      ∧ r.2.mem ((c.tc : Thread Cert.PackIdeal.nD Cert.PackIdeal.τ).loc Cert.PackIdeal.main_arg1) = m ((c.tc : Thread Cert.PackIdeal.nD Cert.PackIdeal.τ).loc Cert.PackIdeal.main_arg1)
      ∧ r.2.mem ((c.tc : Thread Cert.PackIdeal.nD Cert.PackIdeal.τ).loc Cert.PackIdeal.main_arg2) = m ((c.tc : Thread Cert.PackIdeal.nD Cert.PackIdeal.τ).loc Cert.PackIdeal.main_arg2)
      ∧ r.2.mem ((c.tc : Thread Cert.PackIdeal.nD Cert.PackIdeal.τ).loc Cert.PackIdeal.main_arg3) = m ((c.tc : Thread Cert.PackIdeal.nD Cert.PackIdeal.τ).loc Cert.PackIdeal.main_arg3)
      ∧ r.2.mem ((c.tc : Thread Cert.PackIdeal.nD Cert.PackIdeal.τ).loc Cert.PackIdeal.main_arg4) = m ((c.tc : Thread Cert.PackIdeal.nD Cert.PackIdeal.τ).loc Cert.PackIdeal.main_arg4)
      ∧ r.2.mem ((c.tc : Thread Cert.PackIdeal.nD Cert.PackIdeal.τ).loc Cert.PackIdeal.main_arg5) = m ((c.tc : Thread Cert.PackIdeal.nD Cert.PackIdeal.τ).loc Cert.PackIdeal.main_arg5)
      ∧ r.2.mem ((c.tc : Thread Cert.PackIdeal.nD Cert.PackIdeal.τ).loc Cert.PackIdeal.main_arg6) = m ((c.tc : Thread Cert.PackIdeal.nD Cert.PackIdeal.τ).loc Cert.PackIdeal.main_arg6)
      ∧ r.2.mem ((c.tc : Thread Cert.PackIdeal.nD Cert.PackIdeal.τ).loc Cert.PackIdeal.main_arg7) = m ((c.tc : Thread Cert.PackIdeal.nD Cert.PackIdeal.τ).loc Cert.PackIdeal.main_arg7)
      ∧ r.2.mem ((c.tc : Thread Cert.PackIdeal.nD Cert.PackIdeal.τ).loc Cert.PackIdeal.main_arg8) = m ((c.tc : Thread Cert.PackIdeal.nD Cert.PackIdeal.τ).loc Cert.PackIdeal.main_arg8)
      ∧ r.2.mem ((c.tc : Thread Cert.PackIdeal.nD Cert.PackIdeal.τ).loc Cert.PackIdeal.main_arg9) = m ((c.tc : Thread Cert.PackIdeal.nD Cert.PackIdeal.τ).loc Cert.PackIdeal.main_arg9)
      ∧ r.2.mem ((c.tc : Thread Cert.PackIdeal.nD Cert.PackIdeal.τ).loc Cert.PackIdeal.main_arg10) = m ((c.tc : Thread Cert.PackIdeal.nD Cert.PackIdeal.τ).loc Cert.PackIdeal.main_arg10)
      ∧ r.2.mem ((c.tc : Thread Cert.PackIdeal.nD Cert.PackIdeal.τ).loc Cert.PackIdeal.main_arg11) = m ((c.tc : Thread Cert.PackIdeal.nD Cert.PackIdeal.τ).loc Cert.PackIdeal.main_arg11)
      ∧ r.2.mem ((c.tc : Thread Cert.PackIdeal.nD Cert.PackIdeal.τ).loc Cert.PackIdeal.main_arg12) = m ((c.tc : Thread Cert.PackIdeal.nD Cert.PackIdeal.τ).loc Cert.PackIdeal.main_arg12)
      ∧ r.2.mem ((c.tc : Thread Cert.PackIdeal.nD Cert.PackIdeal.τ).loc Cert.PackIdeal.main_arg13) = m ((c.tc : Thread Cert.PackIdeal.nD Cert.PackIdeal.τ).loc Cert.PackIdeal.main_arg13)
      ∧ r.2.mem ((c.tc : Thread Cert.PackIdeal.nD Cert.PackIdeal.τ).loc Cert.PackIdeal.main_arg14) = m ((c.tc : Thread Cert.PackIdeal.nD Cert.PackIdeal.τ).loc Cert.PackIdeal.main_arg14)
      ∧ r.2.mem ((c.tc : Thread Cert.PackIdeal.nD Cert.PackIdeal.τ).loc Cert.PackIdeal.main_arg15) = m ((c.tc : Thread Cert.PackIdeal.nD Cert.PackIdeal.τ).loc Cert.PackIdeal.main_arg15))
      ∧ r.2.sem = fun _ => 0)

def quiescent_PackRefIdeal [hPackRefIdeal : Cert.PackRefIdeal.Facts] : Prop :=
  ∀ (m : (ℓ : Loc Cert.PackRefIdeal.nD Cert.PackRefIdeal.τ Cert.PackRefIdeal.sig) → Buf (Elt Ideal) ℓ) (g : Dev Cert.PackRefIdeal.nD → PrngReg), Pre_PackRefIdeal m →
    θ_run (Cert.PackRefIdeal.defs (F := Ideal)) (onTc (τ := Cert.PackRefIdeal.τ) (Cert.PackRefIdeal.main (F := Ideal))) ⟨m, fun _ => 0, g⟩ (fun r => (∀ c : Dev Cert.PackRefIdeal.nD,
      r.2.mem ((c.tc : Thread Cert.PackRefIdeal.nD Cert.PackRefIdeal.τ).loc Cert.PackRefIdeal.main_arg0) = m ((c.tc : Thread Cert.PackRefIdeal.nD Cert.PackRefIdeal.τ).loc Cert.PackRefIdeal.main_arg0)
      ∧ r.2.mem ((c.tc : Thread Cert.PackRefIdeal.nD Cert.PackRefIdeal.τ).loc Cert.PackRefIdeal.main_arg1) = m ((c.tc : Thread Cert.PackRefIdeal.nD Cert.PackRefIdeal.τ).loc Cert.PackRefIdeal.main_arg1)
      ∧ r.2.mem ((c.tc : Thread Cert.PackRefIdeal.nD Cert.PackRefIdeal.τ).loc Cert.PackRefIdeal.main_arg2) = m ((c.tc : Thread Cert.PackRefIdeal.nD Cert.PackRefIdeal.τ).loc Cert.PackRefIdeal.main_arg2)
      ∧ r.2.mem ((c.tc : Thread Cert.PackRefIdeal.nD Cert.PackRefIdeal.τ).loc Cert.PackRefIdeal.main_arg3) = m ((c.tc : Thread Cert.PackRefIdeal.nD Cert.PackRefIdeal.τ).loc Cert.PackRefIdeal.main_arg3)
      ∧ r.2.mem ((c.tc : Thread Cert.PackRefIdeal.nD Cert.PackRefIdeal.τ).loc Cert.PackRefIdeal.main_arg4) = m ((c.tc : Thread Cert.PackRefIdeal.nD Cert.PackRefIdeal.τ).loc Cert.PackRefIdeal.main_arg4)
      ∧ r.2.mem ((c.tc : Thread Cert.PackRefIdeal.nD Cert.PackRefIdeal.τ).loc Cert.PackRefIdeal.main_arg5) = m ((c.tc : Thread Cert.PackRefIdeal.nD Cert.PackRefIdeal.τ).loc Cert.PackRefIdeal.main_arg5)
      ∧ r.2.mem ((c.tc : Thread Cert.PackRefIdeal.nD Cert.PackRefIdeal.τ).loc Cert.PackRefIdeal.main_arg6) = m ((c.tc : Thread Cert.PackRefIdeal.nD Cert.PackRefIdeal.τ).loc Cert.PackRefIdeal.main_arg6)
      ∧ r.2.mem ((c.tc : Thread Cert.PackRefIdeal.nD Cert.PackRefIdeal.τ).loc Cert.PackRefIdeal.main_arg7) = m ((c.tc : Thread Cert.PackRefIdeal.nD Cert.PackRefIdeal.τ).loc Cert.PackRefIdeal.main_arg7)
      ∧ r.2.mem ((c.tc : Thread Cert.PackRefIdeal.nD Cert.PackRefIdeal.τ).loc Cert.PackRefIdeal.main_arg8) = m ((c.tc : Thread Cert.PackRefIdeal.nD Cert.PackRefIdeal.τ).loc Cert.PackRefIdeal.main_arg8)
      ∧ r.2.mem ((c.tc : Thread Cert.PackRefIdeal.nD Cert.PackRefIdeal.τ).loc Cert.PackRefIdeal.main_arg9) = m ((c.tc : Thread Cert.PackRefIdeal.nD Cert.PackRefIdeal.τ).loc Cert.PackRefIdeal.main_arg9)
      ∧ r.2.mem ((c.tc : Thread Cert.PackRefIdeal.nD Cert.PackRefIdeal.τ).loc Cert.PackRefIdeal.main_arg10) = m ((c.tc : Thread Cert.PackRefIdeal.nD Cert.PackRefIdeal.τ).loc Cert.PackRefIdeal.main_arg10)
      ∧ r.2.mem ((c.tc : Thread Cert.PackRefIdeal.nD Cert.PackRefIdeal.τ).loc Cert.PackRefIdeal.main_arg11) = m ((c.tc : Thread Cert.PackRefIdeal.nD Cert.PackRefIdeal.τ).loc Cert.PackRefIdeal.main_arg11)
      ∧ r.2.mem ((c.tc : Thread Cert.PackRefIdeal.nD Cert.PackRefIdeal.τ).loc Cert.PackRefIdeal.main_arg12) = m ((c.tc : Thread Cert.PackRefIdeal.nD Cert.PackRefIdeal.τ).loc Cert.PackRefIdeal.main_arg12)
      ∧ r.2.mem ((c.tc : Thread Cert.PackRefIdeal.nD Cert.PackRefIdeal.τ).loc Cert.PackRefIdeal.main_arg13) = m ((c.tc : Thread Cert.PackRefIdeal.nD Cert.PackRefIdeal.τ).loc Cert.PackRefIdeal.main_arg13)
      ∧ r.2.mem ((c.tc : Thread Cert.PackRefIdeal.nD Cert.PackRefIdeal.τ).loc Cert.PackRefIdeal.main_arg14) = m ((c.tc : Thread Cert.PackRefIdeal.nD Cert.PackRefIdeal.τ).loc Cert.PackRefIdeal.main_arg14)
      ∧ r.2.mem ((c.tc : Thread Cert.PackRefIdeal.nD Cert.PackRefIdeal.τ).loc Cert.PackRefIdeal.main_arg15) = m ((c.tc : Thread Cert.PackRefIdeal.nD Cert.PackRefIdeal.τ).loc Cert.PackRefIdeal.main_arg15))
      ∧ r.2.sem = fun _ => 0)

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)) →
    ∃ (v0 : (c : Dev Cert.PleIdeal.nD) → Buf (Elt Ideal) ((c.tc : Thread Cert.PleIdeal.nD Cert.PleIdeal.τ).loc Cert.PleIdeal.main_v8_0)) (v1 : (c : Dev Cert.PleIdeal.nD) → Buf (Elt Ideal) ((c.tc : Thread Cert.PleIdeal.nD Cert.PleIdeal.τ).loc Cert.PleIdeal.main_v8_1)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v8_0) = v0 c
          ∧ r.2.mem ((c.tc : Thread Cert.PleIdeal.nD Cert.PleIdeal.τ).loc Cert.PleIdeal.main_v8_1) = v1 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v13) = v0 c
          ∧ r.2.mem ((c.tc : Thread Cert.PleRefIdeal.nD Cert.PleRefIdeal.τ).loc Cert.PleRefIdeal.main_v14) = v1 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2))

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)) →
    ∃ (v0 : (c : Dev Cert.GluIdeal.nD) → Buf (Elt Ideal) ((c.tc : Thread Cert.GluIdeal.nD Cert.GluIdeal.τ).loc Cert.GluIdeal.main_v11)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v11) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v16) = v0 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1))

def preserves_Gmlp_GmlpIdeal : Prop :=
  IdealRules.named_const.Statement Cert.GmlpIdeal.κ "cube" .f32 0x3D372713#32 ((8943 / 200000 : ℝ) : EReal)
  ∧ IdealRules.named_const.Statement Cert.GmlpIdeal.κ "cube3" .f32 0x3E095D4F#32 ((26829 / 200000 : ℝ) : EReal)

def algebraic_GmlpIdeal_GmlpRefIdeal_pre_finite_gmlp [hGmlpIdeal : Cert.GmlpIdeal.Facts] [hGmlpRefIdeal : Cert.GmlpRefIdeal.Facts] [hPre_finite_gmlp : Cert.Pre_finite_gmlp.Facts] : Prop :=
  ∀ (m : (ℓ : Loc Cert.GmlpIdeal.nD Cert.GmlpIdeal.τ Cert.GmlpIdeal.sig) → Buf (Elt Ideal) ℓ) (g : Dev Cert.GmlpIdeal.nD → PrngReg)
    (m' : (ℓ : Loc Cert.GmlpRefIdeal.nD Cert.GmlpRefIdeal.τ Cert.GmlpRefIdeal.sig) → Buf (Elt Ideal) ℓ) (g' : Dev Cert.GmlpRefIdeal.nD → PrngReg), Pre_GmlpIdeal_finite_gmlp m →
    (∀ c : Dev Cert.GmlpIdeal.nD,
      m' ((c.tc : Thread Cert.GmlpRefIdeal.nD Cert.GmlpRefIdeal.τ).loc Cert.GmlpRefIdeal.main_arg0) = m ((c.tc : Thread Cert.GmlpIdeal.nD Cert.GmlpIdeal.τ).loc Cert.GmlpIdeal.main_arg0)
      ∧ m' ((c.tc : Thread Cert.GmlpRefIdeal.nD Cert.GmlpRefIdeal.τ).loc Cert.GmlpRefIdeal.main_arg1) = m ((c.tc : Thread Cert.GmlpIdeal.nD Cert.GmlpIdeal.τ).loc Cert.GmlpIdeal.main_arg1)
      ∧ m' ((c.tc : Thread Cert.GmlpRefIdeal.nD Cert.GmlpRefIdeal.τ).loc Cert.GmlpRefIdeal.main_arg2) = m ((c.tc : Thread Cert.GmlpIdeal.nD Cert.GmlpIdeal.τ).loc Cert.GmlpIdeal.main_arg2)
      ∧ m' ((c.tc : Thread Cert.GmlpRefIdeal.nD Cert.GmlpRefIdeal.τ).loc Cert.GmlpRefIdeal.main_arg3) = m ((c.tc : Thread Cert.GmlpIdeal.nD Cert.GmlpIdeal.τ).loc Cert.GmlpIdeal.main_arg3)
      ∧ m' ((c.tc : Thread Cert.GmlpRefIdeal.nD Cert.GmlpRefIdeal.τ).loc Cert.GmlpRefIdeal.main_arg4) = m ((c.tc : Thread Cert.GmlpIdeal.nD Cert.GmlpIdeal.τ).loc Cert.GmlpIdeal.main_arg4)
      ∧ m' ((c.tc : Thread Cert.GmlpRefIdeal.nD Cert.GmlpRefIdeal.τ).loc Cert.GmlpRefIdeal.main_arg5) = m ((c.tc : Thread Cert.GmlpIdeal.nD Cert.GmlpIdeal.τ).loc Cert.GmlpIdeal.main_arg5)) →
    ∃ (v0 : (c : Dev Cert.GmlpIdeal.nD) → Buf (Elt Ideal) ((c.tc : Thread Cert.GmlpIdeal.nD Cert.GmlpIdeal.τ).loc Cert.GmlpIdeal.main_v3_0)) (v1 : (c : Dev Cert.GmlpIdeal.nD) → Buf (Elt Ideal) ((c.tc : Thread Cert.GmlpIdeal.nD Cert.GmlpIdeal.τ).loc Cert.GmlpIdeal.main_v3_1)) (v2 : (c : Dev Cert.GmlpIdeal.nD) → Buf (Elt Ideal) ((c.tc : Thread Cert.GmlpIdeal.nD Cert.GmlpIdeal.τ).loc Cert.GmlpIdeal.main_v3_2)) (v3 : (c : Dev Cert.GmlpIdeal.nD) → Buf (Elt Ideal) ((c.tc : Thread Cert.GmlpIdeal.nD Cert.GmlpIdeal.τ).loc Cert.GmlpIdeal.main_v3_3)) (v4 : (c : Dev Cert.GmlpIdeal.nD) → Buf (Elt Ideal) ((c.tc : Thread Cert.GmlpIdeal.nD Cert.GmlpIdeal.τ).loc Cert.GmlpIdeal.main_v3_4)),
      θ_run (Cert.GmlpIdeal.defs (F := Ideal)) (onTc (τ := Cert.GmlpIdeal.τ) (Cert.GmlpIdeal.main (F := Ideal))) ⟨m, fun _ => 0, g⟩ (fun r => ∀ c : Dev Cert.GmlpIdeal.nD,
          r.2.mem ((c.tc : Thread Cert.GmlpIdeal.nD Cert.GmlpIdeal.τ).loc Cert.GmlpIdeal.main_v3_0) = v0 c
          ∧ r.2.mem ((c.tc : Thread Cert.GmlpIdeal.nD Cert.GmlpIdeal.τ).loc Cert.GmlpIdeal.main_v3_1) = v1 c
          ∧ r.2.mem ((c.tc : Thread Cert.GmlpIdeal.nD Cert.GmlpIdeal.τ).loc Cert.GmlpIdeal.main_v3_2) = v2 c
          ∧ r.2.mem ((c.tc : Thread Cert.GmlpIdeal.nD Cert.GmlpIdeal.τ).loc Cert.GmlpIdeal.main_v3_3) = v3 c
          ∧ r.2.mem ((c.tc : Thread Cert.GmlpIdeal.nD Cert.GmlpIdeal.τ).loc Cert.GmlpIdeal.main_v3_4) = v4 c
          ∧ r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
          ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
          ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
          ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3)
          ∧ r.2.mem ((c.tc : Thread Cert.GmlpIdeal.nD Cert.GmlpIdeal.τ).loc Cert.GmlpIdeal.main_arg4) = m ((c.tc : Thread Cert.GmlpIdeal.nD Cert.GmlpIdeal.τ).loc Cert.GmlpIdeal.main_arg4)
          ∧ r.2.mem ((c.tc : Thread Cert.GmlpIdeal.nD Cert.GmlpIdeal.τ).loc Cert.GmlpIdeal.main_arg5) = m ((c.tc : Thread Cert.GmlpIdeal.nD Cert.GmlpIdeal.τ).loc Cert.GmlpIdeal.main_arg5))
      ∧ θ_run (Cert.GmlpRefIdeal.defs (F := Ideal)) (onTc (τ := Cert.GmlpRefIdeal.τ) (Cert.GmlpRefIdeal.main (F := Ideal))) ⟨m', fun _ => 0, g'⟩ (fun r => ∀ c : Dev Cert.GmlpRefIdeal.nD,
          r.2.mem ((c.tc : Thread Cert.GmlpRefIdeal.nD Cert.GmlpRefIdeal.τ).loc Cert.GmlpRefIdeal.main_v126) = v0 c
          ∧ r.2.mem ((c.tc : Thread Cert.GmlpRefIdeal.nD Cert.GmlpRefIdeal.τ).loc Cert.GmlpRefIdeal.main_v80) = v1 c
          ∧ r.2.mem ((c.tc : Thread Cert.GmlpRefIdeal.nD Cert.GmlpRefIdeal.τ).loc Cert.GmlpRefIdeal.main_v128) = v2 c
          ∧ r.2.mem ((c.tc : Thread Cert.GmlpRefIdeal.nD Cert.GmlpRefIdeal.τ).loc Cert.GmlpRefIdeal.main_v129) = v3 c
          ∧ r.2.mem ((c.tc : Thread Cert.GmlpRefIdeal.nD Cert.GmlpRefIdeal.τ).loc Cert.GmlpRefIdeal.main_v130) = v4 c
          ∧ r.2.mem ((c.tc : Thread Cert.GmlpRefIdeal.nD Cert.GmlpRefIdeal.τ).loc Cert.GmlpRefIdeal.main_arg0) = m' ((c.tc : Thread Cert.GmlpRefIdeal.nD Cert.GmlpRefIdeal.τ).loc Cert.GmlpRefIdeal.main_arg0)
          ∧ r.2.mem ((c.tc : Thread Cert.GmlpRefIdeal.nD Cert.GmlpRefIdeal.τ).loc Cert.GmlpRefIdeal.main_arg1) = m' ((c.tc : Thread Cert.GmlpRefIdeal.nD Cert.GmlpRefIdeal.τ).loc Cert.GmlpRefIdeal.main_arg1)
          ∧ r.2.mem ((c.tc : Thread Cert.GmlpRefIdeal.nD Cert.GmlpRefIdeal.τ).loc Cert.GmlpRefIdeal.main_arg2) = m' ((c.tc : Thread Cert.GmlpRefIdeal.nD Cert.GmlpRefIdeal.τ).loc Cert.GmlpRefIdeal.main_arg2)
          ∧ r.2.mem ((c.tc : Thread Cert.GmlpRefIdeal.nD Cert.GmlpRefIdeal.τ).loc Cert.GmlpRefIdeal.main_arg3) = m' ((c.tc : Thread Cert.GmlpRefIdeal.nD Cert.GmlpRefIdeal.τ).loc Cert.GmlpRefIdeal.main_arg3)
          ∧ r.2.mem ((c.tc : Thread Cert.GmlpRefIdeal.nD Cert.GmlpRefIdeal.τ).loc Cert.GmlpRefIdeal.main_arg4) = m' ((c.tc : Thread Cert.GmlpRefIdeal.nD Cert.GmlpRefIdeal.τ).loc Cert.GmlpRefIdeal.main_arg4)
          ∧ r.2.mem ((c.tc : Thread Cert.GmlpRefIdeal.nD Cert.GmlpRefIdeal.τ).loc Cert.GmlpRefIdeal.main_arg5) = m' ((c.tc : Thread Cert.GmlpRefIdeal.nD Cert.GmlpRefIdeal.τ).loc Cert.GmlpRefIdeal.main_arg5))

def preserves_RmsBwd_RmsBwdIdeal : Prop :=
  True

def algebraic_RmsBwdIdeal_RmsRefIdeal_pre_finite_rms [hRmsBwdIdeal : Cert.RmsBwdIdeal.Facts] [hRmsRefIdeal : Cert.RmsRefIdeal.Facts] [hPre_finite_rms : Cert.Pre_finite_rms.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg)
    (m' : (ℓ : Loc Cert.RmsRefIdeal.nD Cert.RmsRefIdeal.τ Cert.RmsRefIdeal.sig) → Buf (Elt Ideal) ℓ) (g' : Dev Cert.RmsRefIdeal.nD → PrngReg), Pre_RmsBwdIdeal_finite_rms m →
    (∀ c : Dev Cert.RmsBwdIdeal.nD,
      m' ((c.tc : Thread Cert.RmsRefIdeal.nD Cert.RmsRefIdeal.τ).loc Cert.RmsRefIdeal.main_arg0) = m ((c.tc : Thread Cert.RmsBwdIdeal.nD Cert.RmsBwdIdeal.τ).loc Cert.RmsBwdIdeal.main_arg0)
      ∧ m' ((c.tc : Thread Cert.RmsRefIdeal.nD Cert.RmsRefIdeal.τ).loc Cert.RmsRefIdeal.main_arg1) = m ((c.tc : Thread Cert.RmsBwdIdeal.nD Cert.RmsBwdIdeal.τ).loc Cert.RmsBwdIdeal.main_arg1)
      ∧ m' ((c.tc : Thread Cert.RmsRefIdeal.nD Cert.RmsRefIdeal.τ).loc Cert.RmsRefIdeal.main_arg2) = m ((c.tc : Thread Cert.RmsBwdIdeal.nD Cert.RmsBwdIdeal.τ).loc Cert.RmsBwdIdeal.main_arg2)
      ∧ m' ((c.tc : Thread Cert.RmsRefIdeal.nD Cert.RmsRefIdeal.τ).loc Cert.RmsRefIdeal.main_arg3) = m ((c.tc : Thread Cert.RmsBwdIdeal.nD Cert.RmsBwdIdeal.τ).loc Cert.RmsBwdIdeal.main_arg3)) →
    ∃ (v0 : (c : Dev Cert.RmsBwdIdeal.nD) → Buf (Elt Ideal) ((c.tc : Thread Cert.RmsBwdIdeal.nD Cert.RmsBwdIdeal.τ).loc Cert.RmsBwdIdeal.main_v1_0)) (v1 : (c : Dev Cert.RmsBwdIdeal.nD) → Buf (Elt Ideal) ((c.tc : Thread Cert.RmsBwdIdeal.nD Cert.RmsBwdIdeal.τ).loc Cert.RmsBwdIdeal.main_v1_1)) (v2 : (c : Dev Cert.RmsBwdIdeal.nD) → Buf (Elt Ideal) ((c.tc : Thread Cert.RmsBwdIdeal.nD Cert.RmsBwdIdeal.τ).loc Cert.RmsBwdIdeal.main_v1_2)),
      θ_run (Cert.RmsBwdIdeal.defs (F := Ideal)) (onTc (τ := Cert.RmsBwdIdeal.τ) (Cert.RmsBwdIdeal.main (F := Ideal))) ⟨m, fun _ => 0, g⟩ (fun r => ∀ c : Dev Cert.RmsBwdIdeal.nD,
          r.2.mem ((c.tc : Thread Cert.RmsBwdIdeal.nD Cert.RmsBwdIdeal.τ).loc Cert.RmsBwdIdeal.main_v1_0) = v0 c
          ∧ r.2.mem ((c.tc : Thread Cert.RmsBwdIdeal.nD Cert.RmsBwdIdeal.τ).loc Cert.RmsBwdIdeal.main_v1_1) = v1 c
          ∧ r.2.mem ((c.tc : Thread Cert.RmsBwdIdeal.nD Cert.RmsBwdIdeal.τ).loc Cert.RmsBwdIdeal.main_v1_2) = v2 c
          ∧ r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
          ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
          ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
          ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ θ_run (Cert.RmsRefIdeal.defs (F := Ideal)) (onTc (τ := Cert.RmsRefIdeal.τ) (Cert.RmsRefIdeal.main (F := Ideal))) ⟨m', fun _ => 0, g'⟩ (fun r => ∀ c : Dev Cert.RmsRefIdeal.nD,
          r.2.mem ((c.tc : Thread Cert.RmsRefIdeal.nD Cert.RmsRefIdeal.τ).loc Cert.RmsRefIdeal.main_v36) = v0 c
          ∧ r.2.mem ((c.tc : Thread Cert.RmsRefIdeal.nD Cert.RmsRefIdeal.τ).loc Cert.RmsRefIdeal.main_v37) = v1 c
          ∧ r.2.mem ((c.tc : Thread Cert.RmsRefIdeal.nD Cert.RmsRefIdeal.τ).loc Cert.RmsRefIdeal.main_v38) = v2 c
          ∧ r.2.mem ((c.tc : Thread Cert.RmsRefIdeal.nD Cert.RmsRefIdeal.τ).loc Cert.RmsRefIdeal.main_arg0) = m' ((c.tc : Thread Cert.RmsRefIdeal.nD Cert.RmsRefIdeal.τ).loc Cert.RmsRefIdeal.main_arg0)
          ∧ r.2.mem ((c.tc : Thread Cert.RmsRefIdeal.nD Cert.RmsRefIdeal.τ).loc Cert.RmsRefIdeal.main_arg1) = m' ((c.tc : Thread Cert.RmsRefIdeal.nD Cert.RmsRefIdeal.τ).loc Cert.RmsRefIdeal.main_arg1)
          ∧ r.2.mem ((c.tc : Thread Cert.RmsRefIdeal.nD Cert.RmsRefIdeal.τ).loc Cert.RmsRefIdeal.main_arg2) = m' ((c.tc : Thread Cert.RmsRefIdeal.nD Cert.RmsRefIdeal.τ).loc Cert.RmsRefIdeal.main_arg2)
          ∧ r.2.mem ((c.tc : Thread Cert.RmsRefIdeal.nD Cert.RmsRefIdeal.τ).loc Cert.RmsRefIdeal.main_arg3) = m' ((c.tc : Thread Cert.RmsRefIdeal.nD Cert.RmsRefIdeal.τ).loc Cert.RmsRefIdeal.main_arg3))

def preserves_Loss_LossIdeal : Prop :=
  True

def algebraic_LossIdeal_LossRefIdeal_pre_finite_loss [hLossIdeal : Cert.LossIdeal.Facts] [hLossRefIdeal : Cert.LossRefIdeal.Facts] [hPre_finite_loss : Cert.Pre_finite_loss.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_finite_loss m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)) →
    ∃ (v0 : (c : Dev Cert.LossIdeal.nD) → Buf (Elt Ideal) ((c.tc : Thread Cert.LossIdeal.nD Cert.LossIdeal.τ).loc Cert.LossIdeal.main_v11_0)) (v1 : (c : Dev Cert.LossIdeal.nD) → Buf (Elt Ideal) ((c.tc : Thread Cert.LossIdeal.nD Cert.LossIdeal.τ).loc Cert.LossIdeal.main_v11_1)) (v2 : (c : Dev Cert.LossIdeal.nD) → Buf (Elt Ideal) ((c.tc : Thread Cert.LossIdeal.nD Cert.LossIdeal.τ).loc Cert.LossIdeal.main_v11_2)) (v3 : (c : Dev Cert.LossIdeal.nD) → Buf (Elt Ideal) ((c.tc : Thread Cert.LossIdeal.nD Cert.LossIdeal.τ).loc Cert.LossIdeal.main_v11_3)) (v4 : (c : Dev Cert.LossIdeal.nD) → Buf (Elt Ideal) ((c.tc : Thread Cert.LossIdeal.nD Cert.LossIdeal.τ).loc Cert.LossIdeal.main_v11_4)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v11_0) = v0 c
          ∧ r.2.mem ((c.tc : Thread Cert.LossIdeal.nD Cert.LossIdeal.τ).loc Cert.LossIdeal.main_v11_1) = v1 c
          ∧ r.2.mem ((c.tc : Thread Cert.LossIdeal.nD Cert.LossIdeal.τ).loc Cert.LossIdeal.main_v11_2) = v2 c
          ∧ r.2.mem ((c.tc : Thread Cert.LossIdeal.nD Cert.LossIdeal.τ).loc Cert.LossIdeal.main_v11_3) = v3 c
          ∧ r.2.mem ((c.tc : Thread Cert.LossIdeal.nD Cert.LossIdeal.τ).loc Cert.LossIdeal.main_v11_4) = v4 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v61) = v0 c
          ∧ r.2.mem ((c.tc : Thread Cert.LossRefIdeal.nD Cert.LossRefIdeal.τ).loc Cert.LossRefIdeal.main_v65) = v1 c
          ∧ r.2.mem ((c.tc : Thread Cert.LossRefIdeal.nD Cert.LossRefIdeal.τ).loc Cert.LossRefIdeal.main_v66) = v2 c
          ∧ r.2.mem ((c.tc : Thread Cert.LossRefIdeal.nD Cert.LossRefIdeal.τ).loc Cert.LossRefIdeal.main_v67) = v3 c
          ∧ r.2.mem ((c.tc : Thread Cert.LossRefIdeal.nD Cert.LossRefIdeal.τ).loc Cert.LossRefIdeal.main_v68) = v4 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4))

def preserves_Prep_PrepIdeal : Prop :=
  True

def algebraic_PrepIdeal_PrepRefIdeal_pre_tame_prep [hPrepIdeal : Cert.PrepIdeal.Facts] [hPrepRefIdeal : Cert.PrepRefIdeal.Facts] [hPre_tame_prep : Cert.Pre_tame_prep.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal_tame_prep m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)
      ∧ m' ((c.tc : Thread Cert.PrepRefIdeal.nD Cert.PrepRefIdeal.τ).loc Cert.PrepRefIdeal.main_arg3) = m ((c.tc : Thread Cert.PrepIdeal.nD Cert.PrepIdeal.τ).loc Cert.PrepIdeal.main_arg3)
      ∧ m' ((c.tc : Thread Cert.PrepRefIdeal.nD Cert.PrepRefIdeal.τ).loc Cert.PrepRefIdeal.main_arg4) = m ((c.tc : Thread Cert.PrepIdeal.nD Cert.PrepIdeal.τ).loc Cert.PrepIdeal.main_arg4)
      ∧ m' ((c.tc : Thread Cert.PrepRefIdeal.nD Cert.PrepRefIdeal.τ).loc Cert.PrepRefIdeal.main_arg5) = m ((c.tc : Thread Cert.PrepIdeal.nD Cert.PrepIdeal.τ).loc Cert.PrepIdeal.main_arg5)
      ∧ m' ((c.tc : Thread Cert.PrepRefIdeal.nD Cert.PrepRefIdeal.τ).loc Cert.PrepRefIdeal.main_arg6) = m ((c.tc : Thread Cert.PrepIdeal.nD Cert.PrepIdeal.τ).loc Cert.PrepIdeal.main_arg6)
      ∧ m' ((c.tc : Thread Cert.PrepRefIdeal.nD Cert.PrepRefIdeal.τ).loc Cert.PrepRefIdeal.main_arg7) = m ((c.tc : Thread Cert.PrepIdeal.nD Cert.PrepIdeal.τ).loc Cert.PrepIdeal.main_arg7)
      ∧ m' ((c.tc : Thread Cert.PrepRefIdeal.nD Cert.PrepRefIdeal.τ).loc Cert.PrepRefIdeal.main_arg8) = m ((c.tc : Thread Cert.PrepIdeal.nD Cert.PrepIdeal.τ).loc Cert.PrepIdeal.main_arg8)) →
    ∃ (v0 : (c : Dev Cert.PrepIdeal.nD) → Buf (Elt Ideal) ((c.tc : Thread Cert.PrepIdeal.nD Cert.PrepIdeal.τ).loc Cert.PrepIdeal.main_v12_0)) (v1 : (c : Dev Cert.PrepIdeal.nD) → Buf (Elt Ideal) ((c.tc : Thread Cert.PrepIdeal.nD Cert.PrepIdeal.τ).loc Cert.PrepIdeal.main_v12_1)) (v2 : (c : Dev Cert.PrepIdeal.nD) → Buf (Elt Ideal) ((c.tc : Thread Cert.PrepIdeal.nD Cert.PrepIdeal.τ).loc Cert.PrepIdeal.main_v12_2)) (v3 : (c : Dev Cert.PrepIdeal.nD) → Buf (Elt Ideal) ((c.tc : Thread Cert.PrepIdeal.nD Cert.PrepIdeal.τ).loc Cert.PrepIdeal.main_v12_3)) (v4 : (c : Dev Cert.PrepIdeal.nD) → Buf (Elt Ideal) ((c.tc : Thread Cert.PrepIdeal.nD Cert.PrepIdeal.τ).loc Cert.PrepIdeal.main_v12_4)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v12_0) = v0 c
          ∧ r.2.mem ((c.tc : Thread Cert.PrepIdeal.nD Cert.PrepIdeal.τ).loc Cert.PrepIdeal.main_v12_1) = v1 c
          ∧ r.2.mem ((c.tc : Thread Cert.PrepIdeal.nD Cert.PrepIdeal.τ).loc Cert.PrepIdeal.main_v12_2) = v2 c
          ∧ r.2.mem ((c.tc : Thread Cert.PrepIdeal.nD Cert.PrepIdeal.τ).loc Cert.PrepIdeal.main_v12_3) = v3 c
          ∧ r.2.mem ((c.tc : Thread Cert.PrepIdeal.nD Cert.PrepIdeal.τ).loc Cert.PrepIdeal.main_v12_4) = v4 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
          ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
          ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
          ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
          ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v156) = v0 c
          ∧ r.2.mem ((c.tc : Thread Cert.PrepRefIdeal.nD Cert.PrepRefIdeal.τ).loc Cert.PrepRefIdeal.main_v157) = v1 c
          ∧ r.2.mem ((c.tc : Thread Cert.PrepRefIdeal.nD Cert.PrepRefIdeal.τ).loc Cert.PrepRefIdeal.main_v158) = v2 c
          ∧ r.2.mem ((c.tc : Thread Cert.PrepRefIdeal.nD Cert.PrepRefIdeal.τ).loc Cert.PrepRefIdeal.main_v159) = v3 c
          ∧ r.2.mem ((c.tc : Thread Cert.PrepRefIdeal.nD Cert.PrepRefIdeal.τ).loc Cert.PrepRefIdeal.main_v160) = v4 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3)
          ∧ r.2.mem ((c.tc : Thread Cert.PrepRefIdeal.nD Cert.PrepRefIdeal.τ).loc Cert.PrepRefIdeal.main_arg4) = m' ((c.tc : Thread Cert.PrepRefIdeal.nD Cert.PrepRefIdeal.τ).loc Cert.PrepRefIdeal.main_arg4)
          ∧ r.2.mem ((c.tc : Thread Cert.PrepRefIdeal.nD Cert.PrepRefIdeal.τ).loc Cert.PrepRefIdeal.main_arg5) = m' ((c.tc : Thread Cert.PrepRefIdeal.nD Cert.PrepRefIdeal.τ).loc Cert.PrepRefIdeal.main_arg5)
          ∧ r.2.mem ((c.tc : Thread Cert.PrepRefIdeal.nD Cert.PrepRefIdeal.τ).loc Cert.PrepRefIdeal.main_arg6) = m' ((c.tc : Thread Cert.PrepRefIdeal.nD Cert.PrepRefIdeal.τ).loc Cert.PrepRefIdeal.main_arg6)
          ∧ r.2.mem ((c.tc : Thread Cert.PrepRefIdeal.nD Cert.PrepRefIdeal.τ).loc Cert.PrepRefIdeal.main_arg7) = m' ((c.tc : Thread Cert.PrepRefIdeal.nD Cert.PrepRefIdeal.τ).loc Cert.PrepRefIdeal.main_arg7)
          ∧ r.2.mem ((c.tc : Thread Cert.PrepRefIdeal.nD Cert.PrepRefIdeal.τ).loc Cert.PrepRefIdeal.main_arg8) = m' ((c.tc : Thread Cert.PrepRefIdeal.nD Cert.PrepRefIdeal.τ).loc Cert.PrepRefIdeal.main_arg8))

def preserves_Swi_SwiIdeal : Prop :=
  True

def algebraic_SwiIdeal_SwiRefIdeal_pre_finite_swi [hSwiIdeal : Cert.SwiIdeal.Facts] [hSwiRefIdeal : Cert.SwiRefIdeal.Facts] [hPre_finite_swi : Cert.Pre_finite_swi.Facts] : Prop :=
  ∀ (m : (ℓ : Loc Cert.SwiIdeal.nD Cert.SwiIdeal.τ Cert.SwiIdeal.sig) → Buf (Elt Ideal) ℓ) (g : Dev Cert.SwiIdeal.nD → PrngReg)
    (m' : (ℓ : Loc Cert.SwiRefIdeal.nD Cert.SwiRefIdeal.τ Cert.SwiRefIdeal.sig) → Buf (Elt Ideal) ℓ) (g' : Dev Cert.SwiRefIdeal.nD → PrngReg), Pre_SwiIdeal_finite_swi m →
    (∀ c : Dev Cert.SwiIdeal.nD,
      m' ((c.tc : Thread Cert.SwiRefIdeal.nD Cert.SwiRefIdeal.τ).loc Cert.SwiRefIdeal.main_arg0) = m ((c.tc : Thread Cert.SwiIdeal.nD Cert.SwiIdeal.τ).loc Cert.SwiIdeal.main_arg0)
      ∧ m' ((c.tc : Thread Cert.SwiRefIdeal.nD Cert.SwiRefIdeal.τ).loc Cert.SwiRefIdeal.main_arg1) = m ((c.tc : Thread Cert.SwiIdeal.nD Cert.SwiIdeal.τ).loc Cert.SwiIdeal.main_arg1)
      ∧ m' ((c.tc : Thread Cert.SwiRefIdeal.nD Cert.SwiRefIdeal.τ).loc Cert.SwiRefIdeal.main_arg2) = m ((c.tc : Thread Cert.SwiIdeal.nD Cert.SwiIdeal.τ).loc Cert.SwiIdeal.main_arg2)
      ∧ m' ((c.tc : Thread Cert.SwiRefIdeal.nD Cert.SwiRefIdeal.τ).loc Cert.SwiRefIdeal.main_arg3) = m ((c.tc : Thread Cert.SwiIdeal.nD Cert.SwiIdeal.τ).loc Cert.SwiIdeal.main_arg3)) →
    ∃ (v0 : (c : Dev Cert.SwiIdeal.nD) → Buf (Elt Ideal) ((c.tc : Thread Cert.SwiIdeal.nD Cert.SwiIdeal.τ).loc Cert.SwiIdeal.main_v6_0)) (v1 : (c : Dev Cert.SwiIdeal.nD) → Buf (Elt Ideal) ((c.tc : Thread Cert.SwiIdeal.nD Cert.SwiIdeal.τ).loc Cert.SwiIdeal.main_v6_1)),
      θ_run (Cert.SwiIdeal.defs (F := Ideal)) (onTc (τ := Cert.SwiIdeal.τ) (Cert.SwiIdeal.main (F := Ideal))) ⟨m, fun _ => 0, g⟩ (fun r => ∀ c : Dev Cert.SwiIdeal.nD,
          r.2.mem ((c.tc : Thread Cert.SwiIdeal.nD Cert.SwiIdeal.τ).loc Cert.SwiIdeal.main_v6_0) = v0 c
          ∧ r.2.mem ((c.tc : Thread Cert.SwiIdeal.nD Cert.SwiIdeal.τ).loc Cert.SwiIdeal.main_v6_1) = v1 c
          ∧ r.2.mem ((c.tc : Thread Cert.SwiIdeal.nD Cert.SwiIdeal.τ).loc Cert.SwiIdeal.main_arg0) = m ((c.tc : Thread Cert.SwiIdeal.nD Cert.SwiIdeal.τ).loc Cert.SwiIdeal.main_arg0)
          ∧ r.2.mem ((c.tc : Thread Cert.SwiIdeal.nD Cert.SwiIdeal.τ).loc Cert.SwiIdeal.main_arg1) = m ((c.tc : Thread Cert.SwiIdeal.nD Cert.SwiIdeal.τ).loc Cert.SwiIdeal.main_arg1)
          ∧ r.2.mem ((c.tc : Thread Cert.SwiIdeal.nD Cert.SwiIdeal.τ).loc Cert.SwiIdeal.main_arg2) = m ((c.tc : Thread Cert.SwiIdeal.nD Cert.SwiIdeal.τ).loc Cert.SwiIdeal.main_arg2)
          ∧ r.2.mem ((c.tc : Thread Cert.SwiIdeal.nD Cert.SwiIdeal.τ).loc Cert.SwiIdeal.main_arg3) = m ((c.tc : Thread Cert.SwiIdeal.nD Cert.SwiIdeal.τ).loc Cert.SwiIdeal.main_arg3))
      ∧ θ_run (Cert.SwiRefIdeal.defs (F := Ideal)) (onTc (τ := Cert.SwiRefIdeal.τ) (Cert.SwiRefIdeal.main (F := Ideal))) ⟨m', fun _ => 0, g'⟩ (fun r => ∀ c : Dev Cert.SwiRefIdeal.nD,
          r.2.mem ((c.tc : Thread Cert.SwiRefIdeal.nD Cert.SwiRefIdeal.τ).loc Cert.SwiRefIdeal.main_v7) = v0 c
          ∧ r.2.mem ((c.tc : Thread Cert.SwiRefIdeal.nD Cert.SwiRefIdeal.τ).loc Cert.SwiRefIdeal.main_v8) = v1 c
          ∧ r.2.mem ((c.tc : Thread Cert.SwiRefIdeal.nD Cert.SwiRefIdeal.τ).loc Cert.SwiRefIdeal.main_arg0) = m' ((c.tc : Thread Cert.SwiRefIdeal.nD Cert.SwiRefIdeal.τ).loc Cert.SwiRefIdeal.main_arg0)
          ∧ r.2.mem ((c.tc : Thread Cert.SwiRefIdeal.nD Cert.SwiRefIdeal.τ).loc Cert.SwiRefIdeal.main_arg1) = m' ((c.tc : Thread Cert.SwiRefIdeal.nD Cert.SwiRefIdeal.τ).loc Cert.SwiRefIdeal.main_arg1)
          ∧ r.2.mem ((c.tc : Thread Cert.SwiRefIdeal.nD Cert.SwiRefIdeal.τ).loc Cert.SwiRefIdeal.main_arg2) = m' ((c.tc : Thread Cert.SwiRefIdeal.nD Cert.SwiRefIdeal.τ).loc Cert.SwiRefIdeal.main_arg2)
          ∧ r.2.mem ((c.tc : Thread Cert.SwiRefIdeal.nD Cert.SwiRefIdeal.τ).loc Cert.SwiRefIdeal.main_arg3) = m' ((c.tc : Thread Cert.SwiRefIdeal.nD Cert.SwiRefIdeal.τ).loc Cert.SwiRefIdeal.main_arg3))

def preserves_GmlpF_GmlpFIdeal : Prop :=
  IdealRules.named_const.Statement Cert.GmlpFIdeal.κ "cube" .f32 0x3D372713#32 ((8943 / 200000 : ℝ) : EReal)

def algebraic_GmlpFIdeal_GmlpFRefIdeal [hGmlpFIdeal : Cert.GmlpFIdeal.Facts] [hGmlpFRefIdeal : Cert.GmlpFRefIdeal.Facts] : Prop :=
  ∀ (m : (ℓ : Loc Cert.GmlpFIdeal.nD Cert.GmlpFIdeal.τ Cert.GmlpFIdeal.sig) → Buf (Elt Ideal) ℓ) (g : Dev Cert.GmlpFIdeal.nD → PrngReg)
    (m' : (ℓ : Loc Cert.GmlpFRefIdeal.nD Cert.GmlpFRefIdeal.τ Cert.GmlpFRefIdeal.sig) → Buf (Elt Ideal) ℓ) (g' : Dev Cert.GmlpFRefIdeal.nD → PrngReg), Pre_GmlpFIdeal m →
    (∀ c : Dev Cert.GmlpFIdeal.nD,
      m' ((c.tc : Thread Cert.GmlpFRefIdeal.nD Cert.GmlpFRefIdeal.τ).loc Cert.GmlpFRefIdeal.main_arg0) = m ((c.tc : Thread Cert.GmlpFIdeal.nD Cert.GmlpFIdeal.τ).loc Cert.GmlpFIdeal.main_arg0)
      ∧ m' ((c.tc : Thread Cert.GmlpFRefIdeal.nD Cert.GmlpFRefIdeal.τ).loc Cert.GmlpFRefIdeal.main_arg1) = m ((c.tc : Thread Cert.GmlpFIdeal.nD Cert.GmlpFIdeal.τ).loc Cert.GmlpFIdeal.main_arg1)
      ∧ m' ((c.tc : Thread Cert.GmlpFRefIdeal.nD Cert.GmlpFRefIdeal.τ).loc Cert.GmlpFRefIdeal.main_arg2) = m ((c.tc : Thread Cert.GmlpFIdeal.nD Cert.GmlpFIdeal.τ).loc Cert.GmlpFIdeal.main_arg2)
      ∧ m' ((c.tc : Thread Cert.GmlpFRefIdeal.nD Cert.GmlpFRefIdeal.τ).loc Cert.GmlpFRefIdeal.main_arg3) = m ((c.tc : Thread Cert.GmlpFIdeal.nD Cert.GmlpFIdeal.τ).loc Cert.GmlpFIdeal.main_arg3)
      ∧ m' ((c.tc : Thread Cert.GmlpFRefIdeal.nD Cert.GmlpFRefIdeal.τ).loc Cert.GmlpFRefIdeal.main_arg4) = m ((c.tc : Thread Cert.GmlpFIdeal.nD Cert.GmlpFIdeal.τ).loc Cert.GmlpFIdeal.main_arg4)) →
    ∃ (v0 : (c : Dev Cert.GmlpFIdeal.nD) → Buf (Elt Ideal) ((c.tc : Thread Cert.GmlpFIdeal.nD Cert.GmlpFIdeal.τ).loc Cert.GmlpFIdeal.main_v3)),
      θ_run (Cert.GmlpFIdeal.defs (F := Ideal)) (onTc (τ := Cert.GmlpFIdeal.τ) (Cert.GmlpFIdeal.main (F := Ideal))) ⟨m, fun _ => 0, g⟩ (fun r => ∀ c : Dev Cert.GmlpFIdeal.nD,
          r.2.mem ((c.tc : Thread Cert.GmlpFIdeal.nD Cert.GmlpFIdeal.τ).loc Cert.GmlpFIdeal.main_v3) = v0 c
          ∧ r.2.mem ((c.tc : Thread Cert.GmlpFIdeal.nD Cert.GmlpFIdeal.τ).loc Cert.GmlpFIdeal.main_arg0) = m ((c.tc : Thread Cert.GmlpFIdeal.nD Cert.GmlpFIdeal.τ).loc Cert.GmlpFIdeal.main_arg0)
          ∧ r.2.mem ((c.tc : Thread Cert.GmlpFIdeal.nD Cert.GmlpFIdeal.τ).loc Cert.GmlpFIdeal.main_arg1) = m ((c.tc : Thread Cert.GmlpFIdeal.nD Cert.GmlpFIdeal.τ).loc Cert.GmlpFIdeal.main_arg1)
          ∧ r.2.mem ((c.tc : Thread Cert.GmlpFIdeal.nD Cert.GmlpFIdeal.τ).loc Cert.GmlpFIdeal.main_arg2) = m ((c.tc : Thread Cert.GmlpFIdeal.nD Cert.GmlpFIdeal.τ).loc Cert.GmlpFIdeal.main_arg2)
          ∧ r.2.mem ((c.tc : Thread Cert.GmlpFIdeal.nD Cert.GmlpFIdeal.τ).loc Cert.GmlpFIdeal.main_arg3) = m ((c.tc : Thread Cert.GmlpFIdeal.nD Cert.GmlpFIdeal.τ).loc Cert.GmlpFIdeal.main_arg3)
          ∧ r.2.mem ((c.tc : Thread Cert.GmlpFIdeal.nD Cert.GmlpFIdeal.τ).loc Cert.GmlpFIdeal.main_arg4) = m ((c.tc : Thread Cert.GmlpFIdeal.nD Cert.GmlpFIdeal.τ).loc Cert.GmlpFIdeal.main_arg4))
      ∧ θ_run (Cert.GmlpFRefIdeal.defs (F := Ideal)) (onTc (τ := Cert.GmlpFRefIdeal.τ) (Cert.GmlpFRefIdeal.main (F := Ideal))) ⟨m', fun _ => 0, g'⟩ (fun r => ∀ c : Dev Cert.GmlpFRefIdeal.nD,
          r.2.mem ((c.tc : Thread Cert.GmlpFRefIdeal.nD Cert.GmlpFRefIdeal.τ).loc Cert.GmlpFRefIdeal.main_v56) = v0 c
          ∧ r.2.mem ((c.tc : Thread Cert.GmlpFRefIdeal.nD Cert.GmlpFRefIdeal.τ).loc Cert.GmlpFRefIdeal.main_arg0) = m' ((c.tc : Thread Cert.GmlpFRefIdeal.nD Cert.GmlpFRefIdeal.τ).loc Cert.GmlpFRefIdeal.main_arg0)
          ∧ r.2.mem ((c.tc : Thread Cert.GmlpFRefIdeal.nD Cert.GmlpFRefIdeal.τ).loc Cert.GmlpFRefIdeal.main_arg1) = m' ((c.tc : Thread Cert.GmlpFRefIdeal.nD Cert.GmlpFRefIdeal.τ).loc Cert.GmlpFRefIdeal.main_arg1)
          ∧ r.2.mem ((c.tc : Thread Cert.GmlpFRefIdeal.nD Cert.GmlpFRefIdeal.τ).loc Cert.GmlpFRefIdeal.main_arg2) = m' ((c.tc : Thread Cert.GmlpFRefIdeal.nD Cert.GmlpFRefIdeal.τ).loc Cert.GmlpFRefIdeal.main_arg2)
          ∧ r.2.mem ((c.tc : Thread Cert.GmlpFRefIdeal.nD Cert.GmlpFRefIdeal.τ).loc Cert.GmlpFRefIdeal.main_arg3) = m' ((c.tc : Thread Cert.GmlpFRefIdeal.nD Cert.GmlpFRefIdeal.τ).loc Cert.GmlpFRefIdeal.main_arg3)
          ∧ r.2.mem ((c.tc : Thread Cert.GmlpFRefIdeal.nD Cert.GmlpFRefIdeal.τ).loc Cert.GmlpFRefIdeal.main_arg4) = m' ((c.tc : Thread Cert.GmlpFRefIdeal.nD Cert.GmlpFRefIdeal.τ).loc Cert.GmlpFRefIdeal.main_arg4))

def preserves_RmsF_RmsFIdeal : Prop :=
  True

def algebraic_RmsFIdeal_RmsFRefIdeal [hRmsFIdeal : Cert.RmsFIdeal.Facts] [hRmsFRefIdeal : Cert.RmsFRefIdeal.Facts] : Prop :=
  ∀ (m : (ℓ : Loc Cert.RmsFIdeal.nD Cert.RmsFIdeal.τ Cert.RmsFIdeal.sig) → Buf (Elt Ideal) ℓ) (g : Dev Cert.RmsFIdeal.nD → PrngReg)
    (m' : (ℓ : Loc Cert.RmsFRefIdeal.nD Cert.RmsFRefIdeal.τ Cert.RmsFRefIdeal.sig) → Buf (Elt Ideal) ℓ) (g' : Dev Cert.RmsFRefIdeal.nD → PrngReg), Pre_RmsFIdeal m →
    (∀ c : Dev Cert.RmsFIdeal.nD,
      m' ((c.tc : Thread Cert.RmsFRefIdeal.nD Cert.RmsFRefIdeal.τ).loc Cert.RmsFRefIdeal.main_arg0) = m ((c.tc : Thread Cert.RmsFIdeal.nD Cert.RmsFIdeal.τ).loc Cert.RmsFIdeal.main_arg0)
      ∧ m' ((c.tc : Thread Cert.RmsFRefIdeal.nD Cert.RmsFRefIdeal.τ).loc Cert.RmsFRefIdeal.main_arg1) = m ((c.tc : Thread Cert.RmsFIdeal.nD Cert.RmsFIdeal.τ).loc Cert.RmsFIdeal.main_arg1)) →
    ∃ (v0 : (c : Dev Cert.RmsFIdeal.nD) → Buf (Elt Ideal) ((c.tc : Thread Cert.RmsFIdeal.nD Cert.RmsFIdeal.τ).loc Cert.RmsFIdeal.main_v0)),
      θ_run (Cert.RmsFIdeal.defs (F := Ideal)) (onTc (τ := Cert.RmsFIdeal.τ) (Cert.RmsFIdeal.main (F := Ideal))) ⟨m, fun _ => 0, g⟩ (fun r => ∀ c : Dev Cert.RmsFIdeal.nD,
          r.2.mem ((c.tc : Thread Cert.RmsFIdeal.nD Cert.RmsFIdeal.τ).loc Cert.RmsFIdeal.main_v0) = v0 c
          ∧ r.2.mem ((c.tc : Thread Cert.RmsFIdeal.nD Cert.RmsFIdeal.τ).loc Cert.RmsFIdeal.main_arg0) = m ((c.tc : Thread Cert.RmsFIdeal.nD Cert.RmsFIdeal.τ).loc Cert.RmsFIdeal.main_arg0)
          ∧ r.2.mem ((c.tc : Thread Cert.RmsFIdeal.nD Cert.RmsFIdeal.τ).loc Cert.RmsFIdeal.main_arg1) = m ((c.tc : Thread Cert.RmsFIdeal.nD Cert.RmsFIdeal.τ).loc Cert.RmsFIdeal.main_arg1))
      ∧ θ_run (Cert.RmsFRefIdeal.defs (F := Ideal)) (onTc (τ := Cert.RmsFRefIdeal.τ) (Cert.RmsFRefIdeal.main (F := Ideal))) ⟨m', fun _ => 0, g'⟩ (fun r => ∀ c : Dev Cert.RmsFRefIdeal.nD,
          r.2.mem ((c.tc : Thread Cert.RmsFRefIdeal.nD Cert.RmsFRefIdeal.τ).loc Cert.RmsFRefIdeal.main_v14) = v0 c
          ∧ r.2.mem ((c.tc : Thread Cert.RmsFRefIdeal.nD Cert.RmsFRefIdeal.τ).loc Cert.RmsFRefIdeal.main_arg0) = m' ((c.tc : Thread Cert.RmsFRefIdeal.nD Cert.RmsFRefIdeal.τ).loc Cert.RmsFRefIdeal.main_arg0)
          ∧ r.2.mem ((c.tc : Thread Cert.RmsFRefIdeal.nD Cert.RmsFRefIdeal.τ).loc Cert.RmsFRefIdeal.main_arg1) = m' ((c.tc : Thread Cert.RmsFRefIdeal.nD Cert.RmsFRefIdeal.τ).loc Cert.RmsFRefIdeal.main_arg1))

def preserves_PrepF_PrepFIdeal : Prop :=
  True

def algebraic_PrepFIdeal_PrepFRefIdeal [hPrepFIdeal : Cert.PrepFIdeal.Facts] [hPrepFRefIdeal : Cert.PrepFRefIdeal.Facts] : Prop :=
  ∀ (m : (ℓ : Loc Cert.PrepFIdeal.nD Cert.PrepFIdeal.τ Cert.PrepFIdeal.sig) → Buf (Elt Ideal) ℓ) (g : Dev Cert.PrepFIdeal.nD → PrngReg)
    (m' : (ℓ : Loc Cert.PrepFRefIdeal.nD Cert.PrepFRefIdeal.τ Cert.PrepFRefIdeal.sig) → Buf (Elt Ideal) ℓ) (g' : Dev Cert.PrepFRefIdeal.nD → PrngReg), Pre_PrepFIdeal m →
    (∀ c : Dev Cert.PrepFIdeal.nD,
      m' ((c.tc : Thread Cert.PrepFRefIdeal.nD Cert.PrepFRefIdeal.τ).loc Cert.PrepFRefIdeal.main_arg0) = m ((c.tc : Thread Cert.PrepFIdeal.nD Cert.PrepFIdeal.τ).loc Cert.PrepFIdeal.main_arg0)
      ∧ m' ((c.tc : Thread Cert.PrepFRefIdeal.nD Cert.PrepFRefIdeal.τ).loc Cert.PrepFRefIdeal.main_arg1) = m ((c.tc : Thread Cert.PrepFIdeal.nD Cert.PrepFIdeal.τ).loc Cert.PrepFIdeal.main_arg1)
      ∧ m' ((c.tc : Thread Cert.PrepFRefIdeal.nD Cert.PrepFRefIdeal.τ).loc Cert.PrepFRefIdeal.main_arg2) = m ((c.tc : Thread Cert.PrepFIdeal.nD Cert.PrepFIdeal.τ).loc Cert.PrepFIdeal.main_arg2)
      ∧ m' ((c.tc : Thread Cert.PrepFRefIdeal.nD Cert.PrepFRefIdeal.τ).loc Cert.PrepFRefIdeal.main_arg3) = m ((c.tc : Thread Cert.PrepFIdeal.nD Cert.PrepFIdeal.τ).loc Cert.PrepFIdeal.main_arg3)
      ∧ m' ((c.tc : Thread Cert.PrepFRefIdeal.nD Cert.PrepFRefIdeal.τ).loc Cert.PrepFRefIdeal.main_arg4) = m ((c.tc : Thread Cert.PrepFIdeal.nD Cert.PrepFIdeal.τ).loc Cert.PrepFIdeal.main_arg4)) →
    ∃ (v0 : (c : Dev Cert.PrepFIdeal.nD) → Buf (Elt Ideal) ((c.tc : Thread Cert.PrepFIdeal.nD Cert.PrepFIdeal.τ).loc Cert.PrepFIdeal.main_v8_0)) (v1 : (c : Dev Cert.PrepFIdeal.nD) → Buf (Elt Ideal) ((c.tc : Thread Cert.PrepFIdeal.nD Cert.PrepFIdeal.τ).loc Cert.PrepFIdeal.main_v8_1)) (v2 : (c : Dev Cert.PrepFIdeal.nD) → Buf (Elt Ideal) ((c.tc : Thread Cert.PrepFIdeal.nD Cert.PrepFIdeal.τ).loc Cert.PrepFIdeal.main_v8_2)) (v3 : (c : Dev Cert.PrepFIdeal.nD) → Buf (Elt Ideal) ((c.tc : Thread Cert.PrepFIdeal.nD Cert.PrepFIdeal.τ).loc Cert.PrepFIdeal.main_v8_3)),
      θ_run (Cert.PrepFIdeal.defs (F := Ideal)) (onTc (τ := Cert.PrepFIdeal.τ) (Cert.PrepFIdeal.main (F := Ideal))) ⟨m, fun _ => 0, g⟩ (fun r => ∀ c : Dev Cert.PrepFIdeal.nD,
          r.2.mem ((c.tc : Thread Cert.PrepFIdeal.nD Cert.PrepFIdeal.τ).loc Cert.PrepFIdeal.main_v8_0) = v0 c
          ∧ r.2.mem ((c.tc : Thread Cert.PrepFIdeal.nD Cert.PrepFIdeal.τ).loc Cert.PrepFIdeal.main_v8_1) = v1 c
          ∧ r.2.mem ((c.tc : Thread Cert.PrepFIdeal.nD Cert.PrepFIdeal.τ).loc Cert.PrepFIdeal.main_v8_2) = v2 c
          ∧ r.2.mem ((c.tc : Thread Cert.PrepFIdeal.nD Cert.PrepFIdeal.τ).loc Cert.PrepFIdeal.main_v8_3) = v3 c
          ∧ r.2.mem ((c.tc : Thread Cert.PrepFIdeal.nD Cert.PrepFIdeal.τ).loc Cert.PrepFIdeal.main_arg0) = m ((c.tc : Thread Cert.PrepFIdeal.nD Cert.PrepFIdeal.τ).loc Cert.PrepFIdeal.main_arg0)
          ∧ r.2.mem ((c.tc : Thread Cert.PrepFIdeal.nD Cert.PrepFIdeal.τ).loc Cert.PrepFIdeal.main_arg1) = m ((c.tc : Thread Cert.PrepFIdeal.nD Cert.PrepFIdeal.τ).loc Cert.PrepFIdeal.main_arg1)
          ∧ r.2.mem ((c.tc : Thread Cert.PrepFIdeal.nD Cert.PrepFIdeal.τ).loc Cert.PrepFIdeal.main_arg2) = m ((c.tc : Thread Cert.PrepFIdeal.nD Cert.PrepFIdeal.τ).loc Cert.PrepFIdeal.main_arg2)
          ∧ r.2.mem ((c.tc : Thread Cert.PrepFIdeal.nD Cert.PrepFIdeal.τ).loc Cert.PrepFIdeal.main_arg3) = m ((c.tc : Thread Cert.PrepFIdeal.nD Cert.PrepFIdeal.τ).loc Cert.PrepFIdeal.main_arg3)
          ∧ r.2.mem ((c.tc : Thread Cert.PrepFIdeal.nD Cert.PrepFIdeal.τ).loc Cert.PrepFIdeal.main_arg4) = m ((c.tc : Thread Cert.PrepFIdeal.nD Cert.PrepFIdeal.τ).loc Cert.PrepFIdeal.main_arg4))
      ∧ θ_run (Cert.PrepFRefIdeal.defs (F := Ideal)) (onTc (τ := Cert.PrepFRefIdeal.τ) (Cert.PrepFRefIdeal.main (F := Ideal))) ⟨m', fun _ => 0, g'⟩ (fun r => ∀ c : Dev Cert.PrepFRefIdeal.nD,
          r.2.mem ((c.tc : Thread Cert.PrepFRefIdeal.nD Cert.PrepFRefIdeal.τ).loc Cert.PrepFRefIdeal.main_v48) = v0 c
          ∧ r.2.mem ((c.tc : Thread Cert.PrepFRefIdeal.nD Cert.PrepFRefIdeal.τ).loc Cert.PrepFRefIdeal.main_v49) = v1 c
          ∧ r.2.mem ((c.tc : Thread Cert.PrepFRefIdeal.nD Cert.PrepFRefIdeal.τ).loc Cert.PrepFRefIdeal.main_v50) = v2 c
          ∧ r.2.mem ((c.tc : Thread Cert.PrepFRefIdeal.nD Cert.PrepFRefIdeal.τ).loc Cert.PrepFRefIdeal.main_v51) = v3 c
          ∧ r.2.mem ((c.tc : Thread Cert.PrepFRefIdeal.nD Cert.PrepFRefIdeal.τ).loc Cert.PrepFRefIdeal.main_arg0) = m' ((c.tc : Thread Cert.PrepFRefIdeal.nD Cert.PrepFRefIdeal.τ).loc Cert.PrepFRefIdeal.main_arg0)
          ∧ r.2.mem ((c.tc : Thread Cert.PrepFRefIdeal.nD Cert.PrepFRefIdeal.τ).loc Cert.PrepFRefIdeal.main_arg1) = m' ((c.tc : Thread Cert.PrepFRefIdeal.nD Cert.PrepFRefIdeal.τ).loc Cert.PrepFRefIdeal.main_arg1)
          ∧ r.2.mem ((c.tc : Thread Cert.PrepFRefIdeal.nD Cert.PrepFRefIdeal.τ).loc Cert.PrepFRefIdeal.main_arg2) = m' ((c.tc : Thread Cert.PrepFRefIdeal.nD Cert.PrepFRefIdeal.τ).loc Cert.PrepFRefIdeal.main_arg2)
          ∧ r.2.mem ((c.tc : Thread Cert.PrepFRefIdeal.nD Cert.PrepFRefIdeal.τ).loc Cert.PrepFRefIdeal.main_arg3) = m' ((c.tc : Thread Cert.PrepFRefIdeal.nD Cert.PrepFRefIdeal.τ).loc Cert.PrepFRefIdeal.main_arg3)
          ∧ r.2.mem ((c.tc : Thread Cert.PrepFRefIdeal.nD Cert.PrepFRefIdeal.τ).loc Cert.PrepFRefIdeal.main_arg4) = m' ((c.tc : Thread Cert.PrepFRefIdeal.nD Cert.PrepFRefIdeal.τ).loc Cert.PrepFRefIdeal.main_arg4))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v7_0)) (v1 : (c : Dev Cert.UpIdeal.nD) → Buf (Elt Ideal) ((c.tc : Thread Cert.UpIdeal.nD Cert.UpIdeal.τ).loc Cert.UpIdeal.main_v7_1)) (v2 : (c : Dev Cert.UpIdeal.nD) → Buf (Elt Ideal) ((c.tc : Thread Cert.UpIdeal.nD Cert.UpIdeal.τ).loc Cert.UpIdeal.main_v7_2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v7_0) = v0 c
          ∧ r.2.mem ((c.tc : Thread Cert.UpIdeal.nD Cert.UpIdeal.τ).loc Cert.UpIdeal.main_v7_1) = v1 c
          ∧ r.2.mem ((c.tc : Thread Cert.UpIdeal.nD Cert.UpIdeal.τ).loc Cert.UpIdeal.main_v7_2) = v2 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v2) = v0 c
          ∧ r.2.mem ((c.tc : Thread Cert.UpRefIdeal.nD Cert.UpRefIdeal.τ).loc Cert.UpRefIdeal.main_v3) = v1 c
          ∧ r.2.mem ((c.tc : Thread Cert.UpRefIdeal.nD Cert.UpRefIdeal.τ).loc Cert.UpRefIdeal.main_v6) = v2 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)
      ∧ m' ((c.tc : Thread Cert.GateRefIdeal.nD Cert.GateRefIdeal.τ).loc Cert.GateRefIdeal.main_arg4) = m ((c.tc : Thread Cert.GateIdeal.nD Cert.GateIdeal.τ).loc Cert.GateIdeal.main_arg4)) →
    ∃ (v0 : (c : Dev Cert.GateIdeal.nD) → Buf (Elt Ideal) ((c.tc : Thread Cert.GateIdeal.nD Cert.GateIdeal.τ).loc Cert.GateIdeal.main_v7_0)) (v1 : (c : Dev Cert.GateIdeal.nD) → Buf (Elt Ideal) ((c.tc : Thread Cert.GateIdeal.nD Cert.GateIdeal.τ).loc Cert.GateIdeal.main_v7_1)) (v2 : (c : Dev Cert.GateIdeal.nD) → Buf (Elt Ideal) ((c.tc : Thread Cert.GateIdeal.nD Cert.GateIdeal.τ).loc Cert.GateIdeal.main_v7_2)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v7_0) = v0 c
          ∧ r.2.mem ((c.tc : Thread Cert.GateIdeal.nD Cert.GateIdeal.τ).loc Cert.GateIdeal.main_v7_1) = v1 c
          ∧ r.2.mem ((c.tc : Thread Cert.GateIdeal.nD Cert.GateIdeal.τ).loc Cert.GateIdeal.main_v7_2) = v2 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
          ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v9) = v0 c
          ∧ r.2.mem ((c.tc : Thread Cert.GateRefIdeal.nD Cert.GateRefIdeal.τ).loc Cert.GateRefIdeal.main_v10) = v1 c
          ∧ r.2.mem ((c.tc : Thread Cert.GateRefIdeal.nD Cert.GateRefIdeal.τ).loc Cert.GateRefIdeal.main_v7) = v2 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3)
          ∧ r.2.mem ((c.tc : Thread Cert.GateRefIdeal.nD Cert.GateRefIdeal.τ).loc Cert.GateRefIdeal.main_arg4) = m' ((c.tc : Thread Cert.GateRefIdeal.nD Cert.GateRefIdeal.τ).loc Cert.GateRefIdeal.main_arg4))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v4_0)) (v1 : (c : Dev Cert.OutIdeal.nD) → Buf (Elt Ideal) ((c.tc : Thread Cert.OutIdeal.nD Cert.OutIdeal.τ).loc Cert.OutIdeal.main_v4_1)) (v2 : (c : Dev Cert.OutIdeal.nD) → Buf (Elt Ideal) ((c.tc : Thread Cert.OutIdeal.nD Cert.OutIdeal.τ).loc Cert.OutIdeal.main_v4_2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v4_0) = v0 c
          ∧ r.2.mem ((c.tc : Thread Cert.OutIdeal.nD Cert.OutIdeal.τ).loc Cert.OutIdeal.main_v4_1) = v1 c
          ∧ r.2.mem ((c.tc : Thread Cert.OutIdeal.nD Cert.OutIdeal.τ).loc Cert.OutIdeal.main_v4_2) = v2 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v10) = v0 c
          ∧ r.2.mem ((c.tc : Thread Cert.OutRefIdeal.nD Cert.OutRefIdeal.τ).loc Cert.OutRefIdeal.main_v11) = v1 c
          ∧ r.2.mem ((c.tc : Thread Cert.OutRefIdeal.nD Cert.OutRefIdeal.τ).loc Cert.OutRefIdeal.main_v12) = v2 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_S5F_S5FIdeal : Prop :=
  True

def algebraic_S5FIdeal_S5FRefIdeal_pre_finite_s5f [hS5FIdeal : Cert.S5FIdeal.Facts] [hS5FRefIdeal : Cert.S5FRefIdeal.Facts] [hPre_finite_s5f : Cert.Pre_finite_s5f.Facts] : Prop :=
  ∀ (m : (ℓ : Loc Cert.S5FIdeal.nD Cert.S5FIdeal.τ Cert.S5FIdeal.sig) → Buf (Elt Ideal) ℓ) (g : Dev Cert.S5FIdeal.nD → PrngReg)
    (m' : (ℓ : Loc Cert.S5FRefIdeal.nD Cert.S5FRefIdeal.τ Cert.S5FRefIdeal.sig) → Buf (Elt Ideal) ℓ) (g' : Dev Cert.S5FRefIdeal.nD → PrngReg), Pre_S5FIdeal_finite_s5f m →
    (∀ c : Dev Cert.S5FIdeal.nD,
      m' ((c.tc : Thread Cert.S5FRefIdeal.nD Cert.S5FRefIdeal.τ).loc Cert.S5FRefIdeal.main_arg0) = m ((c.tc : Thread Cert.S5FIdeal.nD Cert.S5FIdeal.τ).loc Cert.S5FIdeal.main_arg0)
      ∧ m' ((c.tc : Thread Cert.S5FRefIdeal.nD Cert.S5FRefIdeal.τ).loc Cert.S5FRefIdeal.main_arg1) = m ((c.tc : Thread Cert.S5FIdeal.nD Cert.S5FIdeal.τ).loc Cert.S5FIdeal.main_arg1)
      ∧ m' ((c.tc : Thread Cert.S5FRefIdeal.nD Cert.S5FRefIdeal.τ).loc Cert.S5FRefIdeal.main_arg2) = m ((c.tc : Thread Cert.S5FIdeal.nD Cert.S5FIdeal.τ).loc Cert.S5FIdeal.main_arg2)
      ∧ m' ((c.tc : Thread Cert.S5FRefIdeal.nD Cert.S5FRefIdeal.τ).loc Cert.S5FRefIdeal.main_arg3) = m ((c.tc : Thread Cert.S5FIdeal.nD Cert.S5FIdeal.τ).loc Cert.S5FIdeal.main_arg3)
      ∧ m' ((c.tc : Thread Cert.S5FRefIdeal.nD Cert.S5FRefIdeal.τ).loc Cert.S5FRefIdeal.main_arg4) = m ((c.tc : Thread Cert.S5FIdeal.nD Cert.S5FIdeal.τ).loc Cert.S5FIdeal.main_arg4)
      ∧ m' ((c.tc : Thread Cert.S5FRefIdeal.nD Cert.S5FRefIdeal.τ).loc Cert.S5FRefIdeal.main_arg5) = m ((c.tc : Thread Cert.S5FIdeal.nD Cert.S5FIdeal.τ).loc Cert.S5FIdeal.main_arg5)
      ∧ m' ((c.tc : Thread Cert.S5FRefIdeal.nD Cert.S5FRefIdeal.τ).loc Cert.S5FRefIdeal.main_arg6) = m ((c.tc : Thread Cert.S5FIdeal.nD Cert.S5FIdeal.τ).loc Cert.S5FIdeal.main_arg6)
      ∧ m' ((c.tc : Thread Cert.S5FRefIdeal.nD Cert.S5FRefIdeal.τ).loc Cert.S5FRefIdeal.main_arg7) = m ((c.tc : Thread Cert.S5FIdeal.nD Cert.S5FIdeal.τ).loc Cert.S5FIdeal.main_arg7)) →
    ∃ (v0 : (c : Dev Cert.S5FIdeal.nD) → Buf (Elt Ideal) ((c.tc : Thread Cert.S5FIdeal.nD Cert.S5FIdeal.τ).loc Cert.S5FIdeal.main_v10_0)) (v1 : (c : Dev Cert.S5FIdeal.nD) → Buf (Elt Ideal) ((c.tc : Thread Cert.S5FIdeal.nD Cert.S5FIdeal.τ).loc Cert.S5FIdeal.main_v10_1)) (v2 : (c : Dev Cert.S5FIdeal.nD) → Buf (Elt Ideal) ((c.tc : Thread Cert.S5FIdeal.nD Cert.S5FIdeal.τ).loc Cert.S5FIdeal.main_v10_2)),
      θ_run (Cert.S5FIdeal.defs (F := Ideal)) (onTc (τ := Cert.S5FIdeal.τ) (Cert.S5FIdeal.main (F := Ideal))) ⟨m, fun _ => 0, g⟩ (fun r => ∀ c : Dev Cert.S5FIdeal.nD,
          r.2.mem ((c.tc : Thread Cert.S5FIdeal.nD Cert.S5FIdeal.τ).loc Cert.S5FIdeal.main_v10_0) = v0 c
          ∧ r.2.mem ((c.tc : Thread Cert.S5FIdeal.nD Cert.S5FIdeal.τ).loc Cert.S5FIdeal.main_v10_1) = v1 c
          ∧ r.2.mem ((c.tc : Thread Cert.S5FIdeal.nD Cert.S5FIdeal.τ).loc Cert.S5FIdeal.main_v10_2) = v2 c
          ∧ r.2.mem ((c.tc : Thread Cert.S5FIdeal.nD Cert.S5FIdeal.τ).loc Cert.S5FIdeal.main_arg0) = m ((c.tc : Thread Cert.S5FIdeal.nD Cert.S5FIdeal.τ).loc Cert.S5FIdeal.main_arg0)
          ∧ r.2.mem ((c.tc : Thread Cert.S5FIdeal.nD Cert.S5FIdeal.τ).loc Cert.S5FIdeal.main_arg1) = m ((c.tc : Thread Cert.S5FIdeal.nD Cert.S5FIdeal.τ).loc Cert.S5FIdeal.main_arg1)
          ∧ r.2.mem ((c.tc : Thread Cert.S5FIdeal.nD Cert.S5FIdeal.τ).loc Cert.S5FIdeal.main_arg2) = m ((c.tc : Thread Cert.S5FIdeal.nD Cert.S5FIdeal.τ).loc Cert.S5FIdeal.main_arg2)
          ∧ r.2.mem ((c.tc : Thread Cert.S5FIdeal.nD Cert.S5FIdeal.τ).loc Cert.S5FIdeal.main_arg3) = m ((c.tc : Thread Cert.S5FIdeal.nD Cert.S5FIdeal.τ).loc Cert.S5FIdeal.main_arg3)
          ∧ r.2.mem ((c.tc : Thread Cert.S5FIdeal.nD Cert.S5FIdeal.τ).loc Cert.S5FIdeal.main_arg4) = m ((c.tc : Thread Cert.S5FIdeal.nD Cert.S5FIdeal.τ).loc Cert.S5FIdeal.main_arg4)
          ∧ r.2.mem ((c.tc : Thread Cert.S5FIdeal.nD Cert.S5FIdeal.τ).loc Cert.S5FIdeal.main_arg5) = m ((c.tc : Thread Cert.S5FIdeal.nD Cert.S5FIdeal.τ).loc Cert.S5FIdeal.main_arg5)
          ∧ r.2.mem ((c.tc : Thread Cert.S5FIdeal.nD Cert.S5FIdeal.τ).loc Cert.S5FIdeal.main_arg6) = m ((c.tc : Thread Cert.S5FIdeal.nD Cert.S5FIdeal.τ).loc Cert.S5FIdeal.main_arg6)
          ∧ r.2.mem ((c.tc : Thread Cert.S5FIdeal.nD Cert.S5FIdeal.τ).loc Cert.S5FIdeal.main_arg7) = m ((c.tc : Thread Cert.S5FIdeal.nD Cert.S5FIdeal.τ).loc Cert.S5FIdeal.main_arg7))
      ∧ θ_run (Cert.S5FRefIdeal.defs (F := Ideal)) (onTc (τ := Cert.S5FRefIdeal.τ) (Cert.S5FRefIdeal.main (F := Ideal))) ⟨m', fun _ => 0, g'⟩ (fun r => ∀ c : Dev Cert.S5FRefIdeal.nD,
          r.2.mem ((c.tc : Thread Cert.S5FRefIdeal.nD Cert.S5FRefIdeal.τ).loc Cert.S5FRefIdeal.main_v33) = v0 c
          ∧ r.2.mem ((c.tc : Thread Cert.S5FRefIdeal.nD Cert.S5FRefIdeal.τ).loc Cert.S5FRefIdeal.main_v36) = v1 c
          ∧ r.2.mem ((c.tc : Thread Cert.S5FRefIdeal.nD Cert.S5FRefIdeal.τ).loc Cert.S5FRefIdeal.main_v39) = v2 c
          ∧ r.2.mem ((c.tc : Thread Cert.S5FRefIdeal.nD Cert.S5FRefIdeal.τ).loc Cert.S5FRefIdeal.main_arg0) = m' ((c.tc : Thread Cert.S5FRefIdeal.nD Cert.S5FRefIdeal.τ).loc Cert.S5FRefIdeal.main_arg0)
          ∧ r.2.mem ((c.tc : Thread Cert.S5FRefIdeal.nD Cert.S5FRefIdeal.τ).loc Cert.S5FRefIdeal.main_arg1) = m' ((c.tc : Thread Cert.S5FRefIdeal.nD Cert.S5FRefIdeal.τ).loc Cert.S5FRefIdeal.main_arg1)
          ∧ r.2.mem ((c.tc : Thread Cert.S5FRefIdeal.nD Cert.S5FRefIdeal.τ).loc Cert.S5FRefIdeal.main_arg2) = m' ((c.tc : Thread Cert.S5FRefIdeal.nD Cert.S5FRefIdeal.τ).loc Cert.S5FRefIdeal.main_arg2)
          ∧ r.2.mem ((c.tc : Thread Cert.S5FRefIdeal.nD Cert.S5FRefIdeal.τ).loc Cert.S5FRefIdeal.main_arg3) = m' ((c.tc : Thread Cert.S5FRefIdeal.nD Cert.S5FRefIdeal.τ).loc Cert.S5FRefIdeal.main_arg3)
          ∧ r.2.mem ((c.tc : Thread Cert.S5FRefIdeal.nD Cert.S5FRefIdeal.τ).loc Cert.S5FRefIdeal.main_arg4) = m' ((c.tc : Thread Cert.S5FRefIdeal.nD Cert.S5FRefIdeal.τ).loc Cert.S5FRefIdeal.main_arg4)
          ∧ r.2.mem ((c.tc : Thread Cert.S5FRefIdeal.nD Cert.S5FRefIdeal.τ).loc Cert.S5FRefIdeal.main_arg5) = m' ((c.tc : Thread Cert.S5FRefIdeal.nD Cert.S5FRefIdeal.τ).loc Cert.S5FRefIdeal.main_arg5)
          ∧ r.2.mem ((c.tc : Thread Cert.S5FRefIdeal.nD Cert.S5FRefIdeal.τ).loc Cert.S5FRefIdeal.main_arg6) = m' ((c.tc : Thread Cert.S5FRefIdeal.nD Cert.S5FRefIdeal.τ).loc Cert.S5FRefIdeal.main_arg6)
          ∧ r.2.mem ((c.tc : Thread Cert.S5FRefIdeal.nD Cert.S5FRefIdeal.τ).loc Cert.S5FRefIdeal.main_arg7) = m' ((c.tc : Thread Cert.S5FRefIdeal.nD Cert.S5FRefIdeal.τ).loc Cert.S5FRefIdeal.main_arg7))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v4)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v4) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v1) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_Dx_DxIdeal : Prop :=
  True

def algebraic_DxIdeal_DxRefIdeal [hDxIdeal : Cert.DxIdeal.Facts] [hDxRefIdeal : Cert.DxRefIdeal.Facts] : Prop :=
  ∀ (m : (ℓ : Loc Cert.DxIdeal.nD Cert.DxIdeal.τ Cert.DxIdeal.sig) → Buf (Elt Ideal) ℓ) (g : Dev Cert.DxIdeal.nD → PrngReg)
    (m' : (ℓ : Loc Cert.DxRefIdeal.nD Cert.DxRefIdeal.τ Cert.DxRefIdeal.sig) → Buf (Elt Ideal) ℓ) (g' : Dev Cert.DxRefIdeal.nD → PrngReg), Pre_DxIdeal m →
    (∀ c : Dev Cert.DxIdeal.nD,
      m' ((c.tc : Thread Cert.DxRefIdeal.nD Cert.DxRefIdeal.τ).loc Cert.DxRefIdeal.main_arg0) = m ((c.tc : Thread Cert.DxIdeal.nD Cert.DxIdeal.τ).loc Cert.DxIdeal.main_arg0)
      ∧ m' ((c.tc : Thread Cert.DxRefIdeal.nD Cert.DxRefIdeal.τ).loc Cert.DxRefIdeal.main_arg1) = m ((c.tc : Thread Cert.DxIdeal.nD Cert.DxIdeal.τ).loc Cert.DxIdeal.main_arg1)
      ∧ m' ((c.tc : Thread Cert.DxRefIdeal.nD Cert.DxRefIdeal.τ).loc Cert.DxRefIdeal.main_arg2) = m ((c.tc : Thread Cert.DxIdeal.nD Cert.DxIdeal.τ).loc Cert.DxIdeal.main_arg2)
      ∧ m' ((c.tc : Thread Cert.DxRefIdeal.nD Cert.DxRefIdeal.τ).loc Cert.DxRefIdeal.main_arg3) = m ((c.tc : Thread Cert.DxIdeal.nD Cert.DxIdeal.τ).loc Cert.DxIdeal.main_arg3)) →
    ∃ (v0 : (c : Dev Cert.DxIdeal.nD) → Buf (Elt Ideal) ((c.tc : Thread Cert.DxIdeal.nD Cert.DxIdeal.τ).loc Cert.DxIdeal.main_v8)),
      θ_run (Cert.DxIdeal.defs (F := Ideal)) (onTc (τ := Cert.DxIdeal.τ) (Cert.DxIdeal.main (F := Ideal))) ⟨m, fun _ => 0, g⟩ (fun r => ∀ c : Dev Cert.DxIdeal.nD,
          r.2.mem ((c.tc : Thread Cert.DxIdeal.nD Cert.DxIdeal.τ).loc Cert.DxIdeal.main_v8) = v0 c
          ∧ r.2.mem ((c.tc : Thread Cert.DxIdeal.nD Cert.DxIdeal.τ).loc Cert.DxIdeal.main_arg0) = m ((c.tc : Thread Cert.DxIdeal.nD Cert.DxIdeal.τ).loc Cert.DxIdeal.main_arg0)
          ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
          ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
          ∧ r.2.mem ((c.tc : Thread Cert.DxIdeal.nD Cert.DxIdeal.τ).loc Cert.DxIdeal.main_arg3) = m ((c.tc : Thread Cert.DxIdeal.nD Cert.DxIdeal.τ).loc Cert.DxIdeal.main_arg3))
      ∧ θ_run (Cert.DxRefIdeal.defs (F := Ideal)) (onTc (τ := Cert.DxRefIdeal.τ) (Cert.DxRefIdeal.main (F := Ideal))) ⟨m', fun _ => 0, g'⟩ (fun r => ∀ c : Dev Cert.DxRefIdeal.nD,
          r.2.mem ((c.tc : Thread Cert.DxRefIdeal.nD Cert.DxRefIdeal.τ).loc Cert.DxRefIdeal.main_v5) = v0 c
          ∧ r.2.mem ((c.tc : Thread Cert.DxRefIdeal.nD Cert.DxRefIdeal.τ).loc Cert.DxRefIdeal.main_arg0) = m' ((c.tc : Thread Cert.DxRefIdeal.nD Cert.DxRefIdeal.τ).loc Cert.DxRefIdeal.main_arg0)
          ∧ r.2.mem ((c.tc : Thread Cert.DxRefIdeal.nD Cert.DxRefIdeal.τ).loc Cert.DxRefIdeal.main_arg1) = m' ((c.tc : Thread Cert.DxRefIdeal.nD Cert.DxRefIdeal.τ).loc Cert.DxRefIdeal.main_arg1)
          ∧ r.2.mem ((c.tc : Thread Cert.DxRefIdeal.nD Cert.DxRefIdeal.τ).loc Cert.DxRefIdeal.main_arg2) = m' ((c.tc : Thread Cert.DxRefIdeal.nD Cert.DxRefIdeal.τ).loc Cert.DxRefIdeal.main_arg2)
          ∧ r.2.mem ((c.tc : Thread Cert.DxRefIdeal.nD Cert.DxRefIdeal.τ).loc Cert.DxRefIdeal.main_arg3) = m' ((c.tc : Thread Cert.DxRefIdeal.nD Cert.DxRefIdeal.τ).loc Cert.DxRefIdeal.main_arg3))

def preserves_Dw_DwIdeal : Prop :=
  True

def algebraic_DwIdeal_DwRefIdeal [hDwIdeal : Cert.DwIdeal.Facts] [hDwRefIdeal : Cert.DwRefIdeal.Facts] : Prop :=
  ∀ (m : (ℓ : Loc Cert.DwIdeal.nD Cert.DwIdeal.τ Cert.DwIdeal.sig) → Buf (Elt Ideal) ℓ) (g : Dev Cert.DwIdeal.nD → PrngReg)
    (m' : (ℓ : Loc Cert.DwRefIdeal.nD Cert.DwRefIdeal.τ Cert.DwRefIdeal.sig) → Buf (Elt Ideal) ℓ) (g' : Dev Cert.DwRefIdeal.nD → PrngReg), Pre_DwIdeal m →
    (∀ c : Dev Cert.DwIdeal.nD,
      m' ((c.tc : Thread Cert.DwRefIdeal.nD Cert.DwRefIdeal.τ).loc Cert.DwRefIdeal.main_arg0) = m ((c.tc : Thread Cert.DwIdeal.nD Cert.DwIdeal.τ).loc Cert.DwIdeal.main_arg0)
      ∧ m' ((c.tc : Thread Cert.DwRefIdeal.nD Cert.DwRefIdeal.τ).loc Cert.DwRefIdeal.main_arg1) = m ((c.tc : Thread Cert.DwIdeal.nD Cert.DwIdeal.τ).loc Cert.DwIdeal.main_arg1)
      ∧ m' ((c.tc : Thread Cert.DwRefIdeal.nD Cert.DwRefIdeal.τ).loc Cert.DwRefIdeal.main_arg2) = m ((c.tc : Thread Cert.DwIdeal.nD Cert.DwIdeal.τ).loc Cert.DwIdeal.main_arg2)) →
    ∃ (v0 : (c : Dev Cert.DwIdeal.nD) → Buf (Elt Ideal) ((c.tc : Thread Cert.DwIdeal.nD Cert.DwIdeal.τ).loc Cert.DwIdeal.main_v3_0)) (v1 : (c : Dev Cert.DwIdeal.nD) → Buf (Elt Ideal) ((c.tc : Thread Cert.DwIdeal.nD Cert.DwIdeal.τ).loc Cert.DwIdeal.main_v3_1)),
      θ_run (Cert.DwIdeal.defs (F := Ideal)) (onTc (τ := Cert.DwIdeal.τ) (Cert.DwIdeal.main (F := Ideal))) ⟨m, fun _ => 0, g⟩ (fun r => ∀ c : Dev Cert.DwIdeal.nD,
          r.2.mem ((c.tc : Thread Cert.DwIdeal.nD Cert.DwIdeal.τ).loc Cert.DwIdeal.main_v3_0) = v0 c
          ∧ r.2.mem ((c.tc : Thread Cert.DwIdeal.nD Cert.DwIdeal.τ).loc Cert.DwIdeal.main_v3_1) = v1 c
          ∧ r.2.mem ((c.tc : Thread Cert.DwIdeal.nD Cert.DwIdeal.τ).loc Cert.DwIdeal.main_arg0) = m ((c.tc : Thread Cert.DwIdeal.nD Cert.DwIdeal.τ).loc Cert.DwIdeal.main_arg0)
          ∧ r.2.mem ((c.tc : Thread Cert.DwIdeal.nD Cert.DwIdeal.τ).loc Cert.DwIdeal.main_arg1) = m ((c.tc : Thread Cert.DwIdeal.nD Cert.DwIdeal.τ).loc Cert.DwIdeal.main_arg1)
          ∧ r.2.mem ((c.tc : Thread Cert.DwIdeal.nD Cert.DwIdeal.τ).loc Cert.DwIdeal.main_arg2) = m ((c.tc : Thread Cert.DwIdeal.nD Cert.DwIdeal.τ).loc Cert.DwIdeal.main_arg2))
      ∧ θ_run (Cert.DwRefIdeal.defs (F := Ideal)) (onTc (τ := Cert.DwRefIdeal.τ) (Cert.DwRefIdeal.main (F := Ideal))) ⟨m', fun _ => 0, g'⟩ (fun r => ∀ c : Dev Cert.DwRefIdeal.nD,
          r.2.mem ((c.tc : Thread Cert.DwRefIdeal.nD Cert.DwRefIdeal.τ).loc Cert.DwRefIdeal.main_v9) = v0 c
          ∧ r.2.mem ((c.tc : Thread Cert.DwRefIdeal.nD Cert.DwRefIdeal.τ).loc Cert.DwRefIdeal.main_v12) = v1 c
          ∧ r.2.mem ((c.tc : Thread Cert.DwRefIdeal.nD Cert.DwRefIdeal.τ).loc Cert.DwRefIdeal.main_arg0) = m' ((c.tc : Thread Cert.DwRefIdeal.nD Cert.DwRefIdeal.τ).loc Cert.DwRefIdeal.main_arg0)
          ∧ r.2.mem ((c.tc : Thread Cert.DwRefIdeal.nD Cert.DwRefIdeal.τ).loc Cert.DwRefIdeal.main_arg1) = m' ((c.tc : Thread Cert.DwRefIdeal.nD Cert.DwRefIdeal.τ).loc Cert.DwRefIdeal.main_arg1)
          ∧ r.2.mem ((c.tc : Thread Cert.DwRefIdeal.nD Cert.DwRefIdeal.τ).loc Cert.DwRefIdeal.main_arg2) = m' ((c.tc : Thread Cert.DwRefIdeal.nD Cert.DwRefIdeal.τ).loc Cert.DwRefIdeal.main_arg2))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v0_0)) (v1 : (c : Dev Cert.AdamIdeal.nD) → Buf (Elt Ideal) ((c.tc : Thread Cert.AdamIdeal.nD Cert.AdamIdeal.τ).loc Cert.AdamIdeal.main_v0_1)) (v2 : (c : Dev Cert.AdamIdeal.nD) → Buf (Elt Ideal) ((c.tc : Thread Cert.AdamIdeal.nD Cert.AdamIdeal.τ).loc Cert.AdamIdeal.main_v0_2)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v0_0) = v0 c
          ∧ r.2.mem ((c.tc : Thread Cert.AdamIdeal.nD Cert.AdamIdeal.τ).loc Cert.AdamIdeal.main_v0_1) = v1 c
          ∧ r.2.mem ((c.tc : Thread Cert.AdamIdeal.nD Cert.AdamIdeal.τ).loc Cert.AdamIdeal.main_v0_2) = v2 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v23) = v0 c
          ∧ r.2.mem ((c.tc : Thread Cert.AdamRefIdeal.nD Cert.AdamRefIdeal.τ).loc Cert.AdamRefIdeal.main_v4) = v1 c
          ∧ r.2.mem ((c.tc : Thread Cert.AdamRefIdeal.nD Cert.AdamRefIdeal.τ).loc Cert.AdamRefIdeal.main_v10) = v2 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def preserves_Cast_CastIdeal : Prop :=
  True

def algebraic_CastIdeal_CastRefIdeal [hCastIdeal : Cert.CastIdeal.Facts] [hCastRefIdeal : Cert.CastRefIdeal.Facts] : Prop :=
  ∀ (m : (ℓ : Loc Cert.CastIdeal.nD Cert.CastIdeal.τ Cert.CastIdeal.sig) → Buf (Elt Ideal) ℓ) (g : Dev Cert.CastIdeal.nD → PrngReg)
    (m' : (ℓ : Loc Cert.CastRefIdeal.nD Cert.CastRefIdeal.τ Cert.CastRefIdeal.sig) → Buf (Elt Ideal) ℓ) (g' : Dev Cert.CastRefIdeal.nD → PrngReg), Pre_CastIdeal m →
    (∀ c : Dev Cert.CastIdeal.nD,
      m' ((c.tc : Thread Cert.CastRefIdeal.nD Cert.CastRefIdeal.τ).loc Cert.CastRefIdeal.main_arg0) = m ((c.tc : Thread Cert.CastIdeal.nD Cert.CastIdeal.τ).loc Cert.CastIdeal.main_arg0)) →
    ∃ (v0 : (c : Dev Cert.CastIdeal.nD) → Buf (Elt Ideal) ((c.tc : Thread Cert.CastIdeal.nD Cert.CastIdeal.τ).loc Cert.CastIdeal.main_v0)),
      θ_run (Cert.CastIdeal.defs (F := Ideal)) (onTc (τ := Cert.CastIdeal.τ) (Cert.CastIdeal.main (F := Ideal))) ⟨m, fun _ => 0, g⟩ (fun r => ∀ c : Dev Cert.CastIdeal.nD,
          r.2.mem ((c.tc : Thread Cert.CastIdeal.nD Cert.CastIdeal.τ).loc Cert.CastIdeal.main_v0) = v0 c
          ∧ r.2.mem ((c.tc : Thread Cert.CastIdeal.nD Cert.CastIdeal.τ).loc Cert.CastIdeal.main_arg0) = m ((c.tc : Thread Cert.CastIdeal.nD Cert.CastIdeal.τ).loc Cert.CastIdeal.main_arg0))
      ∧ θ_run (Cert.CastRefIdeal.defs (F := Ideal)) (onTc (τ := Cert.CastRefIdeal.τ) (Cert.CastRefIdeal.main (F := Ideal))) ⟨m', fun _ => 0, g'⟩ (fun r => ∀ c : Dev Cert.CastRefIdeal.nD,
          r.2.mem ((c.tc : Thread Cert.CastRefIdeal.nD Cert.CastRefIdeal.τ).loc Cert.CastRefIdeal.main_v3) = v0 c
          ∧ r.2.mem ((c.tc : Thread Cert.CastRefIdeal.nD Cert.CastRefIdeal.τ).loc Cert.CastRefIdeal.main_arg0) = m' ((c.tc : Thread Cert.CastRefIdeal.nD Cert.CastRefIdeal.τ).loc Cert.CastRefIdeal.main_arg0))

def preserves_ChipSum_ChipSumIdeal : Prop :=
  True

def algebraic_ChipSumIdeal_ChipSumRefIdeal [hChipSumIdeal : Cert.ChipSumIdeal.Facts] [hChipSumRefIdeal : Cert.ChipSumRefIdeal.Facts] : Prop :=
  ∀ (m : (ℓ : Loc Cert.ChipSumIdeal.nD Cert.ChipSumIdeal.τ Cert.ChipSumIdeal.sig) → Buf (Elt Ideal) ℓ) (g : Dev Cert.ChipSumIdeal.nD → PrngReg)
    (m' : (ℓ : Loc Cert.ChipSumRefIdeal.nD Cert.ChipSumRefIdeal.τ Cert.ChipSumRefIdeal.sig) → Buf (Elt Ideal) ℓ) (g' : Dev Cert.ChipSumRefIdeal.nD → PrngReg), Pre_ChipSumIdeal m →
    (∀ c : Dev Cert.ChipSumIdeal.nD,
      m' ((c.tc : Thread Cert.ChipSumRefIdeal.nD Cert.ChipSumRefIdeal.τ).loc Cert.ChipSumRefIdeal.main_arg0) = m ((c.tc : Thread Cert.ChipSumIdeal.nD Cert.ChipSumIdeal.τ).loc Cert.ChipSumIdeal.main_arg0)
      ∧ m' ((c.tc : Thread Cert.ChipSumRefIdeal.nD Cert.ChipSumRefIdeal.τ).loc Cert.ChipSumRefIdeal.main_arg1) = m ((c.tc : Thread Cert.ChipSumIdeal.nD Cert.ChipSumIdeal.τ).loc Cert.ChipSumIdeal.main_arg1)) →
    ∃ (v0 : (c : Dev Cert.ChipSumIdeal.nD) → Buf (Elt Ideal) ((c.tc : Thread Cert.ChipSumIdeal.nD Cert.ChipSumIdeal.τ).loc Cert.ChipSumIdeal.main_v1)),
      θ_run (Cert.ChipSumIdeal.defs (F := Ideal)) (onTc (τ := Cert.ChipSumIdeal.τ) (Cert.ChipSumIdeal.main (F := Ideal))) ⟨m, fun _ => 0, g⟩ (fun r => ∀ c : Dev Cert.ChipSumIdeal.nD,
          r.2.mem ((c.tc : Thread Cert.ChipSumIdeal.nD Cert.ChipSumIdeal.τ).loc Cert.ChipSumIdeal.main_v1) = v0 c
          ∧ r.2.mem ((c.tc : Thread Cert.ChipSumIdeal.nD Cert.ChipSumIdeal.τ).loc Cert.ChipSumIdeal.main_arg0) = m ((c.tc : Thread Cert.ChipSumIdeal.nD Cert.ChipSumIdeal.τ).loc Cert.ChipSumIdeal.main_arg0)
          ∧ r.2.mem ((c.tc : Thread Cert.ChipSumIdeal.nD Cert.ChipSumIdeal.τ).loc Cert.ChipSumIdeal.main_arg1) = m ((c.tc : Thread Cert.ChipSumIdeal.nD Cert.ChipSumIdeal.τ).loc Cert.ChipSumIdeal.main_arg1))
      ∧ θ_run (Cert.ChipSumRefIdeal.defs (F := Ideal)) (onTc (τ := Cert.ChipSumRefIdeal.τ) (Cert.ChipSumRefIdeal.main (F := Ideal))) ⟨m', fun _ => 0, g'⟩ (fun r => ∀ c : Dev Cert.ChipSumRefIdeal.nD,
          r.2.mem ((c.tc : Thread Cert.ChipSumRefIdeal.nD Cert.ChipSumRefIdeal.τ).loc Cert.ChipSumRefIdeal.main_v5) = v0 c
          ∧ r.2.mem ((c.tc : Thread Cert.ChipSumRefIdeal.nD Cert.ChipSumRefIdeal.τ).loc Cert.ChipSumRefIdeal.main_arg0) = m' ((c.tc : Thread Cert.ChipSumRefIdeal.nD Cert.ChipSumRefIdeal.τ).loc Cert.ChipSumRefIdeal.main_arg0)
          ∧ r.2.mem ((c.tc : Thread Cert.ChipSumRefIdeal.nD Cert.ChipSumRefIdeal.τ).loc Cert.ChipSumRefIdeal.main_arg1) = m' ((c.tc : Thread Cert.ChipSumRefIdeal.nD Cert.ChipSumRefIdeal.τ).loc Cert.ChipSumRefIdeal.main_arg1))

def preserves_PartSum_PartSumIdeal : Prop :=
  True

def algebraic_PartSumIdeal_PartSumRefIdeal [hPartSumIdeal : Cert.PartSumIdeal.Facts] [hPartSumRefIdeal : Cert.PartSumRefIdeal.Facts] : Prop :=
  ∀ (m : (ℓ : Loc Cert.PartSumIdeal.nD Cert.PartSumIdeal.τ Cert.PartSumIdeal.sig) → Buf (Elt Ideal) ℓ) (g : Dev Cert.PartSumIdeal.nD → PrngReg)
    (m' : (ℓ : Loc Cert.PartSumRefIdeal.nD Cert.PartSumRefIdeal.τ Cert.PartSumRefIdeal.sig) → Buf (Elt Ideal) ℓ) (g' : Dev Cert.PartSumRefIdeal.nD → PrngReg), Pre_PartSumIdeal m →
    (∀ c : Dev Cert.PartSumIdeal.nD,
      m' ((c.tc : Thread Cert.PartSumRefIdeal.nD Cert.PartSumRefIdeal.τ).loc Cert.PartSumRefIdeal.main_arg0) = m ((c.tc : Thread Cert.PartSumIdeal.nD Cert.PartSumIdeal.τ).loc Cert.PartSumIdeal.main_arg0)
      ∧ m' ((c.tc : Thread Cert.PartSumRefIdeal.nD Cert.PartSumRefIdeal.τ).loc Cert.PartSumRefIdeal.main_arg1) = m ((c.tc : Thread Cert.PartSumIdeal.nD Cert.PartSumIdeal.τ).loc Cert.PartSumIdeal.main_arg1)) →
    ∃ (v0 : (c : Dev Cert.PartSumIdeal.nD) → Buf (Elt Ideal) ((c.tc : Thread Cert.PartSumIdeal.nD Cert.PartSumIdeal.τ).loc Cert.PartSumIdeal.main_v1)),
      θ_run (Cert.PartSumIdeal.defs (F := Ideal)) (onTc (τ := Cert.PartSumIdeal.τ) (Cert.PartSumIdeal.main (F := Ideal))) ⟨m, fun _ => 0, g⟩ (fun r => ∀ c : Dev Cert.PartSumIdeal.nD,
          r.2.mem ((c.tc : Thread Cert.PartSumIdeal.nD Cert.PartSumIdeal.τ).loc Cert.PartSumIdeal.main_v1) = v0 c
          ∧ r.2.mem ((c.tc : Thread Cert.PartSumIdeal.nD Cert.PartSumIdeal.τ).loc Cert.PartSumIdeal.main_arg0) = m ((c.tc : Thread Cert.PartSumIdeal.nD Cert.PartSumIdeal.τ).loc Cert.PartSumIdeal.main_arg0)
          ∧ r.2.mem ((c.tc : Thread Cert.PartSumIdeal.nD Cert.PartSumIdeal.τ).loc Cert.PartSumIdeal.main_arg1) = m ((c.tc : Thread Cert.PartSumIdeal.nD Cert.PartSumIdeal.τ).loc Cert.PartSumIdeal.main_arg1))
      ∧ θ_run (Cert.PartSumRefIdeal.defs (F := Ideal)) (onTc (τ := Cert.PartSumRefIdeal.τ) (Cert.PartSumRefIdeal.main (F := Ideal))) ⟨m', fun _ => 0, g'⟩ (fun r => ∀ c : Dev Cert.PartSumRefIdeal.nD,
          r.2.mem ((c.tc : Thread Cert.PartSumRefIdeal.nD Cert.PartSumRefIdeal.τ).loc Cert.PartSumRefIdeal.main_v6) = v0 c
          ∧ r.2.mem ((c.tc : Thread Cert.PartSumRefIdeal.nD Cert.PartSumRefIdeal.τ).loc Cert.PartSumRefIdeal.main_arg0) = m' ((c.tc : Thread Cert.PartSumRefIdeal.nD Cert.PartSumRefIdeal.τ).loc Cert.PartSumRefIdeal.main_arg0)
          ∧ r.2.mem ((c.tc : Thread Cert.PartSumRefIdeal.nD Cert.PartSumRefIdeal.τ).loc Cert.PartSumRefIdeal.main_arg1) = m' ((c.tc : Thread Cert.PartSumRefIdeal.nD Cert.PartSumRefIdeal.τ).loc Cert.PartSumRefIdeal.main_arg1))

def preserves_SliceSum_SliceSumIdeal : Prop :=
  True

def algebraic_SliceSumIdeal_SliceSumRefIdeal [hSliceSumIdeal : Cert.SliceSumIdeal.Facts] [hSliceSumRefIdeal : Cert.SliceSumRefIdeal.Facts] : Prop :=
  ∀ (m : (ℓ : Loc Cert.SliceSumIdeal.nD Cert.SliceSumIdeal.τ Cert.SliceSumIdeal.sig) → Buf (Elt Ideal) ℓ) (g : Dev Cert.SliceSumIdeal.nD → PrngReg)
    (m' : (ℓ : Loc Cert.SliceSumRefIdeal.nD Cert.SliceSumRefIdeal.τ Cert.SliceSumRefIdeal.sig) → Buf (Elt Ideal) ℓ) (g' : Dev Cert.SliceSumRefIdeal.nD → PrngReg), Pre_SliceSumIdeal m →
    (∀ c : Dev Cert.SliceSumIdeal.nD,
      m' ((c.tc : Thread Cert.SliceSumRefIdeal.nD Cert.SliceSumRefIdeal.τ).loc Cert.SliceSumRefIdeal.main_arg0) = m ((c.tc : Thread Cert.SliceSumIdeal.nD Cert.SliceSumIdeal.τ).loc Cert.SliceSumIdeal.main_arg0)
      ∧ m' ((c.tc : Thread Cert.SliceSumRefIdeal.nD Cert.SliceSumRefIdeal.τ).loc Cert.SliceSumRefIdeal.main_arg1) = m ((c.tc : Thread Cert.SliceSumIdeal.nD Cert.SliceSumIdeal.τ).loc Cert.SliceSumIdeal.main_arg1)) →
    ∃ (v0 : (c : Dev Cert.SliceSumIdeal.nD) → Buf (Elt Ideal) ((c.tc : Thread Cert.SliceSumIdeal.nD Cert.SliceSumIdeal.τ).loc Cert.SliceSumIdeal.main_v1)),
      θ_run (Cert.SliceSumIdeal.defs (F := Ideal)) (onTc (τ := Cert.SliceSumIdeal.τ) (Cert.SliceSumIdeal.main (F := Ideal))) ⟨m, fun _ => 0, g⟩ (fun r => ∀ c : Dev Cert.SliceSumIdeal.nD,
          r.2.mem ((c.tc : Thread Cert.SliceSumIdeal.nD Cert.SliceSumIdeal.τ).loc Cert.SliceSumIdeal.main_v1) = v0 c
          ∧ r.2.mem ((c.tc : Thread Cert.SliceSumIdeal.nD Cert.SliceSumIdeal.τ).loc Cert.SliceSumIdeal.main_arg0) = m ((c.tc : Thread Cert.SliceSumIdeal.nD Cert.SliceSumIdeal.τ).loc Cert.SliceSumIdeal.main_arg0)
          ∧ r.2.mem ((c.tc : Thread Cert.SliceSumIdeal.nD Cert.SliceSumIdeal.τ).loc Cert.SliceSumIdeal.main_arg1) = m ((c.tc : Thread Cert.SliceSumIdeal.nD Cert.SliceSumIdeal.τ).loc Cert.SliceSumIdeal.main_arg1))
      ∧ θ_run (Cert.SliceSumRefIdeal.defs (F := Ideal)) (onTc (τ := Cert.SliceSumRefIdeal.τ) (Cert.SliceSumRefIdeal.main (F := Ideal))) ⟨m', fun _ => 0, g'⟩ (fun r => ∀ c : Dev Cert.SliceSumRefIdeal.nD,
          r.2.mem ((c.tc : Thread Cert.SliceSumRefIdeal.nD Cert.SliceSumRefIdeal.τ).loc Cert.SliceSumRefIdeal.main_v4) = v0 c
          ∧ r.2.mem ((c.tc : Thread Cert.SliceSumRefIdeal.nD Cert.SliceSumRefIdeal.τ).loc Cert.SliceSumRefIdeal.main_arg0) = m' ((c.tc : Thread Cert.SliceSumRefIdeal.nD Cert.SliceSumRefIdeal.τ).loc Cert.SliceSumRefIdeal.main_arg0)
          ∧ r.2.mem ((c.tc : Thread Cert.SliceSumRefIdeal.nD Cert.SliceSumRefIdeal.τ).loc Cert.SliceSumRefIdeal.main_arg1) = m' ((c.tc : Thread Cert.SliceSumRefIdeal.nD Cert.SliceSumRefIdeal.τ).loc Cert.SliceSumRefIdeal.main_arg1))

def preserves_AdamBig_AdamBigIdeal : Prop :=
  True

def algebraic_AdamBigIdeal_AdamBigRefIdeal [hAdamBigIdeal : Cert.AdamBigIdeal.Facts] [hAdamBigRefIdeal : Cert.AdamBigRefIdeal.Facts] : Prop :=
  ∀ (m : (ℓ : Loc Cert.AdamBigIdeal.nD Cert.AdamBigIdeal.τ Cert.AdamBigIdeal.sig) → Buf (Elt Ideal) ℓ) (g : Dev Cert.AdamBigIdeal.nD → PrngReg)
    (m' : (ℓ : Loc Cert.AdamBigRefIdeal.nD Cert.AdamBigRefIdeal.τ Cert.AdamBigRefIdeal.sig) → Buf (Elt Ideal) ℓ) (g' : Dev Cert.AdamBigRefIdeal.nD → PrngReg), Pre_AdamBigIdeal m →
    (∀ c : Dev Cert.AdamBigIdeal.nD,
      m' ((c.tc : Thread Cert.AdamBigRefIdeal.nD Cert.AdamBigRefIdeal.τ).loc Cert.AdamBigRefIdeal.main_arg0) = m ((c.tc : Thread Cert.AdamBigIdeal.nD Cert.AdamBigIdeal.τ).loc Cert.AdamBigIdeal.main_arg0)
      ∧ m' ((c.tc : Thread Cert.AdamBigRefIdeal.nD Cert.AdamBigRefIdeal.τ).loc Cert.AdamBigRefIdeal.main_arg1) = m ((c.tc : Thread Cert.AdamBigIdeal.nD Cert.AdamBigIdeal.τ).loc Cert.AdamBigIdeal.main_arg1)
      ∧ m' ((c.tc : Thread Cert.AdamBigRefIdeal.nD Cert.AdamBigRefIdeal.τ).loc Cert.AdamBigRefIdeal.main_arg2) = m ((c.tc : Thread Cert.AdamBigIdeal.nD Cert.AdamBigIdeal.τ).loc Cert.AdamBigIdeal.main_arg2)
      ∧ m' ((c.tc : Thread Cert.AdamBigRefIdeal.nD Cert.AdamBigRefIdeal.τ).loc Cert.AdamBigRefIdeal.main_arg3) = m ((c.tc : Thread Cert.AdamBigIdeal.nD Cert.AdamBigIdeal.τ).loc Cert.AdamBigIdeal.main_arg3)
      ∧ m' ((c.tc : Thread Cert.AdamBigRefIdeal.nD Cert.AdamBigRefIdeal.τ).loc Cert.AdamBigRefIdeal.main_arg4) = m ((c.tc : Thread Cert.AdamBigIdeal.nD Cert.AdamBigIdeal.τ).loc Cert.AdamBigIdeal.main_arg4)) →
    ∃ (v0 : (c : Dev Cert.AdamBigIdeal.nD) → Buf (Elt Ideal) ((c.tc : Thread Cert.AdamBigIdeal.nD Cert.AdamBigIdeal.τ).loc Cert.AdamBigIdeal.main_v1_0)) (v1 : (c : Dev Cert.AdamBigIdeal.nD) → Buf (Elt Ideal) ((c.tc : Thread Cert.AdamBigIdeal.nD Cert.AdamBigIdeal.τ).loc Cert.AdamBigIdeal.main_v1_1)) (v2 : (c : Dev Cert.AdamBigIdeal.nD) → Buf (Elt Ideal) ((c.tc : Thread Cert.AdamBigIdeal.nD Cert.AdamBigIdeal.τ).loc Cert.AdamBigIdeal.main_v1_2)) (v3 : (c : Dev Cert.AdamBigIdeal.nD) → Buf (Elt Ideal) ((c.tc : Thread Cert.AdamBigIdeal.nD Cert.AdamBigIdeal.τ).loc Cert.AdamBigIdeal.main_v1_3)),
      θ_run (Cert.AdamBigIdeal.defs (F := Ideal)) (onTc (τ := Cert.AdamBigIdeal.τ) (Cert.AdamBigIdeal.main (F := Ideal))) ⟨m, fun _ => 0, g⟩ (fun r => ∀ c : Dev Cert.AdamBigIdeal.nD,
          r.2.mem ((c.tc : Thread Cert.AdamBigIdeal.nD Cert.AdamBigIdeal.τ).loc Cert.AdamBigIdeal.main_v1_0) = v0 c
          ∧ r.2.mem ((c.tc : Thread Cert.AdamBigIdeal.nD Cert.AdamBigIdeal.τ).loc Cert.AdamBigIdeal.main_v1_1) = v1 c
          ∧ r.2.mem ((c.tc : Thread Cert.AdamBigIdeal.nD Cert.AdamBigIdeal.τ).loc Cert.AdamBigIdeal.main_v1_2) = v2 c
          ∧ r.2.mem ((c.tc : Thread Cert.AdamBigIdeal.nD Cert.AdamBigIdeal.τ).loc Cert.AdamBigIdeal.main_v1_3) = v3 c
          ∧ r.2.mem ((c.tc : Thread Cert.AdamBigIdeal.nD Cert.AdamBigIdeal.τ).loc Cert.AdamBigIdeal.main_arg0) = m ((c.tc : Thread Cert.AdamBigIdeal.nD Cert.AdamBigIdeal.τ).loc Cert.AdamBigIdeal.main_arg0)
          ∧ r.2.mem ((c.tc : Thread Cert.AdamBigIdeal.nD Cert.AdamBigIdeal.τ).loc Cert.AdamBigIdeal.main_arg1) = m ((c.tc : Thread Cert.AdamBigIdeal.nD Cert.AdamBigIdeal.τ).loc Cert.AdamBigIdeal.main_arg1)
          ∧ r.2.mem ((c.tc : Thread Cert.AdamBigIdeal.nD Cert.AdamBigIdeal.τ).loc Cert.AdamBigIdeal.main_arg2) = m ((c.tc : Thread Cert.AdamBigIdeal.nD Cert.AdamBigIdeal.τ).loc Cert.AdamBigIdeal.main_arg2)
          ∧ r.2.mem ((c.tc : Thread Cert.AdamBigIdeal.nD Cert.AdamBigIdeal.τ).loc Cert.AdamBigIdeal.main_arg3) = m ((c.tc : Thread Cert.AdamBigIdeal.nD Cert.AdamBigIdeal.τ).loc Cert.AdamBigIdeal.main_arg3)
          ∧ r.2.mem ((c.tc : Thread Cert.AdamBigIdeal.nD Cert.AdamBigIdeal.τ).loc Cert.AdamBigIdeal.main_arg4) = m ((c.tc : Thread Cert.AdamBigIdeal.nD Cert.AdamBigIdeal.τ).loc Cert.AdamBigIdeal.main_arg4))
      ∧ θ_run (Cert.AdamBigRefIdeal.defs (F := Ideal)) (onTc (τ := Cert.AdamBigRefIdeal.τ) (Cert.AdamBigRefIdeal.main (F := Ideal))) ⟨m', fun _ => 0, g'⟩ (fun r => ∀ c : Dev Cert.AdamBigRefIdeal.nD,
          r.2.mem ((c.tc : Thread Cert.AdamBigRefIdeal.nD Cert.AdamBigRefIdeal.τ).loc Cert.AdamBigRefIdeal.main_v1) = v0 c
          ∧ r.2.mem ((c.tc : Thread Cert.AdamBigRefIdeal.nD Cert.AdamBigRefIdeal.τ).loc Cert.AdamBigRefIdeal.main_v25) = v1 c
          ∧ r.2.mem ((c.tc : Thread Cert.AdamBigRefIdeal.nD Cert.AdamBigRefIdeal.τ).loc Cert.AdamBigRefIdeal.main_v6) = v2 c
          ∧ r.2.mem ((c.tc : Thread Cert.AdamBigRefIdeal.nD Cert.AdamBigRefIdeal.τ).loc Cert.AdamBigRefIdeal.main_v12) = v3 c
          ∧ r.2.mem ((c.tc : Thread Cert.AdamBigRefIdeal.nD Cert.AdamBigRefIdeal.τ).loc Cert.AdamBigRefIdeal.main_arg0) = m' ((c.tc : Thread Cert.AdamBigRefIdeal.nD Cert.AdamBigRefIdeal.τ).loc Cert.AdamBigRefIdeal.main_arg0)
          ∧ r.2.mem ((c.tc : Thread Cert.AdamBigRefIdeal.nD Cert.AdamBigRefIdeal.τ).loc Cert.AdamBigRefIdeal.main_arg1) = m' ((c.tc : Thread Cert.AdamBigRefIdeal.nD Cert.AdamBigRefIdeal.τ).loc Cert.AdamBigRefIdeal.main_arg1)
          ∧ r.2.mem ((c.tc : Thread Cert.AdamBigRefIdeal.nD Cert.AdamBigRefIdeal.τ).loc Cert.AdamBigRefIdeal.main_arg2) = m' ((c.tc : Thread Cert.AdamBigRefIdeal.nD Cert.AdamBigRefIdeal.τ).loc Cert.AdamBigRefIdeal.main_arg2)
          ∧ r.2.mem ((c.tc : Thread Cert.AdamBigRefIdeal.nD Cert.AdamBigRefIdeal.τ).loc Cert.AdamBigRefIdeal.main_arg3) = m' ((c.tc : Thread Cert.AdamBigRefIdeal.nD Cert.AdamBigRefIdeal.τ).loc Cert.AdamBigRefIdeal.main_arg3)
          ∧ r.2.mem ((c.tc : Thread Cert.AdamBigRefIdeal.nD Cert.AdamBigRefIdeal.τ).loc Cert.AdamBigRefIdeal.main_arg4) = m' ((c.tc : Thread Cert.AdamBigRefIdeal.nD Cert.AdamBigRefIdeal.τ).loc Cert.AdamBigRefIdeal.main_arg4))

def preserves_Pack_PackIdeal : Prop :=
  True

def algebraic_PackIdeal_PackRefIdeal [hPackIdeal : Cert.PackIdeal.Facts] [hPackRefIdeal : Cert.PackRefIdeal.Facts] : Prop :=
  ∀ (m : (ℓ : Loc Cert.PackIdeal.nD Cert.PackIdeal.τ Cert.PackIdeal.sig) → Buf (Elt Ideal) ℓ) (g : Dev Cert.PackIdeal.nD → PrngReg)
    (m' : (ℓ : Loc Cert.PackRefIdeal.nD Cert.PackRefIdeal.τ Cert.PackRefIdeal.sig) → Buf (Elt Ideal) ℓ) (g' : Dev Cert.PackRefIdeal.nD → PrngReg), Pre_PackIdeal m →
    (∀ c : Dev Cert.PackIdeal.nD,
      m' ((c.tc : Thread Cert.PackRefIdeal.nD Cert.PackRefIdeal.τ).loc Cert.PackRefIdeal.main_arg0) = m ((c.tc : Thread Cert.PackIdeal.nD Cert.PackIdeal.τ).loc Cert.PackIdeal.main_arg0)
      ∧ m' ((c.tc : Thread Cert.PackRefIdeal.nD Cert.PackRefIdeal.τ).loc Cert.PackRefIdeal.main_arg1) = m ((c.tc : Thread Cert.PackIdeal.nD Cert.PackIdeal.τ).loc Cert.PackIdeal.main_arg1)
      ∧ m' ((c.tc : Thread Cert.PackRefIdeal.nD Cert.PackRefIdeal.τ).loc Cert.PackRefIdeal.main_arg2) = m ((c.tc : Thread Cert.PackIdeal.nD Cert.PackIdeal.τ).loc Cert.PackIdeal.main_arg2)
      ∧ m' ((c.tc : Thread Cert.PackRefIdeal.nD Cert.PackRefIdeal.τ).loc Cert.PackRefIdeal.main_arg3) = m ((c.tc : Thread Cert.PackIdeal.nD Cert.PackIdeal.τ).loc Cert.PackIdeal.main_arg3)
      ∧ m' ((c.tc : Thread Cert.PackRefIdeal.nD Cert.PackRefIdeal.τ).loc Cert.PackRefIdeal.main_arg4) = m ((c.tc : Thread Cert.PackIdeal.nD Cert.PackIdeal.τ).loc Cert.PackIdeal.main_arg4)
      ∧ m' ((c.tc : Thread Cert.PackRefIdeal.nD Cert.PackRefIdeal.τ).loc Cert.PackRefIdeal.main_arg5) = m ((c.tc : Thread Cert.PackIdeal.nD Cert.PackIdeal.τ).loc Cert.PackIdeal.main_arg5)
      ∧ m' ((c.tc : Thread Cert.PackRefIdeal.nD Cert.PackRefIdeal.τ).loc Cert.PackRefIdeal.main_arg6) = m ((c.tc : Thread Cert.PackIdeal.nD Cert.PackIdeal.τ).loc Cert.PackIdeal.main_arg6)
      ∧ m' ((c.tc : Thread Cert.PackRefIdeal.nD Cert.PackRefIdeal.τ).loc Cert.PackRefIdeal.main_arg7) = m ((c.tc : Thread Cert.PackIdeal.nD Cert.PackIdeal.τ).loc Cert.PackIdeal.main_arg7)
      ∧ m' ((c.tc : Thread Cert.PackRefIdeal.nD Cert.PackRefIdeal.τ).loc Cert.PackRefIdeal.main_arg8) = m ((c.tc : Thread Cert.PackIdeal.nD Cert.PackIdeal.τ).loc Cert.PackIdeal.main_arg8)
      ∧ m' ((c.tc : Thread Cert.PackRefIdeal.nD Cert.PackRefIdeal.τ).loc Cert.PackRefIdeal.main_arg9) = m ((c.tc : Thread Cert.PackIdeal.nD Cert.PackIdeal.τ).loc Cert.PackIdeal.main_arg9)
      ∧ m' ((c.tc : Thread Cert.PackRefIdeal.nD Cert.PackRefIdeal.τ).loc Cert.PackRefIdeal.main_arg10) = m ((c.tc : Thread Cert.PackIdeal.nD Cert.PackIdeal.τ).loc Cert.PackIdeal.main_arg10)
      ∧ m' ((c.tc : Thread Cert.PackRefIdeal.nD Cert.PackRefIdeal.τ).loc Cert.PackRefIdeal.main_arg11) = m ((c.tc : Thread Cert.PackIdeal.nD Cert.PackIdeal.τ).loc Cert.PackIdeal.main_arg11)
      ∧ m' ((c.tc : Thread Cert.PackRefIdeal.nD Cert.PackRefIdeal.τ).loc Cert.PackRefIdeal.main_arg12) = m ((c.tc : Thread Cert.PackIdeal.nD Cert.PackIdeal.τ).loc Cert.PackIdeal.main_arg12)
      ∧ m' ((c.tc : Thread Cert.PackRefIdeal.nD Cert.PackRefIdeal.τ).loc Cert.PackRefIdeal.main_arg13) = m ((c.tc : Thread Cert.PackIdeal.nD Cert.PackIdeal.τ).loc Cert.PackIdeal.main_arg13)
      ∧ m' ((c.tc : Thread Cert.PackRefIdeal.nD Cert.PackRefIdeal.τ).loc Cert.PackRefIdeal.main_arg14) = m ((c.tc : Thread Cert.PackIdeal.nD Cert.PackIdeal.τ).loc Cert.PackIdeal.main_arg14)
      ∧ m' ((c.tc : Thread Cert.PackRefIdeal.nD Cert.PackRefIdeal.τ).loc Cert.PackRefIdeal.main_arg15) = m ((c.tc : Thread Cert.PackIdeal.nD Cert.PackIdeal.τ).loc Cert.PackIdeal.main_arg15)) →
    ∃ (v0 : (c : Dev Cert.PackIdeal.nD) → Buf (Elt Ideal) ((c.tc : Thread Cert.PackIdeal.nD Cert.PackIdeal.τ).loc Cert.PackIdeal.main_v21)) (v1 : (c : Dev Cert.PackIdeal.nD) → Buf (Elt Ideal) ((c.tc : Thread Cert.PackIdeal.nD Cert.PackIdeal.τ).loc Cert.PackIdeal.main_v23)) (v2 : (c : Dev Cert.PackIdeal.nD) → Buf (Elt Ideal) ((c.tc : Thread Cert.PackIdeal.nD Cert.PackIdeal.τ).loc Cert.PackIdeal.main_v25)) (v3 : (c : Dev Cert.PackIdeal.nD) → Buf (Elt Ideal) ((c.tc : Thread Cert.PackIdeal.nD Cert.PackIdeal.τ).loc Cert.PackIdeal.main_v26)) (v4 : (c : Dev Cert.PackIdeal.nD) → Buf (Elt Ideal) ((c.tc : Thread Cert.PackIdeal.nD Cert.PackIdeal.τ).loc Cert.PackIdeal.main_v28)) (v5 : (c : Dev Cert.PackIdeal.nD) → Buf (Elt Ideal) ((c.tc : Thread Cert.PackIdeal.nD Cert.PackIdeal.τ).loc Cert.PackIdeal.main_v30)) (v6 : (c : Dev Cert.PackIdeal.nD) → Buf (Elt Ideal) ((c.tc : Thread Cert.PackIdeal.nD Cert.PackIdeal.τ).loc Cert.PackIdeal.main_v32)) (v7 : (c : Dev Cert.PackIdeal.nD) → Buf (Elt Ideal) ((c.tc : Thread Cert.PackIdeal.nD Cert.PackIdeal.τ).loc Cert.PackIdeal.main_v34)) (v8 : (c : Dev Cert.PackIdeal.nD) → Buf (Elt Ideal) ((c.tc : Thread Cert.PackIdeal.nD Cert.PackIdeal.τ).loc Cert.PackIdeal.main_v36)) (v9 : (c : Dev Cert.PackIdeal.nD) → Buf (Elt Ideal) ((c.tc : Thread Cert.PackIdeal.nD Cert.PackIdeal.τ).loc Cert.PackIdeal.main_v38)) (v10 : (c : Dev Cert.PackIdeal.nD) → Buf (Elt Ideal) ((c.tc : Thread Cert.PackIdeal.nD Cert.PackIdeal.τ).loc Cert.PackIdeal.main_v40)) (v11 : (c : Dev Cert.PackIdeal.nD) → Buf (Elt Ideal) ((c.tc : Thread Cert.PackIdeal.nD Cert.PackIdeal.τ).loc Cert.PackIdeal.main_v42)) (v12 : (c : Dev Cert.PackIdeal.nD) → Buf (Elt Ideal) ((c.tc : Thread Cert.PackIdeal.nD Cert.PackIdeal.τ).loc Cert.PackIdeal.main_v44)) (v13 : (c : Dev Cert.PackIdeal.nD) → Buf (Elt Ideal) ((c.tc : Thread Cert.PackIdeal.nD Cert.PackIdeal.τ).loc Cert.PackIdeal.main_v46)) (v14 : (c : Dev Cert.PackIdeal.nD) → Buf (Elt Ideal) ((c.tc : Thread Cert.PackIdeal.nD Cert.PackIdeal.τ).loc Cert.PackIdeal.main_v48)) (v15 : (c : Dev Cert.PackIdeal.nD) → Buf (Elt Ideal) ((c.tc : Thread Cert.PackIdeal.nD Cert.PackIdeal.τ).loc Cert.PackIdeal.main_v50)),
      θ_run (Cert.PackIdeal.defs (F := Ideal)) (onTc (τ := Cert.PackIdeal.τ) (Cert.PackIdeal.main (F := Ideal))) ⟨m, fun _ => 0, g⟩ (fun r => ∀ c : Dev Cert.PackIdeal.nD,
          r.2.mem ((c.tc : Thread Cert.PackIdeal.nD Cert.PackIdeal.τ).loc Cert.PackIdeal.main_v21) = v0 c
          ∧ r.2.mem ((c.tc : Thread Cert.PackIdeal.nD Cert.PackIdeal.τ).loc Cert.PackIdeal.main_v23) = v1 c
          ∧ r.2.mem ((c.tc : Thread Cert.PackIdeal.nD Cert.PackIdeal.τ).loc Cert.PackIdeal.main_v25) = v2 c
          ∧ r.2.mem ((c.tc : Thread Cert.PackIdeal.nD Cert.PackIdeal.τ).loc Cert.PackIdeal.main_v26) = v3 c
          ∧ r.2.mem ((c.tc : Thread Cert.PackIdeal.nD Cert.PackIdeal.τ).loc Cert.PackIdeal.main_v28) = v4 c
          ∧ r.2.mem ((c.tc : Thread Cert.PackIdeal.nD Cert.PackIdeal.τ).loc Cert.PackIdeal.main_v30) = v5 c
          ∧ r.2.mem ((c.tc : Thread Cert.PackIdeal.nD Cert.PackIdeal.τ).loc Cert.PackIdeal.main_v32) = v6 c
          ∧ r.2.mem ((c.tc : Thread Cert.PackIdeal.nD Cert.PackIdeal.τ).loc Cert.PackIdeal.main_v34) = v7 c
          ∧ r.2.mem ((c.tc : Thread Cert.PackIdeal.nD Cert.PackIdeal.τ).loc Cert.PackIdeal.main_v36) = v8 c
          ∧ r.2.mem ((c.tc : Thread Cert.PackIdeal.nD Cert.PackIdeal.τ).loc Cert.PackIdeal.main_v38) = v9 c
          ∧ r.2.mem ((c.tc : Thread Cert.PackIdeal.nD Cert.PackIdeal.τ).loc Cert.PackIdeal.main_v40) = v10 c
          ∧ r.2.mem ((c.tc : Thread Cert.PackIdeal.nD Cert.PackIdeal.τ).loc Cert.PackIdeal.main_v42) = v11 c
          ∧ r.2.mem ((c.tc : Thread Cert.PackIdeal.nD Cert.PackIdeal.τ).loc Cert.PackIdeal.main_v44) = v12 c
          ∧ r.2.mem ((c.tc : Thread Cert.PackIdeal.nD Cert.PackIdeal.τ).loc Cert.PackIdeal.main_v46) = v13 c
          ∧ r.2.mem ((c.tc : Thread Cert.PackIdeal.nD Cert.PackIdeal.τ).loc Cert.PackIdeal.main_v48) = v14 c
          ∧ r.2.mem ((c.tc : Thread Cert.PackIdeal.nD Cert.PackIdeal.τ).loc Cert.PackIdeal.main_v50) = v15 c
          ∧ r.2.mem ((c.tc : Thread Cert.PackIdeal.nD Cert.PackIdeal.τ).loc Cert.PackIdeal.main_arg0) = m ((c.tc : Thread Cert.PackIdeal.nD Cert.PackIdeal.τ).loc Cert.PackIdeal.main_arg0)
          ∧ r.2.mem ((c.tc : Thread Cert.PackIdeal.nD Cert.PackIdeal.τ).loc Cert.PackIdeal.main_arg1) = m ((c.tc : Thread Cert.PackIdeal.nD Cert.PackIdeal.τ).loc Cert.PackIdeal.main_arg1)
          ∧ r.2.mem ((c.tc : Thread Cert.PackIdeal.nD Cert.PackIdeal.τ).loc Cert.PackIdeal.main_arg2) = m ((c.tc : Thread Cert.PackIdeal.nD Cert.PackIdeal.τ).loc Cert.PackIdeal.main_arg2)
          ∧ r.2.mem ((c.tc : Thread Cert.PackIdeal.nD Cert.PackIdeal.τ).loc Cert.PackIdeal.main_arg3) = m ((c.tc : Thread Cert.PackIdeal.nD Cert.PackIdeal.τ).loc Cert.PackIdeal.main_arg3)
          ∧ r.2.mem ((c.tc : Thread Cert.PackIdeal.nD Cert.PackIdeal.τ).loc Cert.PackIdeal.main_arg4) = m ((c.tc : Thread Cert.PackIdeal.nD Cert.PackIdeal.τ).loc Cert.PackIdeal.main_arg4)
          ∧ r.2.mem ((c.tc : Thread Cert.PackIdeal.nD Cert.PackIdeal.τ).loc Cert.PackIdeal.main_arg5) = m ((c.tc : Thread Cert.PackIdeal.nD Cert.PackIdeal.τ).loc Cert.PackIdeal.main_arg5)
          ∧ r.2.mem ((c.tc : Thread Cert.PackIdeal.nD Cert.PackIdeal.τ).loc Cert.PackIdeal.main_arg6) = m ((c.tc : Thread Cert.PackIdeal.nD Cert.PackIdeal.τ).loc Cert.PackIdeal.main_arg6)
          ∧ r.2.mem ((c.tc : Thread Cert.PackIdeal.nD Cert.PackIdeal.τ).loc Cert.PackIdeal.main_arg7) = m ((c.tc : Thread Cert.PackIdeal.nD Cert.PackIdeal.τ).loc Cert.PackIdeal.main_arg7)
          ∧ r.2.mem ((c.tc : Thread Cert.PackIdeal.nD Cert.PackIdeal.τ).loc Cert.PackIdeal.main_arg8) = m ((c.tc : Thread Cert.PackIdeal.nD Cert.PackIdeal.τ).loc Cert.PackIdeal.main_arg8)
          ∧ r.2.mem ((c.tc : Thread Cert.PackIdeal.nD Cert.PackIdeal.τ).loc Cert.PackIdeal.main_arg9) = m ((c.tc : Thread Cert.PackIdeal.nD Cert.PackIdeal.τ).loc Cert.PackIdeal.main_arg9)
          ∧ r.2.mem ((c.tc : Thread Cert.PackIdeal.nD Cert.PackIdeal.τ).loc Cert.PackIdeal.main_arg10) = m ((c.tc : Thread Cert.PackIdeal.nD Cert.PackIdeal.τ).loc Cert.PackIdeal.main_arg10)
          ∧ r.2.mem ((c.tc : Thread Cert.PackIdeal.nD Cert.PackIdeal.τ).loc Cert.PackIdeal.main_arg11) = m ((c.tc : Thread Cert.PackIdeal.nD Cert.PackIdeal.τ).loc Cert.PackIdeal.main_arg11)
          ∧ r.2.mem ((c.tc : Thread Cert.PackIdeal.nD Cert.PackIdeal.τ).loc Cert.PackIdeal.main_arg12) = m ((c.tc : Thread Cert.PackIdeal.nD Cert.PackIdeal.τ).loc Cert.PackIdeal.main_arg12)
          ∧ r.2.mem ((c.tc : Thread Cert.PackIdeal.nD Cert.PackIdeal.τ).loc Cert.PackIdeal.main_arg13) = m ((c.tc : Thread Cert.PackIdeal.nD Cert.PackIdeal.τ).loc Cert.PackIdeal.main_arg13)
          ∧ r.2.mem ((c.tc : Thread Cert.PackIdeal.nD Cert.PackIdeal.τ).loc Cert.PackIdeal.main_arg14) = m ((c.tc : Thread Cert.PackIdeal.nD Cert.PackIdeal.τ).loc Cert.PackIdeal.main_arg14)
          ∧ r.2.mem ((c.tc : Thread Cert.PackIdeal.nD Cert.PackIdeal.τ).loc Cert.PackIdeal.main_arg15) = m ((c.tc : Thread Cert.PackIdeal.nD Cert.PackIdeal.τ).loc Cert.PackIdeal.main_arg15))
      ∧ θ_run (Cert.PackRefIdeal.defs (F := Ideal)) (onTc (τ := Cert.PackRefIdeal.τ) (Cert.PackRefIdeal.main (F := Ideal))) ⟨m', fun _ => 0, g'⟩ (fun r => ∀ c : Dev Cert.PackRefIdeal.nD,
          r.2.mem ((c.tc : Thread Cert.PackRefIdeal.nD Cert.PackRefIdeal.τ).loc Cert.PackRefIdeal.main_arg0) = v0 c
          ∧ r.2.mem ((c.tc : Thread Cert.PackRefIdeal.nD Cert.PackRefIdeal.τ).loc Cert.PackRefIdeal.main_arg1) = v1 c
          ∧ r.2.mem ((c.tc : Thread Cert.PackRefIdeal.nD Cert.PackRefIdeal.τ).loc Cert.PackRefIdeal.main_arg2) = v2 c
          ∧ r.2.mem ((c.tc : Thread Cert.PackRefIdeal.nD Cert.PackRefIdeal.τ).loc Cert.PackRefIdeal.main_arg3) = v3 c
          ∧ r.2.mem ((c.tc : Thread Cert.PackRefIdeal.nD Cert.PackRefIdeal.τ).loc Cert.PackRefIdeal.main_arg4) = v4 c
          ∧ r.2.mem ((c.tc : Thread Cert.PackRefIdeal.nD Cert.PackRefIdeal.τ).loc Cert.PackRefIdeal.main_arg5) = v5 c
          ∧ r.2.mem ((c.tc : Thread Cert.PackRefIdeal.nD Cert.PackRefIdeal.τ).loc Cert.PackRefIdeal.main_arg6) = v6 c
          ∧ r.2.mem ((c.tc : Thread Cert.PackRefIdeal.nD Cert.PackRefIdeal.τ).loc Cert.PackRefIdeal.main_arg7) = v7 c
          ∧ r.2.mem ((c.tc : Thread Cert.PackRefIdeal.nD Cert.PackRefIdeal.τ).loc Cert.PackRefIdeal.main_arg8) = v8 c
          ∧ r.2.mem ((c.tc : Thread Cert.PackRefIdeal.nD Cert.PackRefIdeal.τ).loc Cert.PackRefIdeal.main_arg9) = v9 c
          ∧ r.2.mem ((c.tc : Thread Cert.PackRefIdeal.nD Cert.PackRefIdeal.τ).loc Cert.PackRefIdeal.main_arg10) = v10 c
          ∧ r.2.mem ((c.tc : Thread Cert.PackRefIdeal.nD Cert.PackRefIdeal.τ).loc Cert.PackRefIdeal.main_arg11) = v11 c
          ∧ r.2.mem ((c.tc : Thread Cert.PackRefIdeal.nD Cert.PackRefIdeal.τ).loc Cert.PackRefIdeal.main_arg12) = v12 c
          ∧ r.2.mem ((c.tc : Thread Cert.PackRefIdeal.nD Cert.PackRefIdeal.τ).loc Cert.PackRefIdeal.main_arg13) = v13 c
          ∧ r.2.mem ((c.tc : Thread Cert.PackRefIdeal.nD Cert.PackRefIdeal.τ).loc Cert.PackRefIdeal.main_arg14) = v14 c
          ∧ r.2.mem ((c.tc : Thread Cert.PackRefIdeal.nD Cert.PackRefIdeal.τ).loc Cert.PackRefIdeal.main_arg15) = v15 c
          ∧ r.2.mem ((c.tc : Thread Cert.PackRefIdeal.nD Cert.PackRefIdeal.τ).loc Cert.PackRefIdeal.main_arg0) = m' ((c.tc : Thread Cert.PackRefIdeal.nD Cert.PackRefIdeal.τ).loc Cert.PackRefIdeal.main_arg0)
          ∧ r.2.mem ((c.tc : Thread Cert.PackRefIdeal.nD Cert.PackRefIdeal.τ).loc Cert.PackRefIdeal.main_arg1) = m' ((c.tc : Thread Cert.PackRefIdeal.nD Cert.PackRefIdeal.τ).loc Cert.PackRefIdeal.main_arg1)
          ∧ r.2.mem ((c.tc : Thread Cert.PackRefIdeal.nD Cert.PackRefIdeal.τ).loc Cert.PackRefIdeal.main_arg2) = m' ((c.tc : Thread Cert.PackRefIdeal.nD Cert.PackRefIdeal.τ).loc Cert.PackRefIdeal.main_arg2)
          ∧ r.2.mem ((c.tc : Thread Cert.PackRefIdeal.nD Cert.PackRefIdeal.τ).loc Cert.PackRefIdeal.main_arg3) = m' ((c.tc : Thread Cert.PackRefIdeal.nD Cert.PackRefIdeal.τ).loc Cert.PackRefIdeal.main_arg3)
          ∧ r.2.mem ((c.tc : Thread Cert.PackRefIdeal.nD Cert.PackRefIdeal.τ).loc Cert.PackRefIdeal.main_arg4) = m' ((c.tc : Thread Cert.PackRefIdeal.nD Cert.PackRefIdeal.τ).loc Cert.PackRefIdeal.main_arg4)
          ∧ r.2.mem ((c.tc : Thread Cert.PackRefIdeal.nD Cert.PackRefIdeal.τ).loc Cert.PackRefIdeal.main_arg5) = m' ((c.tc : Thread Cert.PackRefIdeal.nD Cert.PackRefIdeal.τ).loc Cert.PackRefIdeal.main_arg5)
          ∧ r.2.mem ((c.tc : Thread Cert.PackRefIdeal.nD Cert.PackRefIdeal.τ).loc Cert.PackRefIdeal.main_arg6) = m' ((c.tc : Thread Cert.PackRefIdeal.nD Cert.PackRefIdeal.τ).loc Cert.PackRefIdeal.main_arg6)
          ∧ r.2.mem ((c.tc : Thread Cert.PackRefIdeal.nD Cert.PackRefIdeal.τ).loc Cert.PackRefIdeal.main_arg7) = m' ((c.tc : Thread Cert.PackRefIdeal.nD Cert.PackRefIdeal.τ).loc Cert.PackRefIdeal.main_arg7)
          ∧ r.2.mem ((c.tc : Thread Cert.PackRefIdeal.nD Cert.PackRefIdeal.τ).loc Cert.PackRefIdeal.main_arg8) = m' ((c.tc : Thread Cert.PackRefIdeal.nD Cert.PackRefIdeal.τ).loc Cert.PackRefIdeal.main_arg8)
          ∧ r.2.mem ((c.tc : Thread Cert.PackRefIdeal.nD Cert.PackRefIdeal.τ).loc Cert.PackRefIdeal.main_arg9) = m' ((c.tc : Thread Cert.PackRefIdeal.nD Cert.PackRefIdeal.τ).loc Cert.PackRefIdeal.main_arg9)
          ∧ r.2.mem ((c.tc : Thread Cert.PackRefIdeal.nD Cert.PackRefIdeal.τ).loc Cert.PackRefIdeal.main_arg10) = m' ((c.tc : Thread Cert.PackRefIdeal.nD Cert.PackRefIdeal.τ).loc Cert.PackRefIdeal.main_arg10)
          ∧ r.2.mem ((c.tc : Thread Cert.PackRefIdeal.nD Cert.PackRefIdeal.τ).loc Cert.PackRefIdeal.main_arg11) = m' ((c.tc : Thread Cert.PackRefIdeal.nD Cert.PackRefIdeal.τ).loc Cert.PackRefIdeal.main_arg11)
          ∧ r.2.mem ((c.tc : Thread Cert.PackRefIdeal.nD Cert.PackRefIdeal.τ).loc Cert.PackRefIdeal.main_arg12) = m' ((c.tc : Thread Cert.PackRefIdeal.nD Cert.PackRefIdeal.τ).loc Cert.PackRefIdeal.main_arg12)
          ∧ r.2.mem ((c.tc : Thread Cert.PackRefIdeal.nD Cert.PackRefIdeal.τ).loc Cert.PackRefIdeal.main_arg13) = m' ((c.tc : Thread Cert.PackRefIdeal.nD Cert.PackRefIdeal.τ).loc Cert.PackRefIdeal.main_arg13)
          ∧ r.2.mem ((c.tc : Thread Cert.PackRefIdeal.nD Cert.PackRefIdeal.τ).loc Cert.PackRefIdeal.main_arg14) = m' ((c.tc : Thread Cert.PackRefIdeal.nD Cert.PackRefIdeal.τ).loc Cert.PackRefIdeal.main_arg14)
          ∧ r.2.mem ((c.tc : Thread Cert.PackRefIdeal.nD Cert.PackRefIdeal.τ).loc Cert.PackRefIdeal.main_arg15) = m' ((c.tc : Thread Cert.PackRefIdeal.nD Cert.PackRefIdeal.τ).loc Cert.PackRefIdeal.main_arg15))

def Claim : Prop :=
  ∃ (hPle : Cert.Ple.Facts) (hPleIdeal : Cert.PleIdeal.Facts) (hPleRefIdeal : Cert.PleRefIdeal.Facts) (hGlu : Cert.Glu.Facts) (hGluIdeal : Cert.GluIdeal.Facts) (hGluRefIdeal : Cert.GluRefIdeal.Facts) (hGmlp : Cert.Gmlp.Facts) (hGmlpIdeal : Cert.GmlpIdeal.Facts) (hGmlpRefIdeal : Cert.GmlpRefIdeal.Facts) (hRmsBwd : Cert.RmsBwd.Facts) (hRmsBwdIdeal : Cert.RmsBwdIdeal.Facts) (hRmsRefIdeal : Cert.RmsRefIdeal.Facts) (hLoss : Cert.Loss.Facts) (hLossIdeal : Cert.LossIdeal.Facts) (hLossRefIdeal : Cert.LossRefIdeal.Facts) (hPrep : Cert.Prep.Facts) (hPrepIdeal : Cert.PrepIdeal.Facts) (hPrepRefIdeal : Cert.PrepRefIdeal.Facts) (hSwi : Cert.Swi.Facts) (hSwiIdeal : Cert.SwiIdeal.Facts) (hSwiRefIdeal : Cert.SwiRefIdeal.Facts) (hGmlpF : Cert.GmlpF.Facts) (hGmlpFIdeal : Cert.GmlpFIdeal.Facts) (hGmlpFRefIdeal : Cert.GmlpFRefIdeal.Facts) (hRmsF : Cert.RmsF.Facts) (hRmsFIdeal : Cert.RmsFIdeal.Facts) (hRmsFRefIdeal : Cert.RmsFRefIdeal.Facts) (hPrepF : Cert.PrepF.Facts) (hPrepFIdeal : Cert.PrepFIdeal.Facts) (hPrepFRefIdeal : Cert.PrepFRefIdeal.Facts) (hUp : Cert.Up.Facts) (hUpIdeal : Cert.UpIdeal.Facts) (hUpRefIdeal : Cert.UpRefIdeal.Facts) (hGate : Cert.Gate.Facts) (hGateIdeal : Cert.GateIdeal.Facts) (hGateRefIdeal : Cert.GateRefIdeal.Facts) (hOut : Cert.Out.Facts) (hOutIdeal : Cert.OutIdeal.Facts) (hOutRefIdeal : Cert.OutRefIdeal.Facts) (hS5F : Cert.S5F.Facts) (hS5FIdeal : Cert.S5FIdeal.Facts) (hS5FRefIdeal : Cert.S5FRefIdeal.Facts) (hDown : Cert.Down.Facts) (hDownIdeal : Cert.DownIdeal.Facts) (hDownRefIdeal : Cert.DownRefIdeal.Facts) (hDx : Cert.Dx.Facts) (hDxIdeal : Cert.DxIdeal.Facts) (hDxRefIdeal : Cert.DxRefIdeal.Facts) (hDw : Cert.Dw.Facts) (hDwIdeal : Cert.DwIdeal.Facts) (hDwRefIdeal : Cert.DwRefIdeal.Facts) (hAdam : Cert.Adam.Facts) (hAdamIdeal : Cert.AdamIdeal.Facts) (hAdamRefIdeal : Cert.AdamRefIdeal.Facts) (hCast : Cert.Cast.Facts) (hCastIdeal : Cert.CastIdeal.Facts) (hCastRefIdeal : Cert.CastRefIdeal.Facts) (hChipSum : Cert.ChipSum.Facts) (hChipSumIdeal : Cert.ChipSumIdeal.Facts) (hChipSumRefIdeal : Cert.ChipSumRefIdeal.Facts) (hPartSum : Cert.PartSum.Facts) (hPartSumIdeal : Cert.PartSumIdeal.Facts) (hPartSumRefIdeal : Cert.PartSumRefIdeal.Facts) (hSliceSum : Cert.SliceSum.Facts) (hSliceSumIdeal : Cert.SliceSumIdeal.Facts) (hSliceSumRefIdeal : Cert.SliceSumRefIdeal.Facts) (hAdamBig : Cert.AdamBig.Facts) (hAdamBigIdeal : Cert.AdamBigIdeal.Facts) (hAdamBigRefIdeal : Cert.AdamBigRefIdeal.Facts) (hPack : Cert.Pack.Facts) (hPackIdeal : Cert.PackIdeal.Facts) (hPackRefIdeal : Cert.PackRefIdeal.Facts) (hPre_finite_gmlp : Cert.Pre_finite_gmlp.Facts) (hPre_finite_rms : Cert.Pre_finite_rms.Facts) (hPre_finite_loss : Cert.Pre_finite_loss.Facts) (hPre_tame_prep : Cert.Pre_tame_prep.Facts) (hPre_finite_swi : Cert.Pre_finite_swi.Facts) (hPre_finite_s5f : Cert.Pre_finite_s5f.Facts),
    quiescent_Ple (hPle := hPle)
    ∧ quiescent_PleIdeal (hPleIdeal := hPleIdeal)
    ∧ quiescent_PleRefIdeal (hPleRefIdeal := hPleRefIdeal)
    ∧ quiescent_Glu (hGlu := hGlu)
    ∧ quiescent_GluIdeal (hGluIdeal := hGluIdeal)
    ∧ quiescent_GluRefIdeal (hGluRefIdeal := hGluRefIdeal)
    ∧ quiescent_Gmlp (hGmlp := hGmlp)
    ∧ quiescent_GmlpIdeal (hGmlpIdeal := hGmlpIdeal)
    ∧ quiescent_GmlpIdeal_pre_finite_gmlp (hGmlpIdeal := hGmlpIdeal) (hPre_finite_gmlp := hPre_finite_gmlp)
    ∧ quiescent_GmlpRefIdeal (hGmlpRefIdeal := hGmlpRefIdeal)
    ∧ quiescent_GmlpRefIdeal_pre_finite_gmlp (hGmlpRefIdeal := hGmlpRefIdeal) (hPre_finite_gmlp := hPre_finite_gmlp)
    ∧ quiescent_RmsBwd (hRmsBwd := hRmsBwd)
    ∧ quiescent_RmsBwdIdeal (hRmsBwdIdeal := hRmsBwdIdeal)
    ∧ quiescent_RmsBwdIdeal_pre_finite_rms (hRmsBwdIdeal := hRmsBwdIdeal) (hPre_finite_rms := hPre_finite_rms)
    ∧ quiescent_RmsRefIdeal (hRmsRefIdeal := hRmsRefIdeal)
    ∧ quiescent_RmsRefIdeal_pre_finite_rms (hRmsRefIdeal := hRmsRefIdeal) (hPre_finite_rms := hPre_finite_rms)
    ∧ quiescent_Loss (hLoss := hLoss)
    ∧ quiescent_LossIdeal (hLossIdeal := hLossIdeal)
    ∧ quiescent_LossIdeal_pre_finite_loss (hLossIdeal := hLossIdeal) (hPre_finite_loss := hPre_finite_loss)
    ∧ quiescent_LossRefIdeal (hLossRefIdeal := hLossRefIdeal)
    ∧ quiescent_LossRefIdeal_pre_finite_loss (hLossRefIdeal := hLossRefIdeal) (hPre_finite_loss := hPre_finite_loss)
    ∧ quiescent_Prep (hPrep := hPrep)
    ∧ quiescent_PrepIdeal (hPrepIdeal := hPrepIdeal)
    ∧ quiescent_PrepIdeal_pre_tame_prep (hPrepIdeal := hPrepIdeal) (hPre_tame_prep := hPre_tame_prep)
    ∧ quiescent_PrepRefIdeal (hPrepRefIdeal := hPrepRefIdeal)
    ∧ quiescent_PrepRefIdeal_pre_tame_prep (hPrepRefIdeal := hPrepRefIdeal) (hPre_tame_prep := hPre_tame_prep)
    ∧ quiescent_Swi (hSwi := hSwi)
    ∧ quiescent_SwiIdeal (hSwiIdeal := hSwiIdeal)
    ∧ quiescent_SwiIdeal_pre_finite_swi (hSwiIdeal := hSwiIdeal) (hPre_finite_swi := hPre_finite_swi)
    ∧ quiescent_SwiRefIdeal (hSwiRefIdeal := hSwiRefIdeal)
    ∧ quiescent_SwiRefIdeal_pre_finite_swi (hSwiRefIdeal := hSwiRefIdeal) (hPre_finite_swi := hPre_finite_swi)
    ∧ quiescent_GmlpF (hGmlpF := hGmlpF)
    ∧ quiescent_GmlpFIdeal (hGmlpFIdeal := hGmlpFIdeal)
    ∧ quiescent_GmlpFRefIdeal (hGmlpFRefIdeal := hGmlpFRefIdeal)
    ∧ quiescent_RmsF (hRmsF := hRmsF)
    ∧ quiescent_RmsFIdeal (hRmsFIdeal := hRmsFIdeal)
    ∧ quiescent_RmsFRefIdeal (hRmsFRefIdeal := hRmsFRefIdeal)
    ∧ quiescent_PrepF (hPrepF := hPrepF)
    ∧ quiescent_PrepFIdeal (hPrepFIdeal := hPrepFIdeal)
    ∧ quiescent_PrepFRefIdeal (hPrepFRefIdeal := hPrepFRefIdeal)
    ∧ quiescent_Up (hUp := hUp)
    ∧ quiescent_UpIdeal (hUpIdeal := hUpIdeal)
    ∧ quiescent_UpRefIdeal (hUpRefIdeal := hUpRefIdeal)
    ∧ quiescent_Gate (hGate := hGate)
    ∧ quiescent_GateIdeal (hGateIdeal := hGateIdeal)
    ∧ quiescent_GateRefIdeal (hGateRefIdeal := hGateRefIdeal)
    ∧ quiescent_Out (hOut := hOut)
    ∧ quiescent_OutIdeal (hOutIdeal := hOutIdeal)
    ∧ quiescent_OutRefIdeal (hOutRefIdeal := hOutRefIdeal)
    ∧ quiescent_S5F (hS5F := hS5F)
    ∧ quiescent_S5FIdeal (hS5FIdeal := hS5FIdeal)
    ∧ quiescent_S5FIdeal_pre_finite_s5f (hS5FIdeal := hS5FIdeal) (hPre_finite_s5f := hPre_finite_s5f)
    ∧ quiescent_S5FRefIdeal (hS5FRefIdeal := hS5FRefIdeal)
    ∧ quiescent_S5FRefIdeal_pre_finite_s5f (hS5FRefIdeal := hS5FRefIdeal) (hPre_finite_s5f := hPre_finite_s5f)
    ∧ quiescent_Down (hDown := hDown)
    ∧ quiescent_DownIdeal (hDownIdeal := hDownIdeal)
    ∧ quiescent_DownRefIdeal (hDownRefIdeal := hDownRefIdeal)
    ∧ quiescent_Dx (hDx := hDx)
    ∧ quiescent_DxIdeal (hDxIdeal := hDxIdeal)
    ∧ quiescent_DxRefIdeal (hDxRefIdeal := hDxRefIdeal)
    ∧ quiescent_Dw (hDw := hDw)
    ∧ quiescent_DwIdeal (hDwIdeal := hDwIdeal)
    ∧ quiescent_DwRefIdeal (hDwRefIdeal := hDwRefIdeal)
    ∧ quiescent_Adam (hAdam := hAdam)
    ∧ quiescent_AdamIdeal (hAdamIdeal := hAdamIdeal)
    ∧ quiescent_AdamRefIdeal (hAdamRefIdeal := hAdamRefIdeal)
    ∧ quiescent_Cast (hCast := hCast)
    ∧ quiescent_CastIdeal (hCastIdeal := hCastIdeal)
    ∧ quiescent_CastRefIdeal (hCastRefIdeal := hCastRefIdeal)
    ∧ quiescent_ChipSum (hChipSum := hChipSum)
    ∧ quiescent_ChipSumIdeal (hChipSumIdeal := hChipSumIdeal)
    ∧ quiescent_ChipSumRefIdeal (hChipSumRefIdeal := hChipSumRefIdeal)
    ∧ quiescent_PartSum (hPartSum := hPartSum)
    ∧ quiescent_PartSumIdeal (hPartSumIdeal := hPartSumIdeal)
    ∧ quiescent_PartSumRefIdeal (hPartSumRefIdeal := hPartSumRefIdeal)
    ∧ quiescent_SliceSum (hSliceSum := hSliceSum)
    ∧ quiescent_SliceSumIdeal (hSliceSumIdeal := hSliceSumIdeal)
    ∧ quiescent_SliceSumRefIdeal (hSliceSumRefIdeal := hSliceSumRefIdeal)
    ∧ quiescent_AdamBig (hAdamBig := hAdamBig)
    ∧ quiescent_AdamBigIdeal (hAdamBigIdeal := hAdamBigIdeal)
    ∧ quiescent_AdamBigRefIdeal (hAdamBigRefIdeal := hAdamBigRefIdeal)
    ∧ quiescent_Pack (hPack := hPack)
    ∧ quiescent_PackIdeal (hPackIdeal := hPackIdeal)
    ∧ quiescent_PackRefIdeal (hPackRefIdeal := hPackRefIdeal)
    ∧ preserves_Ple_PleIdeal
    ∧ algebraic_PleIdeal_PleRefIdeal (hPleIdeal := hPleIdeal) (hPleRefIdeal := hPleRefIdeal)
    ∧ preserves_Glu_GluIdeal
    ∧ algebraic_GluIdeal_GluRefIdeal (hGluIdeal := hGluIdeal) (hGluRefIdeal := hGluRefIdeal)
    ∧ preserves_Gmlp_GmlpIdeal
    ∧ algebraic_GmlpIdeal_GmlpRefIdeal_pre_finite_gmlp (hGmlpIdeal := hGmlpIdeal) (hGmlpRefIdeal := hGmlpRefIdeal) (hPre_finite_gmlp := hPre_finite_gmlp)
    ∧ preserves_RmsBwd_RmsBwdIdeal
    ∧ algebraic_RmsBwdIdeal_RmsRefIdeal_pre_finite_rms (hRmsBwdIdeal := hRmsBwdIdeal) (hRmsRefIdeal := hRmsRefIdeal) (hPre_finite_rms := hPre_finite_rms)
    ∧ preserves_Loss_LossIdeal
    ∧ algebraic_LossIdeal_LossRefIdeal_pre_finite_loss (hLossIdeal := hLossIdeal) (hLossRefIdeal := hLossRefIdeal) (hPre_finite_loss := hPre_finite_loss)
    ∧ preserves_Prep_PrepIdeal
    ∧ algebraic_PrepIdeal_PrepRefIdeal_pre_tame_prep (hPrepIdeal := hPrepIdeal) (hPrepRefIdeal := hPrepRefIdeal) (hPre_tame_prep := hPre_tame_prep)
    ∧ preserves_Swi_SwiIdeal
    ∧ algebraic_SwiIdeal_SwiRefIdeal_pre_finite_swi (hSwiIdeal := hSwiIdeal) (hSwiRefIdeal := hSwiRefIdeal) (hPre_finite_swi := hPre_finite_swi)
    ∧ preserves_GmlpF_GmlpFIdeal
    ∧ algebraic_GmlpFIdeal_GmlpFRefIdeal (hGmlpFIdeal := hGmlpFIdeal) (hGmlpFRefIdeal := hGmlpFRefIdeal)
    ∧ preserves_RmsF_RmsFIdeal
    ∧ algebraic_RmsFIdeal_RmsFRefIdeal (hRmsFIdeal := hRmsFIdeal) (hRmsFRefIdeal := hRmsFRefIdeal)
    ∧ preserves_PrepF_PrepFIdeal
    ∧ algebraic_PrepFIdeal_PrepFRefIdeal (hPrepFIdeal := hPrepFIdeal) (hPrepFRefIdeal := hPrepFRefIdeal)
    ∧ preserves_Up_UpIdeal
    ∧ algebraic_UpIdeal_UpRefIdeal (hUpIdeal := hUpIdeal) (hUpRefIdeal := hUpRefIdeal)
    ∧ preserves_Gate_GateIdeal
    ∧ algebraic_GateIdeal_GateRefIdeal (hGateIdeal := hGateIdeal) (hGateRefIdeal := hGateRefIdeal)
    ∧ preserves_Out_OutIdeal
    ∧ algebraic_OutIdeal_OutRefIdeal (hOutIdeal := hOutIdeal) (hOutRefIdeal := hOutRefIdeal)
    ∧ preserves_S5F_S5FIdeal
    ∧ algebraic_S5FIdeal_S5FRefIdeal_pre_finite_s5f (hS5FIdeal := hS5FIdeal) (hS5FRefIdeal := hS5FRefIdeal) (hPre_finite_s5f := hPre_finite_s5f)
    ∧ preserves_Down_DownIdeal
    ∧ algebraic_DownIdeal_DownRefIdeal (hDownIdeal := hDownIdeal) (hDownRefIdeal := hDownRefIdeal)
    ∧ preserves_Dx_DxIdeal
    ∧ algebraic_DxIdeal_DxRefIdeal (hDxIdeal := hDxIdeal) (hDxRefIdeal := hDxRefIdeal)
    ∧ preserves_Dw_DwIdeal
    ∧ algebraic_DwIdeal_DwRefIdeal (hDwIdeal := hDwIdeal) (hDwRefIdeal := hDwRefIdeal)
    ∧ preserves_Adam_AdamIdeal
    ∧ algebraic_AdamIdeal_AdamRefIdeal (hAdamIdeal := hAdamIdeal) (hAdamRefIdeal := hAdamRefIdeal)
    ∧ preserves_Cast_CastIdeal
    ∧ algebraic_CastIdeal_CastRefIdeal (hCastIdeal := hCastIdeal) (hCastRefIdeal := hCastRefIdeal)
    ∧ preserves_ChipSum_ChipSumIdeal
    ∧ algebraic_ChipSumIdeal_ChipSumRefIdeal (hChipSumIdeal := hChipSumIdeal) (hChipSumRefIdeal := hChipSumRefIdeal)
    ∧ preserves_PartSum_PartSumIdeal
    ∧ algebraic_PartSumIdeal_PartSumRefIdeal (hPartSumIdeal := hPartSumIdeal) (hPartSumRefIdeal := hPartSumRefIdeal)
    ∧ preserves_SliceSum_SliceSumIdeal
    ∧ algebraic_SliceSumIdeal_SliceSumRefIdeal (hSliceSumIdeal := hSliceSumIdeal) (hSliceSumRefIdeal := hSliceSumRefIdeal)
    ∧ preserves_AdamBig_AdamBigIdeal
    ∧ algebraic_AdamBigIdeal_AdamBigRefIdeal (hAdamBigIdeal := hAdamBigIdeal) (hAdamBigRefIdeal := hAdamBigRefIdeal)
    ∧ preserves_Pack_PackIdeal
    ∧ algebraic_PackIdeal_PackRefIdeal (hPackIdeal := hPackIdeal) (hPackRefIdeal := hPackRefIdeal)
-- ==== Pre_finite_gmlp.lean ====
abbrev S2048x4096 : Shape := ⟨2, ![2048, 4096]⟩
abbrev S1x2048 : Shape := ⟨2, ![1, 2048]⟩
abbrev S1x16x128x128 : Shape := ⟨4, ![1, 16, 128, 128]⟩
abbrev S1x16x128 : Shape := ⟨3, ![1, 16, 128]⟩
abbrev S2048x2048 : Shape := ⟨2, ![2048, 2048]⟩
abbrev S_ : Shape := ⟨0, ![]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel
  bcast_S_S1x2048 : S_.BroadcastsInDim S1x2048 (![] : Fin 0 → Fin S1x2048.rank)
  reducesTo_S1x2048_S_d0_1 : S1x2048.ReducesTo [0, 1] S_
  bcast_S_S1x16x128x128 : S_.BroadcastsInDim S1x16x128x128 (![] : Fin 0 → Fin S1x16x128x128.rank)
  reducesTo_S1x16x128x128_S_d0_1_2_3 : S1x16x128x128.ReducesTo [0, 1, 2, 3] S_
  bcast_S_S1x16x128 : S_.BroadcastsInDim S1x16x128 (![] : Fin 0 → Fin S1x16x128.rank)
  reducesTo_S1x16x128_S_d0_1_2 : S1x16x128.ReducesTo [0, 1, 2] S_
  bcast_S_S2048x2048 : S_.BroadcastsInDim S2048x2048 (![] : Fin 0 → Fin S2048x2048.rank)
  reducesTo_S2048x2048_S_d0_1 : S2048x2048.ReducesTo [0, 1] S_

variable [Facts]

def fn_part1 {F : FTy → Type} [FloatOps F] (main_arg4 : FVec F S1x16x128 .f32) (main_arg5 : FVec F S2048x2048 .f32) (main_v13 : IVec S_ 1) (main_v16 : IVec S1x16x128x128 1) : IVec S_ 1 :=
  let main_c_5 : IVec S_ 1 := constantI S_ 1 1#1
  let main_v17 : IVec S_ 1 := (fun x v => Host.reduce IntOp.andi x v reducesTo_S1x16x128x128_S_d0_1_2_3 h_S_) main_v16 main_c_5
  let main_v18 : IVec S_ 1 := andi main_v13 main_v17
  let main_v19 : FVec F S1x16x128 .f32 := Host.absf main_arg4
  let main_cst_6 : FVec F S_ .f32 := constant S_ .f32 0x7F800000#32
  let main_v20 : FVec F S1x16x128 .f32 := broadcastInDim S1x16x128 ![] bcast_S_S1x16x128 main_cst_6
  let main_v21 : IVec S1x16x128 1 := cmpf .olt main_v19 main_v20
  let main_c_7 : IVec S_ 1 := constantI S_ 1 1#1
  let main_v22 : IVec S_ 1 := (fun x v => Host.reduce IntOp.andi x v reducesTo_S1x16x128_S_d0_1_2 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  main_v28

def fn {F : FTy → Type} [FloatOps F] (main_arg0 : FVec F S2048x4096 .f32) (main_arg1 : FVec F S1x2048 .f32) (main_arg2 : FVec F S1x2048 .f32) (main_arg3 : FVec F S1x16x128x128 .f32) (main_arg4 : FVec F S1x16x128 .f32) (main_arg5 : FVec F S2048x2048 .f32) : IVec S_ 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_c : IVec S_ 1 := constantI S_ 1 1#1
  let main_v3 : IVec S_ 1 := (fun x v => Host.reduce IntOp.andi x v reducesTo_S2048x4096_S_d0_1 h_S_) main_v2 main_c
  let main_v4 : FVec F S1x2048 .f32 := Host.absf main_arg1
  let main_cst_0 : FVec F S_ .f32 := constant S_ .f32 0x7F800000#32
  let main_v5 : FVec F S1x2048 .f32 := broadcastInDim S1x2048 ![] bcast_S_S1x2048 main_cst_0
  let main_v6 : IVec S1x2048 1 := cmpf .olt main_v4 main_v5
  let main_c_1 : IVec S_ 1 := constantI S_ 1 1#1
  let main_v7 : IVec S_ 1 := (fun x v => Host.reduce IntOp.andi x v reducesTo_S1x2048_S_d0_1 h_S_) main_v6 main_c_1
  let main_v8 : IVec S_ 1 := andi main_v3 main_v7
  let main_v9 : FVec F S1x2048 .f32 := Host.absf main_arg2
  let main_cst_2 : FVec F S_ .f32 := constant S_ .f32 0x7F800000#32
  let main_v10 : FVec F S1x2048 .f32 := broadcastInDim S1x2048 ![] bcast_S_S1x2048 main_cst_2
  let main_v11 : IVec S1x2048 1 := cmpf .olt main_v9 main_v10
  let main_c_3 : IVec S_ 1 := constantI S_ 1 1#1
  let main_v12 : IVec S_ 1 := (fun x v => Host.reduce IntOp.andi x v reducesTo_S1x2048_S_d0_1 h_S_) main_v11 main_c_3
  let main_v13 : IVec S_ 1 := andi main_v8 main_v12
  let main_v14 : FVec F S1x16x128x128 .f32 := Host.absf main_arg3
  let main_cst_4 : FVec F S_ .f32 := constant S_ .f32 0x7F800000#32
  let main_v15 : FVec F S1x16x128x128 .f32 := broadcastInDim S1x16x128x128 ![] bcast_S_S1x16x128x128 main_cst_4
  let main_v16 : IVec S1x16x128x128 1 := cmpf .olt main_v14 main_v15
  fn_part1 (F := F) main_arg4 main_arg5 main_v13 main_v16
-- ==== Pre_finite_loss.lean ====
abbrev S2048x2048 : Shape := ⟨2, ![2048, 2048]⟩
abbrev S2048 : Shape := ⟨1, ![2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn_part1 {F : FTy → Type} [FloatOps F] (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  main_v18

def fn {F : FTy → Type} [FloatOps F] (main_arg0 : FVec F S2048x2048 .f32) (main_arg1 : FVec F S2048x2048 .f32) (main_arg2 : FVec F S2048x2048 .f32) (main_arg3 : FVec F S2048 .f32) (main_arg4 : FVec F S2048x2048 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S2048x2048 .f32 := Host.absf main_arg2
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg3
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048x2048 .f32 := Host.absf main_arg4
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_v13 main_v16
-- ==== Pre_finite_rms.lean ====
abbrev S2048x2048 : Shape := ⟨2, ![2048, 2048]⟩
abbrev S2048 : Shape := ⟨1, ![2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S2048x2048 .f32) (main_arg1 : FVec F S2048 .f32) (main_arg2 : FVec F S2048x2048 .f32) (main_arg3 : FVec F S2048x2048 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  main_v13
-- ==== Pre_finite_s5f.lean ====
abbrev S2048x2048 : Shape := ⟨2, ![2048, 2048]⟩
abbrev S128x64 : Shape := ⟨2, ![128, 64]⟩
abbrev S128x64x16 : Shape := ⟨3, ![128, 64, 16]⟩
abbrev S128x16x64 : Shape := ⟨3, ![128, 16, 64]⟩
abbrev S1x2048 : Shape := ⟨2, ![1, 2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S128x64x16 : S_.BroadcastsInDim S128x64x16 (![] : Fin 0 → Fin S128x64x16.rank)
  reducesTo_S128x64x16_S_d0_1_2 : S128x64x16.ReducesTo [0, 1, 2] S_

variable [Facts]

def fn_part1 {F : FTy → Type} [FloatOps F] (main_arg4 : FVec F S128x64x16 .f32) (main_v13 : IVec S_ 1) (main_v16 : IVec S128x64x16 1) : IVec S_ 1 :=
  let main_c_5 : IVec S_ 1 := constantI S_ 1 1#1
  let main_v17 : IVec S_ 1 := (fun x v => Host.reduce IntOp.andi x v reducesTo_S128x64x16_S_d0_1_2 h_S_) main_v16 main_c_5
  let main_v18 : IVec S_ 1 := andi main_v13 main_v17
  let main_v19 : FVec F S128x64x16 .f32 := Host.absf main_arg4
  let main_cst_6 : FVec F S_ .f32 := constant S_ .f32 0x7F800000#32
  let main_v20 : FVec F S128x64x16 .f32 := broadcastInDim S128x64x16 ![] bcast_S_S128x64x16 main_cst_6
  let main_v21 : IVec S128x64x16 1 := cmpf .olt main_v19 main_v20
  let main_c_7 : IVec S_ 1 := constantI S_ 1 1#1
  let main_v22 : IVec S_ 1 := (fun x v => Host.reduce IntOp.andi x v reducesTo_S128x64x16_S_d0_1_2 h_S_) main_v21 main_c_7
  let main_v23 : IVec S_ 1 := andi main_v18 main_v22
  main_v23

def fn {F : FTy → Type} [FloatOps F] (main_arg0 : FVec F S2048x2048 .f32) (main_arg1 : FVec F S128x64 .f32) (main_arg2 : FVec F S128x64 .f32) (main_arg3 : FVec F S128x64x16 .f32) (main_arg4 : FVec F S128x64x16 .f32) (main_arg5 : FVec F S128x16x64 .f32) (main_arg6 : FVec F S128x16x64 .f32) (main_arg7 : FVec F S1x2048 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S128x64x16 .f32 := Host.absf main_arg3
  let main_cst_4 : FVec F S_ .f32 := constant S_ .f32 0x7F800000#32
  let main_v15 : FVec F S128x64x16 .f32 := broadcastInDim S128x64x16 ![] bcast_S_S128x64x16 main_cst_4
  let main_v16 : IVec S128x64x16 1 := cmpf .olt main_v14 main_v15
  fn_part1 (F := F) main_arg4 main_v13 main_v16
-- ==== Pre_finite_swi.lean ====
abbrev S2048x5632 : Shape := ⟨2, ![2048, 5632]⟩
abbrev S5632x2048 : Shape := ⟨2, ![5632, 2048]⟩
abbrev S2048x2048 : Shape := ⟨2, ![2048, 2048]⟩
abbrev S_ : Shape := ⟨0, ![]⟩

class Facts : Prop where
  bcast_S_S2048x5632 : S_.BroadcastsInDim S2048x5632 (![] : Fin 0 → Fin S2048x5632.rank)
  reducesTo_S2048x5632_S_d0_1 : S2048x5632.ReducesTo [0, 1] S_
  h_S_ : 0 < S_.numel
  bcast_S_S5632x2048 : S_.BroadcastsInDim S5632x2048 (![] : Fin 0 → Fin S5632x2048.rank)
  reducesTo_S5632x2048_S_d0_1 : S5632x2048.ReducesTo [0, 1] S_
  bcast_S_S2048x2048 : S_.BroadcastsInDim S2048x2048 (![] : Fin 0 → Fin S2048x2048.rank)
  reducesTo_S2048x2048_S_d0_1 : S2048x2048.ReducesTo [0, 1] S_

variable [Facts]

def fn {F : FTy → Type} [FloatOps F] (main_arg0 : FVec F S2048x5632 .f32) (main_arg1 : FVec F S2048x5632 .f32) (main_arg2 : FVec F S5632x2048 .f32) (main_arg3 : FVec F S2048x2048 .f32) : IVec S_ 1 :=
  let main_v0 : FVec F S2048x5632 .f32 := Host.absf main_arg1
  let main_cst : FVec F S_ .f32 := constant S_ .f32 0x7F800000#32
  let main_v1 : FVec F S2048x5632 .f32 := broadcastInDim S2048x5632 ![] bcast_S_S2048x5632 main_cst
  let main_v2 : IVec S2048x5632 1 := cmpf .olt main_v0 main_v1
  let main_c : IVec S_ 1 := constantI S_ 1 1#1
  let main_v3 : IVec S_ 1 := (fun x v => Host.reduce IntOp.andi x v reducesTo_S2048x5632_S_d0_1 h_S_) main_v2 main_c
  let main_v4 : FVec F S5632x2048 .f32 := Host.absf main_arg2
  let main_cst_0 : FVec F S_ .f32 := constant S_ .f32 0x7F800000#32
  let main_v5 : FVec F S5632x2048 .f32 := broadcastInDim S5632x2048 ![] bcast_S_S5632x2048 main_cst_0
  let main_v6 : IVec S5632x2048 1 := cmpf .olt main_v4 main_v5
  let main_c_1 : IVec S_ 1 := constantI S_ 1 1#1
  let main_v7 : IVec S_ 1 := (fun x v => Host.reduce IntOp.andi x v reducesTo_S5632x2048_S_d0_1 h_S_) main_v6 main_c_1
  let main_v8 : IVec S_ 1 := andi main_v3 main_v7
  let main_v9 : FVec F S2048x2048 .f32 := Host.absf main_arg3
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  main_v13
-- ==== Pre_tame_prep.lean ====
abbrev S1x128x64 : Shape := ⟨3, ![1, 128, 64]⟩
abbrev S1x128 : Shape := ⟨2, ![1, 128]⟩
abbrev S1x128x64x16 : Shape := ⟨4, ![1, 128, 64, 16]⟩
abbrev S128x64 : Shape := ⟨2, ![128, 64]⟩
abbrev S128x64x16 : Shape := ⟨3, ![128, 64, 16]⟩
abbrev S_ : Shape := ⟨0, ![]⟩

class Facts : Prop where
  bcast_S_S1x128x64 : S_.BroadcastsInDim S1x128x64 (![] : Fin 0 → Fin S1x128x64.rank)
  reducesTo_S1x128x64_S_d0_1_2 : S1x128x64.ReducesTo [0, 1, 2] S_
  h_S_ : 0 < S_.numel
  bcast_S_S1x128 : S_.BroadcastsInDim S1x128 (![] : Fin 0 → Fin S1x128.rank)
  reducesTo_S1x128_S_d0_1 : S1x128.ReducesTo [0, 1] S_
  bcast_S_S1x128x64x16 : S_.BroadcastsInDim S1x128x64x16 (![] : Fin 0 → Fin S1x128x64x16.rank)
  reducesTo_S1x128x64x16_S_d0_1_2_3 : S1x128x64x16.ReducesTo [0, 1, 2, 3] S_
  bcast_S_S128x64 : S_.BroadcastsInDim S128x64 (![] : Fin 0 → Fin S128x64.rank)
  reducesTo_S128x64_S_d0_1 : S128x64.ReducesTo [0, 1] S_
  bcast_S_S128x64x16 : S_.BroadcastsInDim S128x64x16 (![] : Fin 0 → Fin S128x64x16.rank)
  reducesTo_S128x64x16_S_d0_1_2 : S128x64x16.ReducesTo [0, 1, 2] S_

variable [Facts]

def fn_part2 {F : FTy → Type} [FloatOps F] (main_arg0 : FVec F S1x128x64 .f32) (main_arg1 : FVec F S1x128x64 .f32) (main_arg7 : FVec F S128x64x16 .f32) (main_arg8 : FVec F S128x64x16 .f32) (main_v33 : IVec S_ 1) : IVec S_ 1 :=
  let main_v34 : FVec F S128x64x16 .f32 := Host.absf main_arg7
  let main_cst_12 : FVec F S_ .f32 := constant S_ .f32 0x7F800000#32
  let main_v35 : FVec F S128x64x16 .f32 := broadcastInDim S128x64x16 ![] bcast_S_S128x64x16 main_cst_12
  let main_v36 : IVec S128x64x16 1 := cmpf .olt main_v34 main_v35
  let main_c_13 : IVec S_ 1 := constantI S_ 1 1#1
  let main_v37 : IVec S_ 1 := (fun x v => Host.reduce IntOp.andi x v reducesTo_S128x64x16_S_d0_1_2 h_S_) main_v36 main_c_13
  let main_v38 : IVec S_ 1 := andi main_v33 main_v37
  let main_v39 : FVec F S128x64x16 .f32 := Host.absf main_arg8
  let main_cst_14 : FVec F S_ .f32 := constant S_ .f32 0x7F800000#32
  let main_v40 : FVec F S128x64x16 .f32 := broadcastInDim S128x64x16 ![] bcast_S_S128x64x16 main_cst_14
  let main_v41 : IVec S128x64x16 1 := cmpf .olt main_v39 main_v40
  let main_c_15 : IVec S_ 1 := constantI S_ 1 1#1
  let main_v42 : IVec S_ 1 := (fun x v => Host.reduce IntOp.andi x v reducesTo_S128x64x16_S_d0_1_2 h_S_) main_v41 main_c_15
  let main_v43 : IVec S_ 1 := andi main_v38 main_v42
  let main_v44 : FVec F S1x128x64 .f32 := mulf main_arg0 main_arg0
  let main_v45 : FVec F S1x128x64 .f32 := mulf main_arg1 main_arg1
  let main_v46 : FVec F S1x128x64 .f32 := addf main_v44 main_v45
  let main_cst_16 : FVec F S_ .f32 := constant S_ .f32 0x00000000#32
  let main_v47 : FVec F S1x128x64 .f32 := broadcastInDim S1x128x64 ![] bcast_S_S1x128x64 main_cst_16
  let main_v48 : IVec S1x128x64 1 := cmpf .ogt main_v46 main_v47
  let main_c_17 : IVec S_ 1 := constantI S_ 1 1#1
  let main_v49 : IVec S_ 1 := (fun x v => Host.reduce IntOp.andi x v reducesTo_S1x128x64_S_d0_1_2 h_S_) main_v48 main_c_17
  let main_v50 : IVec S_ 1 := andi main_v43 main_v49
  main_v50

def fn_part1 {F : FTy → Type} [FloatOps F] (main_arg0 : FVec F S1x128x64 .f32) (main_arg1 : FVec F S1x128x64 .f32) (main_arg4 : FVec F S1x128x64x16 .f32) (main_arg5 : FVec F S128x64 .f32) (main_arg6 : FVec F S128x64 .f32) (main_arg7 : FVec F S128x64x16 .f32) (main_arg8 : FVec F S128x64x16 .f32) (main_v13 : IVec S_ 1) (main_v16 : IVec S1x128x64x16 1) : IVec S_ 1 :=
  let main_c_5 : IVec S_ 1 := constantI S_ 1 1#1
  let main_v17 : IVec S_ 1 := (fun x v => Host.reduce IntOp.andi x v reducesTo_S1x128x64x16_S_d0_1_2_3 h_S_) main_v16 main_c_5
  let main_v18 : IVec S_ 1 := andi main_v13 main_v17
  let main_v19 : FVec F S1x128x64x16 .f32 := Host.absf main_arg4
  let main_cst_6 : FVec F S_ .f32 := constant S_ .f32 0x7F800000#32
  let main_v20 : FVec F S1x128x64x16 .f32 := broadcastInDim S1x128x64x16 ![] bcast_S_S1x128x64x16 main_cst_6
  let main_v21 : IVec S1x128x64x16 1 := cmpf .olt main_v19 main_v20
  let main_c_7 : IVec S_ 1 := constantI S_ 1 1#1
  let main_v22 : IVec S_ 1 := (fun x v => Host.reduce IntOp.andi x v reducesTo_S1x128x64x16_S_d0_1_2_3 h_S_) main_v21 main_c_7
  let main_v23 : IVec S_ 1 := andi main_v18 main_v22
  let main_v24 : FVec F S128x64 .f32 := Host.absf main_arg5
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S128x64 .f32 := Host.absf main_arg6
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg0 main_arg1 main_arg7 main_arg8 main_v33

def fn {F : FTy → Type} [FloatOps F] (main_arg0 : FVec F S1x128x64 .f32) (main_arg1 : FVec F S1x128x64 .f32) (main_arg2 : FVec F S1x128 .f32) (main_arg3 : FVec F S1x128x64x16 .f32) (main_arg4 : FVec F S1x128x64x16 .f32) (main_arg5 : FVec F S128x64 .f32) (main_arg6 : FVec F S128x64 .f32) (main_arg7 : FVec F S128x64x16 .f32) (main_arg8 : FVec F S128x64x16 .f32) : IVec S_ 1 :=
  let main_v0 : FVec F S1x128x64 .f32 := Host.absf main_arg0
  let main_cst : FVec F S_ .f32 := constant S_ .f32 0x7F800000#32
  let main_v1 : FVec F S1x128x64 .f32 := broadcastInDim S1x128x64 ![] bcast_S_S1x128x64 main_cst
  let main_v2 : IVec S1x128x64 1 := cmpf .olt main_v0 main_v1
  let main_c : IVec S_ 1 := constantI S_ 1 1#1
  let main_v3 : IVec S_ 1 := (fun x v => Host.reduce IntOp.andi x v reducesTo_S1x128x64_S_d0_1_2 h_S_) main_v2 main_c
  let main_v4 : FVec F S1x128x64 .f32 := Host.absf main_arg1
  let main_cst_0 : FVec F S_ .f32 := constant S_ .f32 0x7F800000#32
  let main_v5 : FVec F S1x128x64 .f32 := broadcastInDim S1x128x64 ![] bcast_S_S1x128x64 main_cst_0
  let main_v6 : IVec S1x128x64 1 := cmpf .olt main_v4 main_v5
  let main_c_1 : IVec S_ 1 := constantI S_ 1 1#1
  let main_v7 : IVec S_ 1 := (fun x v => Host.reduce IntOp.andi x v reducesTo_S1x128x64_S_d0_1_2 h_S_) main_v6 main_c_1
  let main_v8 : IVec S_ 1 := andi main_v3 main_v7
  let main_v9 : FVec F S1x128 .f32 := Host.absf main_arg2
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_c_3 : IVec S_ 1 := constantI S_ 1 1#1
  let main_v12 : IVec S_ 1 := (fun x v => Host.reduce IntOp.andi x v reducesTo_S1x128_S_d0_1 h_S_) main_v11 main_c_3
  let main_v13 : IVec S_ 1 := andi main_v8 main_v12
  let main_v14 : FVec F S1x128x64x16 .f32 := Host.absf main_arg3
  let main_cst_4 : FVec F S_ .f32 := constant S_ .f32 0x7F800000#32
  let main_v15 : FVec F S1x128x64x16 .f32 := broadcastInDim S1x128x64x16 ![] bcast_S_S1x128x64x16 main_cst_4
  let main_v16 : IVec S1x128x64x16 1 := cmpf .olt main_v14 main_v15
  fn_part1 (F := F) main_arg0 main_arg1 main_arg4 main_arg5 main_arg6 main_arg7 main_arg8 main_v13 main_v16
-- ==== Ple.lean ====
abbrev S2048x2048 : Shape := ⟨2, ![2048, 2048]⟩
abbrev S_ : Shape := ⟨0, ![]⟩
abbrev S512x2048 : Shape := ⟨2, ![512, 2048]⟩

abbrev nBuf : Space → Nat
  | .hbm => 16
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S2048x2048, .f32⟩
  | .hbm, ⟨12, _⟩ => ⟨S2048x2048, .f32⟩
  | .hbm, ⟨13, _⟩ => ⟨S2048x2048, .bf16⟩
  | .hbm, ⟨14, _⟩ => ⟨S2048x2048, .bf16⟩
  | .hbm, ⟨15, _⟩ => ⟨S2048x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PleRefIdeal.lean ====
abbrev S2048x2048 : Shape := ⟨2, ![2048, 2048]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S_, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .bf16⟩
  | .hbm, ⟨20, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Glu.lean ====
abbrev S2048x4096 : Shape := ⟨2, ![2048, 4096]⟩
abbrev S2048x2048 : Shape := ⟨2, ![2048, 2048]⟩
abbrev S_ : Shape := ⟨0, ![]⟩
abbrev S512x2048 : Shape := ⟨2, ![512, 2048]⟩
abbrev S512x4096 : Shape := ⟨2, ![512, 4096]⟩

abbrev nBuf : Space → Nat
  | .hbm => 17
  | .vmem => 8
  | .smem => 0
  | _ => 0

abbrev bufTy : (tb : Table) → Fin (tcTables nBuf tb) → BufTy
  | .hbm, ⟨0, _⟩ => ⟨S2048x4096, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .bf16⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S_, .f32⟩
  | .hbm, ⟨10, _⟩ => ⟨S2048x2048, .f32⟩
  | .hbm, ⟨11, _⟩ => ⟨S2048x2048, .f32⟩
  | .hbm, ⟨12, _⟩ => ⟨S_, .f32⟩
  | .hbm, ⟨13, _⟩ => ⟨S2048x2048, .f32⟩
  | .hbm, ⟨14, _⟩ => ⟨S2048x2048, .f32⟩
  | .hbm, ⟨15, _⟩ => ⟨S2048x2048, .bf16⟩
  | .hbm, ⟨16, _⟩ => ⟨S2048x4096, .bf16⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x4096, .bf16⟩
  | .local _ .vmem, ⟨7, _⟩ => ⟨S512x4096, .bf16⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GluRefIdeal.lean ====
abbrev S2048x4096 : Shape := ⟨2, ![2048, 4096]⟩
abbrev S2048x2048 : Shape := ⟨2, ![2048, 2048]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S_, .f32⟩
  | .hbm, ⟨7, _⟩ => ⟨S2048x2048, .f32⟩
  | .hbm, ⟨8, _⟩ => ⟨S2048x2048, .f32⟩
  | .hbm, ⟨9, _⟩ => ⟨S_, .f32⟩
  | .hbm, ⟨10, _⟩ => ⟨S2048x2048, .f32⟩
  | .hbm, ⟨11, _⟩ => ⟨S2048x2048, .f32⟩
  | .hbm, ⟨12, _⟩ => ⟨S_, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x4096, .f32⟩
  | .hbm, ⟨21, _⟩ => ⟨S2048x4096, .bf16⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== Gmlp.lean ====
abbrev S2048x4096 : Shape := ⟨2, ![2048, 4096]⟩
abbrev S1x2048 : Shape := ⟨2, ![1, 2048]⟩
abbrev S1x16x128x128 : Shape := ⟨4, ![1, 16, 128, 128]⟩
abbrev S1x16x128 : Shape := ⟨3, ![1, 16, 128]⟩
abbrev S2048x2048 : Shape := ⟨2, ![2048, 2048]⟩
abbrev S16x128x128 : Shape := ⟨3, ![16, 128, 128]⟩
abbrev S16x128 : Shape := ⟨2, ![16, 128]⟩
abbrev S128x16 : Shape := ⟨2, ![128, 16]⟩
abbrev S128x128 : Shape := ⟨2, ![128, 128]⟩
abbrev S128x4096 : Shape := ⟨2, ![128, 4096]⟩
abbrev S128x2048 : Shape := ⟨2, ![128, 2048]⟩
abbrev S128 : Shape := ⟨1, ![128]⟩
abbrev S128x1 : Shape := ⟨2, ![128, 1]⟩
abbrev S1x128x128 : Shape := ⟨3, ![1, 128, 128]⟩
abbrev S2048 : Shape := ⟨1, ![2048]⟩

abbrev nBuf : Space → Nat
  | .hbm => 14
  | .vmem => 14
  | .smem => 0
  | _ => 0

abbrev bufTy : (tb : Table) → Fin (tcTables nBuf tb) → BufTy
  | .hbm, ⟨0, _⟩ => ⟨S2048x4096, .f32⟩
  | .hbm, ⟨1, _⟩ => ⟨S1x2048, .f32⟩
  | .hbm, ⟨2, _⟩ => ⟨S1x2048, .f32⟩
  | .hbm, ⟨3, _⟩ => ⟨S1x16x128x128, .f32⟩
  | .hbm, ⟨4, _⟩ => ⟨S1x16x128, .f32⟩
  | .hbm, ⟨5, _⟩ => ⟨S2048x2048, .f32⟩
  | .hbm, ⟨6, _⟩ => ⟨S16x128x128, .f32⟩
  | .hbm, ⟨7, _⟩ => ⟨S16x128, .f32⟩
  | .hbm, ⟨8, _⟩ => ⟨S128x16, .f32⟩
  | .hbm, ⟨9, _⟩ => ⟨S2048x4096, .bf16⟩
  | .hbm, ⟨10, _⟩ => ⟨S16x128x128, .f32⟩
  | .hbm, ⟨11, _⟩ => ⟨S128x128, .f32⟩
  | .hbm, ⟨12, _⟩ => ⟨S1x2048, .f32⟩
  | .hbm, ⟨13, _⟩ => ⟨S1x2048, .f32⟩
  | .local _ .vmem, ⟨0, _⟩ => ⟨S128x4096, .f32⟩
  | .local _ .vmem, ⟨1, _⟩ => ⟨S128x4096, .f32⟩
  | .local _ .vmem, ⟨2, _⟩ => ⟨S128x2048, .f32⟩
  | .local _ .vmem, ⟨3, _⟩ => ⟨S128x2048, .f32⟩
  | .local _ .vmem, ⟨4, _⟩ => ⟨S1x2048, .f32⟩
  | .local _ .vmem, ⟨5, _⟩ => ⟨S1x2048, .f32⟩
  | .local _ .vmem, ⟨6, _⟩ => ⟨S16x128x128, .f32⟩
  | .local _ .vmem, ⟨7, _⟩ => ⟨S128x16, .f32⟩
  | .local _ .vmem, ⟨8, _⟩ => ⟨S128x4096, .bf16⟩
  | .local _ .vmem, ⟨9, _⟩ => ⟨S128x4096, .bf16⟩
  | .local _ .vmem, ⟨10, _⟩ => ⟨S16x128x128, .f32⟩
  | .local _ .vmem, ⟨11, _⟩ => ⟨S128x128, .f32⟩
  | .local _ .vmem, ⟨12, _⟩ => ⟨S1x2048, .f32⟩
  | .local _ .vmem, ⟨13, _⟩ => ⟨S1x2048, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem10_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S16x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== GmlpIdeal.lean ====
variable {F : FTy → Type} [FloatOps F] [Named F]
def κ : String → Option EReal := fun
  | "cube" => some ((8943 / 200000 : ℝ) : EReal)
  | "cube3" => some ((26829 / 200000 : ℝ) : EReal)
  | _ => none
-- ==== GmlpRefIdeal.lean ====
abbrev S2048x4096 : Shape := ⟨2, ![2048, 4096]⟩
abbrev S1x2048 : Shape := ⟨2, ![1, 2048]⟩
abbrev S1x16x128x128 : Shape := ⟨4, ![1, 16, 128, 128]⟩
abbrev S1x16x128 : Shape := ⟨3, ![1, 16, 128]⟩
abbrev S2048x2048 : Shape := ⟨2, ![2048, 2048]⟩
abbrev S2048 : Shape := ⟨1, ![2048]⟩
abbrev S16x128x128 : Shape := ⟨3, ![16, 128, 128]⟩
abbrev S16x128 : Shape := ⟨2, ![16, 128]⟩
abbrev S_ : Shape := ⟨0, ![]⟩
abbrev S2048x1 : Shape := ⟨2, ![2048, 1]⟩
abbrev S16x128x16x128 : Shape := ⟨4, ![16, 128, 16, 128]⟩
abbrev S128x128 : Shape := ⟨2, ![128, 128]⟩
abbrev S16x16x128x128 : Shape := ⟨4, ![16, 16, 128, 128]⟩
abbrev S128x16 : Shape := ⟨2, ![128, 16]⟩
abbrev S128x16x1 : Shape := ⟨3, ![128, 16, 1]⟩
abbrev S1x128x16x1 : Shape := ⟨4, ![1, 128, 16, 1]⟩

abbrev nBuf : Space → Nat
  | .hbm => 183
  | .vmem => 0
  | .smem => 0
  | _ => 0

abbrev hbmTy0_0 (i : Nat) : BufTy := match i % 128 with
  | 0 => ⟨S2048x4096, .f32⟩
  | 1 => ⟨S1x2048, .f32⟩
  | 2 => ⟨S1x2048, .f32⟩
  | 3 => ⟨S1x16x128x128, .f32⟩
  | 4 => ⟨S1x16x128, .f32⟩
  | 5 => ⟨S2048x2048, .f32⟩
  | 6 => ⟨S2048, .f32⟩
  | 7 => ⟨S2048, .f32⟩
  | 8 => ⟨S16x128x128, .f32⟩
  | 9 => ⟨S16x128, .f32⟩
  | 10 => ⟨S_, .f32⟩
  | 11 => ⟨S_, .f32⟩
  | 12 => ⟨S_, .f32⟩
  | 13 => ⟨S2048x4096, .f32⟩
  | 14 => ⟨S2048x4096, .f32⟩
  | 15 => ⟨S2048x4096, .f32⟩
  | 16 => ⟨S_, .f32⟩
  | 17 => ⟨S2048x4096, .f32⟩
  | 18 => ⟨S2048x4096, .f32⟩
  | 19 => ⟨S2048x4096, .f32⟩
  | 20 => ⟨S2048x4096, .f32⟩
  | 21 => ⟨S2048x4096, .f32⟩
  | 22 => ⟨S_, .f32⟩
  | 23 => ⟨S2048x4096, .f32⟩
  | 24 => ⟨S2048x4096, .f32⟩
  | 25 => ⟨S2048x4096, .f32⟩
  | 26 => ⟨S_, .f32⟩
  | 27 => ⟨S2048x4096, .f32⟩
  | 28 => ⟨S2048x4096, .f32⟩
  | 29 => ⟨S_, .f32⟩
  | 30 => ⟨S2048x4096, .f32⟩
  | 31 => ⟨S2048x4096, .f32⟩
  | 32 => ⟨S2048x4096, .f32⟩
  | 33 => ⟨S_, .f32⟩
  | 34 => ⟨S2048x4096, .f32⟩
  | 35 => ⟨S2048x4096, .f32⟩
  | 36 => ⟨S_, .f32⟩
  | 37 => ⟨S2048x4096, .f32⟩
  | 38 => ⟨S2048x4096, .f32⟩
  | 39 => ⟨S2048x4096, .f32⟩
  | 40 => ⟨S2048x2048, .f32⟩
  | 41 => ⟨S2048x2048, .f32⟩
  | 42 => ⟨S_, .f32⟩
  | 43 => ⟨S2048, .f32⟩
  | 44 => ⟨S2048x1, .f32⟩
  | 45 => ⟨S_, .f32⟩
  | 46 => ⟨S2048x1, .f32⟩
  | 47 => ⟨S2048x1, .f32⟩
  | 48 => ⟨S2048x2048, .f32⟩
  | 49 => ⟨S2048x2048, .f32⟩
  | 50 => ⟨S2048x2048, .f32⟩
  | 51 => ⟨S_, .f32⟩
  | 52 => ⟨S2048, .f32⟩
  | 53 => ⟨S2048x1, .f32⟩
  | 54 => ⟨S_, .f32⟩
  | 55 => ⟨S2048x1, .f32⟩
  | 56 => ⟨S2048x1, .f32⟩
  | 57 => ⟨S_, .f32⟩
  | 58 => ⟨S2048x1, .f32⟩
  | 59 => ⟨S2048x1, .f32⟩
  | 60 => ⟨S2048x1, .f32⟩
  | 61 => ⟨S2048x1, .f32⟩
  | 62 => ⟨S_, .f32⟩
  | 63 => ⟨S2048x1, .f32⟩
  | 64 => ⟨S2048x1, .f32⟩
  | 65 => ⟨S2048x2048, .f32⟩
  | 66 => ⟨S2048x2048, .f32⟩
  | 67 => ⟨S1x2048, .f32⟩
  | 68 => ⟨S2048x2048, .f32⟩
  | 69 => ⟨S2048x2048, .f32⟩
  | 70 => ⟨S1x2048, .f32⟩
  | 71 => ⟨S2048x2048, .f32⟩
  | 72 => ⟨S2048x2048, .f32⟩
  | 73 => ⟨S16x128x16x128, .f32⟩
  | 74 => ⟨S_, .i1⟩
  | 75 => ⟨S128x128, .i1⟩
  | 76 => ⟨S128x128, .i32⟩
  | 77 => ⟨S_, .i32⟩
  | 78 => ⟨S128x128, .i32⟩
  | 79 => ⟨S128x128, .i32⟩
  | 80 => ⟨S128x128, .i32⟩
  | 81 => ⟨S128x128, .i1⟩
  | 82 => ⟨S_, .i1⟩
  | 83 => ⟨S128x128, .i1⟩
  | 84 => ⟨S128x128, .i1⟩
  | 85 => ⟨S_, .f32⟩
  | 86 => ⟨S16x128x128, .f32⟩
  | 87 => ⟨S16x128x128, .i1⟩
  | 88 => ⟨S16x128x128, .f32⟩
  | 89 => ⟨S_, .f32⟩
  | 90 => ⟨S16x128x128, .f32⟩
  | 91 => ⟨S16x16x128x128, .f32⟩
  | 92 => ⟨S16x128x16x128, .f32⟩
  | 93 => ⟨S128x16, .f32⟩
  | 94 => ⟨S128x16x1, .f32⟩
  | 95 => ⟨S1x128x16x1, .f32⟩
  | 96 => ⟨S16x128x16x128, .f32⟩
  | 97 => ⟨S16x128x16x128, .f32⟩
  | 98 => ⟨S2048x2048, .f32⟩
  | 99 => ⟨S2048x2048, .f32⟩
  | 100 => ⟨S2048x2048, .f32⟩
  | 101 => ⟨S2048x2048, .f32⟩
  | 102 => ⟨S16x128x16x128, .f32⟩
  | 103 => ⟨S_, .f32⟩
  | 104 => ⟨S128x16, .f32⟩
  | 105 => ⟨S1x128x16x1, .f32⟩
  | 106 => ⟨S_, .f32⟩
  | 107 => ⟨S128x16, .f32⟩
  | 108 => ⟨S128x16x1, .f32⟩
  | 109 => ⟨S_, .f32⟩
  | 110 => ⟨S128x16, .f32⟩
  | 111 => ⟨S16x128, .f32⟩
  | 112 => ⟨S16x16x128x128, .f32⟩
  | 113 => ⟨S16x128x128, .f32⟩
  | 114 => ⟨S16x16x128x128, .f32⟩
  | 115 => ⟨S16x128x16x128, .f32⟩
  | 116 => ⟨S_, .f32⟩
  | 117 => ⟨S16x128x128, .f32⟩
  | 118 => ⟨S16x128x128, .f32⟩
  | 119 => ⟨S2048x2048, .f32⟩
  | 120 => ⟨S_, .f32⟩
  | 121 => ⟨S2048, .f32⟩
  | 122 => ⟨S1x2048, .f32⟩
  | 123 => ⟨S_, .f32⟩
  | 124 => ⟨S2048, .f32⟩
  | 125 => ⟨S2048x2048, .f32⟩
  | 126 => ⟨S_, .f32⟩
  | 127 => ⟨S2048, .f32⟩
  | _ => ⟨S2048x4096, .f32⟩

abbrev hbmTy0_1 (i : Nat) : BufTy := match i % 128 with
  | 0 => ⟨S1x2048, .f32⟩
  | 1 => ⟨S2048x2048, .f32⟩
  | 2 => ⟨S2048x2048, .f32⟩
  | 3 => ⟨S_, .f32⟩
  | 4 => ⟨S2048, .f32⟩
  | 5 => ⟨S2048x2048, .f32⟩
  | 6 => ⟨S_, .f32⟩
  | 7 => ⟨S2048, .f32⟩
  | 8 => ⟨S2048x1, .f32⟩
  | 9 => ⟨S2048x2048, .f32⟩
  | 10 => ⟨S2048x2048, .f32⟩
  | 11 => ⟨S2048x1, .f32⟩
  | 12 => ⟨S_, .f32⟩
  | 13 => ⟨S2048x1, .f32⟩
  | 14 => ⟨S2048x1, .f32⟩
  | 15 => ⟨S_, .f32⟩
  | 16 => ⟨S2048, .f32⟩
  | 17 => ⟨S2048x2048, .f32⟩
  | 18 => ⟨S2048x2048, .f32⟩
  | 19 => ⟨S2048x2048, .f32⟩
  | 20 => ⟨S2048x2048, .f32⟩
  | 21 => ⟨S2048x2048, .f32⟩
  | 22 => ⟨S2048x2048, .f32⟩
  | 23 => ⟨S_, .f32⟩
  | 24 => ⟨S2048, .f32⟩
  | 25 => ⟨S2048x1, .f32⟩
  | 26 => ⟨S_, .f32⟩
  | 27 => ⟨S2048x1, .f32⟩
  | 28 => ⟨S2048x1, .f32⟩
  | 29 => ⟨S_, .f32⟩
  | 30 => ⟨S2048, .f32⟩
  | 31 => ⟨S2048x2048, .f32⟩
  | 32 => ⟨S2048x2048, .f32⟩
  | 33 => ⟨S2048x4096, .f32⟩
  | 34 => ⟨S2048x4096, .f32⟩
  | 35 => ⟨S2048x4096, .f32⟩
  | 36 => ⟨S_, .f32⟩
  | 37 => ⟨S2048x4096, .f32⟩
  | 38 => ⟨S2048x4096, .f32⟩
  | 39 => ⟨S2048x4096, .f32⟩
  | 40 => ⟨S_, .f32⟩
  | 41 => ⟨S2048x4096, .f32⟩
  | 42 => ⟨S2048x4096, .f32⟩
  | 43 => ⟨S2048x4096, .f32⟩
  | 44 => ⟨S2048x4096, .f32⟩
  | 45 => ⟨S2048x4096, .f32⟩
  | 46 => ⟨S2048x4096, .f32⟩
  | 47 => ⟨S2048x4096, .f32⟩
  | 48 => ⟨S2048x4096, .bf16⟩
  | 49 => ⟨S128x16, .f32⟩
  | 50 => ⟨S_, .i32⟩
  | 51 => ⟨S_, .f32⟩
  | 52 => ⟨S128x128, .f32⟩
  | 53 => ⟨S1x2048, .f32⟩
  | 54 => ⟨S1x2048, .f32⟩
  | _ => ⟨S2048x4096, .f32⟩

abbrev hbmTy (i : Nat) : BufTy := match i / 128 with
  | 0 => hbmTy0_0 i
  | 1 => hbmTy0_1 i
  | _ => ⟨S2048x4096, .f32⟩

abbrev bufTy : (tb : Table) → Fin (tcTables nBuf tb) → BufTy
  | .hbm, ⟨i, _⟩ => hbmTy i
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_cst_6 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_7 : Ref sig .tc := ⟨.hbm, 42, rfl⟩
abbrev main_v28 : Ref sig .tc := ⟨.hbm, 43, rfl⟩
abbrev main_v29 : Ref sig .tc := ⟨.hbm, 44, rfl⟩
abbrev main_cst_8 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_9 : Ref sig .tc := ⟨.hbm, 51, rfl⟩
abbrev main_v35 : Ref sig .tc := ⟨.hbm, 52, rfl⟩
abbrev main_v36 : Ref sig .tc := ⟨.hbm, 53, rfl⟩
abbrev main_cst_10 : Ref sig .tc := ⟨.hbm, 54, rfl⟩
abbrev main_v37 : Ref sig .tc := ⟨.hbm, 55, rfl⟩
abbrev main_v38 : Ref sig .tc := ⟨.hbm, 56, rfl⟩
abbrev main_cst_11 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_12 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_c : Ref sig .tc := ⟨.hbm, 74, rfl⟩
abbrev main_v54 : Ref sig .tc := ⟨.hbm, 75, rfl⟩
abbrev main_call0_v0 : Ref sig .tc := ⟨.hbm, 76, rfl⟩
abbrev main_call0_c : Ref sig .tc := ⟨.hbm, 77, rfl⟩
abbrev main_call0_v1 : Ref sig .tc := ⟨.hbm, 78, rfl⟩
abbrev main_call0_v2 : Ref sig .tc := ⟨.hbm, 79, rfl⟩
abbrev main_call0_v3 : Ref sig .tc := ⟨.hbm, 80, rfl⟩
abbrev main_call0_v4 : Ref sig .tc := ⟨.hbm, 81, rfl⟩
abbrev main_call0_c_0 : Ref sig .tc := ⟨.hbm, 82, rfl⟩
abbrev main_call0_v5 : Ref sig .tc := ⟨.hbm, 83, rfl⟩
abbrev main_v55 : Ref sig .tc := ⟨.hbm, 84, rfl⟩
abbrev main_cst_13 : Ref sig .tc := ⟨.hbm, 85, rfl⟩
abbrev main_v56 : Ref sig .tc := ⟨.hbm, 86, rfl⟩
abbrev main_v57_1 : Ref sig .tc := ⟨.hbm, 87, rfl⟩
abbrev main_v57_0 : Ref sig .tc := ⟨.hbm, 88, rfl⟩
abbrev main_call1_cst : Ref sig .tc := ⟨.hbm, 89, rfl⟩
abbrev main_v57_2 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_cst_14 : Ref sig .tc := ⟨.hbm, 103, rfl⟩
abbrev main_v70 : Ref sig .tc := ⟨.hbm, 104, rfl⟩
abbrev main_v71 : Ref sig .tc := ⟨.hbm, 105, rfl⟩
abbrev main_cst_15 : Ref sig .tc := ⟨.hbm, 106, rfl⟩
abbrev main_v72 : Ref sig .tc := ⟨.hbm, 107, rfl⟩
abbrev main_v73 : Ref sig .tc := ⟨.hbm, 108, rfl⟩
abbrev main_cst_16 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_call2_cst : Ref sig .tc := ⟨.hbm, 116, rfl⟩
abbrev main_call2_v0 : Ref sig .tc := ⟨.hbm, 117, rfl⟩
abbrev main_v80 : Ref sig .tc := ⟨.hbm, 118, rfl⟩
abbrev main_v81 : Ref sig .tc := ⟨.hbm, 119, rfl⟩
abbrev main_cst_17 : Ref sig .tc := ⟨.hbm, 120, rfl⟩
abbrev main_v82 : Ref sig .tc := ⟨.hbm, 121, rfl⟩
abbrev main_v83 : Ref sig .tc := ⟨.hbm, 122, rfl⟩
abbrev main_cst_18 : Ref sig .tc := ⟨.hbm, 123, rfl⟩
abbrev main_v84 : Ref sig .tc := ⟨.hbm, 124, rfl⟩
abbrev main_v85 : Ref sig .tc := ⟨.hbm, 125, rfl⟩
abbrev main_cst_19 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_cst_20 : Ref sig .tc := ⟨.hbm, 131, rfl⟩
abbrev main_v90 : Ref sig .tc := ⟨.hbm, 132, rfl⟩
abbrev main_v91 : Ref sig .tc := ⟨.hbm, 133, rfl⟩
abbrev main_cst_21 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_cst_22 : Ref sig .tc := ⟨.hbm, 140, rfl⟩
abbrev main_v97 : Ref sig .tc := ⟨.hbm, 141, rfl⟩
abbrev main_v98 : Ref sig .tc := ⟨.hbm, 142, rfl⟩
abbrev main_cst_23 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_cst_24 : Ref sig .tc := ⟨.hbm, 151, rfl⟩
abbrev main_v106 : Ref sig .tc := ⟨.hbm, 152, rfl⟩
abbrev main_v107 : Ref sig .tc := ⟨.hbm, 153, rfl⟩
abbrev main_cst_25 : Ref sig .tc := ⟨.hbm, 154, rfl⟩
abbrev main_v108 : Ref sig .tc := ⟨.hbm, 155, rfl⟩
abbrev main_v109 : Ref sig .tc := ⟨.hbm, 156, rfl⟩
abbrev main_cst_26 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_cst_27 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_cst_28 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_c_29 : Ref sig .tc := ⟨.hbm, 178, rfl⟩
abbrev main_call3_v0 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩

abbrev nD : Nat := 1
abbrev τ : Topo := Topo.v7x

variable {F : FTy → Type} [FloatOps F]
-- ==== RmsBwd.lean ====
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S2048x2048, .f32⟩
  | .hbm, ⟨4, _⟩ => ⟨S1x2048, .f32⟩
  | .hbm, ⟨5, _⟩ => ⟨S2048x2048, .f32⟩
  | .hbm, ⟨6, _⟩ => ⟨S2048x2048, .bf16⟩
  | .hbm, ⟨7, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== RmsRefIdeal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 52
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S1x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048, .f32⟩
  | .hbm, ⟨32, _⟩ => ⟨S2048x2048, .f32⟩
  | .hbm, ⟨33, _⟩ => ⟨S_, .f32⟩
  | .hbm, ⟨34, _⟩ => ⟨S2048, .f32⟩
  | .hbm, ⟨35, _⟩ => ⟨S2048x1, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S2048x1, .f32⟩
  | .hbm, ⟨40, _⟩ => ⟨S_, .f32⟩
  | .hbm, ⟨41, _⟩ => ⟨S2048x1, .f32⟩
  | .hbm, ⟨42, _⟩ => ⟨S2048x1, .f32⟩
  | .hbm, ⟨43, _⟩ => ⟨S_, .f32⟩
  | .hbm, ⟨44, _⟩ => ⟨S2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S2048x2048, .bf16⟩
  | .hbm, ⟨51, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Loss.lean ====
abbrev S2048x2048 : Shape := ⟨2, ![2048, 2048]⟩
abbrev S2048 : Shape := ⟨1, ![2048]⟩
abbrev S_ : Shape := ⟨0, ![]⟩
abbrev S1x2048 : Shape := ⟨2, ![1, 2048]⟩
abbrev S1x128 : Shape := ⟨2, ![1, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩

abbrev nBuf : Space → Nat
  | .hbm => 24
  | .vmem => 17
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048, .f32⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S_, .f32⟩
  | .hbm, ⟨10, _⟩ => ⟨S2048x2048, .f32⟩
  | .hbm, ⟨11, _⟩ => ⟨S2048x2048, .f32⟩
  | .hbm, ⟨12, _⟩ => ⟨S_, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S1x2048, .f32⟩
  | .hbm, ⟨18, _⟩ => ⟨S2048x2048, .bf16⟩
  | .hbm, ⟨19, _⟩ => ⟨S2048x2048, .f32⟩
  | .hbm, ⟨20, _⟩ => ⟨S2048x2048, .bf16⟩
  | .hbm, ⟨21, _⟩ => ⟨S2048x2048, .bf16⟩
  | .hbm, ⟨22, _⟩ => ⟨S1x2048, .f32⟩
  | .hbm, ⟨23, _⟩ => ⟨S1x128, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .bf16⟩
  | .local _ .vmem, ⟨8, _⟩ => ⟨S256x2048, .bf16⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S256x2048, .bf16⟩
  | .local _ .vmem, ⟨15, _⟩ => ⟨S1x2048, .f32⟩
  | .local _ .vmem, ⟨16, _⟩ => ⟨S1x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev main_v11_2 : Ref sig .tc := ⟨.hbm, 21, rfl⟩
abbrev main_v11_3 : Ref sig .tc := ⟨.hbm, 22, rfl⟩
abbrev main_v11_4 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== LossRefIdeal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩
abbrev S1x128 : Shape := ⟨2, ![1, 128]⟩

abbrev nBuf : Space → Nat
  | .hbm => 94
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S2048x2048, .f32⟩
  | .hbm, ⟨12, _⟩ => ⟨S2048x2048, .f32⟩
  | .hbm, ⟨13, _⟩ => ⟨S_, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S_, .f32⟩
  | .hbm, ⟨21, _⟩ => ⟨S2048, .f32⟩
  | .hbm, ⟨22, _⟩ => ⟨S2048x1, .f32⟩
  | .hbm, ⟨23, _⟩ => ⟨S_, .f32⟩
  | .hbm, ⟨24, _⟩ => ⟨S2048x1, .f32⟩
  | .hbm, ⟨25, _⟩ => ⟨S2048x1, .f32⟩
  | .hbm, ⟨26, _⟩ => ⟨S_, .f32⟩
  | .hbm, ⟨27, _⟩ => ⟨S2048x1, .f32⟩
  | .hbm, ⟨28, _⟩ => ⟨S2048x1, .f32⟩
  | .hbm, ⟨29, _⟩ => ⟨S2048x1, .f32⟩
  | .hbm, ⟨30, _⟩ => ⟨S2048x1, .f32⟩
  | .hbm, ⟨31, _⟩ => ⟨S_, .f32⟩
  | .hbm, ⟨32, _⟩ => ⟨S2048x1, .f32⟩
  | .hbm, ⟨33, _⟩ => ⟨S2048x1, .f32⟩
  | .hbm, ⟨34, _⟩ => ⟨S2048x2048, .f32⟩
  | .hbm, ⟨35, _⟩ => ⟨S2048x2048, .f32⟩
  | .hbm, ⟨36, _⟩ => ⟨S1x2048, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S2048x2048, .f32⟩
  | .hbm, ⟨41, _⟩ => ⟨S_, .f32⟩
  | .hbm, ⟨42, _⟩ => ⟨S2048x2048, .f32⟩
  | .hbm, ⟨43, _⟩ => ⟨S2048x2048, .f32⟩
  | .hbm, ⟨44, _⟩ => ⟨S_, .f32⟩
  | .hbm, ⟨45, _⟩ => ⟨S2048, .f32⟩
  | .hbm, ⟨46, _⟩ => ⟨S_, .f32⟩
  | .hbm, ⟨47, _⟩ => ⟨S2048, .f32⟩
  | .hbm, ⟨48, _⟩ => ⟨S2048, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S2048, .f32⟩
  | .hbm, ⟨57, _⟩ => ⟨S_, .f32⟩
  | .hbm, ⟨58, _⟩ => ⟨S2048, .f32⟩
  | .hbm, ⟨59, _⟩ => ⟨S2048, .f32⟩
  | .hbm, ⟨60, _⟩ => ⟨S2048x2048, .f32⟩
  | .hbm, ⟨61, _⟩ => ⟨S2048x2048, .f32⟩
  | .hbm, ⟨62, _⟩ => ⟨S2048x2048, .f32⟩
  | .hbm, ⟨63, _⟩ => ⟨S_, .f32⟩
  | .hbm, ⟨64, _⟩ => ⟨S2048, .f32⟩
  | .hbm, ⟨65, _⟩ => ⟨S1x2048, .f32⟩
  | .hbm, ⟨66, _⟩ => ⟨S2048x2048, .f32⟩
  | .hbm, ⟨67, _⟩ => ⟨S2048x2048, .f32⟩
  | .hbm, ⟨68, _⟩ => ⟨S_, .f32⟩
  | .hbm, ⟨69, _⟩ => ⟨S2048, .f32⟩
  | .hbm, ⟨70, _⟩ => ⟨S2048x2048, .f32⟩
  | .hbm, ⟨71, _⟩ => ⟨S_, .f32⟩
  | .hbm, ⟨72, _⟩ => ⟨S2048, .f32⟩
  | .hbm, ⟨73, _⟩ => ⟨S2048x1, .f32⟩
  | .hbm, ⟨74, _⟩ => ⟨S2048x2048, .f32⟩
  | .hbm, ⟨75, _⟩ => ⟨S2048x2048, .f32⟩
  | .hbm, ⟨76, _⟩ => ⟨S2048x1, .f32⟩
  | .hbm, ⟨77, _⟩ => ⟨S_, .f32⟩
  | .hbm, ⟨78, _⟩ => ⟨S2048x1, .f32⟩
  | .hbm, ⟨79, _⟩ => ⟨S2048x1, .f32⟩
  | .hbm, ⟨80, _⟩ => ⟨S_, .f32⟩
  | .hbm, ⟨81, _⟩ => ⟨S2048, .f32⟩
  | .hbm, ⟨82, _⟩ => ⟨S2048x2048, .f32⟩
  | .hbm, ⟨83, _⟩ => ⟨S2048x2048, .f32⟩
  | .hbm, ⟨84, _⟩ => ⟨S2048x2048, .f32⟩
  | .hbm, ⟨85, _⟩ => ⟨S2048x2048, .f32⟩
  | .hbm, ⟨86, _⟩ => ⟨S2048x2048, .f32⟩
  | .hbm, ⟨87, _⟩ => ⟨S2048x2048, .f32⟩
  | .hbm, ⟨88, _⟩ => ⟨S2048x2048, .f32⟩
  | .hbm, ⟨89, _⟩ => ⟨S2048x2048, .f32⟩
  | .hbm, ⟨90, _⟩ => ⟨S2048x2048, .bf16⟩
  | .hbm, ⟨91, _⟩ => ⟨S2048x2048, .bf16⟩
  | .hbm, ⟨92, _⟩ => ⟨S1x2048, .f32⟩
  | .hbm, ⟨93, _⟩ => ⟨S1x128, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_cst_8 : Ref sig .tc := ⟨.hbm, 46, rfl⟩
abbrev main_v32 : Ref sig .tc := ⟨.hbm, 47, rfl⟩
abbrev main_v33 : Ref sig .tc := ⟨.hbm, 48, rfl⟩
abbrev main_cst_9 : Ref sig .tc := ⟨.hbm, 49, rfl⟩
abbrev main_v34 : Ref sig .tc := ⟨.hbm, 50, rfl⟩
abbrev main_cst_10 : Ref sig .tc := ⟨.hbm, 51, rfl⟩
abbrev main_v35 : Ref sig .tc := ⟨.hbm, 52, rfl⟩
abbrev main_cst_11 : Ref sig .tc := ⟨.hbm, 53, rfl⟩
abbrev main_cst_12 : Ref sig .tc := ⟨.hbm, 54, rfl⟩
abbrev main_v36 : Ref sig .tc := ⟨.hbm, 55, rfl⟩
abbrev main_v37 : Ref sig .tc := ⟨.hbm, 56, rfl⟩
abbrev main_cst_13 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_14 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_15 : Ref sig .tc := ⟨.hbm, 68, rfl⟩
abbrev main_v47 : Ref sig .tc := ⟨.hbm, 69, rfl⟩
abbrev main_v48 : Ref sig .tc := ⟨.hbm, 70, rfl⟩
abbrev main_cst_16 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_17 : Ref sig .tc := ⟨.hbm, 77, rfl⟩
abbrev main_v54 : Ref sig .tc := ⟨.hbm, 78, rfl⟩
abbrev main_v55 : Ref sig .tc := ⟨.hbm, 79, rfl⟩
abbrev main_cst_18 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩

abbrev nD : Nat := 1
abbrev τ : Topo := Topo.v7x

variable {F : FTy → Type} [FloatOps F]
-- ==== Prep.lean ====
abbrev S1x128x64 : Shape := ⟨3, ![1, 128, 64]⟩
abbrev S1x128 : Shape := ⟨2, ![1, 128]⟩
abbrev S1x128x64x16 : Shape := ⟨4, ![1, 128, 64, 16]⟩
abbrev S128x64 : Shape := ⟨2, ![128, 64]⟩
abbrev S128x64x16 : Shape := ⟨3, ![128, 64, 16]⟩
abbrev S64x128 : Shape := ⟨2, ![64, 128]⟩
abbrev S64x16x128 : Shape := ⟨3, ![64, 16, 128]⟩
abbrev S64x1x128 : Shape := ⟨3, ![64, 1, 128]⟩
abbrev S128 : Shape := ⟨1, ![128]⟩

abbrev nBuf : Space → Nat
  | .hbm => 26
  | .vmem => 14
  | .smem => 0
  | _ => 0

abbrev bufTy : (tb : Table) → Fin (tcTables nBuf tb) → BufTy
  | .hbm, ⟨0, _⟩ => ⟨S1x128x64, .f32⟩
  | .hbm, ⟨1, _⟩ => ⟨S1x128x64, .f32⟩
  | .hbm, ⟨2, _⟩ => ⟨S1x128, .f32⟩
  | .hbm, ⟨3, _⟩ => ⟨S1x128x64x16, .f32⟩
  | .hbm, ⟨4, _⟩ => ⟨S1x128x64x16, .f32⟩
  | .hbm, ⟨5, _⟩ => ⟨S128x64, .f32⟩
  | .hbm, ⟨6, _⟩ => ⟨S128x64, .f32⟩
  | .hbm, ⟨7, _⟩ => ⟨S128x64x16, .f32⟩
  | .hbm, ⟨8, _⟩ => ⟨S128x64x16, .f32⟩
  | .hbm, ⟨9, _⟩ => ⟨S128x64, .f32⟩
  | .hbm, ⟨10, _⟩ => ⟨S64x128, .f32⟩
  | .hbm, ⟨11, _⟩ => ⟨S128x64, .f32⟩
  | .hbm, ⟨12, _⟩ => ⟨S64x128, .f32⟩
  | .hbm, ⟨13, _⟩ => ⟨S128x64x16, .f32⟩
  | .hbm, ⟨14, _⟩ => ⟨S64x16x128, .f32⟩
  | .hbm, ⟨15, _⟩ => ⟨S128x64x16, .f32⟩
  | .hbm, ⟨16, _⟩ => ⟨S64x16x128, .f32⟩
  | .hbm, ⟨17, _⟩ => ⟨S64x128, .f32⟩
  | .hbm, ⟨18, _⟩ => ⟨S64x128, .f32⟩
  | .hbm, ⟨19, _⟩ => ⟨S64x16x128, .f32⟩
  | .hbm, ⟨20, _⟩ => ⟨S64x16x128, .f32⟩
  | .hbm, ⟨21, _⟩ => ⟨S64x128, .f32⟩
  | .hbm, ⟨22, _⟩ => ⟨S64x128, .f32⟩
  | .hbm, ⟨23, _⟩ => ⟨S1x128, .f32⟩
  | .hbm, ⟨24, _⟩ => ⟨S64x16x128, .f32⟩
  | .hbm, ⟨25, _⟩ => ⟨S64x16x128, .f32⟩
  | .local _ .vmem, ⟨0, _⟩ => ⟨S64x128, .f32⟩
  | .local _ .vmem, ⟨1, _⟩ => ⟨S64x128, .f32⟩
  | .local _ .vmem, ⟨2, _⟩ => ⟨S1x128, .f32⟩
  | .local _ .vmem, ⟨3, _⟩ => ⟨S64x16x128, .f32⟩
  | .local _ .vmem, ⟨4, _⟩ => ⟨S64x16x128, .f32⟩
  | .local _ .vmem, ⟨5, _⟩ => ⟨S64x128, .f32⟩
  | .local _ .vmem, ⟨6, _⟩ => ⟨S64x128, .f32⟩
  | .local _ .vmem, ⟨7, _⟩ => ⟨S64x16x128, .f32⟩
  | .local _ .vmem, ⟨8, _⟩ => ⟨S64x16x128, .f32⟩
  | .local _ .vmem, ⟨9, _⟩ => ⟨S64x128, .f32⟩
  | .local _ .vmem, ⟨10, _⟩ => ⟨S64x128, .f32⟩
  | .local _ .vmem, ⟨11, _⟩ => ⟨S1x128, .f32⟩
  | .local _ .vmem, ⟨12, _⟩ => ⟨S64x16x128, .f32⟩
  | .local _ .vmem, ⟨13, _⟩ => ⟨S64x16x128, .f32⟩
  | _, _ => ⟨S1x128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev main_v12_2 : Ref sig .tc := ⟨.hbm, 23, rfl⟩
abbrev main_v12_3 : Ref sig .tc := ⟨.hbm, 24, rfl⟩
abbrev main_v12_4 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S64x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x16x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x16x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S64x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S64x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S64x16x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S64x16x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== PrepRefIdeal.lean ====
abbrev S1x128x64 : Shape := ⟨3, ![1, 128, 64]⟩
abbrev S1x128 : Shape := ⟨2, ![1, 128]⟩
abbrev S1x128x64x16 : Shape := ⟨4, ![1, 128, 64, 16]⟩
abbrev S128x64 : Shape := ⟨2, ![128, 64]⟩
abbrev S128x64x16 : Shape := ⟨3, ![128, 64, 16]⟩
abbrev S128 : Shape := ⟨1, ![128]⟩
abbrev S128x1 : Shape := ⟨2, ![128, 1]⟩
abbrev S_ : Shape := ⟨0, ![]⟩
abbrev S128x64x1 : Shape := ⟨3, ![128, 64, 1]⟩
abbrev S64x128 : Shape := ⟨2, ![64, 128]⟩
abbrev S64x16x128 : Shape := ⟨3, ![64, 16, 128]⟩

abbrev nBuf : Space → Nat
  | .hbm => 185
  | .vmem => 0
  | .smem => 0
  | _ => 0

abbrev hbmTy0_0 (i : Nat) : BufTy := match i % 128 with
  | 0 => ⟨S1x128x64, .f32⟩
  | 1 => ⟨S1x128x64, .f32⟩
  | 2 => ⟨S1x128, .f32⟩
  | 3 => ⟨S1x128x64x16, .f32⟩
  | 4 => ⟨S1x128x64x16, .f32⟩
  | 5 => ⟨S128x64, .f32⟩
  | 6 => ⟨S128x64, .f32⟩
  | 7 => ⟨S128x64x16, .f32⟩
  | 8 => ⟨S128x64x16, .f32⟩
  | 9 => ⟨S128x64, .f32⟩
  | 10 => ⟨S128x64, .f32⟩
  | 11 => ⟨S128, .f32⟩
  | 12 => ⟨S128x64x16, .f32⟩
  | 13 => ⟨S128x64x16, .f32⟩
  | 14 => ⟨S128, .f32⟩
  | 15 => ⟨S128x1, .f32⟩
  | 16 => ⟨S128x64, .f32⟩
  | 17 => ⟨S128x64, .f32⟩
  | 18 => ⟨S128x64, .f32⟩
  | 19 => ⟨S128x64, .f32⟩
  | 20 => ⟨S128x64, .f32⟩
  | 21 => ⟨S128x64, .f32⟩
  | 22 => ⟨S128x64, .f32⟩
  | 23 => ⟨S128x64, .f32⟩
  | 24 => ⟨S128x64, .f32⟩
  | 25 => ⟨S128x64, .f32⟩
  | 26 => ⟨S128x64, .f32⟩
  | 27 => ⟨S128x64, .f32⟩
  | 28 => ⟨S128x64, .f32⟩
  | 29 => ⟨S128x64, .f32⟩
  | 30 => ⟨S128x64, .f32⟩
  | 31 => ⟨S128x64, .f32⟩
  | 32 => ⟨S128x64, .f32⟩
  | 33 => ⟨S128x64, .f32⟩
  | 34 => ⟨S128x64, .f32⟩
  | 35 => ⟨S_, .f32⟩
  | 36 => ⟨S128x64, .f32⟩
  | 37 => ⟨S128x64, .f32⟩
  | 38 => ⟨S128x64, .f32⟩
  | 39 => ⟨S128x64, .f32⟩
  | 40 => ⟨S128x64, .f32⟩
  | 41 => ⟨S128x64, .f32⟩
  | 42 => ⟨S128x64, .f32⟩
  | 43 => ⟨S_, .f32⟩
  | 44 => ⟨S128x64, .f32⟩
  | 45 => ⟨S128x64, .f32⟩
  | 46 => ⟨S128x64x1, .f32⟩
  | 47 => ⟨S128x64, .f32⟩
  | 48 => ⟨S_, .f32⟩
  | 49 => ⟨S128x64, .f32⟩
  | 50 => ⟨S128x64, .f32⟩
  | 51 => ⟨S128x64, .f32⟩
  | 52 => ⟨S128x64, .f32⟩
  | 53 => ⟨S128x64, .f32⟩
  | 54 => ⟨S128x64, .f32⟩
  | 55 => ⟨S_, .f32⟩
  | 56 => ⟨S128x64, .f32⟩
  | 57 => ⟨S128x64, .f32⟩
  | 58 => ⟨S128x64x1, .f32⟩
  | 59 => ⟨S128x64x16, .f32⟩
  | 60 => ⟨S128x64x16, .f32⟩
  | 61 => ⟨S128x64x16, .f32⟩
  | 62 => ⟨S128x64x16, .f32⟩
  | 63 => ⟨S128x64x16, .f32⟩
  | 64 => ⟨S128x64x16, .f32⟩
  | 65 => ⟨S128x64x16, .f32⟩
  | 66 => ⟨S128x64x16, .f32⟩
  | 67 => ⟨S128x64x16, .f32⟩
  | 68 => ⟨S128x64x16, .f32⟩
  | 69 => ⟨S128x64x16, .f32⟩
  | 70 => ⟨S128x64x16, .f32⟩
  | 71 => ⟨S128x64x16, .f32⟩
  | 72 => ⟨S128x64x16, .f32⟩
  | 73 => ⟨S128x64x16, .f32⟩
  | 74 => ⟨S_, .f32⟩
  | 75 => ⟨S128x64, .f32⟩
  | 76 => ⟨S128x64x1, .f32⟩
  | 77 => ⟨S128x64x16, .f32⟩
  | 78 => ⟨S128x64x16, .f32⟩
  | 79 => ⟨S128x64x16, .f32⟩
  | 80 => ⟨S_, .f32⟩
  | 81 => ⟨S128x64, .f32⟩
  | 82 => ⟨S128x64x1, .f32⟩
  | 83 => ⟨S128x64x16, .f32⟩
  | 84 => ⟨S128x64x16, .f32⟩
  | 85 => ⟨S128x64x16, .f32⟩
  | 86 => ⟨S128x64x16, .f32⟩
  | 87 => ⟨S128x64x16, .f32⟩
  | 88 => ⟨S128x64x16, .f32⟩
  | 89 => ⟨S_, .f32⟩
  | 90 => ⟨S128x64, .f32⟩
  | 91 => ⟨S128x64x1, .f32⟩
  | 92 => ⟨S128x64x1, .f32⟩
  | 93 => ⟨S128x64x16, .f32⟩
  | 94 => ⟨S128x64x16, .f32⟩
  | 95 => ⟨S128x64x16, .f32⟩
  | 96 => ⟨S128x64x16, .f32⟩
  | 97 => ⟨S_, .f32⟩
  | 98 => ⟨S128x64, .f32⟩
  | 99 => ⟨S128x64x1, .f32⟩
  | 100 => ⟨S128x64x1, .f32⟩
  | 101 => ⟨S_, .f32⟩
  | 102 => ⟨S128x64, .f32⟩
  | 103 => ⟨S128x64, .f32⟩
  | 104 => ⟨S128x64, .f32⟩
  | 105 => ⟨S128x64, .f32⟩
  | 106 => ⟨S128x64, .f32⟩
  | 107 => ⟨S128x64, .f32⟩
  | 108 => ⟨S128x64, .f32⟩
  | 109 => ⟨S128x64, .f32⟩
  | 110 => ⟨S128x64, .f32⟩
  | 111 => ⟨S128x64, .f32⟩
  | 112 => ⟨S128x64, .f32⟩
  | 113 => ⟨S128x64, .f32⟩
  | 114 => ⟨S_, .f32⟩
  | 115 => ⟨S128x64, .f32⟩
  | 116 => ⟨S128x64, .f32⟩
  | 117 => ⟨S128x64, .f32⟩
  | 118 => ⟨S128x64, .f32⟩
  | 119 => ⟨S128x64, .f32⟩
  | 120 => ⟨S128x64, .f32⟩
  | 121 => ⟨S128x64, .f32⟩
  | 122 => ⟨S128x64, .f32⟩
  | 123 => ⟨S128x64, .f32⟩
  | 124 => ⟨S128x64, .f32⟩
  | 125 => ⟨S128x64, .f32⟩
  | 126 => ⟨S128x64, .f32⟩
  | 127 => ⟨S128x64, .f32⟩
  | _ => ⟨S1x128x64, .f32⟩

abbrev hbmTy0_1 (i : Nat) : BufTy := match i % 128 with
  | 0 => ⟨S128x64, .f32⟩
  | 1 => ⟨S128x64, .f32⟩
  | 2 => ⟨S128x64, .f32⟩
  | 3 => ⟨S128x64, .f32⟩
  | 4 => ⟨S128x64, .f32⟩
  | 5 => ⟨S128x64, .f32⟩
  | 6 => ⟨S128x64, .f32⟩
  | 7 => ⟨S128x64, .f32⟩
  | 8 => ⟨S128x64, .f32⟩
  | 9 => ⟨S128x64, .f32⟩
  | 10 => ⟨S128x64, .f32⟩
  | 11 => ⟨S128x64, .f32⟩
  | 12 => ⟨S128x64, .f32⟩
  | 13 => ⟨S_, .f32⟩
  | 14 => ⟨S128, .f32⟩
  | 15 => ⟨S128x1, .f32⟩
  | 16 => ⟨S128x64, .f32⟩
  | 17 => ⟨S128x64, .f32⟩
  | 18 => ⟨S128x64, .f32⟩
  | 19 => ⟨S128x64, .f32⟩
  | 20 => ⟨S128x64, .f32⟩
  | 21 => ⟨S_, .f32⟩
  | 22 => ⟨S128, .f32⟩
  | 23 => ⟨S128x1, .f32⟩
  | 24 => ⟨S128x1, .f32⟩
  | 25 => ⟨S128x64, .f32⟩
  | 26 => ⟨S128x64, .f32⟩
  | 27 => ⟨S128x64, .f32⟩
  | 28 => ⟨S128x64, .f32⟩
  | 29 => ⟨S128x64, .f32⟩
  | 30 => ⟨S128x64, .f32⟩
  | 31 => ⟨S128x64, .f32⟩
  | 32 => ⟨S128x64, .f32⟩
  | 33 => ⟨S_, .f32⟩
  | 34 => ⟨S128, .f32⟩
  | 35 => ⟨S128x1, .f32⟩
  | 36 => ⟨S128x1, .f32⟩
  | 37 => ⟨S128x64, .f32⟩
  | 38 => ⟨S128x64, .f32⟩
  | 39 => ⟨S128x64, .f32⟩
  | 40 => ⟨S128x64, .f32⟩
  | 41 => ⟨S128x64, .f32⟩
  | 42 => ⟨S_, .f32⟩
  | 43 => ⟨S128, .f32⟩
  | 44 => ⟨S128x1, .f32⟩
  | 45 => ⟨S128x1, .f32⟩
  | 46 => ⟨S128x64, .f32⟩
  | 47 => ⟨S128x64, .f32⟩
  | 48 => ⟨S128x64, .f32⟩
  | 49 => ⟨S_, .f32⟩
  | 50 => ⟨S128, .f32⟩
  | 51 => ⟨S128, .f32⟩
  | 52 => ⟨S64x128, .f32⟩
  | 53 => ⟨S64x128, .f32⟩
  | 54 => ⟨S1x128, .f32⟩
  | 55 => ⟨S64x16x128, .f32⟩
  | 56 => ⟨S64x16x128, .f32⟩
  | _ => ⟨S1x128x64, .f32⟩

abbrev hbmTy (i : Nat) : BufTy := match i / 128 with
  | 0 => hbmTy0_0 i
  | 1 => hbmTy0_1 i
  | _ => ⟨S1x128x64, .f32⟩

abbrev bufTy : (tb : Table) → Fin (tcTables nBuf tb) → BufTy
  | .hbm, ⟨i, _⟩ => hbmTy i
  | _, _ => ⟨S1x128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_0 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_1 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_2 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_cst_3 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_cst_4 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_cst_5 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_cst_6 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_cst_7 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_cst_8 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_cst_9 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_cst_10 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_cst_11 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_cst_12 : Ref sig .tc := ⟨.hbm, 170, rfl⟩
abbrev main_v148 : Ref sig .tc := ⟨.hbm, 171, rfl⟩
abbrev main_v149 : Ref sig .tc := ⟨.hbm, 172, rfl⟩
abbrev main_v150 : Ref sig .tc := ⟨.hbm, 173, rfl⟩
abbrev main_v151 : Ref sig .tc := ⟨.hbm, 174, rfl⟩
abbrev main_v152 : Ref sig .tc := ⟨.hbm, 175, rfl⟩
abbrev main_v153 : Ref sig .tc := ⟨.hbm, 176, rfl⟩
abbrev main_cst_13 : Ref sig .tc := ⟨.hbm, 177, rfl⟩
abbrev main_v154 : Ref sig .tc := ⟨.hbm, 178, rfl⟩
abbrev main_v155 : Ref sig .tc := ⟨.hbm, 179, rfl⟩
abbrev main_v156 : Ref sig .tc := ⟨.hbm, 180, rfl⟩
abbrev main_v157 : Ref sig .tc := ⟨.hbm, 181, rfl⟩
abbrev main_v158 : Ref sig .tc := ⟨.hbm, 182, rfl⟩
abbrev main_v159 : Ref sig .tc := ⟨.hbm, 183, rfl⟩
abbrev main_v160 : Ref sig .tc := ⟨.hbm, 184, rfl⟩

abbrev nD : Nat := 1
abbrev τ : Topo := Topo.v7x

variable {F : FTy → Type} [FloatOps F]
-- ==== Swi.lean ====
abbrev S2048x5632 : Shape := ⟨2, ![2048, 5632]⟩
abbrev S5632x2048 : Shape := ⟨2, ![5632, 2048]⟩
abbrev S2048x2048 : Shape := ⟨2, ![2048, 2048]⟩
abbrev S4x1408x2x1024 : Shape := ⟨4, ![4, 1408, 2, 1024]⟩
abbrev S4x2x1408x1024 : Shape := ⟨4, ![4, 2, 1408, 1024]⟩
abbrev S1024x1024 : Shape := ⟨2, ![1024, 1024]⟩
abbrev S1x1x1408x1024 : Shape := ⟨4, ![1, 1, 1408, 1024]⟩
abbrev S1024x1408 : Shape := ⟨2, ![1024, 1408]⟩
abbrev S1408x1024 : Shape := ⟨2, ![1408, 1024]⟩

abbrev nBuf : Space → Nat
  | .hbm => 12
  | .vmem => 13
  | .smem => 0
  | _ => 0

abbrev bufTy : (tb : Table) → Fin (tcTables nBuf tb) → BufTy
  | .hbm, ⟨0, _⟩ => ⟨S2048x5632, .f32⟩
  | .hbm, ⟨1, _⟩ => ⟨S2048x5632, .f32⟩
  | .hbm, ⟨2, _⟩ => ⟨S5632x2048, .f32⟩
  | .hbm, ⟨3, _⟩ => ⟨S2048x2048, .f32⟩
  | .hbm, ⟨4, _⟩ => ⟨S4x1408x2x1024, .f32⟩
  | .hbm, ⟨5, _⟩ => ⟨S4x2x1408x1024, .f32⟩
  | .hbm, ⟨6, _⟩ => ⟨S4x2x1408x1024, .bf16⟩
  | .hbm, ⟨7, _⟩ => ⟨S2048x2048, .bf16⟩
  | .hbm, ⟨8, _⟩ => ⟨S2048x5632, .bf16⟩
  | .hbm, ⟨9, _⟩ => ⟨S2048x5632, .bf16⟩
  | .hbm, ⟨10, _⟩ => ⟨S2048x5632, .bf16⟩
  | .hbm, ⟨11, _⟩ => ⟨S2048x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1x1x1408x1024, .bf16⟩
  | .local _ .vmem, ⟨3, _⟩ => ⟨S1x1x1408x1024, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | .local _ .vmem, ⟨12, _⟩ => ⟨S1024x1408, .f32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 4, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.divsi arg2 c1_i32_5
  let c0_i32_6 : BitVec 32 := 0#32
  let v18 : BitVec 1 := Scalar.cmpi .sgt arg2 c0_i32_6
  let v19 : BitVec 32 := Scalar.extui v18
  let c0_i32_7 : BitVec 32 := 0#32
  let v20 : BitVec 1 := Scalar.cmpi .slt arg2 c0_i32_7
  let v21 : BitVec 32 := Scalar.extui v20
  let v22 : BitVec 32 := Scalar.subi v19 v21
  let c0_i32_8 : BitVec 32 := 0#32
  let v23 : BitVec 1 := Scalar.cmpi .sgt c1_i32_5 c0_i32_8
  let v24 : BitVec 32 := Scalar.extui v23
  let c0_i32_9 : BitVec 32 := 0#32
  let v25 : BitVec 1 := Scalar.cmpi .slt c1_i32_5 c0_i32_9
  let v26 : BitVec 32 := Scalar.extui v25
  let v27 : BitVec 32 := Scalar.subi v24 v26
  let v28 : BitVec 1 := Scalar.cmpi .ne v22 v27
  let v29 : BitVec 32 := Scalar.remsi arg2 c1_i32_5
  let c0_i32_10 : BitVec 32 := 0#32
  let v30 : BitVec 1 := Scalar.cmpi .ne v29 c0_i32_10
  let v31 : BitVec 1 := Scalar.andi v28 v30
  let c1_i32_11 : BitVec 32 := 1#32
  let v32 : BitVec 32 := Scalar.subi v17 c1_i32_11
  let v33 : BitVec 32 := Scalar.select v31 v32 v17
  let c1_i32_12 : BitVec 32 := 1#32
  let c0_i32_13 : BitVec 32 := 0#32
  let v34 : BitVec 1 := Scalar.cmpi .eq c1_i32_12 c0_i32_13
  let c1_i32_14 : BitVec 32 := 1#32
  let v35 : BitVec 32 := Scalar.select v34 c1_i32_14 c1_i32_12
  let v36 : BitVec 32 := Scalar.remsi arg1 v35
  let c0_i32_15 : BitVec 32 := 0#32
  let v37 : BitVec 1 := Scalar.cmpi .ne v36 c0_i32_15
  let c0_i32_16 : BitVec 32 := 0#32
  let v38 : BitVec 1 := Scalar.cmpi .slt v36 c0_i32_16
  let c0_i32_17 : BitVec 32 := 0#32
  let v39 : BitVec 1 := Scalar.cmpi .slt v35 c0_i32_17
  let v40 : BitVec 1 := Scalar.xori v38 v39
  let v41 : BitVec 1 := Scalar.andi v40 v37
  let v42 : BitVec 32 := Scalar.addi v36 v35
  let v43 : BitVec 32 := Scalar.select v41 v42 v36
  let c1_i32_18 : BitVec 32 := 1#32
  let c0_i32_19 : BitVec 32 := 0#32
  let v44 : BitVec 1 := Scalar.cmpi .eq c1_i32_18 c0_i32_19
  let c1_i32_20 : BitVec 32 := 1#32
  let v45 : BitVec 32 := Scalar.select v44 c1_i32_20 c1_i32_18
  let v46 : BitVec 32 := Scalar.remsi arg2 v45
  let c0_i32_21 : BitVec 32 := 0#32
  let v47 : BitVec 1 := Scalar.cmpi .ne v46 c0_i32_21
  let c0_i32_22 : BitVec 32 := 0#32
  let v48 : BitVec 1 := Scalar.cmpi .slt v46 c0_i32_22
  let c0_i32_23 : BitVec 32 := 0#32
  let v49 : BitVec 1 := Scalar.cmpi .slt v45 c0_i32_23
  let v50 : BitVec 1 := Scalar.xori v48 v49
  let v51 : BitVec 1 := Scalar.andi v50 v47
  let v52 : BitVec 32 := Scalar.addi v46 v45
  let v53 : BitVec 32 := Scalar.select v51 v52 v46
  let c0_i32_24 : BitVec 32 := 0#32
  ![v16.toNat, v33.toNat, v43.toNat, v53.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== SwiRefIdeal.lean ====
abbrev S2048x5632 : Shape := ⟨2, ![2048, 5632]⟩
abbrev S5632x2048 : Shape := ⟨2, ![5632, 2048]⟩
abbrev S2048x2048 : Shape := ⟨2, ![2048, 2048]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S2048x5632, .f32⟩
  | .hbm, ⟨2, _⟩ => ⟨S5632x2048, .f32⟩
  | .hbm, ⟨3, _⟩ => ⟨S2048x2048, .f32⟩
  | .hbm, ⟨4, _⟩ => ⟨S2048x5632, .f32⟩
  | .hbm, ⟨5, _⟩ => ⟨S2048x5632, .f32⟩
  | .hbm, ⟨6, _⟩ => ⟨S_, .f32⟩
  | .hbm, ⟨7, _⟩ => ⟨S2048x5632, .f32⟩
  | .hbm, ⟨8, _⟩ => ⟨S2048x5632, .f32⟩
  | .hbm, ⟨9, _⟩ => ⟨S_, .f32⟩
  | .hbm, ⟨10, _⟩ => ⟨S2048x5632, .f32⟩
  | .hbm, ⟨11, _⟩ => ⟨S2048x5632, .f32⟩
  | .hbm, ⟨12, _⟩ => ⟨S_, .f32⟩
  | .hbm, ⟨13, _⟩ => ⟨S2048x5632, .f32⟩
  | .hbm, ⟨14, _⟩ => ⟨S2048x5632, .f32⟩
  | .hbm, ⟨15, _⟩ => ⟨S2048x5632, .f32⟩
  | .hbm, ⟨16, _⟩ => ⟨S2048x5632, .f32⟩
  | .hbm, ⟨17, _⟩ => ⟨S2048x5632, .f32⟩
  | .hbm, ⟨18, _⟩ => ⟨S2048x2048, .f32⟩
  | .hbm, ⟨19, _⟩ => ⟨S2048x5632, .f32⟩
  | .hbm, ⟨20, _⟩ => ⟨S2048x5632, .f32⟩
  | .hbm, ⟨21, _⟩ => ⟨S2048x5632, .f32⟩
  | .hbm, ⟨22, _⟩ => ⟨S2048x5632, .f32⟩
  | .hbm, ⟨23, _⟩ => ⟨S2048x5632, .f32⟩
  | .hbm, ⟨24, _⟩ => ⟨S2048x5632, .f32⟩
  | .hbm, ⟨25, _⟩ => ⟨S2048x5632, .f32⟩
  | .hbm, ⟨26, _⟩ => ⟨S2048x5632, .bf16⟩
  | .hbm, ⟨27, _⟩ => ⟨S2048x5632, .bf16⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩

abbrev nD : Nat := 1
abbrev τ : Topo := Topo.v7x

variable {F : FTy → Type} [FloatOps F]
-- ==== GmlpF.lean ====
abbrev S2048x4096 : Shape := ⟨2, ![2048, 4096]⟩
abbrev S1x2048 : Shape := ⟨2, ![1, 2048]⟩
abbrev S1x16x128x128 : Shape := ⟨4, ![1, 16, 128, 128]⟩
abbrev S1x16x128 : Shape := ⟨3, ![1, 16, 128]⟩
abbrev S16x128x128 : Shape := ⟨3, ![16, 128, 128]⟩
abbrev S16x128 : Shape := ⟨2, ![16, 128]⟩
abbrev S128x16 : Shape := ⟨2, ![128, 16]⟩
abbrev S2048x2048 : Shape := ⟨2, ![2048, 2048]⟩
abbrev S128x4096 : Shape := ⟨2, ![128, 4096]⟩
abbrev S128x2048 : Shape := ⟨2, ![128, 2048]⟩
abbrev S128 : Shape := ⟨1, ![128]⟩
abbrev S128x1 : Shape := ⟨2, ![128, 1]⟩
abbrev S1x128x128 : Shape := ⟨3, ![1, 128, 128]⟩
abbrev S128x128 : Shape := ⟨2, ![128, 128]⟩

abbrev nBuf : Space → Nat
  | .hbm => 9
  | .vmem => 8
  | .smem => 0
  | _ => 0

abbrev bufTy : (tb : Table) → Fin (tcTables nBuf tb) → BufTy
  | .hbm, ⟨0, _⟩ => ⟨S2048x4096, .f32⟩
  | .hbm, ⟨1, _⟩ => ⟨S1x2048, .f32⟩
  | .hbm, ⟨2, _⟩ => ⟨S1x2048, .f32⟩
  | .hbm, ⟨3, _⟩ => ⟨S1x16x128x128, .f32⟩
  | .hbm, ⟨4, _⟩ => ⟨S1x16x128, .f32⟩
  | .hbm, ⟨5, _⟩ => ⟨S16x128x128, .f32⟩
  | .hbm, ⟨6, _⟩ => ⟨S16x128, .f32⟩
  | .hbm, ⟨7, _⟩ => ⟨S128x16, .f32⟩
  | .hbm, ⟨8, _⟩ => ⟨S2048x2048, .bf16⟩
  | .local _ .vmem, ⟨0, _⟩ => ⟨S128x4096, .f32⟩
  | .local _ .vmem, ⟨1, _⟩ => ⟨S128x4096, .f32⟩
  | .local _ .vmem, ⟨2, _⟩ => ⟨S1x2048, .f32⟩
  | .local _ .vmem, ⟨3, _⟩ => ⟨S1x2048, .f32⟩
  | .local _ .vmem, ⟨4, _⟩ => ⟨S16x128x128, .f32⟩
  | .local _ .vmem, ⟨5, _⟩ => ⟨S128x16, .f32⟩
  | .local _ .vmem, ⟨6, _⟩ => ⟨S128x2048, .bf16⟩
  | .local _ .vmem, ⟨7, _⟩ => ⟨S128x2048, .bf16⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GmlpFIdeal.lean ====
variable {F : FTy → Type} [FloatOps F] [Named F]
def κ : String → Option EReal := fun
  | "cube" => some ((8943 / 200000 : ℝ) : EReal)
  | _ => none
-- ==== GmlpFRefIdeal.lean ====
abbrev S2048x4096 : Shape := ⟨2, ![2048, 4096]⟩
abbrev S1x2048 : Shape := ⟨2, ![1, 2048]⟩
abbrev S1x16x128x128 : Shape := ⟨4, ![1, 16, 128, 128]⟩
abbrev S1x16x128 : Shape := ⟨3, ![1, 16, 128]⟩
abbrev S2048 : Shape := ⟨1, ![2048]⟩
abbrev S16x128x128 : Shape := ⟨3, ![16, 128, 128]⟩
abbrev S16x128 : Shape := ⟨2, ![16, 128]⟩
abbrev S_ : Shape := ⟨0, ![]⟩
abbrev S2048x2048 : Shape := ⟨2, ![2048, 2048]⟩
abbrev S2048x1 : Shape := ⟨2, ![2048, 1]⟩
abbrev S16x128x16x128 : Shape := ⟨4, ![16, 128, 16, 128]⟩
abbrev S128x128 : Shape := ⟨2, ![128, 128]⟩
abbrev S16x16x128x128 : Shape := ⟨4, ![16, 16, 128, 128]⟩
abbrev S128x16 : Shape := ⟨2, ![128, 16]⟩
abbrev S128x16x1 : Shape := ⟨3, ![128, 16, 1]⟩
abbrev S1x128x16x1 : Shape := ⟨4, ![1, 128, 16, 1]⟩

abbrev nBuf : Space → Nat
  | .hbm => 83
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S1x2048, .f32⟩
  | .hbm, ⟨2, _⟩ => ⟨S1x2048, .f32⟩
  | .hbm, ⟨3, _⟩ => ⟨S1x16x128x128, .f32⟩
  | .hbm, ⟨4, _⟩ => ⟨S1x16x128, .f32⟩
  | .hbm, ⟨5, _⟩ => ⟨S2048, .f32⟩
  | .hbm, ⟨6, _⟩ => ⟨S2048, .f32⟩
  | .hbm, ⟨7, _⟩ => ⟨S16x128x128, .f32⟩
  | .hbm, ⟨8, _⟩ => ⟨S16x128, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S2048x4096, .f32⟩
  | .hbm, ⟨13, _⟩ => ⟨S2048x4096, .f32⟩
  | .hbm, ⟨14, _⟩ => ⟨S2048x4096, .f32⟩
  | .hbm, ⟨15, _⟩ => ⟨S2048x4096, .f32⟩
  | .hbm, ⟨16, _⟩ => ⟨S2048x4096, .f32⟩
  | .hbm, ⟨17, _⟩ => ⟨S_, .f32⟩
  | .hbm, ⟨18, _⟩ => ⟨S2048x4096, .f32⟩
  | .hbm, ⟨19, _⟩ => ⟨S2048x4096, .f32⟩
  | .hbm, ⟨20, _⟩ => ⟨S2048x4096, .f32⟩
  | .hbm, ⟨21, _⟩ => ⟨S_, .f32⟩
  | .hbm, ⟨22, _⟩ => ⟨S2048x4096, .f32⟩
  | .hbm, ⟨23, _⟩ => ⟨S2048x4096, .f32⟩
  | .hbm, ⟨24, _⟩ => ⟨S_, .f32⟩
  | .hbm, ⟨25, _⟩ => ⟨S2048x4096, .f32⟩
  | .hbm, ⟨26, _⟩ => ⟨S2048x4096, .f32⟩
  | .hbm, ⟨27, _⟩ => ⟨S2048x4096, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S_, .f32⟩
  | .hbm, ⟨34, _⟩ => ⟨S2048x1, .f32⟩
  | .hbm, ⟨35, _⟩ => ⟨S2048x1, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S_, .f32⟩
  | .hbm, ⟨40, _⟩ => ⟨S2048, .f32⟩
  | .hbm, ⟨41, _⟩ => ⟨S2048x1, .f32⟩
  | .hbm, ⟨42, _⟩ => ⟨S_, .f32⟩
  | .hbm, ⟨43, _⟩ => ⟨S2048x1, .f32⟩
  | .hbm, ⟨44, _⟩ => ⟨S2048x1, .f32⟩
  | .hbm, ⟨45, _⟩ => ⟨S_, .f32⟩
  | .hbm, ⟨46, _⟩ => ⟨S2048x1, .f32⟩
  | .hbm, ⟨47, _⟩ => ⟨S2048x1, .f32⟩
  | .hbm, ⟨48, _⟩ => ⟨S2048x1, .f32⟩
  | .hbm, ⟨49, _⟩ => ⟨S2048x2048, .f32⟩
  | .hbm, ⟨50, _⟩ => ⟨S2048x2048, .f32⟩
  | .hbm, ⟨51, _⟩ => ⟨S1x2048, .f32⟩
  | .hbm, ⟨52, _⟩ => ⟨S2048x2048, .f32⟩
  | .hbm, ⟨53, _⟩ => ⟨S2048x2048, .f32⟩
  | .hbm, ⟨54, _⟩ => ⟨S1x2048, .f32⟩
  | .hbm, ⟨55, _⟩ => ⟨S2048x2048, .f32⟩
  | .hbm, ⟨56, _⟩ => ⟨S2048x2048, .f32⟩
  | .hbm, ⟨57, _⟩ => ⟨S16x128x16x128, .f32⟩
  | .hbm, ⟨58, _⟩ => ⟨S_, .i1⟩
  | .hbm, ⟨59, _⟩ => ⟨S128x128, .i1⟩
  | .hbm, ⟨60, _⟩ => ⟨S128x128, .i32⟩
  | .hbm, ⟨61, _⟩ => ⟨S_, .i32⟩
  | .hbm, ⟨62, _⟩ => ⟨S128x128, .i32⟩
  | .hbm, ⟨63, _⟩ => ⟨S128x128, .i32⟩
  | .hbm, ⟨64, _⟩ => ⟨S128x128, .i32⟩
  | .hbm, ⟨65, _⟩ => ⟨S128x128, .i1⟩
  | .hbm, ⟨66, _⟩ => ⟨S_, .i1⟩
  | .hbm, ⟨67, _⟩ => ⟨S128x128, .i1⟩
  | .hbm, ⟨68, _⟩ => ⟨S128x128, .i1⟩
  | .hbm, ⟨69, _⟩ => ⟨S_, .f32⟩
  | .hbm, ⟨70, _⟩ => ⟨S16x128x128, .f32⟩
  | .hbm, ⟨71, _⟩ => ⟨S16x128x128, .i1⟩
  | .hbm, ⟨72, _⟩ => ⟨S16x128x128, .f32⟩
  | .hbm, ⟨73, _⟩ => ⟨S16x16x128x128, .f32⟩
  | .hbm, ⟨74, _⟩ => ⟨S16x128x16x128, .f32⟩
  | .hbm, ⟨75, _⟩ => ⟨S128x16, .f32⟩
  | .hbm, ⟨76, _⟩ => ⟨S128x16x1, .f32⟩
  | .hbm, ⟨77, _⟩ => ⟨S1x128x16x1, .f32⟩
  | .hbm, ⟨78, _⟩ => ⟨S16x128x16x128, .f32⟩
  | .hbm, ⟨79, _⟩ => ⟨S16x128x16x128, .f32⟩
  | .hbm, ⟨80, _⟩ => ⟨S2048x2048, .f32⟩
  | .hbm, ⟨81, _⟩ => ⟨S2048x2048, .f32⟩
  | .hbm, ⟨82, _⟩ => ⟨S2048x2048, .bf16⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_v30 : Ref sig .tc := ⟨.hbm, 44, rfl⟩
abbrev main_cst_8 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_c : Ref sig .tc := ⟨.hbm, 58, rfl⟩
abbrev main_v43 : Ref sig .tc := ⟨.hbm, 59, rfl⟩
abbrev main_call0_v0 : Ref sig .tc := ⟨.hbm, 60, rfl⟩
abbrev main_call0_c : Ref sig .tc := ⟨.hbm, 61, rfl⟩
abbrev main_call0_v1 : Ref sig .tc := ⟨.hbm, 62, rfl⟩
abbrev main_call0_v2 : Ref sig .tc := ⟨.hbm, 63, rfl⟩
abbrev main_call0_v3 : Ref sig .tc := ⟨.hbm, 64, rfl⟩
abbrev main_call0_v4 : Ref sig .tc := ⟨.hbm, 65, rfl⟩
abbrev main_call0_c_0 : Ref sig .tc := ⟨.hbm, 66, rfl⟩
abbrev main_call0_v5 : Ref sig .tc := ⟨.hbm, 67, rfl⟩
abbrev main_v44 : Ref sig .tc := ⟨.hbm, 68, rfl⟩
abbrev main_cst_9 : Ref sig .tc := ⟨.hbm, 69, rfl⟩
abbrev main_v45 : Ref sig .tc := ⟨.hbm, 70, rfl⟩
abbrev main_call1_v0 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩

abbrev nD : Nat := 1
abbrev τ : Topo := Topo.v7x

variable {F : FTy → Type} [FloatOps F]
-- ==== RmsF.lean ====
abbrev S2048x2048 : Shape := ⟨2, ![2048, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsFRefIdeal.lean ====
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S2048x1 : Shape := ⟨2, ![2048, 1]⟩

abbrev nBuf : Space → Nat
  | .hbm => 20
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048, .f32⟩
  | .hbm, ⟨3, _⟩ => ⟨S2048x2048, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x2048, .f32⟩
  | .hbm, ⟨15, _⟩ => ⟨S2048x2048, .f32⟩
  | .hbm, ⟨16, _⟩ => ⟨S1x2048, .f32⟩
  | .hbm, ⟨17, _⟩ => ⟨S2048x2048, .f32⟩
  | .hbm, ⟨18, _⟩ => ⟨S2048x2048, .f32⟩
  | .hbm, ⟨19, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== PrepF.lean ====
abbrev S1x128x64 : Shape := ⟨3, ![1, 128, 64]⟩
abbrev S1x128 : Shape := ⟨2, ![1, 128]⟩
abbrev S1x128x64x16 : Shape := ⟨4, ![1, 128, 64, 16]⟩
abbrev S128x64 : Shape := ⟨2, ![128, 64]⟩
abbrev S64x128 : Shape := ⟨2, ![64, 128]⟩
abbrev S128x64x16 : Shape := ⟨3, ![128, 64, 16]⟩
abbrev S64x16x128 : Shape := ⟨3, ![64, 16, 128]⟩
abbrev S64x1x128 : Shape := ⟨3, ![64, 1, 128]⟩

abbrev nBuf : Space → Nat
  | .hbm => 17
  | .vmem => 9
  | .smem => 0
  | _ => 0

abbrev bufTy : (tb : Table) → Fin (tcTables nBuf tb) → BufTy
  | .hbm, ⟨0, _⟩ => ⟨S1x128x64, .f32⟩
  | .hbm, ⟨1, _⟩ => ⟨S1x128x64, .f32⟩
  | .hbm, ⟨2, _⟩ => ⟨S1x128, .f32⟩
  | .hbm, ⟨3, _⟩ => ⟨S1x128x64x16, .f32⟩
  | .hbm, ⟨4, _⟩ => ⟨S1x128x64x16, .f32⟩
  | .hbm, ⟨5, _⟩ => ⟨S128x64, .f32⟩
  | .hbm, ⟨6, _⟩ => ⟨S64x128, .f32⟩
  | .hbm, ⟨7, _⟩ => ⟨S128x64, .f32⟩
  | .hbm, ⟨8, _⟩ => ⟨S64x128, .f32⟩
  | .hbm, ⟨9, _⟩ => ⟨S128x64x16, .f32⟩
  | .hbm, ⟨10, _⟩ => ⟨S64x16x128, .f32⟩
  | .hbm, ⟨11, _⟩ => ⟨S128x64x16, .f32⟩
  | .hbm, ⟨12, _⟩ => ⟨S64x16x128, .f32⟩
  | .hbm, ⟨13, _⟩ => ⟨S64x128, .f32⟩
  | .hbm, ⟨14, _⟩ => ⟨S64x128, .f32⟩
  | .hbm, ⟨15, _⟩ => ⟨S64x16x128, .f32⟩
  | .hbm, ⟨16, _⟩ => ⟨S64x16x128, .f32⟩
  | .local _ .vmem, ⟨0, _⟩ => ⟨S64x128, .f32⟩
  | .local _ .vmem, ⟨1, _⟩ => ⟨S64x128, .f32⟩
  | .local _ .vmem, ⟨2, _⟩ => ⟨S1x128, .f32⟩
  | .local _ .vmem, ⟨3, _⟩ => ⟨S64x16x128, .f32⟩
  | .local _ .vmem, ⟨4, _⟩ => ⟨S64x16x128, .f32⟩
  | .local _ .vmem, ⟨5, _⟩ => ⟨S64x128, .f32⟩
  | .local _ .vmem, ⟨6, _⟩ => ⟨S64x128, .f32⟩
  | .local _ .vmem, ⟨7, _⟩ => ⟨S64x16x128, .f32⟩
  | .local _ .vmem, ⟨8, _⟩ => ⟨S64x16x128, .f32⟩
  | _, _ => ⟨S1x128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev main_v8_3 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S64x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x16x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x16x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== PrepFRefIdeal.lean ====
abbrev S1x128x64 : Shape := ⟨3, ![1, 128, 64]⟩
abbrev S1x128 : Shape := ⟨2, ![1, 128]⟩
abbrev S1x128x64x16 : Shape := ⟨4, ![1, 128, 64, 16]⟩
abbrev S128x64 : Shape := ⟨2, ![128, 64]⟩
abbrev S128 : Shape := ⟨1, ![128]⟩
abbrev S128x64x16 : Shape := ⟨3, ![128, 64, 16]⟩
abbrev S128x1 : Shape := ⟨2, ![128, 1]⟩
abbrev S_ : Shape := ⟨0, ![]⟩
abbrev S128x64x1 : Shape := ⟨3, ![128, 64, 1]⟩
abbrev S64x128 : Shape := ⟨2, ![64, 128]⟩
abbrev S64x16x128 : Shape := ⟨3, ![64, 16, 128]⟩

abbrev nBuf : Space → Nat
  | .hbm => 59
  | .vmem => 0
  | .smem => 0
  | _ => 0

abbrev bufTy : (tb : Table) → Fin (tcTables nBuf tb) → BufTy
  | .hbm, ⟨0, _⟩ => ⟨S1x128x64, .f32⟩
  | .hbm, ⟨1, _⟩ => ⟨S1x128x64, .f32⟩
  | .hbm, ⟨2, _⟩ => ⟨S1x128, .f32⟩
  | .hbm, ⟨3, _⟩ => ⟨S1x128x64x16, .f32⟩
  | .hbm, ⟨4, _⟩ => ⟨S1x128x64x16, .f32⟩
  | .hbm, ⟨5, _⟩ => ⟨S128x64, .f32⟩
  | .hbm, ⟨6, _⟩ => ⟨S128x64, .f32⟩
  | .hbm, ⟨7, _⟩ => ⟨S128, .f32⟩
  | .hbm, ⟨8, _⟩ => ⟨S128x64x16, .f32⟩
  | .hbm, ⟨9, _⟩ => ⟨S128x64x16, .f32⟩
  | .hbm, ⟨10, _⟩ => ⟨S128, .f32⟩
  | .hbm, ⟨11, _⟩ => ⟨S128x1, .f32⟩
  | .hbm, ⟨12, _⟩ => ⟨S128x64, .f32⟩
  | .hbm, ⟨13, _⟩ => ⟨S128x64, .f32⟩
  | .hbm, ⟨14, _⟩ => ⟨S128x64, .f32⟩
  | .hbm, ⟨15, _⟩ => ⟨S128x64, .f32⟩
  | .hbm, ⟨16, _⟩ => ⟨S128x64, .f32⟩
  | .hbm, ⟨17, _⟩ => ⟨S128x64, .f32⟩
  | .hbm, ⟨18, _⟩ => ⟨S128x64, .f32⟩
  | .hbm, ⟨19, _⟩ => ⟨S128x64, .f32⟩
  | .hbm, ⟨20, _⟩ => ⟨S128x64, .f32⟩
  | .hbm, ⟨21, _⟩ => ⟨S128x64, .f32⟩
  | .hbm, ⟨22, _⟩ => ⟨S128x64, .f32⟩
  | .hbm, ⟨23, _⟩ => ⟨S128x64, .f32⟩
  | .hbm, ⟨24, _⟩ => ⟨S128x64, .f32⟩
  | .hbm, ⟨25, _⟩ => ⟨S128x64, .f32⟩
  | .hbm, ⟨26, _⟩ => ⟨S128x64, .f32⟩
  | .hbm, ⟨27, _⟩ => ⟨S128x64, .f32⟩
  | .hbm, ⟨28, _⟩ => ⟨S128x64, .f32⟩
  | .hbm, ⟨29, _⟩ => ⟨S_, .f32⟩
  | .hbm, ⟨30, _⟩ => ⟨S128x64, .f32⟩
  | .hbm, ⟨31, _⟩ => ⟨S128x64, .f32⟩
  | .hbm, ⟨32, _⟩ => ⟨S128x64, .f32⟩
  | .hbm, ⟨33, _⟩ => ⟨S128x64, .f32⟩
  | .hbm, ⟨34, _⟩ => ⟨S128x64, .f32⟩
  | .hbm, ⟨35, _⟩ => ⟨S128x64, .f32⟩
  | .hbm, ⟨36, _⟩ => ⟨S128x64x1, .f32⟩
  | .hbm, ⟨37, _⟩ => ⟨S128x64, .f32⟩
  | .hbm, ⟨38, _⟩ => ⟨S_, .f32⟩
  | .hbm, ⟨39, _⟩ => ⟨S128x64, .f32⟩
  | .hbm, ⟨40, _⟩ => ⟨S128x64, .f32⟩
  | .hbm, ⟨41, _⟩ => ⟨S128x64, .f32⟩
  | .hbm, ⟨42, _⟩ => ⟨S128x64, .f32⟩
  | .hbm, ⟨43, _⟩ => ⟨S128x64, .f32⟩
  | .hbm, ⟨44, _⟩ => ⟨S128x64x1, .f32⟩
  | .hbm, ⟨45, _⟩ => ⟨S128x64x16, .f32⟩
  | .hbm, ⟨46, _⟩ => ⟨S128x64x16, .f32⟩
  | .hbm, ⟨47, _⟩ => ⟨S128x64x16, .f32⟩
  | .hbm, ⟨48, _⟩ => ⟨S128x64x16, .f32⟩
  | .hbm, ⟨49, _⟩ => ⟨S128x64x16, .f32⟩
  | .hbm, ⟨50, _⟩ => ⟨S128x64x16, .f32⟩
  | .hbm, ⟨51, _⟩ => ⟨S128x64x16, .f32⟩
  | .hbm, ⟨52, _⟩ => ⟨S128x64x16, .f32⟩
  | .hbm, ⟨53, _⟩ => ⟨S128x64x16, .f32⟩
  | .hbm, ⟨54, _⟩ => ⟨S128x64x16, .f32⟩
  | .hbm, ⟨55, _⟩ => ⟨S64x128, .f32⟩
  | .hbm, ⟨56, _⟩ => ⟨S64x128, .f32⟩
  | .hbm, ⟨57, _⟩ => ⟨S64x16x128, .f32⟩
  | .hbm, ⟨58, _⟩ => ⟨S64x16x128, .f32⟩
  | _, _ => ⟨S1x128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst_0 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩

abbrev nD : Nat := 1
abbrev τ : Topo := Topo.v7x

variable {F : FTy → Type} [FloatOps F]
-- ==== Up.lean ====
abbrev S2048x2048 : Shape := ⟨2, ![2048, 2048]⟩
abbrev S2048x5632 : Shape := ⟨2, ![2048, 5632]⟩
abbrev S2x1024x4x1408 : Shape := ⟨4, ![2, 1024, 4, 1408]⟩
abbrev S4x2x1024x1408 : Shape := ⟨4, ![4, 2, 1024, 1408]⟩
abbrev S1024x1024 : Shape := ⟨2, ![1024, 1024]⟩
abbrev S1x1x1024x1408 : Shape := ⟨4, ![1, 1, 1024, 1408]⟩
abbrev S1024x1408 : Shape := ⟨2, ![1024, 1408]⟩

abbrev nBuf : Space → Nat
  | .hbm => 13
  | .vmem => 14
  | .smem => 0
  | _ => 0

abbrev bufTy : (tb : Table) → Fin (tcTables nBuf tb) → BufTy
  | .hbm, ⟨0, _⟩ => ⟨S2048x2048, .f32⟩
  | .hbm, ⟨1, _⟩ => ⟨S2048x5632, .f32⟩
  | .hbm, ⟨2, _⟩ => ⟨S2048x5632, .f32⟩
  | .hbm, ⟨3, _⟩ => ⟨S2048x2048, .bf16⟩
  | .hbm, ⟨4, _⟩ => ⟨S2x1024x4x1408, .f32⟩
  | .hbm, ⟨5, _⟩ => ⟨S4x2x1024x1408, .f32⟩
  | .hbm, ⟨6, _⟩ => ⟨S4x2x1024x1408, .bf16⟩
  | .hbm, ⟨7, _⟩ => ⟨S2x1024x4x1408, .f32⟩
  | .hbm, ⟨8, _⟩ => ⟨S4x2x1024x1408, .f32⟩
  | .hbm, ⟨9, _⟩ => ⟨S4x2x1024x1408, .bf16⟩
  | .hbm, ⟨10, _⟩ => ⟨S2048x5632, .bf16⟩
  | .hbm, ⟨11, _⟩ => ⟨S2048x5632, .bf16⟩
  | .hbm, ⟨12, _⟩ => ⟨S2048x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1x1x1024x1408, .bf16⟩
  | .local _ .vmem, ⟨3, _⟩ => ⟨S1x1x1024x1408, .bf16⟩
  | .local _ .vmem, ⟨4, _⟩ => ⟨S1x1x1024x1408, .bf16⟩
  | .local _ .vmem, ⟨5, _⟩ => ⟨S1x1x1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | .local _ .vmem, ⟨12, _⟩ => ⟨S1024x1408, .f32⟩
  | .local _ .vmem, ⟨13, _⟩ => ⟨S1024x1408, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev main_v7_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 4, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c1_i32 : BitVec 32 := 1#32
  let v1 : BitVec 32 := Scalar.divsi v0 c1_i32
  let c0_i32_0 : BitVec 32 := 0#32
  let v2 : BitVec 1 := Scalar.cmpi .sgt v0 c0_i32_0
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c1_i32 c0_i32_2
  let v8 : BitVec 32 := Scalar.extui v7
  let c0_i32_3 : BitVec 32 := 0#32
  let v9 : BitVec 1 := Scalar.cmpi .slt c1_i32 c0_i32_3
  let v10 : BitVec 32 := Scalar.extui v9
  let v11 : BitVec 32 := Scalar.subi v8 v10
  let v12 : BitVec 1 := Scalar.cmpi .ne v6 v11
  let v13 : BitVec 32 := Scalar.remsi v0 c1_i32
  let c0_i32_4 : BitVec 32 := 0#32
  let v14 : BitVec 1 := Scalar.cmpi .ne v13 c0_i32_4
  let v15 : BitVec 1 := Scalar.andi v12 v14
  let c1_i32_5 : BitVec 32 := 1#32
  let v16 : BitVec 32 := Scalar.subi v1 c1_i32_5
  let v17 : BitVec 32 := Scalar.select v15 v16 v1
  let c1_i32_6 : BitVec 32 := 1#32
  let v18 : BitVec 32 := Scalar.divsi arg2 c1_i32_6
  let c0_i32_7 : BitVec 32 := 0#32
  let v19 : BitVec 1 := Scalar.cmpi .sgt arg2 c0_i32_7
  let v20 : BitVec 32 := Scalar.extui v19
  let c0_i32_8 : BitVec 32 := 0#32
  let v21 : BitVec 1 := Scalar.cmpi .slt arg2 c0_i32_8
  let v22 : BitVec 32 := Scalar.extui v21
  let v23 : BitVec 32 := Scalar.subi v20 v22
  let c0_i32_9 : BitVec 32 := 0#32
  let v24 : BitVec 1 := Scalar.cmpi .sgt c1_i32_6 c0_i32_9
  let v25 : BitVec 32 := Scalar.extui v24
  let c0_i32_10 : BitVec 32 := 0#32
  let v26 : BitVec 1 := Scalar.cmpi .slt c1_i32_6 c0_i32_10
  let v27 : BitVec 32 := Scalar.extui v26
  let v28 : BitVec 32 := Scalar.subi v25 v27
  let v29 : BitVec 1 := Scalar.cmpi .ne v23 v28
  let v30 : BitVec 32 := Scalar.remsi arg2 c1_i32_6
  let c0_i32_11 : BitVec 32 := 0#32
  let v31 : BitVec 1 := Scalar.cmpi .ne v30 c0_i32_11
  let v32 : BitVec 1 := Scalar.andi v29 v31
  let c1_i32_12 : BitVec 32 := 1#32
  let v33 : BitVec 32 := Scalar.subi v18 c1_i32_12
  let v34 : BitVec 32 := Scalar.select v32 v33 v18
  let c1_i32_13 : BitVec 32 := 1#32
  let c0_i32_14 : BitVec 32 := 0#32
  let v35 : BitVec 1 := Scalar.cmpi .eq c1_i32_13 c0_i32_14
  let c1_i32_15 : BitVec 32 := 1#32
  let v36 : BitVec 32 := Scalar.select v35 c1_i32_15 c1_i32_13
  let v37 : BitVec 32 := Scalar.remsi arg2 v36
  let c0_i32_16 : BitVec 32 := 0#32
  let v38 : BitVec 1 := Scalar.cmpi .ne v37 c0_i32_16
  let c0_i32_17 : BitVec 32 := 0#32
  let v39 : BitVec 1 := Scalar.cmpi .slt v37 c0_i32_17
  let c0_i32_18 : BitVec 32 := 0#32
  let v40 : BitVec 1 := Scalar.cmpi .slt v36 c0_i32_18
  let v41 : BitVec 1 := Scalar.xori v39 v40
  let v42 : BitVec 1 := Scalar.andi v41 v38
  let v43 : BitVec 32 := Scalar.addi v37 v36
  let v44 : BitVec 32 := Scalar.select v42 v43 v37
  let c1_i32_19 : BitVec 32 := 1#32
  let c0_i32_20 : BitVec 32 := 0#32
  let v45 : BitVec 1 := Scalar.cmpi .eq c1_i32_19 c0_i32_20
  let c1_i32_21 : BitVec 32 := 1#32
  let v46 : BitVec 32 := Scalar.select v45 c1_i32_21 c1_i32_19
  let v47 : BitVec 32 := Scalar.remsi v0 v46
  let c0_i32_22 : BitVec 32 := 0#32
  let v48 : BitVec 1 := Scalar.cmpi .ne v47 c0_i32_22
  let c0_i32_23 : BitVec 32 := 0#32
  let v49 : BitVec 1 := Scalar.cmpi .slt v47 c0_i32_23
  let c0_i32_24 : BitVec 32 := 0#32
  let v50 : BitVec 1 := Scalar.cmpi .slt v46 c0_i32_24
  let v51 : BitVec 1 := Scalar.xori v49 v50
  let v52 : BitVec 1 := Scalar.andi v51 v48
  let v53 : BitVec 32 := Scalar.addi v47 v46
  let v54 : BitVec 32 := Scalar.select v52 v53 v47
  let c0_i32_25 : BitVec 32 := 0#32
  ![v17.toNat, v34.toNat, v44.toNat, v54.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c1_i32 : BitVec 32 := 1#32
  let v1 : BitVec 32 := Scalar.divsi v0 c1_i32
  let c0_i32_0 : BitVec 32 := 0#32
  let v2 : BitVec 1 := Scalar.cmpi .sgt v0 c0_i32_0
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c1_i32 c0_i32_2
  let v8 : BitVec 32 := Scalar.extui v7
  let c0_i32_3 : BitVec 32 := 0#32
  let v9 : BitVec 1 := Scalar.cmpi .slt c1_i32 c0_i32_3
  let v10 : BitVec 32 := Scalar.extui v9
  let v11 : BitVec 32 := Scalar.subi v8 v10
  let v12 : BitVec 1 := Scalar.cmpi .ne v6 v11
  let v13 : BitVec 32 := Scalar.remsi v0 c1_i32
  let c0_i32_4 : BitVec 32 := 0#32
  let v14 : BitVec 1 := Scalar.cmpi .ne v13 c0_i32_4
  let v15 : BitVec 1 := Scalar.andi v12 v14
  let c1_i32_5 : BitVec 32 := 1#32
  let v16 : BitVec 32 := Scalar.subi v1 c1_i32_5
  let v17 : BitVec 32 := Scalar.select v15 v16 v1
  let c1_i32_6 : BitVec 32 := 1#32
  let v18 : BitVec 32 := Scalar.divsi arg2 c1_i32_6
  let c0_i32_7 : BitVec 32 := 0#32
  let v19 : BitVec 1 := Scalar.cmpi .sgt arg2 c0_i32_7
  let v20 : BitVec 32 := Scalar.extui v19
  let c0_i32_8 : BitVec 32 := 0#32
  let v21 : BitVec 1 := Scalar.cmpi .slt arg2 c0_i32_8
  let v22 : BitVec 32 := Scalar.extui v21
  let v23 : BitVec 32 := Scalar.subi v20 v22
  let c0_i32_9 : BitVec 32 := 0#32
  let v24 : BitVec 1 := Scalar.cmpi .sgt c1_i32_6 c0_i32_9
  let v25 : BitVec 32 := Scalar.extui v24
  let c0_i32_10 : BitVec 32 := 0#32
  let v26 : BitVec 1 := Scalar.cmpi .slt c1_i32_6 c0_i32_10
  let v27 : BitVec 32 := Scalar.extui v26
  let v28 : BitVec 32 := Scalar.subi v25 v27
  let v29 : BitVec 1 := Scalar.cmpi .ne v23 v28
  let v30 : BitVec 32 := Scalar.remsi arg2 c1_i32_6
  let c0_i32_11 : BitVec 32 := 0#32
  let v31 : BitVec 1 := Scalar.cmpi .ne v30 c0_i32_11
  let v32 : BitVec 1 := Scalar.andi v29 v31
  let c1_i32_12 : BitVec 32 := 1#32
  let v33 : BitVec 32 := Scalar.subi v18 c1_i32_12
  let v34 : BitVec 32 := Scalar.select v32 v33 v18
  let c1_i32_13 : BitVec 32 := 1#32
  let c0_i32_14 : BitVec 32 := 0#32
  let v35 : BitVec 1 := Scalar.cmpi .eq c1_i32_13 c0_i32_14
  let c1_i32_15 : BitVec 32 := 1#32
  let v36 : BitVec 32 := Scalar.select v35 c1_i32_15 c1_i32_13
  let v37 : BitVec 32 := Scalar.remsi arg2 v36
  let c0_i32_16 : BitVec 32 := 0#32
  let v38 : BitVec 1 := Scalar.cmpi .ne v37 c0_i32_16
  let c0_i32_17 : BitVec 32 := 0#32
  let v39 : BitVec 1 := Scalar.cmpi .slt v37 c0_i32_17
  let c0_i32_18 : BitVec 32 := 0#32
  let v40 : BitVec 1 := Scalar.cmpi .slt v36 c0_i32_18
  let v41 : BitVec 1 := Scalar.xori v39 v40
  let v42 : BitVec 1 := Scalar.andi v41 v38
  let v43 : BitVec 32 := Scalar.addi v37 v36
  let v44 : BitVec 32 := Scalar.select v42 v43 v37
  let c1_i32_19 : BitVec 32 := 1#32
  let c0_i32_20 : BitVec 32 := 0#32
  let v45 : BitVec 1 := Scalar.cmpi .eq c1_i32_19 c0_i32_20
  let c1_i32_21 : BitVec 32 := 1#32
  let v46 : BitVec 32 := Scalar.select v45 c1_i32_21 c1_i32_19
  let v47 : BitVec 32 := Scalar.remsi v0 v46
  let c0_i32_22 : BitVec 32 := 0#32
  let v48 : BitVec 1 := Scalar.cmpi .ne v47 c0_i32_22
  let c0_i32_23 : BitVec 32 := 0#32
  let v49 : BitVec 1 := Scalar.cmpi .slt v47 c0_i32_23
  let c0_i32_24 : BitVec 32 := 0#32
  let v50 : BitVec 1 := Scalar.cmpi .slt v46 c0_i32_24
  let v51 : BitVec 1 := Scalar.xori v49 v50
  let v52 : BitVec 1 := Scalar.andi v51 v48
  let v53 : BitVec 32 := Scalar.addi v47 v46
  let v54 : BitVec 32 := Scalar.select v52 v53 v47
  let c0_i32_25 : BitVec 32 := 0#32
  ![v17.toNat, v34.toNat, v44.toNat, v54.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== UpRefIdeal.lean ====
abbrev S2048x2048 : Shape := ⟨2, ![2048, 2048]⟩
abbrev S2048x5632 : Shape := ⟨2, ![2048, 5632]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x5632, .f32⟩
  | .hbm, ⟨2, _⟩ => ⟨S2048x5632, .f32⟩
  | .hbm, ⟨3, _⟩ => ⟨S2048x5632, .f32⟩
  | .hbm, ⟨4, _⟩ => ⟨S2048x5632, .f32⟩
  | .hbm, ⟨5, _⟩ => ⟨S2048x5632, .bf16⟩
  | .hbm, ⟨6, _⟩ => ⟨S2048x5632, .bf16⟩
  | .hbm, ⟨7, _⟩ => ⟨S2048x5632, .f32⟩
  | .hbm, ⟨8, _⟩ => ⟨S2048x5632, .f32⟩
  | .hbm, ⟨9, _⟩ => ⟨S_, .f32⟩
  | .hbm, ⟨10, _⟩ => ⟨S2048x5632, .f32⟩
  | .hbm, ⟨11, _⟩ => ⟨S2048x5632, .f32⟩
  | .hbm, ⟨12, _⟩ => ⟨S_, .f32⟩
  | .hbm, ⟨13, _⟩ => ⟨S2048x5632, .f32⟩
  | .hbm, ⟨14, _⟩ => ⟨S2048x5632, .f32⟩
  | .hbm, ⟨15, _⟩ => ⟨S2048x5632, .f32⟩
  | .hbm, ⟨16, _⟩ => ⟨S2048x5632, .f32⟩
  | .hbm, ⟨17, _⟩ => ⟨S2048x5632, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Gate.lean ====
abbrev S2048x2048 : Shape := ⟨2, ![2048, 2048]⟩
abbrev S2048x256 : Shape := ⟨2, ![2048, 256]⟩
abbrev S256x2048 : Shape := ⟨2, ![256, 2048]⟩
abbrev S4x512x2x1024 : Shape := ⟨4, ![4, 512, 2, 1024]⟩
abbrev S4x2x512x1024 : Shape := ⟨4, ![4, 2, 512, 1024]⟩
abbrev S2x128x4x512 : Shape := ⟨4, ![2, 128, 4, 512]⟩
abbrev S4x2x128x512 : Shape := ⟨4, ![4, 2, 128, 512]⟩
abbrev S1024x512 : Shape := ⟨2, ![1024, 512]⟩
abbrev S1x1x512x1024 : Shape := ⟨4, ![1, 1, 512, 1024]⟩
abbrev S1024x1024 : Shape := ⟨2, ![1024, 1024]⟩
abbrev S1024x256 : Shape := ⟨2, ![1024, 256]⟩
abbrev S1x1x128x512 : Shape := ⟨4, ![1, 1, 128, 512]⟩
abbrev S512x1024 : Shape := ⟨2, ![512, 1024]⟩
abbrev S128x512 : Shape := ⟨2, ![128, 512]⟩
abbrev S1024x128 : Shape := ⟨2, ![1024, 128]⟩

abbrev nBuf : Space → Nat
  | .hbm => 15
  | .vmem => 23
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x256, .f32⟩
  | .hbm, ⟨3, _⟩ => ⟨S256x2048, .f32⟩
  | .hbm, ⟨4, _⟩ => ⟨S2048x2048, .f32⟩
  | .hbm, ⟨5, _⟩ => ⟨S4x512x2x1024, .f32⟩
  | .hbm, ⟨6, _⟩ => ⟨S4x2x512x1024, .f32⟩
  | .hbm, ⟨7, _⟩ => ⟨S4x2x512x1024, .bf16⟩
  | .hbm, ⟨8, _⟩ => ⟨S2x128x4x512, .f32⟩
  | .hbm, ⟨9, _⟩ => ⟨S4x2x128x512, .f32⟩
  | .hbm, ⟨10, _⟩ => ⟨S4x2x128x512, .bf16⟩
  | .hbm, ⟨11, _⟩ => ⟨S2048x2048, .bf16⟩
  | .hbm, ⟨12, _⟩ => ⟨S2048x2048, .f32⟩
  | .hbm, ⟨13, _⟩ => ⟨S2048x2048, .bf16⟩
  | .hbm, ⟨14, _⟩ => ⟨S2048x2048, .f32⟩
  | .local _ .vmem, ⟨0, _⟩ => ⟨S1024x512, .bf16⟩
  | .local _ .vmem, ⟨1, _⟩ => ⟨S1024x512, .bf16⟩
  | .local _ .vmem, ⟨2, _⟩ => ⟨S1x1x512x1024, .bf16⟩
  | .local _ .vmem, ⟨3, _⟩ => ⟨S1x1x512x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x256, .f32⟩
  | .local _ .vmem, ⟨7, _⟩ => ⟨S1024x256, .f32⟩
  | .local _ .vmem, ⟨8, _⟩ => ⟨S1x1x128x512, .bf16⟩
  | .local _ .vmem, ⟨9, _⟩ => ⟨S1x1x128x512, .bf16⟩
  | .local _ .vmem, ⟨10, _⟩ => ⟨S1x1x128x512, .bf16⟩
  | .local _ .vmem, ⟨11, _⟩ => ⟨S1x1x128x512, .bf16⟩
  | .local _ .vmem, ⟨12, _⟩ => ⟨S1x1x128x512, .bf16⟩
  | .local _ .vmem, ⟨13, _⟩ => ⟨S1x1x128x512, .bf16⟩
  | .local _ .vmem, ⟨14, _⟩ => ⟨S1x1x128x512, .bf16⟩
  | .local _ .vmem, ⟨15, _⟩ => ⟨S1x1x128x512, .bf16⟩
  | .local _ .vmem, ⟨16, _⟩ => ⟨S1024x1024, .f32⟩
  | .local _ .vmem, ⟨17, _⟩ => ⟨S1024x1024, .f32⟩
  | .local _ .vmem, ⟨18, _⟩ => ⟨S1024x1024, .bf16⟩
  | .local _ .vmem, ⟨19, _⟩ => ⟨S1024x1024, .bf16⟩
  | .local _ .vmem, ⟨20, _⟩ => ⟨S1024x1024, .f32⟩
  | .local _ .vmem, ⟨21, _⟩ => ⟨S1024x1024, .f32⟩
  | .local _ .vmem, ⟨22, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c1_i32 : BitVec 32 := 1#32
  let v1 : BitVec 32 := Scalar.divsi arg2 c1_i32
  let c0_i32_0 : BitVec 32 := 0#32
  let v2 : BitVec 1 := Scalar.cmpi .sgt arg2 c0_i32_0
  let v3 : BitVec 32 := Scalar.extui v2
  let c0_i32_1 : BitVec 32 := 0#32
  let v4 : BitVec 1 := Scalar.cmpi .slt arg2 c0_i32_1
  let v5 : BitVec 32 := Scalar.extui v4
  let v6 : BitVec 32 := Scalar.subi v3 v5
  let c0_i32_2 : BitVec 32 := 0#32
  let v7 : BitVec 1 := Scalar.cmpi .sgt c1_i32 c0_i32_2
  let v8 : BitVec 32 := Scalar.extui v7
  let c0_i32_3 : BitVec 32 := 0#32
  let v9 : BitVec 1 := Scalar.cmpi .slt c1_i32 c0_i32_3
  let v10 : BitVec 32 := Scalar.extui v9
  let v11 : BitVec 32 := Scalar.subi v8 v10
  let v12 : BitVec 1 := Scalar.cmpi .ne v6 v11
  let v13 : BitVec 32 := Scalar.remsi arg2 c1_i32
  let c0_i32_4 : BitVec 32 := 0#32
  let v14 : BitVec 1 := Scalar.cmpi .ne v13 c0_i32_4
  let v15 : BitVec 1 := Scalar.andi v12 v14
  let c1_i32_5 : BitVec 32 := 1#32
  let v16 : BitVec 32 := Scalar.subi v1 c1_i32_5
  let v17 : BitVec 32 := Scalar.select v15 v16 v1
  let c1_i32_6 : BitVec 32 := 1#32
  let v18 : BitVec 32 := Scalar.divsi v0 c1_i32_6
  let c0_i32_7 : BitVec 32 := 0#32
  let v19 : BitVec 1 := Scalar.cmpi .sgt v0 c0_i32_7
  let v20 : BitVec 32 := Scalar.extui v19
  let c0_i32_8 : BitVec 32 := 0#32
  let v21 : BitVec 1 := Scalar.cmpi .slt v0 c0_i32_8
  let v22 : BitVec 32 := Scalar.extui v21
  let v23 : BitVec 32 := Scalar.subi v20 v22
  let c0_i32_9 : BitVec 32 := 0#32
  let v24 : BitVec 1 := Scalar.cmpi .sgt c1_i32_6 c0_i32_9
  let v25 : BitVec 32 := Scalar.extui v24
  let c0_i32_10 : BitVec 32 := 0#32
  let v26 : BitVec 1 := Scalar.cmpi .slt c1_i32_6 c0_i32_10
  let v27 : BitVec 32 := Scalar.extui v26
  let v28 : BitVec 32 := Scalar.subi v25 v27
  let v29 : BitVec 1 := Scalar.cmpi .ne v23 v28
  let v30 : BitVec 32 := Scalar.remsi v0 c1_i32_6
  let c0_i32_11 : BitVec 32 := 0#32
  let v31 : BitVec 1 := Scalar.cmpi .ne v30 c0_i32_11
  let v32 : BitVec 1 := Scalar.andi v29 v31
  let c1_i32_12 : BitVec 32 := 1#32
  let v33 : BitVec 32 := Scalar.subi v18 c1_i32_12
  let v34 : BitVec 32 := Scalar.select v32 v33 v18
  let c1_i32_13 : BitVec 32 := 1#32
  let c0_i32_14 : BitVec 32 := 0#32
  let v35 : BitVec 1 := Scalar.cmpi .eq c1_i32_13 c0_i32_14
  let c1_i32_15 : BitVec 32 := 1#32
  let v36 : BitVec 32 := Scalar.select v35 c1_i32_15 c1_i32_13
  let v37 : BitVec 32 := Scalar.remsi arg2 v36
  let c0_i32_16 : BitVec 32 := 0#32
  let v38 : BitVec 1 := Scalar.cmpi .ne v37 c0_i32_16
  let c0_i32_17 : BitVec 32 := 0#32
  let v39 : BitVec 1 := Scalar.cmpi .slt v37 c0_i32_17
  let c0_i32_18 : BitVec 32 := 0#32
  let v40 : BitVec 1 := Scalar.cmpi .slt v36 c0_i32_18
  let v41 : BitVec 1 := Scalar.xori v39 v40
  let v42 : BitVec 1 := Scalar.andi v41 v38
  let v43 : BitVec 32 := Scalar.addi v37 v36
  let v44 : BitVec 32 := Scalar.select v42 v43 v37
  let c1_i32_19 : BitVec 32 := 1#32
  let c0_i32_20 : BitVec 32 := 0#32
  let v45 : BitVec 1 := Scalar.cmpi .eq c1_i32_19 c0_i32_20
  let c1_i32_21 : BitVec 32 := 1#32
  let v46 : BitVec 32 := Scalar.select v45 c1_i32_21 c1_i32_19
  let v47 : BitVec 32 := Scalar.remsi v0 v46
  let c0_i32_22 : BitVec 32 := 0#32
  let v48 : BitVec 1 := Scalar.cmpi .ne v47 c0_i32_22
  let c0_i32_23 : BitVec 32 := 0#32
  let v49 : BitVec 1 := Scalar.cmpi .slt v47 c0_i32_23
  let c0_i32_24 : BitVec 32 := 0#32
  let v50 : BitVec 1 := Scalar.cmpi .slt v46 c0_i32_24
  let v51 : BitVec 1 := Scalar.xori v49 v50
  let v52 : BitVec 1 := Scalar.andi v51 v48
  let v53 : BitVec 32 := Scalar.addi v47 v46
  let v54 : BitVec 32 := Scalar.select v52 v53 v47
  let c0_i32_25 : BitVec 32 := 0#32
  ![v17.toNat, v34.toNat, v44.toNat, v54.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg1
  let c0_i32 : BitVec 32 := 0#32
  let v1 : BitVec 32 := Scalar.addi v0 c0_i32
  let c0_i32_0 : BitVec 32 := 0#32
  let c0_i32_1 : BitVec 32 := 0#32
  let c0_i32_2 : BitVec 32 := 0#32
  let c0_i32_3 : BitVec 32 := 0#32
  ![v1.toNat, c0_i32_0.toNat, c0_i32_1.toNat, c0_i32_2.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg1
  let c0_i32 : BitVec 32 := 0#32
  let v1 : BitVec 32 := Scalar.addi v0 c0_i32
  let c1_i32 : BitVec 32 := 1#32
  let c0_i32_0 : BitVec 32 := 0#32
  let c0_i32_1 : BitVec 32 := 0#32
  let c0_i32_2 : BitVec 32 := 0#32
  ![v1.toNat, c1_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg1
  let c1_i32 : BitVec 32 := 1#32
  let v1 : BitVec 32 := Scalar.addi v0 c1_i32
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg1
  let c1_i32 : BitVec 32 := 1#32
  let v1 : BitVec 32 := Scalar.addi v0 c1_i32
  let c1_i32_0 : BitVec 32 := 1#32
  let c0_i32 : BitVec 32 := 0#32
  let c0_i32_1 : BitVec 32 := 0#32
  let c0_i32_2 : BitVec 32 := 0#32
  ![v1.toNat, c1_i32_0.toNat, c0_i32.toNat, c0_i32_1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x1x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x1x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x1x128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1x1x128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]
-- ==== GateRefIdeal.lean ====
abbrev S2048x2048 : Shape := ⟨2, ![2048, 2048]⟩
abbrev S2048x256 : Shape := ⟨2, ![2048, 256]⟩
abbrev S256x2048 : Shape := ⟨2, ![256, 2048]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x256, .f32⟩
  | .hbm, ⟨3, _⟩ => ⟨S256x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S_, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩

abbrev nD : Nat := 1
abbrev τ : Topo := Topo.v7x

variable {F : FTy → Type} [FloatOps F]
-- ==== Out.lean ====
abbrev S2048x2048 : Shape := ⟨2, ![2048, 2048]⟩
abbrev S2048x4096 : Shape := ⟨2, ![2048, 4096]⟩
abbrev S2x1024x4x1024 : Shape := ⟨4, ![2, 1024, 4, 1024]⟩
abbrev S4x2x1024x1024 : Shape := ⟨4, ![4, 2, 1024, 1024]⟩
abbrev S1024x1024 : Shape := ⟨2, ![1024, 1024]⟩
abbrev S1x1x1024x1024 : Shape := ⟨4, ![1, 1, 1024, 1024]⟩

abbrev nBuf : Space → Nat
  | .hbm => 10
  | .vmem => 16
  | .smem => 0
  | _ => 0

abbrev bufTy : (tb : Table) → Fin (tcTables nBuf tb) → BufTy
  | .hbm, ⟨0, _⟩ => ⟨S2048x2048, .f32⟩
  | .hbm, ⟨1, _⟩ => ⟨S2048x4096, .f32⟩
  | .hbm, ⟨2, _⟩ => ⟨S2048x2048, .f32⟩
  | .hbm, ⟨3, _⟩ => ⟨S2x1024x4x1024, .f32⟩
  | .hbm, ⟨4, _⟩ => ⟨S4x2x1024x1024, .f32⟩
  | .hbm, ⟨5, _⟩ => ⟨S4x2x1024x1024, .bf16⟩
  | .hbm, ⟨6, _⟩ => ⟨S2048x2048, .bf16⟩
  | .hbm, ⟨7, _⟩ => ⟨S2048x2048, .f32⟩
  | .hbm, ⟨8, _⟩ => ⟨S2048x2048, .bf16⟩
  | .hbm, ⟨9, _⟩ => ⟨S2048x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1x1x1024x1024, .bf16⟩
  | .local _ .vmem, ⟨3, _⟩ => ⟨S1x1x1024x1024, .bf16⟩
  | .local _ .vmem, ⟨4, _⟩ => ⟨S1x1x1024x1024, .bf16⟩
  | .local _ .vmem, ⟨5, _⟩ => ⟨S1x1x1024x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .f32⟩
  | .local _ .vmem, ⟨15, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c1_i32 : BitVec 32 := 1#32
  let v1 : BitVec 32 := Scalar.divsi v0 c1_i32
  let c0_i32_0 : BitVec 32 := 0#32
  let v2 : BitVec 1 := Scalar.cmpi .sgt v0 c0_i32_0
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c1_i32 c0_i32_2
  let v8 : BitVec 32 := Scalar.extui v7
  let c0_i32_3 : BitVec 32 := 0#32
  let v9 : BitVec 1 := Scalar.cmpi .slt c1_i32 c0_i32_3
  let v10 : BitVec 32 := Scalar.extui v9
  let v11 : BitVec 32 := Scalar.subi v8 v10
  let v12 : BitVec 1 := Scalar.cmpi .ne v6 v11
  let v13 : BitVec 32 := Scalar.remsi v0 c1_i32
  let c0_i32_4 : BitVec 32 := 0#32
  let v14 : BitVec 1 := Scalar.cmpi .ne v13 c0_i32_4
  let v15 : BitVec 1 := Scalar.andi v12 v14
  let c1_i32_5 : BitVec 32 := 1#32
  let v16 : BitVec 32 := Scalar.subi v1 c1_i32_5
  let v17 : BitVec 32 := Scalar.select v15 v16 v1
  let c1_i32_6 : BitVec 32 := 1#32
  let v18 : BitVec 32 := Scalar.divsi arg2 c1_i32_6
  let c0_i32_7 : BitVec 32 := 0#32
  let v19 : BitVec 1 := Scalar.cmpi .sgt arg2 c0_i32_7
  let v20 : BitVec 32 := Scalar.extui v19
  let c0_i32_8 : BitVec 32 := 0#32
  let v21 : BitVec 1 := Scalar.cmpi .slt arg2 c0_i32_8
  let v22 : BitVec 32 := Scalar.extui v21
  let v23 : BitVec 32 := Scalar.subi v20 v22
  let c0_i32_9 : BitVec 32 := 0#32
  let v24 : BitVec 1 := Scalar.cmpi .sgt c1_i32_6 c0_i32_9
  let v25 : BitVec 32 := Scalar.extui v24
  let c0_i32_10 : BitVec 32 := 0#32
  let v26 : BitVec 1 := Scalar.cmpi .slt c1_i32_6 c0_i32_10
  let v27 : BitVec 32 := Scalar.extui v26
  let v28 : BitVec 32 := Scalar.subi v25 v27
  let v29 : BitVec 1 := Scalar.cmpi .ne v23 v28
  let v30 : BitVec 32 := Scalar.remsi arg2 c1_i32_6
  let c0_i32_11 : BitVec 32 := 0#32
  let v31 : BitVec 1 := Scalar.cmpi .ne v30 c0_i32_11
  let v32 : BitVec 1 := Scalar.andi v29 v31
  let c1_i32_12 : BitVec 32 := 1#32
  let v33 : BitVec 32 := Scalar.subi v18 c1_i32_12
  let v34 : BitVec 32 := Scalar.select v32 v33 v18
  let c1_i32_13 : BitVec 32 := 1#32
  let c0_i32_14 : BitVec 32 := 0#32
  let v35 : BitVec 1 := Scalar.cmpi .eq c1_i32_13 c0_i32_14
  let c1_i32_15 : BitVec 32 := 1#32
  let v36 : BitVec 32 := Scalar.select v35 c1_i32_15 c1_i32_13
  let v37 : BitVec 32 := Scalar.remsi arg2 v36
  let c0_i32_16 : BitVec 32 := 0#32
  let v38 : BitVec 1 := Scalar.cmpi .ne v37 c0_i32_16
  let c0_i32_17 : BitVec 32 := 0#32
  let v39 : BitVec 1 := Scalar.cmpi .slt v37 c0_i32_17
  let c0_i32_18 : BitVec 32 := 0#32
  let v40 : BitVec 1 := Scalar.cmpi .slt v36 c0_i32_18
  let v41 : BitVec 1 := Scalar.xori v39 v40
  let v42 : BitVec 1 := Scalar.andi v41 v38
  let v43 : BitVec 32 := Scalar.addi v37 v36
  let v44 : BitVec 32 := Scalar.select v42 v43 v37
  let c1_i32_19 : BitVec 32 := 1#32
  let c0_i32_20 : BitVec 32 := 0#32
  let v45 : BitVec 1 := Scalar.cmpi .eq c1_i32_19 c0_i32_20
  let c1_i32_21 : BitVec 32 := 1#32
  let v46 : BitVec 32 := Scalar.select v45 c1_i32_21 c1_i32_19
  let v47 : BitVec 32 := Scalar.remsi v0 v46
  let c0_i32_22 : BitVec 32 := 0#32
  let v48 : BitVec 1 := Scalar.cmpi .ne v47 c0_i32_22
  let c0_i32_23 : BitVec 32 := 0#32
  let v49 : BitVec 1 := Scalar.cmpi .slt v47 c0_i32_23
  let c0_i32_24 : BitVec 32 := 0#32
  let v50 : BitVec 1 := Scalar.cmpi .slt v46 c0_i32_24
  let v51 : BitVec 1 := Scalar.xori v49 v50
  let v52 : BitVec 1 := Scalar.andi v51 v48
  let v53 : BitVec 32 := Scalar.addi v47 v46
  let v54 : BitVec 32 := Scalar.select v52 v53 v47
  let c0_i32_25 : BitVec 32 := 0#32
  ![v17.toNat, v34.toNat, v44.toNat, v54.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg1 c2_i32
  let c1_i32 : BitVec 32 := 1#32
  let v1 : BitVec 32 := Scalar.divsi v0 c1_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1_i32 c0_i32_1
  let v8 : BitVec 32 := Scalar.extui v7
  let c0_i32_2 : BitVec 32 := 0#32
  let v9 : BitVec 1 := Scalar.cmpi .slt c1_i32 c0_i32_2
  let v10 : BitVec 32 := Scalar.extui v9
  let v11 : BitVec 32 := Scalar.subi v8 v10
  let v12 : BitVec 1 := Scalar.cmpi .ne v6 v11
  let v13 : BitVec 32 := Scalar.remsi v0 c1_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let c1_i32_5 : BitVec 32 := 1#32
  let v18 : BitVec 32 := Scalar.divsi arg2 c1_i32_5
  let c0_i32_6 : BitVec 32 := 0#32
  let v19 : BitVec 1 := Scalar.cmpi .sgt arg2 c0_i32_6
  let v20 : BitVec 32 := Scalar.extui v19
  let c0_i32_7 : BitVec 32 := 0#32
  let v21 : BitVec 1 := Scalar.cmpi .slt arg2 c0_i32_7
  let v22 : BitVec 32 := Scalar.extui v21
  let v23 : BitVec 32 := Scalar.subi v20 v22
  let c0_i32_8 : BitVec 32 := 0#32
  let v24 : BitVec 1 := Scalar.cmpi .sgt c1_i32_5 c0_i32_8
  let v25 : BitVec 32 := Scalar.extui v24
  let c0_i32_9 : BitVec 32 := 0#32
  let v26 : BitVec 1 := Scalar.cmpi .slt c1_i32_5 c0_i32_9
  let v27 : BitVec 32 := Scalar.extui v26
  let v28 : BitVec 32 := Scalar.subi v25 v27
  let v29 : BitVec 1 := Scalar.cmpi .ne v23 v28
  let v30 : BitVec 32 := Scalar.remsi arg2 c1_i32_5
  let c0_i32_10 : BitVec 32 := 0#32
  let v31 : BitVec 1 := Scalar.cmpi .ne v30 c0_i32_10
  let v32 : BitVec 1 := Scalar.andi v29 v31
  let c1_i32_11 : BitVec 32 := 1#32
  let v33 : BitVec 32 := Scalar.subi v18 c1_i32_11
  let v34 : BitVec 32 := Scalar.select v32 v33 v18
  let c1_i32_12 : BitVec 32 := 1#32
  let c0_i32_13 : BitVec 32 := 0#32
  let v35 : BitVec 1 := Scalar.cmpi .eq c1_i32_12 c0_i32_13
  let c1_i32_14 : BitVec 32 := 1#32
  let v36 : BitVec 32 := Scalar.select v35 c1_i32_14 c1_i32_12
  let v37 : BitVec 32 := Scalar.remsi arg2 v36
  let c0_i32_15 : BitVec 32 := 0#32
  let v38 : BitVec 1 := Scalar.cmpi .ne v37 c0_i32_15
  let c0_i32_16 : BitVec 32 := 0#32
  let v39 : BitVec 1 := Scalar.cmpi .slt v37 c0_i32_16
  let c0_i32_17 : BitVec 32 := 0#32
  let v40 : BitVec 1 := Scalar.cmpi .slt v36 c0_i32_17
  let v41 : BitVec 1 := Scalar.xori v39 v40
  let v42 : BitVec 1 := Scalar.andi v41 v38
  let v43 : BitVec 32 := Scalar.addi v37 v36
  let v44 : BitVec 32 := Scalar.select v42 v43 v37
  let c1_i32_18 : BitVec 32 := 1#32
  let c0_i32_19 : BitVec 32 := 0#32
  let v45 : BitVec 1 := Scalar.cmpi .eq c1_i32_18 c0_i32_19
  let c1_i32_20 : BitVec 32 := 1#32
  let v46 : BitVec 32 := Scalar.select v45 c1_i32_20 c1_i32_18
  let v47 : BitVec 32 := Scalar.remsi v0 v46
  let c0_i32_21 : BitVec 32 := 0#32
  let v48 : BitVec 1 := Scalar.cmpi .ne v47 c0_i32_21
  let c0_i32_22 : BitVec 32 := 0#32
  let v49 : BitVec 1 := Scalar.cmpi .slt v47 c0_i32_22
  let c0_i32_23 : BitVec 32 := 0#32
  let v50 : BitVec 1 := Scalar.cmpi .slt v46 c0_i32_23
  let v51 : BitVec 1 := Scalar.xori v49 v50
  let v52 : BitVec 1 := Scalar.andi v51 v48
  let v53 : BitVec 32 := Scalar.addi v47 v46
  let v54 : BitVec 32 := Scalar.select v52 v53 v47
  let c0_i32_24 : BitVec 32 := 0#32
  ![v17.toNat, v34.toNat, v44.toNat, v54.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== OutRefIdeal.lean ====
abbrev S2048x2048 : Shape := ⟨2, ![2048, 2048]⟩
abbrev S2048x4096 : Shape := ⟨2, ![2048, 4096]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x4096, .f32⟩
  | .hbm, ⟨2, _⟩ => ⟨S2048x2048, .f32⟩
  | .hbm, ⟨3, _⟩ => ⟨S2048x4096, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S_, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .bf16⟩
  | .hbm, ⟨17, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== S5F.lean ====
abbrev S2048x2048 : Shape := ⟨2, ![2048, 2048]⟩
abbrev S128x64 : Shape := ⟨2, ![128, 64]⟩
abbrev S128x64x16 : Shape := ⟨3, ![128, 64, 16]⟩
abbrev S128x16x64 : Shape := ⟨3, ![128, 16, 64]⟩
abbrev S1x2048 : Shape := ⟨2, ![1, 2048]⟩
abbrev S16x8x64x16 : Shape := ⟨4, ![16, 8, 64, 16]⟩
abbrev S16x8x16x64 : Shape := ⟨4, ![16, 8, 16, 64]⟩
abbrev S16x1x512 : Shape := ⟨3, ![16, 1, 512]⟩
abbrev S2048x8192 : Shape := ⟨2, ![2048, 8192]⟩
abbrev S2048x128 : Shape := ⟨2, ![2048, 128]⟩
abbrev S1x8x16x64 : Shape := ⟨4, ![1, 8, 16, 64]⟩
abbrev S1x8x64x16 : Shape := ⟨4, ![1, 8, 64, 16]⟩
abbrev S1x1x512 : Shape := ⟨3, ![1, 1, 512]⟩
abbrev S1x128 : Shape := ⟨2, ![1, 128]⟩
abbrev S2048x512 : Shape := ⟨2, ![2048, 512]⟩
abbrev S128x512 : Shape := ⟨2, ![128, 512]⟩
abbrev S512x128 : Shape := ⟨2, ![512, 128]⟩
abbrev S1x512 : Shape := ⟨2, ![1, 512]⟩
abbrev S8x512 : Shape := ⟨2, ![8, 512]⟩
abbrev S1x1x16x64 : Shape := ⟨4, ![1, 1, 16, 64]⟩
abbrev S16x64 : Shape := ⟨2, ![16, 64]⟩
abbrev S1x1x64x16 : Shape := ⟨4, ![1, 1, 64, 16]⟩
abbrev S64x16 : Shape := ⟨2, ![64, 16]⟩
abbrev S8x128 : Shape := ⟨2, ![8, 128]⟩

abbrev nBuf : Space → Nat
  | .hbm => 21
  | .vmem => 28
  | .smem => 0
  | _ => 0

abbrev bufTy : (tb : Table) → Fin (tcTables nBuf tb) → BufTy
  | .hbm, ⟨0, _⟩ => ⟨S2048x2048, .f32⟩
  | .hbm, ⟨1, _⟩ => ⟨S128x64, .f32⟩
  | .hbm, ⟨2, _⟩ => ⟨S128x64, .f32⟩
  | .hbm, ⟨3, _⟩ => ⟨S128x64x16, .f32⟩
  | .hbm, ⟨4, _⟩ => ⟨S128x64x16, .f32⟩
  | .hbm, ⟨5, _⟩ => ⟨S128x16x64, .f32⟩
  | .hbm, ⟨6, _⟩ => ⟨S128x16x64, .f32⟩
  | .hbm, ⟨7, _⟩ => ⟨S1x2048, .f32⟩
  | .hbm, ⟨8, _⟩ => ⟨S16x8x64x16, .f32⟩
  | .hbm, ⟨9, _⟩ => ⟨S16x8x16x64, .f32⟩
  | .hbm, ⟨10, _⟩ => ⟨S16x8x64x16, .f32⟩
  | .hbm, ⟨11, _⟩ => ⟨S16x8x16x64, .f32⟩
  | .hbm, ⟨12, _⟩ => ⟨S16x8x16x64, .f32⟩
  | .hbm, ⟨13, _⟩ => ⟨S16x8x64x16, .f32⟩
  | .hbm, ⟨14, _⟩ => ⟨S16x8x16x64, .f32⟩
  | .hbm, ⟨15, _⟩ => ⟨S16x8x64x16, .f32⟩
  | .hbm, ⟨16, _⟩ => ⟨S16x1x512, .f32⟩
  | .hbm, ⟨17, _⟩ => ⟨S16x1x512, .f32⟩
  | .hbm, ⟨18, _⟩ => ⟨S2048x2048, .bf16⟩
  | .hbm, ⟨19, _⟩ => ⟨S2048x8192, .f32⟩
  | .hbm, ⟨20, _⟩ => ⟨S2048x8192, .f32⟩
  | .local _ .vmem, ⟨0, _⟩ => ⟨S2048x128, .f32⟩
  | .local _ .vmem, ⟨1, _⟩ => ⟨S2048x128, .f32⟩
  | .local _ .vmem, ⟨2, _⟩ => ⟨S1x8x16x64, .f32⟩
  | .local _ .vmem, ⟨3, _⟩ => ⟨S1x8x16x64, .f32⟩
  | .local _ .vmem, ⟨4, _⟩ => ⟨S1x8x16x64, .f32⟩
  | .local _ .vmem, ⟨5, _⟩ => ⟨S1x8x16x64, .f32⟩
  | .local _ .vmem, ⟨6, _⟩ => ⟨S1x8x64x16, .f32⟩
  | .local _ .vmem, ⟨7, _⟩ => ⟨S1x8x64x16, .f32⟩
  | .local _ .vmem, ⟨8, _⟩ => ⟨S1x8x64x16, .f32⟩
  | .local _ .vmem, ⟨9, _⟩ => ⟨S1x8x64x16, .f32⟩
  | .local _ .vmem, ⟨10, _⟩ => ⟨S1x1x512, .f32⟩
  | .local _ .vmem, ⟨11, _⟩ => ⟨S1x1x512, .f32⟩
  | .local _ .vmem, ⟨12, _⟩ => ⟨S1x1x512, .f32⟩
  | .local _ .vmem, ⟨13, _⟩ => ⟨S1x1x512, .f32⟩
  | .local _ .vmem, ⟨14, _⟩ => ⟨S1x128, .f32⟩
  | .local _ .vmem, ⟨15, _⟩ => ⟨S1x128, .f32⟩
  | .local _ .vmem, ⟨16, _⟩ => ⟨S2048x128, .bf16⟩
  | .local _ .vmem, ⟨17, _⟩ => ⟨S2048x128, .bf16⟩
  | .local _ .vmem, ⟨18, _⟩ => ⟨S2048x512, .f32⟩
  | .local _ .vmem, ⟨19, _⟩ => ⟨S2048x512, .f32⟩
  | .local _ .vmem, ⟨20, _⟩ => ⟨S2048x512, .f32⟩
  | .local _ .vmem, ⟨21, _⟩ => ⟨S2048x512, .f32⟩
  | .local _ .vmem, ⟨22, _⟩ => ⟨S2048x128, .f32⟩
  | .local _ .vmem, ⟨23, _⟩ => ⟨S2048x128, .f32⟩
  | .local _ .vmem, ⟨24, _⟩ => ⟨S128x512, .f32⟩
  | .local _ .vmem, ⟨25, _⟩ => ⟨S128x512, .f32⟩
  | .local _ .vmem, ⟨26, _⟩ => ⟨S512x128, .f32⟩
  | .local _ .vmem, ⟨27, _⟩ => ⟨S512x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c32_i32 : BitVec 32 := 32#32
  let v188 : BitVec 32 := Scalar.addi c0_i32 c32_i32
  let c1_i32 : BitVec 32 := 1#32
  ⟨c0_i32, v188, c1_i32⟩
def k0_off1 (k0_t1 : Fin k0_t1_loop.trips) (c0_i32_284 : BitVec 32) : Fin 2 → Nat :=
  let c0_i32 : BitVec 32 := 0#32
  let c1_i32 : BitVec 32 := 1#32
  let arg18 : BitVec 32 := Scf.iv c0_i32 c1_i32 k0_t1
  let c8_i32 : BitVec 32 := 8#32
  let v438 : BitVec 32 := Scalar.muli arg18 c8_i32
  let v439 : BitVec 32 := Scalar.addi v438 c0_i32_284
  let v440 : Index := Scalar.indexCast v439
  let c0_285 : Index := 0#32
  ![v440.toNat, 0]
def k0_mult1 (k0_t1 : Fin k0_t1_loop.trips) : BitVec 32 :=
  let c0_i32 : BitVec 32 := 0#32
  let c1_i32 : BitVec 32 := 1#32
  let arg18 : BitVec 32 := Scf.iv c0_i32 c1_i32 k0_t1
  let c8_i32 : BitVec 32 := 8#32
  let v438 : BitVec 32 := Scalar.muli arg18 c8_i32
  let c0_i32_284 : BitVec 32 := 0#32
  let v439 : BitVec 32 := Scalar.addi v438 c0_i32_284
  let c8_i32_286 : BitVec 32 := 8#32
  let v442 : BitVec 32 := Scalar.muli v439 c8_i32_286
  v442
def k0_off2 (k0_t1 : Fin k0_t1_loop.trips) (c0_i32_284 : BitVec 32) : Fin 2 → Nat :=
  let c0_i32 : BitVec 32 := 0#32
  let c1_i32 : BitVec 32 := 1#32
  let arg18 : BitVec 32 := Scf.iv c0_i32 c1_i32 k0_t1
  let c8_i32 : BitVec 32 := 8#32
  let v438 : BitVec 32 := Scalar.muli arg18 c8_i32
  let v439 : BitVec 32 := Scalar.addi v438 c0_i32_284
  let c8_i32_286 : BitVec 32 := 8#32
  let v442 : BitVec 32 := Scalar.muli v439 c8_i32_286
  let v443 : BitVec 32 := v442
  let v444 : Index := Scalar.indexCast v443
  let c0_287 : Index := 0#32
  ![v444.toNat, 0]
def k0_mult2 (k0_t1 : Fin k0_t1_loop.trips) : BitVec 32 :=
  let c0_i32 : BitVec 32 := 0#32
  let c1_i32 : BitVec 32 := 1#32
  let arg18 : BitVec 32 := Scf.iv c0_i32 c1_i32 k0_t1
  let c8_i32_288 : BitVec 32 := 8#32
  let v448 : BitVec 32 := Scalar.muli arg18 c8_i32_288
  let c1_i32_289 : BitVec 32 := 1#32
  let v449 : BitVec 32 := Scalar.addi v448 c1_i32_289
  let c8_i32_291 : BitVec 32 := 8#32
  let v452 : BitVec 32 := Scalar.muli v449 c8_i32_291
  v452
def k0_mult3 (k0_t1 : Fin k0_t1_loop.trips) : BitVec 32 :=
  let c0_i32 : BitVec 32 := 0#32
  let c1_i32 : BitVec 32 := 1#32
  let arg18 : BitVec 32 := Scf.iv c0_i32 c1_i32 k0_t1
  let c8_i32_293 : BitVec 32 := 8#32
  let v458 : BitVec 32 := Scalar.muli arg18 c8_i32_293
  let c2_i32 : BitVec 32 := 2#32
  let v459 : BitVec 32 := Scalar.addi v458 c2_i32
  let c8_i32_295 : BitVec 32 := 8#32
  let v462 : BitVec 32 := Scalar.muli v459 c8_i32_295
  v462
def k0_mult4 (k0_t1 : Fin k0_t1_loop.trips) : BitVec 32 :=
  let c0_i32 : BitVec 32 := 0#32
  let c1_i32 : BitVec 32 := 1#32
  let arg18 : BitVec 32 := Scf.iv c0_i32 c1_i32 k0_t1
  let c8_i32_297 : BitVec 32 := 8#32
  let v468 : BitVec 32 := Scalar.muli arg18 c8_i32_297
  let c3_i32 : BitVec 32 := 3#32
  let v469 : BitVec 32 := Scalar.addi v468 c3_i32
  let c8_i32_299 : BitVec 32 := 8#32
  let v472 : BitVec 32 := Scalar.muli v469 c8_i32_299
  v472
def k0_mult5 (k0_t1 : Fin k0_t1_loop.trips) : BitVec 32 :=
  let c0_i32 : BitVec 32 := 0#32
  let c1_i32 : BitVec 32 := 1#32
  let arg18 : BitVec 32 := Scf.iv c0_i32 c1_i32 k0_t1
  let c8_i32_301 : BitVec 32 := 8#32
  let v478 : BitVec 32 := Scalar.muli arg18 c8_i32_301
  let c4_i32 : BitVec 32 := 4#32
  let v479 : BitVec 32 := Scalar.addi v478 c4_i32
  let c8_i32_303 : BitVec 32 := 8#32
  let v482 : BitVec 32 := Scalar.muli v479 c8_i32_303
  v482
def k0_mult6 (k0_t1 : Fin k0_t1_loop.trips) : BitVec 32 :=
  let c0_i32 : BitVec 32 := 0#32
  let c1_i32 : BitVec 32 := 1#32
  let arg18 : BitVec 32 := Scf.iv c0_i32 c1_i32 k0_t1
  let c8_i32_305 : BitVec 32 := 8#32
  let v488 : BitVec 32 := Scalar.muli arg18 c8_i32_305
  let c5_i32 : BitVec 32 := 5#32
  let v489 : BitVec 32 := Scalar.addi v488 c5_i32
  let c8_i32_307 : BitVec 32 := 8#32
  let v492 : BitVec 32 := Scalar.muli v489 c8_i32_307
  v492
def k0_mult7 (k0_t1 : Fin k0_t1_loop.trips) : BitVec 32 :=
  let c0_i32 : BitVec 32 := 0#32
  let c1_i32 : BitVec 32 := 1#32
  let arg18 : BitVec 32 := Scf.iv c0_i32 c1_i32 k0_t1
  let c8_i32_309 : BitVec 32 := 8#32
  let v498 : BitVec 32 := Scalar.muli arg18 c8_i32_309
  let c6_i32 : BitVec 32 := 6#32
  let v499 : BitVec 32 := Scalar.addi v498 c6_i32
  let c8_i32_311 : BitVec 32 := 8#32
  let v502 : BitVec 32 := Scalar.muli v499 c8_i32_311
  v502
def k0_mult8 (k0_t1 : Fin k0_t1_loop.trips) : BitVec 32 :=
  let c0_i32 : BitVec 32 := 0#32
  let c1_i32 : BitVec 32 := 1#32
  let arg18 : BitVec 32 := Scf.iv c0_i32 c1_i32 k0_t1
  let c8_i32_313 : BitVec 32 := 8#32
  let v508 : BitVec 32 := Scalar.muli arg18 c8_i32_313
  let c7_i32 : BitVec 32 := 7#32
  let v509 : BitVec 32 := Scalar.addi v508 c7_i32
  let c8_i32_315 : BitVec 32 := 8#32
  let v512 : BitVec 32 := Scalar.muli v509 c8_i32_315
  v512
@[reducible] def k0_t2_loop : Scf.Loop 32 :=
  let c0_i32_208 : BitVec 32 := 0#32
  let c32_i32_209 : BitVec 32 := 32#32
  let v200 : BitVec 32 := Scalar.addi c0_i32_208 c32_i32_209
  let c1_i32_210 : BitVec 32 := 1#32
  ⟨c0_i32_208, v200, c1_i32_210⟩
def k0_mult9 (k0_t2 : Fin k0_t2_loop.trips) : BitVec 32 :=
  let c0_i32_208 : BitVec 32 := 0#32
  let c1_i32_210 : BitVec 32 := 1#32
  let arg18 : BitVec 32 := Scf.iv c0_i32_208 c1_i32_210 k0_t2
  let c8_i32 : BitVec 32 := 8#32
  let v438 : BitVec 32 := Scalar.muli arg18 c8_i32
  let c0_i32_284 : BitVec 32 := 0#32
  let v439 : BitVec 32 := Scalar.addi v438 c0_i32_284
  let c8_i32_285 : BitVec 32 := 8#32
  let v440 : BitVec 32 := Scalar.muli v439 c8_i32_285
  v440
def k0_off3 (k0_t2 : Fin k0_t2_loop.trips) (c0_i32_284 : BitVec 32) : Fin 2 → Nat :=
  let c0_i32_208 : BitVec 32 := 0#32
  let c1_i32_210 : BitVec 32 := 1#32
  let arg18 : BitVec 32 := Scf.iv c0_i32_208 c1_i32_210 k0_t2
  let c8_i32 : BitVec 32 := 8#32
  let v438 : BitVec 32 := Scalar.muli arg18 c8_i32
  let v439 : BitVec 32 := Scalar.addi v438 c0_i32_284
  let c8_i32_285 : BitVec 32 := 8#32
  let v440 : BitVec 32 := Scalar.muli v439 c8_i32_285
  let v441 : BitVec 32 := v440
  let v448 : Index := Scalar.indexCast v441
  let c0_286 : Index := 0#32
  ![v448.toNat, 0]
def k0_mult10 (k0_t2 : Fin k0_t2_loop.trips) : BitVec 32 :=
  let c0_i32_208 : BitVec 32 := 0#32
  let c1_i32_210 : BitVec 32 := 1#32
  let arg18 : BitVec 32 := Scf.iv c0_i32_208 c1_i32_210 k0_t2
  let c8_i32_288 : BitVec 32 := 8#32
  let v456 : BitVec 32 := Scalar.muli arg18 c8_i32_288
  let c1_i32_289 : BitVec 32 := 1#32
  let v457 : BitVec 32 := Scalar.addi v456 c1_i32_289
  let c8_i32_290 : BitVec 32 := 8#32
  let v458 : BitVec 32 := Scalar.muli v457 c8_i32_290
  v458
def k0_mult11 (k0_t2 : Fin k0_t2_loop.trips) : BitVec 32 :=
  let c0_i32_208 : BitVec 32 := 0#32
  let c1_i32_210 : BitVec 32 := 1#32
  let arg18 : BitVec 32 := Scf.iv c0_i32_208 c1_i32_210 k0_t2
  let c8_i32_293 : BitVec 32 := 8#32
  let v474 : BitVec 32 := Scalar.muli arg18 c8_i32_293
  let c2_i32 : BitVec 32 := 2#32
  let v475 : BitVec 32 := Scalar.addi v474 c2_i32
  let c8_i32_294 : BitVec 32 := 8#32
  let v476 : BitVec 32 := Scalar.muli v475 c8_i32_294
  v476
def k0_mult12 (k0_t2 : Fin k0_t2_loop.trips) : BitVec 32 :=
  let c0_i32_208 : BitVec 32 := 0#32
  let c1_i32_210 : BitVec 32 := 1#32
  let arg18 : BitVec 32 := Scf.iv c0_i32_208 c1_i32_210 k0_t2
  let c8_i32_297 : BitVec 32 := 8#32
  let v492 : BitVec 32 := Scalar.muli arg18 c8_i32_297
  let c3_i32 : BitVec 32 := 3#32
  let v493 : BitVec 32 := Scalar.addi v492 c3_i32
  let c8_i32_298 : BitVec 32 := 8#32
  let v494 : BitVec 32 := Scalar.muli v493 c8_i32_298
  v494
def k0_mult13 (k0_t2 : Fin k0_t2_loop.trips) : BitVec 32 :=
  let c0_i32_208 : BitVec 32 := 0#32
  let c1_i32_210 : BitVec 32 := 1#32
  let arg18 : BitVec 32 := Scf.iv c0_i32_208 c1_i32_210 k0_t2
  let c8_i32_301 : BitVec 32 := 8#32
  let v510 : BitVec 32 := Scalar.muli arg18 c8_i32_301
  let c4_i32 : BitVec 32 := 4#32
  let v511 : BitVec 32 := Scalar.addi v510 c4_i32
  let c8_i32_302 : BitVec 32 := 8#32
  let v512 : BitVec 32 := Scalar.muli v511 c8_i32_302
  v512
def k0_mult14 (k0_t2 : Fin k0_t2_loop.trips) : BitVec 32 :=
  let c0_i32_208 : BitVec 32 := 0#32
  let c1_i32_210 : BitVec 32 := 1#32
  let arg18 : BitVec 32 := Scf.iv c0_i32_208 c1_i32_210 k0_t2
  let c8_i32_305 : BitVec 32 := 8#32
  let v528 : BitVec 32 := Scalar.muli arg18 c8_i32_305
  let c5_i32 : BitVec 32 := 5#32
  let v529 : BitVec 32 := Scalar.addi v528 c5_i32
  let c8_i32_306 : BitVec 32 := 8#32
  let v530 : BitVec 32 := Scalar.muli v529 c8_i32_306
  v530
def k0_mult15 (k0_t2 : Fin k0_t2_loop.trips) : BitVec 32 :=
  let c0_i32_208 : BitVec 32 := 0#32
  let c1_i32_210 : BitVec 32 := 1#32
  let arg18 : BitVec 32 := Scf.iv c0_i32_208 c1_i32_210 k0_t2
  let c8_i32_309 : BitVec 32 := 8#32
  let v546 : BitVec 32 := Scalar.muli arg18 c8_i32_309
  let c6_i32 : BitVec 32 := 6#32
  let v547 : BitVec 32 := Scalar.addi v546 c6_i32
  let c8_i32_310 : BitVec 32 := 8#32
  let v548 : BitVec 32 := Scalar.muli v547 c8_i32_310
  v548
def k0_mult16 (k0_t2 : Fin k0_t2_loop.trips) : BitVec 32 :=
  let c0_i32_208 : BitVec 32 := 0#32
  let c1_i32_210 : BitVec 32 := 1#32
  let arg18 : BitVec 32 := Scf.iv c0_i32_208 c1_i32_210 k0_t2
  let c8_i32_313 : BitVec 32 := 8#32
  let v564 : BitVec 32 := Scalar.muli arg18 c8_i32_313
  let c7_i32 : BitVec 32 := 7#32
  let v565 : BitVec 32 := Scalar.addi v564 c7_i32
  let c8_i32_314 : BitVec 32 := 8#32
  let v566 : BitVec 32 := Scalar.muli v565 c8_i32_314
  v566
@[reducible] def k0_t3_loop : Scf.Loop 32 :=
  let c0_i32_260 : BitVec 32 := 0#32
  let c32_i32_261 : BitVec 32 := 32#32
  let v402 : BitVec 32 := Scalar.addi c0_i32_260 c32_i32_261
  let c1_i32_262 : BitVec 32 := 1#32
  ⟨c0_i32_260, v402, c1_i32_262⟩
def k0_mult17 (k0_t3 : Fin k0_t3_loop.trips) : BitVec 32 :=
  let c0_i32_260 : BitVec 32 := 0#32
  let c1_i32_262 : BitVec 32 := 1#32
  let arg18 : BitVec 32 := Scf.iv c0_i32_260 c1_i32_262 k0_t3
  let c8_i32 : BitVec 32 := 8#32
  let v438 : BitVec 32 := Scalar.muli arg18 c8_i32
  let c0_i32_284 : BitVec 32 := 0#32
  let v439 : BitVec 32 := Scalar.addi v438 c0_i32_284
  let c8_i32_285 : BitVec 32 := 8#32
  let v440 : BitVec 32 := Scalar.muli v439 c8_i32_285
  v440
def k0_off4 (k0_t3 : Fin k0_t3_loop.trips) (c0_i32_284 : BitVec 32) : Fin 2 → Nat :=
  let c0_i32_260 : BitVec 32 := 0#32
  let c1_i32_262 : BitVec 32 := 1#32
  let arg18 : BitVec 32 := Scf.iv c0_i32_260 c1_i32_262 k0_t3
  let c8_i32 : BitVec 32 := 8#32
  let v438 : BitVec 32 := Scalar.muli arg18 c8_i32
  let v439 : BitVec 32 := Scalar.addi v438 c0_i32_284
  let c8_i32_285 : BitVec 32 := 8#32
  let v440 : BitVec 32 := Scalar.muli v439 c8_i32_285
  let v441 : BitVec 32 := v440
  let v448 : Index := Scalar.indexCast v441
  let c0_286 : Index := 0#32
  ![v448.toNat, 0]
def k0_mult18 (k0_t3 : Fin k0_t3_loop.trips) : BitVec 32 :=
  let c0_i32_260 : BitVec 32 := 0#32
  let c1_i32_262 : BitVec 32 := 1#32
  let arg18 : BitVec 32 := Scf.iv c0_i32_260 c1_i32_262 k0_t3
  let c8_i32_290 : BitVec 32 := 8#32
  let v460 : BitVec 32 := Scalar.muli arg18 c8_i32_290
  let c1_i32_291 : BitVec 32 := 1#32
  let v461 : BitVec 32 := Scalar.addi v460 c1_i32_291
  let c8_i32_292 : BitVec 32 := 8#32
  let v462 : BitVec 32 := Scalar.muli v461 c8_i32_292
  v462
def k0_mult19 (k0_t3 : Fin k0_t3_loop.trips) : BitVec 32 :=
  let c0_i32_260 : BitVec 32 := 0#32
  let c1_i32_262 : BitVec 32 := 1#32
  let arg18 : BitVec 32 := Scf.iv c0_i32_260 c1_i32_262 k0_t3
  let c8_i32_297 : BitVec 32 := 8#32
  let v482 : BitVec 32 := Scalar.muli arg18 c8_i32_297
  let c2_i32 : BitVec 32 := 2#32
  let v483 : BitVec 32 := Scalar.addi v482 c2_i32
  let c8_i32_298 : BitVec 32 := 8#32
  let v484 : BitVec 32 := Scalar.muli v483 c8_i32_298
  v484
def k0_mult20 (k0_t3 : Fin k0_t3_loop.trips) : BitVec 32 :=
  let c0_i32_260 : BitVec 32 := 0#32
  let c1_i32_262 : BitVec 32 := 1#32
  let arg18 : BitVec 32 := Scf.iv c0_i32_260 c1_i32_262 k0_t3
  let c8_i32_303 : BitVec 32 := 8#32
  let v504 : BitVec 32 := Scalar.muli arg18 c8_i32_303
  let c3_i32 : BitVec 32 := 3#32
  let v505 : BitVec 32 := Scalar.addi v504 c3_i32
  let c8_i32_304 : BitVec 32 := 8#32
  let v506 : BitVec 32 := Scalar.muli v505 c8_i32_304
  v506
def k0_mult21 (k0_t3 : Fin k0_t3_loop.trips) : BitVec 32 :=
  let c0_i32_260 : BitVec 32 := 0#32
  let c1_i32_262 : BitVec 32 := 1#32
  let arg18 : BitVec 32 := Scf.iv c0_i32_260 c1_i32_262 k0_t3
  let c8_i32_309 : BitVec 32 := 8#32
  let v526 : BitVec 32 := Scalar.muli arg18 c8_i32_309
  let c4_i32 : BitVec 32 := 4#32
  let v527 : BitVec 32 := Scalar.addi v526 c4_i32
  let c8_i32_310 : BitVec 32 := 8#32
  let v528 : BitVec 32 := Scalar.muli v527 c8_i32_310
  v528
def k0_mult22 (k0_t3 : Fin k0_t3_loop.trips) : BitVec 32 :=
  let c0_i32_260 : BitVec 32 := 0#32
  let c1_i32_262 : BitVec 32 := 1#32
  let arg18 : BitVec 32 := Scf.iv c0_i32_260 c1_i32_262 k0_t3
  let c8_i32_315 : BitVec 32 := 8#32
  let v548 : BitVec 32 := Scalar.muli arg18 c8_i32_315
  let c5_i32 : BitVec 32 := 5#32
  let v549 : BitVec 32 := Scalar.addi v548 c5_i32
  let c8_i32_316 : BitVec 32 := 8#32
  let v550 : BitVec 32 := Scalar.muli v549 c8_i32_316
  v550
def k0_mult23 (k0_t3 : Fin k0_t3_loop.trips) : BitVec 32 :=
  let c0_i32_260 : BitVec 32 := 0#32
  let c1_i32_262 : BitVec 32 := 1#32
  let arg18 : BitVec 32 := Scf.iv c0_i32_260 c1_i32_262 k0_t3
  let c8_i32_321 : BitVec 32 := 8#32
  let v570 : BitVec 32 := Scalar.muli arg18 c8_i32_321
  let c6_i32 : BitVec 32 := 6#32
  let v571 : BitVec 32 := Scalar.addi v570 c6_i32
  let c8_i32_322 : BitVec 32 := 8#32
  let v572 : BitVec 32 := Scalar.muli v571 c8_i32_322
  v572
def k0_mult24 (k0_t3 : Fin k0_t3_loop.trips) : BitVec 32 :=
  let c0_i32_260 : BitVec 32 := 0#32
  let c1_i32_262 : BitVec 32 := 1#32
  let arg18 : BitVec 32 := Scf.iv c0_i32_260 c1_i32_262 k0_t3
  let c8_i32_327 : BitVec 32 := 8#32
  let v592 : BitVec 32 := Scalar.muli arg18 c8_i32_327
  let c7_i32 : BitVec 32 := 7#32
  let v593 : BitVec 32 := Scalar.addi v592 c7_i32
  let c8_i32_328 : BitVec 32 := 8#32
  let v594 : BitVec 32 := Scalar.muli v593 c8_i32_328
  v594
@[reducible] def k0_t4_loop : Scf.Loop 32 :=
  let c0_i32_276 : BitVec 32 := 0#32
  let c32_i32_277 : BitVec 32 := 32#32
  let v434 : BitVec 32 := Scalar.addi c0_i32_276 c32_i32_277
  let c1_i32_278 : BitVec 32 := 1#32
  ⟨c0_i32_276, v434, c1_i32_278⟩
def k0_mult25 (k0_t4 : Fin k0_t4_loop.trips) : BitVec 32 :=
  let c0_i32_276 : BitVec 32 := 0#32
  let c1_i32_278 : BitVec 32 := 1#32
  let arg18 : BitVec 32 := Scf.iv c0_i32_276 c1_i32_278 k0_t4
  let c8_i32 : BitVec 32 := 8#32
  let v438 : BitVec 32 := Scalar.muli arg18 c8_i32
  let c0_i32_284 : BitVec 32 := 0#32
  let v439 : BitVec 32 := Scalar.addi v438 c0_i32_284
  let c8_i32_285 : BitVec 32 := 8#32
  let v440 : BitVec 32 := Scalar.muli v439 c8_i32_285
  v440
def k0_off5 (k0_t4 : Fin k0_t4_loop.trips) (c0_i32_284 : BitVec 32) : Fin 2 → Nat :=
  let c0_i32_276 : BitVec 32 := 0#32
  let c1_i32_278 : BitVec 32 := 1#32
  let arg18 : BitVec 32 := Scf.iv c0_i32_276 c1_i32_278 k0_t4
  let c8_i32 : BitVec 32 := 8#32
  let v438 : BitVec 32 := Scalar.muli arg18 c8_i32
  let v439 : BitVec 32 := Scalar.addi v438 c0_i32_284
  let c8_i32_285 : BitVec 32 := 8#32
  let v440 : BitVec 32 := Scalar.muli v439 c8_i32_285
  let v441 : BitVec 32 := v440
  let v442 : Index := Scalar.indexCast v441
  let c0_286 : Index := 0#32
  ![v442.toNat, 0]
def k0_off6 (k0_t4 : Fin k0_t4_loop.trips) (c0_i32_284 : BitVec 32) : Fin 2 → Nat :=
  let c0_i32_276 : BitVec 32 := 0#32
  let c1_i32_278 : BitVec 32 := 1#32
  let arg18 : BitVec 32 := Scf.iv c0_i32_276 c1_i32_278 k0_t4
  let c8_i32 : BitVec 32 := 8#32
  let v438 : BitVec 32 := Scalar.muli arg18 c8_i32
  let v439 : BitVec 32 := Scalar.addi v438 c0_i32_284
  let v444 : Index := Scalar.indexCast v439
  let c0_287 : Index := 0#32
  ![v444.toNat, 0]
def k0_mult26 (k0_t4 : Fin k0_t4_loop.trips) : BitVec 32 :=
  let c0_i32_276 : BitVec 32 := 0#32
  let c1_i32_278 : BitVec 32 := 1#32
  let arg18 : BitVec 32 := Scf.iv c0_i32_276 c1_i32_278 k0_t4
  let c8_i32_288 : BitVec 32 := 8#32
  let v448 : BitVec 32 := Scalar.muli arg18 c8_i32_288
  let c1_i32_289 : BitVec 32 := 1#32
  let v449 : BitVec 32 := Scalar.addi v448 c1_i32_289
  let c8_i32_290 : BitVec 32 := 8#32
  let v450 : BitVec 32 := Scalar.muli v449 c8_i32_290
  v450
def k0_mult27 (k0_t4 : Fin k0_t4_loop.trips) : BitVec 32 :=
  let c0_i32_276 : BitVec 32 := 0#32
  let c1_i32_278 : BitVec 32 := 1#32
  let arg18 : BitVec 32 := Scf.iv c0_i32_276 c1_i32_278 k0_t4
  let c8_i32_293 : BitVec 32 := 8#32
  let v458 : BitVec 32 := Scalar.muli arg18 c8_i32_293
  let c2_i32 : BitVec 32 := 2#32
  let v459 : BitVec 32 := Scalar.addi v458 c2_i32
  let c8_i32_294 : BitVec 32 := 8#32
  let v460 : BitVec 32 := Scalar.muli v459 c8_i32_294
  v460
def k0_mult28 (k0_t4 : Fin k0_t4_loop.trips) : BitVec 32 :=
  let c0_i32_276 : BitVec 32 := 0#32
  let c1_i32_278 : BitVec 32 := 1#32
  let arg18 : BitVec 32 := Scf.iv c0_i32_276 c1_i32_278 k0_t4
  let c8_i32_297 : BitVec 32 := 8#32
  let v468 : BitVec 32 := Scalar.muli arg18 c8_i32_297
  let c3_i32 : BitVec 32 := 3#32
  let v469 : BitVec 32 := Scalar.addi v468 c3_i32
  let c8_i32_298 : BitVec 32 := 8#32
  let v470 : BitVec 32 := Scalar.muli v469 c8_i32_298
  v470
def k0_mult29 (k0_t4 : Fin k0_t4_loop.trips) : BitVec 32 :=
  let c0_i32_276 : BitVec 32 := 0#32
  let c1_i32_278 : BitVec 32 := 1#32
  let arg18 : BitVec 32 := Scf.iv c0_i32_276 c1_i32_278 k0_t4
  let c8_i32_301 : BitVec 32 := 8#32
  let v478 : BitVec 32 := Scalar.muli arg18 c8_i32_301
  let c4_i32 : BitVec 32 := 4#32
  let v479 : BitVec 32 := Scalar.addi v478 c4_i32
  let c8_i32_302 : BitVec 32 := 8#32
  let v480 : BitVec 32 := Scalar.muli v479 c8_i32_302
  v480
def k0_mult30 (k0_t4 : Fin k0_t4_loop.trips) : BitVec 32 :=
  let c0_i32_276 : BitVec 32 := 0#32
  let c1_i32_278 : BitVec 32 := 1#32
  let arg18 : BitVec 32 := Scf.iv c0_i32_276 c1_i32_278 k0_t4
  let c8_i32_305 : BitVec 32 := 8#32
  let v488 : BitVec 32 := Scalar.muli arg18 c8_i32_305
  let c5_i32 : BitVec 32 := 5#32
  let v489 : BitVec 32 := Scalar.addi v488 c5_i32
  let c8_i32_306 : BitVec 32 := 8#32
  let v490 : BitVec 32 := Scalar.muli v489 c8_i32_306
  v490
def k0_mult31 (k0_t4 : Fin k0_t4_loop.trips) : BitVec 32 :=
  let c0_i32_276 : BitVec 32 := 0#32
  let c1_i32_278 : BitVec 32 := 1#32
  let arg18 : BitVec 32 := Scf.iv c0_i32_276 c1_i32_278 k0_t4
  let c8_i32_309 : BitVec 32 := 8#32
  let v498 : BitVec 32 := Scalar.muli arg18 c8_i32_309
  let c6_i32 : BitVec 32 := 6#32
  let v499 : BitVec 32 := Scalar.addi v498 c6_i32
  let c8_i32_310 : BitVec 32 := 8#32
  let v500 : BitVec 32 := Scalar.muli v499 c8_i32_310
  v500
def k0_mult32 (k0_t4 : Fin k0_t4_loop.trips) : BitVec 32 :=
  let c0_i32_276 : BitVec 32 := 0#32
  let c1_i32_278 : BitVec 32 := 1#32
  let arg18 : BitVec 32 := Scf.iv c0_i32_276 c1_i32_278 k0_t4
  let c8_i32_313 : BitVec 32 := 8#32
  let v508 : BitVec 32 := Scalar.muli arg18 c8_i32_313
  let c7_i32 : BitVec 32 := 7#32
  let v509 : BitVec 32 := Scalar.addi v508 c7_i32
  let c8_i32_314 : BitVec 32 := 8#32
  let v510 : BitVec 32 := Scalar.muli v509 c8_i32_314
  v510
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x16x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x16x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x64x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x64x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== S5FRefIdeal.lean ====
abbrev S2048x2048 : Shape := ⟨2, ![2048, 2048]⟩
abbrev S128x64 : Shape := ⟨2, ![128, 64]⟩
abbrev S128x64x16 : Shape := ⟨3, ![128, 64, 16]⟩
abbrev S128x16x64 : Shape := ⟨3, ![128, 16, 64]⟩
abbrev S1x2048 : Shape := ⟨2, ![1, 2048]⟩
abbrev S2048 : Shape := ⟨1, ![2048]⟩
abbrev S2048x128x16 : Shape := ⟨3, ![2048, 128, 16]⟩
abbrev S128x64x2048 : Shape := ⟨3, ![128, 64, 2048]⟩
abbrev S2048x128x64 : Shape := ⟨3, ![2048, 128, 64]⟩
abbrev S_ : Shape := ⟨0, ![]⟩
abbrev S1x128x64 : Shape := ⟨3, ![1, 128, 64]⟩
abbrev S128x16x2048 : Shape := ⟨3, ![128, 16, 2048]⟩
abbrev S8x256x8192 : Shape := ⟨3, ![8, 256, 8192]⟩
abbrev S256x8x8192 : Shape := ⟨3, ![256, 8, 8192]⟩
abbrev S2048x8192 : Shape := ⟨2, ![2048, 8192]⟩

abbrev nBuf : Space → Nat
  | .hbm => 92
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S128x64, .f32⟩
  | .hbm, ⟨2, _⟩ => ⟨S128x64, .f32⟩
  | .hbm, ⟨3, _⟩ => ⟨S128x64x16, .f32⟩
  | .hbm, ⟨4, _⟩ => ⟨S128x64x16, .f32⟩
  | .hbm, ⟨5, _⟩ => ⟨S128x16x64, .f32⟩
  | .hbm, ⟨6, _⟩ => ⟨S128x16x64, .f32⟩
  | .hbm, ⟨7, _⟩ => ⟨S1x2048, .f32⟩
  | .hbm, ⟨8, _⟩ => ⟨S2048, .f32⟩
  | .hbm, ⟨9, _⟩ => ⟨S2048x128x16, .f32⟩
  | .hbm, ⟨10, _⟩ => ⟨S128x64x2048, .f32⟩
  | .hbm, ⟨11, _⟩ => ⟨S2048x128x64, .f32⟩
  | .hbm, ⟨12, _⟩ => ⟨S128x64x2048, .f32⟩
  | .hbm, ⟨13, _⟩ => ⟨S2048x128x64, .f32⟩
  | .hbm, ⟨14, _⟩ => ⟨S_, .f32⟩
  | .hbm, ⟨15, _⟩ => ⟨S128x64, .f32⟩
  | .hbm, ⟨16, _⟩ => ⟨S_, .f32⟩
  | .hbm, ⟨17, _⟩ => ⟨S2048x128x64, .f32⟩
  | .hbm, ⟨18, _⟩ => ⟨S_, .f32⟩
  | .hbm, ⟨19, _⟩ => ⟨S2048x128x64, .f32⟩
  | .hbm, ⟨20, _⟩ => ⟨S_, .i32⟩
  | .hbm, ⟨21, _⟩ => ⟨S2048x128x64, .f32⟩
  | .hbm, ⟨22, _⟩ => ⟨S2048x128x64, .f32⟩
  | .hbm, ⟨23, _⟩ => ⟨S128x64, .f32⟩
  | .hbm, ⟨24, _⟩ => ⟨S128x64, .f32⟩
  | .hbm, ⟨25, _⟩ => ⟨S_, .i32⟩
  | .hbm, ⟨26, _⟩ => ⟨S128x64, .f32⟩
  | .hbm, ⟨27, _⟩ => ⟨S128x64, .f32⟩
  | .hbm, ⟨28, _⟩ => ⟨S2048x128x64, .f32⟩
  | .hbm, ⟨29, _⟩ => ⟨S2048x128x64, .f32⟩
  | .hbm, ⟨30, _⟩ => ⟨S_, .i32⟩
  | .hbm, ⟨31, _⟩ => ⟨S_, .i1⟩
  | .hbm, ⟨32, _⟩ => ⟨S_, .i32⟩
  | .hbm, ⟨33, _⟩ => ⟨S_, .i32⟩
  | .hbm, ⟨34, _⟩ => ⟨S1x128x64, .f32⟩
  | .hbm, ⟨35, _⟩ => ⟨S128x64, .f32⟩
  | .hbm, ⟨36, _⟩ => ⟨S_, .i32⟩
  | .hbm, ⟨37, _⟩ => ⟨S_, .i32⟩
  | .hbm, ⟨38, _⟩ => ⟨S1x128x64, .f32⟩
  | .hbm, ⟨39, _⟩ => ⟨S128x64, .f32⟩
  | .hbm, ⟨40, _⟩ => ⟨S128x64, .f32⟩
  | .hbm, ⟨41, _⟩ => ⟨S128x64, .f32⟩
  | .hbm, ⟨42, _⟩ => ⟨S128x64, .f32⟩
  | .hbm, ⟨43, _⟩ => ⟨S128x64, .f32⟩
  | .hbm, ⟨44, _⟩ => ⟨S128x64, .f32⟩
  | .hbm, ⟨45, _⟩ => ⟨S128x64, .f32⟩
  | .hbm, ⟨46, _⟩ => ⟨S128x64, .f32⟩
  | .hbm, ⟨47, _⟩ => ⟨S128x64, .f32⟩
  | .hbm, ⟨48, _⟩ => ⟨S1x128x64, .f32⟩
  | .hbm, ⟨49, _⟩ => ⟨S_, .i32⟩
  | .hbm, ⟨50, _⟩ => ⟨S_, .i32⟩
  | .hbm, ⟨51, _⟩ => ⟨S2048x128x64, .f32⟩
  | .hbm, ⟨52, _⟩ => ⟨S1x128x64, .f32⟩
  | .hbm, ⟨53, _⟩ => ⟨S_, .i32⟩
  | .hbm, ⟨54, _⟩ => ⟨S_, .i32⟩
  | .hbm, ⟨55, _⟩ => ⟨S2048x128x64, .f32⟩
  | .hbm, ⟨56, _⟩ => ⟨S_, .i32⟩
  | .hbm, ⟨57, _⟩ => ⟨S_, .i32⟩
  | .hbm, ⟨58, _⟩ => ⟨S128x16x2048, .f32⟩
  | .hbm, ⟨59, _⟩ => ⟨S2048x128x16, .f32⟩
  | .hbm, ⟨60, _⟩ => ⟨S128x16x2048, .f32⟩
  | .hbm, ⟨61, _⟩ => ⟨S2048x128x16, .f32⟩
  | .hbm, ⟨62, _⟩ => ⟨S2048x128x16, .f32⟩
  | .hbm, ⟨63, _⟩ => ⟨S2048x2048, .f32⟩
  | .hbm, ⟨64, _⟩ => ⟨S1x2048, .f32⟩
  | .hbm, ⟨65, _⟩ => ⟨S2048x2048, .f32⟩
  | .hbm, ⟨66, _⟩ => ⟨S2048x2048, .f32⟩
  | .hbm, ⟨67, _⟩ => ⟨S2048x2048, .f32⟩
  | .hbm, ⟨68, _⟩ => ⟨S2048x2048, .f32⟩
  | .hbm, ⟨69, _⟩ => ⟨S2048x2048, .f32⟩
  | .hbm, ⟨70, _⟩ => ⟨S_, .f32⟩
  | .hbm, ⟨71, _⟩ => ⟨S2048x2048, .f32⟩
  | .hbm, ⟨72, _⟩ => ⟨S2048x2048, .f32⟩
  | .hbm, ⟨73, _⟩ => ⟨S2048x2048, .f32⟩
  | .hbm, ⟨74, _⟩ => ⟨S_, .f32⟩
  | .hbm, ⟨75, _⟩ => ⟨S2048x2048, .f32⟩
  | .hbm, ⟨76, _⟩ => ⟨S2048x2048, .f32⟩
  | .hbm, ⟨77, _⟩ => ⟨S2048x2048, .f32⟩
  | .hbm, ⟨78, _⟩ => ⟨S_, .f32⟩
  | .hbm, ⟨79, _⟩ => ⟨S2048x2048, .f32⟩
  | .hbm, ⟨80, _⟩ => ⟨S2048x2048, .f32⟩
  | .hbm, ⟨81, _⟩ => ⟨S_, .f32⟩
  | .hbm, ⟨82, _⟩ => ⟨S2048x2048, .f32⟩
  | .hbm, ⟨83, _⟩ => ⟨S2048x2048, .f32⟩
  | .hbm, ⟨84, _⟩ => ⟨S2048x2048, .f32⟩
  | .hbm, ⟨85, _⟩ => ⟨S2048x2048, .bf16⟩
  | .hbm, ⟨86, _⟩ => ⟨S8x256x8192, .f32⟩
  | .hbm, ⟨87, _⟩ => ⟨S256x8x8192, .f32⟩
  | .hbm, ⟨88, _⟩ => ⟨S2048x8192, .f32⟩
  | .hbm, ⟨89, _⟩ => ⟨S8x256x8192, .f32⟩
  | .hbm, ⟨90, _⟩ => ⟨S256x8x8192, .f32⟩
  | .hbm, ⟨91, _⟩ => ⟨S2048x8192, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_c : Ref sig .tc := ⟨.hbm, 20, rfl⟩
abbrev main_v9_0 : Ref sig .tc := ⟨.hbm, 21, rfl⟩
abbrev main_v9_1 : Ref sig .tc := ⟨.hbm, 22, rfl⟩
abbrev main_v9_2 : Ref sig .tc := ⟨.hbm, 23, rfl⟩
abbrev main_v9_3 : Ref sig .tc := ⟨.hbm, 24, rfl⟩
abbrev main_v9_4 : Ref sig .tc := ⟨.hbm, 25, rfl⟩
abbrev main_v9_5 : Ref sig .tc := ⟨.hbm, 26, rfl⟩
abbrev main_v9_6 : Ref sig .tc := ⟨.hbm, 27, rfl⟩
abbrev main_v9_7 : Ref sig .tc := ⟨.hbm, 28, rfl⟩
abbrev main_v9_8 : Ref sig .tc := ⟨.hbm, 29, rfl⟩
abbrev main_while0c_c_14 : Ref sig .tc := ⟨.hbm, 30, rfl⟩
abbrev main_while0c_v40 : Ref sig .tc := ⟨.hbm, 31, rfl⟩
abbrev main_while0b_call0_c : Ref sig .tc := ⟨.hbm, 32, rfl⟩
abbrev main_while0b_call0_c_0 : Ref sig .tc := ⟨.hbm, 33, rfl⟩
abbrev main_while0b_call0_v0 : Ref sig .tc := ⟨.hbm, 34, rfl⟩
abbrev main_while0b_v40 : Ref sig .tc := ⟨.hbm, 35, rfl⟩
abbrev main_while0b_call1_c : Ref sig .tc := ⟨.hbm, 36, rfl⟩
abbrev main_while0b_call1_c_0 : Ref sig .tc := ⟨.hbm, 37, rfl⟩
abbrev main_while0b_call1_v0 : Ref sig .tc := ⟨.hbm, 38, rfl⟩
abbrev main_while0b_v41 : Ref sig .tc := ⟨.hbm, 39, rfl⟩
abbrev main_while0b_v42 : Ref sig .tc := ⟨.hbm, 40, rfl⟩
abbrev main_while0b_v43 : Ref sig .tc := ⟨.hbm, 41, rfl⟩
abbrev main_while0b_v44 : Ref sig .tc := ⟨.hbm, 42, rfl⟩
abbrev main_while0b_v45 : Ref sig .tc := ⟨.hbm, 43, rfl⟩
abbrev main_while0b_v46 : Ref sig .tc := ⟨.hbm, 44, rfl⟩
abbrev main_while0b_v47 : Ref sig .tc := ⟨.hbm, 45, rfl⟩
abbrev main_while0b_v48 : Ref sig .tc := ⟨.hbm, 46, rfl⟩
abbrev main_while0b_v49 : Ref sig .tc := ⟨.hbm, 47, rfl⟩
abbrev main_while0b_call2_v0 : Ref sig .tc := ⟨.hbm, 48, rfl⟩
abbrev main_while0b_call2_c : Ref sig .tc := ⟨.hbm, 49, rfl⟩
abbrev main_while0b_call2_c_0 : Ref sig .tc := ⟨.hbm, 50, rfl⟩
abbrev main_while0b_v50 : Ref sig .tc := ⟨.hbm, 51, rfl⟩
abbrev main_while0b_call3_v0 : Ref sig .tc := ⟨.hbm, 52, rfl⟩
abbrev main_while0b_call3_c : Ref sig .tc := ⟨.hbm, 53, rfl⟩
abbrev main_while0b_call3_c_0 : Ref sig .tc := ⟨.hbm, 54, rfl⟩
abbrev main_while0b_v51 : Ref sig .tc := ⟨.hbm, 55, rfl⟩
abbrev main_while0b_c_14 : Ref sig .tc := ⟨.hbm, 56, rfl⟩
abbrev main_while0b_v52 : Ref sig .tc := ⟨.hbm, 57, rfl⟩
abbrev main_v10 : Ref sig .tc := ⟨.hbm, 58, rfl⟩
abbrev main_v11 : Ref sig .tc := ⟨.hbm, 59, rfl⟩
abbrev main_v12 : Ref sig .tc := ⟨.hbm, 60, rfl⟩
abbrev main_v13 : Ref sig .tc := ⟨.hbm, 61, rfl⟩
abbrev main_v14 : Ref sig .tc := ⟨.hbm, 62, rfl⟩
abbrev main_v15 : Ref sig .tc := ⟨.hbm, 63, rfl⟩
abbrev main_v16 : Ref sig .tc := ⟨.hbm, 64, rfl⟩
abbrev main_v17 : Ref sig .tc := ⟨.hbm, 65, rfl⟩
abbrev main_v18 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_cst_2 : Ref sig .tc := ⟨.hbm, 70, rfl⟩
abbrev main_v22 : Ref sig .tc := ⟨.hbm, 71, rfl⟩
abbrev main_v23 : Ref sig .tc := ⟨.hbm, 72, rfl⟩
abbrev main_v24 : Ref sig .tc := ⟨.hbm, 73, rfl⟩
abbrev main_cst_3 : Ref sig .tc := ⟨.hbm, 74, rfl⟩
abbrev main_v25 : Ref sig .tc := ⟨.hbm, 75, rfl⟩
abbrev main_v26 : Ref sig .tc := ⟨.hbm, 76, rfl⟩
abbrev main_v27 : Ref sig .tc := ⟨.hbm, 77, rfl⟩
abbrev main_cst_4 : Ref sig .tc := ⟨.hbm, 78, rfl⟩
abbrev main_v28 : Ref sig .tc := ⟨.hbm, 79, rfl⟩
abbrev main_v29 : Ref sig .tc := ⟨.hbm, 80, rfl⟩
abbrev main_cst_5 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩

abbrev nD : Nat := 1
abbrev τ : Topo := Topo.v7x

variable {F : FTy → Type} [FloatOps F]

abbrev main_while0_count : Scf.Loop 32 := ⟨0#32, 2048#32, 1#32⟩
-- ==== Down.lean ====
abbrev S2048x2048 : Shape := ⟨2, ![2048, 2048]⟩
abbrev S2048x5632 : Shape := ⟨2, ![2048, 5632]⟩
abbrev S5632x2048 : Shape := ⟨2, ![5632, 2048]⟩
abbrev S4x1408x2x1024 : Shape := ⟨4, ![4, 1408, 2, 1024]⟩
abbrev S4x2x1408x1024 : Shape := ⟨4, ![4, 2, 1408, 1024]⟩
abbrev S1024x1408 : Shape := ⟨2, ![1024, 1408]⟩
abbrev S1x1x1408x1024 : Shape := ⟨4, ![1, 1, 1408, 1024]⟩
abbrev S1024x1024 : Shape := ⟨2, ![1024, 1024]⟩
abbrev S1408x1024 : Shape := ⟨2, ![1408, 1024]⟩

abbrev nBuf : Space → Nat
  | .hbm => 8
  | .vmem => 9
  | .smem => 0
  | _ => 0

abbrev bufTy : (tb : Table) → Fin (tcTables nBuf tb) → BufTy
  | .hbm, ⟨0, _⟩ => ⟨S2048x2048, .f32⟩
  | .hbm, ⟨1, _⟩ => ⟨S2048x5632, .f32⟩
  | .hbm, ⟨2, _⟩ => ⟨S5632x2048, .f32⟩
  | .hbm, ⟨3, _⟩ => ⟨S4x1408x2x1024, .f32⟩
  | .hbm, ⟨4, _⟩ => ⟨S4x2x1408x1024, .f32⟩
  | .hbm, ⟨5, _⟩ => ⟨S4x2x1408x1024, .bf16⟩
  | .hbm, ⟨6, _⟩ => ⟨S2048x5632, .bf16⟩
  | .hbm, ⟨7, _⟩ => ⟨S2048x2048, .f32⟩
  | .local _ .vmem, ⟨0, _⟩ => ⟨S1024x1408, .bf16⟩
  | .local _ .vmem, ⟨1, _⟩ => ⟨S1024x1408, .bf16⟩
  | .local _ .vmem, ⟨2, _⟩ => ⟨S1x1x1408x1024, .bf16⟩
  | .local _ .vmem, ⟨3, _⟩ => ⟨S1x1x1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c1_i32 : BitVec 32 := 1#32
  let v1 : BitVec 32 := Scalar.divsi arg2 c1_i32
  let c0_i32_0 : BitVec 32 := 0#32
  let v2 : BitVec 1 := Scalar.cmpi .sgt arg2 c0_i32_0
  let v3 : BitVec 32 := Scalar.extui v2
  let c0_i32_1 : BitVec 32 := 0#32
  let v4 : BitVec 1 := Scalar.cmpi .slt arg2 c0_i32_1
  let v5 : BitVec 32 := Scalar.extui v4
  let v6 : BitVec 32 := Scalar.subi v3 v5
  let c0_i32_2 : BitVec 32 := 0#32
  let v7 : BitVec 1 := Scalar.cmpi .sgt c1_i32 c0_i32_2
  let v8 : BitVec 32 := Scalar.extui v7
  let c0_i32_3 : BitVec 32 := 0#32
  let v9 : BitVec 1 := Scalar.cmpi .slt c1_i32 c0_i32_3
  let v10 : BitVec 32 := Scalar.extui v9
  let v11 : BitVec 32 := Scalar.subi v8 v10
  let v12 : BitVec 1 := Scalar.cmpi .ne v6 v11
  let v13 : BitVec 32 := Scalar.remsi arg2 c1_i32
  let c0_i32_4 : BitVec 32 := 0#32
  let v14 : BitVec 1 := Scalar.cmpi .ne v13 c0_i32_4
  let v15 : BitVec 1 := Scalar.andi v12 v14
  let c1_i32_5 : BitVec 32 := 1#32
  let v16 : BitVec 32 := Scalar.subi v1 c1_i32_5
  let v17 : BitVec 32 := Scalar.select v15 v16 v1
  let c1_i32_6 : BitVec 32 := 1#32
  let v18 : BitVec 32 := Scalar.divsi v0 c1_i32_6
  let c0_i32_7 : BitVec 32 := 0#32
  let v19 : BitVec 1 := Scalar.cmpi .sgt v0 c0_i32_7
  let v20 : BitVec 32 := Scalar.extui v19
  let c0_i32_8 : BitVec 32 := 0#32
  let v21 : BitVec 1 := Scalar.cmpi .slt v0 c0_i32_8
  let v22 : BitVec 32 := Scalar.extui v21
  let v23 : BitVec 32 := Scalar.subi v20 v22
  let c0_i32_9 : BitVec 32 := 0#32
  let v24 : BitVec 1 := Scalar.cmpi .sgt c1_i32_6 c0_i32_9
  let v25 : BitVec 32 := Scalar.extui v24
  let c0_i32_10 : BitVec 32 := 0#32
  let v26 : BitVec 1 := Scalar.cmpi .slt c1_i32_6 c0_i32_10
  let v27 : BitVec 32 := Scalar.extui v26
  let v28 : BitVec 32 := Scalar.subi v25 v27
  let v29 : BitVec 1 := Scalar.cmpi .ne v23 v28
  let v30 : BitVec 32 := Scalar.remsi v0 c1_i32_6
  let c0_i32_11 : BitVec 32 := 0#32
  let v31 : BitVec 1 := Scalar.cmpi .ne v30 c0_i32_11
  let v32 : BitVec 1 := Scalar.andi v29 v31
  let c1_i32_12 : BitVec 32 := 1#32
  let v33 : BitVec 32 := Scalar.subi v18 c1_i32_12
  let v34 : BitVec 32 := Scalar.select v32 v33 v18
  let c1_i32_13 : BitVec 32 := 1#32
  let c0_i32_14 : BitVec 32 := 0#32
  let v35 : BitVec 1 := Scalar.cmpi .eq c1_i32_13 c0_i32_14
  let c1_i32_15 : BitVec 32 := 1#32
  let v36 : BitVec 32 := Scalar.select v35 c1_i32_15 c1_i32_13
  let v37 : BitVec 32 := Scalar.remsi arg2 v36
  let c0_i32_16 : BitVec 32 := 0#32
  let v38 : BitVec 1 := Scalar.cmpi .ne v37 c0_i32_16
  let c0_i32_17 : BitVec 32 := 0#32
  let v39 : BitVec 1 := Scalar.cmpi .slt v37 c0_i32_17
  let c0_i32_18 : BitVec 32 := 0#32
  let v40 : BitVec 1 := Scalar.cmpi .slt v36 c0_i32_18
  let v41 : BitVec 1 := Scalar.xori v39 v40
  let v42 : BitVec 1 := Scalar.andi v41 v38
  let v43 : BitVec 32 := Scalar.addi v37 v36
  let v44 : BitVec 32 := Scalar.select v42 v43 v37
  let c1_i32_19 : BitVec 32 := 1#32
  let c0_i32_20 : BitVec 32 := 0#32
  let v45 : BitVec 1 := Scalar.cmpi .eq c1_i32_19 c0_i32_20
  let c1_i32_21 : BitVec 32 := 1#32
  let v46 : BitVec 32 := Scalar.select v45 c1_i32_21 c1_i32_19
  let v47 : BitVec 32 := Scalar.remsi v0 v46
  let c0_i32_22 : BitVec 32 := 0#32
  let v48 : BitVec 1 := Scalar.cmpi .ne v47 c0_i32_22
  let c0_i32_23 : BitVec 32 := 0#32
  let v49 : BitVec 1 := Scalar.cmpi .slt v47 c0_i32_23
  let c0_i32_24 : BitVec 32 := 0#32
  let v50 : BitVec 1 := Scalar.cmpi .slt v46 c0_i32_24
  let v51 : BitVec 1 := Scalar.xori v49 v50
  let v52 : BitVec 1 := Scalar.andi v51 v48
  let v53 : BitVec 32 := Scalar.addi v47 v46
  let v54 : BitVec 32 := Scalar.select v52 v53 v47
  let c0_i32_25 : BitVec 32 := 0#32
  ![v17.toNat, v34.toNat, v44.toNat, v54.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownRefIdeal.lean ====
abbrev S2048x2048 : Shape := ⟨2, ![2048, 2048]⟩
abbrev S2048x5632 : Shape := ⟨2, ![2048, 5632]⟩
abbrev S5632x2048 : Shape := ⟨2, ![5632, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x5632, .f32⟩
  | .hbm, ⟨2, _⟩ => ⟨S5632x2048, .f32⟩
  | .hbm, ⟨3, _⟩ => ⟨S2048x2048, .f32⟩
  | .hbm, ⟨4, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Dx.lean ====
abbrev S2048x5632 : Shape := ⟨2, ![2048, 5632]⟩
abbrev S2x1024x4x1408 : Shape := ⟨4, ![2, 1024, 4, 1408]⟩
abbrev S4x2x1024x1408 : Shape := ⟨4, ![4, 2, 1024, 1408]⟩
abbrev S2048x2048 : Shape := ⟨2, ![2048, 2048]⟩
abbrev S1024x1408 : Shape := ⟨2, ![1024, 1408]⟩
abbrev S1x1x1024x1408 : Shape := ⟨4, ![1, 1, 1024, 1408]⟩
abbrev S1024x1024 : Shape := ⟨2, ![1024, 1024]⟩

abbrev nBuf : Space → Nat
  | .hbm => 13
  | .vmem => 11
  | .smem => 0
  | _ => 0

abbrev bufTy : (tb : Table) → Fin (tcTables nBuf tb) → BufTy
  | .hbm, ⟨0, _⟩ => ⟨S2048x5632, .f32⟩
  | .hbm, ⟨1, _⟩ => ⟨S2048x5632, .f32⟩
  | .hbm, ⟨2, _⟩ => ⟨S2048x5632, .f32⟩
  | .hbm, ⟨3, _⟩ => ⟨S2048x5632, .f32⟩
  | .hbm, ⟨4, _⟩ => ⟨S2048x5632, .bf16⟩
  | .hbm, ⟨5, _⟩ => ⟨S2048x5632, .bf16⟩
  | .hbm, ⟨6, _⟩ => ⟨S2x1024x4x1408, .f32⟩
  | .hbm, ⟨7, _⟩ => ⟨S4x2x1024x1408, .f32⟩
  | .hbm, ⟨8, _⟩ => ⟨S4x2x1024x1408, .bf16⟩
  | .hbm, ⟨9, _⟩ => ⟨S2x1024x4x1408, .f32⟩
  | .hbm, ⟨10, _⟩ => ⟨S4x2x1024x1408, .f32⟩
  | .hbm, ⟨11, _⟩ => ⟨S4x2x1024x1408, .bf16⟩
  | .hbm, ⟨12, _⟩ => ⟨S2048x2048, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1x1x1024x1408, .bf16⟩
  | .local _ .vmem, ⟨5, _⟩ => ⟨S1x1x1024x1408, .bf16⟩
  | .local _ .vmem, ⟨6, _⟩ => ⟨S1x1x1024x1408, .bf16⟩
  | .local _ .vmem, ⟨7, _⟩ => ⟨S1x1x1024x1408, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.divsi arg1 c1_i32_5
  let c0_i32_6 : BitVec 32 := 0#32
  let v18 : BitVec 1 := Scalar.cmpi .sgt arg1 c0_i32_6
  let v19 : BitVec 32 := Scalar.extui v18
  let c0_i32_7 : BitVec 32 := 0#32
  let v20 : BitVec 1 := Scalar.cmpi .slt arg1 c0_i32_7
  let v21 : BitVec 32 := Scalar.extui v20
  let v22 : BitVec 32 := Scalar.subi v19 v21
  let c0_i32_8 : BitVec 32 := 0#32
  let v23 : BitVec 1 := Scalar.cmpi .sgt c1_i32_5 c0_i32_8
  let v24 : BitVec 32 := Scalar.extui v23
  let c0_i32_9 : BitVec 32 := 0#32
  let v25 : BitVec 1 := Scalar.cmpi .slt c1_i32_5 c0_i32_9
  let v26 : BitVec 32 := Scalar.extui v25
  let v27 : BitVec 32 := Scalar.subi v24 v26
  let v28 : BitVec 1 := Scalar.cmpi .ne v22 v27
  let v29 : BitVec 32 := Scalar.remsi arg1 c1_i32_5
  let c0_i32_10 : BitVec 32 := 0#32
  let v30 : BitVec 1 := Scalar.cmpi .ne v29 c0_i32_10
  let v31 : BitVec 1 := Scalar.andi v28 v30
  let c1_i32_11 : BitVec 32 := 1#32
  let v32 : BitVec 32 := Scalar.subi v17 c1_i32_11
  let v33 : BitVec 32 := Scalar.select v31 v32 v17
  let c1_i32_12 : BitVec 32 := 1#32
  let c0_i32_13 : BitVec 32 := 0#32
  let v34 : BitVec 1 := Scalar.cmpi .eq c1_i32_12 c0_i32_13
  let c1_i32_14 : BitVec 32 := 1#32
  let v35 : BitVec 32 := Scalar.select v34 c1_i32_14 c1_i32_12
  let v36 : BitVec 32 := Scalar.remsi arg1 v35
  let c0_i32_15 : BitVec 32 := 0#32
  let v37 : BitVec 1 := Scalar.cmpi .ne v36 c0_i32_15
  let c0_i32_16 : BitVec 32 := 0#32
  let v38 : BitVec 1 := Scalar.cmpi .slt v36 c0_i32_16
  let c0_i32_17 : BitVec 32 := 0#32
  let v39 : BitVec 1 := Scalar.cmpi .slt v35 c0_i32_17
  let v40 : BitVec 1 := Scalar.xori v38 v39
  let v41 : BitVec 1 := Scalar.andi v40 v37
  let v42 : BitVec 32 := Scalar.addi v36 v35
  let v43 : BitVec 32 := Scalar.select v41 v42 v36
  let c1_i32_18 : BitVec 32 := 1#32
  let c0_i32_19 : BitVec 32 := 0#32
  let v44 : BitVec 1 := Scalar.cmpi .eq c1_i32_18 c0_i32_19
  let c1_i32_20 : BitVec 32 := 1#32
  let v45 : BitVec 32 := Scalar.select v44 c1_i32_20 c1_i32_18
  let v46 : BitVec 32 := Scalar.remsi arg2 v45
  let c0_i32_21 : BitVec 32 := 0#32
  let v47 : BitVec 1 := Scalar.cmpi .ne v46 c0_i32_21
  let c0_i32_22 : BitVec 32 := 0#32
  let v48 : BitVec 1 := Scalar.cmpi .slt v46 c0_i32_22
  let c0_i32_23 : BitVec 32 := 0#32
  let v49 : BitVec 1 := Scalar.cmpi .slt v45 c0_i32_23
  let v50 : BitVec 1 := Scalar.xori v48 v49
  let v51 : BitVec 1 := Scalar.andi v50 v47
  let v52 : BitVec 32 := Scalar.addi v46 v45
  let v53 : BitVec 32 := Scalar.select v51 v52 v46
  let c0_i32_24 : BitVec 32 := 0#32
  ![v16.toNat, v33.toNat, v43.toNat, v53.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.divsi arg1 c1_i32_5
  let c0_i32_6 : BitVec 32 := 0#32
  let v18 : BitVec 1 := Scalar.cmpi .sgt arg1 c0_i32_6
  let v19 : BitVec 32 := Scalar.extui v18
  let c0_i32_7 : BitVec 32 := 0#32
  let v20 : BitVec 1 := Scalar.cmpi .slt arg1 c0_i32_7
  let v21 : BitVec 32 := Scalar.extui v20
  let v22 : BitVec 32 := Scalar.subi v19 v21
  let c0_i32_8 : BitVec 32 := 0#32
  let v23 : BitVec 1 := Scalar.cmpi .sgt c1_i32_5 c0_i32_8
  let v24 : BitVec 32 := Scalar.extui v23
  let c0_i32_9 : BitVec 32 := 0#32
  let v25 : BitVec 1 := Scalar.cmpi .slt c1_i32_5 c0_i32_9
  let v26 : BitVec 32 := Scalar.extui v25
  let v27 : BitVec 32 := Scalar.subi v24 v26
  let v28 : BitVec 1 := Scalar.cmpi .ne v22 v27
  let v29 : BitVec 32 := Scalar.remsi arg1 c1_i32_5
  let c0_i32_10 : BitVec 32 := 0#32
  let v30 : BitVec 1 := Scalar.cmpi .ne v29 c0_i32_10
  let v31 : BitVec 1 := Scalar.andi v28 v30
  let c1_i32_11 : BitVec 32 := 1#32
  let v32 : BitVec 32 := Scalar.subi v17 c1_i32_11
  let v33 : BitVec 32 := Scalar.select v31 v32 v17
  let c1_i32_12 : BitVec 32 := 1#32
  let c0_i32_13 : BitVec 32 := 0#32
  let v34 : BitVec 1 := Scalar.cmpi .eq c1_i32_12 c0_i32_13
  let c1_i32_14 : BitVec 32 := 1#32
  let v35 : BitVec 32 := Scalar.select v34 c1_i32_14 c1_i32_12
  let v36 : BitVec 32 := Scalar.remsi arg1 v35
  let c0_i32_15 : BitVec 32 := 0#32
  let v37 : BitVec 1 := Scalar.cmpi .ne v36 c0_i32_15
  let c0_i32_16 : BitVec 32 := 0#32
  let v38 : BitVec 1 := Scalar.cmpi .slt v36 c0_i32_16
  let c0_i32_17 : BitVec 32 := 0#32
  let v39 : BitVec 1 := Scalar.cmpi .slt v35 c0_i32_17
  let v40 : BitVec 1 := Scalar.xori v38 v39
  let v41 : BitVec 1 := Scalar.andi v40 v37
  let v42 : BitVec 32 := Scalar.addi v36 v35
  let v43 : BitVec 32 := Scalar.select v41 v42 v36
  let c1_i32_18 : BitVec 32 := 1#32
  let c0_i32_19 : BitVec 32 := 0#32
  let v44 : BitVec 1 := Scalar.cmpi .eq c1_i32_18 c0_i32_19
  let c1_i32_20 : BitVec 32 := 1#32
  let v45 : BitVec 32 := Scalar.select v44 c1_i32_20 c1_i32_18
  let v46 : BitVec 32 := Scalar.remsi arg2 v45
  let c0_i32_21 : BitVec 32 := 0#32
  let v47 : BitVec 1 := Scalar.cmpi .ne v46 c0_i32_21
  let c0_i32_22 : BitVec 32 := 0#32
  let v48 : BitVec 1 := Scalar.cmpi .slt v46 c0_i32_22
  let c0_i32_23 : BitVec 32 := 0#32
  let v49 : BitVec 1 := Scalar.cmpi .slt v45 c0_i32_23
  let v50 : BitVec 1 := Scalar.xori v48 v49
  let v51 : BitVec 1 := Scalar.andi v50 v47
  let v52 : BitVec 32 := Scalar.addi v46 v45
  let v53 : BitVec 32 := Scalar.select v51 v52 v46
  let c0_i32_24 : BitVec 32 := 0#32
  ![v16.toNat, v33.toNat, v43.toNat, v53.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== DxRefIdeal.lean ====
abbrev S2048x5632 : Shape := ⟨2, ![2048, 5632]⟩
abbrev S_ : Shape := ⟨0, ![]⟩
abbrev S2048x2048 : Shape := ⟨2, ![2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S2048x5632, .f32⟩
  | .hbm, ⟨2, _⟩ => ⟨S2048x5632, .f32⟩
  | .hbm, ⟨3, _⟩ => ⟨S2048x5632, .f32⟩
  | .hbm, ⟨4, _⟩ => ⟨S_, .f32⟩
  | .hbm, ⟨5, _⟩ => ⟨S2048x2048, .f32⟩
  | .hbm, ⟨6, _⟩ => ⟨S2048x5632, .f32⟩
  | .hbm, ⟨7, _⟩ => ⟨S2048x5632, .f32⟩
  | .hbm, ⟨8, _⟩ => ⟨S2048x2048, .f32⟩
  | .hbm, ⟨9, _⟩ => ⟨S2048x2048, .f32⟩
  | .hbm, ⟨10, _⟩ => ⟨S2048x2048, .f32⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Dw.lean ====
abbrev S2048x2048 : Shape := ⟨2, ![2048, 2048]⟩
abbrev S2048x5632 : Shape := ⟨2, ![2048, 5632]⟩
abbrev S2x4x1024x1408 : Shape := ⟨4, ![2, 4, 1024, 1408]⟩
abbrev S1024x1024 : Shape := ⟨2, ![1024, 1024]⟩
abbrev S1024x1408 : Shape := ⟨2, ![1024, 1408]⟩
abbrev S1x1x1024x1408 : Shape := ⟨4, ![1, 1, 1024, 1408]⟩

abbrev nBuf : Space → Nat
  | .hbm => 8
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S2048x5632, .f32⟩
  | .hbm, ⟨2, _⟩ => ⟨S2048x5632, .f32⟩
  | .hbm, ⟨3, _⟩ => ⟨S2048x2048, .bf16⟩
  | .hbm, ⟨4, _⟩ => ⟨S2048x5632, .bf16⟩
  | .hbm, ⟨5, _⟩ => ⟨S2048x5632, .bf16⟩
  | .hbm, ⟨6, _⟩ => ⟨S2x4x1024x1408, .bf16⟩
  | .hbm, ⟨7, _⟩ => ⟨S2x4x1024x1408, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1x1x1024x1408, .bf16⟩
  | .local _ .vmem, ⟨7, _⟩ => ⟨S1x1x1024x1408, .bf16⟩
  | .local _ .vmem, ⟨8, _⟩ => ⟨S1x1x1024x1408, .bf16⟩
  | .local _ .vmem, ⟨9, _⟩ => ⟨S1x1x1024x1408, .bf16⟩
  | .local _ .vmem, ⟨10, _⟩ => ⟨S1024x1408, .f32⟩
  | .local _ .vmem, ⟨11, _⟩ => ⟨S1024x1408, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 4, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.divsi arg0 c1_i32_5
  let c0_i32_6 : BitVec 32 := 0#32
  let v18 : BitVec 1 := Scalar.cmpi .sgt arg0 c0_i32_6
  let v19 : BitVec 32 := Scalar.extui v18
  let c0_i32_7 : BitVec 32 := 0#32
  let v20 : BitVec 1 := Scalar.cmpi .slt arg0 c0_i32_7
  let v21 : BitVec 32 := Scalar.extui v20
  let v22 : BitVec 32 := Scalar.subi v19 v21
  let c0_i32_8 : BitVec 32 := 0#32
  let v23 : BitVec 1 := Scalar.cmpi .sgt c1_i32_5 c0_i32_8
  let v24 : BitVec 32 := Scalar.extui v23
  let c0_i32_9 : BitVec 32 := 0#32
  let v25 : BitVec 1 := Scalar.cmpi .slt c1_i32_5 c0_i32_9
  let v26 : BitVec 32 := Scalar.extui v25
  let v27 : BitVec 32 := Scalar.subi v24 v26
  let v28 : BitVec 1 := Scalar.cmpi .ne v22 v27
  let v29 : BitVec 32 := Scalar.remsi arg0 c1_i32_5
  let c0_i32_10 : BitVec 32 := 0#32
  let v30 : BitVec 1 := Scalar.cmpi .ne v29 c0_i32_10
  let v31 : BitVec 1 := Scalar.andi v28 v30
  let c1_i32_11 : BitVec 32 := 1#32
  let v32 : BitVec 32 := Scalar.subi v17 c1_i32_11
  let v33 : BitVec 32 := Scalar.select v31 v32 v17
  let c1_i32_12 : BitVec 32 := 1#32
  let c0_i32_13 : BitVec 32 := 0#32
  let v34 : BitVec 1 := Scalar.cmpi .eq c1_i32_12 c0_i32_13
  let c1_i32_14 : BitVec 32 := 1#32
  let v35 : BitVec 32 := Scalar.select v34 c1_i32_14 c1_i32_12
  let v36 : BitVec 32 := Scalar.remsi arg0 v35
  let c0_i32_15 : BitVec 32 := 0#32
  let v37 : BitVec 1 := Scalar.cmpi .ne v36 c0_i32_15
  let c0_i32_16 : BitVec 32 := 0#32
  let v38 : BitVec 1 := Scalar.cmpi .slt v36 c0_i32_16
  let c0_i32_17 : BitVec 32 := 0#32
  let v39 : BitVec 1 := Scalar.cmpi .slt v35 c0_i32_17
  let v40 : BitVec 1 := Scalar.xori v38 v39
  let v41 : BitVec 1 := Scalar.andi v40 v37
  let v42 : BitVec 32 := Scalar.addi v36 v35
  let v43 : BitVec 32 := Scalar.select v41 v42 v36
  let c1_i32_18 : BitVec 32 := 1#32
  let c0_i32_19 : BitVec 32 := 0#32
  let v44 : BitVec 1 := Scalar.cmpi .eq c1_i32_18 c0_i32_19
  let c1_i32_20 : BitVec 32 := 1#32
  let v45 : BitVec 32 := Scalar.select v44 c1_i32_20 c1_i32_18
  let v46 : BitVec 32 := Scalar.remsi arg1 v45
  let c0_i32_21 : BitVec 32 := 0#32
  let v47 : BitVec 1 := Scalar.cmpi .ne v46 c0_i32_21
  let c0_i32_22 : BitVec 32 := 0#32
  let v48 : BitVec 1 := Scalar.cmpi .slt v46 c0_i32_22
  let c0_i32_23 : BitVec 32 := 0#32
  let v49 : BitVec 1 := Scalar.cmpi .slt v45 c0_i32_23
  let v50 : BitVec 1 := Scalar.xori v48 v49
  let v51 : BitVec 1 := Scalar.andi v50 v47
  let v52 : BitVec 32 := Scalar.addi v46 v45
  let v53 : BitVec 32 := Scalar.select v51 v52 v46
  let c0_i32_24 : BitVec 32 := 0#32
  ![v33.toNat, v16.toNat, v43.toNat, v53.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.divsi arg0 c1_i32_5
  let c0_i32_6 : BitVec 32 := 0#32
  let v18 : BitVec 1 := Scalar.cmpi .sgt arg0 c0_i32_6
  let v19 : BitVec 32 := Scalar.extui v18
  let c0_i32_7 : BitVec 32 := 0#32
  let v20 : BitVec 1 := Scalar.cmpi .slt arg0 c0_i32_7
  let v21 : BitVec 32 := Scalar.extui v20
  let v22 : BitVec 32 := Scalar.subi v19 v21
  let c0_i32_8 : BitVec 32 := 0#32
  let v23 : BitVec 1 := Scalar.cmpi .sgt c1_i32_5 c0_i32_8
  let v24 : BitVec 32 := Scalar.extui v23
  let c0_i32_9 : BitVec 32 := 0#32
  let v25 : BitVec 1 := Scalar.cmpi .slt c1_i32_5 c0_i32_9
  let v26 : BitVec 32 := Scalar.extui v25
  let v27 : BitVec 32 := Scalar.subi v24 v26
  let v28 : BitVec 1 := Scalar.cmpi .ne v22 v27
  let v29 : BitVec 32 := Scalar.remsi arg0 c1_i32_5
  let c0_i32_10 : BitVec 32 := 0#32
  let v30 : BitVec 1 := Scalar.cmpi .ne v29 c0_i32_10
  let v31 : BitVec 1 := Scalar.andi v28 v30
  let c1_i32_11 : BitVec 32 := 1#32
  let v32 : BitVec 32 := Scalar.subi v17 c1_i32_11
  let v33 : BitVec 32 := Scalar.select v31 v32 v17
  let c1_i32_12 : BitVec 32 := 1#32
  let c0_i32_13 : BitVec 32 := 0#32
  let v34 : BitVec 1 := Scalar.cmpi .eq c1_i32_12 c0_i32_13
  let c1_i32_14 : BitVec 32 := 1#32
  let v35 : BitVec 32 := Scalar.select v34 c1_i32_14 c1_i32_12
  let v36 : BitVec 32 := Scalar.remsi arg0 v35
  let c0_i32_15 : BitVec 32 := 0#32
  let v37 : BitVec 1 := Scalar.cmpi .ne v36 c0_i32_15
  let c0_i32_16 : BitVec 32 := 0#32
  let v38 : BitVec 1 := Scalar.cmpi .slt v36 c0_i32_16
  let c0_i32_17 : BitVec 32 := 0#32
  let v39 : BitVec 1 := Scalar.cmpi .slt v35 c0_i32_17
  let v40 : BitVec 1 := Scalar.xori v38 v39
  let v41 : BitVec 1 := Scalar.andi v40 v37
  let v42 : BitVec 32 := Scalar.addi v36 v35
  let v43 : BitVec 32 := Scalar.select v41 v42 v36
  let c1_i32_18 : BitVec 32 := 1#32
  let c0_i32_19 : BitVec 32 := 0#32
  let v44 : BitVec 1 := Scalar.cmpi .eq c1_i32_18 c0_i32_19
  let c1_i32_20 : BitVec 32 := 1#32
  let v45 : BitVec 32 := Scalar.select v44 c1_i32_20 c1_i32_18
  let v46 : BitVec 32 := Scalar.remsi arg1 v45
  let c0_i32_21 : BitVec 32 := 0#32
  let v47 : BitVec 1 := Scalar.cmpi .ne v46 c0_i32_21
  let c0_i32_22 : BitVec 32 := 0#32
  let v48 : BitVec 1 := Scalar.cmpi .slt v46 c0_i32_22
  let c0_i32_23 : BitVec 32 := 0#32
  let v49 : BitVec 1 := Scalar.cmpi .slt v45 c0_i32_23
  let v50 : BitVec 1 := Scalar.xori v48 v49
  let v51 : BitVec 1 := Scalar.andi v50 v47
  let v52 : BitVec 32 := Scalar.addi v46 v45
  let v53 : BitVec 32 := Scalar.select v51 v52 v46
  let c0_i32_24 : BitVec 32 := 0#32
  ![v33.toNat, v16.toNat, v43.toNat, v53.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== DwRefIdeal.lean ====
abbrev S2048x2048 : Shape := ⟨2, ![2048, 2048]⟩
abbrev S2048x5632 : Shape := ⟨2, ![2048, 5632]⟩
abbrev S_ : Shape := ⟨0, ![]⟩
abbrev S5632x2048 : Shape := ⟨2, ![5632, 2048]⟩
abbrev S2x1024x4x1408 : Shape := ⟨4, ![2, 1024, 4, 1408]⟩
abbrev S2x4x1024x1408 : Shape := ⟨4, ![2, 4, 1024, 1408]⟩

abbrev nBuf : Space → Nat
  | .hbm => 17
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x5632, .f32⟩
  | .hbm, ⟨2, _⟩ => ⟨S2048x5632, .f32⟩
  | .hbm, ⟨3, _⟩ => ⟨S_, .f32⟩
  | .hbm, ⟨4, _⟩ => ⟨S2048x5632, .f32⟩
  | .hbm, ⟨5, _⟩ => ⟨S2048x5632, .f32⟩
  | .hbm, ⟨6, _⟩ => ⟨S2048x5632, .f32⟩
  | .hbm, ⟨7, _⟩ => ⟨S5632x2048, .f32⟩
  | .hbm, ⟨8, _⟩ => ⟨S2048x5632, .f32⟩
  | .hbm, ⟨9, _⟩ => ⟨S5632x2048, .f32⟩
  | .hbm, ⟨10, _⟩ => ⟨S2048x5632, .f32⟩
  | .hbm, ⟨11, _⟩ => ⟨S2x1024x4x1408, .f32⟩
  | .hbm, ⟨12, _⟩ => ⟨S2x4x1024x1408, .f32⟩
  | .hbm, ⟨13, _⟩ => ⟨S2x4x1024x1408, .bf16⟩
  | .hbm, ⟨14, _⟩ => ⟨S2x1024x4x1408, .f32⟩
  | .hbm, ⟨15, _⟩ => ⟨S2x4x1024x1408, .f32⟩
  | .hbm, ⟨16, _⟩ => ⟨S2x4x1024x1408, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Adam.lean ====
abbrev S1x16x128x128 : Shape := ⟨4, ![1, 16, 128, 128]⟩

abbrev nBuf : Space → Nat
  | .hbm => 7
  | .vmem => 7
  | .smem => 0
  | _ => 0

abbrev bufTy : (tb : Table) → Fin (tcTables nBuf tb) → BufTy
  | .hbm, ⟨0, _⟩ => ⟨S1x16x128x128, .f32⟩
  | .hbm, ⟨1, _⟩ => ⟨S1x16x128x128, .f32⟩
  | .hbm, ⟨2, _⟩ => ⟨S1x16x128x128, .f32⟩
  | .hbm, ⟨3, _⟩ => ⟨S1x16x128x128, .f32⟩
  | .hbm, ⟨4, _⟩ => ⟨S1x16x128x128, .f32⟩
  | .hbm, ⟨5, _⟩ => ⟨S1x16x128x128, .f32⟩
  | .hbm, ⟨6, _⟩ => ⟨S1x16x128x128, .f32⟩
  | .local _ .vmem, ⟨0, _⟩ => ⟨S1x16x128x128, .f32⟩
  | .local _ .vmem, ⟨1, _⟩ => ⟨S1x16x128x128, .f32⟩
  | .local _ .vmem, ⟨2, _⟩ => ⟨S1x16x128x128, .f32⟩
  | .local _ .vmem, ⟨3, _⟩ => ⟨S1x16x128x128, .f32⟩
  | .local _ .vmem, ⟨4, _⟩ => ⟨S1x16x128x128, .f32⟩
  | .local _ .vmem, ⟨5, _⟩ => ⟨S1x16x128x128, .f32⟩
  | .local _ .vmem, ⟨6, _⟩ => ⟨S1x16x128x128, .f32⟩
  | _, _ => ⟨S1x16x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1x16x128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x16x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x16x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x16x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x16x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x16x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x16x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AdamRefIdeal.lean ====
abbrev S1x16x128x128 : Shape := ⟨4, ![1, 16, 128, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x16x128x128, .f32⟩
  | .hbm, ⟨1, _⟩ => ⟨S1x16x128x128, .f32⟩
  | .hbm, ⟨2, _⟩ => ⟨S1x16x128x128, .f32⟩
  | .hbm, ⟨3, _⟩ => ⟨S1x16x128x128, .f32⟩
  | .hbm, ⟨4, _⟩ => ⟨S_, .f32⟩
  | .hbm, ⟨5, _⟩ => ⟨S1x16x128x128, .f32⟩
  | .hbm, ⟨6, _⟩ => ⟨S1x16x128x128, .f32⟩
  | .hbm, ⟨7, _⟩ => ⟨S_, .f32⟩
  | .hbm, ⟨8, _⟩ => ⟨S1x16x128x128, .f32⟩
  | .hbm, ⟨9, _⟩ => ⟨S1x16x128x128, .f32⟩
  | .hbm, ⟨10, _⟩ => ⟨S1x16x128x128, .f32⟩
  | .hbm, ⟨11, _⟩ => ⟨S_, .f32⟩
  | .hbm, ⟨12, _⟩ => ⟨S1x16x128x128, .f32⟩
  | .hbm, ⟨13, _⟩ => ⟨S1x16x128x128, .f32⟩
  | .hbm, ⟨14, _⟩ => ⟨S1x16x128x128, .f32⟩
  | .hbm, ⟨15, _⟩ => ⟨S_, .f32⟩
  | .hbm, ⟨16, _⟩ => ⟨S1x16x128x128, .f32⟩
  | .hbm, ⟨17, _⟩ => ⟨S1x16x128x128, .f32⟩
  | .hbm, ⟨18, _⟩ => ⟨S1x16x128x128, .f32⟩
  | .hbm, ⟨19, _⟩ => ⟨S_, .f32⟩
  | .hbm, ⟨20, _⟩ => ⟨S1x16x128x128, .f32⟩
  | .hbm, ⟨21, _⟩ => ⟨S1x16x128x128, .f32⟩
  | .hbm, ⟨22, _⟩ => ⟨S_, .f32⟩
  | .hbm, ⟨23, _⟩ => ⟨S1x16x128x128, .f32⟩
  | .hbm, ⟨24, _⟩ => ⟨S1x16x128x128, .f32⟩
  | .hbm, ⟨25, _⟩ => ⟨S1x16x128x128, .f32⟩
  | .hbm, ⟨26, _⟩ => ⟨S_, .f32⟩
  | .hbm, ⟨27, _⟩ => ⟨S1x16x128x128, .f32⟩
  | .hbm, ⟨28, _⟩ => ⟨S1x16x128x128, .f32⟩
  | .hbm, ⟨29, _⟩ => ⟨S1x16x128x128, .f32⟩
  | .hbm, ⟨30, _⟩ => ⟨S_, .f32⟩
  | .hbm, ⟨31, _⟩ => ⟨S1x16x128x128, .f32⟩
  | .hbm, ⟨32, _⟩ => ⟨S1x16x128x128, .f32⟩
  | .hbm, ⟨33, _⟩ => ⟨S1x16x128x128, .f32⟩
  | .hbm, ⟨34, _⟩ => ⟨S_, .f32⟩
  | .hbm, ⟨35, _⟩ => ⟨S1x16x128x128, .f32⟩
  | .hbm, ⟨36, _⟩ => ⟨S1x16x128x128, .f32⟩
  | _, _ => ⟨S1x16x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Cast.lean ====
abbrev S2x2048x1408 : Shape := ⟨3, ![2, 2048, 1408]⟩
abbrev S2x1024x1408 : Shape := ⟨3, ![2, 1024, 1408]⟩
abbrev S1x512x1408 : Shape := ⟨3, ![1, 512, 1408]⟩
abbrev S512x1408 : Shape := ⟨2, ![512, 1408]⟩

abbrev nBuf : Space → Nat
  | .hbm => 2
  | .vmem => 4
  | .smem => 0
  | _ => 0

abbrev bufTy : (tb : Table) → Fin (tcTables nBuf tb) → BufTy
  | .hbm, ⟨0, _⟩ => ⟨S2x2048x1408, .f32⟩
  | .hbm, ⟨1, _⟩ => ⟨S2x1024x1408, .bf16⟩
  | .local _ .vmem, ⟨0, _⟩ => ⟨S1x512x1408, .f32⟩
  | .local _ .vmem, ⟨1, _⟩ => ⟨S1x512x1408, .f32⟩
  | .local _ .vmem, ⟨2, _⟩ => ⟨S1x512x1408, .bf16⟩
  | .local _ .vmem, ⟨3, _⟩ => ⟨S1x512x1408, .bf16⟩
  | _, _ => ⟨S2x2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== CastRefIdeal.lean ====
abbrev S2x2048x1408 : Shape := ⟨3, ![2, 2048, 1408]⟩
abbrev S1x2048x1408 : Shape := ⟨3, ![1, 2048, 1408]⟩
abbrev S2048x1408 : Shape := ⟨2, ![2048, 1408]⟩
abbrev S2x1024x1408 : Shape := ⟨3, ![2, 1024, 1408]⟩

abbrev nBuf : Space → Nat
  | .hbm => 5
  | .vmem => 0
  | .smem => 0
  | _ => 0

abbrev bufTy : (tb : Table) → Fin (tcTables nBuf tb) → BufTy
  | .hbm, ⟨0, _⟩ => ⟨S2x2048x1408, .f32⟩
  | .hbm, ⟨1, _⟩ => ⟨S1x2048x1408, .f32⟩
  | .hbm, ⟨2, _⟩ => ⟨S2048x1408, .f32⟩
  | .hbm, ⟨3, _⟩ => ⟨S2x1024x1408, .f32⟩
  | .hbm, ⟨4, _⟩ => ⟨S2x1024x1408, .bf16⟩
  | _, _ => ⟨S2x2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩

abbrev nD : Nat := 1
abbrev τ : Topo := Topo.v7x

variable {F : FTy → Type} [FloatOps F]
-- ==== ChipSum.lean ====
abbrev S2x4x1024x1408 : Shape := ⟨4, ![2, 4, 1024, 1408]⟩
abbrev S4x1024x1408 : Shape := ⟨3, ![4, 1024, 1408]⟩
abbrev S1 : Shape := ⟨1, ![1]⟩
abbrev S_ : Shape := ⟨0, ![]⟩
abbrev S8x128 : Shape := ⟨2, ![8, 128]⟩
abbrev S1x1x512x1408 : Shape := ⟨4, ![1, 1, 512, 1408]⟩
abbrev S1x512x1408 : Shape := ⟨3, ![1, 512, 1408]⟩
abbrev S512x1408 : Shape := ⟨2, ![512, 1408]⟩

abbrev nBuf : Space → Nat
  | .hbm => 5
  | .vmem => 6
  | .smem => 1
  | _ => 0

abbrev bufTy : (tb : Table) → Fin (tcTables nBuf tb) → BufTy
  | .hbm, ⟨0, _⟩ => ⟨S2x4x1024x1408, .bf16⟩
  | .hbm, ⟨1, _⟩ => ⟨S4x1024x1408, .bf16⟩
  | .hbm, ⟨2, _⟩ => ⟨S_, .f32⟩
  | .hbm, ⟨3, _⟩ => ⟨S8x128, .f32⟩
  | .hbm, ⟨4, _⟩ => ⟨S4x1024x1408, .bf16⟩
  | .local _ .vmem, ⟨0, _⟩ => ⟨S1x1x512x1408, .bf16⟩
  | .local _ .vmem, ⟨1, _⟩ => ⟨S1x1x512x1408, .bf16⟩
  | .local _ .vmem, ⟨2, _⟩ => ⟨S1x512x1408, .bf16⟩
  | .local _ .vmem, ⟨3, _⟩ => ⟨S1x512x1408, .bf16⟩
  | .local _ .vmem, ⟨4, _⟩ => ⟨S1x512x1408, .bf16⟩
  | .local _ .vmem, ⟨5, _⟩ => ⟨S1x512x1408, .bf16⟩
  | .local _ .smem, ⟨0, _⟩ => ⟨S1, .i32⟩
  | _, _ => ⟨S2x4x1024x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ChipSumRefIdeal.lean ====
abbrev S2x4x1024x1408 : Shape := ⟨4, ![2, 4, 1024, 1408]⟩
abbrev S4x1024x1408 : Shape := ⟨3, ![4, 1024, 1408]⟩
abbrev S1x4x1024x1408 : Shape := ⟨4, ![1, 4, 1024, 1408]⟩

abbrev nBuf : Space → Nat
  | .hbm => 8
  | .vmem => 0
  | .smem => 0
  | _ => 0

abbrev bufTy : (tb : Table) → Fin (tcTables nBuf tb) → BufTy
  | .hbm, ⟨0, _⟩ => ⟨S2x4x1024x1408, .bf16⟩
  | .hbm, ⟨1, _⟩ => ⟨S4x1024x1408, .bf16⟩
  | .hbm, ⟨2, _⟩ => ⟨S1x4x1024x1408, .bf16⟩
  | .hbm, ⟨3, _⟩ => ⟨S4x1024x1408, .bf16⟩
  | .hbm, ⟨4, _⟩ => ⟨S4x1024x1408, .f32⟩
  | .hbm, ⟨5, _⟩ => ⟨S4x1024x1408, .f32⟩
  | .hbm, ⟨6, _⟩ => ⟨S4x1024x1408, .f32⟩
  | .hbm, ⟨7, _⟩ => ⟨S4x1024x1408, .bf16⟩
  | _, _ => ⟨S2x4x1024x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== PartSum.lean ====
abbrev S4x1024x1408 : Shape := ⟨3, ![4, 1024, 1408]⟩
abbrev S4 : Shape := ⟨1, ![4]⟩
abbrev S_ : Shape := ⟨0, ![]⟩
abbrev S8x128 : Shape := ⟨2, ![8, 128]⟩
abbrev S1024x1408 : Shape := ⟨2, ![1024, 1408]⟩
abbrev S1x512x1408 : Shape := ⟨3, ![1, 512, 1408]⟩
abbrev S1 : Shape := ⟨1, ![1]⟩
abbrev S512x1408 : Shape := ⟨2, ![512, 1408]⟩

abbrev nBuf : Space → Nat
  | .hbm => 5
  | .vmem => 10
  | .smem => 1
  | _ => 0

abbrev bufTy : (tb : Table) → Fin (tcTables nBuf tb) → BufTy
  | .hbm, ⟨0, _⟩ => ⟨S4x1024x1408, .bf16⟩
  | .hbm, ⟨1, _⟩ => ⟨S4x1024x1408, .bf16⟩
  | .hbm, ⟨2, _⟩ => ⟨S_, .f32⟩
  | .hbm, ⟨3, _⟩ => ⟨S8x128, .f32⟩
  | .hbm, ⟨4, _⟩ => ⟨S1024x1408, .f32⟩
  | .local _ .vmem, ⟨0, _⟩ => ⟨S1x512x1408, .bf16⟩
  | .local _ .vmem, ⟨1, _⟩ => ⟨S1x512x1408, .bf16⟩
  | .local _ .vmem, ⟨2, _⟩ => ⟨S1x512x1408, .bf16⟩
  | .local _ .vmem, ⟨3, _⟩ => ⟨S1x512x1408, .bf16⟩
  | .local _ .vmem, ⟨4, _⟩ => ⟨S1x512x1408, .bf16⟩
  | .local _ .vmem, ⟨5, _⟩ => ⟨S1x512x1408, .bf16⟩
  | .local _ .vmem, ⟨6, _⟩ => ⟨S1x512x1408, .bf16⟩
  | .local _ .vmem, ⟨7, _⟩ => ⟨S1x512x1408, .bf16⟩
  | .local _ .vmem, ⟨8, _⟩ => ⟨S512x1408, .f32⟩
  | .local _ .vmem, ⟨9, _⟩ => ⟨S512x1408, .f32⟩
  | .local _ .smem, ⟨0, _⟩ => ⟨S4, .i32⟩
  | _, _ => ⟨S4x1024x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S4_S1_0 : ∀ a, (![0] : Fin 1 → Nat) a + S1.size a ≤ S4.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S4) ![0] S1.size inb_S4_S1_0) numel1_S1
  let c0_i32 : BitVec 32 := 0#32
  let c0_i32_0 : BitVec 32 := 0#32
  ![v0.toNat, arg0.toNat, c0_i32.toNat]

def cc0_transform_1 (inb_S4_S1_1 : ∀ a, (![1] : Fin 1 → Nat) a + S1.size a ≤ S4.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S4) ![1] S1.size inb_S4_S1_1) numel1_S1
  let c0_i32 : BitVec 32 := 0#32
  let c0_i32_0 : BitVec 32 := 0#32
  ![v0.toNat, arg0.toNat, c0_i32.toNat]

def cc0_transform_2 (inb_S4_S1_2 : ∀ a, (![2] : Fin 1 → Nat) a + S1.size a ≤ S4.size a) (numel1_S1 : S1.numel = 1) (pf : pre0.Contents (Elt F)) (i : grid0.Coords) : Fin 3 → Nat :=
  let arg0 : BitVec 32 := BitVec.ofNat 32 (i 0).val
  let c2 : Index := 2#32
  let v0 : BitVec 32 := pf.at 0 (Rect.unit (s := S4) ![2] S1.size inb_S4_S1_2) numel1_S1
  let c0_i32 : BitVec 32 := 0#32
  let c0_i32_0 : BitVec 32 := 0#32
  ![v0.toNat, arg0.toNat, c0_i32.toNat]

def cc0_transform_3 (inb_S4_S1_3 : ∀ a, (![3] : Fin 1 → Nat) a + S1.size a ≤ S4.size a) (numel1_S1 : S1.numel = 1) (pf : pre0.Contents (Elt F)) (i : grid0.Coords) : Fin 3 → Nat :=
  let arg0 : BitVec 32 := BitVec.ofNat 32 (i 0).val
  let c3 : Index := 3#32
  let v0 : BitVec 32 := pf.at 0 (Rect.unit (s := S4) ![3] S1.size inb_S4_S1_3) numel1_S1
  let c0_i32 : BitVec 32 := 0#32
  let c0_i32_0 : BitVec 32 := 0#32
  ![v0.toNat, arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PartSumRefIdeal.lean ====
abbrev S4x1024x1408 : Shape := ⟨3, ![4, 1024, 1408]⟩
abbrev S1x1024x1408 : Shape := ⟨3, ![1, 1024, 1408]⟩
abbrev S1024x1408 : Shape := ⟨2, ![1024, 1408]⟩
abbrev S3x1024x1408 : Shape := ⟨3, ![3, 1024, 1408]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4x1024x1408, .bf16⟩
  | .hbm, ⟨1, _⟩ => ⟨S4x1024x1408, .bf16⟩
  | .hbm, ⟨2, _⟩ => ⟨S1x1024x1408, .bf16⟩
  | .hbm, ⟨3, _⟩ => ⟨S1024x1408, .bf16⟩
  | .hbm, ⟨4, _⟩ => ⟨S1024x1408, .f32⟩
  | .hbm, ⟨5, _⟩ => ⟨S3x1024x1408, .bf16⟩
  | .hbm, ⟨6, _⟩ => ⟨S3x1024x1408, .f32⟩
  | .hbm, ⟨7, _⟩ => ⟨S_, .f32⟩
  | .hbm, ⟨8, _⟩ => ⟨S1024x1408, .f32⟩
  | .hbm, ⟨9, _⟩ => ⟨S1024x1408, .f32⟩
  | _, _ => ⟨S4x1024x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== SliceSum.lean ====
abbrev S8x808x128 : Shape := ⟨3, ![8, 808, 128]⟩
abbrev S_ : Shape := ⟨0, ![]⟩
abbrev S8x128 : Shape := ⟨2, ![8, 128]⟩
abbrev S808x128 : Shape := ⟨2, ![808, 128]⟩
abbrev S1x808x128 : Shape := ⟨3, ![1, 808, 128]⟩

abbrev nBuf : Space → Nat
  | .hbm => 5
  | .vmem => 3
  | .smem => 0
  | _ => 0

abbrev bufTy : (tb : Table) → Fin (tcTables nBuf tb) → BufTy
  | .hbm, ⟨0, _⟩ => ⟨S8x808x128, .f32⟩
  | .hbm, ⟨1, _⟩ => ⟨S8x808x128, .f32⟩
  | .hbm, ⟨2, _⟩ => ⟨S_, .f32⟩
  | .hbm, ⟨3, _⟩ => ⟨S8x128, .f32⟩
  | .hbm, ⟨4, _⟩ => ⟨S808x128, .f32⟩
  | .local _ .vmem, ⟨0, _⟩ => ⟨S8x808x128, .f32⟩
  | .local _ .vmem, ⟨1, _⟩ => ⟨S8x808x128, .f32⟩
  | .local _ .vmem, ⟨2, _⟩ => ⟨S808x128, .f32⟩
  | _, _ => ⟨S8x808x128, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S8x808x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x808x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S808x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== SliceSumRefIdeal.lean ====
abbrev S8x808x128 : Shape := ⟨3, ![8, 808, 128]⟩
abbrev S1x808x128 : Shape := ⟨3, ![1, 808, 128]⟩
abbrev S808x128 : Shape := ⟨2, ![808, 128]⟩
abbrev S7x808x128 : Shape := ⟨3, ![7, 808, 128]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8x808x128, .f32⟩
  | .hbm, ⟨1, _⟩ => ⟨S8x808x128, .f32⟩
  | .hbm, ⟨2, _⟩ => ⟨S1x808x128, .f32⟩
  | .hbm, ⟨3, _⟩ => ⟨S808x128, .f32⟩
  | .hbm, ⟨4, _⟩ => ⟨S7x808x128, .f32⟩
  | .hbm, ⟨5, _⟩ => ⟨S_, .f32⟩
  | .hbm, ⟨6, _⟩ => ⟨S808x128, .f32⟩
  | .hbm, ⟨7, _⟩ => ⟨S808x128, .f32⟩
  | _, _ => ⟨S8x808x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== AdamBig.lean ====
abbrev S1x2048x1024 : Shape := ⟨3, ![1, 2048, 1024]⟩
abbrev S1024x1024 : Shape := ⟨2, ![1024, 1024]⟩
abbrev S1 : Shape := ⟨1, ![1]⟩
abbrev S_ : Shape := ⟨0, ![]⟩
abbrev S8x128 : Shape := ⟨2, ![8, 128]⟩
abbrev S1x512x1024 : Shape := ⟨3, ![1, 512, 1024]⟩
abbrev S512x1024 : Shape := ⟨2, ![512, 1024]⟩

abbrev nBuf : Space → Nat
  | .hbm => 11
  | .vmem => 18
  | .smem => 1
  | _ => 0

abbrev bufTy : (tb : Table) → Fin (tcTables nBuf tb) → BufTy
  | .hbm, ⟨0, _⟩ => ⟨S1x2048x1024, .f32⟩
  | .hbm, ⟨1, _⟩ => ⟨S1x2048x1024, .f32⟩
  | .hbm, ⟨2, _⟩ => ⟨S1x2048x1024, .f32⟩
  | .hbm, ⟨3, _⟩ => ⟨S1024x1024, .f32⟩
  | .hbm, ⟨4, _⟩ => ⟨S1024x1024, .f32⟩
  | .hbm, ⟨5, _⟩ => ⟨S_, .f32⟩
  | .hbm, ⟨6, _⟩ => ⟨S8x128, .f32⟩
  | .hbm, ⟨7, _⟩ => ⟨S1x2048x1024, .f32⟩
  | .hbm, ⟨8, _⟩ => ⟨S1x2048x1024, .f32⟩
  | .hbm, ⟨9, _⟩ => ⟨S1x2048x1024, .f32⟩
  | .hbm, ⟨10, _⟩ => ⟨S1x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x512x1024, .f32⟩
  | .local _ .vmem, ⟨11, _⟩ => ⟨S1x512x1024, .f32⟩
  | .local _ .vmem, ⟨12, _⟩ => ⟨S1x512x1024, .f32⟩
  | .local _ .vmem, ⟨13, _⟩ => ⟨S1x512x1024, .f32⟩
  | .local _ .vmem, ⟨14, _⟩ => ⟨S1x512x1024, .f32⟩
  | .local _ .vmem, ⟨15, _⟩ => ⟨S1x512x1024, .f32⟩
  | .local _ .vmem, ⟨16, _⟩ => ⟨S1x512x1024, .f32⟩
  | .local _ .vmem, ⟨17, _⟩ => ⟨S1x512x1024, .f32⟩
  | .local _ .smem, ⟨0, _⟩ => ⟨S1, .i32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_3 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let v_true : BitVec 1 := 1#1
  let v2 : BitVec 1 := Scalar.xori v1 v_true
  let true_0 : BitVec 1 := 1#1
  let v3 : BitVec 1 := Scalar.xori v2 true_0
  let c0_i32 : BitVec 32 := 0#32
  let v4 : BitVec 32 := Scalar.select v3 arg1 c0_i32
  let c0_i32_1 : BitVec 32 := 0#32
  let c0_i32_2 : BitVec 32 := 0#32
  ![v4.toNat, c0_i32_1.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let v_false : BitVec 1 := 0#1
  let v2 : BitVec 1 := Scalar.xori v1 v_false
  let v_true : BitVec 1 := 1#1
  let v3 : BitVec 1 := Scalar.xori v2 v_true
  let c0_i32 : BitVec 32 := 0#32
  let v4 : BitVec 32 := Scalar.select v3 arg1 c0_i32
  let c0_i32_0 : BitVec 32 := 0#32
  let c0_i32_1 : BitVec 32 := 0#32
  ![v4.toNat, c0_i32_0.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_9 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamBigRefIdeal.lean ====
abbrev S1x2048x1024 : Shape := ⟨3, ![1, 2048, 1024]⟩
abbrev S1024x1024 : Shape := ⟨2, ![1024, 1024]⟩
abbrev S2048x1024 : Shape := ⟨2, ![2048, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x2048x1024, .f32⟩
  | .hbm, ⟨2, _⟩ => ⟨S1x2048x1024, .f32⟩
  | .hbm, ⟨3, _⟩ => ⟨S1024x1024, .f32⟩
  | .hbm, ⟨4, _⟩ => ⟨S1024x1024, .f32⟩
  | .hbm, ⟨5, _⟩ => ⟨S2048x1024, .f32⟩
  | .hbm, ⟨6, _⟩ => ⟨S1x2048x1024, .f32⟩
  | .hbm, ⟨7, _⟩ => ⟨S_, .f32⟩
  | .hbm, ⟨8, _⟩ => ⟨S1x2048x1024, .f32⟩
  | .hbm, ⟨9, _⟩ => ⟨S1x2048x1024, .f32⟩
  | .hbm, ⟨10, _⟩ => ⟨S_, .f32⟩
  | .hbm, ⟨11, _⟩ => ⟨S1x2048x1024, .f32⟩
  | .hbm, ⟨12, _⟩ => ⟨S1x2048x1024, .f32⟩
  | .hbm, ⟨13, _⟩ => ⟨S1x2048x1024, .f32⟩
  | .hbm, ⟨14, _⟩ => ⟨S_, .f32⟩
  | .hbm, ⟨15, _⟩ => ⟨S1x2048x1024, .f32⟩
  | .hbm, ⟨16, _⟩ => ⟨S1x2048x1024, .f32⟩
  | .hbm, ⟨17, _⟩ => ⟨S1x2048x1024, .f32⟩
  | .hbm, ⟨18, _⟩ => ⟨S_, .f32⟩
  | .hbm, ⟨19, _⟩ => ⟨S1x2048x1024, .f32⟩
  | .hbm, ⟨20, _⟩ => ⟨S1x2048x1024, .f32⟩
  | .hbm, ⟨21, _⟩ => ⟨S1x2048x1024, .f32⟩
  | .hbm, ⟨22, _⟩ => ⟨S_, .f32⟩
  | .hbm, ⟨23, _⟩ => ⟨S1x2048x1024, .f32⟩
  | .hbm, ⟨24, _⟩ => ⟨S1x2048x1024, .f32⟩
  | .hbm, ⟨25, _⟩ => ⟨S_, .f32⟩
  | .hbm, ⟨26, _⟩ => ⟨S1x2048x1024, .f32⟩
  | .hbm, ⟨27, _⟩ => ⟨S1x2048x1024, .f32⟩
  | .hbm, ⟨28, _⟩ => ⟨S1x2048x1024, .f32⟩
  | .hbm, ⟨29, _⟩ => ⟨S_, .f32⟩
  | .hbm, ⟨30, _⟩ => ⟨S1x2048x1024, .f32⟩
  | .hbm, ⟨31, _⟩ => ⟨S1x2048x1024, .f32⟩
  | .hbm, ⟨32, _⟩ => ⟨S1x2048x1024, .f32⟩
  | .hbm, ⟨33, _⟩ => ⟨S_, .f32⟩
  | .hbm, ⟨34, _⟩ => ⟨S1x2048x1024, .f32⟩
  | .hbm, ⟨35, _⟩ => ⟨S1x2048x1024, .f32⟩
  | .hbm, ⟨36, _⟩ => ⟨S1x2048x1024, .f32⟩
  | .hbm, ⟨37, _⟩ => ⟨S_, .f32⟩
  | .hbm, ⟨38, _⟩ => ⟨S1x2048x1024, .f32⟩
  | .hbm, ⟨39, _⟩ => ⟨S1x2048x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Pack.lean ====
abbrev S2x2048 : Shape := ⟨2, ![2, 2048]⟩
abbrev S2048 : Shape := ⟨1, ![2048]⟩
abbrev S1x2048 : Shape := ⟨2, ![1, 2048]⟩
abbrev S1x16x128x128 : Shape := ⟨4, ![1, 16, 128, 128]⟩
abbrev S1x16x128 : Shape := ⟨3, ![1, 16, 128]⟩
abbrev S1x64x128 : Shape := ⟨3, ![1, 64, 128]⟩
abbrev S1x128 : Shape := ⟨2, ![1, 128]⟩
abbrev S1x64x16x128 : Shape := ⟨4, ![1, 64, 16, 128]⟩
abbrev S1x16x64x128 : Shape := ⟨4, ![1, 16, 64, 128]⟩
abbrev S4096 : Shape := ⟨1, ![4096]⟩
abbrev S262144 : Shape := ⟨1, ![262144]⟩
abbrev S8192 : Shape := ⟨1, ![8192]⟩
abbrev S128 : Shape := ⟨1, ![128]⟩
abbrev S131072 : Shape := ⟨1, ![131072]⟩
abbrev S825472 : Shape := ⟨1, ![825472]⟩
abbrev S_ : Shape := ⟨0, ![]⟩
abbrev S827392 : Shape := ⟨1, ![827392]⟩
abbrev S6464x128 : Shape := ⟨2, ![6464, 128]⟩
abbrev S8x808x128 : Shape := ⟨3, ![8, 808, 128]⟩

abbrev nBuf : Space → Nat
  | .hbm => 69
  | .vmem => 0
  | .smem => 0
  | _ => 0

abbrev bufTy : (tb : Table) → Fin (tcTables nBuf tb) → BufTy
  | .hbm, ⟨0, _⟩ => ⟨S2x2048, .f32⟩
  | .hbm, ⟨1, _⟩ => ⟨S2x2048, .f32⟩
  | .hbm, ⟨2, _⟩ => ⟨S2x2048, .f32⟩
  | .hbm, ⟨3, _⟩ => ⟨S2048, .f32⟩
  | .hbm, ⟨4, _⟩ => ⟨S1x2048, .f32⟩
  | .hbm, ⟨5, _⟩ => ⟨S1x2048, .f32⟩
  | .hbm, ⟨6, _⟩ => ⟨S1x16x128x128, .f32⟩
  | .hbm, ⟨7, _⟩ => ⟨S1x16x128, .f32⟩
  | .hbm, ⟨8, _⟩ => ⟨S1x64x128, .f32⟩
  | .hbm, ⟨9, _⟩ => ⟨S1x64x128, .f32⟩
  | .hbm, ⟨10, _⟩ => ⟨S1x128, .f32⟩
  | .hbm, ⟨11, _⟩ => ⟨S1x64x16x128, .f32⟩
  | .hbm, ⟨12, _⟩ => ⟨S1x64x16x128, .f32⟩
  | .hbm, ⟨13, _⟩ => ⟨S1x16x64x128, .f32⟩
  | .hbm, ⟨14, _⟩ => ⟨S1x16x64x128, .f32⟩
  | .hbm, ⟨15, _⟩ => ⟨S1x2048, .f32⟩
  | .hbm, ⟨16, _⟩ => ⟨S4096, .f32⟩
  | .hbm, ⟨17, _⟩ => ⟨S4096, .f32⟩
  | .hbm, ⟨18, _⟩ => ⟨S4096, .f32⟩
  | .hbm, ⟨19, _⟩ => ⟨S2048, .f32⟩
  | .hbm, ⟨20, _⟩ => ⟨S2048, .f32⟩
  | .hbm, ⟨21, _⟩ => ⟨S262144, .f32⟩
  | .hbm, ⟨22, _⟩ => ⟨S2048, .f32⟩
  | .hbm, ⟨23, _⟩ => ⟨S8192, .f32⟩
  | .hbm, ⟨24, _⟩ => ⟨S8192, .f32⟩
  | .hbm, ⟨25, _⟩ => ⟨S128, .f32⟩
  | .hbm, ⟨26, _⟩ => ⟨S131072, .f32⟩
  | .hbm, ⟨27, _⟩ => ⟨S131072, .f32⟩
  | .hbm, ⟨28, _⟩ => ⟨S131072, .f32⟩
  | .hbm, ⟨29, _⟩ => ⟨S131072, .f32⟩
  | .hbm, ⟨30, _⟩ => ⟨S2048, .f32⟩
  | .hbm, ⟨31, _⟩ => ⟨S825472, .f32⟩
  | .hbm, ⟨32, _⟩ => ⟨S_, .i32⟩
  | .hbm, ⟨33, _⟩ => ⟨S_, .f32⟩
  | .hbm, ⟨34, _⟩ => ⟨S827392, .f32⟩
  | .hbm, ⟨35, _⟩ => ⟨S6464x128, .f32⟩
  | .hbm, ⟨36, _⟩ => ⟨S8x808x128, .f32⟩
  | .hbm, ⟨37, _⟩ => ⟨S827392, .f32⟩
  | .hbm, ⟨38, _⟩ => ⟨S4096, .f32⟩
  | .hbm, ⟨39, _⟩ => ⟨S2x2048, .f32⟩
  | .hbm, ⟨40, _⟩ => ⟨S4096, .f32⟩
  | .hbm, ⟨41, _⟩ => ⟨S2x2048, .f32⟩
  | .hbm, ⟨42, _⟩ => ⟨S4096, .f32⟩
  | .hbm, ⟨43, _⟩ => ⟨S2x2048, .f32⟩
  | .hbm, ⟨44, _⟩ => ⟨S2048, .f32⟩
  | .hbm, ⟨45, _⟩ => ⟨S2048, .f32⟩
  | .hbm, ⟨46, _⟩ => ⟨S1x2048, .f32⟩
  | .hbm, ⟨47, _⟩ => ⟨S2048, .f32⟩
  | .hbm, ⟨48, _⟩ => ⟨S1x2048, .f32⟩
  | .hbm, ⟨49, _⟩ => ⟨S262144, .f32⟩
  | .hbm, ⟨50, _⟩ => ⟨S1x16x128x128, .f32⟩
  | .hbm, ⟨51, _⟩ => ⟨S2048, .f32⟩
  | .hbm, ⟨52, _⟩ => ⟨S1x16x128, .f32⟩
  | .hbm, ⟨53, _⟩ => ⟨S8192, .f32⟩
  | .hbm, ⟨54, _⟩ => ⟨S1x64x128, .f32⟩
  | .hbm, ⟨55, _⟩ => ⟨S8192, .f32⟩
  | .hbm, ⟨56, _⟩ => ⟨S1x64x128, .f32⟩
  | .hbm, ⟨57, _⟩ => ⟨S128, .f32⟩
  | .hbm, ⟨58, _⟩ => ⟨S1x128, .f32⟩
  | .hbm, ⟨59, _⟩ => ⟨S131072, .f32⟩
  | .hbm, ⟨60, _⟩ => ⟨S1x64x16x128, .f32⟩
  | .hbm, ⟨61, _⟩ => ⟨S131072, .f32⟩
  | .hbm, ⟨62, _⟩ => ⟨S1x64x16x128, .f32⟩
  | .hbm, ⟨63, _⟩ => ⟨S131072, .f32⟩
  | .hbm, ⟨64, _⟩ => ⟨S1x16x64x128, .f32⟩
  | .hbm, ⟨65, _⟩ => ⟨S131072, .f32⟩
  | .hbm, ⟨66, _⟩ => ⟨S1x16x64x128, .f32⟩
  | .hbm, ⟨67, _⟩ => ⟨S2048, .f32⟩
  | .hbm, ⟨68, _⟩ => ⟨S1x2048, .f32⟩
  | _, _ => ⟨S2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c : Ref sig .tc := ⟨.hbm, 32, rfl⟩
abbrev main_call0_v0 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩

abbrev nD : Nat := 1
abbrev τ : Topo := Topo.v7x

variable {F : FTy → Type} [FloatOps F]
-- ==== PackRefIdeal.lean ====
abbrev S2x2048 : Shape := ⟨2, ![2, 2048]⟩
abbrev S2048 : Shape := ⟨1, ![2048]⟩
abbrev S1x2048 : Shape := ⟨2, ![1, 2048]⟩
abbrev S1x16x128x128 : Shape := ⟨4, ![1, 16, 128, 128]⟩
abbrev S1x16x128 : Shape := ⟨3, ![1, 16, 128]⟩
abbrev S1x64x128 : Shape := ⟨3, ![1, 64, 128]⟩
abbrev S1x128 : Shape := ⟨2, ![1, 128]⟩
abbrev S1x64x16x128 : Shape := ⟨4, ![1, 64, 16, 128]⟩
abbrev S1x16x64x128 : Shape := ⟨4, ![1, 16, 64, 128]⟩

abbrev nBuf : Space → Nat
  | .hbm => 16
  | .vmem => 0
  | .smem => 0
  | _ => 0

abbrev bufTy : (tb : Table) → Fin (tcTables nBuf tb) → BufTy
  | .hbm, ⟨0, _⟩ => ⟨S2x2048, .f32⟩
  | .hbm, ⟨1, _⟩ => ⟨S2x2048, .f32⟩
  | .hbm, ⟨2, _⟩ => ⟨S2x2048, .f32⟩
  | .hbm, ⟨3, _⟩ => ⟨S2048, .f32⟩
  | .hbm, ⟨4, _⟩ => ⟨S1x2048, .f32⟩
  | .hbm, ⟨5, _⟩ => ⟨S1x2048, .f32⟩
  | .hbm, ⟨6, _⟩ => ⟨S1x16x128x128, .f32⟩
  | .hbm, ⟨7, _⟩ => ⟨S1x16x128, .f32⟩
  | .hbm, ⟨8, _⟩ => ⟨S1x64x128, .f32⟩
  | .hbm, ⟨9, _⟩ => ⟨S1x64x128, .f32⟩
  | .hbm, ⟨10, _⟩ => ⟨S1x128, .f32⟩
  | .hbm, ⟨11, _⟩ => ⟨S1x64x16x128, .f32⟩
  | .hbm, ⟨12, _⟩ => ⟨S1x64x16x128, .f32⟩
  | .hbm, ⟨13, _⟩ => ⟨S1x16x64x128, .f32⟩
  | .hbm, ⟨14, _⟩ => ⟨S1x16x64x128, .f32⟩
  | .hbm, ⟨15, _⟩ => ⟨S1x2048, .f32⟩
  | _, _ => ⟨S2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩

abbrev nD : Nat := 1
abbrev τ : Topo := Topo.v7x

variable {F : FTy → Type} [FloatOps F]
-- ==== Proof.Real.lean ====
/- Facts about the extended reals that every call below uses: literals, the logistic gate, arithmetic on finite values. -/
module

public import Idealize.ShloMosaic.Lib.Pointwise
public import Idealize.ShloMosaic.Lib.Pipeline.ValueKit
public import Idealize.ShloMosaic.Lib.ReduceAll

@[expose] public section

noncomputable section

open Idealize.ShloMosaic

namespace Cert.Fin

theorem lit_half : Ideal.ofBits .f32 0x3F000000#32 = (((1 : ℝ) / 2 : ℝ) : EReal) := by
  simp [Ideal.ofBits, Ideal.ieee, -EReal.coe_mul]; norm_num

/-- Half a tangent of half the argument, plus one half, is the logistic function: on the reals an identity of exponentials. -/
theorem half_tanh (r : ℝ) : 1 / 2 * Real.tanh (1 / 2 * r) + 1 / 2 = 1 / (1 + Real.exp (-r)) := by
  have e : Real.exp (-(1 / 2 * r)) ≠ 0 := (Real.exp_pos _).ne'
  have h : Real.exp (-r) = Real.exp (-(1 / 2 * r)) * Real.exp (-(1 / 2 * r)) := by
    rw [← Real.exp_add]; congr 1; ring
  have h1 : Real.exp (1 / 2 * r) = (Real.exp (-(1 / 2 * r)))⁻¹ := by rw [Real.exp_neg, inv_inv]
  have p := Real.exp_pos (-(1 / 2 * r))
  rw [Real.tanh_eq_sinh_div_cosh, Real.sinh_eq, Real.cosh_eq, h, h1]
  have : (Real.exp (-(1 / 2 * r)))⁻¹ + Real.exp (-(1 / 2 * r)) ≠ 0 := by positivity
  have : 1 + Real.exp (-(1 / 2 * r)) * Real.exp (-(1 / 2 * r)) ≠ 0 := by positivity
  field_simp
  ring

theorem tanh_bot : Ideal.tanh ⊥ = ((-1 : ℝ) : EReal) := by
  show (-1 : EReal) = _
  simp
theorem tanh_top : Ideal.tanh ⊤ = ((1 : ℝ) : EReal) := by
  show (1 : EReal) = _
  simp
theorem tanh_coe (r : ℝ) : Ideal.tanh r = ((Real.tanh r : ℝ) : EReal) := rfl
theorem exp_bot : Ideal.exp ⊥ = 0 := rfl
theorem exp_top : Ideal.exp ⊤ = ⊤ := rfl
theorem exp_coe (r : ℝ) : Ideal.exp r = ((Real.exp r : ℝ) : EReal) := rfl
theorem cos_coe (r : ℝ) : Ideal.cos r = ((Real.cos r : ℝ) : EReal) := rfl
theorem sin_coe (r : ℝ) : Ideal.sin r = ((Real.sin r : ℝ) : EReal) := rfl

/-- Division by a real number that is not zero is division of reals. -/
theorem div_coe (a b : ℝ) (h : b ≠ 0) : Ideal.div (a : EReal) (b : EReal) = ((a / b : ℝ) : EReal) := by
  unfold Ideal.div
  rw [if_neg (by exact_mod_cast h), ← EReal.coe_inv, ← EReal.coe_mul, div_eq_mul_inv]

/-- The reciprocal square root of a positive real. -/
theorem rsqrt_coe (r : ℝ) (h : 0 < r) : Ideal.rsqrt (r : EReal) = (((Real.sqrt r)⁻¹ : ℝ) : EReal) := by
  show (if r < 0 then (⊥ : EReal) else if r = 0 then ⊤ else ((Real.sqrt r)⁻¹ : ℝ)) = _
  rw [if_neg (by linarith), if_neg h.ne']

/-- The gate as the kernel spells it is the logistic function on every extended real. -/
theorem gate_eq (x : EReal) :
    Ideal.ofBits .f32 0x3F000000#32 * Ideal.tanh (Ideal.ofBits .f32 0x3F000000#32 * x) + Ideal.ofBits .f32 0x3F000000#32
      = Ideal.div 1 (1 + Ideal.exp (-x)) := by
  rw [lit_half]
  induction x with
  | bot =>
    rw [EReal.coe_mul_bot_of_pos (by norm_num), tanh_bot, EReal.neg_bot, exp_top,
      EReal.add_top_of_ne_bot (by rw [← EReal.coe_one]; exact EReal.coe_ne_bot _), ← EReal.coe_mul, ← EReal.coe_add]
    unfold Ideal.div
    rw [if_neg (by simp), EReal.inv_top, mul_zero]; norm_num
  | top =>
    rw [EReal.coe_mul_top_of_pos (by norm_num), tanh_top, EReal.neg_top, exp_bot, add_zero,
      ← EReal.coe_mul, ← EReal.coe_add, ← EReal.coe_one, div_coe _ _ one_ne_zero]; norm_num
  | coe r =>
    have : 1 + Real.exp (-r) ≠ 0 := by have := Real.exp_pos (-r); positivity
    rw [← EReal.coe_mul, tanh_coe, ← EReal.coe_neg, exp_coe, ← EReal.coe_mul, ← EReal.coe_add, half_tanh,
      ← EReal.coe_one, ← EReal.coe_add, div_coe _ _ this]

/-- An extended real of absolute value below the top is a real number. -/
theorem real_of_abs_lt (x : EReal) (h : max x (-x) < ⊤) : ∃ r : ℝ, x = r := by
  induction x with
  | bot => simp at h
  | top => simp at h
  | coe r => exact ⟨r, rfl⟩

/-- An array whose entries are all below the float infinity in absolute value is an array of real numbers. -/
theorem reals_of_all {s t u : Shape} {axes : List (Fin s.rank)} [Subsingleton t.Idx] (x c : FVec Ideal s .f32)
    (hc : ∀ i, c i = Ideal.ofBits .f32 0x7F800000#32) (init : u.Idx → BitVec 1) (h : s.ReducesTo axes t) (hu : 0 < u.numel) (j : t.Idx)
    (e : Host.reduce IntOp.andi (cmpf .olt (Host.absf x) c) init h hu j = 1#1) : ∃ r : s.Idx → ℝ, x = fun i => (r i : EReal) := by
  have h1 : ∀ i, ∃ r : ℝ, x i = r := fun i => by
    have := Host.reduce_andi_all _ init h hu j e i
    refine real_of_abs_lt (x i) ?_
    have e2 : Ideal.cmp .olt (max (x i) (-(x i))) (c i) = 1#1 := this
    rw [hc, show Ideal.ofBits .f32 0x7F800000#32 = ⊤ from by simp [Ideal.ofBits, Ideal.ieee]] at e2
    unfold Ideal.cmp at e2
    by_contra hn
    simp [hn] at e2
  choose r hr using h1
  exact ⟨r, funext hr⟩

theorem lit_2048 : Ideal.ofBits .f32 0x45000000#32 = ((2048 : ℝ) : EReal) := by
  simp [Ideal.ofBits, Ideal.ieee, -EReal.coe_mul]; norm_num
theorem lit_neg_half : Ideal.ofBits .f32 0xBF000000#32 = ((-(1 / 2) : ℝ) : EReal) := by
  simp [Ideal.ofBits, Ideal.ieee, -EReal.coe_mul]; norm_num

/-- The small number every norm adds under its root: the rational the float word denotes. -/
def eps : ℝ := 8796093 / 2 ^ 43
theorem eps_pos : 0 < eps := by unfold eps; positivity
theorem lit_eps : Ideal.ofBits .f32 0x358637BD#32 = (eps : EReal) := by
  simp [Ideal.ofBits, Ideal.ieee, eps, -EReal.coe_mul]; norm_num

/-- A sum of real numbers in the extended reals is the sum of the reals. -/
theorem sum_coe {n : ℕ} (f : Fin n → ℝ) : ∑ k, ((f k : ℝ) : EReal) = ((∑ k, f k : ℝ) : EReal) := (map_sum (⟨⟨Real.toEReal, EReal.coe_zero⟩, EReal.coe_add⟩ : ℝ →+ EReal) f Finset.univ).symm

theorem sub_coe (a b : ℝ) : (a : EReal) - b = ((a - b : ℝ) : EReal) := (EReal.coe_sub a b).symm

/-- The mean square plus the small number is positive. -/
theorem ms_pos {n : ℕ} (f : Fin n → ℝ) : 0 < (∑ k, f k * f k) / 2048 + eps :=
  add_pos_of_nonneg_of_pos (div_nonneg (Finset.sum_nonneg fun k _ => mul_self_nonneg (f k)) (by norm_num)) eps_pos

/-- The inverse root squared, and divided by what is under the root. -/
theorem root_div {s : ℝ} (h : 0 < s) : (Real.sqrt s)⁻¹ / s = (Real.sqrt s)⁻¹ * (Real.sqrt s)⁻¹ * (Real.sqrt s)⁻¹ := by
  have h1 : Real.sqrt s ≠ 0 := (Real.sqrt_pos.mpr h).ne'
  have h2 : s = Real.sqrt s * Real.sqrt s := (Real.mul_self_sqrt h.le).symm
  have h3 : (Real.sqrt s)⁻¹ / (Real.sqrt s * Real.sqrt s) = (Real.sqrt s)⁻¹ * (Real.sqrt s)⁻¹ * (Real.sqrt s)⁻¹ := by
    field_simp
  calc (Real.sqrt s)⁻¹ / s = (Real.sqrt s)⁻¹ / (Real.sqrt s * Real.sqrt s) := by rw [← h2]
    _ = _ := h3

end Cert.Fin

end
-- ==== Proof.PleValue.lean ====
/- The gradient of the gated embedding: each result array of the call is the reference's array. -/
module

public import proofs.«01_k».proof.Proof.Gen.PleIdeal.Value
public import proofs.«01_k».proof.Proof.Gen.PleRefIdeal.Read
public import proofs.«01_k».proof.Proof.Real
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.PleIdeal.Arr
open Cert.PleIdeal Cert.PleIdeal.Gen
variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] :=
  (by decide +kernel : ∀ t : Fin grid0.N, _)

/-- The saved gate, which the host lines compute before the call, is the logistic function of the pre-activation. -/
theorem gate (c : Dev nD) (i : S2048x2048.Idx) : V m c main_v7 i
    = Ideal.div 1 (1 + Ideal.exp (-(show FVec Ideal S2048x2048 .f32 from m ((c : Thread nD τ).loc main_arg0)) i)) := by
  entry_read
  pointwise
  exact Cert.Fin.gate_eq _

abbrev ref3 (c : Dev nD) := Cert.PleRefIdeal.Read.val_main_v13 (F := Ideal) (m ((c : Thread nD τ).loc main_arg0))
  (m ((c : Thread nD τ).loc main_arg1)) (m ((c : Thread nD τ).loc main_arg2))
abbrev ref4 (c : Dev nD) := Cert.PleRefIdeal.Read.val_main_v14 (F := Ideal) (m ((c : Thread nD τ).loc main_arg0))
  (m ((c : Thread nD τ).loc main_arg2))

theorem point3 (c : Dev nD) (t : Fin cfg0.N) (y : S512x2048.Idx) :
    k0_pay2 (iblk m c 0 t) (iblk m c 1 t) (iblk m c 2 t) y = ref3 m c (((cfg0.win 3).blk t).view.emb y) := by
  unfold ref3
  rw [← Cert.PleRefIdeal.Read.val_main_v13_eq]
  pointwise [k0_pay2]
  rw [mul_assoc]
  simp only [k0_pay1]
  pointwise
  blk_simp [iblk, idx t]
  rw [gate]
  blk_point [V_main_arg1, V_main_arg2, idx t]

theorem point4 (c : Dev nD) (t : Fin cfg0.N) (y : S512x2048.Idx) :
    k0_pay3 (iblk m c 0 t) (iblk m c 2 t) y = ref4 m c (((cfg0.win 4).blk t).view.emb y) := by
  unfold ref4
  rw [← Cert.PleRefIdeal.Read.val_main_v14_eq]
  pointwise [k0_pay3]
  rw [mul_comm]
  simp only [k0_pay1]
  pointwise
  blk_simp [iblk, idx t]
  rw [gate]
  blk_point [V_main_arg2, idx t]

theorem final3 (c : Dev nD) : (dats m 0 c).arrAt 3 (cfgs 0).N = ref3 m c := by
  refine (dats m 0 c).arrAt_eq_of_covers 3 _ (by decide +kernel) fun t _ y => ?_
  blk_simp
  rw [after0_3]; frame_out
  exact point3 m c t y

theorem final4 (c : Dev nD) : (dats m 0 c).arrAt 4 (cfgs 0).N = ref4 m c := by
  refine (dats m 0 c).arrAt_eq_of_covers 4 _ (by decide +kernel) fun t _ y => ?_
  blk_simp
  rw [after0_4]; frame_out
  exact point4 m c t y

end Cert.PleIdeal.Arr

end
-- ==== Proof.GluValue.lean ====
/- The gradient of the gated output of the recurrence: the result array of the call is the reference's array. -/
module

public import proofs.«01_k».proof.Proof.Gen.GluIdeal.Value
public import proofs.«01_k».proof.Proof.Gen.GluRefIdeal.Read
public import proofs.«01_k».proof.Proof.Real
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GluIdeal.Arr
open Cert.GluIdeal Cert.GluIdeal.Gen
variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] :=
  (by decide +kernel : ∀ t : Fin grid0.N, _)

/-- The saved gate is the logistic function of the right half of the pre-activations. -/
theorem gate (c : Dev nD) (r : Fin 2048) (k : Fin 2048) : V m c main_v10 (ix2 r k)
    = Ideal.div 1 (1 + Ideal.exp (-(show FVec Ideal S2048x4096 .f32 from m ((c : Thread nD τ).loc main_arg0)) (ix2 r ⟨2048 + k, by omega⟩))) := by
  entry_read
  pointwise
  exact Cert.Fin.gate_eq _

/-- The saved value is the left half. -/
theorem val (c : Dev nD) (r : Fin 2048) (k : Fin 2048) : V m c main_v2 (ix2 r k)
    = (show FVec Ideal S2048x4096 .f32 from m ((c : Thread nD τ).loc main_arg0)) (ix2 r ⟨k, by omega⟩) := by
  entry_read
  pointwise
  blk_ext

abbrev ref3 (c : Dev nD) := Cert.GluRefIdeal.Read.val_main_v16 (F := Ideal) (m ((c : Thread nD τ).loc main_arg0))
  (m ((c : Thread nD τ).loc main_arg1))

theorem blk_gate (c : Dev nD) (t : Fin cfg0.N) (r : Fin 512) (k : Fin 2048) : iblk m c 2 t (ix2 r k)
    = Ideal.div 1 (1 + Ideal.exp (-(show FVec Ideal S2048x4096 .f32 from m ((c : Thread nD τ).loc main_arg0))
        (ix2 ⟨t.val * 512 + r, by have : t.val < 4 := t.isLt; omega⟩ ⟨2048 + k, by omega⟩))) := by
  refine Eq.trans ?_ (gate m c ⟨t.val * 512 + r, by have : t.val < 4 := t.isLt; omega⟩ k)
  blk_ext [iblk, idx t]

theorem blk_val (c : Dev nD) (t : Fin cfg0.N) (r : Fin 512) (k : Fin 2048) : iblk m c 1 t (ix2 r k)
    = (show FVec Ideal S2048x4096 .f32 from m ((c : Thread nD τ).loc main_arg0))
        (ix2 ⟨t.val * 512 + r, by have : t.val < 4 := t.isLt; omega⟩ ⟨k, by omega⟩) := by
  refine Eq.trans ?_ (val m c ⟨t.val * 512 + r, by have : t.val < 4 := t.isLt; omega⟩ k)
  blk_ext [iblk, idx t]

theorem blk_dx (c : Dev nD) (t : Fin cfg0.N) (r : Fin 512) (k : Fin 2048) : iblk m c 0 t (ix2 r k)
    = (show FVec Ideal S2048x2048 .f32 from m ((c : Thread nD τ).loc main_arg1))
        (ix2 ⟨t.val * 512 + r, by have : t.val < 4 := t.isLt; omega⟩ k) := by
  blk_ext [iblk, V_main_arg1, idx t]

theorem point3 (c : Dev nD) (t : Fin cfg0.N) (r : Fin 512) (k : Fin 4096) :
    k0_pay1 (iblk m c 0 t) (iblk m c 1 t) (iblk m c 2 t) (ix2 r k)
      = ref3 m c (ix2 ⟨t.val * 512 + r, by have : t.val < 4 := t.isLt; omega⟩ k) := by
  unfold ref3
  rw [← Cert.GluRefIdeal.Read.val_main_v16_eq]
  pointwise [k0_pay1]
  by_cases h : (k : ℕ) < 2048
  · simp only [dif_pos h]
    rw [blk_dx, blk_gate]
  · simp only [dif_neg h]
    rw [blk_dx, blk_gate, blk_val]
    generalize Ideal.div _ _ = s
    rw [mul_assoc]
    exact congrArg (· * _) (mul_comm _ _)

theorem point3' (c : Dev nD) (t : Fin cfg0.N) (y : S512x4096.Idx) :
    k0_pay1 (iblk m c 0 t) (iblk m c 1 t) (iblk m c 2 t) y = ref3 m c (((cfg0.win 3).blk t).view.emb y) := by
  rw [eq_ix2 y]
  refine (point3 m c t _ _).trans (congrArg _ ?_)
  blk_ext [idx t]

theorem final3 (c : Dev nD) : (dats m 0 c).arrAt 3 (cfgs 0).N = ref3 m c := by
  refine (dats m 0 c).arrAt_eq_of_covers 3 _ (by decide +kernel) fun t _ y => ?_
  blk_simp
  rw [after0_3]; frame_out
  exact point3' m c t y

end Cert.GluIdeal.Arr

end
-- ==== Proof.EmbedGate.lean ====
/- The claims on the gradients of the two gates: the runs of the call and of the reference, side by side. -/
module

public import proofs.«01_k».proof.Defs
public import proofs.«01_k».proof.Proof.Gen.Ple.Frame
public import proofs.«01_k».proof.Proof.Gen.Glu.Frame
public import proofs.«01_k».proof.Proof.Gen.PleRefIdeal.Run
public import proofs.«01_k».proof.Proof.Gen.GluRefIdeal.Run
public import proofs.«01_k».proof.Proof.PleValue
public import proofs.«01_k».proof.Proof.GluValue

@[expose] public section

noncomputable section

open Idealize.ShloMosaic Idealize.ShloMosaic.TcCoe Idealize.SL.Sem

namespace Cert.Gates

theorem algebraic_ple : Cert.algebraic_PleIdeal_PleRefIdeal (hPleIdeal := Cert.PleIdeal.Gen.facts) (hPleRefIdeal := Cert.PleRefIdeal.Gen.facts) := by
  intro m g m' g' _ hag
  refine ⟨fun c => Cert.PleIdeal.Arr.ref3 m c, fun c => Cert.PleIdeal.Arr.ref4 m c, ?_, ?_⟩
  · refine (θ_run _ _ _).mono (fun r h c => ?_) (Cert.PleIdeal.Value.run_blocks m g)
    obtain ⟨h3, h4, h0, h1, h2⟩ := h c
    exact ⟨h3.trans (Cert.PleIdeal.Arr.final3 m c), h4.trans (Cert.PleIdeal.Arr.final4 m c), h0, h1, h2⟩
  · refine (θ_run _ _ _).mono (fun r h c => ?_) (Cert.PleRefIdeal.Value.run m' g')
    obtain ⟨h3, h4, h0, h1, h2⟩ := h c
    obtain ⟨e0, e1, e2⟩ := hag c
    rw [e0, e1, e2] at h3
    rw [e0, e2] at h4
    exact ⟨h3, h4, h0, h1, h2⟩

theorem algebraic_glu : Cert.algebraic_GluIdeal_GluRefIdeal (hGluIdeal := Cert.GluIdeal.Gen.facts) (hGluRefIdeal := Cert.GluRefIdeal.Gen.facts) := by
  intro m g m' g' _ hag
  refine ⟨fun c => Cert.GluIdeal.Arr.ref3 m c, ?_, ?_⟩
  · refine (θ_run _ _ _).mono (fun r h c => ?_) (Cert.GluIdeal.Value.run_blocks m g)
    obtain ⟨h3, h0, h1⟩ := h c
    exact ⟨h3.trans (Cert.GluIdeal.Arr.final3 m c), h0, h1⟩
  · refine (θ_run _ _ _).mono (fun r h c => ?_) (Cert.GluRefIdeal.Value.run m' g')
    obtain ⟨h3, h0, h1⟩ := h c
    obtain ⟨e0, e1⟩ := hag c
    rw [e0, e1] at h3
    exact ⟨h3, h0, h1⟩

end Cert.Gates

end
-- ==== Proof.GmlpReal.lean ====
/- The gated mixing layer over the real numbers: one chunk of its rows, and the chunk of its gradient. -/
module

public import proofs.«01_k».proof.Proof.Real
public import proofs.«01_k».proof.Proof.Real
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Gm
open Cert.Fin

/-- The cubic coefficient of the tanh form of gelu, and the float that stands for the root of two over pi. -/
def q : ℝ := 8943 / 200000
def gc : ℝ := 13386282 / 2 ^ 24

theorem lit_gc : Ideal.ofBits .f32 0x3F4C422A#32 = (gc : EReal) := by
  simp [Ideal.ofBits, Ideal.ieee, gc, -EReal.coe_mul]; norm_num
theorem lit_one : Ideal.ofBits .f32 0x3F800000#32 = ((1 : ℝ) : EReal) := by
  simp [Ideal.ofBits, Ideal.ieee, -EReal.coe_mul]; norm_num
theorem lit_three : Ideal.ofBits .f32 0x40400000#32 = ((3 : ℝ) : EReal) := by
  simp [Ideal.ofBits, Ideal.ieee, -EReal.coe_mul]; norm_num
theorem lit_num : Ideal.ofBits .f32 0x472EAB00#32 = ((44715 : ℝ) : EReal) := by
  simp [Ideal.ofBits, Ideal.ieee, -EReal.coe_mul]; norm_num
theorem lit_den : Ideal.ofBits .f32 0x49742400#32 = ((1000000 : ℝ) : EReal) := by
  simp [Ideal.ofBits, Ideal.ieee, -EReal.coe_mul]; norm_num

/-- The tangent inside gelu, gelu, and gelu's derivative. -/
def th (x : ℝ) : ℝ := Real.tanh (gc * (x + q * (x * x * x)))
def ge (x : ℝ) : ℝ := 1 / 2 * x * (1 + th x)
def dge (x : ℝ) : ℝ := 1 / 2 * (1 + th x) + 1 / 2 * x * (1 - th x * th x) * (gc * (1 + 3 * q * x * x))

section
variable (z : Fin 128 → Fin 4096 → ℝ) (g b : Fin 2048 → ℝ) (w : Fin 16 → Fin 128 → Fin 128 → ℝ) (bs : Fin 16 → Fin 128 → ℝ) (dm : Fin 128 → Fin 2048 → ℝ)

/-- A column of the left and of the right half, and the column of a head's lane. -/
def lo (k : Fin 2048) : Fin 4096 := ⟨k.val, by omega⟩
def hi (k : Fin 2048) : Fin 4096 := ⟨2048 + k.val, by omega⟩
def col (h : Fin 16) (d : Fin 128) : Fin 2048 := ⟨128 * h.val + d.val, by omega⟩
def row (n : Fin 16) (t : Fin 128) : Fin 2048 := ⟨128 * n.val + t.val, by omega⟩

def u (t : Fin 128) (k : Fin 2048) : ℝ := ge (z t (lo k))
def v (t : Fin 128) (k : Fin 2048) : ℝ := ge (z t (hi k))
def vc (t : Fin 128) (k : Fin 2048) : ℝ := v z t k - (∑ j, v z t j) / 2048
def rs (t : Fin 128) : ℝ := (Real.sqrt ((∑ k, vc z t k * vc z t k) / 2048 + eps))⁻¹
def vh (t : Fin 128) (k : Fin 2048) : ℝ := vc z t k * rs z t
def vn (t : Fin 128) (k : Fin 2048) : ℝ := vh z t k * g k + b k
def wc (h : Fin 16) (t s : Fin 128) : ℝ := if s.val ≤ t.val then w h t s else 0
/-- The head and the lane of a column. -/
def hd (k : Fin 2048) : Fin 16 := ⟨k.val / 128, by omega⟩
def ln (k : Fin 2048) : Fin 128 := ⟨k.val % 128, by omega⟩
def sv (t : Fin 128) (k : Fin 2048) : ℝ := (∑ s, wc w (hd k) t s * vn z g b s k) + bs (hd k) t
def dsv (t : Fin 128) (k : Fin 2048) : ℝ := dm t k * u z t k
def dvn (s : Fin 128) (k : Fin 2048) : ℝ := ∑ t, wc w (hd k) t s * dsv z dm t k
def dxh (s : Fin 128) (k : Fin 2048) : ℝ := dvn z w dm s k * g k
def dv (s : Fin 128) (k : Fin 2048) : ℝ :=
  rs z s * (dxh z g w dm s k - (∑ j, dxh z g w dm s j) / 2048 - vh z s k * ((∑ j, dxh z g w dm s j * vh z s j) / 2048))
def dzl (t : Fin 128) (k : Fin 2048) : ℝ := dm t k * sv z g b w bs t k * dge (z t (lo k))
def dzr (t : Fin 128) (k : Fin 2048) : ℝ := dv z g w dm t k * dge (z t (hi k))
end

/-- The gradient of the gated pair's row: left half, then right half. -/
def dzS (z : Fin 128 → Fin 4096 → ℝ) (g b : Fin 2048 → ℝ) (w : Fin 16 → Fin 128 → Fin 128 → ℝ) (bs : Fin 16 → Fin 128 → ℝ) (dm : Fin 128 → Fin 2048 → ℝ) (t : Fin 128) (k : Fin 4096) : ℝ :=
  if e : k.val < 2048 then dzl z g b w bs dm t ⟨k.val, e⟩ else dzr z g w dm t ⟨k.val - 2048, by omega⟩
theorem dzS_lo {z : Fin 128 → Fin 4096 → ℝ} {g b : Fin 2048 → ℝ} {w : Fin 16 → Fin 128 → Fin 128 → ℝ} {bs : Fin 16 → Fin 128 → ℝ} {dm : Fin 128 → Fin 2048 → ℝ} {t : Fin 128} {k : Fin 4096} {j : Fin 2048} {h : Fin 16} (e : k.val = j.val) (eh : hd j = h) :
    dm t j * ((∑ s, wc w h t s * vn z g b s j) + bs h t) * dge (z t (lo j)) = dzS z g b w bs dm t k := by
  subst eh
  rw [dzS, dif_pos (by omega)]
  rw [show (⟨k.val, by omega⟩ : Fin 2048) = j from Fin.ext e]; rfl
theorem dzS_hi {z : Fin 128 → Fin 4096 → ℝ} {g b : Fin 2048 → ℝ} {w : Fin 16 → Fin 128 → Fin 128 → ℝ} {bs : Fin 16 → Fin 128 → ℝ} {dm : Fin 128 → Fin 2048 → ℝ} {t : Fin 128} {k : Fin 4096} {j : Fin 2048} (e : k.val = 2048 + j.val) :
    dzr z g w dm t j = dzS z g b w bs dm t k := by
  rw [dzS, dif_neg (by omega)]
  rw [show (⟨k.val - 2048, by omega⟩ : Fin 2048) = j from Fin.ext (by simp only [e]; omega)]

/-- A head's column sum of the gated gradient, and the sixteen of them laid on the first sixteen lanes. -/
def hs (z : Fin 128 → Fin 4096 → ℝ) (dm : Fin 128 → Fin 2048 → ℝ) (n : Fin 128) (h : Fin 16) : ℝ := ∑ d, dsv z dm n (col h d)
def dbsS (z : Fin 128 → Fin 4096 → ℝ) (dm : Fin 128 → Fin 2048 → ℝ) (n j : Fin 128) : ℝ := ∑ h : Fin 16, if j.val = h.val then hs z dm n h else 0
theorem dbsS_eq (z : Fin 128 → Fin 4096 → ℝ) (dm : Fin 128 → Fin 2048 → ℝ) (n j : Fin 128) : dbsS z dm n j = if e : j.val < 16 then hs z dm n ⟨j.val, e⟩ else 0 := by
  unfold dbsS
  split
  case isTrue e =>
    rw [Finset.sum_eq_single (⟨j.val, e⟩ : Fin 16) (fun h _ ne => if_neg fun q => ne (Fin.ext q.symm)) (fun ne => absurd (Finset.mem_univ _) ne), if_pos rfl]
  case isFalse e => exact Finset.sum_eq_zero fun h _ => if_neg (by omega)

theorem sum16 (F : Fin 16 → ℝ) : ∑ h, F h = F 0 + F 1 + F 2 + F 3 + F 4 + F 5 + F 6 + F 7 + F 8 + F 9 + F 10 + F 11 + F 12 + F 13 + F 14 + F 15 := by
  simp only [Fin.sum_univ_castSucc, Fin.sum_univ_zero, zero_add]; rfl
/-- A chunk's part of the gradient of a head's mixing matrix. -/
def dwT (z : Fin 128 → Fin 4096 → ℝ) (g b : Fin 2048 → ℝ) (dm : Fin 128 → Fin 2048 → ℝ) (h : Fin 16) (n s : Fin 128) : ℝ := ∑ d, dsv z dm n (col h d) * vn z g b s (col h d)

theorem dwT_at {z : Fin 128 → Fin 4096 → ℝ} {g b : Fin 2048 → ℝ} {dm : Fin 128 → Fin 2048 → ℝ} {h : Fin 16} {n s : Fin 128} {f : Fin 128 → Fin 2048} (e : ∀ k, (f k).val = 128 * h.val + k.val) :
    ∑ k, dm n (f k) * u z n (f k) * vn z g b s (f k) = dwT z g b dm h n s :=
  Finset.sum_congr rfl fun k _ => by rw [show f k = col h k from Fin.ext (e k)]; rfl

theorem sv_eq {z : Fin 128 → Fin 4096 → ℝ} {g b : Fin 2048 → ℝ} {w : Fin 16 → Fin 128 → Fin 128 → ℝ} {bs : Fin 16 → Fin 128 → ℝ} {t : Fin 128} {k : Fin 2048} {h : Fin 16} (e : hd k = h) :
    (∑ s, wc w h t s * vn z g b s k) + bs h t = sv z g b w bs t k := by subst e; rfl
theorem dvn_eq {z : Fin 128 → Fin 4096 → ℝ} {w : Fin 16 → Fin 128 → Fin 128 → ℝ} {dm : Fin 128 → Fin 2048 → ℝ} {s : Fin 128} {k : Fin 2048} {h : Fin 16} (e : hd k = h) :
    ∑ t, wc w h t s * dsv z dm t k = dvn z w dm s k := by subst e; rfl
theorem col_hd (k : Fin 2048) : col (hd k) (ln k) = k := Fin.ext (by simp only [col, hd, ln]; omega)
theorem hd_col (h : Fin 16) (d : Fin 128) : hd (col h d) = h := Fin.ext (by simp only [col, hd]; omega)
theorem col_zero (d : Fin 128) (e : d.val < 2048) : (⟨d.val, e⟩ : Fin 2048) = col 0 d := Fin.ext (by simp [col])
theorem ln_col (h : Fin 16) (d : Fin 128) : ln (col h d) = d := Fin.ext (by simp only [col, ln]; omega)

end Cert.Gm

end
-- ==== Proof.GmlpPay.lean ====
/- What the gated mixing gradient computes in one chunk of rows, as real numbers. -/
module

public import proofs.«01_k».proof.Proof.Gen.GmlpIdeal.Value
public import proofs.«01_k».proof.Proof.GmlpReal
public import proofs.«01_k».proof.Proof.Real
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GmlpIdeal.Pay
open Cert.GmlpIdeal Cert.GmlpIdeal.Gen
open Cert.Fin Cert.Gm

theorem one_coe : (1 : EReal) = ((1 : ℝ) : EReal) := EReal.coe_one.symm

theorem cube : Named.named (F := Ideal) Cert.GmlpIdeal.κ "cube" (φ := .f32) 0x3D372713#32 = ((q : ℝ) : EReal) :=
  IdealRules.named_const.ideal_named_scalar _ _ _ _ rfl
theorem cube3 : Named.named (F := Ideal) Cert.GmlpIdeal.κ "cube3" (φ := .f32) 0x3E095D4F#32 = ((3 * q : ℝ) : EReal) :=
  (IdealRules.named_const.ideal_named_scalar _ _ _ _ rfl).trans (by congr 1; unfold q; norm_num)

variable {z : Fin 128 → Fin 4096 → ℝ} {g b : Fin 2048 → ℝ} {w : Fin 16 → Fin 128 → Fin 128 → ℝ} {bs : Fin 16 → Fin 128 → ℝ} {dm : Fin 128 → Fin 2048 → ℝ}
variable {x0 : FVec Ideal S128x4096 .f32} {x1 : FVec Ideal S128x2048 .f32} {x2 x3 : FVec Ideal S1x2048 .f32} {x4 : FVec Ideal S16x128x128 .f32} {x5 : FVec Ideal S128x16 .f32}

theorem zu_at (h0 : ∀ t k, x0 (ix2 t k) = (z t k : EReal)) (t : Fin 128) (k : Fin 2048) : k0_pay8 (F := Ideal) x0 (ix2 t k) = (z t (lo k) : EReal) := by
  pointwise [k0_pay8]
  exact (congrArg x0 (by blk_ext [lo])).trans (h0 t (lo k))
theorem zv_at (h0 : ∀ t k, x0 (ix2 t k) = (z t k : EReal)) (t : Fin 128) (k : Fin 2048) : k0_pay9 (F := Ideal) x0 (ix2 t k) = (z t (hi k) : EReal) := by
  pointwise [k0_pay9]
  exact (congrArg x0 (by blk_ext [hi])).trans (h0 t (hi k))

theorem u_at (h0 : ∀ t k, x0 (ix2 t k) = (z t k : EReal)) (t : Fin 128) (k : Fin 2048) : k0_pay10 (F := Ideal) x0 (ix2 t k) = (u z t k : EReal) := by
  pointwise [k0_pay10]
  simp only [zu_at h0, cube, lit_half, lit_gc, one_coe]
  simp only [← EReal.coe_mul, ← EReal.coe_add, tanh_coe]
  rfl

/-- The causal mask: a comparison of two positions below 128. -/
theorem mask (s t : Fin 128) (a c : EReal) : Scalar.select (IntOp.cmpi .sle (BitVec.ofNat 32 s.val) (BitVec.ofNat 32 t.val)) a c = if s.val ≤ t.val then a else c := by
  have hs : (s.val) < 2 ^ 31 := by omega
  have ht : (t.val) < 2 ^ 31 := by omega
  rw [WordCmp.cmpi_sle_ofNat (w := 32) hs ht]
  by_cases h : s.val ≤ t.val <;> simp [h, Scalar.select]

theorem v_at (h0 : ∀ t k, x0 (ix2 t k) = (z t k : EReal)) (t : Fin 128) (k : Fin 2048) :
    k0_pay11 (F := Ideal) x0 (ix2 t k) * (1 + Ideal.tanh (Ideal.ofBits .f32 0x3F4C422A#32 * k0_pay12 (F := Ideal) x0 (ix2 t k))) = (v z t k : EReal) := by
  pointwise [k0_pay11, k0_pay12]
  simp only [zv_at h0, cube, lit_half, lit_gc, one_coe]
  simp only [← EReal.coe_mul, ← EReal.coe_add, tanh_coe]
  rfl

theorem vc_at (h0 : ∀ t k, x0 (ix2 t k) = (z t k : EReal)) (t : Fin 128) (k : Fin 2048) :
    k0_pay13 (F := Ideal) (k0_pay11 (F := Ideal) x0) (k0_pay12 (F := Ideal) x0) (ix2 t k) = (vc z t k : EReal) := by
  pointwise [k0_pay13]
  simp only [v_at h0, lit_2048]
  simp (disch := norm_num) only [sum_coe, div_coe, sub_coe]
  rfl

theorem rs_at (h0 : ∀ t k, x0 (ix2 t k) = (z t k : EReal)) (t : Fin 128) :
    k0_pay14 (F := Ideal) (k0_pay11 (F := Ideal) x0) (k0_pay12 (F := Ideal) x0) (ix2 t 0) = (rs z t : EReal) := by
  pointwise [k0_pay14]
  simp only [vc_at h0, lit_2048, lit_eps]
  simp (disch := first | exact ms_pos _ | norm_num) only [← EReal.coe_mul, ← EReal.coe_add, sum_coe, div_coe, rsqrt_coe]
  rfl

theorem vh_at (h0 : ∀ t k, x0 (ix2 t k) = (z t k : EReal)) (t : Fin 128) (k : Fin 2048) :
    k0_pay15 (F := Ideal) (k0_pay11 (F := Ideal) x0) (k0_pay12 (F := Ideal) x0) (ix2 t k) = (vh z t k : EReal) := by
  pointwise [k0_pay15]
  simp only [vc_at h0, rs_at h0, ← EReal.coe_mul]
  rfl

theorem vn_at (h0 : ∀ t k, x0 (ix2 t k) = (z t k : EReal)) (h2 : ∀ k, x2 (ix2 0 k) = (g k : EReal)) (h3 : ∀ k, x3 (ix2 0 k) = (b k : EReal)) (t : Fin 128) (k : Fin 2048) :
    k0_pay16 (F := Ideal) x2 x3 (k0_pay11 (F := Ideal) x0) (k0_pay12 (F := Ideal) x0) (ix2 t k) = (vn z g b t k : EReal) := by
  pointwise [k0_pay16]
  simp only [vh_at h0, h2, h3, ← EReal.coe_mul, ← EReal.coe_add]
  rfl

theorem wc_at (h4 : ∀ h t s, x4 (ix3 h t s) = (w h t s : EReal)) (h : Fin 16) (t s : Fin 128) :
    k0_pay6 (F := Ideal) x4 (ix3 h t s) = (wc w h t s : EReal) := by
  pointwise [k0_pay6]
  simp only [h4]
  rw [mask]
  unfold wc
  split <;> rfl

end Cert.GmlpIdeal.Pay

end
-- ==== Proof.GmlpDv.lean ====
/- The gradient of the normalised half, read from the sixteen heads. -/
module

public import proofs.«01_k».proof.Proof.GmlpPay
public import proofs.«01_k».proof.Proof.Real
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GmlpIdeal.Pay
open Cert.GmlpIdeal Cert.GmlpIdeal.Gen
open Cert.Fin Cert.Gm

/-- Sixteen blocks of columns side by side, the last a product, read at a column. -/
theorem cat_at {D : Fin 128 → Fin 2048 → EReal} {x4 : FVec Ideal S16x128x128 .bf16} {p0 p1 p2 p3 p4 p5 p6 p7 p8 p9 p10 p11 p12 p13 p14 r : FVec Ideal S128x128 .f32}
    (e0 : ∀ s d, p0 (ix2 s d) = D s (col 0 d))
    (e1 : ∀ s d, p1 (ix2 s d) = D s (col 1 d))
    (e2 : ∀ s d, p2 (ix2 s d) = D s (col 2 d))
    (e3 : ∀ s d, p3 (ix2 s d) = D s (col 3 d))
    (e4 : ∀ s d, p4 (ix2 s d) = D s (col 4 d))
    (e5 : ∀ s d, p5 (ix2 s d) = D s (col 5 d))
    (e6 : ∀ s d, p6 (ix2 s d) = D s (col 6 d))
    (e7 : ∀ s d, p7 (ix2 s d) = D s (col 7 d))
    (e8 : ∀ s d, p8 (ix2 s d) = D s (col 8 d))
    (e9 : ∀ s d, p9 (ix2 s d) = D s (col 9 d))
    (e10 : ∀ s d, p10 (ix2 s d) = D s (col 10 d))
    (e11 : ∀ s d, p11 (ix2 s d) = D s (col 11 d))
    (e12 : ∀ s d, p12 (ix2 s d) = D s (col 12 d))
    (e13 : ∀ s d, p13 (ix2 s d) = D s (col 13 d))
    (e14 : ∀ s d, p14 (ix2 s d) = D s (col 14 d))
    (e : ∀ s d, ∑ t, x4 (ix3 15 t s) * r (ix2 t d) = D s (col 15 d)) (s : Fin 128) (k : Fin 2048) :
    k0_pay182 (F := Ideal) x4 p0 p1 p2 p3 p4 p5 p6 p7 p8 p9 p10 p11 p12 p13 p14 r (ix2 s k) = D s k := by
  have key : ∀ p15 : FVec Ideal S128x128 .f32, (∀ s d, p15 (ix2 s d) = D s (col 15 d)) →
      concatenate S128x2048 1 [⟨S128x128, p0⟩, ⟨S128x128, p1⟩, ⟨S128x128, p2⟩, ⟨S128x128, p3⟩, ⟨S128x128, p4⟩, ⟨S128x128, p5⟩, ⟨S128x128, p6⟩, ⟨S128x128, p7⟩, ⟨S128x128, p8⟩, ⟨S128x128, p9⟩, ⟨S128x128, p10⟩, ⟨S128x128, p11⟩, ⟨S128x128, p12⟩, ⟨S128x128, p13⟩, ⟨S128x128, p14⟩, ⟨S128x128, p15⟩] concatenates_S128x128_S128x128_S128x128_S128x128_S128x128_S128x128_S128x128_S128x128_S128x128_S128x128_S128x128_S128x128_S128x128_S128x128_S128x128_S128x128_S128x2048_d1 (ix2 s k) = D s k := by
    intro p15 e15
    have hf : ∀ (h : Fin 16) (d : Fin 128), (![p0, p1, p2, p3, p4, p5, p6, p7, p8, p9, p10, p11, p12, p13, p14, p15] : Fin 16 → FVec Ideal S128x128 .f32) h (ix2 s d) = D s (col h d) := by
      intro h d
      fin_cases h
      exacts [e0 s d, e1 s d, e2 s d, e3 s d, e4 s d, e5 s d, e6 s d, e7 s d, e8 s d, e9 s d, e10 s d, e11 s d, e12 s d, e13 s d, e14 s d, e15 s d]
    refine Eq.trans ?_ ((hf (hd k) (ln k)).trans (by rw [col_hd]))
    exact concatenate_ofFn_apply (t := S128x2048) (s₁ := S128x128) 1 (![p0, p1, p2, p3, p4, p5, p6, p7, p8, p9, p10, p11, p12, p13, p14, p15] : Fin 16 → FVec Ideal S128x128 .f32) _ rfl 128 rfl (ix2 s k) (hd k) rfl (ix2 s (ln k)) rfl
      (fun b hb => match b, hb with | ⟨0, _⟩, _ => rfl | ⟨1, _⟩, hb => absurd rfl hb)
  refine key _ fun s d => ?_
  refine Eq.trans ?_ (e s d)
  pointwise [k0_pay179]

variable {z : Fin 128 → Fin 4096 → ℝ} {g b : Fin 2048 → ℝ} {w : Fin 16 → Fin 128 → Fin 128 → ℝ} {bs : Fin 16 → Fin 128 → ℝ} {dm : Fin 128 → Fin 2048 → ℝ}
variable {x0 : FVec Ideal S128x4096 .f32} {x1 : FVec Ideal S128x2048 .f32} {x2 x3 : FVec Ideal S1x2048 .f32} {x4 : FVec Ideal S16x128x128 .f32} {x5 : FVec Ideal S128x16 .f32}

theorem dvn_at (h0 : ∀ t k, x0 (ix2 t k) = (z t k : EReal)) (h1 : ∀ t k, x1 (ix2 t k) = (dm t k : EReal)) (h4 : ∀ h t s, x4 (ix3 h t s) = (w h t s : EReal)) (s : Fin 128) (k : Fin 2048) :
    k0_pay182 (F := Ideal) (k0_pay6 (F := Ideal) x4)
        (k0_pay46 (F := Ideal) (k0_pay6 (F := Ideal) x4) (k0_pay43 (F := Ideal) (k0_pay37 (F := Ideal) (k0_pay10 (F := Ideal) x0) x1)))
        (k0_pay53 (F := Ideal) (k0_pay6 (F := Ideal) x4) (k0_pay47 (F := Ideal) (k0_pay10 (F := Ideal) x0) x1))
        (k0_pay64 (F := Ideal) (k0_pay6 (F := Ideal) x4) (k0_pay54 (F := Ideal) (k0_pay10 (F := Ideal) x0) x1))
        (k0_pay75 (F := Ideal) (k0_pay6 (F := Ideal) x4) (k0_pay71 (F := Ideal) (k0_pay65 (F := Ideal) (k0_pay10 (F := Ideal) x0) x1)))
        (k0_pay81 (F := Ideal) (k0_pay6 (F := Ideal) x4) (k0_pay76 (F := Ideal) (k0_pay10 (F := Ideal) x0) x1))
        (k0_pay93 (F := Ideal) (k0_pay6 (F := Ideal) x4) (k0_pay82 (F := Ideal) (k0_pay10 (F := Ideal) x0) x1))
        (k0_pay102 (F := Ideal) (k0_pay6 (F := Ideal) x4) (k0_pay99 (F := Ideal) (k0_pay94 (F := Ideal) (k0_pay10 (F := Ideal) x0) x1)))
        (k0_pay108 (F := Ideal) (k0_pay6 (F := Ideal) x4) (k0_pay103 (F := Ideal) (k0_pay10 (F := Ideal) x0) x1))
        (k0_pay119 (F := Ideal) (k0_pay6 (F := Ideal) x4) (k0_pay109 (F := Ideal) (k0_pay10 (F := Ideal) x0) x1))
        (k0_pay125 (F := Ideal) (k0_pay6 (F := Ideal) x4) (k0_pay123 (F := Ideal) (k0_pay120 (F := Ideal) (k0_pay10 (F := Ideal) x0) x1)))
        (k0_pay133 (F := Ideal) (k0_pay6 (F := Ideal) x4) (k0_pay126 (F := Ideal) (k0_pay10 (F := Ideal) x0) x1))
        (k0_pay144 (F := Ideal) (k0_pay6 (F := Ideal) x4) (k0_pay134 (F := Ideal) (k0_pay10 (F := Ideal) x0) x1))
        (k0_pay150 (F := Ideal) (k0_pay6 (F := Ideal) x4) (k0_pay145 (F := Ideal) (k0_pay10 (F := Ideal) x0) x1))
        (k0_pay163 (F := Ideal) (k0_pay6 (F := Ideal) x4) (k0_pay151 (F := Ideal) (k0_pay10 (F := Ideal) x0) x1))
        (k0_pay174 (F := Ideal) (k0_pay171 (F := Ideal) (k0_pay164 (F := Ideal) (k0_pay10 (F := Ideal) x0) x1))
          (k0_pay173 (F := Ideal) (k0_pay6 (F := Ideal) x4)))
        (k0_pay175 (F := Ideal) (k0_pay10 (F := Ideal) x0) x1) (ix2 s k) = (dvn z w dm s k : EReal) := by
  refine cat_at (D := fun s k => ((dvn z w dm s k : ℝ) : EReal)) ?_ ?_ ?_ ?_ ?_ ?_ ?_ ?_ ?_ ?_ ?_ ?_ ?_ ?_ ?_ ?_ s k
  all_goals
    intro s d
    pointwise [k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181]
    simp only [u_at h0, h1, wc_at h4, col_zero, ← EReal.coe_mul, sum_coe]
    refine congrArg _ (dvn_eq ?_)
    first | exact hd_col _ d | exact Fin.ext (by simp only [hd]; omega)

end Cert.GmlpIdeal.Pay

end
-- ==== Proof.GmlpStep.lean ====
/- What one grid point of the gated block contributes to each result. -/
module

public import proofs.«01_k».proof.Proof.GmlpDv
public import proofs.«01_k».proof.Proof.Real
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.GmlpIdeal.Arr
open Cert.GmlpIdeal Cert.GmlpIdeal.Gen Cert.GmlpIdeal.Pay
open Cert.Fin Cert.Gm
variable (m : (ℓ : Loc nD τ sig) → Buf (Elt Ideal) ℓ)
variable {z : Fin 128 → Fin 4096 → ℝ} {g b : Fin 2048 → ℝ} {w : Fin 16 → Fin 128 → Fin 128 → ℝ} {bs : Fin 16 → Fin 128 → ℝ} {dm : Fin 128 → Fin 2048 → ℝ}

theorem emb_eq (k : Nat) (inb : ∀ a, (![k, 0, 0] : Fin 3 → Nat) a + (![1, 128, 128] : Fin 3 → Nat) a ≤ S16x128x128.size a) (n s : Fin 128) :
    (Rect.unit (s := S16x128x128) ![k, 0, 0] ![1, 128, 128] inb).emb (ix3 0 n s) = ix3 ⟨k, inb 0⟩ n s := by
  funext a
  refine Fin.ext ?_
  fin_cases a
  · rfl
  · exact (Nat.zero_add _).trans (Nat.one_mul _)
  · exact (Nat.zero_add _).trans (Nat.one_mul _)
theorem ix3_of (y : S16x128x128.Idx) (h : Fin 16) (e : (y 0).val = h.val) : ix3 h (y 1) (y 2) = y := by
  obtain rfl : y 0 = h := Fin.ext e
  exact (eq_ix3 y).symm
/-- A lane picked by its number. -/
theorem sel (j : Fin 128) {n : Nat} (hn : n < 2 ^ 32) (r : ℝ) : Scalar.select (IntOp.cmpi .eq (BitVec.ofNat 32 j.val) (BitVec.ofNat 32 n)) (r : EReal) 0 = ((if j.val = n then r else 0 : ℝ) : EReal) := by
  have hj : j.val < 2 ^ 32 := by omega
  rw [WordCmp.cmpi_eq_ofNat (w := 32) hj hn]
  by_cases h : j.val = n <;> simp [h, Scalar.select]

section
variable {c : Dev nD} {t : Fin cfg0.N}
   (h0 : ∀ n k, (show FVec Ideal S128x4096 .f32 from iblk m c 0 t) (ix2 n k) = (z n k : EReal))
   (h1 : ∀ n k, (show FVec Ideal S128x2048 .f32 from iblk m c 1 t) (ix2 n k) = (dm n k : EReal))
   (h2 : ∀ k, (show FVec Ideal S1x2048 .f32 from iblk m c 2 t) (ix2 0 k) = (g k : EReal))
   (h3 : ∀ k, (show FVec Ideal S1x2048 .f32 from iblk m c 3 t) (ix2 0 k) = (b k : EReal))
   (h4 : ∀ h n s, (show FVec Ideal S16x128x128 .f32 from iblk m c 4 t) (ix3 h n s) = (w h n s : EReal))
   (h5 : ∀ n h, (show FVec Ideal S128x16 .f32 from iblk m c 5 t) (ix2 n h) = (bs h n : EReal))
include h0 h1 h2 h3 h4 h5

theorem dg_zero (h : t.val % 16 = 0) (k : Fin 2048) : (show FVec Ideal S1x2048 .f32 from (outsAt0 m c t.val t.isLt).2.2.2.1) (ix2 0 k) = 0 + ((∑ s, dvn z w dm s k * vh z s k : ℝ) : EReal) := by
  rw [outsAt0_A m c t h (by omega)]; frame_out
  pointwise [k0_pay183, k0_pay4]
  simp only [dvn_at h0 h1 h4, vh_at h0, ← EReal.coe_mul, sum_coe]

theorem dg_step (h : ¬ t.val % 16 = 0) (k : Fin 2048) : (show FVec Ideal S1x2048 .f32 from (outsAt0 m c t.val t.isLt).2.2.2.1) (ix2 0 k)
    = (show FVec Ideal S1x2048 .f32 from (outsAt0 m c (t.val - 1) (Nat.lt_of_le_of_lt (Nat.sub_le _ _) t.isLt)).2.2.2.1) (ix2 0 k) + ((∑ s, dvn z w dm s k * vh z s k : ℝ) : EReal) := by
  by_cases h' : t.val % 16 = 15
  · rw [outsAt0_C m c t h h']; frame_out
    pointwise [k0_pay183]
    simp only [dvn_at h0 h1 h4, vh_at h0, ← EReal.coe_mul, sum_coe]

  · rw [outsAt0_B m c t h h']; frame_out
    pointwise [k0_pay183]
    simp only [dvn_at h0 h1 h4, vh_at h0, ← EReal.coe_mul, sum_coe]

theorem db_zero (h : t.val % 16 = 0) (k : Fin 2048) : (show FVec Ideal S1x2048 .f32 from (outsAt0 m c t.val t.isLt).2.2.2.2) (ix2 0 k) = 0 + ((∑ s, dvn z w dm s k : ℝ) : EReal) := by
  rw [outsAt0_A m c t h (by omega)]; frame_out
  pointwise [k0_pay184, k0_pay5]
  simp only [dvn_at h0 h1 h4, ← EReal.coe_mul, sum_coe]

theorem db_step (h : ¬ t.val % 16 = 0) (k : Fin 2048) : (show FVec Ideal S1x2048 .f32 from (outsAt0 m c t.val t.isLt).2.2.2.2) (ix2 0 k)
    = (show FVec Ideal S1x2048 .f32 from (outsAt0 m c (t.val - 1) (Nat.lt_of_le_of_lt (Nat.sub_le _ _) t.isLt)).2.2.2.2) (ix2 0 k) + ((∑ s, dvn z w dm s k : ℝ) : EReal) := by
  by_cases h' : t.val % 16 = 15
  · rw [outsAt0_C m c t h h']; frame_out
    pointwise [k0_pay184]
    simp only [dvn_at h0 h1 h4, ← EReal.coe_mul, sum_coe]

  · rw [outsAt0_B m c t h h']; frame_out
    pointwise [k0_pay184]
    simp only [dvn_at h0 h1 h4, ← EReal.coe_mul, sum_coe]

theorem dbs_zero (h : t.val % 16 = 0) (n j : Fin 128) : (show FVec Ideal S128x128 .f32 from (outsAt0 m c t.val t.isLt).2.2.1) (ix2 n j) = 0 + ((dbsS z dm n j : ℝ) : EReal) := by
  rw [outsAt0_A m c t h (by omega)]; frame_out
  pointwise [k0_pay3, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181]
  simp only [u_at h0, h1, col_zero, ← EReal.coe_mul, sum_coe, sel _ (show 0 < 2 ^ 32 by decide), sel _ (show 1 < 2 ^ 32 by decide), sel _ (show 2 < 2 ^ 32 by decide), sel _ (show 3 < 2 ^ 32 by decide), sel _ (show 4 < 2 ^ 32 by decide), sel _ (show 5 < 2 ^ 32 by decide), sel _ (show 6 < 2 ^ 32 by decide), sel _ (show 7 < 2 ^ 32 by decide), sel _ (show 8 < 2 ^ 32 by decide), sel _ (show 9 < 2 ^ 32 by decide), sel _ (show 10 < 2 ^ 32 by decide), sel _ (show 11 < 2 ^ 32 by decide), sel _ (show 12 < 2 ^ 32 by decide), sel _ (show 13 < 2 ^ 32 by decide), sel _ (show 14 < 2 ^ 32 by decide), sel _ (show 15 < 2 ^ 32 by decide)]
  simp only [zero_add, ← EReal.coe_add]

  exact congrArg Real.toEReal (sum16 (fun h : Fin 16 => if j.val = h.val then hs z dm n h else 0)).symm
theorem dbs_step (h : ¬ t.val % 16 = 0) (n j : Fin 128) : (show FVec Ideal S128x128 .f32 from (outsAt0 m c t.val t.isLt).2.2.1) (ix2 n j)
    = (show FVec Ideal S128x128 .f32 from (outsAt0 m c (t.val - 1) (Nat.lt_of_le_of_lt (Nat.sub_le _ _) t.isLt)).2.2.1) (ix2 n j) + ((dbsS z dm n j : ℝ) : EReal) := by
  by_cases h' : t.val % 16 = 15
  · rw [outsAt0_C m c t h h']; frame_out
    pointwise [k0_pay3, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181]
    simp only [u_at h0, h1, col_zero, ← EReal.coe_mul, sum_coe, sel _ (show 0 < 2 ^ 32 by decide), sel _ (show 1 < 2 ^ 32 by decide), sel _ (show 2 < 2 ^ 32 by decide), sel _ (show 3 < 2 ^ 32 by decide), sel _ (show 4 < 2 ^ 32 by decide), sel _ (show 5 < 2 ^ 32 by decide), sel _ (show 6 < 2 ^ 32 by decide), sel _ (show 7 < 2 ^ 32 by decide), sel _ (show 8 < 2 ^ 32 by decide), sel _ (show 9 < 2 ^ 32 by decide), sel _ (show 10 < 2 ^ 32 by decide), sel _ (show 11 < 2 ^ 32 by decide), sel _ (show 12 < 2 ^ 32 by decide), sel _ (show 13 < 2 ^ 32 by decide), sel _ (show 14 < 2 ^ 32 by decide), sel _ (show 15 < 2 ^ 32 by decide)]
    simp only [zero_add, ← EReal.coe_add]

    exact congrArg _ (congrArg Real.toEReal (sum16 (fun h : Fin 16 => if j.val = h.val then hs z dm n h else 0)).symm)
  · rw [outsAt0_B m c t h h']; frame_out
    pointwise [k0_pay3, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181]
    simp only [u_at h0, h1, col_zero, ← EReal.coe_mul, sum_coe, sel _ (show 0 < 2 ^ 32 by decide), sel _ (show 1 < 2 ^ 32 by decide), sel _ (show 2 < 2 ^ 32 by decide), sel _ (show 3 < 2 ^ 32 by decide), sel _ (show 4 < 2 ^ 32 by decide), sel _ (show 5 < 2 ^ 32 by decide), sel _ (show 6 < 2 ^ 32 by decide), sel _ (show 7 < 2 ^ 32 by decide), sel _ (show 8 < 2 ^ 32 by decide), sel _ (show 9 < 2 ^ 32 by decide), sel _ (show 10 < 2 ^ 32 by decide), sel _ (show 11 < 2 ^ 32 by decide), sel _ (show 12 < 2 ^ 32 by decide), sel _ (show 13 < 2 ^ 32 by decide), sel _ (show 14 < 2 ^ 32 by decide), sel _ (show 15 < 2 ^ 32 by decide)]
    simp only [zero_add, ← EReal.coe_add]

    exact congrArg _ (congrArg Real.toEReal (sum16 (fun h : Fin 16 => if j.val = h.val then hs z dm n h else 0)).symm)

theorem dws_step (h : ¬ t.val % 16 = 0) (h' : ¬ t.val % 16 = 15) (y : S16x128x128.Idx) : (show FVec Ideal S16x128x128 .f32 from (outsAt0 m c t.val t.isLt).2.1) y = (show FVec Ideal S16x128x128 .f32 from (outsAt0 m c (t.val - 1) (Nat.lt_of_le_of_lt (Nat.sub_le _ _) t.isLt)).2.1) y + ((dwT z g b dm (y 0) (y 1) (y 2) : ℝ) : EReal) := by
  rw [outsAt0_B m c t h h']; frame_out
  clear h h'
  canon_tiles x e
  all_goals
    obtain ⟨a, n, s, rfl⟩ : ∃ a n s, x = ix3 a n s := ⟨x 0, x 1, x 2, eq_ix3 x⟩
    obtain rfl : a = 0 := Subsingleton.elim _ _
    pointwise [k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181]
    simp only [vn_at h0 h2 h3, u_at h0, h1, col_zero, ← EReal.coe_mul, sum_coe]
    obtain rfl : y 1 = n := Fin.ext e1
    obtain rfl : y 2 = s := Fin.ext e2
    refine congr (congrArg _ (congrArg _ (ix3_of y _ ?_))) (congrArg Real.toEReal (dwT_at ?_))
    · first | omega | (simp; omega)
    · intro k; simp only [col]; omega
theorem dws_last (h : ¬ t.val % 16 = 0) (h' : t.val % 16 = 15) (y : S16x128x128.Idx) : (show FVec Ideal S16x128x128 .f32 from (outsAt0 m c t.val t.isLt).2.1) y = k0_pay1 (F := Ideal) (fun y => (show FVec Ideal S16x128x128 .f32 from (outsAt0 m c (t.val - 1) (Nat.lt_of_le_of_lt (Nat.sub_le _ _) t.isLt)).2.1) y + ((dwT z g b dm (y 0) (y 1) (y 2) : ℝ) : EReal)) y := by
  rw [outsAt0_C m c t h h']; frame_open
  simp (disch := decide) only [↓ View.readCov_skip, ↓ View.readCov_cons_toLoadRect, ↓ View.readCov_fill]
  frame_out
  clear h h'
  refine congrFun (congrArg (k0_pay1 (F := Ideal)) (funext fun y => ?_)) y
  rw [View.readCov_eq_canon']
  refine (congrFun (View.ld_unit_lit' (S := S16x128x128) (off := ![0, 0, 0]) inb_S16x128x128_S16x128x128_0_0_0 (View.canon _) (by decide)) y).trans ?_
  canon_tiles x e
  all_goals
    obtain ⟨a, n, s, rfl⟩ : ∃ a n s, x = ix3 a n s := ⟨x 0, x 1, x 2, eq_ix3 x⟩
    obtain rfl : a = 0 := Subsingleton.elim _ _
    pointwise [k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181]
    simp only [vn_at h0 h2 h3, u_at h0, h1, col_zero, ← EReal.coe_mul, sum_coe]
    obtain rfl : y 1 = n := Fin.ext e1
    obtain rfl : y 2 = s := Fin.ext e2
    refine congr (congrArg _ (congrArg _ (ix3_of y _ ?_))) (congrArg Real.toEReal (dwT_at ?_))
    · first | omega | (simp; omega)
    · intro k; simp only [col]; omega
theorem dws_zero (h : t.val % 16 = 0) (y : S16x128x128.Idx) : (show FVec Ideal S16x128x128 .f32 from (outsAt0 m c t.val t.isLt).2.1) y = 0 + ((dwT z g b dm (y 0) (y 1) (y 2) : ℝ) : EReal) := by
  rw [outsAt0_A m c t h (by omega)]; frame_open
  simp (disch := decide) only [↓ View.readCov_skip, ↓ View.readCov_cons_toLoadRect, ↓ View.readCov_fill]
  frame_out
  clear h
  refine View.canon_append_of_piecesOf (Val := Elt Ideal) (e := .f32) (fun y : S16x128x128.Idx => 0 + ((dwT z g b dm (y 0) (y 1) (y 2) : ℝ) : EReal)) [_] [_, _, _, _, _, _, _, _, _, _, _, _, _, _, _, _] ⟨?_, ?_, ?_, ?_, ?_, ?_, ?_, ?_, ?_, ?_, ?_, ?_, ?_, ?_, ?_, ?_, trivial⟩ y (View.cover_of_tiledBy _ ![1, 128, 128] (by sl_kernel_rfl) _)
  all_goals
    intro x
    obtain ⟨a, n, s, rfl⟩ : ∃ a n s, x = ix3 a n s := ⟨x 0, x 1, x 2, eq_ix3 x⟩
    obtain rfl : a = 0 := Subsingleton.elim _ _
    pointwise [k0_pay2, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181]
    simp only [vn_at h0 h2 h3, u_at h0, h1, col_zero, ← EReal.coe_mul, sum_coe]
    simp only [emb_eq]
    refine congrArg Real.toEReal (dwT_at fun k => ?_)
    first | rfl | simp [col]

theorem dz_out (y : S128x4096.Idx) : (outsAt0 m c t.val t.isLt).1 y = ((dzS z g b w bs dm (y 0) (y 1) : ℝ) : EReal) := by
  by_cases h : t.val % 16 = 0
  · rw [outsAt0_A m c t h (by omega)]; frame_out
    clear h
    canon_tiles x e using View.cover_of_tiledBy _ ![128, 128] (by sl_kernel_rfl) _
    case piece0 =>
      obtain ⟨a, d, rfl⟩ : ∃ a d, x = ix2 a d := ⟨x 0, x 1, eq_ix2 x⟩
      pointwise [k0_pay185, k0_pay186]
      simp only [dvn_at h0 h1 h4, vh_at h0, rs_at h0, h2, zv_at h0]
      simp only [cube, cube3, lit_half, lit_gc, lit_2048, one_coe]
      simp (disch := norm_num) only [← EReal.coe_mul, ← EReal.coe_add, sub_coe, sum_coe, div_coe, tanh_coe]
      obtain rfl : y 0 = a := Fin.ext e0
      exact congrArg Real.toEReal (dzS_hi e1)
    all_goals
      obtain ⟨a, d, rfl⟩ : ∃ a d, x = ix2 a d := ⟨x 0, x 1, eq_ix2 x⟩
      pointwise [k0_pay7, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181]
      simp only [wc_at h4, vn_at h0 h2 h3, zu_at h0, h5, h1, col_zero]
      simp only [cube, cube3, lit_half, lit_gc, one_coe]
      simp (disch := norm_num) only [← EReal.coe_mul, ← EReal.coe_add, sub_coe, sum_coe, tanh_coe]
      obtain rfl : y 0 = a := Fin.ext e0
      refine congrArg Real.toEReal (dzS_lo ?_ ?_)
      · first | exact e1 | exact e1.trans (by simp [col])
      · first | exact hd_col _ d | exact Fin.ext (by simp only [hd]; omega)
  · by_cases h' : t.val % 16 = 15
    · rw [outsAt0_C m c t h h']; frame_out
      clear h h'
      canon_tiles x e using View.cover_of_tiledBy _ ![128, 128] (by sl_kernel_rfl) _
      case piece0 =>
        obtain ⟨a, d, rfl⟩ : ∃ a d, x = ix2 a d := ⟨x 0, x 1, eq_ix2 x⟩
        pointwise [k0_pay185, k0_pay186]
        simp only [dvn_at h0 h1 h4, vh_at h0, rs_at h0, h2, zv_at h0]
        simp only [cube, cube3, lit_half, lit_gc, lit_2048, one_coe]
        simp (disch := norm_num) only [← EReal.coe_mul, ← EReal.coe_add, sub_coe, sum_coe, div_coe, tanh_coe]
        obtain rfl : y 0 = a := Fin.ext e0
        exact congrArg Real.toEReal (dzS_hi e1)
      all_goals
        obtain ⟨a, d, rfl⟩ : ∃ a d, x = ix2 a d := ⟨x 0, x 1, eq_ix2 x⟩
        pointwise [k0_pay7, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181]
        simp only [wc_at h4, vn_at h0 h2 h3, zu_at h0, h5, h1, col_zero]
        simp only [cube, cube3, lit_half, lit_gc, one_coe]
        simp (disch := norm_num) only [← EReal.coe_mul, ← EReal.coe_add, sub_coe, sum_coe, tanh_coe]
        obtain rfl : y 0 = a := Fin.ext e0
        refine congrArg Real.toEReal (dzS_lo ?_ ?_)
        · first | exact e1 | exact e1.trans (by simp [col])
        · first | exact hd_col _ d | exact Fin.ext (by simp only [hd]; omega)
    · rw [outsAt0_B m c t h h']; frame_out
      clear h h'
      canon_tiles x e using View.cover_of_tiledBy _ ![128, 128] (by sl_kernel_rfl) _
      case piece0 =>
        obtain ⟨a, d, rfl⟩ : ∃ a d, x = ix2 a d := ⟨x 0, x 1, eq_ix2 x⟩
        pointwise [k0_pay185, k0_pay186]
        simp only [dvn_at h0 h1 h4, vh_at h0, rs_at h0, h2, zv_at h0]
        simp only [cube, cube3, lit_half, lit_gc, lit_2048, one_coe]
        simp (disch := norm_num) only [← EReal.coe_mul, ← EReal.coe_add, sub_coe, sum_coe, div_coe, tanh_coe]
        obtain rfl : y 0 = a := Fin.ext e0
        exact congrArg Real.toEReal (dzS_hi e1)
      all_goals
        obtain ⟨a, d, rfl⟩ : ∃ a d, x = ix2 a d := ⟨x 0, x 1, eq_ix2 x⟩
        pointwise [k0_pay7, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181]
        simp only [wc_at h4, vn_at h0 h2 h3, zu_at h0, h5, h1, col_zero]
        simp only [cube, cube3, lit_half, lit_gc, one_coe]
        simp (disch := norm_num) only [← EReal.coe_mul, ← EReal.coe_add, sub_coe, sum_coe, tanh_coe]
        obtain rfl : y 0 = a := Fin.ext e0
        refine congrArg Real.toEReal (dzS_lo ?_ ?_)
        · first | exact e1 | exact e1.trans (by simp [col])
        · first | exact hd_col _ d | exact Fin.ext (by simp only [hd]; omega)

end
end Cert.GmlpIdeal.Arr

end
-- ==== Proof.GmlpRefVal.lean ====
/- The gradient of the gated block as the chain rule writes it, read over the reals. -/
module

public import proofs.«01_k».proof.Proof.Gen.GmlpRefIdeal.Read
public import proofs.«01_k».proof.Proof.GmlpReal
public import proofs.«01_k».proof.Proof.Real
public import Idealize.ShloMosaic.Lib.Claim

public import Idealize.ShloMosaic.Lib.WordCmp

@[expose] public section

set_option maxRecDepth 16384

noncomputable section

open Idealize.ShloMosaic Idealize.ShloMosaic.TcCoe Idealize.SL.Sem
open Idealize.ShloMosaic.Pipeline (Dat)

namespace Cert.GmlpRefIdeal.Val
open Cert.GmlpRefIdeal Cert.GmlpRefIdeal.Read
open Cert.Fin Cert.Gm
variable {Z : Fin 2048 → Fin 4096 → ℝ} {g b : Fin 2048 → ℝ} {w : Fin 16 → Fin 128 → Fin 128 → ℝ} {bs : Fin 16 → Fin 128 → ℝ} {D : Fin 2048 → Fin 2048 → ℝ}
variable {x0 : FVec Ideal S2048x4096 .f32} {x1 x2 : FVec Ideal S1x2048 .f32} {x3 : FVec Ideal S1x16x128x128 .f32} {x4 : FVec Ideal S1x16x128 .f32} {x5 : FVec Ideal S2048x2048 .f32}

/-- A chunk of the rows. -/
abbrev ch {c : Nat} (Z : Fin 2048 → Fin c → ℝ) (n : Fin 16) : Fin 128 → Fin c → ℝ := fun t k => Z (row n t) k
theorem one_coe : (1 : EReal) = ((1 : ℝ) : EReal) := EReal.coe_one.symm
/-- A row of a chunk and a column of a head, and back. -/
theorem row_of (n : Fin 16) (t : Fin 128) (e : n.val * 128 + t.val < 2048) : (⟨n.val * 128 + t.val, e⟩ : Fin 2048) = row n t := Fin.ext (by simp only [row]; omega)
theorem col_of (h : Fin 16) (d : Fin 128) (e : h.val * 128 + d.val < 2048) : (⟨h.val * 128 + d.val, e⟩ : Fin 2048) = col h d := Fin.ext (by simp only [col]; omega)
theorem row_div (n : Fin 16) (t : Fin 128) (e : (row n t).val / 128 < 16) : (⟨(row n t).val / 128, e⟩ : Fin 16) = n := Fin.ext (by simp only [row]; omega)
theorem row_mod (n : Fin 16) (t : Fin 128) (e : (row n t).val % 128 < 128) : (⟨(row n t).val % 128, e⟩ : Fin 128) = t := Fin.ext (by simp only [row]; omega)
/-- A sum over the first and the last of four axes. -/
theorem reduce03 {n0 n1 n2 n3 : Nat} (h : (⟨4, ![n0, n1, n2, n3]⟩ : Shape).ReducesTo [0, 3] ⟨2, ![n1, n2]⟩) (v : (⟨4, ![n0, n1, n2, n3]⟩ : Shape).Idx → EReal) (init : EReal) (b : Fin n1) (c : Fin n2) :
    Ideal.hostReduceAdd h v init (ix2 b c) = init + ∑ a : Fin n0, ∑ e : Fin n3, v (ix4 a b c e) := by
  unfold Ideal.hostReduceAdd
  rw [Finset.sum_filter_eq_sum_of_fiber _ (fun p : Fin n0 × Fin n3 => ix4 p.1 b c p.2) (fun p p' e => Prod.ext (congrFun e 0) (congrFun e 3)) (fun i => ?_) v, Fintype.sum_prod_type]
  constructor
  · intro e
    refine ⟨(i 0, i 3), funext fun a => Fin.ext ?_⟩
    match a with
    | ⟨0, _⟩ => rfl
    | ⟨1, _⟩ => exact (congrArg Fin.val (congrFun e 0)).symm
    | ⟨2, _⟩ => exact (congrArg Fin.val (congrFun e 1)).symm
    | ⟨3, _⟩ => rfl
  · rintro ⟨p, rfl⟩
    funext a
    match a with
    | ⟨0, _⟩ => rfl
    | ⟨1, _⟩ => rfl
theorem sge_ofNat {a b : Nat} (ha : a < 2 ^ 31) (hb : b < 2 ^ 31) : IntOp.cmpi .sge (BitVec.ofNat 32 a) (BitVec.ofNat 32 b) = BitVec.ofBool (decide (b ≤ a)) :=
  WordCmp.cmpi_sle_ofNat (w := 32) hb ha
theorem zero_word : (FloatOps.sitofp .f32 (0#32) : Ideal .f32) = ((0 : ℝ) : EReal) := by
  show ((BitVec.toInt 0#32 : ℝ) : EReal) = _
  norm_num
theorem q_eq : (44715 : ℝ) / 1000000 = q := by unfold q; norm_num

theorem th_at (h0 : ∀ r k, x0 (ix2 r k) = (Z r k : EReal)) (r : Fin 2048) (k : Fin 4096) : val_main_v15 (F := Ideal) x0 (ix2 r k) = ((th (Z r k) : ℝ) : EReal) := by
  pointwise [val_main_v15, val_main_v14, val_main_v13, val_main_cst_2, val_main_v12, val_main_v11, val_main_v10, val_main_v4, val_main_cst, val_main_cst_0, val_main_v6, val_main_v5]
  simp only [h0, lit_gc, lit_num, lit_den]
  simp (disch := norm_num) only [← EReal.coe_mul, ← EReal.coe_add, div_coe, tanh_coe, q_eq]
  rfl
theorem v_at (h0 : ∀ r k, x0 (ix2 r k) = (Z r k : EReal)) (n : Fin 16) (t : Fin 128) (k : Fin 2048) : val_main_v27 (F := Ideal) x0 (ix2 (row n t) k) = ((v (ch Z n) t k : ℝ) : EReal) := by
  pointwise [val_main_v27, val_main_v25, val_main_v24, val_main_v23, val_main_cst_6, val_main_v22, val_main_v21, val_main_cst_5]
  simp only [h0, th_at h0, lit_half, one_coe, ← EReal.coe_mul, ← EReal.coe_add]
  exact congrArg Real.toEReal (by unfold v ge hi ch; ring_nf)
theorem u_at (h0 : ∀ r k, x0 (ix2 r k) = (Z r k : EReal)) (n : Fin 16) (t : Fin 128) (k : Fin 2048) : val_main_v26 (F := Ideal) x0 (ix2 (row n t) k) = ((u (ch Z n) t k : ℝ) : EReal) := by
  pointwise [val_main_v26, val_main_v25, val_main_v24, val_main_v23, val_main_cst_6, val_main_v22, val_main_v21, val_main_cst_5]
  simp only [h0, th_at h0, lit_half, one_coe, ← EReal.coe_mul, ← EReal.coe_add]
  exact congrArg Real.toEReal (by unfold u ge lo ch; ring_nf)
theorem vc_at (h0 : ∀ r k, x0 (ix2 r k) = (Z r k : EReal)) (n : Fin 16) (t : Fin 128) (k : Fin 2048) : val_main_v33 (F := Ideal) x0 (ix2 (row n t) k) = ((vc (ch Z n) t k : ℝ) : EReal) := by
  pointwise [val_main_v33, val_main_v32, val_main_v31, val_main_v30, val_main_cst_8, val_main_v29, val_main_v28, val_main_cst_7]
  simp only [v_at h0, lit_2048]
  simp (disch := norm_num) only [sum_coe, div_coe, sub_coe]
  rfl
def MS (z : Fin 128 → Fin 4096 → ℝ) (t : Fin 128) : ℝ := (∑ k, vc z t k * vc z t k) / 2048 + eps
theorem rs_div (z : Fin 128 → Fin 4096 → ℝ) (t : Fin 128) : rs z t / MS z t = rs z t * rs z t * rs z t := root_div (ms_pos _)
theorem vc_sum (z : Fin 128 → Fin 4096 → ℝ) (t : Fin 128) : ∑ k, vc z t k = 0 := by
  unfold vc; rw [Finset.sum_sub_distrib, Finset.sum_const, Finset.card_univ, Fintype.card_fin, nsmul_eq_mul]; push_cast; ring
/-- A sum over the rows is a sum over the chunks and the rows of each. -/
theorem sum_rows (f : Fin 2048 → EReal) : ∑ r, f r = ∑ n : Fin 16, ∑ t : Fin 128, f (row n t) := by
  rw [← Fintype.sum_prod_type']
  exact (Fintype.sum_equiv (finProdFinEquiv (m := 16) (n := 128)) _ _ fun p => congrArg f (Fin.ext (by simp only [row, finProdFinEquiv_apply_val]; omega))).symm
theorem MS_pos (z : Fin 128 → Fin 4096 → ℝ) (t : Fin 128) : 0 < MS z t := ms_pos _
theorem ms_at (h0 : ∀ r k, x0 (ix2 r k) = (Z r k : EReal)) (n : Fin 16) (t : Fin 128) : val_main_v40 (F := Ideal) x0 (ix2 (row n t) 0) = ((MS (ch Z n) t : ℝ) : EReal) := by
  pointwise [val_main_v40, val_main_v39, val_main_cst_11, val_main_v38, val_main_v37, val_main_cst_10, val_main_v36, val_main_v35, val_main_cst_9, val_main_v34]
  simp only [vc_at h0, lit_2048, lit_eps]
  simp (disch := norm_num) only [← EReal.coe_mul, ← EReal.coe_add, sum_coe, div_coe]
  rfl
theorem rs_at (h0 : ∀ r k, x0 (ix2 r k) = (Z r k : EReal)) (n : Fin 16) (t : Fin 128) : val_main_v41 (F := Ideal) x0 (ix2 (row n t) 0) = ((rs (ch Z n) t : ℝ) : EReal) := by
  pointwise [val_main_v41]
  simp (disch := first | exact MS_pos _ _) only [ms_at h0, rsqrt_coe]
  rfl
theorem vh_at (h0 : ∀ r k, x0 (ix2 r k) = (Z r k : EReal)) (n : Fin 16) (t : Fin 128) (k : Fin 2048) : val_main_v46 (F := Ideal) x0 (ix2 (row n t) k) = ((vh (ch Z n) t k : ℝ) : EReal) := by
  pointwise [val_main_v46, val_main_v45]
  simp only [vc_at h0, rs_at h0, ← EReal.coe_mul]
  rfl
theorem vn_at (h0 : ∀ r k, x0 (ix2 r k) = (Z r k : EReal)) (h1 : ∀ k, x1 (ix2 0 k) = (g k : EReal)) (h2 : ∀ k, x2 (ix2 0 k) = (b k : EReal)) (n : Fin 16) (t : Fin 128) (k : Fin 2048) :
    val_main_v52 (F := Ideal) x0 x1 x2 (ix2 (row n t) k) = ((vn (ch Z n) g b t k : ℝ) : EReal) := by
  pointwise [val_main_v52, val_main_v51, val_main_v50, val_main_v49, val_main_v48, val_main_v47, val_main_v0, val_main_v1]
  simp only [vh_at h0, h1, h2, ← EReal.coe_mul, ← EReal.coe_add]
  rfl
theorem vn4_at (h0 : ∀ r k, x0 (ix2 r k) = (Z r k : EReal)) (h1 : ∀ k, x1 (ix2 0 k) = (g k : EReal)) (h2 : ∀ k, x2 (ix2 0 k) = (b k : EReal)) (n : Fin 16) (t : Fin 128) (h : Fin 16) (d : Fin 128) :
    val_main_v53 (F := Ideal) x0 x1 x2 (ix4 n t h d) = ((vn (ch Z n) g b t (col h d) : ℝ) : EReal) := by
  pointwise [val_main_v53]
  rw [row_of, col_of, vn_at h0 h1 h2]
theorem wc_at (h3 : ∀ h t s, x3 (ix4 0 h t s) = (w h t s : EReal)) (h : Fin 16) (t s : Fin 128) : val_main_v57_0 (F := Ideal) x3 (ix3 h t s) = ((wc w h t s : ℝ) : EReal) := by
  pointwise [val_main_v57_0, val_main_v57_1, val_main_v55, val_main_v54, val_main_c, val_main_call0_v5, val_main_call0_c_0, val_main_call0_v4, val_main_call0_v3, val_main_call0_v2, val_main_call0_v1, val_main_call0_v0, val_main_call0_c, val_main_v56, val_main_cst_13, val_main_v2]
  rw [show IntOp.addi (BitVec.ofNat 32 t.val) 0#32 = BitVec.ofNat 32 t.val from BitVec.add_zero _, sge_ofNat (by omega) (by omega), h3]
  unfold wc
  split
  case isTrue e => rw [decide_eq_true e]; rfl
  case isFalse e => rw [decide_eq_false e]; rfl
theorem s_at (h0 : ∀ r k, x0 (ix2 r k) = (Z r k : EReal)) (h1 : ∀ k, x1 (ix2 0 k) = (g k : EReal)) (h2 : ∀ k, x2 (ix2 0 k) = (b k : EReal)) (h3 : ∀ h t s, x3 (ix4 0 h t s) = (w h t s : EReal)) (h4 : ∀ h t, x4 (ix3 0 h t) = (bs h t : EReal)) (n : Fin 16) (t : Fin 128) (h : Fin 16) (d : Fin 128) :
    val_main_v64 (F := Ideal) x0 x1 x2 x3 x4 (ix4 n t h d) = ((sv (ch Z n) g b w bs t (col h d) : ℝ) : EReal) := by
  pointwise [val_main_v64, val_main_v63, val_main_v62, val_main_v61, val_main_v60, val_main_v3, val_main_v59, val_main_v58]
  simp only [vn4_at h0 h1 h2, wc_at h3, h4]
  simp only [← EReal.coe_mul, sum_coe, ← EReal.coe_add, ← sv_eq (hd_col h d)]
  simp only [mul_comm]
theorem sv_at (h0 : ∀ r k, x0 (ix2 r k) = (Z r k : EReal)) (h1 : ∀ k, x1 (ix2 0 k) = (g k : EReal)) (h2 : ∀ k, x2 (ix2 0 k) = (b k : EReal)) (h3 : ∀ h t s, x3 (ix4 0 h t s) = (w h t s : EReal)) (h4 : ∀ h t, x4 (ix3 0 h t) = (bs h t : EReal)) (n : Fin 16) (t : Fin 128) (k : Fin 2048) :
    val_main_v65 (F := Ideal) x0 x1 x2 x3 x4 (ix2 (row n t) k) = ((sv (ch Z n) g b w bs t k : ℝ) : EReal) := by
  pointwise [val_main_v65]
  rw [row_div, row_mod]
  exact (s_at h0 h1 h2 h3 h4 n t (hd k) (ln k)).trans (by rw [col_hd])
theorem d_at (h0 : ∀ r k, x0 (ix2 r k) = (Z r k : EReal)) (h5 : ∀ r k, x5 (ix2 r k) = (D r k : EReal)) (n : Fin 16) (t : Fin 128) (h : Fin 16) (d : Fin 128) :
    val_main_v69 (F := Ideal) x0 x5 (ix4 n t h d) = ((dsv (ch Z n) (ch D n) t (col h d) : ℝ) : EReal) := by
  pointwise [val_main_v69, val_main_v67]
  rw [row_of, col_of, u_at h0, h5, ← EReal.coe_mul]
  exact congrArg Real.toEReal (mul_comm _ _)
theorem dvn4_at (h0 : ∀ r k, x0 (ix2 r k) = (Z r k : EReal)) (h3 : ∀ h t s, x3 (ix4 0 h t s) = (w h t s : EReal)) (h5 : ∀ r k, x5 (ix2 r k) = (D r k : EReal)) (n : Fin 16) (t : Fin 128) (h : Fin 16) (d : Fin 128) :
    val_main_v79 (F := Ideal) x0 x3 x5 (ix4 n t h d) = ((dvn (ch Z n) w (ch D n) t (col h d) : ℝ) : EReal) := by
  pointwise [val_main_v79, val_main_v78, val_main_v76]
  simp only [d_at h0 h5, wc_at h3]
  simp only [← EReal.coe_mul, sum_coe, ← dvn_eq (hd_col h d)]
  simp only [mul_comm]
theorem hs_at (h0 : ∀ r k, x0 (ix2 r k) = (Z r k : EReal)) (h5 : ∀ r k, x5 (ix2 r k) = (D r k : EReal)) (t : Fin 128) (h : Fin 16) :
    val_main_v75 (F := Ideal) x0 x5 (ix2 h t) = ((∑ n, hs (ch Z n) (ch D n) t h : ℝ) : EReal) := by
  pointwise [val_main_v75, val_main_v74, val_main_v73, val_main_v72, val_main_v71, val_main_v70]
  rw [Fin.sum_univ_one, reduce03]
  pointwise []
  rw [reduce03]
  pointwise [val_main_cst_14, val_main_cst_15, val_main_cst_16]
  simp only [Fin.sum_univ_one, d_at h0 h5]
  simp only [sum_coe]
  rfl
theorem dw_at (h0 : ∀ r k, x0 (ix2 r k) = (Z r k : EReal)) (h1 : ∀ k, x1 (ix2 0 k) = (g k : EReal)) (h2 : ∀ k, x2 (ix2 0 k) = (b k : EReal)) (h5 : ∀ r k, x5 (ix2 r k) = (D r k : EReal)) (h : Fin 16) (t s : Fin 128) :
    val_main_v77 (F := Ideal) x0 x1 x2 x5 (ix3 h t s) = ((∑ n, dwT (ch Z n) g b (ch D n) h t s : ℝ) : EReal) := by
  pointwise [val_main_v77, val_main_v76]
  simp only [d_at h0 h5, vn4_at h0 h1 h2]
  simp only [← EReal.coe_mul, sum_coe]
  rfl
theorem dvn_at (h0 : ∀ r k, x0 (ix2 r k) = (Z r k : EReal)) (h3 : ∀ h t s, x3 (ix4 0 h t s) = (w h t s : EReal)) (h5 : ∀ r k, x5 (ix2 r k) = (D r k : EReal)) (n : Fin 16) (t : Fin 128) (k : Fin 2048) :
    val_main_v81 (F := Ideal) x0 x3 x5 (ix2 (row n t) k) = ((dvn (ch Z n) w (ch D n) t k : ℝ) : EReal) := by
  pointwise [val_main_v81]
  rw [row_div, row_mod]
  exact (dvn4_at h0 h3 h5 n t (hd k) (ln k)).trans (by rw [col_hd])
theorem dxh_at (h0 : ∀ r k, x0 (ix2 r k) = (Z r k : EReal)) (h1 : ∀ k, x1 (ix2 0 k) = (g k : EReal)) (h3 : ∀ h t s, x3 (ix4 0 h t s) = (w h t s : EReal)) (h5 : ∀ r k, x5 (ix2 r k) = (D r k : EReal)) (n : Fin 16) (t : Fin 128) (k : Fin 2048) :
    val_main_v89 (F := Ideal) x0 x1 x3 x5 (ix2 (row n t) k) = ((dxh (ch Z n) g w (ch D n) t k : ℝ) : EReal) := by
  pointwise [val_main_v89, val_main_v88, val_main_v47, val_main_v0]
  simp only [dvn_at h0 h3 h5, h1, ← EReal.coe_mul]
  rfl
theorem m_at (h0 : ∀ r k, x0 (ix2 r k) = (Z r k : EReal)) (h1 : ∀ k, x1 (ix2 0 k) = (g k : EReal)) (h3 : ∀ h t s, x3 (ix4 0 h t s) = (w h t s : EReal)) (h5 : ∀ r k, x5 (ix2 r k) = (D r k : EReal)) (n : Fin 16) (t : Fin 128) :
    val_main_v98 (F := Ideal) x0 x1 x3 x5 (ix2 (row n t) 0) = (((∑ k, vc (ch Z n) t k * dxh (ch Z n) g w (ch D n) t k) * (-(1 / 2) * (rs (ch Z n) t / MS (ch Z n) t)) / 2048 : ℝ) : EReal) := by
  pointwise [val_main_v98, val_main_v97, val_main_cst_22, val_main_v96, val_main_v93, val_main_v92, val_main_cst_21, val_main_v91, val_main_v44, val_main_v43, val_main_cst_12, val_main_v42]
  simp only [vc_at h0, dxh_at h0 h1 h3 h5, rs_at h0, ms_at h0, lit_neg_half, lit_2048]
  simp (disch := first | exact (MS_pos _ _).ne' | norm_num) only [← EReal.coe_mul, sum_coe, div_coe]
theorem p_at (h0 : ∀ r k, x0 (ix2 r k) = (Z r k : EReal)) (h1 : ∀ k, x1 (ix2 0 k) = (g k : EReal)) (h3 : ∀ h t s, x3 (ix4 0 h t s) = (w h t s : EReal)) (h5 : ∀ r k, x5 (ix2 r k) = (D r k : EReal)) (n : Fin 16) (t : Fin 128) (k : Fin 2048) :
    val_main_v104 (F := Ideal) x0 x1 x3 x5 (ix2 (row n t) k) = ((rs (ch Z n) t * (dxh (ch Z n) g w (ch D n) t k - vh (ch Z n) t k * ((∑ j, dxh (ch Z n) g w (ch D n) t j * vh (ch Z n) t j) / 2048)) : ℝ) : EReal) := by
  pointwise [val_main_v104, val_main_v103, val_main_v102, val_main_v101, val_main_v100, val_main_v99, val_main_cst_23, val_main_v95, val_main_v94]
  simp only [Fin.sum_univ_one]
  simp only [vc_at h0, dxh_at h0 h1 h3 h5, rs_at h0, m_at h0 h1 h3 h5]
  simp only [← EReal.coe_mul, ← EReal.coe_add]
  refine congrArg Real.toEReal ?_
  have e : rs (ch Z n) t / MS (ch Z n) t = rs (ch Z n) t * rs (ch Z n) t * rs (ch Z n) t := rs_div _ _
  have e2 : ∑ j, dxh (ch Z n) g w (ch D n) t j * vh (ch Z n) t j = (∑ k, vc (ch Z n) t k * dxh (ch Z n) g w (ch D n) t k) * rs (ch Z n) t := by
    rw [Finset.sum_mul]; exact Finset.sum_congr rfl fun j _ => by unfold vh; ring
  rw [e, e2]; unfold vh; ring
theorem dv_at (h0 : ∀ r k, x0 (ix2 r k) = (Z r k : EReal)) (h1 : ∀ k, x1 (ix2 0 k) = (g k : EReal)) (h3 : ∀ h t s, x3 (ix4 0 h t s) = (w h t s : EReal)) (h5 : ∀ r k, x5 (ix2 r k) = (D r k : EReal)) (n : Fin 16) (t : Fin 128) (k : Fin 2048) :
    val_main_v112 (F := Ideal) x0 x1 x3 x5 (ix2 (row n t) k) = ((dv (ch Z n) g w (ch D n) t k : ℝ) : EReal) := by
  pointwise [val_main_v112, val_main_v111, val_main_v110, val_main_cst_26, val_main_v109, val_main_v108, val_main_cst_25, val_main_v107, val_main_v106, val_main_cst_24, val_main_v105]
  simp only [Fin.sum_univ_one]
  simp only [p_at h0 h1 h3 h5, lit_2048]
  simp (disch := norm_num) only [← EReal.coe_mul, ← EReal.coe_add, ← EReal.coe_neg, sum_coe, div_coe]
  refine congrArg Real.toEReal ?_
  have e : ∑ k, vh (ch Z n) t k = 0 := by unfold vh; rw [← Finset.sum_mul, vc_sum, zero_mul]
  unfold dv
  rw [Finset.sum_neg_distrib, ← Finset.mul_sum, Finset.sum_sub_distrib, ← Finset.sum_mul, e]; ring
theorem dz_at (h0 : ∀ r k, x0 (ix2 r k) = (Z r k : EReal)) (h1 : ∀ k, x1 (ix2 0 k) = (g k : EReal)) (h2 : ∀ k, x2 (ix2 0 k) = (b k : EReal)) (h3 : ∀ h t s, x3 (ix4 0 h t s) = (w h t s : EReal)) (h4 : ∀ h t, x4 (ix3 0 h t) = (bs h t : EReal)) (h5 : ∀ r k, x5 (ix2 r k) = (D r k : EReal)) (n : Fin 16) (t : Fin 128) (k : Fin 4096) :
    val_main_v126 (F := Ideal) x0 x1 x2 x3 x4 x5 (ix2 (row n t) k) = ((dzS (ch Z n) g b w bs (ch D n) t k : ℝ) : EReal) := by
  pointwise [val_main_v126, val_main_v20, val_main_v19, val_main_v18, val_main_v17, val_main_v16, val_main_cst_3, val_main_cst_4, val_main_v24, val_main_v23, val_main_cst_6, val_main_v22, val_main_v21, val_main_cst_5, val_main_v4, val_main_cst, val_main_cst_0, val_main_v9, val_main_v8, val_main_cst_1, val_main_v7, val_main_v125, val_main_v124, val_main_v123, val_main_v122, val_main_v121, val_main_v120, val_main_v119, val_main_cst_28, val_main_v118, val_main_v117, val_main_v116, val_main_cst_27, val_main_v115, val_main_v114, val_main_v113, val_main_v68]
  simp only [h0, h5, th_at h0, sv_at h0 h1 h2 h3 h4, dv_at h0 h1 h3 h5, lit_gc, lit_num, lit_den, lit_three, lit_half, one_coe]
  simp (disch := norm_num) only [div_coe, q_eq, ← EReal.coe_mul, ← EReal.coe_add, sub_coe]
  unfold dzS
  split
  case isTrue e =>
    simp only [← EReal.coe_mul, ← EReal.coe_add]
    exact congrArg Real.toEReal (by unfold dzl dge lo ch; ring_nf)
  case isFalse e =>
    simp only [← EReal.coe_mul, ← EReal.coe_add]
    refine congrArg Real.toEReal ?_
    unfold dzr dge
    rw [show hi ⟨k.val - 2048, by omega⟩ = k from Fin.ext (by simp only [hi]; omega)]
    ring_nf
theorem dg_at (h0 : ∀ r k, x0 (ix2 r k) = (Z r k : EReal)) (h3 : ∀ h t s, x3 (ix4 0 h t s) = (w h t s : EReal)) (h5 : ∀ r k, x5 (ix2 r k) = (D r k : EReal)) (k : Fin 2048) :
    val_main_v129 (F := Ideal) x0 x3 x5 (ix2 0 k) = ((∑ n, ∑ t, dvn (ch Z n) w (ch D n) t k * vh (ch Z n) t k : ℝ) : EReal) := by
  pointwise [val_main_v129, val_main_v90, val_main_cst_20, val_main_v87, val_main_v86, val_main_cst_19, val_main_v85]
  simp only [Fin.sum_univ_one]
  rw [sum_rows]
  simp only [vh_at h0, dvn_at h0 h3 h5, ← EReal.coe_mul, sum_coe]
  simp only [mul_comm]
theorem db_at (h0 : ∀ r k, x0 (ix2 r k) = (Z r k : EReal)) (h3 : ∀ h t s, x3 (ix4 0 h t s) = (w h t s : EReal)) (h5 : ∀ r k, x5 (ix2 r k) = (D r k : EReal)) (k : Fin 2048) :
    val_main_v130 (F := Ideal) x0 x3 x5 (ix2 0 k) = ((∑ n, ∑ t, dvn (ch Z n) w (ch D n) t k : ℝ) : EReal) := by
  pointwise [val_main_v130, val_main_v84, val_main_cst_18, val_main_v83, val_main_v82, val_main_cst_17]
  simp only [Fin.sum_univ_one]
  rw [sum_rows]
  simp only [dvn_at h0 h3 h5, sum_coe]
theorem dbs_at (h0 : ∀ r k, x0 (ix2 r k) = (Z r k : EReal)) (h5 : ∀ r k, x5 (ix2 r k) = (D r k : EReal)) (t j : Fin 128) :
    val_main_v128 (F := Ideal) x0 x5 (ix2 t j) = ((∑ n, dbsS (ch Z n) (ch D n) t j : ℝ) : EReal) := by
  pointwise [val_main_v128, val_main_call3_v0, val_main_c_29, val_main_v127]
  simp only [dbsS_eq]
  split
  case isTrue e => rw [hs_at h0 h5]
  case isFalse e => rw [Finset.sum_const_zero]; exact zero_word
theorem dws_at (h0 : ∀ r k, x0 (ix2 r k) = (Z r k : EReal)) (h1 : ∀ k, x1 (ix2 0 k) = (g k : EReal)) (h2 : ∀ k, x2 (ix2 0 k) = (b k : EReal)) (h5 : ∀ r k, x5 (ix2 r k) = (D r k : EReal)) (h : Fin 16) (t s : Fin 128) :
    val_main_v80 (F := Ideal) x0 x1 x2 x5 (ix3 h t s) = if s.val ≤ t.val then ((∑ n, dwT (ch Z n) g b (ch D n) h t s : ℝ) : EReal) else 0 := by
  pointwise [val_main_v80, val_main_v57_1, val_main_v55, val_main_v54, val_main_c, val_main_call0_v5, val_main_call0_c_0, val_main_call0_v4, val_main_call0_v3, val_main_call0_v2, val_main_call0_v1, val_main_call0_v0, val_main_call0_c, val_main_call2_v0, val_main_call2_cst]
  rw [show IntOp.addi (BitVec.ofNat 32 t.val) 0#32 = BitVec.ofNat 32 t.val from BitVec.add_zero _, sge_ofNat (by omega) (by omega), dw_at h0 h1 h2 h5]
  split
  case isTrue e => rw [decide_eq_true e]; rfl
  case isFalse e => rw [decide_eq_false e]; rfl
end Cert.GmlpRefIdeal.Val

end
-- ==== Proof.GmlpValue.lean ====
/- The five results of the gated mixing call, and the same five of the chain rule. -/
module

public import proofs.«01_k».proof.Proof.GmlpStep
public import proofs.«01_k».proof.Proof.GmlpRefVal
public import proofs.«01_k».proof.Proof.Real
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GmlpIdeal.Arr
open Cert.GmlpIdeal Cert.GmlpIdeal.Gen Cert.GmlpIdeal.Pay
open Cert.Fin Cert.Gm
open Cert.GmlpRefIdeal.Val (ch)
variable (m : (ℓ : Loc nD τ sig) → Buf (Elt Ideal) ℓ)
variable {Z : Fin 2048 → Fin 4096 → ℝ} {g b : Fin 2048 → ℝ} {w : Fin 16 → Fin 128 → Fin 128 → ℝ} {bs : Fin 16 → Fin 128 → ℝ} {D : Fin 2048 → Fin 2048 → ℝ}

theorem idx : ∀ t : Fin cfg0.N, win0_0.index t = ![t.val, 0] ∧ win0_1.index t = ![t.val, 0] ∧ win0_2.index t = ![0, 0] ∧ win0_3.index t = ![0, 0]
    ∧ win0_4.index t = ![0, 0, 0] ∧ win0_5.index t = ![0, 0] ∧ win0_6.index t = ![t.val, 0] ∧ win0_7.index t = ![0, 0, 0] ∧ win0_8.index t = ![0, 0] ∧ win0_9.index t = ![0, 0] ∧ win0_10.index t = ![0, 0] :=
  (by decide +kernel : ∀ t : Fin grid0.N, _)

abbrev zA (c : Dev nD) : FVec Ideal S2048x4096 .f32 := m ((c : Thread nD τ).loc main_arg0)
abbrev gA (c : Dev nD) : FVec Ideal S1x2048 .f32 := m ((c : Thread nD τ).loc main_arg1)
abbrev bA (c : Dev nD) : FVec Ideal S1x2048 .f32 := m ((c : Thread nD τ).loc main_arg2)
abbrev wA (c : Dev nD) : FVec Ideal S1x16x128x128 .f32 := m ((c : Thread nD τ).loc main_arg3)
abbrev sA (c : Dev nD) : FVec Ideal S1x16x128 .f32 := m ((c : Thread nD τ).loc main_arg4)
abbrev dA (c : Dev nD) : FVec Ideal S2048x2048 .f32 := m ((c : Thread nD τ).loc main_arg5)

abbrev ref6 (c : Dev nD) := Cert.GmlpRefIdeal.Read.val_main_v126 (F := Ideal) (zA m c) (gA m c) (bA m c) (wA m c) (sA m c) (dA m c)
abbrev ref7 (c : Dev nD) := Cert.GmlpRefIdeal.Read.val_main_v80 (F := Ideal) (zA m c) (gA m c) (bA m c) (dA m c)
abbrev ref8 (c : Dev nD) := Cert.GmlpRefIdeal.Read.val_main_v128 (F := Ideal) (zA m c) (dA m c)
abbrev ref9 (c : Dev nD) := Cert.GmlpRefIdeal.Read.val_main_v129 (F := Ideal) (zA m c) (wA m c) (dA m c)
abbrev ref10 (c : Dev nD) := Cert.GmlpRefIdeal.Read.val_main_v130 (F := Ideal) (zA m c) (wA m c) (dA m c)

/-- The chunk a grid point works on. -/
abbrev pt (t : Fin cfg0.N) : Fin 16 := ⟨t.val, lt_of_lt_of_eq t.isLt N_0⟩

theorem sum_pt (f : Fin 16 → ℝ) : ∑ p : Fin cfg0.N, ((f (pt p) : ℝ) : EReal) = ((∑ n, f n : ℝ) : EReal) := by
  rw [sum_coe]
  exact congrArg Real.toEReal (Fintype.sum_equiv (finCongr N_0) _ _ fun _ => rfl)

theorem eq_ix2' (j : S1x2048.Idx) : j = ix2 0 (j 1) := by
  rw [eq_ix2 j]; exact congrArg (fun a => ix2 a (j 1)) (Subsingleton.elim _ _)
section
variable {c : Dev nD}
   (h0 : ∀ r k, zA m c (ix2 r k) = (Z r k : EReal)) (h1 : ∀ k, gA m c (ix2 0 k) = (g k : EReal)) (h2 : ∀ k, bA m c (ix2 0 k) = (b k : EReal))
   (h3 : ∀ h t s, wA m c (ix4 0 h t s) = (w h t s : EReal)) (h4 : ∀ h t, sA m c (ix3 0 h t) = (bs h t : EReal)) (h5 : ∀ r k, dA m c (ix2 r k) = (D r k : EReal))

include h0 in
theorem b0 (t : Fin cfg0.N) (n : Fin 128) (k : Fin 4096) : (show FVec Ideal S128x4096 .f32 from iblk m c 0 t) (ix2 n k) = (ch Z (pt t) n k : EReal) :=
  Eq.trans (b := zA m c (ix2 ⟨128 * t.val + n.val, (row (pt t) n).isLt⟩ k)) (by blk_point [iblk, V_main_arg0, idx t]) (h0 _ _)
include h5 in
theorem b1 (t : Fin cfg0.N) (n : Fin 128) (k : Fin 2048) : (show FVec Ideal S128x2048 .f32 from iblk m c 1 t) (ix2 n k) = (ch D (pt t) n k : EReal) :=
  Eq.trans (b := dA m c (ix2 ⟨128 * t.val + n.val, (row (pt t) n).isLt⟩ k)) (by blk_point [iblk, V_main_arg5, idx t]) (h5 _ _)
include h1 in
theorem b2 (t : Fin cfg0.N) (k : Fin 2048) : (show FVec Ideal S1x2048 .f32 from iblk m c 2 t) (ix2 0 k) = (g k : EReal) :=
  Eq.trans (b := gA m c (ix2 0 k)) (by blk_point [iblk, V_main_arg1, idx t]) (h1 _)
include h2 in
theorem b3 (t : Fin cfg0.N) (k : Fin 2048) : (show FVec Ideal S1x2048 .f32 from iblk m c 3 t) (ix2 0 k) = (b k : EReal) :=
  Eq.trans (b := bA m c (ix2 0 k)) (by blk_point [iblk, V_main_arg2, idx t]) (h2 _)
include h3 in
theorem b4 (t : Fin cfg0.N) (h : Fin 16) (n s : Fin 128) : (show FVec Ideal S16x128x128 .f32 from iblk m c 4 t) (ix3 h n s) = (w h n s : EReal) := by
  refine Eq.trans (b := wA m c (ix4 0 h n s)) ?_ (h3 _ _ _)
  blk_simp [iblk, idx t]
  entry_read
  pointwise
  blk_point [idx t]
include h4 in
theorem b5 (t : Fin cfg0.N) (n : Fin 128) (h : Fin 16) : (show FVec Ideal S128x16 .f32 from iblk m c 5 t) (ix2 n h) = (bs h n : EReal) := by
  refine Eq.trans (b := sA m c (ix3 0 h n)) ?_ (h4 _ _)
  blk_simp [iblk, idx t]
  entry_read
  pointwise
  blk_point [idx t]

include h0 h1 h2 h3 h4 h5

theorem out6 (t : Fin cfg0.N) (y : S128x4096.Idx) : (outsAt0 m c t.val t.isLt).1 y = ref6 m c (((cfg0.win 6).blk t).view.emb y) := by
  rw [eq_ix2 y]
  refine (dz_out m (b0 m h0 t) (b1 m h5 t) (b2 m h1 t) (b3 m h2 t) (b4 m h3 t) (b5 m h4 t) _).trans ?_
  refine (Cert.GmlpRefIdeal.Val.dz_at h0 h1 h2 h3 h4 h5 (pt t) (y 0) (y 1)).symm.trans (congrArg _ ?_)
  rw [show row (pt t) (y 0) = ⟨128 * t.val + (y 0).val, (row (pt t) (y 0)).isLt⟩ from rfl]
  blk_ext [idx t]

theorem final6 : (dats m 0 c).arrAt 6 (cfgs 0).N = ref6 m c := by
  refine (dats m 0 c).arrAt_eq_of_covers 6 _ (by decide +kernel) fun t _ y => ?_
  blk_simp
  rw [after0_6]
  exact out6 m h0 h1 h2 h3 h4 h5 t y

theorem acc9 (k : Fin 2048) : (show FVec Ideal S1x2048 .f32 from (outsAt0 m c t0_15.val t0_15.isLt).2.2.2.1) (ix2 0 k) = ref9 m c (ix2 0 k) := by
  refine (Pipeline.eq_sum_fin_of_reset_step_apply_last (fun n h (k : Fin 2048) => (show FVec Ideal S1x2048 .f32 from (outsAt0 m c n h).2.2.2.1) (ix2 0 k)) 16 (fun _ => 0)
    (fun t k => ((∑ s, dvn (ch Z (pt t)) w (ch D (pt t)) s k * vh (ch Z (pt t)) s k : ℝ) : EReal))
    (fun t h k => dg_zero m (b0 m h0 t) (b1 m h5 t) (b2 m h1 t) (b3 m h2 t) (b4 m h3 t) (b5 m h4 t) h k)
    (fun t h k => dg_step m (b0 m h0 t) (b1 m h5 t) (b2 m h1 t) (b3 m h2 t) (b4 m h3 t) (b5 m h4 t) h k) (le_of_eq N_0) t0_15 rfl k).trans ?_
  rw [zero_add]
  exact (sum_pt (fun n => ∑ s, dvn (ch Z n) w (ch D n) s k * vh (ch Z n) s k)).trans (Cert.GmlpRefIdeal.Val.dg_at h0 h3 h5 k).symm
theorem acc10 (k : Fin 2048) : (show FVec Ideal S1x2048 .f32 from (outsAt0 m c t0_15.val t0_15.isLt).2.2.2.2) (ix2 0 k) = ref10 m c (ix2 0 k) := by
  refine (Pipeline.eq_sum_fin_of_reset_step_apply_last (fun n h (k : Fin 2048) => (show FVec Ideal S1x2048 .f32 from (outsAt0 m c n h).2.2.2.2) (ix2 0 k)) 16 (fun _ => 0)
    (fun t k => ((∑ s, dvn (ch Z (pt t)) w (ch D (pt t)) s k : ℝ) : EReal))
    (fun t h k => db_zero m (b0 m h0 t) (b1 m h5 t) (b2 m h1 t) (b3 m h2 t) (b4 m h3 t) (b5 m h4 t) h k)
    (fun t h k => db_step m (b0 m h0 t) (b1 m h5 t) (b2 m h1 t) (b3 m h2 t) (b4 m h3 t) (b5 m h4 t) h k) (le_of_eq N_0) t0_15 rfl k).trans ?_
  rw [zero_add]
  exact (sum_pt (fun n => ∑ s, dvn (ch Z n) w (ch D n) s k)).trans (Cert.GmlpRefIdeal.Val.db_at h0 h3 h5 k).symm
theorem acc8 (n j : Fin 128) : (show FVec Ideal S128x128 .f32 from (outsAt0 m c t0_15.val t0_15.isLt).2.2.1) (ix2 n j) = ref8 m c (ix2 n j) := by
  refine (Pipeline.eq_sum_fin_of_reset_step_apply_last (fun a h (p : Fin 128 × Fin 128) => (show FVec Ideal S128x128 .f32 from (outsAt0 m c a h).2.2.1) (ix2 p.1 p.2)) 16 (fun _ => 0)
    (fun t p => ((dbsS (ch Z (pt t)) (ch D (pt t)) p.1 p.2 : ℝ) : EReal))
    (fun t h p => dbs_zero m (b0 m h0 t) (b1 m h5 t) (b2 m h1 t) (b3 m h2 t) (b4 m h3 t) (b5 m h4 t) h p.1 p.2)
    (fun t h p => dbs_step m (b0 m h0 t) (b1 m h5 t) (b2 m h1 t) (b3 m h2 t) (b4 m h3 t) (b5 m h4 t) h p.1 p.2) (le_of_eq N_0) t0_15 rfl (n, j)).trans ?_
  rw [zero_add]
  exact (sum_pt (fun a => dbsS (ch Z a) (ch D a) n j)).trans (Cert.GmlpRefIdeal.Val.dbs_at h0 h5 n j).symm

/-- The mixing matrix's gradient before the mask of its last point. -/
theorem acc7 (y : S16x128x128.Idx) : (show FVec Ideal S16x128x128 .f32 from (outsAt0 m c (t0_15.val - 1) (Nat.lt_of_le_of_lt (Nat.sub_le _ _) t0_15.isLt)).2.1) y + ((dwT (ch Z (pt t0_15)) g b (ch D (pt t0_15)) (y 0) (y 1) (y 2) : ℝ) : EReal)
    = ((∑ n, dwT (ch Z n) g b (ch D n) (y 0) (y 1) (y 2) : ℝ) : EReal) := by
  have e := Pipeline.eq_sum_fin_of_reset_step_apply_last (fun a h (y : S16x128x128.Idx) => if a = 15
      then (show FVec Ideal S16x128x128 .f32 from (outsAt0 m c (a - 1) (Nat.lt_of_le_of_lt (Nat.sub_le _ _) h)).2.1) y + ((dwT (ch Z (pt ⟨a, h⟩)) g b (ch D (pt ⟨a, h⟩)) (y 0) (y 1) (y 2) : ℝ) : EReal)
      else (show FVec Ideal S16x128x128 .f32 from (outsAt0 m c a h).2.1) y) 16 (fun _ => 0)
    (fun t y => ((dwT (ch Z (pt t)) g b (ch D (pt t)) (y 0) (y 1) (y 2) : ℝ) : EReal))
    (fun t h y => by
      rw [if_neg (by omega)]
      exact dws_zero m (b0 m h0 t) (b1 m h5 t) (b2 m h1 t) (b3 m h2 t) (b4 m h3 t) (b5 m h4 t) h y)
    (fun t h y => by
      have ht : t.val < 16 := lt_of_lt_of_eq t.isLt N_0
      by_cases h' : t.val = 15
      · rw [if_pos h', if_neg (by omega)]
      · rw [if_neg h', if_neg (by omega)]
        exact dws_step m (b0 m h0 t) (b1 m h5 t) (b2 m h1 t) (b3 m h2 t) (b4 m h3 t) (b5 m h4 t) h (by omega) y) (le_of_eq N_0) t0_15 rfl y
  rw [if_pos (show t0_15.val = 15 from rfl), zero_add] at e
  exact e.trans (sum_pt (fun n => dwT (ch Z n) g b (ch D n) (y 0) (y 1) (y 2)))
theorem out7 (h : Fin 16) (n s : Fin 128) : (show FVec Ideal S16x128x128 .f32 from (outsAt0 m c t0_15.val t0_15.isLt).2.1) (ix3 h n s) = ref7 m c (ix3 h n s) := by
  rw [dws_last m (b0 m h0 t0_15) (b1 m h5 t0_15) (b2 m h1 t0_15) (b3 m h2 t0_15) (b4 m h3 t0_15) (b5 m h4 t0_15) (by decide) (by decide)]
  rw [show (fun y : S16x128x128.Idx => _) = fun y => ((∑ n, dwT (ch Z n) g b (ch D n) (y 0) (y 1) (y 2) : ℝ) : EReal) from funext fun y => acc7 m h0 h1 h2 h3 h4 h5 y]
  refine Eq.trans ?_ (Cert.GmlpRefIdeal.Val.dws_at h0 h1 h2 h5 h n s).symm
  pointwise [k0_pay1]
  rw [mask]

theorem final7 : (dats m 0 c).arrAt 7 (cfgs 0).N = ref7 m c := by
  refine (dats m 0 c).arrAt_eq_of_after_last 7 t0_15 (by decide +kernel) _ fun j => ?_
  blk_simp
  rw [after0_7, eq_ix3 j]
  exact out7 m h0 h1 h2 h3 h4 h5 _ _ _
theorem final8 : (dats m 0 c).arrAt 8 (cfgs 0).N = ref8 m c := by
  refine (dats m 0 c).arrAt_eq_of_after_last 8 t0_15 (by decide +kernel) _ fun j => ?_
  blk_simp
  rw [after0_8, eq_ix2 j]
  exact acc8 m h0 h1 h2 h3 h4 h5 _ _
theorem final9 : (dats m 0 c).arrAt 9 (cfgs 0).N = ref9 m c := by
  refine (dats m 0 c).arrAt_eq_of_after_last 9 t0_15 (by decide +kernel) _ fun j => ?_
  blk_simp
  rw [after0_9, eq_ix2' j]
  exact acc9 m h0 h1 h2 h3 h4 h5 _
theorem final10 : (dats m 0 c).arrAt 10 (cfgs 0).N = ref10 m c := by
  refine (dats m 0 c).arrAt_eq_of_after_last 10 t0_15 (by decide +kernel) _ fun j => ?_
  blk_simp
  rw [after0_10, eq_ix2' j]
  exact acc10 m h0 h1 h2 h3 h4 h5 _

end
end Cert.GmlpIdeal.Arr

end
-- ==== Proof.Mix.lean ====
/- The claims on the gradient of the gated mixing block: the runs of the call and of the reference, side by side. -/
module

public import proofs.«01_k».proof.Proof.GmlpValue
public import proofs.«01_k».proof.Proof.Gen.Gmlp.Frame
public import proofs.«01_k».proof.Proof.Gen.GmlpRefIdeal.Run
public import proofs.«01_k».proof.Proof.Gen.Pre_finite_gmlp
public import proofs.«01_k».proof.Proof.Real
public import Idealize.ShloMosaic.Lib.Claim

public import proofs.«01_k».proof.Defs

@[expose] public section

set_option maxRecDepth 16384

noncomputable section

open Idealize.ShloMosaic Idealize.ShloMosaic.TcCoe Idealize.SL.Sem
open Idealize.ShloMosaic.Pipeline (Dat)

namespace Cert.Mix
open Cert.GmlpIdeal

instance : Subsingleton Cert.Pre_finite_gmlp.S_.Idx := ⟨fun a b => funext fun d => d.elim0⟩

/-- What the precondition says: every argument is an array of real numbers. -/
theorem reals (z : FVec Ideal S2048x4096 .f32) (g b : FVec Ideal S1x2048 .f32) (w : FVec Ideal S1x16x128x128 .f32) (s : FVec Ideal S1x16x128 .f32) (d : FVec Ideal S2048x2048 .f32)
    (e : Cert.Pre_finite_gmlp.fn (F := Ideal) z g b w s d = fun _ => 1#1) :
    (∃ f : S2048x4096.Idx → ℝ, z = fun i => (f i : EReal)) ∧ (∃ f : S1x2048.Idx → ℝ, g = fun i => (f i : EReal)) ∧ (∃ f : S1x2048.Idx → ℝ, b = fun i => (f i : EReal))
      ∧ (∃ f : S1x16x128x128.Idx → ℝ, w = fun i => (f i : EReal)) ∧ (∃ f : S1x16x128.Idx → ℝ, s = fun i => (f i : EReal)) ∧ ∃ f : S2048x2048.Idx → ℝ, d = fun i => (f i : EReal) := by
  have e0 := congrFun e (fun d => d.elim0)
  obtain ⟨e1, e6⟩ := IntOp.andi_eq_one.1 e0
  obtain ⟨e1, e5⟩ := IntOp.andi_eq_one.1 e1
  obtain ⟨e1, e4⟩ := IntOp.andi_eq_one.1 e1
  obtain ⟨e1, e3⟩ := IntOp.andi_eq_one.1 e1
  obtain ⟨e1, e2⟩ := IntOp.andi_eq_one.1 e1
  exact ⟨Cert.Fin.reals_of_all _ _ (fun _ => rfl) _ _ _ _ e1, Cert.Fin.reals_of_all _ _ (fun _ => rfl) _ _ _ _ e2, Cert.Fin.reals_of_all _ _ (fun _ => rfl) _ _ _ _ e3,
    Cert.Fin.reals_of_all _ _ (fun _ => rfl) _ _ _ _ e4, Cert.Fin.reals_of_all _ _ (fun _ => rfl) _ _ _ _ e5, Cert.Fin.reals_of_all _ _ (fun _ => rfl) _ _ _ _ e6⟩

theorem algebraic_mix : Cert.algebraic_GmlpIdeal_GmlpRefIdeal_pre_finite_gmlp (hGmlpIdeal := Cert.GmlpIdeal.Gen.facts)
    (hGmlpRefIdeal := Cert.GmlpRefIdeal.Gen.facts) (hPre_finite_gmlp := Cert.Pre_finite_gmlp.Gen.facts) := by
  intro m g m' g' hpre hag
  refine ⟨fun c => Arr.ref6 m c, fun c => Arr.ref7 m c, fun c => Arr.ref8 m c, fun c => Arr.ref9 m c, fun c => Arr.ref10 m c, ?_, ?_⟩
  · refine (θ_run _ _ _).mono (fun r h c => ?_) (Cert.GmlpIdeal.Value.run_blocks m g)
    obtain ⟨h6, h7, h8, h9, h10, hr⟩ := h c
    obtain ⟨⟨z, hz⟩, ⟨g, hg⟩, ⟨b, hb⟩, ⟨w, hw⟩, ⟨s, hs⟩, ⟨d, hd⟩⟩ := reals _ _ _ _ _ _ (hpre c)
    have a0 : ∀ r k, Arr.zA m c (ix2 r k) = ((z (ix2 r k) : ℝ) : EReal) := fun r k => congrFun hz (ix2 r k)
    have a1 : ∀ k, Arr.gA m c (ix2 0 k) = ((g (ix2 0 k) : ℝ) : EReal) := fun k => congrFun hg (ix2 0 k)
    have a2 : ∀ k, Arr.bA m c (ix2 0 k) = ((b (ix2 0 k) : ℝ) : EReal) := fun k => congrFun hb (ix2 0 k)
    have a3 : ∀ h t s, Arr.wA m c (ix4 0 h t s) = ((w (ix4 0 h t s) : ℝ) : EReal) := fun h t s => congrFun hw (ix4 0 h t s)
    have a4 : ∀ h t, Arr.sA m c (ix3 0 h t) = ((s (ix3 0 h t) : ℝ) : EReal) := fun h t => congrFun hs (ix3 0 h t)
    have a5 : ∀ r k, Arr.dA m c (ix2 r k) = ((d (ix2 r k) : ℝ) : EReal) := fun r k => congrFun hd (ix2 r k)
    exact ⟨h6.trans (Arr.final6 m a0 a1 a2 a3 a4 a5), h7.trans (Arr.final7 m a0 a1 a2 a3 a4 a5), h8.trans (Arr.final8 m a0 a1 a2 a3 a4 a5),
      h9.trans (Arr.final9 m a0 a1 a2 a3 a4 a5), h10.trans (Arr.final10 m a0 a1 a2 a3 a4 a5), hr⟩
  · refine (θ_run _ _ _).mono (fun r h c => ?_) (Cert.GmlpRefIdeal.Value.run m' g')
    obtain ⟨h6, h7, h8, h9, h10, hr⟩ := h c
    obtain ⟨e0, e1, e2, e3, e4, e5⟩ := hag c
    replace h6 : _ = Cert.GmlpRefIdeal.Read.val_main_v126 (F := Ideal) (m' ((c : Thread Cert.GmlpRefIdeal.nD Cert.GmlpRefIdeal.τ).loc Cert.GmlpRefIdeal.main_arg0)) (m' ((c : Thread Cert.GmlpRefIdeal.nD Cert.GmlpRefIdeal.τ).loc Cert.GmlpRefIdeal.main_arg1)) (m' ((c : Thread Cert.GmlpRefIdeal.nD Cert.GmlpRefIdeal.τ).loc Cert.GmlpRefIdeal.main_arg2)) (m' ((c : Thread Cert.GmlpRefIdeal.nD Cert.GmlpRefIdeal.τ).loc Cert.GmlpRefIdeal.main_arg3)) (m' ((c : Thread Cert.GmlpRefIdeal.nD Cert.GmlpRefIdeal.τ).loc Cert.GmlpRefIdeal.main_arg4)) (m' ((c : Thread Cert.GmlpRefIdeal.nD Cert.GmlpRefIdeal.τ).loc Cert.GmlpRefIdeal.main_arg5)) := h6.trans (Cert.GmlpRefIdeal.Read.val_main_v126_eq _)
    rw [e0, e1, e2, e3, e4, e5] at h6
    replace h7 : _ = Cert.GmlpRefIdeal.Read.val_main_v80 (F := Ideal) (m' ((c : Thread Cert.GmlpRefIdeal.nD Cert.GmlpRefIdeal.τ).loc Cert.GmlpRefIdeal.main_arg0)) (m' ((c : Thread Cert.GmlpRefIdeal.nD Cert.GmlpRefIdeal.τ).loc Cert.GmlpRefIdeal.main_arg1)) (m' ((c : Thread Cert.GmlpRefIdeal.nD Cert.GmlpRefIdeal.τ).loc Cert.GmlpRefIdeal.main_arg2)) (m' ((c : Thread Cert.GmlpRefIdeal.nD Cert.GmlpRefIdeal.τ).loc Cert.GmlpRefIdeal.main_arg5)) := h7.trans (Cert.GmlpRefIdeal.Read.val_main_v80_eq _)
    rw [e0, e1, e2, e5] at h7
    replace h8 : _ = Cert.GmlpRefIdeal.Read.val_main_v128 (F := Ideal) (m' ((c : Thread Cert.GmlpRefIdeal.nD Cert.GmlpRefIdeal.τ).loc Cert.GmlpRefIdeal.main_arg0)) (m' ((c : Thread Cert.GmlpRefIdeal.nD Cert.GmlpRefIdeal.τ).loc Cert.GmlpRefIdeal.main_arg5)) := h8.trans (Cert.GmlpRefIdeal.Read.val_main_v128_eq _)
    rw [e0, e5] at h8
    replace h9 : _ = Cert.GmlpRefIdeal.Read.val_main_v129 (F := Ideal) (m' ((c : Thread Cert.GmlpRefIdeal.nD Cert.GmlpRefIdeal.τ).loc Cert.GmlpRefIdeal.main_arg0)) (m' ((c : Thread Cert.GmlpRefIdeal.nD Cert.GmlpRefIdeal.τ).loc Cert.GmlpRefIdeal.main_arg3)) (m' ((c : Thread Cert.GmlpRefIdeal.nD Cert.GmlpRefIdeal.τ).loc Cert.GmlpRefIdeal.main_arg5)) := h9.trans (Cert.GmlpRefIdeal.Read.val_main_v129_eq _)
    rw [e0, e3, e5] at h9
    replace h10 : _ = Cert.GmlpRefIdeal.Read.val_main_v130 (F := Ideal) (m' ((c : Thread Cert.GmlpRefIdeal.nD Cert.GmlpRefIdeal.τ).loc Cert.GmlpRefIdeal.main_arg0)) (m' ((c : Thread Cert.GmlpRefIdeal.nD Cert.GmlpRefIdeal.τ).loc Cert.GmlpRefIdeal.main_arg3)) (m' ((c : Thread Cert.GmlpRefIdeal.nD Cert.GmlpRefIdeal.τ).loc Cert.GmlpRefIdeal.main_arg5)) := h10.trans (Cert.GmlpRefIdeal.Read.val_main_v130_eq _)
    rw [e0, e3, e5] at h10
    exact ⟨h6, h7, h8, h9, h10, hr⟩

/-- The reference is host operations only: it terminates, leaves its arguments unchanged and has no counter. -/
theorem frame_mix_ref : Cert.quiescent_GmlpRefIdeal (hGmlpRefIdeal := Cert.GmlpRefIdeal.Gen.facts) := fun m ρ _ =>
  (θ_run _ _ _).mono (fun r h => ⟨fun c => (h c).2.2.2.2.2, sem_eq_zero_of_no_sems rfl _⟩) (Cert.GmlpRefIdeal.Value.run m ρ)

end Cert.Mix

end
-- ==== Proof.RmsValue.lean ====
/- The gradient of the root-mean-square norm: each result array of the call is the reference's array. -/
module

public import proofs.«01_k».proof.Proof.Gen.RmsBwdIdeal.Value
public import proofs.«01_k».proof.Proof.Gen.RmsRefIdeal.Read
public import proofs.«01_k».proof.Proof.Real
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.RmsBwdIdeal.Arr
open Cert.RmsBwdIdeal Cert.RmsBwdIdeal.Gen
open Cert.Fin
variable (m : (ℓ : Loc nD τ sig) → Buf (Elt Ideal) ℓ)

theorem idx : ∀ t : Fin cfg0.N, win0_0.index t = ![t.val, 0] ∧ win0_1.index t = ![t.val, 0] ∧ win0_2.index t = ![0, 0] ∧ win0_3.index t = ![t.val, 0]
    ∧ win0_4.index t = ![t.val, 0] ∧ win0_5.index t = ![t.val, 0] ∧ win0_6.index t = ![0, 0] :=
  (by decide +kernel : ∀ t : Fin grid0.N, _)

abbrev xA (c : Dev nD) : FVec Ideal S2048x2048 .f32 := m ((c : Thread nD τ).loc main_arg0)
abbrev gA (c : Dev nD) : FVec Ideal S2048 .f32 := m ((c : Thread nD τ).loc main_arg1)
abbrev hA (c : Dev nD) : FVec Ideal S2048x2048 .f32 := m ((c : Thread nD τ).loc main_arg2)
abbrev rA (c : Dev nD) : FVec Ideal S2048x2048 .f32 := m ((c : Thread nD τ).loc main_arg3)

abbrev ref4 (c : Dev nD) := Cert.RmsRefIdeal.Read.val_main_v36 (F := Ideal) (xA m c) (gA m c) (hA m c) (rA m c)
abbrev ref5 (c : Dev nD) := Cert.RmsRefIdeal.Read.val_main_v37 (F := Ideal) (xA m c) (gA m c) (hA m c) (rA m c)
abbrev ref6 (c : Dev nD) := Cert.RmsRefIdeal.Read.val_main_v38 (F := Ideal) (xA m c) (hA m c)

theorem row (t : Fin cfg0.N) (n : Fin 512) : 512 * t.val + n.val < 2048 := by
  have ht : t.val < 4 := lt_of_lt_of_eq t.isLt N_0
  omega

theorem dh_at (c : Dev nD) (t : Fin cfg0.N) (n : Fin 512) (k : Fin 2048) :
    (show FVec Ideal S512x2048 .f32 from iblk m c 0 t) (ix2 n k) = hA m c (ix2 ⟨512 * t.val + n.val, row t n⟩ k) := by
  blk_point [iblk, V_main_arg2, idx t]
theorem x_at (c : Dev nD) (t : Fin cfg0.N) (n : Fin 512) (k : Fin 2048) :
    (show FVec Ideal S512x2048 .f32 from iblk m c 1 t) (ix2 n k) = xA m c (ix2 ⟨512 * t.val + n.val, row t n⟩ k) := by
  blk_point [iblk, V_main_arg0, idx t]
theorem dr_at (c : Dev nD) (t : Fin cfg0.N) (n : Fin 512) (k : Fin 2048) :
    (show FVec Ideal S512x2048 .f32 from iblk m c 3 t) (ix2 n k) = rA m c (ix2 ⟨512 * t.val + n.val, row t n⟩ k) := by
  blk_point [iblk, V_main_arg3, idx t]
theorem g_at (c : Dev nD) (t : Fin cfg0.N) (k : Fin 2048) :
    (show FVec Ideal S1x2048 .f32 from iblk m c 2 t) (ix2 0 k) = gA m c (ix1 k) := by
  blk_simp [iblk, idx t]
  entry_read
  pointwise
  blk_point [idx t]

/-- The rows of the gradient, as the kernel groups its factors and as the chain rule does. -/
theorem rows (x w : Fin 2048 → ℝ) (d : EReal) (k : Fin 2048) :
    ((d + ↑(w k * (Real.sqrt ((∑ k, x k * x k) / 2048 + eps))⁻¹)) + ↑(x k * ((∑ k, x k * w k) * (-(1 / 2) * ((Real.sqrt ((∑ k, x k * x k) / 2048 + eps))⁻¹ / ((∑ k, x k * x k) / 2048 + eps))) / 2048)))
      + ↑((∑ k, x k * w k) * (-(1 / 2) * ((Real.sqrt ((∑ k, x k * x k) / 2048 + eps))⁻¹ / ((∑ k, x k * x k) / 2048 + eps))) / 2048 * x k)
    = d + ↑((Real.sqrt ((∑ k, x k * x k) / 2048 + eps))⁻¹ * (w k - x k * (Real.sqrt ((∑ k, x k * x k) / 2048 + eps))⁻¹
        * ((∑ k, w k * (x k * (Real.sqrt ((∑ k, x k * x k) / 2048 + eps))⁻¹)) / 2048))) := by
  rw [add_assoc, add_assoc, ← EReal.coe_add, ← EReal.coe_add, root_div (ms_pos x)]
  generalize (Real.sqrt ((∑ k, x k * x k) / 2048 + eps))⁻¹ = r
  have : ∑ k, w k * (x k * r) = (∑ k, x k * w k) * r := by
    rw [Finset.sum_mul]; exact Finset.sum_congr rfl fun k _ => by ring
  rw [this]
  congr 2
  ring

theorem point4 (c : Dev nD) {x : S2048x2048.Idx → ℝ} {g : S2048.Idx → ℝ} {h : S2048x2048.Idx → ℝ}
    (hx : xA m c = fun i => (x i : EReal)) (hg : gA m c = fun i => (g i : EReal)) (hh : hA m c = fun i => (h i : EReal))
    (t : Fin cfg0.N) (n : Fin 512) (k : Fin 2048) :
    k0_pay5 (F := Ideal) (iblk m c 0 t) (iblk m c 1 t) (iblk m c 2 t) (iblk m c 3 t) (ix2 n k) = ref4 m c (ix2 ⟨512 * t.val + n.val, row t n⟩ k) := by
  unfold ref4
  rw [← Cert.RmsRefIdeal.Read.val_main_v36_eq]
  pointwise [k0_pay5, k0_pay4, k0_pay3]
  simp only [dh_at, x_at, g_at, dr_at, hx, hg, hh, lit_2048, lit_eps, lit_neg_half]
  simp (disch := first | exact ms_pos _ | exact (ms_pos _).ne' | norm_num) only [← EReal.coe_mul, ← EReal.coe_add, sum_coe, div_coe, rsqrt_coe, sub_coe, Fin.sum_univ_one]
  exact (rows (fun k => x (ix2 ⟨512 * t.val + n.val, row t n⟩ k)) (fun k => h (ix2 ⟨512 * t.val + n.val, row t n⟩ k) * g (ix1 k)) (rA m c (ix2 ⟨512 * t.val + n.val, row t n⟩ k)) k).symm

theorem point4' (c : Dev nD) {x : S2048x2048.Idx → ℝ} {g : S2048.Idx → ℝ} {h : S2048x2048.Idx → ℝ}
    (hx : xA m c = fun i => (x i : EReal)) (hg : gA m c = fun i => (g i : EReal)) (hh : hA m c = fun i => (h i : EReal))
    (t : Fin cfg0.N) (y : S512x2048.Idx) :
    k0_pay5 (F := Ideal) (iblk m c 0 t) (iblk m c 1 t) (iblk m c 2 t) (iblk m c 3 t) y = ref4 m c (((cfg0.win 4).blk t).view.emb y) := by
  rw [eq_ix2 y]
  refine (point4 m c hx hg hh t _ _).trans (congrArg _ ?_)
  blk_ext [idx t]

theorem point5' (c : Dev nD) {x : S2048x2048.Idx → ℝ} {g : S2048.Idx → ℝ} {h : S2048x2048.Idx → ℝ}
    (hx : xA m c = fun i => (x i : EReal)) (hg : gA m c = fun i => (g i : EReal)) (hh : hA m c = fun i => (h i : EReal))
    (t : Fin cfg0.N) (y : S512x2048.Idx) :
    k0_pay7 (F := Ideal) (iblk m c 0 t) (iblk m c 1 t) (iblk m c 2 t) (iblk m c 3 t) y = ref5 m c (((cfg0.win 5).blk t).view.emb y) := by
  rw [eq_ix2 y]
  refine Eq.trans (point4 m c hx hg hh t _ _ : k0_pay7 (F := Ideal) (iblk m c 0 t) (iblk m c 1 t) (iblk m c 2 t) (iblk m c 3 t) (ix2 _ _) = _) ?_
  show ref4 m c _ = ref4 m c _
  refine congrArg _ ?_
  blk_ext [idx t]

theorem final4 (c : Dev nD) {x : S2048x2048.Idx → ℝ} {g : S2048.Idx → ℝ} {h : S2048x2048.Idx → ℝ}
    (hx : xA m c = fun i => (x i : EReal)) (hg : gA m c = fun i => (g i : EReal)) (hh : hA m c = fun i => (h i : EReal)) :
    (dats m 0 c).arrAt 4 (cfgs 0).N = ref4 m c := by
  refine (dats m 0 c).arrAt_eq_of_covers 4 _ (by decide +kernel) fun t _ y => ?_
  blk_simp
  rw [after0_4]
  by_cases ht : t.val % 4 = 0
  · rw [outsAt0_A m c t ht]; frame_out
    exact point4' m c hx hg hh t y
  · rw [outsAt0_B m c t ht]; frame_out
    exact point4' m c hx hg hh t y

theorem final5 (c : Dev nD) {x : S2048x2048.Idx → ℝ} {g : S2048.Idx → ℝ} {h : S2048x2048.Idx → ℝ}
    (hx : xA m c = fun i => (x i : EReal)) (hg : gA m c = fun i => (g i : EReal)) (hh : hA m c = fun i => (h i : EReal)) :
    (dats m 0 c).arrAt 5 (cfgs 0).N = ref5 m c := by
  refine (dats m 0 c).arrAt_eq_of_covers 5 _ (by decide +kernel) fun t _ y => ?_
  blk_simp
  rw [after0_5]
  by_cases ht : t.val % 4 = 0
  · rw [outsAt0_A m c t ht]; frame_out
    exact point5' m c hx hg hh t y
  · rw [outsAt0_B m c t ht]; frame_out
    exact point5' m c hx hg hh t y

/-- The scale of a row, the inverse root of its mean square. -/
abbrev root (X : FVec Ideal S2048x2048 .f32) (n : Fin 2048) : EReal :=
  Ideal.rsqrt (Ideal.div (∑ k, X (ix2 n k) * X (ix2 n k)) (Ideal.ofBits .f32 0x45000000#32) + Ideal.ofBits .f32 0x358637BD#32)

theorem zero_at (j : S1x2048.Idx) : k0_pay1 (F := Ideal) j = 0 := by pointwise [k0_pay1]
theorem step_at (c : Dev nD) (t : Fin cfg0.N) (B : FVec Ideal S1x2048 .f32) (j : S1x2048.Idx) :
    k0_pay2 (F := Ideal) (k0_pay6 (iblk m c 0 t) (iblk m c 1 t)) B j
      = B j + ∑ n : Fin 512, hA m c (ix2 ⟨512 * t.val + n.val, row t n⟩ (j 1)) * (xA m c (ix2 ⟨512 * t.val + n.val, row t n⟩ (j 1)) * root (xA m c) ⟨512 * t.val + n.val, row t n⟩) := by
  pointwise [k0_pay2, k0_pay6, k0_pay4, k0_pay3]
  have e0 := fun n => dh_at m c t n (j 1)
  have e1 := fun n => x_at m c t n (j 1)
  dsimp only at e0 e1
  simp only [x_at, e0, e1]

theorem final6 (c : Dev nD) : (dats m 0 c).arrAt 6 (cfgs 0).N = ref6 m c := by
  refine (dats m 0 c).arrAt_eq_of_after_last 6 t0_3 (by decide +kernel) _ fun j => ?_
  blk_simp
  rw [after0_6, Pipeline.eq_sum_fin_of_reset_step_apply_last (fun n h => (outsAt0 m c n h).2.2) 4 (fun _ => 0) _
    (fun t h j => by rw [outsAt0_A m c t h]; frame_out; rw [step_at, zero_at])
    (fun t h j => by rw [outsAt0_B m c t h]; frame_out; rw [step_at])
    (le_of_eq N_0) t0_3 rfl j, zero_add]
  unfold ref6
  rw [← Cert.RmsRefIdeal.Read.val_main_v38_eq]
  pointwise
  simp only [Fin.sum_univ_one]
  refine Fin.sum_mul_add_congr fun p n hl => ?_
  rw [mul_comm]
  simp only [Nat.mul_comm 512]

end Cert.RmsBwdIdeal.Arr

end
-- ==== Proof.Norm.lean ====
/- The claims on the gradient of the root-mean-square norm: the runs of the call and of the reference, side by side. -/
module

public import proofs.«01_k».proof.Defs
public import proofs.«01_k».proof.Proof.RmsValue
public import proofs.«01_k».proof.Proof.Gen.RmsBwd.Frame
public import proofs.«01_k».proof.Proof.Gen.RmsRefIdeal.Run
public import proofs.«01_k».proof.Proof.Gen.Pre_finite_rms
public import proofs.«01_k».proof.Proof.Real
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Norm

instance : Subsingleton Cert.Pre_finite_rms.S_.Idx := ⟨fun a b => funext fun d => d.elim0⟩

/-- What the precondition says: the norm's input, its scale and the cotangent are arrays of real numbers. -/
theorem reals (x : FVec Ideal Cert.Pre_finite_rms.S2048x2048 .f32) (g : FVec Ideal Cert.Pre_finite_rms.S2048 .f32)
    (h r : FVec Ideal Cert.Pre_finite_rms.S2048x2048 .f32) (e : Cert.Pre_finite_rms.fn (F := Ideal) x g h r = fun _ => 1#1) :
    (∃ x' : Cert.Pre_finite_rms.S2048x2048.Idx → ℝ, x = fun i => (x' i : EReal)) ∧ (∃ g' : Cert.Pre_finite_rms.S2048.Idx → ℝ, g = fun i => (g' i : EReal))
      ∧ ∃ h' : Cert.Pre_finite_rms.S2048x2048.Idx → ℝ, h = fun i => (h' i : EReal) := by
  have e0 := congrFun e (fun d => d.elim0)
  obtain ⟨e1, e3⟩ := IntOp.andi_eq_one.1 e0
  obtain ⟨e1, e2⟩ := IntOp.andi_eq_one.1 e1
  exact ⟨Cert.Fin.reals_of_all _ _ (fun _ => rfl) _ _ _ _ e1, Cert.Fin.reals_of_all _ _ (fun _ => rfl) _ _ _ _ e2, Cert.Fin.reals_of_all _ _ (fun _ => rfl) _ _ _ _ e3⟩

theorem algebraic_rms : Cert.algebraic_RmsBwdIdeal_RmsRefIdeal_pre_finite_rms (hRmsBwdIdeal := Cert.RmsBwdIdeal.Gen.facts)
    (hRmsRefIdeal := Cert.RmsRefIdeal.Gen.facts) (hPre_finite_rms := Cert.Pre_finite_rms.Gen.facts) := by
  intro m g m' g' hpre hag
  refine ⟨fun c => Cert.RmsBwdIdeal.Arr.ref4 m c, fun c => Cert.RmsBwdIdeal.Arr.ref5 m c, fun c => Cert.RmsBwdIdeal.Arr.ref6 m c, ?_, ?_⟩
  · refine (θ_run _ _ _).mono (fun r h c => ?_) (Cert.RmsBwdIdeal.Value.run_blocks m g)
    obtain ⟨h4, h5, h6, hr⟩ := h c
    obtain ⟨⟨x, hx⟩, ⟨g, hg⟩, ⟨d, hd⟩⟩ := reals _ _ _ _ (hpre c)
    exact ⟨h4.trans (Cert.RmsBwdIdeal.Arr.final4 m c hx hg hd), h5.trans (Cert.RmsBwdIdeal.Arr.final5 m c hx hg hd),
      h6.trans (Cert.RmsBwdIdeal.Arr.final6 m c), hr⟩
  · refine (θ_run _ _ _).mono (fun r h c => ?_) (Cert.RmsRefIdeal.Value.run m' g')
    obtain ⟨h4, h5, h6, hr⟩ := h c
    obtain ⟨e0, e1, e2, e3⟩ := hag c
    rw [e0, e1, e2, e3] at h4 h5
    rw [e0, e2] at h6
    exact ⟨h4, h5, h6, hr⟩

/-- The reference is host operations only: it terminates, leaves its arguments unchanged and has no counter. -/
theorem frame_rms_ref : Cert.quiescent_RmsRefIdeal (hRmsRefIdeal := Cert.RmsRefIdeal.Gen.facts) := fun m ρ _ =>
  (θ_run _ _ _).mono (fun r h => ⟨fun c => (h c).2.2.2, sem_eq_zero_of_no_sems rfl _⟩) (Cert.RmsRefIdeal.Value.run m ρ)

end Cert.Norm

end
-- ==== Proof.LossRefVal.lean ====
/- The loss and its gradient as the chain rule writes them, read over the reals. -/
module

public import proofs.«01_k».proof.Proof.Gen.LossRefIdeal.Read
public import proofs.«01_k».proof.Proof.Real
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Lh
open Cert.Fin

/-- A row of the loss: its scale, its normed entries, its error, the gradient of the error and of the row. -/
abbrev rr (H : Fin 2048 → ℝ) : ℝ := (Real.sqrt ((∑ k, H k * H k) / 2048 + eps))⁻¹
abbrev er (H g T : Fin 2048 → ℝ) (k : Fin 2048) : ℝ := H k * rr H * g k - T k
abbrev dy (H g T : Fin 2048 → ℝ) (k : Fin 2048) : ℝ := er H g T k * (1 / 2048)
abbrev dxr (H g T : Fin 2048 → ℝ) (k : Fin 2048) : ℝ :=
  rr H * (dy H g T k * g k - H k * rr H * ((∑ k, dy H g T k * g k * (H k * rr H)) / 2048))
abbrev lossr (H g T : Fin 2048 → ℝ) : ℝ := 1 / 2 * ((∑ k, er H g T k * er H g T k) / 2048)

/-- The chain rule through a row's norm and the kernel's grouping of it. -/
theorem rows (x w : Fin 2048 → ℝ) (k : Fin 2048) :
    w k * rr x + x k * ((∑ k, x k * w k) * (-(1 / 2) * (rr x / ((∑ k, x k * x k) / 2048 + eps))) / 2048)
      + ((∑ k, x k * w k) * (-(1 / 2) * (rr x / ((∑ k, x k * x k) / 2048 + eps))) / 2048) * x k
    = rr x * (w k - x k * rr x * ((∑ k, w k * (x k * rr x)) / 2048)) := by
  unfold rr
  rw [root_div (ms_pos x)]
  generalize (Real.sqrt ((∑ k, x k * x k) / 2048 + eps))⁻¹ = r
  have : ∑ k, w k * (x k * r) = (∑ k, x k * w k) * r := by
    rw [Finset.sum_mul]; exact Finset.sum_congr rfl fun k _ => by ring
  rw [this]
  ring

theorem lit_two : Ideal.ofBits .f32 0x40000000#32 = ((2 : ℝ) : EReal) := by
  simp [Ideal.ofBits, Ideal.ieee, -EReal.coe_mul]; norm_num
theorem lit_inv : Ideal.ofBits .f32 0x3A000000#32 = ((1 / 2048 : ℝ) : EReal) := by
  simp [Ideal.ofBits, Ideal.ieee, -EReal.coe_mul]; norm_num
theorem one_coe : (1 : EReal) = ((1 : ℝ) : EReal) := EReal.coe_one.symm
/-- The logistic function of any extended real is a real number. -/
theorem gate_real (x : EReal) : ∃ r : ℝ, Ideal.div 1 (1 + Ideal.exp (-x)) = (r : EReal) := by
  rw [← gate_eq, lit_half]
  have : ∃ r : ℝ, Ideal.tanh (((1 : ℝ) / 2 : ℝ) * x) = (r : EReal) := by
    generalize (((1 : ℝ) / 2 : ℝ) : EReal) * x = y
    induction y with
    | bot => exact ⟨_, tanh_bot⟩
    | top => exact ⟨_, tanh_top⟩
    | coe r => exact ⟨_, tanh_coe r⟩
  obtain ⟨r, e⟩ := this
  exact ⟨1 / 2 * r + 1 / 2, by rw [e, ← EReal.coe_mul, ← EReal.coe_add]⟩
end Cert.Lh

namespace Cert.LossRefIdeal.Val
open Cert.LossRefIdeal Cert.LossRefIdeal.Read
open Cert.Fin Cert.Lh
variable {X S P T : Fin 2048 → Fin 2048 → ℝ} {g : Fin 2048 → ℝ}
variable {x0 x1 x2 x4 : FVec Ideal S2048x2048 .f32} {x3 : FVec Ideal S2048 .f32}

/-- The rows the norm reads: the input plus the gated embedding. -/
abbrev hid (X S P : Fin 2048 → Fin 2048 → ℝ) (n k : Fin 2048) : ℝ := X n k + S n k * P n k

variable (h0 : ∀ n k, x0 (ix2 n k) = (X n k : EReal)) (h1 : ∀ n k, Ideal.div 1 (1 + Ideal.exp (-x1 (ix2 n k))) = (S n k : EReal))
  (h2 : ∀ n k, x2 (ix2 n k) = (P n k : EReal)) (h3 : ∀ k, x3 (ix1 k) = (g k : EReal)) (h4 : ∀ n k, x4 (ix2 n k) = (T n k : EReal))

include h1 in
theorem v5_at (n k : Fin 2048) : val_main_v5 (F := Ideal) x1 (ix2 n k) = (S n k : EReal) := by
  pointwise [val_main_v0, val_main_v1, val_main_v2, val_main_v3, val_main_v4, val_main_v5, val_main_cst, val_main_cst_0]
  exact h1 n k
include h1 in
theorem v8_at (n k : Fin 2048) : val_main_v8 (F := Ideal) x1 (ix2 n k) = ((S n k * (1 - S n k) : ℝ) : EReal) := by
  pointwise [val_main_v8, val_main_v7, val_main_v6, val_main_cst_1]
  simp only [v5_at h1, one_coe]
  simp only [← EReal.coe_mul, ← EReal.coe_add, sub_coe]
include h0 h1 h2
theorem v10_at (n k : Fin 2048) : val_main_v10 (F := Ideal) x0 x1 x2 (ix2 n k) = (hid X S P n k : EReal) := by
  pointwise [val_main_v10, val_main_v9]
  simp only [h0, v5_at h1, h2, ← EReal.coe_mul, ← EReal.coe_add]
theorem v17_at (n : Fin 2048) : val_main_v17 (F := Ideal) x0 x1 x2 (ix2 n 0) = (((∑ k, hid X S P n k * hid X S P n k) / 2048 + eps : ℝ) : EReal) := by
  pointwise [val_main_v11, val_main_v12, val_main_v13, val_main_v14, val_main_v15, val_main_v16, val_main_v17, val_main_cst_2, val_main_cst_3, val_main_cst_4]
  simp only [v10_at h0 h1 h2, lit_2048, lit_eps]
  simp (disch := norm_num) only [← EReal.coe_mul, ← EReal.coe_add, sum_coe, div_coe]
theorem v18_at (n : Fin 2048) : val_main_v18 (F := Ideal) x0 x1 x2 (ix2 n 0) = (rr (hid X S P n) : EReal) := by
  show Ideal.rsqrt (val_main_v17 (F := Ideal) x0 x1 x2 (ix2 n 0)) = _
  rw [v17_at h0 h1 h2, rsqrt_coe _ (ms_pos _)]
theorem v21_at (n : Fin 2048) : val_main_v21 (F := Ideal) x0 x1 x2 (ix2 n 0)
    = ((-(1 / 2) * (rr (hid X S P n) / ((∑ k, hid X S P n k * hid X S P n k) / 2048 + eps)) : ℝ) : EReal) := by
  show Ideal.ofBits .f32 0xBF000000#32 * Ideal.div (val_main_v18 (F := Ideal) x0 x1 x2 (ix2 n 0)) (val_main_v17 (F := Ideal) x0 x1 x2 (ix2 n 0)) = _
  rw [v18_at h0 h1 h2, v17_at h0 h1 h2, div_coe _ _ (ms_pos _).ne', lit_neg_half, ← EReal.coe_mul]
theorem v23_at (n k : Fin 2048) : val_main_v23 (F := Ideal) x0 x1 x2 (ix2 n k) = ((hid X S P n k * rr (hid X S P n) : ℝ) : EReal) := by
  have e : val_main_v23 (F := Ideal) x0 x1 x2 (ix2 n k) = val_main_v10 (F := Ideal) x0 x1 x2 (ix2 n k) * val_main_v18 (F := Ideal) x0 x1 x2 (ix2 n 0) := by
    show val_main_v10 (F := Ideal) x0 x1 x2 (ix2 n k) * val_main_v22 (F := Ideal) x0 x1 x2 (ix2 n k) = _
    congr 1
    unfold val_main_v22
    pointwise
  rw [e, v10_at h0 h1 h2, v18_at h0 h1 h2, ← EReal.coe_mul]
include h3 h4
theorem v27_at (n k : Fin 2048) : val_main_v27 (F := Ideal) x0 x1 x2 x3 x4 (ix2 n k) = (er (hid X S P n) g (T n) k : EReal) := by
  have e : val_main_v27 (F := Ideal) x0 x1 x2 x3 x4 (ix2 n k) = val_main_v23 (F := Ideal) x0 x1 x2 (ix2 n k) * x3 (ix1 k) - x4 (ix2 n k) := by
    show val_main_v23 (F := Ideal) x0 x1 x2 (ix2 n k) * val_main_v25 (F := Ideal) x3 (ix2 n k) - _ = _
    congr 2
    pointwise [val_main_v25, val_main_v24]
  rw [e, v23_at h0 h1 h2, h3, h4, ← EReal.coe_mul, sub_coe]
theorem v41_at (n k : Fin 2048) : val_main_v41 (F := Ideal) x0 x1 x2 x3 x4 (ix2 n k) = (dy (hid X S P n) g (T n) k : EReal) := by
  have e : val_main_v41 (F := Ideal) x0 x1 x2 x3 x4 (ix2 n k) = Ideal.div (Ideal.ofBits .f32 0x3F000000#32 * Ideal.ofBits .f32 0x3F800000#32) (Ideal.ofBits .f32 0x45000000#32) * (Ideal.ofBits .f32 0x40000000#32 * val_main_v27 (F := Ideal) x0 x1 x2 x3 x4 (ix2 n k)) := rfl
  rw [e, v27_at h0 h1 h2 h3 h4, lit_half, lit_two, lit_2048, show Ideal.ofBits .f32 0x3F800000#32 = ((1 : ℝ) : EReal) from by simp [Ideal.ofBits, Ideal.ieee, -EReal.coe_mul]; norm_num]
  simp (disch := norm_num) only [← EReal.coe_mul, div_coe]
  exact congrArg Real.toEReal (by unfold dy; ring)
theorem v46_at (n k : Fin 2048) : val_main_v46 (F := Ideal) x0 x1 x2 x3 x4 (ix2 n k) = ((dy (hid X S P n) g (T n) k * g k : ℝ) : EReal) := by
  have e : val_main_v46 (F := Ideal) x0 x1 x2 x3 x4 (ix2 n k) = val_main_v41 (F := Ideal) x0 x1 x2 x3 x4 (ix2 n k) * x3 (ix1 k) := by
    show val_main_v41 (F := Ideal) x0 x1 x2 x3 x4 (ix2 n k) * val_main_v45 (F := Ideal) x3 (ix2 n k) = _
    congr 1
    pointwise [val_main_v45, val_main_v24]
  rw [e, v41_at h0 h1 h2 h3 h4, h3, ← EReal.coe_mul]
theorem v55_at (n : Fin 2048) : val_main_v55 (F := Ideal) x0 x1 x2 x3 x4 (ix2 n 0)
    = (((∑ k, hid X S P n k * (dy (hid X S P n) g (T n) k * g k)) * (-(1 / 2) * (rr (hid X S P n) / ((∑ k, hid X S P n k * hid X S P n k) / 2048 + eps))) / 2048 : ℝ) : EReal) := by
  pointwise [val_main_v48, val_main_v49, val_main_v50, val_main_v52, val_main_v53, val_main_v54, val_main_v55, val_main_cst_16, val_main_cst_17, val_main_cst_18]
  simp only [v10_at h0 h1 h2, v46_at h0 h1 h2 h3 h4, v21_at h0 h1 h2, lit_2048, Fin.sum_univ_one]
  simp (disch := norm_num) only [← EReal.coe_mul, ← EReal.coe_add, sum_coe, div_coe]
theorem dx_at (n k : Fin 2048) : val_main_v61 (F := Ideal) x0 x1 x2 x3 x4 (ix2 n k) = (dxr (hid X S P n) g (T n) k : EReal) := by
  pointwise [val_main_v51, val_main_v52, val_main_v56, val_main_v57, val_main_v58, val_main_v59, val_main_v60, val_main_v61, val_main_cst_18]
  simp only [v10_at h0 h1 h2, v46_at h0 h1 h2 h3 h4, v18_at h0 h1 h2, v55_at h0 h1 h2 h3 h4, ← EReal.coe_mul, ← EReal.coe_add, Fin.sum_univ_one]
  exact congrArg Real.toEReal (rows (hid X S P n) (fun k => dy (hid X S P n) g (T n) k * g k) k)
theorem dpre_at (n k : Fin 2048) : val_main_v65 (F := Ideal) x0 x1 x2 x3 x4 (ix2 n k) = ((dxr (hid X S P n) g (T n) k * P n k * S n k * (1 - S n k) : ℝ) : EReal) := by
  have e : val_main_v65 (F := Ideal) x0 x1 x2 x3 x4 (ix2 n k) = val_main_v61 (F := Ideal) x0 x1 x2 x3 x4 (ix2 n k) * x2 (ix2 n k) * val_main_v8 (F := Ideal) x1 (ix2 n k) := rfl
  rw [e, dx_at h0 h1 h2 h3 h4, h2, v8_at h1, ← EReal.coe_mul, ← EReal.coe_mul, mul_assoc _ (S n k)]
theorem dpp_at (n k : Fin 2048) : val_main_v66 (F := Ideal) x0 x1 x2 x3 x4 (ix2 n k) = ((dxr (hid X S P n) g (T n) k * S n k : ℝ) : EReal) := by
  have e : val_main_v66 (F := Ideal) x0 x1 x2 x3 x4 (ix2 n k) = val_main_v5 (F := Ideal) x1 (ix2 n k) * val_main_v61 (F := Ideal) x0 x1 x2 x3 x4 (ix2 n k) := rfl
  rw [e, dx_at h0 h1 h2 h3 h4, v5_at h1, ← EReal.coe_mul, mul_comm]
theorem dg_at (k : Fin 2048) : val_main_v67 (F := Ideal) x0 x1 x2 x3 x4 (ix2 0 k) = ((∑ n, dy (hid X S P n) g (T n) k * (hid X S P n k * rr (hid X S P n)) : ℝ) : EReal) := by
  pointwise [val_main_v42, val_main_v43, val_main_v44, val_main_cst_14, val_main_cst_15, val_main_v47, val_main_v67]
  simp only [v23_at h0 h1 h2, v41_at h0 h1 h2 h3 h4, ← EReal.coe_mul, sum_coe, Fin.sum_univ_one]
  exact congrArg Real.toEReal (Finset.sum_congr rfl fun n _ => mul_comm _ _)
theorem loss_at (k : Fin 128) : val_main_v68 (F := Ideal) x0 x1 x2 x3 x4 (ix2 0 k) = ((∑ n, lossr (hid X S P n) g (T n) : ℝ) : EReal) := by
  pointwise [val_main_v28, val_main_v31, val_main_v32, val_main_v33, val_main_v34, val_main_v35, val_main_cst_7, val_main_cst_8, val_main_cst_9, val_main_cst_10, val_main_v68]
  simp only [v27_at h0 h1 h2 h3 h4, lit_half, lit_2048]
  simp (disch := norm_num) only [← EReal.coe_mul, sum_coe, div_coe]
  exact congrArg Real.toEReal (Finset.mul_sum _ _ _)

end Cert.LossRefIdeal.Val

end
-- ==== Proof.LossValue.lean ====
/- The loss and its gradient: each result array of the call is the reference's array. -/
module

public import proofs.«01_k».proof.Proof.Gen.LossIdeal.Value
public import proofs.«01_k».proof.Proof.LossRefVal
public import proofs.«01_k».proof.Proof.Real
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.LossIdeal.Arr
open Cert.LossIdeal Cert.LossIdeal.Gen
open Cert.Fin Cert.Lh
open Cert.LossRefIdeal.Val (hid)

section
variable {H T P S : Fin 256 → Fin 2048 → ℝ} {g : Fin 2048 → ℝ}
variable {y0 y2 y3 : FVec Ideal S256x2048 .f32} {y1 : FVec Ideal S1x2048 .f32} {y4 : FVec Ideal S256x2048 .bf16}
  (e0 : ∀ n k, y0 (ix2 n k) = (H n k : EReal)) (e1 : ∀ k, y1 (ix2 0 k) = (g k : EReal)) (e2 : ∀ n k, y2 (ix2 n k) = (T n k : EReal))
  (e3 : ∀ n k, y3 (ix2 n k) = (P n k : EReal)) (e4 : ∀ n k, y4 (ix2 n k) = (S n k : EReal))

include e0 in
theorem p4 (n : Fin 256) : k0_pay4 (F := Ideal) y0 (ix2 n 0) = (rr (H n) : EReal) := by
  pointwise [k0_pay4, k0_pay1]
  simp only [e0, lit_2048, lit_eps]
  simp (disch := first | exact ms_pos _ | norm_num) only [← EReal.coe_mul, ← EReal.coe_add, sum_coe, div_coe, rsqrt_coe]
include e0 in
theorem p5 (n : Fin 256) (k : Fin 2048) : k0_pay5 (F := Ideal) y0 (ix2 n k) = ((H n k * rr (H n) : ℝ) : EReal) := by
  pointwise [k0_pay5, k0_pay1]
  rw [e0, p4 e0, ← EReal.coe_mul]
include e0 e1 e2
theorem p6 (n : Fin 256) (k : Fin 2048) : k0_pay6 (F := Ideal) y0 y1 y2 (ix2 n k) = (er (H n) g (T n) k : EReal) := by
  pointwise [k0_pay6, k0_pay2]
  rw [p5 e0, e1, e2, ← EReal.coe_mul, sub_coe]
theorem p7 (n : Fin 256) (k : Fin 2048) : k0_pay7 (F := Ideal) y0 y1 y2 (ix2 n k) = (dy (H n) g (T n) k : EReal) := by
  pointwise [k0_pay7]
  rw [p6 e0 e1 e2, lit_inv, ← EReal.coe_mul]
theorem p8 (n : Fin 256) (k : Fin 2048) : k0_pay8 (F := Ideal) y0 y1 y2 (ix2 n k) = (dxr (H n) g (T n) k : EReal) := by
  pointwise [k0_pay8, k0_pay2]
  simp only [p4 e0, p5 e0, p7 e0 e1 e2, e1, lit_2048]
  simp (disch := norm_num) only [← EReal.coe_mul, ← EReal.coe_add, sum_coe, div_coe, sub_coe]
theorem p9 (n : Fin 256) : k0_pay9 (F := Ideal) y0 y1 y2 (ix2 n 0) = (((∑ k, er (H n) g (T n) k * er (H n) g (T n) k) / 2048 : ℝ) : EReal) := by
  pointwise [k0_pay9]
  simp only [p6 e0 e1 e2, lit_2048]
  simp (disch := norm_num) only [← EReal.coe_mul, sum_coe, div_coe]
section
include e3 e4
theorem p11 (n : Fin 256) (k : Fin 2048) : k0_pay11 (F := Ideal) y3 (k0_pay3 y4) (k0_pay8 y0 y1 y2) (ix2 n k) = ((dxr (H n) g (T n) k * P n k * S n k * (1 - S n k) : ℝ) : EReal) := by
  pointwise [k0_pay11, k0_pay10, k0_pay3]
  rw [p8 e0 e1 e2, e3, e4, one_coe]
  simp only [← EReal.coe_mul, sub_coe]
theorem p12 (n : Fin 256) (k : Fin 2048) : k0_pay12 (F := Ideal) (k0_pay3 y4) (k0_pay8 y0 y1 y2) (ix2 n k) = ((dxr (H n) g (T n) k * S n k : ℝ) : EReal) := by
  pointwise [k0_pay12, k0_pay10, k0_pay3]
  rw [p8 e0 e1 e2, e4, ← EReal.coe_mul]
end
theorem p15 (B : FVec Ideal S1x2048 .f32) (k : Fin 2048) : k0_pay15 (F := Ideal) (k0_pay5 y0) (k0_pay7 y0 y1 y2) B (ix2 0 k)
    = B (ix2 0 k) + ((∑ n, dy (H n) g (T n) k * (H n k * rr (H n)) : ℝ) : EReal) := by
  pointwise [k0_pay15]
  simp only [p7 e0 e1 e2, p5 e0, ← EReal.coe_mul, sum_coe]
theorem p16 (B : FVec Ideal S1x128 .f32) (k : Fin 128) : k0_pay16 (F := Ideal) (k0_pay9 y0 y1 y2) (Scalar.ofBits .f32 0x3F000000#32) B (ix2 0 k)
    = B (ix2 0 k) + ((∑ n, lossr (H n) g (T n) : ℝ) : EReal) := by
  pointwise [k0_pay16]
  simp only [p9 e0 e1 e2, lit_half, ← EReal.coe_mul, sum_coe]
end

theorem p13 (j : S1x2048.Idx) : k0_pay13 (F := Ideal) j = 0 := by pointwise [k0_pay13]
theorem p14 (j : S1x128.Idx) : k0_pay14 (F := Ideal) j = 0 := by pointwise [k0_pay14]

variable (m : (ℓ : Loc nD τ sig) → Buf (Elt Ideal) ℓ)
variable {X S P T : Fin 2048 → Fin 2048 → ℝ} {g : Fin 2048 → ℝ}

theorem idx : ∀ t : Fin cfg0.N, win0_0.index t = ![t.val, 0] ∧ win0_1.index t = ![0, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] ∧ win0_8.index t = ![0, 0] ∧ win0_9.index t = ![0, 0] :=
  (by decide +kernel : ∀ t : Fin grid0.N, _)

abbrev xA (c : Dev nD) : FVec Ideal S2048x2048 .f32 := m ((c : Thread nD τ).loc main_arg0)
abbrev sA (c : Dev nD) : FVec Ideal S2048x2048 .f32 := m ((c : Thread nD τ).loc main_arg1)
abbrev pA (c : Dev nD) : FVec Ideal S2048x2048 .f32 := m ((c : Thread nD τ).loc main_arg2)
abbrev gA (c : Dev nD) : FVec Ideal S2048 .f32 := m ((c : Thread nD τ).loc main_arg3)
abbrev tA (c : Dev nD) : FVec Ideal S2048x2048 .f32 := m ((c : Thread nD τ).loc main_arg4)

abbrev ref5 (c : Dev nD) := Cert.LossRefIdeal.Read.val_main_v61 (F := Ideal) (xA m c) (sA m c) (pA m c) (gA m c) (tA m c)
abbrev ref6 (c : Dev nD) := Cert.LossRefIdeal.Read.val_main_v65 (F := Ideal) (xA m c) (sA m c) (pA m c) (gA m c) (tA m c)
abbrev ref7 (c : Dev nD) := Cert.LossRefIdeal.Read.val_main_v66 (F := Ideal) (xA m c) (sA m c) (pA m c) (gA m c) (tA m c)
abbrev ref8 (c : Dev nD) := Cert.LossRefIdeal.Read.val_main_v67 (F := Ideal) (xA m c) (sA m c) (pA m c) (gA m c) (tA m c)
abbrev ref9 (c : Dev nD) := Cert.LossRefIdeal.Read.val_main_v68 (F := Ideal) (xA m c) (sA m c) (pA m c) (gA m c) (tA m c)

/-- The block of rows a grid point works on, and a row of it. -/
abbrev pt (t : Fin cfg0.N) : Fin 8 := ⟨t.val, lt_of_lt_of_eq t.isLt N_0⟩
abbrev row (p : Fin 8) (n : Fin 256) : Fin 2048 := ⟨256 * p.val + n.val, by omega⟩

theorem sum_pt (f : Fin 8 → ℝ) : ∑ p : Fin cfg0.N, ((f (pt p) : ℝ) : EReal) = ((∑ n, f n : ℝ) : EReal) := by
  rw [sum_coe]
  exact congrArg Real.toEReal (Fintype.sum_equiv (finCongr N_0) _ _ fun _ => rfl)
theorem sum_rows (f : Fin 2048 → ℝ) : ∑ r, f r = ∑ p : Fin 8, ∑ n : Fin 256, f (row p n) := by
  rw [← Fintype.sum_prod_type']
  refine Fintype.sum_equiv (finProdFinEquiv (m := 8) (n := 256)).symm _ _ fun r => congrArg f (Fin.ext ?_)
  simp only [row, finProdFinEquiv, Equiv.coe_fn_symm_mk, Fin.coe_divNat, Fin.coe_modNat]
  omega
theorem eq_ix2' {n : ℕ} (j : (⟨2, ![1, n]⟩ : Shape).Idx) : j = ix2 0 (j 1) := by
  rw [eq_ix2 j]; exact congrArg (fun a => ix2 a (j 1)) (Subsingleton.elim _ _)

section
variable {c : Dev nD}
   (h0 : ∀ n k, xA m c (ix2 n k) = (X n k : EReal)) (h1 : ∀ n k, Ideal.div 1 (1 + Ideal.exp (-sA m c (ix2 n k))) = (S n k : EReal))
   (h2 : ∀ n k, pA m c (ix2 n k) = (P n k : EReal)) (h3 : ∀ k, gA m c (ix1 k) = (g k : EReal)) (h4 : ∀ n k, tA m c (ix2 n k) = (T n k : EReal))

include h1 in
theorem gate_at (r k : Fin 2048) : (show FVec Ideal S2048x2048 .bf16 from V m c main_v10) (ix2 r k) = (S r k : EReal) := by
  entry_read
  pointwise
  exact (gate_eq _).trans (h1 r k)
include h0 h1 h2 in
theorem hid_at (r k : Fin 2048) : (show FVec Ideal S2048x2048 .f32 from V m c main_v8) (ix2 r k) = (hid X S P r k : EReal) := by
  entry_read
  pointwise
  refine (congrArg₂ (· + ·) (h0 r k) (congrArg₂ (· * ·) ((gate_eq _).trans (h1 r k)) (h2 r k))).trans ?_
  simp only [← EReal.coe_mul, ← EReal.coe_add]
include h0 h1 h2 in
theorem b0 (t : Fin cfg0.N) (n : Fin 256) (k : Fin 2048) : (show FVec Ideal S256x2048 .f32 from iblk m c 0 t) (ix2 n k) = (hid X S P (row (pt t) n) k : EReal) :=
  Eq.trans (b := (show FVec Ideal S2048x2048 .f32 from V m c main_v8) (ix2 ⟨256 * t.val + n.val, (row (pt t) n).isLt⟩ k)) (by blk_point [iblk, idx t]) (hid_at m h0 h1 h2 _ _)
include h3 in
theorem b1 (t : Fin cfg0.N) (k : Fin 2048) : (show FVec Ideal S1x2048 .f32 from iblk m c 1 t) (ix2 0 k) = (g k : EReal) := by
  refine Eq.trans (b := gA m c (ix1 k)) ?_ (h3 _)
  blk_simp [iblk, idx t]
  entry_read
  pointwise
  blk_point [idx t]
include h4 in
theorem b2 (t : Fin cfg0.N) (n : Fin 256) (k : Fin 2048) : (show FVec Ideal S256x2048 .f32 from iblk m c 2 t) (ix2 n k) = (T (row (pt t) n) k : EReal) :=
  Eq.trans (b := tA m c (ix2 ⟨256 * t.val + n.val, (row (pt t) n).isLt⟩ k)) (by blk_point [iblk, V_main_arg4, idx t]) (h4 _ _)
include h2 in
theorem b3 (t : Fin cfg0.N) (n : Fin 256) (k : Fin 2048) : (show FVec Ideal S256x2048 .f32 from iblk m c 3 t) (ix2 n k) = (P (row (pt t) n) k : EReal) :=
  Eq.trans (b := pA m c (ix2 ⟨256 * t.val + n.val, (row (pt t) n).isLt⟩ k)) (by blk_point [iblk, V_main_arg2, idx t]) (h2 _ _)
include h1 in
theorem b4 (t : Fin cfg0.N) (n : Fin 256) (k : Fin 2048) : (show FVec Ideal S256x2048 .bf16 from iblk m c 4 t) (ix2 n k) = (S (row (pt t) n) k : EReal) :=
  Eq.trans (b := (show FVec Ideal S2048x2048 .bf16 from V m c main_v10) (ix2 ⟨256 * t.val + n.val, (row (pt t) n).isLt⟩ k)) (by blk_point [iblk, idx t]) (gate_at m h1 _ _)

include h0 h1 h2 h3 h4

theorem out5 (t : Fin cfg0.N) (y : S256x2048.Idx) : k0_pay8 (F := Ideal) (iblk m c 0 t) (iblk m c 1 t) (iblk m c 2 t) y = ref5 m c (((cfg0.win 5).blk t).view.emb y) := by
  rw [eq_ix2 y]
  refine (p8 (b0 m h0 h1 h2 t) (b1 m h3 t) (b2 m h4 t) _ _).trans ?_
  refine (Cert.LossRefIdeal.Val.dx_at h0 h1 h2 h3 h4 ⟨256 * t.val + (y 0).val, (row (pt t) (y 0)).isLt⟩ (y 1)).symm.trans (congrArg _ ?_)
  blk_ext [idx t]
theorem out6 (t : Fin cfg0.N) (y : S256x2048.Idx) : k0_pay11 (F := Ideal) (iblk m c 3 t) (k0_pay3 (iblk m c 4 t)) (k0_pay8 (iblk m c 0 t) (iblk m c 1 t) (iblk m c 2 t)) y
    = ref6 m c (((cfg0.win 6).blk t).view.emb y) := by
  rw [eq_ix2 y]
  refine (p11 (b0 m h0 h1 h2 t) (b1 m h3 t) (b2 m h4 t) (b3 m h2 t) (b4 m h1 t) _ _).trans ?_
  refine (Cert.LossRefIdeal.Val.dpre_at h0 h1 h2 h3 h4 ⟨256 * t.val + (y 0).val, (row (pt t) (y 0)).isLt⟩ (y 1)).symm.trans (congrArg _ ?_)
  blk_ext [idx t]
theorem out7 (t : Fin cfg0.N) (y : S256x2048.Idx) : k0_pay12 (F := Ideal) (k0_pay3 (iblk m c 4 t)) (k0_pay8 (iblk m c 0 t) (iblk m c 1 t) (iblk m c 2 t)) y
    = ref7 m c (((cfg0.win 7).blk t).view.emb y) := by
  rw [eq_ix2 y]
  refine (p12 (b0 m h0 h1 h2 t) (b1 m h3 t) (b2 m h4 t) (b3 m h2 t) (b4 m h1 t) _ _).trans ?_
  refine (Cert.LossRefIdeal.Val.dpp_at h0 h1 h2 h3 h4 ⟨256 * t.val + (y 0).val, (row (pt t) (y 0)).isLt⟩ (y 1)).symm.trans (congrArg _ ?_)
  blk_ext [idx t]

theorem final5 : (dats m 0 c).arrAt 5 (cfgs 0).N = ref5 m c := by
  refine (dats m 0 c).arrAt_eq_of_covers 5 _ (by decide +kernel) fun t _ y => ?_
  blk_simp
  rw [after0_5]
  by_cases ht : t.val % 8 = 0
  · rw [outsAt0_A m c t ht]; frame_out
    exact out5 m h0 h1 h2 h3 h4 t y
  · rw [outsAt0_B m c t ht]; frame_out
    exact out5 m h0 h1 h2 h3 h4 t y
theorem final6 : (dats m 0 c).arrAt 6 (cfgs 0).N = ref6 m c := by
  refine (dats m 0 c).arrAt_eq_of_covers 6 _ (by decide +kernel) fun t _ y => ?_
  blk_simp
  rw [after0_6]
  by_cases ht : t.val % 8 = 0
  · rw [outsAt0_A m c t ht]; frame_out
    exact out6 m h0 h1 h2 h3 h4 t y
  · rw [outsAt0_B m c t ht]; frame_out
    exact out6 m h0 h1 h2 h3 h4 t y
theorem final7 : (dats m 0 c).arrAt 7 (cfgs 0).N = ref7 m c := by
  refine (dats m 0 c).arrAt_eq_of_covers 7 _ (by decide +kernel) fun t _ y => ?_
  blk_simp
  rw [after0_7]
  by_cases ht : t.val % 8 = 0
  · rw [outsAt0_A m c t ht]; frame_out
    exact out7 m h0 h1 h2 h3 h4 t y
  · rw [outsAt0_B m c t ht]; frame_out
    exact out7 m h0 h1 h2 h3 h4 t y
theorem acc8 (k : Fin 2048) : (show FVec Ideal S1x2048 .f32 from (outsAt0 m c t0_7.val t0_7.isLt).2.2.2.1) (ix2 0 k) = ref8 m c (ix2 0 k) := by
  refine (Pipeline.eq_sum_fin_of_reset_step_apply_last (fun n h (k : Fin 2048) => (show FVec Ideal S1x2048 .f32 from (outsAt0 m c n h).2.2.2.1) (ix2 0 k)) 8 (fun _ => 0)
    (fun t k => ((∑ n, dy (hid X S P (row (pt t) n)) g (T (row (pt t) n)) k * (hid X S P (row (pt t) n) k * rr (hid X S P (row (pt t) n))) : ℝ) : EReal))
    (fun t h k => by
      rw [outsAt0_A m c t h]; frame_out
      refine (p15 (b0 m h0 h1 h2 t) (b1 m h3 t) (b2 m h4 t) _ k).trans ?_
      rw [p13])
    (fun t h k => by
      rw [outsAt0_B m c t h]; frame_out
      exact p15 (b0 m h0 h1 h2 t) (b1 m h3 t) (b2 m h4 t) _ k) (le_of_eq N_0) t0_7 rfl k).trans ?_
  rw [zero_add]
  refine (sum_pt (fun p => ∑ n, dy (hid X S P (row p n)) g (T (row p n)) k * (hid X S P (row p n) k * rr (hid X S P (row p n))))).trans ?_
  rw [← sum_rows (fun r => dy (hid X S P r) g (T r) k * (hid X S P r k * rr (hid X S P r)))]
  exact (Cert.LossRefIdeal.Val.dg_at h0 h1 h2 h3 h4 k).symm
theorem acc9 (k : Fin 128) : (show FVec Ideal S1x128 .f32 from (outsAt0 m c t0_7.val t0_7.isLt).2.2.2.2) (ix2 0 k) = ref9 m c (ix2 0 k) := by
  refine (Pipeline.eq_sum_fin_of_reset_step_apply_last (fun n h (k : Fin 128) => (show FVec Ideal S1x128 .f32 from (outsAt0 m c n h).2.2.2.2) (ix2 0 k)) 8 (fun _ => 0)
    (fun t k => ((∑ n, lossr (hid X S P (row (pt t) n)) g (T (row (pt t) n)) : ℝ) : EReal))
    (fun t h k => by
      rw [outsAt0_A m c t h]; frame_out
      refine (p16 (b0 m h0 h1 h2 t) (b1 m h3 t) (b2 m h4 t) _ k).trans ?_
      rw [p14])
    (fun t h k => by
      rw [outsAt0_B m c t h]; frame_out
      exact p16 (b0 m h0 h1 h2 t) (b1 m h3 t) (b2 m h4 t) _ k) (le_of_eq N_0) t0_7 rfl k).trans ?_
  rw [zero_add]
  refine (sum_pt (fun p => ∑ n, lossr (hid X S P (row p n)) g (T (row p n)))).trans ?_
  rw [← sum_rows (fun r => lossr (hid X S P r) g (T r))]
  exact (Cert.LossRefIdeal.Val.loss_at h0 h1 h2 h3 h4 k).symm
theorem final8 : (dats m 0 c).arrAt 8 (cfgs 0).N = ref8 m c := by
  refine (dats m 0 c).arrAt_eq_of_after_last 8 t0_7 (by decide +kernel) _ fun j => ?_
  blk_simp
  rw [after0_8, eq_ix2' j]
  exact acc8 m h0 h1 h2 h3 h4 _
theorem final9 : (dats m 0 c).arrAt 9 (cfgs 0).N = ref9 m c := by
  refine (dats m 0 c).arrAt_eq_of_after_last 9 t0_7 (by decide +kernel) _ fun j => ?_
  blk_simp
  rw [after0_9, eq_ix2' j]
  exact acc9 m h0 h1 h2 h3 h4 _

end
end Cert.LossIdeal.Arr

end
-- ==== Proof.LossClaim.lean ====
/- The claims on the loss and its gradient: the runs of the call and of the reference, side by side. -/
module

public import proofs.«01_k».proof.Proof.LossValue
public import proofs.«01_k».proof.Proof.Gen.Loss.Frame
public import proofs.«01_k».proof.Proof.Gen.LossRefIdeal.Run
public import proofs.«01_k».proof.Proof.Gen.Pre_finite_loss
public import proofs.«01_k».proof.Proof.Real
public import Idealize.ShloMosaic.Lib.Claim

public import proofs.«01_k».proof.Defs

@[expose] public section

set_option maxRecDepth 16384

noncomputable section

open Idealize.ShloMosaic Idealize.ShloMosaic.TcCoe Idealize.SL.Sem
open Idealize.ShloMosaic.Pipeline (Dat)

namespace Cert.Cost
open Cert.LossIdeal

instance : Subsingleton Cert.Pre_finite_loss.S_.Idx := ⟨fun a b => funext fun d => d.elim0⟩

/-- What the precondition says: the input, the embedding, the scale and the target are arrays of real numbers. -/
theorem reals (x : FVec Ideal S2048x2048 .f32) (s : FVec Ideal S2048x2048 .f32) (p : FVec Ideal S2048x2048 .f32) (g : FVec Ideal S2048 .f32) (t : FVec Ideal S2048x2048 .f32)
    (e : Cert.Pre_finite_loss.fn (F := Ideal) x s p g t = fun _ => 1#1) :
    (∃ f : S2048x2048.Idx → ℝ, x = fun i => (f i : EReal)) ∧ (∃ f : S2048x2048.Idx → ℝ, p = fun i => (f i : EReal)) ∧ (∃ f : S2048.Idx → ℝ, g = fun i => (f i : EReal)) ∧ (∃ f : S2048x2048.Idx → ℝ, t = fun i => (f i : EReal)) := by
  have e1 := congrFun e (fun d => d.elim0)
  obtain ⟨e1, e4⟩ := IntOp.andi_eq_one.1 e1
  obtain ⟨e1, e3⟩ := IntOp.andi_eq_one.1 e1
  obtain ⟨e1, e2⟩ := IntOp.andi_eq_one.1 e1
  exact ⟨Cert.Fin.reals_of_all _ _ (fun _ => rfl) _ _ _ _ e1, Cert.Fin.reals_of_all _ _ (fun _ => rfl) _ _ _ _ e2, Cert.Fin.reals_of_all _ _ (fun _ => rfl) _ _ _ _ e3, Cert.Fin.reals_of_all _ _ (fun _ => rfl) _ _ _ _ e4⟩

theorem algebraic_loss : Cert.algebraic_LossIdeal_LossRefIdeal_pre_finite_loss (hLossIdeal := Cert.LossIdeal.Gen.facts)
    (hLossRefIdeal := Cert.LossRefIdeal.Gen.facts) (hPre_finite_loss := Cert.Pre_finite_loss.Gen.facts) := by
  intro m g m' g' hpre hag
  refine ⟨fun c => Arr.ref5 m c, fun c => Arr.ref6 m c, fun c => Arr.ref7 m c, fun c => Arr.ref8 m c, fun c => Arr.ref9 m c, ?_, ?_⟩
  · refine (θ_run _ _ _).mono (fun r h c => ?_) (Cert.LossIdeal.Value.run_blocks m g)
    obtain ⟨h0, h1, h2, h3, h4, hr⟩ := h c
    obtain ⟨⟨x, kx⟩, ⟨p, kp⟩, ⟨g, kg⟩, ⟨t, kt⟩⟩ := reals _ _ _ _ _ (hpre c)
    have a0 : ∀ n k, Arr.xA m c (ix2 n k) = ((x (ix2 n k) : ℝ) : EReal) := fun n k => congrFun kx (ix2 n k)
    choose s a1 using fun n k => Cert.Lh.gate_real (Arr.sA m c (ix2 n k))
    have a2 : ∀ n k, Arr.pA m c (ix2 n k) = ((p (ix2 n k) : ℝ) : EReal) := fun n k => congrFun kp (ix2 n k)
    have a3 : ∀ k, Arr.gA m c (ix1 k) = ((g (ix1 k) : ℝ) : EReal) := fun k => congrFun kg (ix1 k)
    have a4 : ∀ n k, Arr.tA m c (ix2 n k) = ((t (ix2 n k) : ℝ) : EReal) := fun n k => congrFun kt (ix2 n k)
    exact ⟨h0.trans (Arr.final5 m a0 a1 a2 a3 a4), h1.trans (Arr.final6 m a0 a1 a2 a3 a4), h2.trans (Arr.final7 m a0 a1 a2 a3 a4), h3.trans (Arr.final8 m a0 a1 a2 a3 a4), h4.trans (Arr.final9 m a0 a1 a2 a3 a4), hr⟩
  · refine (θ_run _ _ _).mono (fun r h c => ?_) (Cert.LossRefIdeal.Value.run m' g')
    obtain ⟨h0, h1, h2, h3, h4, hr⟩ := h c
    obtain ⟨e0, e1, e2, e3, e4⟩ := hag c
    replace h0 : _ = Cert.LossRefIdeal.Read.val_main_v61 (F := Ideal) (m' ((c : Thread Cert.LossRefIdeal.nD Cert.LossRefIdeal.τ).loc Cert.LossRefIdeal.main_arg0)) (m' ((c : Thread Cert.LossRefIdeal.nD Cert.LossRefIdeal.τ).loc Cert.LossRefIdeal.main_arg1)) (m' ((c : Thread Cert.LossRefIdeal.nD Cert.LossRefIdeal.τ).loc Cert.LossRefIdeal.main_arg2)) (m' ((c : Thread Cert.LossRefIdeal.nD Cert.LossRefIdeal.τ).loc Cert.LossRefIdeal.main_arg3)) (m' ((c : Thread Cert.LossRefIdeal.nD Cert.LossRefIdeal.τ).loc Cert.LossRefIdeal.main_arg4)) := h0.trans (Cert.LossRefIdeal.Read.val_main_v61_eq _ _)
    rw [e0, e1, e2, e3, e4] at h0
    replace h1 : _ = Cert.LossRefIdeal.Read.val_main_v65 (F := Ideal) (m' ((c : Thread Cert.LossRefIdeal.nD Cert.LossRefIdeal.τ).loc Cert.LossRefIdeal.main_arg0)) (m' ((c : Thread Cert.LossRefIdeal.nD Cert.LossRefIdeal.τ).loc Cert.LossRefIdeal.main_arg1)) (m' ((c : Thread Cert.LossRefIdeal.nD Cert.LossRefIdeal.τ).loc Cert.LossRefIdeal.main_arg2)) (m' ((c : Thread Cert.LossRefIdeal.nD Cert.LossRefIdeal.τ).loc Cert.LossRefIdeal.main_arg3)) (m' ((c : Thread Cert.LossRefIdeal.nD Cert.LossRefIdeal.τ).loc Cert.LossRefIdeal.main_arg4)) := h1.trans (Cert.LossRefIdeal.Read.val_main_v65_eq _ _)
    rw [e0, e1, e2, e3, e4] at h1
    replace h2 : _ = Cert.LossRefIdeal.Read.val_main_v66 (F := Ideal) (m' ((c : Thread Cert.LossRefIdeal.nD Cert.LossRefIdeal.τ).loc Cert.LossRefIdeal.main_arg0)) (m' ((c : Thread Cert.LossRefIdeal.nD Cert.LossRefIdeal.τ).loc Cert.LossRefIdeal.main_arg1)) (m' ((c : Thread Cert.LossRefIdeal.nD Cert.LossRefIdeal.τ).loc Cert.LossRefIdeal.main_arg2)) (m' ((c : Thread Cert.LossRefIdeal.nD Cert.LossRefIdeal.τ).loc Cert.LossRefIdeal.main_arg3)) (m' ((c : Thread Cert.LossRefIdeal.nD Cert.LossRefIdeal.τ).loc Cert.LossRefIdeal.main_arg4)) := h2.trans (Cert.LossRefIdeal.Read.val_main_v66_eq _ _)
    rw [e0, e1, e2, e3, e4] at h2
    replace h3 : _ = Cert.LossRefIdeal.Read.val_main_v67 (F := Ideal) (m' ((c : Thread Cert.LossRefIdeal.nD Cert.LossRefIdeal.τ).loc Cert.LossRefIdeal.main_arg0)) (m' ((c : Thread Cert.LossRefIdeal.nD Cert.LossRefIdeal.τ).loc Cert.LossRefIdeal.main_arg1)) (m' ((c : Thread Cert.LossRefIdeal.nD Cert.LossRefIdeal.τ).loc Cert.LossRefIdeal.main_arg2)) (m' ((c : Thread Cert.LossRefIdeal.nD Cert.LossRefIdeal.τ).loc Cert.LossRefIdeal.main_arg3)) (m' ((c : Thread Cert.LossRefIdeal.nD Cert.LossRefIdeal.τ).loc Cert.LossRefIdeal.main_arg4)) := h3.trans (Cert.LossRefIdeal.Read.val_main_v67_eq _ _ _ _ _)
    rw [e0, e1, e2, e3, e4] at h3
    replace h4 : _ = Cert.LossRefIdeal.Read.val_main_v68 (F := Ideal) (m' ((c : Thread Cert.LossRefIdeal.nD Cert.LossRefIdeal.τ).loc Cert.LossRefIdeal.main_arg0)) (m' ((c : Thread Cert.LossRefIdeal.nD Cert.LossRefIdeal.τ).loc Cert.LossRefIdeal.main_arg1)) (m' ((c : Thread Cert.LossRefIdeal.nD Cert.LossRefIdeal.τ).loc Cert.LossRefIdeal.main_arg2)) (m' ((c : Thread Cert.LossRefIdeal.nD Cert.LossRefIdeal.τ).loc Cert.LossRefIdeal.main_arg3)) (m' ((c : Thread Cert.LossRefIdeal.nD Cert.LossRefIdeal.τ).loc Cert.LossRefIdeal.main_arg4)) := h4.trans (Cert.LossRefIdeal.Read.val_main_v68_eq _ _ _ _ _)
    rw [e0, e1, e2, e3, e4] at h4
    exact ⟨h0, h1, h2, h3, h4, hr⟩

/-- The reference is host operations only: it terminates, leaves its arguments unchanged and has no counter. -/
theorem frame_loss_ref : Cert.quiescent_LossRefIdeal (hLossRefIdeal := Cert.LossRefIdeal.Gen.facts) := fun m ρ _ =>
  (θ_run _ _ _).mono (fun r h => ⟨fun c => (h c).2.2.2.2.2, sem_eq_zero_of_no_sems rfl _⟩) (Cert.LossRefIdeal.Value.run m ρ)

end Cert.Cost

end
-- ==== Proof.PrepRefVal.lean ====
/- The discretisation’s gradient as the chain rule writes it, read over the reals. -/
module

public import proofs.«01_k».proof.Proof.Gen.PrepRefIdeal.Read
public import proofs.«01_k».proof.Proof.Real
public import proofs.«01_k».proof.Proof.Real
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Disc
open Cert.Fin

/-- One state's discretisation over the reals: the growth, the state factor less one, the quotient's two numerators. -/
def gr (a t : ℝ) : ℝ := Real.exp (a * t)
def nn (a i : ℝ) : ℝ := a * a + i * i
def nr (a i t : ℝ) : ℝ := gr a t * Real.cos (i * t) - 1
def ni (a i t : ℝ) : ℝ := gr a t * Real.sin (i * t)
def pr (a i t : ℝ) : ℝ := nr a i t * a + ni a i t * i
def pi (a i t : ℝ) : ℝ := ni a i t * a - nr a i t * i

/-- The gradients: `u` and `v` are those of the quotient, `l` and `k` those of the state factor. -/
def dn (a i t u v : ℝ) : ℝ := (-(u * pr a i t + v * pi a i t)) / (nn a i * nn a i)
def dl (a i l u v : ℝ) : ℝ := l + (u / nn a i * a - v / nn a i * i)
def dk (a i k u v : ℝ) : ℝ := k + (u / nn a i * i + v / nn a i * a)
def dx (a i t l k u v : ℝ) : ℝ := dl a i l u v * (gr a t * Real.cos (i * t)) + dk a i k u v * (gr a t * Real.sin (i * t))
def dy (a i t l k u v : ℝ) : ℝ := dk a i k u v * (gr a t * Real.cos (i * t)) - dl a i l u v * (gr a t * Real.sin (i * t))
def da (a i t l k u v : ℝ) : ℝ := u / nn a i * nr a i t + v / nn a i * ni a i t + 2 * dn a i t u v * a + dx a i t l k u v * t
def di (a i t l k u v : ℝ) : ℝ := u / nn a i * ni a i t - v / nn a i * nr a i t + 2 * dn a i t u v * i + dy a i t l k u v * t
def dt (a i t l k u v : ℝ) : ℝ := dx a i t l k u v * a + dy a i t l k u v * i

/-- The quotient's gradient, summed over the channels. -/
def su (b c B C : Fin 16 → ℝ) : ℝ := ∑ j, (b j * B j + c j * C j)
def sv (b c B C : Fin 16 → ℝ) : ℝ := ∑ j, (b j * C j - c j * B j)

end Cert.Disc

namespace Cert.PrepRefIdeal.Val
open Cert.PrepRefIdeal Cert.PrepRefIdeal.Gen Cert.PrepRefIdeal.Read
open Cert.Fin Cert.Disc

variable (x0 x1 : FVec Ideal S1x128x64 .f32) (x2 : FVec Ideal S1x128 .f32) (x3 x4 : FVec Ideal S1x128x64x16 .f32)
  (x5 x6 : FVec Ideal S128x64 .f32) (x7 x8 : FVec Ideal S128x64x16 .f32)
variable (A I : Fin 128 → Fin 64 → ℝ) (T : Fin 128 → ℝ) (b c : Fin 128 → Fin 64 → Fin 16 → ℝ) (L K : Fin 128 → Fin 64 → ℝ)
  (B C : Fin 128 → Fin 64 → Fin 16 → ℝ)
variable (h0 : ∀ g p, x0 (ix3 0 g p) = (A g p : EReal)) (h1 : ∀ g p, x1 (ix3 0 g p) = (I g p : EReal))
  (h2 : ∀ g, x2 (ix2 0 g) = (T g : EReal))
  (h3 : ∀ g p j, x3 (ix4 0 g p j) = (b g p j : EReal)) (h4 : ∀ g p j, x4 (ix4 0 g p j) = (c g p j : EReal))
  (h5 : ∀ g p, x5 (ix2 g p) = (L g p : EReal)) (h6 : ∀ g p, x6 (ix2 g p) = (K g p : EReal))
  (h7 : ∀ g p j, x7 (ix3 g p j) = (B g p j : EReal)) (h8 : ∀ g p j, x8 (ix3 g p j) = (C g p j : EReal))
  (hn : ∀ g p, nn (A g p) (I g p) ≠ 0)
include h0 h1 h2 h3 h4 h5 h6 h7 h8 hn

theorem q5 (g : Fin 128) : val_main_v5 (F := Ideal) x2 (ix1 g) = ((Real.exp (T g) : ℝ) : EReal) := by
  pointwise [val_main_v5, val_main_v2]
  simp only [h0, h1, h2, h3, h4, h5, h6, h7, h8, Fin.sum_univ_one, zero_add]
  simp (disch := first | exact hn _ _ | exact mul_ne_zero (hn _ _) (hn _ _)) only [← EReal.coe_one, ← EReal.coe_mul, ← EReal.coe_add, ← EReal.coe_neg, sub_coe, div_coe, exp_coe, cos_coe, sin_coe, sum_coe]

theorem q9 (g : Fin 128) (p : Fin 64) : val_main_v9 (F := Ideal) x0 x2 (ix2 g p) = ((gr (A g p) (Real.exp (T g)) : ℝ) : EReal) := by
  pointwise [val_main_v9, val_main_v8, val_main_v7, val_main_v6, val_main_v0]
  simp only [q5 x0 x1 x2 x3 x4 x5 x6 x7 x8 A I T b c L K B C h0 h1 h2 h3 h4 h5 h6 h7 h8 hn, h0, h1, h2, h3, h4, h5, h6, h7, h8, Fin.sum_univ_one, zero_add]
  simp (disch := first | exact hn _ _ | exact mul_ne_zero (hn _ _) (hn _ _)) only [← EReal.coe_one, ← EReal.coe_mul, ← EReal.coe_add, ← EReal.coe_neg, sub_coe, div_coe, exp_coe, cos_coe, sin_coe, sum_coe]
  exact congrArg Real.toEReal (by rfl)

theorem q17 (g : Fin 128) (p : Fin 64) : val_main_v17 (F := Ideal) x0 x2 (ix2 g p) = ((gr (A g p) (Real.exp (T g)) : ℝ) : EReal) := by
  pointwise [val_main_v17, val_main_v16, val_main_v15, val_main_v6, val_main_v0]
  simp only [q5 x0 x1 x2 x3 x4 x5 x6 x7 x8 A I T b c L K B C h0 h1 h2 h3 h4 h5 h6 h7 h8 hn, h0, h1, h2, h3, h4, h5, h6, h7, h8, Fin.sum_univ_one, zero_add]
  simp (disch := first | exact hn _ _ | exact mul_ne_zero (hn _ _) (hn _ _)) only [← EReal.coe_one, ← EReal.coe_mul, ← EReal.coe_add, ← EReal.coe_neg, sub_coe, div_coe, exp_coe, cos_coe, sin_coe, sum_coe]
  exact congrArg Real.toEReal (by rfl)

theorem q12 (g : Fin 128) (p : Fin 64) : val_main_v12 (F := Ideal) x1 x2 (ix2 g p) = ((Real.cos (I g p * Real.exp (T g)) : ℝ) : EReal) := by
  pointwise [val_main_v12, val_main_v11, val_main_v10, val_main_v6, val_main_v1]
  simp only [q5 x0 x1 x2 x3 x4 x5 x6 x7 x8 A I T b c L K B C h0 h1 h2 h3 h4 h5 h6 h7 h8 hn, h0, h1, h2, h3, h4, h5, h6, h7, h8, Fin.sum_univ_one, zero_add]
  simp (disch := first | exact hn _ _ | exact mul_ne_zero (hn _ _) (hn _ _)) only [← EReal.coe_one, ← EReal.coe_mul, ← EReal.coe_add, ← EReal.coe_neg, sub_coe, div_coe, exp_coe, cos_coe, sin_coe, sum_coe]

theorem q13 (g : Fin 128) (p : Fin 64) : val_main_v13 (F := Ideal) x1 x2 (ix2 g p) = ((Real.sin (I g p * Real.exp (T g)) : ℝ) : EReal) := by
  pointwise [val_main_v13, val_main_v11, val_main_v10, val_main_v6, val_main_v1]
  simp only [q5 x0 x1 x2 x3 x4 x5 x6 x7 x8 A I T b c L K B C h0 h1 h2 h3 h4 h5 h6 h7 h8 hn, h0, h1, h2, h3, h4, h5, h6, h7, h8, Fin.sum_univ_one, zero_add]
  simp (disch := first | exact hn _ _ | exact mul_ne_zero (hn _ _) (hn _ _)) only [← EReal.coe_one, ← EReal.coe_mul, ← EReal.coe_add, ← EReal.coe_neg, sub_coe, div_coe, exp_coe, cos_coe, sin_coe, sum_coe]

theorem q21 (g : Fin 128) (p : Fin 64) : val_main_v21 (F := Ideal) x1 x2 (ix2 g p) = ((Real.cos (I g p * Real.exp (T g)) : ℝ) : EReal) := by
  pointwise [val_main_v21, val_main_v19, val_main_v18, val_main_v6, val_main_v1]
  simp only [q5 x0 x1 x2 x3 x4 x5 x6 x7 x8 A I T b c L K B C h0 h1 h2 h3 h4 h5 h6 h7 h8 hn, h0, h1, h2, h3, h4, h5, h6, h7, h8, Fin.sum_univ_one, zero_add]
  simp (disch := first | exact hn _ _ | exact mul_ne_zero (hn _ _) (hn _ _)) only [← EReal.coe_one, ← EReal.coe_mul, ← EReal.coe_add, ← EReal.coe_neg, sub_coe, div_coe, exp_coe, cos_coe, sin_coe, sum_coe]

theorem q20 (g : Fin 128) (p : Fin 64) : val_main_v20 (F := Ideal) x1 x2 (ix2 g p) = ((Real.sin (I g p * Real.exp (T g)) : ℝ) : EReal) := by
  pointwise [val_main_v20, val_main_v19, val_main_v18, val_main_v6, val_main_v1]
  simp only [q5 x0 x1 x2 x3 x4 x5 x6 x7 x8 A I T b c L K B C h0 h1 h2 h3 h4 h5 h6 h7 h8 hn, h0, h1, h2, h3, h4, h5, h6, h7, h8, Fin.sum_univ_one, zero_add]
  simp (disch := first | exact hn _ _ | exact mul_ne_zero (hn _ _) (hn _ _)) only [← EReal.coe_one, ← EReal.coe_mul, ← EReal.coe_add, ← EReal.coe_neg, sub_coe, div_coe, exp_coe, cos_coe, sin_coe, sum_coe]

theorem q22 (g : Fin 128) (p : Fin 64) : val_main_v22 (F := Ideal) x0 x1 x2 (ix2 g p) = ((ni (A g p) (I g p) (Real.exp (T g)) : ℝ) : EReal) := by
  pointwise [val_main_v22]
  simp only [q17 x0 x1 x2 x3 x4 x5 x6 x7 x8 A I T b c L K B C h0 h1 h2 h3 h4 h5 h6 h7 h8 hn, q20 x0 x1 x2 x3 x4 x5 x6 x7 x8 A I T b c L K B C h0 h1 h2 h3 h4 h5 h6 h7 h8 hn, h0, h1, h2, h3, h4, h5, h6, h7, h8, Fin.sum_univ_one, zero_add]
  simp (disch := first | exact hn _ _ | exact mul_ne_zero (hn _ _) (hn _ _)) only [← EReal.coe_one, ← EReal.coe_mul, ← EReal.coe_add, ← EReal.coe_neg, sub_coe, div_coe, exp_coe, cos_coe, sin_coe, sum_coe]
  exact congrArg Real.toEReal (by rfl)

theorem q25 (g : Fin 128) (p : Fin 64) : val_main_v25 (F := Ideal) x0 x1 (ix2 g p) = ((nn (A g p) (I g p) : ℝ) : EReal) := by
  pointwise [val_main_v25, val_main_v24, val_main_v23, val_main_v1, val_main_v0]
  simp only [h0, h1, h2, h3, h4, h5, h6, h7, h8, Fin.sum_univ_one, zero_add]
  simp (disch := first | exact hn _ _ | exact mul_ne_zero (hn _ _) (hn _ _)) only [← EReal.coe_one, ← EReal.coe_mul, ← EReal.coe_add, ← EReal.coe_neg, sub_coe, div_coe, exp_coe, cos_coe, sin_coe, sum_coe]
  exact congrArg Real.toEReal (by rfl)

theorem q27 (g : Fin 128) (p : Fin 64) : val_main_v27 (F := Ideal) x0 x1 x2 (ix2 g p) = ((nr (A g p) (I g p) (Real.exp (T g)) : ℝ) : EReal) := by
  pointwise [val_main_v27, val_main_v26, val_main_v14, val_main_cst]
  simp only [q9 x0 x1 x2 x3 x4 x5 x6 x7 x8 A I T b c L K B C h0 h1 h2 h3 h4 h5 h6 h7 h8 hn, q12 x0 x1 x2 x3 x4 x5 x6 x7 x8 A I T b c L K B C h0 h1 h2 h3 h4 h5 h6 h7 h8 hn, h0, h1, h2, h3, h4, h5, h6, h7, h8, Fin.sum_univ_one, zero_add]
  simp (disch := first | exact hn _ _ | exact mul_ne_zero (hn _ _) (hn _ _)) only [← EReal.coe_one, ← EReal.coe_mul, ← EReal.coe_add, ← EReal.coe_neg, sub_coe, div_coe, exp_coe, cos_coe, sin_coe, sum_coe]
  exact congrArg Real.toEReal (by rfl)

theorem q38 (g : Fin 128) (p : Fin 64) : val_main_v38 (F := Ideal) x0 x1 x2 (ix2 g p) = ((nr (A g p) (I g p) (Real.exp (T g)) : ℝ) : EReal) := by
  pointwise [val_main_v38, val_main_v37, val_main_v14, val_main_cst_1]
  simp only [q9 x0 x1 x2 x3 x4 x5 x6 x7 x8 A I T b c L K B C h0 h1 h2 h3 h4 h5 h6 h7 h8 hn, q12 x0 x1 x2 x3 x4 x5 x6 x7 x8 A I T b c L K B C h0 h1 h2 h3 h4 h5 h6 h7 h8 hn, h0, h1, h2, h3, h4, h5, h6, h7, h8, Fin.sum_univ_one, zero_add]
  simp (disch := first | exact hn _ _ | exact mul_ne_zero (hn _ _) (hn _ _)) only [← EReal.coe_one, ← EReal.coe_mul, ← EReal.coe_add, ← EReal.coe_neg, sub_coe, div_coe, exp_coe, cos_coe, sin_coe, sum_coe]
  exact congrArg Real.toEReal (by rfl)

theorem q30 (g : Fin 128) (p : Fin 64) : val_main_v30 (F := Ideal) x0 x1 x2 (ix2 g p) = ((pr (A g p) (I g p) (Real.exp (T g)) : ℝ) : EReal) := by
  pointwise [val_main_v30, val_main_v29, val_main_v28, val_main_v1, val_main_v0]
  simp only [q27 x0 x1 x2 x3 x4 x5 x6 x7 x8 A I T b c L K B C h0 h1 h2 h3 h4 h5 h6 h7 h8 hn, q22 x0 x1 x2 x3 x4 x5 x6 x7 x8 A I T b c L K B C h0 h1 h2 h3 h4 h5 h6 h7 h8 hn, h0, h1, h2, h3, h4, h5, h6, h7, h8, Fin.sum_univ_one, zero_add]
  simp (disch := first | exact hn _ _ | exact mul_ne_zero (hn _ _) (hn _ _)) only [← EReal.coe_one, ← EReal.coe_mul, ← EReal.coe_add, ← EReal.coe_neg, sub_coe, div_coe, exp_coe, cos_coe, sin_coe, sum_coe]
  exact congrArg Real.toEReal (by rfl)

theorem q40 (g : Fin 128) (p : Fin 64) : val_main_v40 (F := Ideal) x0 x1 x2 (ix2 g p) = ((pi (A g p) (I g p) (Real.exp (T g)) : ℝ) : EReal) := by
  pointwise [val_main_v40, val_main_v39, val_main_v36, val_main_v1, val_main_v0]
  simp only [q38 x0 x1 x2 x3 x4 x5 x6 x7 x8 A I T b c L K B C h0 h1 h2 h3 h4 h5 h6 h7 h8 hn, q22 x0 x1 x2 x3 x4 x5 x6 x7 x8 A I T b c L K B C h0 h1 h2 h3 h4 h5 h6 h7 h8 hn, h0, h1, h2, h3, h4, h5, h6, h7, h8, Fin.sum_univ_one, zero_add]
  simp (disch := first | exact hn _ _ | exact mul_ne_zero (hn _ _) (hn _ _)) only [← EReal.coe_one, ← EReal.coe_mul, ← EReal.coe_add, ← EReal.coe_neg, sub_coe, div_coe, exp_coe, cos_coe, sin_coe, sum_coe]
  exact congrArg Real.toEReal (by rfl)

theorem q31 (g : Fin 128) (p : Fin 64) : val_main_v31 (F := Ideal) x0 x1 x2 (ix2 g p) = ((pr (A g p) (I g p) (Real.exp (T g)) / nn (A g p) (I g p) : ℝ) : EReal) := by
  pointwise [val_main_v31]
  simp only [q30 x0 x1 x2 x3 x4 x5 x6 x7 x8 A I T b c L K B C h0 h1 h2 h3 h4 h5 h6 h7 h8 hn, q25 x0 x1 x2 x3 x4 x5 x6 x7 x8 A I T b c L K B C h0 h1 h2 h3 h4 h5 h6 h7 h8 hn, h0, h1, h2, h3, h4, h5, h6, h7, h8, Fin.sum_univ_one, zero_add]
  simp (disch := first | exact hn _ _ | exact mul_ne_zero (hn _ _) (hn _ _)) only [← EReal.coe_one, ← EReal.coe_mul, ← EReal.coe_add, ← EReal.coe_neg, sub_coe, div_coe, exp_coe, cos_coe, sin_coe, sum_coe]

theorem q41 (g : Fin 128) (p : Fin 64) : val_main_v41 (F := Ideal) x0 x1 x2 (ix2 g p) = ((pi (A g p) (I g p) (Real.exp (T g)) / nn (A g p) (I g p) : ℝ) : EReal) := by
  pointwise [val_main_v41]
  simp only [q40 x0 x1 x2 x3 x4 x5 x6 x7 x8 A I T b c L K B C h0 h1 h2 h3 h4 h5 h6 h7 h8 hn, q25 x0 x1 x2 x3 x4 x5 x6 x7 x8 A I T b c L K B C h0 h1 h2 h3 h4 h5 h6 h7 h8 hn, h0, h1, h2, h3, h4, h5, h6, h7, h8, Fin.sum_univ_one, zero_add]
  simp (disch := first | exact hn _ _ | exact mul_ne_zero (hn _ _) (hn _ _)) only [← EReal.coe_one, ← EReal.coe_mul, ← EReal.coe_add, ← EReal.coe_neg, sub_coe, div_coe, exp_coe, cos_coe, sin_coe, sum_coe]

theorem q34 (g : Fin 128) (p : Fin 64) : val_main_v34 (F := Ideal) x0 x1 (ix2 g p) = ((1 / (nn (A g p) (I g p) * nn (A g p) (I g p)) : ℝ) : EReal) := by
  pointwise [val_main_v34, val_main_v33, val_main_v32, val_main_cst_0]
  simp only [q25 x0 x1 x2 x3 x4 x5 x6 x7 x8 A I T b c L K B C h0 h1 h2 h3 h4 h5 h6 h7 h8 hn, h0, h1, h2, h3, h4, h5, h6, h7, h8, Fin.sum_univ_one, zero_add]
  simp (disch := first | exact hn _ _ | exact mul_ne_zero (hn _ _) (hn _ _)) only [← EReal.coe_one, ← EReal.coe_mul, ← EReal.coe_add, ← EReal.coe_neg, sub_coe, div_coe, exp_coe, cos_coe, sin_coe, sum_coe]

theorem q44 (g : Fin 128) (p : Fin 64) : val_main_v44 (F := Ideal) x0 x1 (ix2 g p) = ((1 / (nn (A g p) (I g p) * nn (A g p) (I g p)) : ℝ) : EReal) := by
  pointwise [val_main_v44, val_main_v43, val_main_v42, val_main_cst_2]
  simp only [q25 x0 x1 x2 x3 x4 x5 x6 x7 x8 A I T b c L K B C h0 h1 h2 h3 h4 h5 h6 h7 h8 hn, h0, h1, h2, h3, h4, h5, h6, h7, h8, Fin.sum_univ_one, zero_add]
  simp (disch := first | exact hn _ _ | exact mul_ne_zero (hn _ _) (hn _ _)) only [← EReal.coe_one, ← EReal.coe_mul, ← EReal.coe_add, ← EReal.coe_neg, sub_coe, div_coe, exp_coe, cos_coe, sin_coe, sum_coe]

theorem q84 (g : Fin 128) (p : Fin 64) : val_main_v84 (F := Ideal) x3 x4 x7 x8 (ix2 g p) = (((sv (b g p) (c g p) (B g p) (C g p)) : ℝ) : EReal) := by
  pointwise [val_main_v84, val_main_v76, val_main_v75, val_main_v74, val_main_v73, val_main_v69, val_main_v62, val_main_v61, val_main_v60, val_main_v57, val_main_v4, val_main_v3, val_main_cst_7, val_main_cst_5, val_main_cst_3]
  simp only [h0, h1, h2, h3, h4, h5, h6, h7, h8, Fin.sum_univ_one, zero_add]
  simp (disch := first | exact hn _ _ | exact mul_ne_zero (hn _ _) (hn _ _)) only [← EReal.coe_one, ← EReal.coe_mul, ← EReal.coe_add, ← EReal.coe_neg, sub_coe, div_coe, exp_coe, cos_coe, sin_coe, sum_coe]
  exact congrArg Real.toEReal (by unfold sv; rw [← Finset.sum_add_distrib]; exact Finset.sum_congr rfl fun j _ => by ring)

theorem q96 (g : Fin 128) (p : Fin 64) : val_main_v96 (F := Ideal) x3 x4 x7 x8 (ix2 g p) = (((su (b g p) (c g p) (B g p) (C g p)) : ℝ) : EReal) := by
  pointwise [val_main_v96, val_main_v83, val_main_v82, val_main_v81, val_main_v80, val_main_v68, val_main_v67, val_main_v66, val_main_v65, val_main_v56, val_main_v4, val_main_v3, val_main_cst_8, val_main_cst_6, val_main_cst_4]
  simp only [h0, h1, h2, h3, h4, h5, h6, h7, h8, Fin.sum_univ_one, zero_add]
  simp (disch := first | exact hn _ _ | exact mul_ne_zero (hn _ _) (hn _ _)) only [← EReal.coe_one, ← EReal.coe_mul, ← EReal.coe_add, ← EReal.coe_neg, sub_coe, div_coe, exp_coe, cos_coe, sin_coe, sum_coe]
  exact congrArg Real.toEReal (by unfold su; rw [← Finset.sum_add_distrib]; exact Finset.sum_congr rfl fun j _ => by ring)

theorem q88 (g : Fin 128) (p : Fin 64) : val_main_v88 (F := Ideal) x0 x1 x3 x4 x7 x8 (ix2 g p) = (((sv (b g p) (c g p) (B g p) (C g p)) / nn (A g p) (I g p) : ℝ) : EReal) := by
  pointwise [val_main_v88]
  simp only [q84 x0 x1 x2 x3 x4 x5 x6 x7 x8 A I T b c L K B C h0 h1 h2 h3 h4 h5 h6 h7 h8 hn, q25 x0 x1 x2 x3 x4 x5 x6 x7 x8 A I T b c L K B C h0 h1 h2 h3 h4 h5 h6 h7 h8 hn, h0, h1, h2, h3, h4, h5, h6, h7, h8, Fin.sum_univ_one, zero_add]
  simp (disch := first | exact hn _ _ | exact mul_ne_zero (hn _ _) (hn _ _)) only [← EReal.coe_one, ← EReal.coe_mul, ← EReal.coe_add, ← EReal.coe_neg, sub_coe, div_coe, exp_coe, cos_coe, sin_coe, sum_coe]

theorem q101 (g : Fin 128) (p : Fin 64) : val_main_v101 (F := Ideal) x0 x1 x3 x4 x7 x8 (ix2 g p) = (((su (b g p) (c g p) (B g p) (C g p)) / nn (A g p) (I g p) : ℝ) : EReal) := by
  pointwise [val_main_v101]
  simp only [q96 x0 x1 x2 x3 x4 x5 x6 x7 x8 A I T b c L K B C h0 h1 h2 h3 h4 h5 h6 h7 h8 hn, q25 x0 x1 x2 x3 x4 x5 x6 x7 x8 A I T b c L K B C h0 h1 h2 h3 h4 h5 h6 h7 h8 hn, h0, h1, h2, h3, h4, h5, h6, h7, h8, Fin.sum_univ_one, zero_add]
  simp (disch := first | exact hn _ _ | exact mul_ne_zero (hn _ _) (hn _ _)) only [← EReal.coe_one, ← EReal.coe_mul, ← EReal.coe_add, ← EReal.coe_neg, sub_coe, div_coe, exp_coe, cos_coe, sin_coe, sum_coe]

theorem q100 (g : Fin 128) (p : Fin 64) : val_main_v100 (F := Ideal) x0 x1 x2 x3 x4 x7 x8 (ix2 g p) = ((dn (A g p) (I g p) (Real.exp (T g)) (su (b g p) (c g p) (B g p) (C g p)) (sv (b g p) (c g p) (B g p) (C g p)) : ℝ) : EReal) := by
  pointwise [val_main_v100, val_main_v99, val_main_v98, val_main_v97, val_main_v87, val_main_v86, val_main_v85]
  simp only [q84 x0 x1 x2 x3 x4 x5 x6 x7 x8 A I T b c L K B C h0 h1 h2 h3 h4 h5 h6 h7 h8 hn, q96 x0 x1 x2 x3 x4 x5 x6 x7 x8 A I T b c L K B C h0 h1 h2 h3 h4 h5 h6 h7 h8 hn, q44 x0 x1 x2 x3 x4 x5 x6 x7 x8 A I T b c L K B C h0 h1 h2 h3 h4 h5 h6 h7 h8 hn, q34 x0 x1 x2 x3 x4 x5 x6 x7 x8 A I T b c L K B C h0 h1 h2 h3 h4 h5 h6 h7 h8 hn, q30 x0 x1 x2 x3 x4 x5 x6 x7 x8 A I T b c L K B C h0 h1 h2 h3 h4 h5 h6 h7 h8 hn, q40 x0 x1 x2 x3 x4 x5 x6 x7 x8 A I T b c L K B C h0 h1 h2 h3 h4 h5 h6 h7 h8 hn, h0, h1, h2, h3, h4, h5, h6, h7, h8, Fin.sum_univ_one, zero_add]
  simp (disch := first | exact hn _ _ | exact mul_ne_zero (hn _ _) (hn _ _)) only [← EReal.coe_one, ← EReal.coe_mul, ← EReal.coe_add, ← EReal.coe_neg, sub_coe, div_coe, exp_coe, cos_coe, sin_coe, sum_coe]
  exact congrArg Real.toEReal (by have := hn g p; unfold dn; field_simp; ring)

theorem q105 (g : Fin 128) (p : Fin 64) : val_main_v105 (F := Ideal) x0 x1 x3 x4 x6 x7 x8 (ix2 g p) = ((dk (A g p) (I g p) (K g p) (su (b g p) (c g p) (B g p) (C g p)) (sv (b g p) (c g p) (B g p) (C g p)) : ℝ) : EReal) := by
  pointwise [val_main_v105, val_main_v104, val_main_v95, val_main_v94, val_main_v1, val_main_v0]
  simp only [q88 x0 x1 x2 x3 x4 x5 x6 x7 x8 A I T b c L K B C h0 h1 h2 h3 h4 h5 h6 h7 h8 hn, q101 x0 x1 x2 x3 x4 x5 x6 x7 x8 A I T b c L K B C h0 h1 h2 h3 h4 h5 h6 h7 h8 hn, h0, h1, h2, h3, h4, h5, h6, h7, h8, Fin.sum_univ_one, zero_add]
  simp (disch := first | exact hn _ _ | exact mul_ne_zero (hn _ _) (hn _ _)) only [← EReal.coe_one, ← EReal.coe_mul, ← EReal.coe_add, ← EReal.coe_neg, sub_coe, div_coe, exp_coe, cos_coe, sin_coe, sum_coe]
  exact congrArg Real.toEReal (by unfold dk; ring)

theorem q109 (g : Fin 128) (p : Fin 64) : val_main_v109 (F := Ideal) x0 x1 x3 x4 x5 x7 x8 (ix2 g p) = ((dl (A g p) (I g p) (L g p) (su (b g p) (c g p) (B g p) (C g p)) (sv (b g p) (c g p) (B g p) (C g p)) : ℝ) : EReal) := by
  pointwise [val_main_v109, val_main_v108, val_main_v92, val_main_v91, val_main_v89, val_main_v1, val_main_v0]
  simp only [q88 x0 x1 x2 x3 x4 x5 x6 x7 x8 A I T b c L K B C h0 h1 h2 h3 h4 h5 h6 h7 h8 hn, q101 x0 x1 x2 x3 x4 x5 x6 x7 x8 A I T b c L K B C h0 h1 h2 h3 h4 h5 h6 h7 h8 hn, h0, h1, h2, h3, h4, h5, h6, h7, h8, Fin.sum_univ_one, zero_add]
  simp (disch := first | exact hn _ _ | exact mul_ne_zero (hn _ _) (hn _ _)) only [← EReal.coe_one, ← EReal.coe_mul, ← EReal.coe_add, ← EReal.coe_neg, sub_coe, div_coe, exp_coe, cos_coe, sin_coe, sum_coe]
  exact congrArg Real.toEReal (by unfold dl; ring)

theorem q113 (g : Fin 128) (p : Fin 64) : val_main_v113 (F := Ideal) x0 x1 x2 x3 x4 x7 x8 (ix2 g p) = (((su (b g p) (c g p) (B g p) (C g p)) / nn (A g p) (I g p) * ni (A g p) (I g p) (Real.exp (T g)) - (sv (b g p) (c g p) (B g p) (C g p)) / nn (A g p) (I g p) * nr (A g p) (I g p) (Real.exp (T g)) + 2 * dn (A g p) (I g p) (Real.exp (T g)) (su (b g p) (c g p) (B g p) (C g p)) (sv (b g p) (c g p) (B g p) (C g p)) * (I g p) : ℝ) : EReal) := by
  pointwise [val_main_v113, val_main_v112, val_main_v111, val_main_v110, val_main_v103, val_main_v102, val_main_v90, val_main_v89, val_main_v1]
  simp only [q38 x0 x1 x2 x3 x4 x5 x6 x7 x8 A I T b c L K B C h0 h1 h2 h3 h4 h5 h6 h7 h8 hn, q88 x0 x1 x2 x3 x4 x5 x6 x7 x8 A I T b c L K B C h0 h1 h2 h3 h4 h5 h6 h7 h8 hn, q22 x0 x1 x2 x3 x4 x5 x6 x7 x8 A I T b c L K B C h0 h1 h2 h3 h4 h5 h6 h7 h8 hn, q101 x0 x1 x2 x3 x4 x5 x6 x7 x8 A I T b c L K B C h0 h1 h2 h3 h4 h5 h6 h7 h8 hn, q100 x0 x1 x2 x3 x4 x5 x6 x7 x8 A I T b c L K B C h0 h1 h2 h3 h4 h5 h6 h7 h8 hn, h0, h1, h2, h3, h4, h5, h6, h7, h8, Fin.sum_univ_one, zero_add]
  simp (disch := first | exact hn _ _ | exact mul_ne_zero (hn _ _) (hn _ _)) only [← EReal.coe_one, ← EReal.coe_mul, ← EReal.coe_add, ← EReal.coe_neg, sub_coe, div_coe, exp_coe, cos_coe, sin_coe, sum_coe]
  exact congrArg Real.toEReal (by ring)

theorem q117 (g : Fin 128) (p : Fin 64) : val_main_v117 (F := Ideal) x0 x1 x2 x3 x4 x7 x8 (ix2 g p) = (((su (b g p) (c g p) (B g p) (C g p)) / nn (A g p) (I g p) * nr (A g p) (I g p) (Real.exp (T g)) + (sv (b g p) (c g p) (B g p) (C g p)) / nn (A g p) (I g p) * ni (A g p) (I g p) (Real.exp (T g)) + 2 * dn (A g p) (I g p) (Real.exp (T g)) (su (b g p) (c g p) (B g p) (C g p)) (sv (b g p) (c g p) (B g p) (C g p)) * (A g p) : ℝ) : EReal) := by
  pointwise [val_main_v117, val_main_v116, val_main_v115, val_main_v114, val_main_v107, val_main_v106, val_main_v93, val_main_v0]
  simp only [q27 x0 x1 x2 x3 x4 x5 x6 x7 x8 A I T b c L K B C h0 h1 h2 h3 h4 h5 h6 h7 h8 hn, q88 x0 x1 x2 x3 x4 x5 x6 x7 x8 A I T b c L K B C h0 h1 h2 h3 h4 h5 h6 h7 h8 hn, q22 x0 x1 x2 x3 x4 x5 x6 x7 x8 A I T b c L K B C h0 h1 h2 h3 h4 h5 h6 h7 h8 hn, q101 x0 x1 x2 x3 x4 x5 x6 x7 x8 A I T b c L K B C h0 h1 h2 h3 h4 h5 h6 h7 h8 hn, q100 x0 x1 x2 x3 x4 x5 x6 x7 x8 A I T b c L K B C h0 h1 h2 h3 h4 h5 h6 h7 h8 hn, h0, h1, h2, h3, h4, h5, h6, h7, h8, Fin.sum_univ_one, zero_add]
  simp (disch := first | exact hn _ _ | exact mul_ne_zero (hn _ _) (hn _ _)) only [← EReal.coe_one, ← EReal.coe_mul, ← EReal.coe_add, ← EReal.coe_neg, sub_coe, div_coe, exp_coe, cos_coe, sin_coe, sum_coe]
  exact congrArg Real.toEReal (by ring)

theorem q120 (g : Fin 128) (p : Fin 64) : val_main_v120 (F := Ideal) x0 x1 x2 x3 x4 x6 x7 x8 (ix2 g p) = ((gr (A g p) (Real.exp (T g)) * dk (A g p) (I g p) (K g p) (su (b g p) (c g p) (B g p) (C g p)) (sv (b g p) (c g p) (B g p) (C g p)) * Real.cos (I g p * Real.exp (T g)) : ℝ) : EReal) := by
  pointwise [val_main_v120, val_main_v118]
  simp only [q17 x0 x1 x2 x3 x4 x5 x6 x7 x8 A I T b c L K B C h0 h1 h2 h3 h4 h5 h6 h7 h8 hn, q105 x0 x1 x2 x3 x4 x5 x6 x7 x8 A I T b c L K B C h0 h1 h2 h3 h4 h5 h6 h7 h8 hn, q21 x0 x1 x2 x3 x4 x5 x6 x7 x8 A I T b c L K B C h0 h1 h2 h3 h4 h5 h6 h7 h8 hn, h0, h1, h2, h3, h4, h5, h6, h7, h8, Fin.sum_univ_one, zero_add]
  simp (disch := first | exact hn _ _ | exact mul_ne_zero (hn _ _) (hn _ _)) only [← EReal.coe_one, ← EReal.coe_mul, ← EReal.coe_add, ← EReal.coe_neg, sub_coe, div_coe, exp_coe, cos_coe, sin_coe, sum_coe]

theorem q127 (g : Fin 128) (p : Fin 64) : val_main_v127 (F := Ideal) x0 x1 x2 x3 x4 x6 x7 x8 (ix2 g p) = ((dk (A g p) (I g p) (K g p) (su (b g p) (c g p) (B g p) (C g p)) (sv (b g p) (c g p) (B g p) (C g p)) * Real.sin (I g p * Real.exp (T g)) * gr (A g p) (Real.exp (T g)) : ℝ) : EReal) := by
  pointwise [val_main_v127, val_main_v119]
  simp only [q17 x0 x1 x2 x3 x4 x5 x6 x7 x8 A I T b c L K B C h0 h1 h2 h3 h4 h5 h6 h7 h8 hn, q105 x0 x1 x2 x3 x4 x5 x6 x7 x8 A I T b c L K B C h0 h1 h2 h3 h4 h5 h6 h7 h8 hn, q20 x0 x1 x2 x3 x4 x5 x6 x7 x8 A I T b c L K B C h0 h1 h2 h3 h4 h5 h6 h7 h8 hn, h0, h1, h2, h3, h4, h5, h6, h7, h8, Fin.sum_univ_one, zero_add]
  simp (disch := first | exact hn _ _ | exact mul_ne_zero (hn _ _) (hn _ _)) only [← EReal.coe_one, ← EReal.coe_mul, ← EReal.coe_add, ← EReal.coe_neg, sub_coe, div_coe, exp_coe, cos_coe, sin_coe, sum_coe]

theorem q138 (g : Fin 128) (p : Fin 64) : val_main_v138 (F := Ideal) x0 x1 x2 x3 x4 x5 x7 x8 (ix2 g p) = ((-(gr (A g p) (Real.exp (T g)) * dl (A g p) (I g p) (L g p) (su (b g p) (c g p) (B g p) (C g p)) (sv (b g p) (c g p) (B g p) (C g p))) * Real.sin (I g p * Real.exp (T g)) : ℝ) : EReal) := by
  pointwise [val_main_v138, val_main_v137, val_main_v135]
  simp only [q9 x0 x1 x2 x3 x4 x5 x6 x7 x8 A I T b c L K B C h0 h1 h2 h3 h4 h5 h6 h7 h8 hn, q109 x0 x1 x2 x3 x4 x5 x6 x7 x8 A I T b c L K B C h0 h1 h2 h3 h4 h5 h6 h7 h8 hn, q13 x0 x1 x2 x3 x4 x5 x6 x7 x8 A I T b c L K B C h0 h1 h2 h3 h4 h5 h6 h7 h8 hn, h0, h1, h2, h3, h4, h5, h6, h7, h8, Fin.sum_univ_one, zero_add]
  simp (disch := first | exact hn _ _ | exact mul_ne_zero (hn _ _) (hn _ _)) only [← EReal.coe_one, ← EReal.coe_mul, ← EReal.coe_add, ← EReal.coe_neg, sub_coe, div_coe, exp_coe, cos_coe, sin_coe, sum_coe]

theorem q146 (g : Fin 128) (p : Fin 64) : val_main_v146 (F := Ideal) x0 x1 x2 x3 x4 x5 x7 x8 (ix2 g p) = ((dl (A g p) (I g p) (L g p) (su (b g p) (c g p) (B g p) (C g p)) (sv (b g p) (c g p) (B g p) (C g p)) * Real.cos (I g p * Real.exp (T g)) * gr (A g p) (Real.exp (T g)) : ℝ) : EReal) := by
  pointwise [val_main_v146, val_main_v136]
  simp only [q9 x0 x1 x2 x3 x4 x5 x6 x7 x8 A I T b c L K B C h0 h1 h2 h3 h4 h5 h6 h7 h8 hn, q109 x0 x1 x2 x3 x4 x5 x6 x7 x8 A I T b c L K B C h0 h1 h2 h3 h4 h5 h6 h7 h8 hn, q12 x0 x1 x2 x3 x4 x5 x6 x7 x8 A I T b c L K B C h0 h1 h2 h3 h4 h5 h6 h7 h8 hn, h0, h1, h2, h3, h4, h5, h6, h7, h8, Fin.sum_univ_one, zero_add]
  simp (disch := first | exact hn _ _ | exact mul_ne_zero (hn _ _) (hn _ _)) only [← EReal.coe_one, ← EReal.coe_mul, ← EReal.coe_add, ← EReal.coe_neg, sub_coe, div_coe, exp_coe, cos_coe, sin_coe, sum_coe]

theorem q145 (g : Fin 128) (p : Fin 64) : val_main_v145 (F := Ideal) x0 x1 x2 x3 x4 x5 x6 x7 x8 (ix2 g p) = ((di (A g p) (I g p) (Real.exp (T g)) (L g p) (K g p) (su (b g p) (c g p) (B g p) (C g p)) (sv (b g p) (c g p) (B g p) (C g p)) : ℝ) : EReal) := by
  pointwise [val_main_v145, val_main_v144, val_main_v143, val_main_v126, val_main_v125, val_main_v124, val_main_v6]
  simp only [q113 x0 x1 x2 x3 x4 x5 x6 x7 x8 A I T b c L K B C h0 h1 h2 h3 h4 h5 h6 h7 h8 hn, q120 x0 x1 x2 x3 x4 x5 x6 x7 x8 A I T b c L K B C h0 h1 h2 h3 h4 h5 h6 h7 h8 hn, q138 x0 x1 x2 x3 x4 x5 x6 x7 x8 A I T b c L K B C h0 h1 h2 h3 h4 h5 h6 h7 h8 hn, q5 x0 x1 x2 x3 x4 x5 x6 x7 x8 A I T b c L K B C h0 h1 h2 h3 h4 h5 h6 h7 h8 hn, h0, h1, h2, h3, h4, h5, h6, h7, h8, Fin.sum_univ_one, zero_add]
  simp (disch := first | exact hn _ _ | exact mul_ne_zero (hn _ _) (hn _ _)) only [← EReal.coe_one, ← EReal.coe_mul, ← EReal.coe_add, ← EReal.coe_neg, sub_coe, div_coe, exp_coe, cos_coe, sin_coe, sum_coe]
  exact congrArg Real.toEReal (by unfold di dy; ring)

theorem q153 (g : Fin 128) (p : Fin 64) : val_main_v153 (F := Ideal) x0 x1 x2 x3 x4 x5 x6 x7 x8 (ix2 g p) = ((da (A g p) (I g p) (Real.exp (T g)) (L g p) (K g p) (su (b g p) (c g p) (B g p) (C g p)) (sv (b g p) (c g p) (B g p) (C g p)) : ℝ) : EReal) := by
  pointwise [val_main_v153, val_main_v152, val_main_v151, val_main_v134, val_main_v133, val_main_v132, val_main_v6]
  simp only [q117 x0 x1 x2 x3 x4 x5 x6 x7 x8 A I T b c L K B C h0 h1 h2 h3 h4 h5 h6 h7 h8 hn, q127 x0 x1 x2 x3 x4 x5 x6 x7 x8 A I T b c L K B C h0 h1 h2 h3 h4 h5 h6 h7 h8 hn, q146 x0 x1 x2 x3 x4 x5 x6 x7 x8 A I T b c L K B C h0 h1 h2 h3 h4 h5 h6 h7 h8 hn, q5 x0 x1 x2 x3 x4 x5 x6 x7 x8 A I T b c L K B C h0 h1 h2 h3 h4 h5 h6 h7 h8 hn, h0, h1, h2, h3, h4, h5, h6, h7, h8, Fin.sum_univ_one, zero_add]
  simp (disch := first | exact hn _ _ | exact mul_ne_zero (hn _ _) (hn _ _)) only [← EReal.coe_one, ← EReal.coe_mul, ← EReal.coe_add, ← EReal.coe_neg, sub_coe, div_coe, exp_coe, cos_coe, sin_coe, sum_coe]
  exact congrArg Real.toEReal (by unfold da dx; ring)

theorem q155 (g : Fin 128) : val_main_v155 (F := Ideal) x0 x1 x2 x3 x4 x5 x6 x7 x8 (ix1 g) = (((∑ p, dt (A g p) (I g p) (Real.exp (T g)) (L g p) (K g p) (su (b g p) (c g p) (B g p) (C g p)) (sv (b g p) (c g p) (B g p) (C g p))) * (Real.exp (T g)) : ℝ) : EReal) := by
  pointwise [val_main_v155, val_main_v154, val_main_v150, val_main_v149, val_main_v148, val_main_v147, val_main_v142, val_main_v141, val_main_v140, val_main_v139, val_main_v131, val_main_v130, val_main_v129, val_main_v128, val_main_v123, val_main_v122, val_main_v121, val_main_v1, val_main_v0, val_main_cst_13, val_main_cst_12, val_main_cst_11, val_main_cst_10, val_main_cst_9]
  simp only [q120 x0 x1 x2 x3 x4 x5 x6 x7 x8 A I T b c L K B C h0 h1 h2 h3 h4 h5 h6 h7 h8 hn, q127 x0 x1 x2 x3 x4 x5 x6 x7 x8 A I T b c L K B C h0 h1 h2 h3 h4 h5 h6 h7 h8 hn, q138 x0 x1 x2 x3 x4 x5 x6 x7 x8 A I T b c L K B C h0 h1 h2 h3 h4 h5 h6 h7 h8 hn, q146 x0 x1 x2 x3 x4 x5 x6 x7 x8 A I T b c L K B C h0 h1 h2 h3 h4 h5 h6 h7 h8 hn, q5 x0 x1 x2 x3 x4 x5 x6 x7 x8 A I T b c L K B C h0 h1 h2 h3 h4 h5 h6 h7 h8 hn, h0, h1, h2, h3, h4, h5, h6, h7, h8, Fin.sum_univ_one, zero_add]
  simp (disch := first | exact hn _ _ | exact mul_ne_zero (hn _ _) (hn _ _)) only [← EReal.coe_one, ← EReal.coe_mul, ← EReal.coe_add, ← EReal.coe_neg, sub_coe, div_coe, exp_coe, cos_coe, sin_coe, sum_coe]
  exact congrArg Real.toEReal (by rw [← Finset.sum_add_distrib, ← Finset.sum_add_distrib, ← Finset.sum_add_distrib]; exact congrArg (· * _) (Finset.sum_congr rfl fun p _ => by unfold dt dx dy; ring))

theorem q72 (g : Fin 128) (p : Fin 64) (j : Fin 16) : val_main_v72 (F := Ideal) x0 x1 x2 x7 x8 (ix3 g p j) = ((pr (A g p) (I g p) (Real.exp (T g)) / nn (A g p) (I g p) * C g p j - pi (A g p) (I g p) (Real.exp (T g)) / nn (A g p) (I g p) * B g p j : ℝ) : EReal) := by
  pointwise [val_main_v72, val_main_v71, val_main_v70, val_main_v69, val_main_v64, val_main_v63, val_main_v56, val_main_v45, val_main_v35]
  simp only [q31 x0 x1 x2 x3 x4 x5 x6 x7 x8 A I T b c L K B C h0 h1 h2 h3 h4 h5 h6 h7 h8 hn, q41 x0 x1 x2 x3 x4 x5 x6 x7 x8 A I T b c L K B C h0 h1 h2 h3 h4 h5 h6 h7 h8 hn, h0, h1, h2, h3, h4, h5, h6, h7, h8, Fin.sum_univ_one, zero_add]
  simp (disch := first | exact hn _ _ | exact mul_ne_zero (hn _ _) (hn _ _)) only [← EReal.coe_one, ← EReal.coe_mul, ← EReal.coe_add, ← EReal.coe_neg, sub_coe, div_coe, exp_coe, cos_coe, sin_coe, sum_coe]
  exact congrArg Real.toEReal (by ring)

theorem q79 (g : Fin 128) (p : Fin 64) (j : Fin 16) : val_main_v79 (F := Ideal) x0 x1 x2 x7 x8 (ix3 g p j) = ((pr (A g p) (I g p) (Real.exp (T g)) / nn (A g p) (I g p) * B g p j + pi (A g p) (I g p) (Real.exp (T g)) / nn (A g p) (I g p) * C g p j : ℝ) : EReal) := by
  pointwise [val_main_v79, val_main_v78, val_main_v77, val_main_v68, val_main_v59, val_main_v58, val_main_v57, val_main_v45, val_main_v35]
  simp only [q31 x0 x1 x2 x3 x4 x5 x6 x7 x8 A I T b c L K B C h0 h1 h2 h3 h4 h5 h6 h7 h8 hn, q41 x0 x1 x2 x3 x4 x5 x6 x7 x8 A I T b c L K B C h0 h1 h2 h3 h4 h5 h6 h7 h8 hn, h0, h1, h2, h3, h4, h5, h6, h7, h8, Fin.sum_univ_one, zero_add]
  simp (disch := first | exact hn _ _ | exact mul_ne_zero (hn _ _) (hn _ _)) only [← EReal.coe_one, ← EReal.coe_mul, ← EReal.coe_add, ← EReal.coe_neg, sub_coe, div_coe, exp_coe, cos_coe, sin_coe, sum_coe]
  exact congrArg Real.toEReal (by ring)

omit h0 h1 h2 h3 h4 h5 h6 h7 h8 hn
theorem q156 (p : Fin 64) (g : Fin 128) : val_main_v156 (F := Ideal) x0 x1 x2 x3 x4 x5 x6 x7 x8 (ix2 p g) = val_main_v153 (F := Ideal) x0 x1 x2 x3 x4 x5 x6 x7 x8 (ix2 g p) := by
  pointwise [val_main_v156]

theorem q157 (p : Fin 64) (g : Fin 128) : val_main_v157 (F := Ideal) x0 x1 x2 x3 x4 x5 x6 x7 x8 (ix2 p g) = val_main_v145 (F := Ideal) x0 x1 x2 x3 x4 x5 x6 x7 x8 (ix2 g p) := by
  pointwise [val_main_v157]

theorem q158 (g : Fin 128) : val_main_v158 (F := Ideal) x0 x1 x2 x3 x4 x5 x6 x7 x8 (ix2 0 g) = val_main_v155 (F := Ideal) x0 x1 x2 x3 x4 x5 x6 x7 x8 (ix1 g) := by
  pointwise [val_main_v158]

theorem q159 (p : Fin 64) (j : Fin 16) (g : Fin 128) : val_main_v159 (F := Ideal) x0 x1 x2 x7 x8 (ix3 p j g) = val_main_v79 (F := Ideal) x0 x1 x2 x7 x8 (ix3 g p j) := by
  pointwise [val_main_v159]

theorem q160 (p : Fin 64) (j : Fin 16) (g : Fin 128) : val_main_v160 (F := Ideal) x0 x1 x2 x7 x8 (ix3 p j g) = val_main_v72 (F := Ideal) x0 x1 x2 x7 x8 (ix3 g p j) := by
  pointwise [val_main_v160]

end Cert.PrepRefIdeal.Val

end
-- ==== Proof.PrepValue.lean ====
/- The gradient of the discretisation: what the call computes is what the chain rule writes. -/
module

public import proofs.«01_k».proof.Proof.Gen.PrepIdeal.Value
public import proofs.«01_k».proof.Proof.PrepRefVal
public import proofs.«01_k».proof.Proof.LossRefVal
public import proofs.«01_k».proof.Proof.Real
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.PrepIdeal.Arr
open Cert.PrepIdeal Cert.PrepIdeal.Gen
open Cert.Fin Cert.Disc

section Pay
variable (x0 x1 : FVec Ideal S64x128 .f32) (x2 : FVec Ideal S1x128 .f32) (x3 x4 : FVec Ideal S64x16x128 .f32)
  (x5 x6 : FVec Ideal S64x128 .f32) (x7 x8 : FVec Ideal S64x16x128 .f32)
variable (A I : Fin 128 → Fin 64 → ℝ) (T : Fin 128 → ℝ) (b c : Fin 128 → Fin 64 → Fin 16 → ℝ) (L K : Fin 128 → Fin 64 → ℝ)
  (B C : Fin 128 → Fin 64 → Fin 16 → ℝ)
variable (h0 : ∀ p g, x0 (ix2 p g) = (A g p : EReal)) (h1 : ∀ p g, x1 (ix2 p g) = (I g p : EReal))
  (h2 : ∀ g, x2 (ix2 0 g) = (T g : EReal))
  (h3 : ∀ p j g, x3 (ix3 p j g) = (b g p j : EReal)) (h4 : ∀ p j g, x4 (ix3 p j g) = (c g p j : EReal))
  (h5 : ∀ p g, x5 (ix2 p g) = (L g p : EReal)) (h6 : ∀ p g, x6 (ix2 p g) = (K g p : EReal))
  (h7 : ∀ p j g, x7 (ix3 p j g) = (B g p j : EReal)) (h8 : ∀ p j g, x8 (ix3 p j g) = (C g p j : EReal))
  (hn : ∀ g p, nn (A g p) (I g p) ≠ 0)
include h0 h1 h2 h3 h4 h5 h6 h7 h8 hn

theorem q6 (g : Fin 128) : k0_pay6 (F := Ideal) x2 (ix2 0 g) = ((Real.exp (T g) : ℝ) : EReal) := by
  pointwise [k0_pay6]
  simp only [h0, h1, h2, h3, h4, h5, h6, h7, h8, Fin.sum_univ_one, zero_add, Cert.Lh.lit_two]
  simp (disch := first | exact hn _ _ | exact mul_ne_zero (hn _ _) (hn _ _)) only [← EReal.coe_zero, ← EReal.coe_one, ← EReal.coe_mul, ← EReal.coe_add, ← EReal.coe_neg, sub_coe, div_coe, exp_coe, cos_coe, sin_coe, sum_coe]

theorem q4 (p : Fin 64) (g : Fin 128) : k0_pay4 (F := Ideal) x0 (ix2 p g) = ((A g p : ℝ) : EReal) := by
  pointwise [k0_pay4]
  exact h0 _ _

theorem q5 (p : Fin 64) (g : Fin 128) : k0_pay5 (F := Ideal) x1 (ix2 p g) = ((I g p : ℝ) : EReal) := by
  pointwise [k0_pay5]
  exact h1 _ _

theorem q17 (p : Fin 64) (j : Fin 16) (g : Fin 128) : k0_pay17 (F := Ideal) x3 (ix3 p j g) = ((b g p j : ℝ) : EReal) := by
  pointwise [k0_pay17]
  exact h3 _ _ _

theorem q18 (p : Fin 64) (j : Fin 16) (g : Fin 128) : k0_pay18 (F := Ideal) x4 (ix3 p j g) = ((c g p j : ℝ) : EReal) := by
  pointwise [k0_pay18]
  exact h4 _ _ _

theorem q19 (p : Fin 64) (j : Fin 16) (g : Fin 128) : k0_pay19 (F := Ideal) x7 (ix3 p j g) = ((B g p j : ℝ) : EReal) := by
  pointwise [k0_pay19]
  exact h7 _ _ _

theorem q20 (p : Fin 64) (j : Fin 16) (g : Fin 128) : k0_pay20 (F := Ideal) x8 (ix3 p j g) = ((C g p j : ℝ) : EReal) := by
  pointwise [k0_pay20]
  exact h8 _ _ _

theorem q9 (p : Fin 64) (g : Fin 128) : k0_pay9 (F := Ideal) x0 x1 x2 (ix2 p g) = ((gr (A g p) (Real.exp (T g)) * Real.cos (I g p * Real.exp (T g)) : ℝ) : EReal) := by
  pointwise [k0_pay9, k0_pay8, k0_pay7]
  simp only [q4 x0 x1 x2 x3 x4 x5 x6 x7 x8 A I T b c L K B C h0 h1 h2 h3 h4 h5 h6 h7 h8 hn, q5 x0 x1 x2 x3 x4 x5 x6 x7 x8 A I T b c L K B C h0 h1 h2 h3 h4 h5 h6 h7 h8 hn, q6 x0 x1 x2 x3 x4 x5 x6 x7 x8 A I T b c L K B C h0 h1 h2 h3 h4 h5 h6 h7 h8 hn, h0, h1, h2, h3, h4, h5, h6, h7, h8, Fin.sum_univ_one, zero_add, Cert.Lh.lit_two]
  simp (disch := first | exact hn _ _ | exact mul_ne_zero (hn _ _) (hn _ _)) only [← EReal.coe_zero, ← EReal.coe_one, ← EReal.coe_mul, ← EReal.coe_add, ← EReal.coe_neg, sub_coe, div_coe, exp_coe, cos_coe, sin_coe, sum_coe]
  exact congrArg Real.toEReal (by rfl)

theorem q10 (p : Fin 64) (g : Fin 128) : k0_pay10 (F := Ideal) x0 x1 x2 (ix2 p g) = ((ni (A g p) (I g p) (Real.exp (T g)) : ℝ) : EReal) := by
  pointwise [k0_pay10, k0_pay8, k0_pay7]
  simp only [q4 x0 x1 x2 x3 x4 x5 x6 x7 x8 A I T b c L K B C h0 h1 h2 h3 h4 h5 h6 h7 h8 hn, q5 x0 x1 x2 x3 x4 x5 x6 x7 x8 A I T b c L K B C h0 h1 h2 h3 h4 h5 h6 h7 h8 hn, q6 x0 x1 x2 x3 x4 x5 x6 x7 x8 A I T b c L K B C h0 h1 h2 h3 h4 h5 h6 h7 h8 hn, h0, h1, h2, h3, h4, h5, h6, h7, h8, Fin.sum_univ_one, zero_add, Cert.Lh.lit_two]
  simp (disch := first | exact hn _ _ | exact mul_ne_zero (hn _ _) (hn _ _)) only [← EReal.coe_zero, ← EReal.coe_one, ← EReal.coe_mul, ← EReal.coe_add, ← EReal.coe_neg, sub_coe, div_coe, exp_coe, cos_coe, sin_coe, sum_coe]
  exact congrArg Real.toEReal (by rfl)

theorem q11 (p : Fin 64) (g : Fin 128) : k0_pay11 (F := Ideal) x0 x1 (ix2 p g) = ((nn (A g p) (I g p) : ℝ) : EReal) := by
  pointwise [k0_pay11]
  simp only [q4 x0 x1 x2 x3 x4 x5 x6 x7 x8 A I T b c L K B C h0 h1 h2 h3 h4 h5 h6 h7 h8 hn, q5 x0 x1 x2 x3 x4 x5 x6 x7 x8 A I T b c L K B C h0 h1 h2 h3 h4 h5 h6 h7 h8 hn, h0, h1, h2, h3, h4, h5, h6, h7, h8, Fin.sum_univ_one, zero_add, Cert.Lh.lit_two]
  simp (disch := first | exact hn _ _ | exact mul_ne_zero (hn _ _) (hn _ _)) only [← EReal.coe_zero, ← EReal.coe_one, ← EReal.coe_mul, ← EReal.coe_add, ← EReal.coe_neg, sub_coe, div_coe, exp_coe, cos_coe, sin_coe, sum_coe]
  exact congrArg Real.toEReal (by rfl)

theorem q12 (p : Fin 64) (g : Fin 128) : k0_pay12 (F := Ideal) x0 x1 x2 (ix2 p g) = ((nr (A g p) (I g p) (Real.exp (T g)) : ℝ) : EReal) := by
  pointwise [k0_pay12]
  simp only [q9 x0 x1 x2 x3 x4 x5 x6 x7 x8 A I T b c L K B C h0 h1 h2 h3 h4 h5 h6 h7 h8 hn, h0, h1, h2, h3, h4, h5, h6, h7, h8, Fin.sum_univ_one, zero_add, Cert.Lh.lit_two]
  simp (disch := first | exact hn _ _ | exact mul_ne_zero (hn _ _) (hn _ _)) only [← EReal.coe_zero, ← EReal.coe_one, ← EReal.coe_mul, ← EReal.coe_add, ← EReal.coe_neg, sub_coe, div_coe, exp_coe, cos_coe, sin_coe, sum_coe]
  exact congrArg Real.toEReal (by rfl)

theorem q13 (p : Fin 64) (g : Fin 128) : k0_pay13 (F := Ideal) x0 x1 x2 (ix2 p g) = ((pr (A g p) (I g p) (Real.exp (T g)) : ℝ) : EReal) := by
  pointwise [k0_pay13]
  simp only [q12 x0 x1 x2 x3 x4 x5 x6 x7 x8 A I T b c L K B C h0 h1 h2 h3 h4 h5 h6 h7 h8 hn, q10 x0 x1 x2 x3 x4 x5 x6 x7 x8 A I T b c L K B C h0 h1 h2 h3 h4 h5 h6 h7 h8 hn, q4 x0 x1 x2 x3 x4 x5 x6 x7 x8 A I T b c L K B C h0 h1 h2 h3 h4 h5 h6 h7 h8 hn, q5 x0 x1 x2 x3 x4 x5 x6 x7 x8 A I T b c L K B C h0 h1 h2 h3 h4 h5 h6 h7 h8 hn, h0, h1, h2, h3, h4, h5, h6, h7, h8, Fin.sum_univ_one, zero_add, Cert.Lh.lit_two]
  simp (disch := first | exact hn _ _ | exact mul_ne_zero (hn _ _) (hn _ _)) only [← EReal.coe_zero, ← EReal.coe_one, ← EReal.coe_mul, ← EReal.coe_add, ← EReal.coe_neg, sub_coe, div_coe, exp_coe, cos_coe, sin_coe, sum_coe]
  exact congrArg Real.toEReal (by rfl)

theorem q14 (p : Fin 64) (g : Fin 128) : k0_pay14 (F := Ideal) x0 x1 x2 (ix2 p g) = ((pi (A g p) (I g p) (Real.exp (T g)) : ℝ) : EReal) := by
  pointwise [k0_pay14]
  simp only [q12 x0 x1 x2 x3 x4 x5 x6 x7 x8 A I T b c L K B C h0 h1 h2 h3 h4 h5 h6 h7 h8 hn, q10 x0 x1 x2 x3 x4 x5 x6 x7 x8 A I T b c L K B C h0 h1 h2 h3 h4 h5 h6 h7 h8 hn, q4 x0 x1 x2 x3 x4 x5 x6 x7 x8 A I T b c L K B C h0 h1 h2 h3 h4 h5 h6 h7 h8 hn, q5 x0 x1 x2 x3 x4 x5 x6 x7 x8 A I T b c L K B C h0 h1 h2 h3 h4 h5 h6 h7 h8 hn, h0, h1, h2, h3, h4, h5, h6, h7, h8, Fin.sum_univ_one, zero_add, Cert.Lh.lit_two]
  simp (disch := first | exact hn _ _ | exact mul_ne_zero (hn _ _) (hn _ _)) only [← EReal.coe_zero, ← EReal.coe_one, ← EReal.coe_mul, ← EReal.coe_add, ← EReal.coe_neg, sub_coe, div_coe, exp_coe, cos_coe, sin_coe, sum_coe]
  exact congrArg Real.toEReal (by rfl)

theorem q15 (p : Fin 64) (g : Fin 128) : k0_pay15 (F := Ideal) x0 x1 x2 (ix3 p 0 g) = ((pr (A g p) (I g p) (Real.exp (T g)) / nn (A g p) (I g p) : ℝ) : EReal) := by
  pointwise [k0_pay15]
  simp only [q13 x0 x1 x2 x3 x4 x5 x6 x7 x8 A I T b c L K B C h0 h1 h2 h3 h4 h5 h6 h7 h8 hn, q11 x0 x1 x2 x3 x4 x5 x6 x7 x8 A I T b c L K B C h0 h1 h2 h3 h4 h5 h6 h7 h8 hn, h0, h1, h2, h3, h4, h5, h6, h7, h8, Fin.sum_univ_one, zero_add, Cert.Lh.lit_two]
  simp (disch := first | exact hn _ _ | exact mul_ne_zero (hn _ _) (hn _ _)) only [← EReal.coe_zero, ← EReal.coe_one, ← EReal.coe_mul, ← EReal.coe_add, ← EReal.coe_neg, sub_coe, div_coe, exp_coe, cos_coe, sin_coe, sum_coe]

theorem q16 (p : Fin 64) (g : Fin 128) : k0_pay16 (F := Ideal) x0 x1 x2 (ix3 p 0 g) = ((pi (A g p) (I g p) (Real.exp (T g)) / nn (A g p) (I g p) : ℝ) : EReal) := by
  pointwise [k0_pay16]
  simp only [q14 x0 x1 x2 x3 x4 x5 x6 x7 x8 A I T b c L K B C h0 h1 h2 h3 h4 h5 h6 h7 h8 hn, q11 x0 x1 x2 x3 x4 x5 x6 x7 x8 A I T b c L K B C h0 h1 h2 h3 h4 h5 h6 h7 h8 hn, h0, h1, h2, h3, h4, h5, h6, h7, h8, Fin.sum_univ_one, zero_add, Cert.Lh.lit_two]
  simp (disch := first | exact hn _ _ | exact mul_ne_zero (hn _ _) (hn _ _)) only [← EReal.coe_zero, ← EReal.coe_one, ← EReal.coe_mul, ← EReal.coe_add, ← EReal.coe_neg, sub_coe, div_coe, exp_coe, cos_coe, sin_coe, sum_coe]

theorem q25 (p : Fin 64) (g : Fin 128) : k0_pay25 (F := Ideal) (k0_pay17 x3) (k0_pay18 x4) (k0_pay19 x7) (k0_pay20 x8) (ix2 p g) = (((su (b g p) (c g p) (B g p) (C g p)) : ℝ) : EReal) := by
  pointwise [k0_pay25]
  simp only [q17 x0 x1 x2 x3 x4 x5 x6 x7 x8 A I T b c L K B C h0 h1 h2 h3 h4 h5 h6 h7 h8 hn, q18 x0 x1 x2 x3 x4 x5 x6 x7 x8 A I T b c L K B C h0 h1 h2 h3 h4 h5 h6 h7 h8 hn, q19 x0 x1 x2 x3 x4 x5 x6 x7 x8 A I T b c L K B C h0 h1 h2 h3 h4 h5 h6 h7 h8 hn, q20 x0 x1 x2 x3 x4 x5 x6 x7 x8 A I T b c L K B C h0 h1 h2 h3 h4 h5 h6 h7 h8 hn, h0, h1, h2, h3, h4, h5, h6, h7, h8, Fin.sum_univ_one, zero_add, Cert.Lh.lit_two]
  simp (disch := first | exact hn _ _ | exact mul_ne_zero (hn _ _) (hn _ _)) only [← EReal.coe_zero, ← EReal.coe_one, ← EReal.coe_mul, ← EReal.coe_add, ← EReal.coe_neg, sub_coe, div_coe, exp_coe, cos_coe, sin_coe, sum_coe]
  exact congrArg Real.toEReal (by rfl)

theorem q26 (p : Fin 64) (g : Fin 128) : k0_pay26 (F := Ideal) (k0_pay17 x3) (k0_pay18 x4) (k0_pay19 x7) (k0_pay20 x8) (ix2 p g) = (((sv (b g p) (c g p) (B g p) (C g p)) : ℝ) : EReal) := by
  pointwise [k0_pay26]
  simp only [q17 x0 x1 x2 x3 x4 x5 x6 x7 x8 A I T b c L K B C h0 h1 h2 h3 h4 h5 h6 h7 h8 hn, q18 x0 x1 x2 x3 x4 x5 x6 x7 x8 A I T b c L K B C h0 h1 h2 h3 h4 h5 h6 h7 h8 hn, q19 x0 x1 x2 x3 x4 x5 x6 x7 x8 A I T b c L K B C h0 h1 h2 h3 h4 h5 h6 h7 h8 hn, q20 x0 x1 x2 x3 x4 x5 x6 x7 x8 A I T b c L K B C h0 h1 h2 h3 h4 h5 h6 h7 h8 hn, h0, h1, h2, h3, h4, h5, h6, h7, h8, Fin.sum_univ_one, zero_add, Cert.Lh.lit_two]
  simp (disch := first | exact hn _ _ | exact mul_ne_zero (hn _ _) (hn _ _)) only [← EReal.coe_zero, ← EReal.coe_one, ← EReal.coe_mul, ← EReal.coe_add, ← EReal.coe_neg, sub_coe, div_coe, exp_coe, cos_coe, sin_coe, sum_coe]
  exact congrArg Real.toEReal (by rfl)

theorem q27 (p : Fin 64) (g : Fin 128) : k0_pay27 (F := Ideal) (k0_pay11 x0 x1) (k0_pay17 x3) (k0_pay18 x4) (k0_pay19 x7) (k0_pay20 x8) (ix2 p g) = (((su (b g p) (c g p) (B g p) (C g p)) / nn (A g p) (I g p) : ℝ) : EReal) := by
  pointwise [k0_pay27]
  simp only [q25 x0 x1 x2 x3 x4 x5 x6 x7 x8 A I T b c L K B C h0 h1 h2 h3 h4 h5 h6 h7 h8 hn, q11 x0 x1 x2 x3 x4 x5 x6 x7 x8 A I T b c L K B C h0 h1 h2 h3 h4 h5 h6 h7 h8 hn, h0, h1, h2, h3, h4, h5, h6, h7, h8, Fin.sum_univ_one, zero_add, Cert.Lh.lit_two]
  simp (disch := first | exact hn _ _ | exact mul_ne_zero (hn _ _) (hn _ _)) only [← EReal.coe_zero, ← EReal.coe_one, ← EReal.coe_mul, ← EReal.coe_add, ← EReal.coe_neg, sub_coe, div_coe, exp_coe, cos_coe, sin_coe, sum_coe]

theorem q28 (p : Fin 64) (g : Fin 128) : k0_pay28 (F := Ideal) (k0_pay11 x0 x1) (k0_pay17 x3) (k0_pay18 x4) (k0_pay19 x7) (k0_pay20 x8) (ix2 p g) = (((sv (b g p) (c g p) (B g p) (C g p)) / nn (A g p) (I g p) : ℝ) : EReal) := by
  pointwise [k0_pay28]
  simp only [q26 x0 x1 x2 x3 x4 x5 x6 x7 x8 A I T b c L K B C h0 h1 h2 h3 h4 h5 h6 h7 h8 hn, q11 x0 x1 x2 x3 x4 x5 x6 x7 x8 A I T b c L K B C h0 h1 h2 h3 h4 h5 h6 h7 h8 hn, h0, h1, h2, h3, h4, h5, h6, h7, h8, Fin.sum_univ_one, zero_add, Cert.Lh.lit_two]
  simp (disch := first | exact hn _ _ | exact mul_ne_zero (hn _ _) (hn _ _)) only [← EReal.coe_zero, ← EReal.coe_one, ← EReal.coe_mul, ← EReal.coe_add, ← EReal.coe_neg, sub_coe, div_coe, exp_coe, cos_coe, sin_coe, sum_coe]

theorem q29 (p : Fin 64) (g : Fin 128) : k0_pay29 (F := Ideal) (k0_pay11 x0 x1) (k0_pay13 x0 x1 x2) (k0_pay14 x0 x1 x2) (k0_pay17 x3) (k0_pay18 x4) (k0_pay19 x7) (k0_pay20 x8) (ix2 p g) = ((dn (A g p) (I g p) (Real.exp (T g)) (su (b g p) (c g p) (B g p) (C g p)) (sv (b g p) (c g p) (B g p) (C g p)) : ℝ) : EReal) := by
  pointwise [k0_pay29]
  simp only [q25 x0 x1 x2 x3 x4 x5 x6 x7 x8 A I T b c L K B C h0 h1 h2 h3 h4 h5 h6 h7 h8 hn, q26 x0 x1 x2 x3 x4 x5 x6 x7 x8 A I T b c L K B C h0 h1 h2 h3 h4 h5 h6 h7 h8 hn, q13 x0 x1 x2 x3 x4 x5 x6 x7 x8 A I T b c L K B C h0 h1 h2 h3 h4 h5 h6 h7 h8 hn, q14 x0 x1 x2 x3 x4 x5 x6 x7 x8 A I T b c L K B C h0 h1 h2 h3 h4 h5 h6 h7 h8 hn, q11 x0 x1 x2 x3 x4 x5 x6 x7 x8 A I T b c L K B C h0 h1 h2 h3 h4 h5 h6 h7 h8 hn, h0, h1, h2, h3, h4, h5, h6, h7, h8, Fin.sum_univ_one, zero_add, Cert.Lh.lit_two]
  simp (disch := first | exact hn _ _ | exact mul_ne_zero (hn _ _) (hn _ _)) only [← EReal.coe_zero, ← EReal.coe_one, ← EReal.coe_mul, ← EReal.coe_add, ← EReal.coe_neg, sub_coe, div_coe, exp_coe, cos_coe, sin_coe, sum_coe]
  exact congrArg Real.toEReal (by unfold dn; rw [zero_sub])

theorem q30 (p : Fin 64) (g : Fin 128) : k0_pay30 (F := Ideal) (k0_pay4 x0) (k0_pay5 x1) (k0_pay11 x0 x1) (k0_pay17 x3) (k0_pay18 x4) (k0_pay19 x7) (k0_pay20 x8) x5 (ix2 p g) = ((dl (A g p) (I g p) (L g p) (su (b g p) (c g p) (B g p) (C g p)) (sv (b g p) (c g p) (B g p) (C g p)) : ℝ) : EReal) := by
  pointwise [k0_pay30]
  simp only [q27 x0 x1 x2 x3 x4 x5 x6 x7 x8 A I T b c L K B C h0 h1 h2 h3 h4 h5 h6 h7 h8 hn, q28 x0 x1 x2 x3 x4 x5 x6 x7 x8 A I T b c L K B C h0 h1 h2 h3 h4 h5 h6 h7 h8 hn, q4 x0 x1 x2 x3 x4 x5 x6 x7 x8 A I T b c L K B C h0 h1 h2 h3 h4 h5 h6 h7 h8 hn, q5 x0 x1 x2 x3 x4 x5 x6 x7 x8 A I T b c L K B C h0 h1 h2 h3 h4 h5 h6 h7 h8 hn, h0, h1, h2, h3, h4, h5, h6, h7, h8, Fin.sum_univ_one, zero_add, Cert.Lh.lit_two]
  simp (disch := first | exact hn _ _ | exact mul_ne_zero (hn _ _) (hn _ _)) only [← EReal.coe_zero, ← EReal.coe_one, ← EReal.coe_mul, ← EReal.coe_add, ← EReal.coe_neg, sub_coe, div_coe, exp_coe, cos_coe, sin_coe, sum_coe]
  exact congrArg Real.toEReal (by rfl)

theorem q31 (p : Fin 64) (g : Fin 128) : k0_pay31 (F := Ideal) (k0_pay4 x0) (k0_pay5 x1) (k0_pay11 x0 x1) (k0_pay17 x3) (k0_pay18 x4) (k0_pay19 x7) (k0_pay20 x8) x6 (ix2 p g) = ((dk (A g p) (I g p) (K g p) (su (b g p) (c g p) (B g p) (C g p)) (sv (b g p) (c g p) (B g p) (C g p)) : ℝ) : EReal) := by
  pointwise [k0_pay31]
  simp only [q27 x0 x1 x2 x3 x4 x5 x6 x7 x8 A I T b c L K B C h0 h1 h2 h3 h4 h5 h6 h7 h8 hn, q28 x0 x1 x2 x3 x4 x5 x6 x7 x8 A I T b c L K B C h0 h1 h2 h3 h4 h5 h6 h7 h8 hn, q4 x0 x1 x2 x3 x4 x5 x6 x7 x8 A I T b c L K B C h0 h1 h2 h3 h4 h5 h6 h7 h8 hn, q5 x0 x1 x2 x3 x4 x5 x6 x7 x8 A I T b c L K B C h0 h1 h2 h3 h4 h5 h6 h7 h8 hn, h0, h1, h2, h3, h4, h5, h6, h7, h8, Fin.sum_univ_one, zero_add, Cert.Lh.lit_two]
  simp (disch := first | exact hn _ _ | exact mul_ne_zero (hn _ _) (hn _ _)) only [← EReal.coe_zero, ← EReal.coe_one, ← EReal.coe_mul, ← EReal.coe_add, ← EReal.coe_neg, sub_coe, div_coe, exp_coe, cos_coe, sin_coe, sum_coe]
  exact congrArg Real.toEReal (by rfl)

theorem q32 (p : Fin 64) (g : Fin 128) : k0_pay32 (F := Ideal) (k0_pay4 x0) (k0_pay5 x1) (k0_pay9 x0 x1 x2) (k0_pay10 x0 x1 x2) (k0_pay11 x0 x1) (k0_pay17 x3) (k0_pay18 x4) (k0_pay19 x7) (k0_pay20 x8) x5 x6 (ix2 p g) = ((dx (A g p) (I g p) (Real.exp (T g)) (L g p) (K g p) (su (b g p) (c g p) (B g p) (C g p)) (sv (b g p) (c g p) (B g p) (C g p)) : ℝ) : EReal) := by
  pointwise [k0_pay32]
  simp only [q30 x0 x1 x2 x3 x4 x5 x6 x7 x8 A I T b c L K B C h0 h1 h2 h3 h4 h5 h6 h7 h8 hn, q31 x0 x1 x2 x3 x4 x5 x6 x7 x8 A I T b c L K B C h0 h1 h2 h3 h4 h5 h6 h7 h8 hn, q9 x0 x1 x2 x3 x4 x5 x6 x7 x8 A I T b c L K B C h0 h1 h2 h3 h4 h5 h6 h7 h8 hn, q10 x0 x1 x2 x3 x4 x5 x6 x7 x8 A I T b c L K B C h0 h1 h2 h3 h4 h5 h6 h7 h8 hn, h0, h1, h2, h3, h4, h5, h6, h7, h8, Fin.sum_univ_one, zero_add, Cert.Lh.lit_two]
  simp (disch := first | exact hn _ _ | exact mul_ne_zero (hn _ _) (hn _ _)) only [← EReal.coe_zero, ← EReal.coe_one, ← EReal.coe_mul, ← EReal.coe_add, ← EReal.coe_neg, sub_coe, div_coe, exp_coe, cos_coe, sin_coe, sum_coe]
  exact congrArg Real.toEReal (by rfl)

theorem q33 (p : Fin 64) (g : Fin 128) : k0_pay33 (F := Ideal) (k0_pay4 x0) (k0_pay5 x1) (k0_pay9 x0 x1 x2) (k0_pay10 x0 x1 x2) (k0_pay11 x0 x1) (k0_pay17 x3) (k0_pay18 x4) (k0_pay19 x7) (k0_pay20 x8) x5 x6 (ix2 p g) = ((dy (A g p) (I g p) (Real.exp (T g)) (L g p) (K g p) (su (b g p) (c g p) (B g p) (C g p)) (sv (b g p) (c g p) (B g p) (C g p)) : ℝ) : EReal) := by
  pointwise [k0_pay33]
  simp only [q30 x0 x1 x2 x3 x4 x5 x6 x7 x8 A I T b c L K B C h0 h1 h2 h3 h4 h5 h6 h7 h8 hn, q31 x0 x1 x2 x3 x4 x5 x6 x7 x8 A I T b c L K B C h0 h1 h2 h3 h4 h5 h6 h7 h8 hn, q9 x0 x1 x2 x3 x4 x5 x6 x7 x8 A I T b c L K B C h0 h1 h2 h3 h4 h5 h6 h7 h8 hn, q10 x0 x1 x2 x3 x4 x5 x6 x7 x8 A I T b c L K B C h0 h1 h2 h3 h4 h5 h6 h7 h8 hn, h0, h1, h2, h3, h4, h5, h6, h7, h8, Fin.sum_univ_one, zero_add, Cert.Lh.lit_two]
  simp (disch := first | exact hn _ _ | exact mul_ne_zero (hn _ _) (hn _ _)) only [← EReal.coe_zero, ← EReal.coe_one, ← EReal.coe_mul, ← EReal.coe_add, ← EReal.coe_neg, sub_coe, div_coe, exp_coe, cos_coe, sin_coe, sum_coe]
  exact congrArg Real.toEReal (by rfl)

theorem q34 (p : Fin 64) (g : Fin 128) : k0_pay34 (F := Ideal) (k0_pay11 x0 x1) (k0_pay12 x0 x1 x2) (k0_pay17 x3) (k0_pay18 x4) (k0_pay19 x7) (k0_pay20 x8) (ix2 p g) = (((su (b g p) (c g p) (B g p) (C g p)) / nn (A g p) (I g p) * nr (A g p) (I g p) (Real.exp (T g)) : ℝ) : EReal) := by
  pointwise [k0_pay34]
  simp only [q27 x0 x1 x2 x3 x4 x5 x6 x7 x8 A I T b c L K B C h0 h1 h2 h3 h4 h5 h6 h7 h8 hn, q12 x0 x1 x2 x3 x4 x5 x6 x7 x8 A I T b c L K B C h0 h1 h2 h3 h4 h5 h6 h7 h8 hn, h0, h1, h2, h3, h4, h5, h6, h7, h8, Fin.sum_univ_one, zero_add, Cert.Lh.lit_two]
  simp (disch := first | exact hn _ _ | exact mul_ne_zero (hn _ _) (hn _ _)) only [← EReal.coe_zero, ← EReal.coe_one, ← EReal.coe_mul, ← EReal.coe_add, ← EReal.coe_neg, sub_coe, div_coe, exp_coe, cos_coe, sin_coe, sum_coe]

theorem q1 (p : Fin 64) (g : Fin 128) : k0_pay1 (F := Ideal) (k0_pay4 x0) (k0_pay6 x2) (k0_pay10 x0 x1 x2) (k0_pay28 (k0_pay11 x0 x1) (k0_pay17 x3) (k0_pay18 x4) (k0_pay19 x7) (k0_pay20 x8)) (k0_pay29 (k0_pay11 x0 x1) (k0_pay13 x0 x1 x2) (k0_pay14 x0 x1 x2) (k0_pay17 x3) (k0_pay18 x4) (k0_pay19 x7) (k0_pay20 x8)) (k0_pay32 (k0_pay4 x0) (k0_pay5 x1) (k0_pay9 x0 x1 x2) (k0_pay10 x0 x1 x2) (k0_pay11 x0 x1) (k0_pay17 x3) (k0_pay18 x4) (k0_pay19 x7) (k0_pay20 x8) x5 x6) (k0_pay34 (k0_pay11 x0 x1) (k0_pay12 x0 x1 x2) (k0_pay17 x3) (k0_pay18 x4) (k0_pay19 x7) (k0_pay20 x8)) (ix2 p g) = ((da (A g p) (I g p) (Real.exp (T g)) (L g p) (K g p) (su (b g p) (c g p) (B g p) (C g p)) (sv (b g p) (c g p) (B g p) (C g p)) : ℝ) : EReal) := by
  pointwise [k0_pay1]
  simp only [q4 x0 x1 x2 x3 x4 x5 x6 x7 x8 A I T b c L K B C h0 h1 h2 h3 h4 h5 h6 h7 h8 hn, q6 x0 x1 x2 x3 x4 x5 x6 x7 x8 A I T b c L K B C h0 h1 h2 h3 h4 h5 h6 h7 h8 hn, q10 x0 x1 x2 x3 x4 x5 x6 x7 x8 A I T b c L K B C h0 h1 h2 h3 h4 h5 h6 h7 h8 hn, q28 x0 x1 x2 x3 x4 x5 x6 x7 x8 A I T b c L K B C h0 h1 h2 h3 h4 h5 h6 h7 h8 hn, q29 x0 x1 x2 x3 x4 x5 x6 x7 x8 A I T b c L K B C h0 h1 h2 h3 h4 h5 h6 h7 h8 hn, q32 x0 x1 x2 x3 x4 x5 x6 x7 x8 A I T b c L K B C h0 h1 h2 h3 h4 h5 h6 h7 h8 hn, q34 x0 x1 x2 x3 x4 x5 x6 x7 x8 A I T b c L K B C h0 h1 h2 h3 h4 h5 h6 h7 h8 hn, h0, h1, h2, h3, h4, h5, h6, h7, h8, Fin.sum_univ_one, zero_add, Cert.Lh.lit_two]
  simp (disch := first | exact hn _ _ | exact mul_ne_zero (hn _ _) (hn _ _)) only [← EReal.coe_zero, ← EReal.coe_one, ← EReal.coe_mul, ← EReal.coe_add, ← EReal.coe_neg, sub_coe, div_coe, exp_coe, cos_coe, sin_coe, sum_coe]
  exact congrArg Real.toEReal (by rfl)

theorem q2 (p : Fin 64) (g : Fin 128) : k0_pay2 (F := Ideal) (k0_pay5 x1) (k0_pay6 x2) (k0_pay10 x0 x1 x2) (k0_pay12 x0 x1 x2) (k0_pay27 (k0_pay11 x0 x1) (k0_pay17 x3) (k0_pay18 x4) (k0_pay19 x7) (k0_pay20 x8)) (k0_pay28 (k0_pay11 x0 x1) (k0_pay17 x3) (k0_pay18 x4) (k0_pay19 x7) (k0_pay20 x8)) (k0_pay29 (k0_pay11 x0 x1) (k0_pay13 x0 x1 x2) (k0_pay14 x0 x1 x2) (k0_pay17 x3) (k0_pay18 x4) (k0_pay19 x7) (k0_pay20 x8)) (k0_pay33 (k0_pay4 x0) (k0_pay5 x1) (k0_pay9 x0 x1 x2) (k0_pay10 x0 x1 x2) (k0_pay11 x0 x1) (k0_pay17 x3) (k0_pay18 x4) (k0_pay19 x7) (k0_pay20 x8) x5 x6) (ix2 p g) = ((di (A g p) (I g p) (Real.exp (T g)) (L g p) (K g p) (su (b g p) (c g p) (B g p) (C g p)) (sv (b g p) (c g p) (B g p) (C g p)) : ℝ) : EReal) := by
  pointwise [k0_pay2]
  simp only [q5 x0 x1 x2 x3 x4 x5 x6 x7 x8 A I T b c L K B C h0 h1 h2 h3 h4 h5 h6 h7 h8 hn, q6 x0 x1 x2 x3 x4 x5 x6 x7 x8 A I T b c L K B C h0 h1 h2 h3 h4 h5 h6 h7 h8 hn, q10 x0 x1 x2 x3 x4 x5 x6 x7 x8 A I T b c L K B C h0 h1 h2 h3 h4 h5 h6 h7 h8 hn, q12 x0 x1 x2 x3 x4 x5 x6 x7 x8 A I T b c L K B C h0 h1 h2 h3 h4 h5 h6 h7 h8 hn, q27 x0 x1 x2 x3 x4 x5 x6 x7 x8 A I T b c L K B C h0 h1 h2 h3 h4 h5 h6 h7 h8 hn, q28 x0 x1 x2 x3 x4 x5 x6 x7 x8 A I T b c L K B C h0 h1 h2 h3 h4 h5 h6 h7 h8 hn, q29 x0 x1 x2 x3 x4 x5 x6 x7 x8 A I T b c L K B C h0 h1 h2 h3 h4 h5 h6 h7 h8 hn, q33 x0 x1 x2 x3 x4 x5 x6 x7 x8 A I T b c L K B C h0 h1 h2 h3 h4 h5 h6 h7 h8 hn, h0, h1, h2, h3, h4, h5, h6, h7, h8, Fin.sum_univ_one, zero_add, Cert.Lh.lit_two]
  simp (disch := first | exact hn _ _ | exact mul_ne_zero (hn _ _) (hn _ _)) only [← EReal.coe_zero, ← EReal.coe_one, ← EReal.coe_mul, ← EReal.coe_add, ← EReal.coe_neg, sub_coe, div_coe, exp_coe, cos_coe, sin_coe, sum_coe]
  exact congrArg Real.toEReal (by rfl)

theorem q3 (g : Fin 128) : k0_pay3 (F := Ideal) (k0_pay4 x0) (k0_pay5 x1) (k0_pay6 x2) (k0_pay32 (k0_pay4 x0) (k0_pay5 x1) (k0_pay9 x0 x1 x2) (k0_pay10 x0 x1 x2) (k0_pay11 x0 x1) (k0_pay17 x3) (k0_pay18 x4) (k0_pay19 x7) (k0_pay20 x8) x5 x6) (k0_pay33 (k0_pay4 x0) (k0_pay5 x1) (k0_pay9 x0 x1 x2) (k0_pay10 x0 x1 x2) (k0_pay11 x0 x1) (k0_pay17 x3) (k0_pay18 x4) (k0_pay19 x7) (k0_pay20 x8) x5 x6) (ix2 0 g) = (((∑ p, dt (A g p) (I g p) (Real.exp (T g)) (L g p) (K g p) (su (b g p) (c g p) (B g p) (C g p)) (sv (b g p) (c g p) (B g p) (C g p))) * (Real.exp (T g)) : ℝ) : EReal) := by
  pointwise [k0_pay3]
  simp only [q4 x0 x1 x2 x3 x4 x5 x6 x7 x8 A I T b c L K B C h0 h1 h2 h3 h4 h5 h6 h7 h8 hn, q5 x0 x1 x2 x3 x4 x5 x6 x7 x8 A I T b c L K B C h0 h1 h2 h3 h4 h5 h6 h7 h8 hn, q6 x0 x1 x2 x3 x4 x5 x6 x7 x8 A I T b c L K B C h0 h1 h2 h3 h4 h5 h6 h7 h8 hn, q32 x0 x1 x2 x3 x4 x5 x6 x7 x8 A I T b c L K B C h0 h1 h2 h3 h4 h5 h6 h7 h8 hn, q33 x0 x1 x2 x3 x4 x5 x6 x7 x8 A I T b c L K B C h0 h1 h2 h3 h4 h5 h6 h7 h8 hn, h0, h1, h2, h3, h4, h5, h6, h7, h8, Fin.sum_univ_one, zero_add, Cert.Lh.lit_two]
  simp (disch := first | exact hn _ _ | exact mul_ne_zero (hn _ _) (hn _ _)) only [← EReal.coe_zero, ← EReal.coe_one, ← EReal.coe_mul, ← EReal.coe_add, ← EReal.coe_neg, sub_coe, div_coe, exp_coe, cos_coe, sin_coe, sum_coe]
  exact congrArg Real.toEReal (by rfl)

theorem q23 (p : Fin 64) (j : Fin 16) (g : Fin 128) : k0_pay23 (F := Ideal) (k0_pay20 x8) (k0_pay21 x0 x1 x2 x7) (k0_pay22 x0 x1 x2) (ix3 p j g) = ((pr (A g p) (I g p) (Real.exp (T g)) / nn (A g p) (I g p) * B g p j + pi (A g p) (I g p) (Real.exp (T g)) / nn (A g p) (I g p) * C g p j : ℝ) : EReal) := by
  pointwise [k0_pay23, k0_pay21, k0_pay22]
  simp only [q15 x0 x1 x2 x3 x4 x5 x6 x7 x8 A I T b c L K B C h0 h1 h2 h3 h4 h5 h6 h7 h8 hn, q16 x0 x1 x2 x3 x4 x5 x6 x7 x8 A I T b c L K B C h0 h1 h2 h3 h4 h5 h6 h7 h8 hn, q19 x0 x1 x2 x3 x4 x5 x6 x7 x8 A I T b c L K B C h0 h1 h2 h3 h4 h5 h6 h7 h8 hn, q20 x0 x1 x2 x3 x4 x5 x6 x7 x8 A I T b c L K B C h0 h1 h2 h3 h4 h5 h6 h7 h8 hn, h0, h1, h2, h3, h4, h5, h6, h7, h8, Fin.sum_univ_one, zero_add, Cert.Lh.lit_two]
  simp (disch := first | exact hn _ _ | exact mul_ne_zero (hn _ _) (hn _ _)) only [← EReal.coe_zero, ← EReal.coe_one, ← EReal.coe_mul, ← EReal.coe_add, ← EReal.coe_neg, sub_coe, div_coe, exp_coe, cos_coe, sin_coe, sum_coe]

theorem q24 (p : Fin 64) (j : Fin 16) (g : Fin 128) : k0_pay24 (F := Ideal) (k0_pay15 x0 x1 x2) (k0_pay16 x0 x1 x2) (k0_pay19 x7) (k0_pay20 x8) (ix3 p j g) = ((pr (A g p) (I g p) (Real.exp (T g)) / nn (A g p) (I g p) * C g p j - pi (A g p) (I g p) (Real.exp (T g)) / nn (A g p) (I g p) * B g p j : ℝ) : EReal) := by
  pointwise [k0_pay24]
  simp only [q15 x0 x1 x2 x3 x4 x5 x6 x7 x8 A I T b c L K B C h0 h1 h2 h3 h4 h5 h6 h7 h8 hn, q16 x0 x1 x2 x3 x4 x5 x6 x7 x8 A I T b c L K B C h0 h1 h2 h3 h4 h5 h6 h7 h8 hn, q19 x0 x1 x2 x3 x4 x5 x6 x7 x8 A I T b c L K B C h0 h1 h2 h3 h4 h5 h6 h7 h8 hn, q20 x0 x1 x2 x3 x4 x5 x6 x7 x8 A I T b c L K B C h0 h1 h2 h3 h4 h5 h6 h7 h8 hn, h0, h1, h2, h3, h4, h5, h6, h7, h8, Fin.sum_univ_one, zero_add, Cert.Lh.lit_two]
  simp (disch := first | exact hn _ _ | exact mul_ne_zero (hn _ _) (hn _ _)) only [← EReal.coe_zero, ← EReal.coe_one, ← EReal.coe_mul, ← EReal.coe_add, ← EReal.coe_neg, sub_coe, div_coe, exp_coe, cos_coe, sin_coe, sum_coe]

end Pay

variable (m : (ℓ : Loc nD τ sig) → Buf (Elt Ideal) ℓ)

abbrev a0 (c : Dev nD) : FVec Ideal S1x128x64 .f32 := m ((c : Thread nD τ).loc main_arg0)
abbrev a1 (c : Dev nD) : FVec Ideal S1x128x64 .f32 := m ((c : Thread nD τ).loc main_arg1)
abbrev a2 (c : Dev nD) : FVec Ideal S1x128 .f32 := m ((c : Thread nD τ).loc main_arg2)
abbrev a3 (c : Dev nD) : FVec Ideal S1x128x64x16 .f32 := m ((c : Thread nD τ).loc main_arg3)
abbrev a4 (c : Dev nD) : FVec Ideal S1x128x64x16 .f32 := m ((c : Thread nD τ).loc main_arg4)
abbrev a5 (c : Dev nD) : FVec Ideal S128x64 .f32 := m ((c : Thread nD τ).loc main_arg5)
abbrev a6 (c : Dev nD) : FVec Ideal S128x64 .f32 := m ((c : Thread nD τ).loc main_arg6)
abbrev a7 (c : Dev nD) : FVec Ideal S128x64x16 .f32 := m ((c : Thread nD τ).loc main_arg7)
abbrev a8 (c : Dev nD) : FVec Ideal S128x64x16 .f32 := m ((c : Thread nD τ).loc main_arg8)
abbrev ref9 (c : Dev nD) := Cert.PrepRefIdeal.Read.val_main_v156 (F := Ideal) (a0 m c) (a1 m c) (a2 m c) (a3 m c) (a4 m c) (a5 m c) (a6 m c) (a7 m c) (a8 m c)
abbrev ref10 (c : Dev nD) := Cert.PrepRefIdeal.Read.val_main_v157 (F := Ideal) (a0 m c) (a1 m c) (a2 m c) (a3 m c) (a4 m c) (a5 m c) (a6 m c) (a7 m c) (a8 m c)
abbrev ref11 (c : Dev nD) := Cert.PrepRefIdeal.Read.val_main_v158 (F := Ideal) (a0 m c) (a1 m c) (a2 m c) (a3 m c) (a4 m c) (a5 m c) (a6 m c) (a7 m c) (a8 m c)
abbrev ref12 (c : Dev nD) := Cert.PrepRefIdeal.Read.val_main_v159 (F := Ideal) (a0 m c) (a1 m c) (a2 m c) (a7 m c) (a8 m c)
abbrev ref13 (c : Dev nD) := Cert.PrepRefIdeal.Read.val_main_v160 (F := Ideal) (a0 m c) (a1 m c) (a2 m c) (a7 m c) (a8 m c)

theorem idx : ∀ t : Fin cfg0.N, win0_0.index t = ![0, 0] ∧ win0_1.index t = ![0, 0] ∧ win0_2.index t = ![0, 0] ∧ win0_3.index t = ![0, 0, 0]
    ∧ win0_4.index t = ![0, 0, 0] ∧ win0_5.index t = ![0, 0] ∧ win0_6.index t = ![0, 0] ∧ win0_7.index t = ![0, 0, 0] ∧ win0_8.index t = ![0, 0, 0]
    ∧ win0_9.index t = ![0, 0] ∧ win0_10.index t = ![0, 0] ∧ win0_11.index t = ![0, 0] ∧ win0_12.index t = ![0, 0, 0] ∧ win0_13.index t = ![0, 0, 0] :=
  (by decide +kernel : ∀ t : Fin grid0.N, _)

theorem b0 (c : Dev nD) (t : Fin cfg0.N) (p : Fin 64) (g : Fin 128) :
    (show FVec Ideal S64x128 .f32 from iblk m c 0 t) (ix2 p g) = a0 m c (ix3 0 g p) := by
  refine Eq.trans (b := (show FVec Ideal S64x128 .f32 from V m c main_v1) (ix2 p g)) (by blk_point [iblk, idx t]) ?_
  entry_read
  pointwise
theorem b1 (c : Dev nD) (t : Fin cfg0.N) (p : Fin 64) (g : Fin 128) :
    (show FVec Ideal S64x128 .f32 from iblk m c 1 t) (ix2 p g) = a1 m c (ix3 0 g p) := by
  refine Eq.trans (b := (show FVec Ideal S64x128 .f32 from V m c main_v3) (ix2 p g)) (by blk_point [iblk, idx t]) ?_
  entry_read
  pointwise
theorem b2 (c : Dev nD) (t : Fin cfg0.N) (g : Fin 128) :
    (show FVec Ideal S1x128 .f32 from iblk m c 2 t) (ix2 0 g) = a2 m c (ix2 0 g) := by
  blk_ext [iblk, V_main_arg2, idx t]
theorem b3 (c : Dev nD) (t : Fin cfg0.N) (p : Fin 64) (j : Fin 16) (g : Fin 128) :
    (show FVec Ideal S64x16x128 .f32 from iblk m c 3 t) (ix3 p j g) = a3 m c (ix4 0 g p j) := by
  refine Eq.trans (b := (show FVec Ideal S64x16x128 .f32 from V m c main_v5) (ix3 p j g)) (by blk_point [iblk, idx t]) ?_
  entry_read
  pointwise
theorem b4 (c : Dev nD) (t : Fin cfg0.N) (p : Fin 64) (j : Fin 16) (g : Fin 128) :
    (show FVec Ideal S64x16x128 .f32 from iblk m c 4 t) (ix3 p j g) = a4 m c (ix4 0 g p j) := by
  refine Eq.trans (b := (show FVec Ideal S64x16x128 .f32 from V m c main_v7) (ix3 p j g)) (by blk_point [iblk, idx t]) ?_
  entry_read
  pointwise
theorem b5 (c : Dev nD) (t : Fin cfg0.N) (p : Fin 64) (g : Fin 128) :
    (show FVec Ideal S64x128 .f32 from iblk m c 5 t) (ix2 p g) = a5 m c (ix2 g p) := by
  refine Eq.trans (b := (show FVec Ideal S64x128 .f32 from V m c main_v8) (ix2 p g)) (by blk_point [iblk, idx t]) ?_
  entry_read
  pointwise
theorem b6 (c : Dev nD) (t : Fin cfg0.N) (p : Fin 64) (g : Fin 128) :
    (show FVec Ideal S64x128 .f32 from iblk m c 6 t) (ix2 p g) = a6 m c (ix2 g p) := by
  refine Eq.trans (b := (show FVec Ideal S64x128 .f32 from V m c main_v9) (ix2 p g)) (by blk_point [iblk, idx t]) ?_
  entry_read
  pointwise
theorem b7 (c : Dev nD) (t : Fin cfg0.N) (p : Fin 64) (j : Fin 16) (g : Fin 128) :
    (show FVec Ideal S64x16x128 .f32 from iblk m c 7 t) (ix3 p j g) = a7 m c (ix3 g p j) := by
  refine Eq.trans (b := (show FVec Ideal S64x16x128 .f32 from V m c main_v10) (ix3 p j g)) (by blk_point [iblk, idx t]) ?_
  entry_read
  pointwise
theorem b8 (c : Dev nD) (t : Fin cfg0.N) (p : Fin 64) (j : Fin 16) (g : Fin 128) :
    (show FVec Ideal S64x16x128 .f32 from iblk m c 8 t) (ix3 p j g) = a8 m c (ix3 g p j) := by
  refine Eq.trans (b := (show FVec Ideal S64x16x128 .f32 from V m c main_v11) (ix3 p j g)) (by blk_point [iblk, idx t]) ?_
  entry_read
  pointwise

variable (A I : Fin 128 → Fin 64 → ℝ) (T : Fin 128 → ℝ) (b e : Fin 128 → Fin 64 → Fin 16 → ℝ) (L K : Fin 128 → Fin 64 → ℝ)
  (B C : Fin 128 → Fin 64 → Fin 16 → ℝ) (c : Dev nD)
variable (h0 : ∀ g p, a0 m c (ix3 0 g p) = (A g p : EReal)) (h1 : ∀ g p, a1 m c (ix3 0 g p) = (I g p : EReal))
  (h2 : ∀ g, a2 m c (ix2 0 g) = (T g : EReal))
  (h3 : ∀ g p j, a3 m c (ix4 0 g p j) = (b g p j : EReal)) (h4 : ∀ g p j, a4 m c (ix4 0 g p j) = (e g p j : EReal))
  (h5 : ∀ g p, a5 m c (ix2 g p) = (L g p : EReal)) (h6 : ∀ g p, a6 m c (ix2 g p) = (K g p : EReal))
  (h7 : ∀ g p j, a7 m c (ix3 g p j) = (B g p j : EReal)) (h8 : ∀ g p j, a8 m c (ix3 g p j) = (C g p j : EReal))
  (hn : ∀ g p, nn (A g p) (I g p) ≠ 0)
include h0 h1 h2 h3 h4 h5 h6 h7 h8 hn

theorem point9 (t : Fin cfg0.N) (p : Fin 64) (g : Fin 128) : k0_pay1 (k0_pay4 (iblk m c 0 t)) (k0_pay6 (iblk m c 2 t)) (k0_pay10 (iblk m c 0 t) (iblk m c 1 t) (iblk m c 2 t)) (k0_pay28 (k0_pay11 (iblk m c 0 t) (iblk m c 1 t)) (k0_pay17 (iblk m c 3 t)) (k0_pay18 (iblk m c 4 t)) (k0_pay19 (iblk m c 7 t)) (k0_pay20 (iblk m c 8 t))) (k0_pay29 (k0_pay11 (iblk m c 0 t) (iblk m c 1 t)) (k0_pay13 (iblk m c 0 t) (iblk m c 1 t) (iblk m c 2 t)) (k0_pay14 (iblk m c 0 t) (iblk m c 1 t) (iblk m c 2 t)) (k0_pay17 (iblk m c 3 t)) (k0_pay18 (iblk m c 4 t)) (k0_pay19 (iblk m c 7 t)) (k0_pay20 (iblk m c 8 t))) (k0_pay32 (k0_pay4 (iblk m c 0 t)) (k0_pay5 (iblk m c 1 t)) (k0_pay9 (iblk m c 0 t) (iblk m c 1 t) (iblk m c 2 t)) (k0_pay10 (iblk m c 0 t) (iblk m c 1 t) (iblk m c 2 t)) (k0_pay11 (iblk m c 0 t) (iblk m c 1 t)) (k0_pay17 (iblk m c 3 t)) (k0_pay18 (iblk m c 4 t)) (k0_pay19 (iblk m c 7 t)) (k0_pay20 (iblk m c 8 t)) (iblk m c 5 t) (iblk m c 6 t)) (k0_pay34 (k0_pay11 (iblk m c 0 t) (iblk m c 1 t)) (k0_pay12 (iblk m c 0 t) (iblk m c 1 t) (iblk m c 2 t)) (k0_pay17 (iblk m c 3 t)) (k0_pay18 (iblk m c 4 t)) (k0_pay19 (iblk m c 7 t)) (k0_pay20 (iblk m c 8 t))) (ix2 p g) = ref9 m c (ix2 p g) :=
  (q1 _ _ _ _ _ _ _ _ _ A I T b e L K B C (fun p g => (b0 m c t p g).trans (h0 g p)) (fun p g => (b1 m c t p g).trans (h1 g p)) (fun g => (b2 m c t g).trans (h2 g)) (fun p j g => (b3 m c t p j g).trans (h3 g p j)) (fun p j g => (b4 m c t p j g).trans (h4 g p j)) (fun p g => (b5 m c t p g).trans (h5 g p)) (fun p g => (b6 m c t p g).trans (h6 g p)) (fun p j g => (b7 m c t p j g).trans (h7 g p j)) (fun p j g => (b8 m c t p j g).trans (h8 g p j)) hn p g).trans
    ((Cert.PrepRefIdeal.Val.q156 (a0 m c) (a1 m c) (a2 m c) (a3 m c) (a4 m c) (a5 m c) (a6 m c) (a7 m c) (a8 m c) p g).trans
      (Cert.PrepRefIdeal.Val.q153 _ _ _ _ _ _ _ _ _ A I T b e L K B C h0 h1 h2 h3 h4 h5 h6 h7 h8 hn g p)).symm

theorem point9' (t : Fin cfg0.N) (y : S64x128.Idx) : k0_pay1 (k0_pay4 (iblk m c 0 t)) (k0_pay6 (iblk m c 2 t)) (k0_pay10 (iblk m c 0 t) (iblk m c 1 t) (iblk m c 2 t)) (k0_pay28 (k0_pay11 (iblk m c 0 t) (iblk m c 1 t)) (k0_pay17 (iblk m c 3 t)) (k0_pay18 (iblk m c 4 t)) (k0_pay19 (iblk m c 7 t)) (k0_pay20 (iblk m c 8 t))) (k0_pay29 (k0_pay11 (iblk m c 0 t) (iblk m c 1 t)) (k0_pay13 (iblk m c 0 t) (iblk m c 1 t) (iblk m c 2 t)) (k0_pay14 (iblk m c 0 t) (iblk m c 1 t) (iblk m c 2 t)) (k0_pay17 (iblk m c 3 t)) (k0_pay18 (iblk m c 4 t)) (k0_pay19 (iblk m c 7 t)) (k0_pay20 (iblk m c 8 t))) (k0_pay32 (k0_pay4 (iblk m c 0 t)) (k0_pay5 (iblk m c 1 t)) (k0_pay9 (iblk m c 0 t) (iblk m c 1 t) (iblk m c 2 t)) (k0_pay10 (iblk m c 0 t) (iblk m c 1 t) (iblk m c 2 t)) (k0_pay11 (iblk m c 0 t) (iblk m c 1 t)) (k0_pay17 (iblk m c 3 t)) (k0_pay18 (iblk m c 4 t)) (k0_pay19 (iblk m c 7 t)) (k0_pay20 (iblk m c 8 t)) (iblk m c 5 t) (iblk m c 6 t)) (k0_pay34 (k0_pay11 (iblk m c 0 t) (iblk m c 1 t)) (k0_pay12 (iblk m c 0 t) (iblk m c 1 t) (iblk m c 2 t)) (k0_pay17 (iblk m c 3 t)) (k0_pay18 (iblk m c 4 t)) (k0_pay19 (iblk m c 7 t)) (k0_pay20 (iblk m c 8 t))) y = ref9 m c (((cfg0.win 9).blk t).view.emb y) := by
  rw [eq_ix2 y]
  refine (point9 m A I T b e L K B C c h0 h1 h2 h3 h4 h5 h6 h7 h8 hn t _ _).trans (congrArg _ ?_)
  blk_ext [idx t]

theorem final9 : (dats m 0 c).arrAt 9 (cfgs 0).N = ref9 m c := by
  refine (dats m 0 c).arrAt_eq_of_covers 9 _ (by decide +kernel) fun t _ y => ?_
  blk_simp
  rw [after0_9]; unfold_out out0_9; frame_out
  exact point9' m A I T b e L K B C c h0 h1 h2 h3 h4 h5 h6 h7 h8 hn t y

theorem point10 (t : Fin cfg0.N) (p : Fin 64) (g : Fin 128) : k0_pay2 (k0_pay5 (iblk m c 1 t)) (k0_pay6 (iblk m c 2 t)) (k0_pay10 (iblk m c 0 t) (iblk m c 1 t) (iblk m c 2 t)) (k0_pay12 (iblk m c 0 t) (iblk m c 1 t) (iblk m c 2 t)) (k0_pay27 (k0_pay11 (iblk m c 0 t) (iblk m c 1 t)) (k0_pay17 (iblk m c 3 t)) (k0_pay18 (iblk m c 4 t)) (k0_pay19 (iblk m c 7 t)) (k0_pay20 (iblk m c 8 t))) (k0_pay28 (k0_pay11 (iblk m c 0 t) (iblk m c 1 t)) (k0_pay17 (iblk m c 3 t)) (k0_pay18 (iblk m c 4 t)) (k0_pay19 (iblk m c 7 t)) (k0_pay20 (iblk m c 8 t))) (k0_pay29 (k0_pay11 (iblk m c 0 t) (iblk m c 1 t)) (k0_pay13 (iblk m c 0 t) (iblk m c 1 t) (iblk m c 2 t)) (k0_pay14 (iblk m c 0 t) (iblk m c 1 t) (iblk m c 2 t)) (k0_pay17 (iblk m c 3 t)) (k0_pay18 (iblk m c 4 t)) (k0_pay19 (iblk m c 7 t)) (k0_pay20 (iblk m c 8 t))) (k0_pay33 (k0_pay4 (iblk m c 0 t)) (k0_pay5 (iblk m c 1 t)) (k0_pay9 (iblk m c 0 t) (iblk m c 1 t) (iblk m c 2 t)) (k0_pay10 (iblk m c 0 t) (iblk m c 1 t) (iblk m c 2 t)) (k0_pay11 (iblk m c 0 t) (iblk m c 1 t)) (k0_pay17 (iblk m c 3 t)) (k0_pay18 (iblk m c 4 t)) (k0_pay19 (iblk m c 7 t)) (k0_pay20 (iblk m c 8 t)) (iblk m c 5 t) (iblk m c 6 t)) (ix2 p g) = ref10 m c (ix2 p g) :=
  (q2 _ _ _ _ _ _ _ _ _ A I T b e L K B C (fun p g => (b0 m c t p g).trans (h0 g p)) (fun p g => (b1 m c t p g).trans (h1 g p)) (fun g => (b2 m c t g).trans (h2 g)) (fun p j g => (b3 m c t p j g).trans (h3 g p j)) (fun p j g => (b4 m c t p j g).trans (h4 g p j)) (fun p g => (b5 m c t p g).trans (h5 g p)) (fun p g => (b6 m c t p g).trans (h6 g p)) (fun p j g => (b7 m c t p j g).trans (h7 g p j)) (fun p j g => (b8 m c t p j g).trans (h8 g p j)) hn p g).trans
    ((Cert.PrepRefIdeal.Val.q157 (a0 m c) (a1 m c) (a2 m c) (a3 m c) (a4 m c) (a5 m c) (a6 m c) (a7 m c) (a8 m c) p g).trans
      (Cert.PrepRefIdeal.Val.q145 _ _ _ _ _ _ _ _ _ A I T b e L K B C h0 h1 h2 h3 h4 h5 h6 h7 h8 hn g p)).symm

theorem point10' (t : Fin cfg0.N) (y : S64x128.Idx) : k0_pay2 (k0_pay5 (iblk m c 1 t)) (k0_pay6 (iblk m c 2 t)) (k0_pay10 (iblk m c 0 t) (iblk m c 1 t) (iblk m c 2 t)) (k0_pay12 (iblk m c 0 t) (iblk m c 1 t) (iblk m c 2 t)) (k0_pay27 (k0_pay11 (iblk m c 0 t) (iblk m c 1 t)) (k0_pay17 (iblk m c 3 t)) (k0_pay18 (iblk m c 4 t)) (k0_pay19 (iblk m c 7 t)) (k0_pay20 (iblk m c 8 t))) (k0_pay28 (k0_pay11 (iblk m c 0 t) (iblk m c 1 t)) (k0_pay17 (iblk m c 3 t)) (k0_pay18 (iblk m c 4 t)) (k0_pay19 (iblk m c 7 t)) (k0_pay20 (iblk m c 8 t))) (k0_pay29 (k0_pay11 (iblk m c 0 t) (iblk m c 1 t)) (k0_pay13 (iblk m c 0 t) (iblk m c 1 t) (iblk m c 2 t)) (k0_pay14 (iblk m c 0 t) (iblk m c 1 t) (iblk m c 2 t)) (k0_pay17 (iblk m c 3 t)) (k0_pay18 (iblk m c 4 t)) (k0_pay19 (iblk m c 7 t)) (k0_pay20 (iblk m c 8 t))) (k0_pay33 (k0_pay4 (iblk m c 0 t)) (k0_pay5 (iblk m c 1 t)) (k0_pay9 (iblk m c 0 t) (iblk m c 1 t) (iblk m c 2 t)) (k0_pay10 (iblk m c 0 t) (iblk m c 1 t) (iblk m c 2 t)) (k0_pay11 (iblk m c 0 t) (iblk m c 1 t)) (k0_pay17 (iblk m c 3 t)) (k0_pay18 (iblk m c 4 t)) (k0_pay19 (iblk m c 7 t)) (k0_pay20 (iblk m c 8 t)) (iblk m c 5 t) (iblk m c 6 t)) y = ref10 m c (((cfg0.win 10).blk t).view.emb y) := by
  rw [eq_ix2 y]
  refine (point10 m A I T b e L K B C c h0 h1 h2 h3 h4 h5 h6 h7 h8 hn t _ _).trans (congrArg _ ?_)
  blk_ext [idx t]

theorem final10 : (dats m 0 c).arrAt 10 (cfgs 0).N = ref10 m c := by
  refine (dats m 0 c).arrAt_eq_of_covers 10 _ (by decide +kernel) fun t _ y => ?_
  blk_simp
  rw [after0_10]; unfold_out out0_10; frame_out
  exact point10' m A I T b e L K B C c h0 h1 h2 h3 h4 h5 h6 h7 h8 hn t y

theorem point11 (t : Fin cfg0.N) (g : Fin 128) : k0_pay3 (k0_pay4 (iblk m c 0 t)) (k0_pay5 (iblk m c 1 t)) (k0_pay6 (iblk m c 2 t)) (k0_pay32 (k0_pay4 (iblk m c 0 t)) (k0_pay5 (iblk m c 1 t)) (k0_pay9 (iblk m c 0 t) (iblk m c 1 t) (iblk m c 2 t)) (k0_pay10 (iblk m c 0 t) (iblk m c 1 t) (iblk m c 2 t)) (k0_pay11 (iblk m c 0 t) (iblk m c 1 t)) (k0_pay17 (iblk m c 3 t)) (k0_pay18 (iblk m c 4 t)) (k0_pay19 (iblk m c 7 t)) (k0_pay20 (iblk m c 8 t)) (iblk m c 5 t) (iblk m c 6 t)) (k0_pay33 (k0_pay4 (iblk m c 0 t)) (k0_pay5 (iblk m c 1 t)) (k0_pay9 (iblk m c 0 t) (iblk m c 1 t) (iblk m c 2 t)) (k0_pay10 (iblk m c 0 t) (iblk m c 1 t) (iblk m c 2 t)) (k0_pay11 (iblk m c 0 t) (iblk m c 1 t)) (k0_pay17 (iblk m c 3 t)) (k0_pay18 (iblk m c 4 t)) (k0_pay19 (iblk m c 7 t)) (k0_pay20 (iblk m c 8 t)) (iblk m c 5 t) (iblk m c 6 t)) (ix2 0 g) = ref11 m c (ix2 0 g) :=
  (q3 _ _ _ _ _ _ _ _ _ A I T b e L K B C (fun p g => (b0 m c t p g).trans (h0 g p)) (fun p g => (b1 m c t p g).trans (h1 g p)) (fun g => (b2 m c t g).trans (h2 g)) (fun p j g => (b3 m c t p j g).trans (h3 g p j)) (fun p j g => (b4 m c t p j g).trans (h4 g p j)) (fun p g => (b5 m c t p g).trans (h5 g p)) (fun p g => (b6 m c t p g).trans (h6 g p)) (fun p j g => (b7 m c t p j g).trans (h7 g p j)) (fun p j g => (b8 m c t p j g).trans (h8 g p j)) hn g).trans
    ((Cert.PrepRefIdeal.Val.q158 (a0 m c) (a1 m c) (a2 m c) (a3 m c) (a4 m c) (a5 m c) (a6 m c) (a7 m c) (a8 m c) g).trans
      (Cert.PrepRefIdeal.Val.q155 _ _ _ _ _ _ _ _ _ A I T b e L K B C h0 h1 h2 h3 h4 h5 h6 h7 h8 hn g)).symm

theorem point11' (t : Fin cfg0.N) (y : S1x128.Idx) : k0_pay3 (k0_pay4 (iblk m c 0 t)) (k0_pay5 (iblk m c 1 t)) (k0_pay6 (iblk m c 2 t)) (k0_pay32 (k0_pay4 (iblk m c 0 t)) (k0_pay5 (iblk m c 1 t)) (k0_pay9 (iblk m c 0 t) (iblk m c 1 t) (iblk m c 2 t)) (k0_pay10 (iblk m c 0 t) (iblk m c 1 t) (iblk m c 2 t)) (k0_pay11 (iblk m c 0 t) (iblk m c 1 t)) (k0_pay17 (iblk m c 3 t)) (k0_pay18 (iblk m c 4 t)) (k0_pay19 (iblk m c 7 t)) (k0_pay20 (iblk m c 8 t)) (iblk m c 5 t) (iblk m c 6 t)) (k0_pay33 (k0_pay4 (iblk m c 0 t)) (k0_pay5 (iblk m c 1 t)) (k0_pay9 (iblk m c 0 t) (iblk m c 1 t) (iblk m c 2 t)) (k0_pay10 (iblk m c 0 t) (iblk m c 1 t) (iblk m c 2 t)) (k0_pay11 (iblk m c 0 t) (iblk m c 1 t)) (k0_pay17 (iblk m c 3 t)) (k0_pay18 (iblk m c 4 t)) (k0_pay19 (iblk m c 7 t)) (k0_pay20 (iblk m c 8 t)) (iblk m c 5 t) (iblk m c 6 t)) y = ref11 m c (((cfg0.win 11).blk t).view.emb y) := by
  obtain ⟨g, rfl⟩ : ∃ g, y = ix2 0 g := ⟨_, (eq_ix2 y).trans (congrArg (fun z => ix2 z _) (Subsingleton.elim _ _))⟩
  refine (point11 m A I T b e L K B C c h0 h1 h2 h3 h4 h5 h6 h7 h8 hn t _).trans (congrArg _ ?_)
  blk_ext [idx t]

theorem final11 : (dats m 0 c).arrAt 11 (cfgs 0).N = ref11 m c := by
  refine (dats m 0 c).arrAt_eq_of_covers 11 _ (by decide +kernel) fun t _ y => ?_
  blk_simp
  rw [after0_11]; unfold_out out0_11; frame_out
  exact point11' m A I T b e L K B C c h0 h1 h2 h3 h4 h5 h6 h7 h8 hn t y

theorem point12 (t : Fin cfg0.N) (p : Fin 64) (j : Fin 16) (g : Fin 128) : k0_pay23 (k0_pay20 (iblk m c 8 t)) (k0_pay21 (iblk m c 0 t) (iblk m c 1 t) (iblk m c 2 t) (iblk m c 7 t)) (k0_pay22 (iblk m c 0 t) (iblk m c 1 t) (iblk m c 2 t)) (ix3 p j g) = ref12 m c (ix3 p j g) :=
  (q23 _ _ _ _ _ _ _ _ _ A I T b e L K B C (fun p g => (b0 m c t p g).trans (h0 g p)) (fun p g => (b1 m c t p g).trans (h1 g p)) (fun g => (b2 m c t g).trans (h2 g)) (fun p j g => (b3 m c t p j g).trans (h3 g p j)) (fun p j g => (b4 m c t p j g).trans (h4 g p j)) (fun p g => (b5 m c t p g).trans (h5 g p)) (fun p g => (b6 m c t p g).trans (h6 g p)) (fun p j g => (b7 m c t p j g).trans (h7 g p j)) (fun p j g => (b8 m c t p j g).trans (h8 g p j)) hn p j g).trans
    ((Cert.PrepRefIdeal.Val.q159 (a0 m c) (a1 m c) (a2 m c) (a7 m c) (a8 m c) p j g).trans
      (Cert.PrepRefIdeal.Val.q79 _ _ _ _ _ _ _ _ _ A I T b e L K B C h0 h1 h2 h3 h4 h5 h6 h7 h8 hn g p j)).symm

theorem point12' (t : Fin cfg0.N) (y : S64x16x128.Idx) : k0_pay23 (k0_pay20 (iblk m c 8 t)) (k0_pay21 (iblk m c 0 t) (iblk m c 1 t) (iblk m c 2 t) (iblk m c 7 t)) (k0_pay22 (iblk m c 0 t) (iblk m c 1 t) (iblk m c 2 t)) y = ref12 m c (((cfg0.win 12).blk t).view.emb y) := by
  rw [eq_ix3 y]
  refine (point12 m A I T b e L K B C c h0 h1 h2 h3 h4 h5 h6 h7 h8 hn t _ _ _).trans (congrArg _ ?_)
  blk_ext [idx t]

theorem final12 : (dats m 0 c).arrAt 12 (cfgs 0).N = ref12 m c := by
  refine (dats m 0 c).arrAt_eq_of_covers 12 _ (by decide +kernel) fun t _ y => ?_
  blk_simp
  rw [after0_12]; unfold_out out0_12; frame_out
  exact point12' m A I T b e L K B C c h0 h1 h2 h3 h4 h5 h6 h7 h8 hn t y

theorem point13 (t : Fin cfg0.N) (p : Fin 64) (j : Fin 16) (g : Fin 128) : k0_pay24 (k0_pay15 (iblk m c 0 t) (iblk m c 1 t) (iblk m c 2 t)) (k0_pay16 (iblk m c 0 t) (iblk m c 1 t) (iblk m c 2 t)) (k0_pay19 (iblk m c 7 t)) (k0_pay20 (iblk m c 8 t)) (ix3 p j g) = ref13 m c (ix3 p j g) :=
  (q24 _ _ _ _ _ _ _ _ _ A I T b e L K B C (fun p g => (b0 m c t p g).trans (h0 g p)) (fun p g => (b1 m c t p g).trans (h1 g p)) (fun g => (b2 m c t g).trans (h2 g)) (fun p j g => (b3 m c t p j g).trans (h3 g p j)) (fun p j g => (b4 m c t p j g).trans (h4 g p j)) (fun p g => (b5 m c t p g).trans (h5 g p)) (fun p g => (b6 m c t p g).trans (h6 g p)) (fun p j g => (b7 m c t p j g).trans (h7 g p j)) (fun p j g => (b8 m c t p j g).trans (h8 g p j)) hn p j g).trans
    ((Cert.PrepRefIdeal.Val.q160 (a0 m c) (a1 m c) (a2 m c) (a7 m c) (a8 m c) p j g).trans
      (Cert.PrepRefIdeal.Val.q72 _ _ _ _ _ _ _ _ _ A I T b e L K B C h0 h1 h2 h3 h4 h5 h6 h7 h8 hn g p j)).symm

theorem point13' (t : Fin cfg0.N) (y : S64x16x128.Idx) : k0_pay24 (k0_pay15 (iblk m c 0 t) (iblk m c 1 t) (iblk m c 2 t)) (k0_pay16 (iblk m c 0 t) (iblk m c 1 t) (iblk m c 2 t)) (k0_pay19 (iblk m c 7 t)) (k0_pay20 (iblk m c 8 t)) y = ref13 m c (((cfg0.win 13).blk t).view.emb y) := by
  rw [eq_ix3 y]
  refine (point13 m A I T b e L K B C c h0 h1 h2 h3 h4 h5 h6 h7 h8 hn t _ _ _).trans (congrArg _ ?_)
  blk_ext [idx t]

theorem final13 : (dats m 0 c).arrAt 13 (cfgs 0).N = ref13 m c := by
  refine (dats m 0 c).arrAt_eq_of_covers 13 _ (by decide +kernel) fun t _ y => ?_
  blk_simp
  rw [after0_13]; unfold_out out0_13; frame_out
  exact point13' m A I T b e L K B C c h0 h1 h2 h3 h4 h5 h6 h7 h8 hn t y

end Cert.PrepIdeal.Arr

end
-- ==== Proof.PrepClaim.lean ====
/- The claims on the gradient of the discretisation: the runs of the call and of the reference, side by side. -/
module

public import proofs.«01_k».proof.Proof.PrepValue
public import proofs.«01_k».proof.Proof.Gen.Prep.Frame
public import proofs.«01_k».proof.Proof.Gen.PrepRefIdeal.Run
public import proofs.«01_k».proof.Proof.Gen.Pre_tame_prep
public import proofs.«01_k».proof.Proof.Real
public import Idealize.ShloMosaic.Lib.Claim

public import proofs.«01_k».proof.Defs

@[expose] public section

set_option maxRecDepth 16384

noncomputable section

open Idealize.ShloMosaic Idealize.ShloMosaic.TcCoe Idealize.SL.Sem
open Idealize.ShloMosaic.Pipeline (Dat)

namespace Cert.Disc
open Cert.PrepIdeal

instance : Subsingleton Cert.Pre_tame_prep.S_.Idx := ⟨fun a b => funext fun d => d.elim0⟩

/-- What the precondition says: every argument is an array of real numbers. -/
theorem reals (x0 : FVec Ideal S1x128x64 .f32) (x1 : FVec Ideal S1x128x64 .f32) (x2 : FVec Ideal S1x128 .f32) (x3 : FVec Ideal S1x128x64x16 .f32) (x4 : FVec Ideal S1x128x64x16 .f32) (x5 : FVec Ideal S128x64 .f32) (x6 : FVec Ideal S128x64 .f32) (x7 : FVec Ideal S128x64x16 .f32) (x8 : FVec Ideal S128x64x16 .f32)
    (e : Cert.Pre_tame_prep.fn (F := Ideal) x0 x1 x2 x3 x4 x5 x6 x7 x8 = fun _ => 1#1) :
    (∃ f : S1x128x64.Idx → ℝ, x0 = fun i => (f i : EReal)) ∧ (∃ f : S1x128x64.Idx → ℝ, x1 = fun i => (f i : EReal)) ∧ (∃ f : S1x128.Idx → ℝ, x2 = fun i => (f i : EReal)) ∧ (∃ f : S1x128x64x16.Idx → ℝ, x3 = fun i => (f i : EReal)) ∧ (∃ f : S1x128x64x16.Idx → ℝ, x4 = fun i => (f i : EReal)) ∧ (∃ f : S128x64.Idx → ℝ, x5 = fun i => (f i : EReal)) ∧ (∃ f : S128x64.Idx → ℝ, x6 = fun i => (f i : EReal)) ∧ (∃ f : S128x64x16.Idx → ℝ, x7 = fun i => (f i : EReal)) ∧ (∃ f : S128x64x16.Idx → ℝ, x8 = fun i => (f i : EReal)) := by
  have e1 := congrFun e (fun d => d.elim0)
  obtain ⟨e1, -⟩ := IntOp.andi_eq_one.1 e1
  obtain ⟨e1, e9⟩ := IntOp.andi_eq_one.1 e1
  obtain ⟨e1, e8⟩ := IntOp.andi_eq_one.1 e1
  obtain ⟨e1, e7⟩ := IntOp.andi_eq_one.1 e1
  obtain ⟨e1, e6⟩ := IntOp.andi_eq_one.1 e1
  obtain ⟨e1, e5⟩ := IntOp.andi_eq_one.1 e1
  obtain ⟨e1, e4⟩ := IntOp.andi_eq_one.1 e1
  obtain ⟨e1, e3⟩ := IntOp.andi_eq_one.1 e1
  obtain ⟨e1, e2⟩ := IntOp.andi_eq_one.1 e1
  exact ⟨Cert.Fin.reals_of_all _ _ (fun _ => rfl) _ _ _ _ e1, Cert.Fin.reals_of_all _ _ (fun _ => rfl) _ _ _ _ e2, Cert.Fin.reals_of_all _ _ (fun _ => rfl) _ _ _ _ e3, Cert.Fin.reals_of_all _ _ (fun _ => rfl) _ _ _ _ e4, Cert.Fin.reals_of_all _ _ (fun _ => rfl) _ _ _ _ e5, Cert.Fin.reals_of_all _ _ (fun _ => rfl) _ _ _ _ e6, Cert.Fin.reals_of_all _ _ (fun _ => rfl) _ _ _ _ e7, Cert.Fin.reals_of_all _ _ (fun _ => rfl) _ _ _ _ e8, Cert.Fin.reals_of_all _ _ (fun _ => rfl) _ _ _ _ e9⟩

/-- And no state's factor is zero. -/
theorem pos (x0 : FVec Ideal S1x128x64 .f32) (x1 : FVec Ideal S1x128x64 .f32) (x2 : FVec Ideal S1x128 .f32) (x3 : FVec Ideal S1x128x64x16 .f32) (x4 : FVec Ideal S1x128x64x16 .f32) (x5 : FVec Ideal S128x64 .f32) (x6 : FVec Ideal S128x64 .f32) (x7 : FVec Ideal S128x64x16 .f32) (x8 : FVec Ideal S128x64x16 .f32)
    (e : Cert.Pre_tame_prep.fn (F := Ideal) x0 x1 x2 x3 x4 x5 x6 x7 x8 = fun _ => 1#1) (g : Fin 128) (p : Fin 64) (a i : ℝ)
    (ha : x0 (ix3 0 g p) = (a : EReal)) (hi : x1 (ix3 0 g p) = (i : EReal)) : nn a i ≠ 0 := by
  have e1 := congrFun e (fun d => d.elim0)
  obtain ⟨-, e1⟩ := IntOp.andi_eq_one.1 e1
  have e2 : Ideal.cmp .ogt (x0 (ix3 0 g p) * x0 (ix3 0 g p) + x1 (ix3 0 g p) * x1 (ix3 0 g p)) (Ideal.ofBits .f32 0x00000000#32) = 1#1 :=
    Host.reduce_andi_all _ _ _ _ _ e1 (ix3 0 g p)
  rw [ha, hi, ← EReal.coe_mul, ← EReal.coe_mul, ← EReal.coe_add, show Ideal.ofBits .f32 0x00000000#32 = ((0 : ℝ) : EReal) from by simp [Ideal.ofBits, Ideal.ieee]] at e2
  unfold Ideal.cmp at e2
  intro h
  unfold nn at h
  rw [h] at e2
  simp at e2

theorem algebraic_prep : Cert.algebraic_PrepIdeal_PrepRefIdeal_pre_tame_prep (hPrepIdeal := Cert.PrepIdeal.Gen.facts)
    (hPrepRefIdeal := Cert.PrepRefIdeal.Gen.facts) (hPre_tame_prep := Cert.Pre_tame_prep.Gen.facts) := by
  intro m g m' g' hpre hag
  refine ⟨fun c => Arr.ref9 m c, fun c => Arr.ref10 m c, fun c => Arr.ref11 m c, fun c => Arr.ref12 m c, fun c => Arr.ref13 m c, ?_, ?_⟩
  · refine (θ_run _ _ _).mono (fun r h c => ?_) (Cert.PrepIdeal.Value.run_blocks m g)
    obtain ⟨h0, h1, h2, h3, h4, hr⟩ := h c
    obtain ⟨⟨x0, kx0⟩, ⟨x1, kx1⟩, ⟨x2, kx2⟩, ⟨x3, kx3⟩, ⟨x4, kx4⟩, ⟨x5, kx5⟩, ⟨x6, kx6⟩, ⟨x7, kx7⟩, ⟨x8, kx8⟩⟩ := reals _ _ _ _ _ _ _ _ _ (hpre c)
    exact ⟨h0.trans (Arr.final9 m (fun g p => x0 (ix3 0 g p)) (fun g p => x1 (ix3 0 g p)) (fun g => x2 (ix2 0 g)) (fun g p j => x3 (ix4 0 g p j)) (fun g p j => x4 (ix4 0 g p j)) (fun g p => x5 (ix2 g p)) (fun g p => x6 (ix2 g p)) (fun g p j => x7 (ix3 g p j)) (fun g p j => x8 (ix3 g p j)) c (fun g p => congrFun kx0 (ix3 0 g p)) (fun g p => congrFun kx1 (ix3 0 g p)) (fun g => congrFun kx2 (ix2 0 g)) (fun g p j => congrFun kx3 (ix4 0 g p j)) (fun g p j => congrFun kx4 (ix4 0 g p j)) (fun g p => congrFun kx5 (ix2 g p)) (fun g p => congrFun kx6 (ix2 g p)) (fun g p j => congrFun kx7 (ix3 g p j)) (fun g p j => congrFun kx8 (ix3 g p j)) (fun g p => pos _ _ _ _ _ _ _ _ _ (hpre c) g p _ _ (congrFun kx0 (ix3 0 g p)) (congrFun kx1 (ix3 0 g p)))), h1.trans (Arr.final10 m (fun g p => x0 (ix3 0 g p)) (fun g p => x1 (ix3 0 g p)) (fun g => x2 (ix2 0 g)) (fun g p j => x3 (ix4 0 g p j)) (fun g p j => x4 (ix4 0 g p j)) (fun g p => x5 (ix2 g p)) (fun g p => x6 (ix2 g p)) (fun g p j => x7 (ix3 g p j)) (fun g p j => x8 (ix3 g p j)) c (fun g p => congrFun kx0 (ix3 0 g p)) (fun g p => congrFun kx1 (ix3 0 g p)) (fun g => congrFun kx2 (ix2 0 g)) (fun g p j => congrFun kx3 (ix4 0 g p j)) (fun g p j => congrFun kx4 (ix4 0 g p j)) (fun g p => congrFun kx5 (ix2 g p)) (fun g p => congrFun kx6 (ix2 g p)) (fun g p j => congrFun kx7 (ix3 g p j)) (fun g p j => congrFun kx8 (ix3 g p j)) (fun g p => pos _ _ _ _ _ _ _ _ _ (hpre c) g p _ _ (congrFun kx0 (ix3 0 g p)) (congrFun kx1 (ix3 0 g p)))), h2.trans (Arr.final11 m (fun g p => x0 (ix3 0 g p)) (fun g p => x1 (ix3 0 g p)) (fun g => x2 (ix2 0 g)) (fun g p j => x3 (ix4 0 g p j)) (fun g p j => x4 (ix4 0 g p j)) (fun g p => x5 (ix2 g p)) (fun g p => x6 (ix2 g p)) (fun g p j => x7 (ix3 g p j)) (fun g p j => x8 (ix3 g p j)) c (fun g p => congrFun kx0 (ix3 0 g p)) (fun g p => congrFun kx1 (ix3 0 g p)) (fun g => congrFun kx2 (ix2 0 g)) (fun g p j => congrFun kx3 (ix4 0 g p j)) (fun g p j => congrFun kx4 (ix4 0 g p j)) (fun g p => congrFun kx5 (ix2 g p)) (fun g p => congrFun kx6 (ix2 g p)) (fun g p j => congrFun kx7 (ix3 g p j)) (fun g p j => congrFun kx8 (ix3 g p j)) (fun g p => pos _ _ _ _ _ _ _ _ _ (hpre c) g p _ _ (congrFun kx0 (ix3 0 g p)) (congrFun kx1 (ix3 0 g p)))), h3.trans (Arr.final12 m (fun g p => x0 (ix3 0 g p)) (fun g p => x1 (ix3 0 g p)) (fun g => x2 (ix2 0 g)) (fun g p j => x3 (ix4 0 g p j)) (fun g p j => x4 (ix4 0 g p j)) (fun g p => x5 (ix2 g p)) (fun g p => x6 (ix2 g p)) (fun g p j => x7 (ix3 g p j)) (fun g p j => x8 (ix3 g p j)) c (fun g p => congrFun kx0 (ix3 0 g p)) (fun g p => congrFun kx1 (ix3 0 g p)) (fun g => congrFun kx2 (ix2 0 g)) (fun g p j => congrFun kx3 (ix4 0 g p j)) (fun g p j => congrFun kx4 (ix4 0 g p j)) (fun g p => congrFun kx5 (ix2 g p)) (fun g p => congrFun kx6 (ix2 g p)) (fun g p j => congrFun kx7 (ix3 g p j)) (fun g p j => congrFun kx8 (ix3 g p j)) (fun g p => pos _ _ _ _ _ _ _ _ _ (hpre c) g p _ _ (congrFun kx0 (ix3 0 g p)) (congrFun kx1 (ix3 0 g p)))), h4.trans (Arr.final13 m (fun g p => x0 (ix3 0 g p)) (fun g p => x1 (ix3 0 g p)) (fun g => x2 (ix2 0 g)) (fun g p j => x3 (ix4 0 g p j)) (fun g p j => x4 (ix4 0 g p j)) (fun g p => x5 (ix2 g p)) (fun g p => x6 (ix2 g p)) (fun g p j => x7 (ix3 g p j)) (fun g p j => x8 (ix3 g p j)) c (fun g p => congrFun kx0 (ix3 0 g p)) (fun g p => congrFun kx1 (ix3 0 g p)) (fun g => congrFun kx2 (ix2 0 g)) (fun g p j => congrFun kx3 (ix4 0 g p j)) (fun g p j => congrFun kx4 (ix4 0 g p j)) (fun g p => congrFun kx5 (ix2 g p)) (fun g p => congrFun kx6 (ix2 g p)) (fun g p j => congrFun kx7 (ix3 g p j)) (fun g p j => congrFun kx8 (ix3 g p j)) (fun g p => pos _ _ _ _ _ _ _ _ _ (hpre c) g p _ _ (congrFun kx0 (ix3 0 g p)) (congrFun kx1 (ix3 0 g p)))), hr⟩
  · refine (θ_run _ _ _).mono (fun r h c => ?_) (Cert.PrepRefIdeal.Value.run m' g')
    obtain ⟨h0, h1, h2, h3, h4, hr⟩ := h c
    obtain ⟨e0, e1, e2, e3, e4, e5, e6, e7, e8⟩ := hag c
    replace h0 : _ = Cert.PrepRefIdeal.Read.val_main_v156 (F := Ideal) (m' ((c : Thread Cert.PrepRefIdeal.nD Cert.PrepRefIdeal.τ).loc Cert.PrepRefIdeal.main_arg0)) (m' ((c : Thread Cert.PrepRefIdeal.nD Cert.PrepRefIdeal.τ).loc Cert.PrepRefIdeal.main_arg1)) (m' ((c : Thread Cert.PrepRefIdeal.nD Cert.PrepRefIdeal.τ).loc Cert.PrepRefIdeal.main_arg2)) (m' ((c : Thread Cert.PrepRefIdeal.nD Cert.PrepRefIdeal.τ).loc Cert.PrepRefIdeal.main_arg3)) (m' ((c : Thread Cert.PrepRefIdeal.nD Cert.PrepRefIdeal.τ).loc Cert.PrepRefIdeal.main_arg4)) (m' ((c : Thread Cert.PrepRefIdeal.nD Cert.PrepRefIdeal.τ).loc Cert.PrepRefIdeal.main_arg5)) (m' ((c : Thread Cert.PrepRefIdeal.nD Cert.PrepRefIdeal.τ).loc Cert.PrepRefIdeal.main_arg6)) (m' ((c : Thread Cert.PrepRefIdeal.nD Cert.PrepRefIdeal.τ).loc Cert.PrepRefIdeal.main_arg7)) (m' ((c : Thread Cert.PrepRefIdeal.nD Cert.PrepRefIdeal.τ).loc Cert.PrepRefIdeal.main_arg8)) := h0.trans (Cert.PrepRefIdeal.Read.val_main_v156_eq _ _)
    rw [e0, e1, e2, e3, e4, e5, e6, e7, e8] at h0
    replace h1 : _ = Cert.PrepRefIdeal.Read.val_main_v157 (F := Ideal) (m' ((c : Thread Cert.PrepRefIdeal.nD Cert.PrepRefIdeal.τ).loc Cert.PrepRefIdeal.main_arg0)) (m' ((c : Thread Cert.PrepRefIdeal.nD Cert.PrepRefIdeal.τ).loc Cert.PrepRefIdeal.main_arg1)) (m' ((c : Thread Cert.PrepRefIdeal.nD Cert.PrepRefIdeal.τ).loc Cert.PrepRefIdeal.main_arg2)) (m' ((c : Thread Cert.PrepRefIdeal.nD Cert.PrepRefIdeal.τ).loc Cert.PrepRefIdeal.main_arg3)) (m' ((c : Thread Cert.PrepRefIdeal.nD Cert.PrepRefIdeal.τ).loc Cert.PrepRefIdeal.main_arg4)) (m' ((c : Thread Cert.PrepRefIdeal.nD Cert.PrepRefIdeal.τ).loc Cert.PrepRefIdeal.main_arg5)) (m' ((c : Thread Cert.PrepRefIdeal.nD Cert.PrepRefIdeal.τ).loc Cert.PrepRefIdeal.main_arg6)) (m' ((c : Thread Cert.PrepRefIdeal.nD Cert.PrepRefIdeal.τ).loc Cert.PrepRefIdeal.main_arg7)) (m' ((c : Thread Cert.PrepRefIdeal.nD Cert.PrepRefIdeal.τ).loc Cert.PrepRefIdeal.main_arg8)) := h1.trans (Cert.PrepRefIdeal.Read.val_main_v157_eq _ _)
    rw [e0, e1, e2, e3, e4, e5, e6, e7, e8] at h1
    replace h2 : _ = Cert.PrepRefIdeal.Read.val_main_v158 (F := Ideal) (m' ((c : Thread Cert.PrepRefIdeal.nD Cert.PrepRefIdeal.τ).loc Cert.PrepRefIdeal.main_arg0)) (m' ((c : Thread Cert.PrepRefIdeal.nD Cert.PrepRefIdeal.τ).loc Cert.PrepRefIdeal.main_arg1)) (m' ((c : Thread Cert.PrepRefIdeal.nD Cert.PrepRefIdeal.τ).loc Cert.PrepRefIdeal.main_arg2)) (m' ((c : Thread Cert.PrepRefIdeal.nD Cert.PrepRefIdeal.τ).loc Cert.PrepRefIdeal.main_arg3)) (m' ((c : Thread Cert.PrepRefIdeal.nD Cert.PrepRefIdeal.τ).loc Cert.PrepRefIdeal.main_arg4)) (m' ((c : Thread Cert.PrepRefIdeal.nD Cert.PrepRefIdeal.τ).loc Cert.PrepRefIdeal.main_arg5)) (m' ((c : Thread Cert.PrepRefIdeal.nD Cert.PrepRefIdeal.τ).loc Cert.PrepRefIdeal.main_arg6)) (m' ((c : Thread Cert.PrepRefIdeal.nD Cert.PrepRefIdeal.τ).loc Cert.PrepRefIdeal.main_arg7)) (m' ((c : Thread Cert.PrepRefIdeal.nD Cert.PrepRefIdeal.τ).loc Cert.PrepRefIdeal.main_arg8)) := h2.trans (Cert.PrepRefIdeal.Read.val_main_v158_eq _ _)
    rw [e0, e1, e2, e3, e4, e5, e6, e7, e8] at h2
    replace h3 : _ = Cert.PrepRefIdeal.Read.val_main_v159 (F := Ideal) (m' ((c : Thread Cert.PrepRefIdeal.nD Cert.PrepRefIdeal.τ).loc Cert.PrepRefIdeal.main_arg0)) (m' ((c : Thread Cert.PrepRefIdeal.nD Cert.PrepRefIdeal.τ).loc Cert.PrepRefIdeal.main_arg1)) (m' ((c : Thread Cert.PrepRefIdeal.nD Cert.PrepRefIdeal.τ).loc Cert.PrepRefIdeal.main_arg2)) (m' ((c : Thread Cert.PrepRefIdeal.nD Cert.PrepRefIdeal.τ).loc Cert.PrepRefIdeal.main_arg7)) (m' ((c : Thread Cert.PrepRefIdeal.nD Cert.PrepRefIdeal.τ).loc Cert.PrepRefIdeal.main_arg8)) := h3.trans (Cert.PrepRefIdeal.Read.val_main_v159_eq _ _)
    rw [e0, e1, e2, e7, e8] at h3
    replace h4 : _ = Cert.PrepRefIdeal.Read.val_main_v160 (F := Ideal) (m' ((c : Thread Cert.PrepRefIdeal.nD Cert.PrepRefIdeal.τ).loc Cert.PrepRefIdeal.main_arg0)) (m' ((c : Thread Cert.PrepRefIdeal.nD Cert.PrepRefIdeal.τ).loc Cert.PrepRefIdeal.main_arg1)) (m' ((c : Thread Cert.PrepRefIdeal.nD Cert.PrepRefIdeal.τ).loc Cert.PrepRefIdeal.main_arg2)) (m' ((c : Thread Cert.PrepRefIdeal.nD Cert.PrepRefIdeal.τ).loc Cert.PrepRefIdeal.main_arg7)) (m' ((c : Thread Cert.PrepRefIdeal.nD Cert.PrepRefIdeal.τ).loc Cert.PrepRefIdeal.main_arg8)) := h4.trans (Cert.PrepRefIdeal.Read.val_main_v160_eq _ _)
    rw [e0, e1, e2, e7, e8] at h4
    exact ⟨h0, h1, h2, h3, h4, hr⟩

/-- The reference is host operations only: it terminates, leaves its arguments unchanged and has no counter. -/
theorem frame_prep_ref : Cert.quiescent_PrepRefIdeal (hPrepRefIdeal := Cert.PrepRefIdeal.Gen.facts) := fun m ρ _ =>
  (θ_run _ _ _).mono (fun r h => ⟨fun c => (h c).2.2.2.2.2, sem_eq_zero_of_no_sems rfl _⟩) (Cert.PrepRefIdeal.Value.run m ρ)

end Cert.Disc

end
-- ==== Proof.SwiValue.lean ====
/- The gradient of the gated product of the feed-forward part: each result array of the call is the reference's array. -/
module

public import proofs.«01_k».proof.Proof.Gen.SwiIdeal.Value
public import proofs.«01_k».proof.Proof.Gen.SwiRefIdeal.Read
public import proofs.«01_k».proof.Proof.Real
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.SwiIdeal.Arr
open Cert.SwiIdeal Cert.SwiIdeal.Gen
open Cert.Fin

/-- The logistic function of an extended real. -/
abbrev sg (x : EReal) : EReal := Ideal.div 1 (1 + Ideal.exp (-x))

/-- The gradient in the gate's argument, grouped as the call groups it and as the chain rule does. -/
theorem regroup (x : EReal) (d b : ℝ) :
    ((d : EReal) * b) * (sg x * (1 + x * (1 - sg x))) = ((d : EReal) * b) * sg x + (x * ((d : EReal) * b)) * (sg x * (1 - sg x)) := by
  unfold sg
  induction x with
  | bot =>
    have e : Ideal.div 1 (1 + Ideal.exp (-⊥)) = ((0 : ℝ) : EReal) := by
      rw [← gate_eq, lit_half, EReal.coe_mul_bot_of_pos (by norm_num), tanh_bot, ← EReal.coe_mul, ← EReal.coe_add]
      norm_num
    rw [e]; simp
  | top =>
    have e : Ideal.div 1 (1 + Ideal.exp (-⊤)) = ((1 : ℝ) : EReal) := by
      rw [← gate_eq, lit_half, EReal.coe_mul_top_of_pos (by norm_num), tanh_top, ← EReal.coe_mul, ← EReal.coe_add]
      norm_num
    have z : (1 : EReal) - 1 = 0 := by rw [← EReal.coe_one, ← EReal.coe_sub]; simp
    rw [e]; simp [z]
  | coe a =>
    have e : Ideal.div 1 (1 + Ideal.exp (-(a : EReal))) = ((1 / (1 + Real.exp (-a)) : ℝ) : EReal) := by
      rw [← EReal.coe_neg, exp_coe, ← EReal.coe_one, ← EReal.coe_add, div_coe _ _ (by positivity)]
    rw [e, ← EReal.coe_one]
    simp only [← EReal.coe_mul, ← EReal.coe_add, ← EReal.coe_sub]
    congr 1
    ring

variable (m : (ℓ : Loc nD τ sig) → Buf (Elt Ideal) ℓ)

abbrev aA (c : Dev nD) : FVec Ideal S2048x5632 .f32 := m ((c : Thread nD τ).loc main_arg0)
abbrev bA (c : Dev nD) : FVec Ideal S2048x5632 .f32 := m ((c : Thread nD τ).loc main_arg1)
abbrev wA (c : Dev nD) : FVec Ideal S5632x2048 .f32 := m ((c : Thread nD τ).loc main_arg2)
abbrev dA (c : Dev nD) : FVec Ideal S2048x2048 .f32 := m ((c : Thread nD τ).loc main_arg3)

abbrev ref4 (c : Dev nD) := Cert.SwiRefIdeal.Read.val_main_v7 (F := Ideal) (aA m c) (bA m c) (wA m c) (dA m c)
abbrev ref5 (c : Dev nD) := Cert.SwiRefIdeal.Read.val_main_v8 (F := Ideal) (aA m c) (wA m c) (dA m c)

/-- The block indices of the windows: a point counts the halves of the sum fastest, then the columns, then the rows. -/
theorem idx : ∀ t : Fin cfg0.N, win0_0.index t = ![t.val / 8, t.val % 2] ∧ win0_1.index t = ![t.val / 2 % 4, t.val % 2, 0, 0]
    ∧ win0_2.index t = ![t.val / 8, t.val / 2 % 4] ∧ win0_3.index t = ![t.val / 8, t.val / 2 % 4]
    ∧ win0_4.index t = ![t.val / 8, t.val / 2 % 4] ∧ win0_5.index t = ![t.val / 8, t.val / 2 % 4] :=
  (by decide +kernel : ∀ t : Fin grid0.N, _)

def row (t : Fin cfg0.N) (n : Fin 1024) : Fin 2048 := ⟨1024 * (t.val / 8) + n.val, by
  have ht : t.val < 16 := lt_of_lt_of_eq t.isLt N_0
  omega⟩
def col (t : Fin cfg0.N) (f : Fin 1408) : Fin 5632 := ⟨1408 * (t.val / 2 % 4) + f.val, by omega⟩
def half (p : Fin 2) (k : Fin 1024) : Fin 2048 := ⟨1024 * p.val + k.val, by omega⟩

theorem w_entry (c : Dev nD) (p : Fin 4) (q : Fin 2) (f : Fin 1408) (k : Fin 1024) :
    (show FVec Ideal S4x2x1408x1024 .bf16 from V m c main_v2) (ix4 p q f k) = wA m c (ix2 ⟨1408 * p.val + f.val, by omega⟩ (half q k)) := by
  entry_read
  pointwise
  exact congrArg (wA m c) (congrArg₂ ix2 (Fin.ext (congrArg (· + f.val) (Nat.mul_comm _ _))) (Fin.ext (congrArg (· + k.val) (Nat.mul_comm _ _))))

theorem b0 (c : Dev nD) (t : Fin cfg0.N) (n k : Fin 1024) :
    (show FVec Ideal S1024x1024 .bf16 from iblk m c 0 t) (ix2 n k) = dA m c (ix2 (row t n) ⟨1024 * (t.val % 2) + k.val, by omega⟩) := by
  refine Eq.trans (b := (show FVec Ideal S2048x2048 .bf16 from V m c main_v3) (ix2 ⟨1024 * (t.val / 8) + n.val, (row t n).isLt⟩ ⟨1024 * (t.val % 2) + k.val, by omega⟩)) (by blk_point [iblk, idx t]) ?_
  entry_read
  pointwise
  rfl
theorem b1 (c : Dev nD) (t : Fin cfg0.N) (f : Fin 1408) (k : Fin 1024) :
    (show FVec Ideal S1x1x1408x1024 .bf16 from iblk m c 1 t) (ix4 0 0 f k) = wA m c (ix2 (col t f) ⟨1024 * (t.val % 2) + k.val, by omega⟩) := by
  refine Eq.trans (b := (show FVec Ideal S4x2x1408x1024 .bf16 from V m c main_v2) (ix4 ⟨t.val / 2 % 4, by omega⟩ ⟨t.val % 2, by omega⟩ f k)) (by blk_point [iblk, idx t]) ?_
  exact w_entry m c _ _ f k
theorem b2 (c : Dev nD) (t : Fin cfg0.N) (n : Fin 1024) (f : Fin 1408) :
    (show FVec Ideal S1024x1408 .bf16 from iblk m c 2 t) (ix2 n f) = aA m c (ix2 (row t n) (col t f)) := by
  refine Eq.trans (b := (show FVec Ideal S2048x5632 .bf16 from V m c main_v4) (ix2 ⟨1024 * (t.val / 8) + n.val, (row t n).isLt⟩ ⟨1408 * (t.val / 2 % 4) + f.val, (col t f).isLt⟩)) (by blk_point [iblk, idx t]) ?_
  entry_read
  pointwise
  rfl
theorem b3 (c : Dev nD) (t : Fin cfg0.N) (n : Fin 1024) (f : Fin 1408) :
    (show FVec Ideal S1024x1408 .bf16 from iblk m c 3 t) (ix2 n f) = bA m c (ix2 (row t n) (col t f)) := by
  refine Eq.trans (b := (show FVec Ideal S2048x5632 .bf16 from V m c main_v5) (ix2 ⟨1024 * (t.val / 8) + n.val, (row t n).isLt⟩ ⟨1408 * (t.val / 2 % 4) + f.val, (col t f).isLt⟩)) (by blk_point [iblk, idx t]) ?_
  entry_read
  pointwise
  rfl

/-! The call's terms on blocks. -/

theorem p1 (x : FVec Ideal S1024x1024 .bf16) (w : FVec Ideal S1x1x1408x1024 .bf16) (n : Fin 1024) (f : Fin 1408) :
    k0_pay1 (F := Ideal) x w (ix2 n f) = ∑ k, x (ix2 n k) * w (ix4 0 0 f k) := by
  pointwise [k0_pay1]
theorem p3 (x : FVec Ideal S1024x1024 .bf16) (w : FVec Ideal S1x1x1408x1024 .bf16) (s : FVec Ideal S1024x1408 .f32) (n : Fin 1024) (f : Fin 1408) :
    k0_pay3 (F := Ideal) x w s (ix2 n f) = s (ix2 n f) + ∑ k, x (ix2 n k) * w (ix4 0 0 f k) := by
  pointwise [k0_pay3]
theorem p5 (a : FVec Ideal S1024x1408 .bf16) (n : Fin 1024) (f : Fin 1408) :
    k0_pay5 (F := Ideal) a (ix2 n f) = sg (a (ix2 n f)) := by
  pointwise [k0_pay5, k0_pay4]
  exact gate_eq _
theorem p6 (x : FVec Ideal S1024x1024 .bf16) (w : FVec Ideal S1x1x1408x1024 .bf16) (s : FVec Ideal S1024x1408 .f32) (a b : FVec Ideal S1024x1408 .bf16) (n : Fin 1024) (f : Fin 1408) :
    k0_pay6 (F := Ideal) x w s a b (ix2 n f)
      = ((s (ix2 n f) + ∑ k, x (ix2 n k) * w (ix4 0 0 f k)) * b (ix2 n f)) * (sg (a (ix2 n f)) * (1 + a (ix2 n f) * (1 - sg (a (ix2 n f))))) := by
  pointwise [k0_pay6, k0_pay4]
  rw [p3, p5]
theorem p7 (x : FVec Ideal S1024x1024 .bf16) (w : FVec Ideal S1x1x1408x1024 .bf16) (s : FVec Ideal S1024x1408 .f32) (a : FVec Ideal S1024x1408 .bf16) (n : Fin 1024) (f : Fin 1408) :
    k0_pay7 (F := Ideal) x w s a (ix2 n f)
      = (s (ix2 n f) + ∑ k, x (ix2 n k) * w (ix4 0 0 f k)) * (a (ix2 n f) * sg (a (ix2 n f))) := by
  pointwise [k0_pay7, k0_pay4]
  rw [p3, p5]

/-! The reference. -/

/-- The cotangent of the gated product, a row of the product with the transposed weight. -/
abbrev df (c : Dev nD) (r : Fin 2048) (f : Fin 5632) : EReal := ∑ k, dA m c (ix2 r k) * wA m c (ix2 f k)

theorem r4 (c : Dev nD) (r : Fin 2048) (f : Fin 5632) :
    ref4 m c (ix2 r f) = (df m c r f * bA m c (ix2 r f)) * sg (aA m c (ix2 r f)) + (aA m c (ix2 r f) * (df m c r f * bA m c (ix2 r f))) * (sg (aA m c (ix2 r f)) * (1 - sg (aA m c (ix2 r f)))) := by
  unfold ref4
  rw [← Cert.SwiRefIdeal.Read.val_main_v7_eq]
  pointwise
theorem r5 (c : Dev nD) (r : Fin 2048) (f : Fin 5632) :
    ref5 m c (ix2 r f) = (aA m c (ix2 r f) * sg (aA m c (ix2 r f))) * df m c r f := by
  unfold ref5
  rw [← Cert.SwiRefIdeal.Read.val_main_v8_eq]
  pointwise

/-- The two halves of the sum. -/
theorem halves (g : Fin 2048 → EReal) : (∑ k, g (half 0 k)) + ∑ k, g (half 1 k) = ∑ k, g k := by
  refine Eq.trans ?_ (Fin.sum_univ_add (a := 1024) (b := 1024) g).symm
  refine congrArg₂ (· + ·) (Finset.sum_congr rfl fun k _ => congrArg g (Fin.ext ?_)) (Finset.sum_congr rfl fun k _ => congrArg g (Fin.ext ?_))
  · show 1024 * 0 + k.val = k.val
    omega
  · show 1024 * 1 + k.val = 1024 + k.val
    omega

/-- The first half of the sum, as the point before leaves it. -/
theorem first (c : Dev nD) (t : Fin cfg0.N) (ht : t.val % 2 = 1) (n : Fin 1024) (f : Fin 1408) :
    (show FVec Ideal S1024x1408 .f32 from (outsAt0 m c (t.val - 1) (Nat.lt_of_le_of_lt (Nat.sub_le _ _) t.isLt)).2.2) (ix2 n f)
      = ∑ k, dA m c (ix2 (row t n) (half 0 k)) * wA m c (ix2 (col t f) (half 0 k)) := by
  have hl : t.val - 1 < cfg0.N := Nat.lt_of_le_of_lt (Nat.sub_le _ _) t.isLt
  rw [outsAt0_A m c ⟨t.val - 1, hl⟩ (by show (t.val - 1) % 2 = 0; omega) (by show ¬ (t.val - 1) % 2 = 1; omega)]
  frame_out
  refine (p1 _ _ n f).trans (Finset.sum_congr rfl fun k _ => ?_)
  refine congrArg₂ (· * ·) ((b0 m c ⟨t.val - 1, hl⟩ n k).trans (congrArg _ (congrArg₂ ix2 (Fin.ext ?_) (Fin.ext ?_)))) ((b1 m c ⟨t.val - 1, hl⟩ f k).trans (congrArg _ (congrArg₂ ix2 (Fin.ext ?_) (Fin.ext ?_))))
  · show 1024 * ((t.val - 1) / 8) + n.val = 1024 * (t.val / 8) + n.val
    omega
  · show 1024 * ((t.val - 1) % 2) + k.val = 1024 * 0 + k.val
    omega
  · show 1408 * ((t.val - 1) / 2 % 4) + f.val = 1408 * (t.val / 2 % 4) + f.val
    omega
  · show 1024 * ((t.val - 1) % 2) + k.val = 1024 * 0 + k.val
    omega

/-- The whole sum at the second point. -/
theorem whole (c : Dev nD) (t : Fin cfg0.N) (ht : t.val % 2 = 1) (n : Fin 1024) (f : Fin 1408) :
    (show FVec Ideal S1024x1408 .f32 from (outsAt0 m c (t.val - 1) (Nat.lt_of_le_of_lt (Nat.sub_le _ _) t.isLt)).2.2) (ix2 n f)
      + ∑ k, (show FVec Ideal S1024x1024 .bf16 from iblk m c 0 t) (ix2 n k) * (show FVec Ideal S1x1x1408x1024 .bf16 from iblk m c 1 t) (ix4 0 0 f k)
      = df m c (row t n) (col t f) := by
  rw [first m c t ht]
  refine Eq.trans (congrArg₂ (· + ·) rfl (Finset.sum_congr rfl fun k _ => ?_)) (halves fun k => dA m c (ix2 (row t n) k) * wA m c (ix2 (col t f) k))
  have e : (⟨1024 * (t.val % 2) + k.val, by omega⟩ : Fin 2048) = half 1 k := Fin.ext (by show 1024 * (t.val % 2) + k.val = 1024 * 1 + k.val; omega)
  rw [b0, b1, e]

variable {c : Dev nD} {b : S2048x5632.Idx → ℝ} {w : S5632x2048.Idx → ℝ} {d : S2048x2048.Idx → ℝ}

theorem df_real (hw : wA m c = fun i => (w i : EReal)) (hd : dA m c = fun i => (d i : EReal)) (r : Fin 2048) (f : Fin 5632) :
    ∃ v : ℝ, df m c r f = (v : EReal) := by
  refine ⟨∑ k, d (ix2 r k) * w (ix2 f k), ?_⟩
  unfold df
  rw [hw, hd]
  simp only [← EReal.coe_mul, sum_coe]

theorem out4 (hb : bA m c = fun i => (b i : EReal)) (hw : wA m c = fun i => (w i : EReal)) (hd : dA m c = fun i => (d i : EReal))
    (t : Fin cfg0.N) (ht : t.val % 2 = 1) (y : S1024x1408.Idx) :
    k0_pay6 (F := Ideal) (iblk m c 0 t) (iblk m c 1 t) (outsAt0 m c (t.val - 1) (Nat.lt_of_le_of_lt (Nat.sub_le _ _) t.isLt)).2.2 (iblk m c 2 t) (iblk m c 3 t) y
      = ref4 m c (((cfg0.win 4).blk t).view.emb y) := by
  rw [eq_ix2 y]
  refine (p6 _ _ _ _ _ _ _).trans ?_
  refine Eq.trans ?_ (((r4 m c (row t (y 0)) (col t (y 1))).symm).trans (congrArg _ ?_))
  · obtain ⟨v, e⟩ := df_real m hw hd (row t (y 0)) (col t (y 1))
    refine (congrArg₂ (· * ·) (congrArg₂ (· * ·) (whole m c t ht _ _) (b3 m c t _ _)) (congrArg₂ (· * ·) (congrArg sg (b2 m c t _ _)) (congrArg (1 + ·) (congrArg₂ (· * ·) (b2 m c t _ _) (congrArg (1 - sg ·) (b2 m c t _ _)))))).trans ?_
    rw [e, hb]
    exact regroup _ _ _
  · blk_ext [idx t]
    · show 1024 * (t.val / 8) + _ = _
      omega
    · show 1408 * (t.val / 2 % 4) + _ = _
      omega
theorem out5 (t : Fin cfg0.N) (ht : t.val % 2 = 1) (y : S1024x1408.Idx) :
    k0_pay7 (F := Ideal) (iblk m c 0 t) (iblk m c 1 t) (outsAt0 m c (t.val - 1) (Nat.lt_of_le_of_lt (Nat.sub_le _ _) t.isLt)).2.2 (iblk m c 2 t) y
      = ref5 m c (((cfg0.win 5).blk t).view.emb y) := by
  rw [eq_ix2 y]
  refine (p7 _ _ _ _ _ _).trans ?_
  refine Eq.trans ?_ (((r5 m c (row t (y 0)) (col t (y 1))).symm).trans (congrArg _ ?_))
  · refine (congrArg₂ (· * ·) (whole m c t ht _ _) (congrArg₂ (· * ·) (b2 m c t _ _) (congrArg sg (b2 m c t _ _)))).trans ?_
    exact mul_comm _ _
  · blk_ext [idx t]
    · show 1024 * (t.val / 8) + _ = _
      omega
    · show 1408 * (t.val / 2 % 4) + _ = _
      omega

theorem odd4 : ∀ t : Fin cfg0.N, (cfg0.win 4).flush t = true → t.val % 2 = 1 := (by decide +kernel : ∀ t : Fin grid0.N, _)
theorem odd5 : ∀ t : Fin cfg0.N, (cfg0.win 5).flush t = true → t.val % 2 = 1 := (by decide +kernel : ∀ t : Fin grid0.N, _)

theorem final4 (hb : bA m c = fun i => (b i : EReal)) (hw : wA m c = fun i => (w i : EReal)) (hd : dA m c = fun i => (d i : EReal)) :
    (dats m 0 c).arrAt 4 (cfgs 0).N = ref4 m c := by
  refine (dats m 0 c).arrAt_eq_of_covers 4 _ (by decide +kernel) fun t hf y => ?_
  have h1 := odd4 t hf
  blk_simp
  rw [after0_4, outsAt0_B m c t (by omega) h1]; frame_out
  rw [read_unread_whole]
  exact out4 m hb hw hd t h1 y
theorem final5 : (dats m 0 c).arrAt 5 (cfgs 0).N = ref5 m c := by
  refine (dats m 0 c).arrAt_eq_of_covers 5 _ (by decide +kernel) fun t hf y => ?_
  have h1 := odd5 t hf
  blk_simp
  rw [after0_5, outsAt0_B m c t (by omega) h1]; frame_out
  rw [read_unread_whole]
  exact out5 m t h1 y

end Cert.SwiIdeal.Arr

end
-- ==== Proof.SwiClaim.lean ====
/- The claims on the gradient of the gated product: the runs of the call and of the reference, side by side. -/
module

public import proofs.«01_k».proof.Proof.SwiValue
public import proofs.«01_k».proof.Proof.Gen.Swi.Frame
public import proofs.«01_k».proof.Proof.Gen.SwiRefIdeal.Run
public import proofs.«01_k».proof.Proof.Gen.Pre_finite_swi
public import proofs.«01_k».proof.Proof.Real
public import Idealize.ShloMosaic.Lib.Claim

public import proofs.«01_k».proof.Defs

@[expose] public section

set_option maxRecDepth 16384

noncomputable section

open Idealize.ShloMosaic Idealize.ShloMosaic.TcCoe Idealize.SL.Sem
open Idealize.ShloMosaic.Pipeline (Dat)

namespace Cert.Swish
open Cert.SwiIdeal

instance : Subsingleton Cert.Pre_finite_swi.S_.Idx := ⟨fun a b => funext fun d => d.elim0⟩

/-- What the precondition says: the factor, the weight and the cotangent are arrays of real numbers. -/
theorem reals (a : FVec Ideal S2048x5632 .f32) (b : FVec Ideal S2048x5632 .f32) (w : FVec Ideal S5632x2048 .f32) (d : FVec Ideal S2048x2048 .f32)
    (e : Cert.Pre_finite_swi.fn (F := Ideal) a b w d = fun _ => 1#1) :
    (∃ f : S2048x5632.Idx → ℝ, b = fun i => (f i : EReal)) ∧ (∃ f : S5632x2048.Idx → ℝ, w = fun i => (f i : EReal)) ∧ (∃ f : S2048x2048.Idx → ℝ, d = fun i => (f i : EReal)) := by
  have e1 := congrFun e (fun d => d.elim0)
  obtain ⟨e1, e3⟩ := IntOp.andi_eq_one.1 e1
  obtain ⟨e1, e2⟩ := IntOp.andi_eq_one.1 e1
  exact ⟨Cert.Fin.reals_of_all _ _ (fun _ => rfl) _ _ _ _ e1, Cert.Fin.reals_of_all _ _ (fun _ => rfl) _ _ _ _ e2, Cert.Fin.reals_of_all _ _ (fun _ => rfl) _ _ _ _ e3⟩

theorem algebraic_swi : Cert.algebraic_SwiIdeal_SwiRefIdeal_pre_finite_swi (hSwiIdeal := Cert.SwiIdeal.Gen.facts)
    (hSwiRefIdeal := Cert.SwiRefIdeal.Gen.facts) (hPre_finite_swi := Cert.Pre_finite_swi.Gen.facts) := by
  intro m g m' g' hpre hag
  refine ⟨fun c => Arr.ref4 m c, fun c => Arr.ref5 m c, ?_, ?_⟩
  · refine (θ_run _ _ _).mono (fun r h c => ?_) (Cert.SwiIdeal.Value.run_blocks m g)
    obtain ⟨h0, h1, hr⟩ := h c
    obtain ⟨⟨b, kb⟩, ⟨w, kw⟩, ⟨d, kd⟩⟩ := reals _ _ _ _ (hpre c)
    exact ⟨h0.trans (Arr.final4 m kb kw kd), h1.trans (Arr.final5 m), hr⟩
  · refine (θ_run _ _ _).mono (fun r h c => ?_) (Cert.SwiRefIdeal.Value.run m' g')
    obtain ⟨h0, h1, hr⟩ := h c
    obtain ⟨e0, e1, e2, e3⟩ := hag c
    replace h0 : _ = Cert.SwiRefIdeal.Read.val_main_v7 (F := Ideal) (m' ((c : Thread Cert.SwiRefIdeal.nD Cert.SwiRefIdeal.τ).loc Cert.SwiRefIdeal.main_arg0)) (m' ((c : Thread Cert.SwiRefIdeal.nD Cert.SwiRefIdeal.τ).loc Cert.SwiRefIdeal.main_arg1)) (m' ((c : Thread Cert.SwiRefIdeal.nD Cert.SwiRefIdeal.τ).loc Cert.SwiRefIdeal.main_arg2)) (m' ((c : Thread Cert.SwiRefIdeal.nD Cert.SwiRefIdeal.τ).loc Cert.SwiRefIdeal.main_arg3)) := h0.trans (Cert.SwiRefIdeal.Read.val_main_v7_eq _ _ _ _)
    rw [e0, e1, e2, e3] at h0
    replace h1 : _ = Cert.SwiRefIdeal.Read.val_main_v8 (F := Ideal) (m' ((c : Thread Cert.SwiRefIdeal.nD Cert.SwiRefIdeal.τ).loc Cert.SwiRefIdeal.main_arg0)) (m' ((c : Thread Cert.SwiRefIdeal.nD Cert.SwiRefIdeal.τ).loc Cert.SwiRefIdeal.main_arg2)) (m' ((c : Thread Cert.SwiRefIdeal.nD Cert.SwiRefIdeal.τ).loc Cert.SwiRefIdeal.main_arg3)) := h1.trans (Cert.SwiRefIdeal.Read.val_main_v8_eq _ _ _)
    rw [e0, e2, e3] at h1
    exact ⟨h0, h1, hr⟩

/-- The reference is host operations only: it terminates, leaves its arguments unchanged and has no counter. -/
theorem frame_swi_ref : Cert.quiescent_SwiRefIdeal (hSwiRefIdeal := Cert.SwiRefIdeal.Gen.facts) := fun m ρ _ =>
  (θ_run _ _ _).mono (fun r h => ⟨fun c => (h c).2.2, sem_eq_zero_of_no_sems rfl _⟩) (Cert.SwiRefIdeal.Value.run m ρ)

end Cert.Swish

end
-- ==== Proof.GmlpFValue.lean ====
/- The gated mixing layer, kernel and plain formula, as functions of the same rows. -/
module

public import proofs.«01_k».proof.Proof.Gen.GmlpFIdeal.Frame
public import proofs.«01_k».proof.Proof.Gen.GmlpFRefIdeal.Read
public import proofs.«01_k».proof.Proof.GmlpPay
public import proofs.«01_k».proof.Proof.GmlpRefVal
public import proofs.«01_k».proof.Proof.Real
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Gm
open Cert.Fin

/-- The layer on one chunk of rows, entry by entry on the extended reals. -/
def geX (x : EReal) : EReal := (1 / 2 : ℝ) * x * (1 + Ideal.tanh (gc * (x + q * (x * x * x))))
section
variable (z : Fin 128 → Fin 4096 → EReal) (g b : Fin 2048 → EReal) (w : Fin 16 → Fin 128 → Fin 128 → EReal) (bs : Fin 16 → Fin 128 → EReal)
def vX (t : Fin 128) (k : Fin 2048) : EReal := geX (z t (hi k))
def vcX (t : Fin 128) (k : Fin 2048) : EReal := vX z t k - Ideal.div (∑ j, vX z t j) (2048 : ℝ)
def rsX (t : Fin 128) : EReal := Ideal.rsqrt (Ideal.div (∑ k, vcX z t k * vcX z t k) (2048 : ℝ) + (eps : ℝ))
def vnX (t : Fin 128) (k : Fin 2048) : EReal := vcX z t k * rsX z t * g k + b k
def wcX (h : Fin 16) (t s : Fin 128) : EReal := if s.val ≤ t.val then w h t s else 0
def svX (h : Fin 16) (t : Fin 128) (k : Fin 2048) : EReal := (∑ s, wcX w h t s * vnX z g b s k) + bs h t
def mX (t : Fin 128) (k : Fin 2048) : EReal := geX (z t (lo k)) * svX z g b w bs (hd k) t k
end
theorem mX_eq {z : Fin 128 → Fin 4096 → EReal} {g b : Fin 2048 → EReal} {w : Fin 16 → Fin 128 → Fin 128 → EReal} {bs : Fin 16 → Fin 128 → EReal} {t : Fin 128} {h : Fin 16} {j k : Fin 2048} (e : k.val = j.val) (eh : hd j = h) :
    geX (z t (lo j)) * ((∑ s, wcX w h t s * vnX z g b s j) + bs h t) = mX z g b w bs t k := by
  subst eh; obtain rfl : k = j := Fin.ext e; rfl

end Cert.Gm

namespace Cert.GmlpFRefIdeal.Val
open Cert.GmlpFRefIdeal Cert.GmlpFRefIdeal.Read
open Cert.Fin Cert.Gm
open Cert.GmlpRefIdeal.Val (row_of col_of row_div row_mod sge_ofNat)
variable (x0 : FVec Ideal S2048x4096 .f32) (x1 x2 : FVec Ideal S1x2048 .f32) (x3 : FVec Ideal S1x16x128x128 .f32) (x4 : FVec Ideal S1x16x128 .f32)

/-- The arrays by chunk, column and head. -/
abbrev zc (n : Fin 16) (t : Fin 128) (k : Fin 4096) : EReal := x0 (ix2 (row n t) k)
abbrev vec (x : FVec Ideal S1x2048 .f32) (k : Fin 2048) : EReal := x (ix2 0 k)
abbrev wm (h : Fin 16) (t s : Fin 128) : EReal := x3 (ix4 0 h t s)
abbrev bm (h : Fin 16) (t : Fin 128) : EReal := x4 (ix3 0 h t)

theorem q_div : Ideal.div ((44715 : ℝ) : EReal) ((1000000 : ℝ) : EReal) = (q : EReal) := by
  simp (disch := norm_num) only [div_coe, Cert.GmlpRefIdeal.Val.q_eq]
theorem ge_at (r : Fin 2048) (k : Fin 4096) : val_main_v17 (F := Ideal) x0 (ix2 r k) = geX (x0 (ix2 r k)) := by
  pointwise [val_main_v17, val_main_v16, val_main_v15, val_main_v14, val_main_v13, val_main_v12, val_main_v11, val_main_v10, val_main_v9, val_main_v8, val_main_v7, val_main_v6, val_main_v5, val_main_v4, val_main_cst, val_main_cst_0, val_main_cst_1, val_main_cst_2, val_main_cst_3]
  simp only [lit_gc, lit_num, lit_den, lit_half, q_div]
  unfold geX
  rw [mul_comm (((1 / 2 : ℝ) : EReal)) (x0 _)]
  exact (mul_assoc _ _ _).symm
theorem v_at (n : Fin 16) (t : Fin 128) (k : Fin 2048) : val_main_v19 (F := Ideal) x0 (ix2 (row n t) k) = vX (zc x0 n) t k := by
  pointwise [val_main_v19]
  refine (congrArg (val_main_v17 (F := Ideal) x0) (?_ : _ = ix2 (row n t) (hi k))).trans (ge_at x0 _ _)
  blk_ext [hi]
theorem u_at (n : Fin 16) (t : Fin 128) (k : Fin 2048) : val_main_v18 (F := Ideal) x0 (ix2 (row n t) k) = geX (zc x0 n t (lo k)) := by
  pointwise [val_main_v18]
  refine (congrArg (val_main_v17 (F := Ideal) x0) (?_ : _ = ix2 (row n t) (lo k))).trans (ge_at x0 _ _)
  blk_ext [lo]
theorem vc_at (n : Fin 16) (t : Fin 128) (k : Fin 2048) : val_main_v25 (F := Ideal) x0 (ix2 (row n t) k) = vcX (zc x0 n) t k := by
  pointwise [val_main_v25, val_main_v24, val_main_v23, val_main_v22, val_main_v21, val_main_v20, val_main_cst_4, val_main_cst_5]
  simp only [v_at, lit_2048]
  rfl
theorem vn_at (n : Fin 16) (t : Fin 128) (k : Fin 2048) : val_main_v41 (F := Ideal) x0 x1 x2 (ix2 (row n t) k) = vnX (zc x0 n) (vec x1) (vec x2) t k := by
  pointwise [val_main_v41, val_main_v40, val_main_v39, val_main_v38, val_main_v37, val_main_v36, val_main_v35, val_main_v34, val_main_v33, val_main_v32, val_main_v31, val_main_v30, val_main_v29, val_main_v28, val_main_v27, val_main_v26, val_main_cst_6, val_main_cst_7, val_main_cst_8, val_main_v0, val_main_v1]
  simp only [vc_at, lit_2048, lit_eps]
  rfl
theorem wc_at (h : Fin 16) (t s : Fin 128) : val_main_v46 (F := Ideal) x3 (ix3 h t s) = wcX (wm x3) h t s := by
  pointwise [val_main_v46, val_main_call1_v0, val_main_v44, val_main_v43, val_main_c, val_main_call0_v5, val_main_call0_c_0, val_main_call0_v4, val_main_call0_v3, val_main_call0_v2, val_main_call0_v1, val_main_call0_v0, val_main_call0_c, val_main_v45, val_main_cst_9, val_main_v2]
  rw [show IntOp.addi (BitVec.ofNat 32 t.val) 0#32 = BitVec.ofNat 32 t.val from BitVec.add_zero _, sge_ofNat (by omega) (by omega)]
  unfold wcX
  split
  case isTrue e => rw [decide_eq_true e]; rfl
  case isFalse e => rw [decide_eq_false e]; rfl
theorem s_at (n : Fin 16) (t : Fin 128) (h : Fin 16) (d : Fin 128) :
    val_main_v53 (F := Ideal) x0 x1 x2 x3 x4 (ix4 n t h d) = svX (zc x0 n) (vec x1) (vec x2) (wm x3) (bm x4) h t (col h d) := by
  pointwise [val_main_v53, val_main_v52, val_main_v51, val_main_v50, val_main_v49, val_main_v3, val_main_v48, val_main_v47, val_main_v42]
  simp only [row_of, col_of, vn_at, wc_at]
  refine congrArg (· + _) (Finset.sum_congr rfl fun s _ => mul_comm _ _)
theorem m_at (n : Fin 16) (t : Fin 128) (k : Fin 2048) :
    val_main_v56 (F := Ideal) x0 x1 x2 x3 x4 (ix2 (row n t) k) = mX (zc x0 n) (vec x1) (vec x2) (wm x3) (bm x4) t k := by
  pointwise [val_main_v56, val_main_v55, val_main_v54]
  rw [row_div, row_mod, u_at]
  exact congrArg _ ((s_at x0 x1 x2 x3 x4 n t (hd k) (ln k)).trans (by rw [col_hd]))

end Cert.GmlpFRefIdeal.Val

namespace Cert.GmlpFIdeal.Arr
open Cert.GmlpFIdeal Cert.GmlpFIdeal.Gen
open Cert.Fin Cert.Gm
open Cert.GmlpFRefIdeal.Val (zc vec wm bm)
variable {x0 : FVec Ideal S128x4096 .f32} {x1 x2 : FVec Ideal S1x2048 .f32} {x3 : FVec Ideal S16x128x128 .f32} {x4 : FVec Ideal S128x16 .f32}

theorem cube : Named.named (F := Ideal) Cert.GmlpFIdeal.κ "cube" (φ := .f32) 0x3D372713#32 = ((q : ℝ) : EReal) :=
  IdealRules.named_const.ideal_named_scalar _ _ _ _ rfl
theorem u_at (t : Fin 128) (k : Fin 2048) : k0_pay8 (F := Ideal) x0 (ix2 t k) = geX (x0 (ix2 t (lo k))) := by
  pointwise [k0_pay8]
  simp only [cube, lit_half, lit_gc]
  rw [show (ix2 t (lo k) : S128x4096.Idx) = ix2 t ⟨k.val, (lo k).isLt⟩ from rfl]
  rfl
theorem v_at (t : Fin 128) (k : Fin 2048) : k0_pay9 (F := Ideal) x0 (ix2 t k) * (k0_pay11 (F := Ideal) (ix2 t k) + k0_pay10 (F := Ideal) x0 (ix2 t k)) = vX (fun t k => x0 (ix2 t k)) t k := by
  pointwise [k0_pay9, k0_pay10, k0_pay11, k0_pay7]
  simp only [cube, lit_half, lit_gc]
  rfl
theorem vn_at (t : Fin 128) (k : Fin 2048) : k0_pay12 (F := Ideal) x1 x2 (k0_pay9 (F := Ideal) x0) (k0_pay10 (F := Ideal) x0) (k0_pay11 (F := Ideal)) (ix2 t k) = vnX (fun t k => x0 (ix2 t k)) (vec x1) (vec x2) t k := by
  pointwise [k0_pay12]
  simp only [v_at, lit_2048, lit_eps]
  rfl
theorem wc_at (h : Fin 16) (t s : Fin 128) : k0_pay5 (F := Ideal) x3 (ix3 h t s) = wcX (fun h t s => x3 (ix3 h t s)) h t s := by
  pointwise [k0_pay5]
  rw [Cert.GmlpIdeal.Pay.mask]
  rfl

theorem idx : ∀ t : Fin cfg0.N, win0_0.index t = ![t.val, 0] ∧ win0_1.index t = ![0, 0] ∧ win0_2.index t = ![0, 0] ∧ win0_3.index t = ![0, 0, 0] ∧ win0_4.index t = ![0, 0] ∧ win0_5.index t = ![t.val, 0] :=
  (by decide +kernel : ∀ t : Fin grid0.N, _)

variable (m : (ℓ : Loc nD τ sig) → Buf (Elt Ideal) ℓ)
abbrev zA (c : Dev nD) : FVec Ideal S2048x4096 .f32 := m ((c.tc : Thread nD τ).loc main_arg0)
abbrev gA (c : Dev nD) : FVec Ideal S1x2048 .f32 := m ((c.tc : Thread nD τ).loc main_arg1)
abbrev bA (c : Dev nD) : FVec Ideal S1x2048 .f32 := m ((c.tc : Thread nD τ).loc main_arg2)
abbrev wA (c : Dev nD) : FVec Ideal S1x16x128x128 .f32 := m ((c.tc : Thread nD τ).loc main_arg3)
abbrev sA (c : Dev nD) : FVec Ideal S1x16x128 .f32 := m ((c.tc : Thread nD τ).loc main_arg4)
abbrev ref5 (c : Dev nD) := Cert.GmlpFRefIdeal.Read.val_main_v56 (F := Ideal) (zA m c) (gA m c) (bA m c) (wA m c) (sA m c)

/-- The sixteen stores of one body are the layer on its rows. -/
theorem m_out (y : S128x2048.Idx) : (show FVec Ideal S128x2048 .bf16 from out0_5 (F := Ideal) x0 x1 x2 x3 x4) y
    = mX (fun t k => x0 (ix2 t k)) (vec x1) (vec x2) (fun h t s => x3 (ix3 h t s)) (fun h t => x4 (ix2 t h)) (y 0) (y 1) := by
  unfold_out out0_5; frame_out
  canon_tiles x e using View.cover_of_tiledBy _ ![128, 128] (by sl_kernel_rfl) _
  all_goals
    obtain ⟨a, d, rfl⟩ : ∃ a d, x = ix2 a d := ⟨x 0, x 1, eq_ix2 x⟩
    pointwise [k0_pay1, k0_pay2, k0_pay3, k0_pay4, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay6]
    simp only [wc_at, vn_at, u_at]
    obtain rfl : y 0 = a := Fin.ext e0
    refine mX_eq (z := fun t k => x0 (ix2 t k)) (g := vec x1) (b := vec x2) (w := fun h t s => x3 (ix3 h t s)) (bs := fun h t => x4 (ix2 t h)) (t := y 0) (k := y 1) ?_ ?_
    · first | exact e1 | exact e1.trans (by simp [col])
    · first | exact hd_col _ d | exact Fin.ext (by simp only [hd]; omega)

open Cert.GmlpFRefIdeal.Val (m_at) in
theorem final5 (c : Dev nD) : (dats m 0 c).arrAt 5 (cfgs 0).N = ref5 m c := by
  refine (dats m 0 c).arrAt_eq_of_covers 5 _ (by decide +kernel) fun t _ y => ?_
  blk_simp
  rw [after0_5]
  refine (m_out _).trans ?_
  have ht : t.val < 16 := lt_of_lt_of_eq t.isLt N_0
  refine Eq.trans ?_ ((m_at (zA m c) (gA m c) (bA m c) (wA m c) (sA m c) ⟨t.val, ht⟩ (y 0) (y 1)).symm.trans (congrArg _ ?_))
  · congr 1
    · funext n k
      rw [zc, show row ⟨t.val, ht⟩ n = ⟨128 * t.val + n.val, (row ⟨t.val, ht⟩ n).isLt⟩ from rfl]
      blk_point [iblk, V_main_arg0, idx t]
    · funext k; rw [vec, vec]; blk_point [iblk, V_main_arg1, idx t]
    · funext k; rw [vec, vec]; blk_point [iblk, V_main_arg2, idx t]
    · funext h n s
      rw [wm]
      blk_simp [iblk, idx t]
      entry_read
      pointwise
      blk_point [idx t]
    · funext h n
      rw [bm]
      blk_simp [iblk, idx t]
      entry_read
      pointwise
      blk_point [idx t]
  · rw [show row ⟨t.val, ht⟩ (y 0) = ⟨128 * t.val + (y 0).val, (row ⟨t.val, ht⟩ (y 0)).isLt⟩ from rfl]
    blk_ext [idx t]

/-- The run with the array it leaves named and its arguments as they were. -/
theorem run_named (ρ : Dev nD → PrngReg) : θ_run defs (onTc (τ := τ) (main (F := Ideal))) ⟨m, fun _ => 0, ρ⟩ fun r => ∀ c : Dev nD,
    r.2.mem ((c : Thread nD τ).loc main_v3) = ref5 m c
    ∧ r.2.mem ((c : Thread nD τ).loc main_arg0) = zA m c ∧ r.2.mem ((c : Thread nD τ).loc main_arg1) = gA m c
    ∧ r.2.mem ((c : Thread nD τ).loc main_arg2) = bA m c ∧ r.2.mem ((c : Thread nD τ).loc main_arg3) = wA m c
    ∧ r.2.mem ((c : Thread nD τ).loc main_arg4) = sA m c := by
  refine (θ_run defs _ _).mono (fun r h c => ?_) (run_main m ρ)
  have kept : ∀ w : Fin 3, r.2.mem ((c : Thread nD τ).loc (Pipeline.arrRef spec0 (w.castLE (by decide)))) = V m c (Pipeline.arrRef spec0 (w.castLE (by decide))) :=
    fun w => ((h c).1 _).trans (((dats m 0 c).arrAt_in _ (by fin_cases w <;> rfl) _).trans (A_eq m c _))
  exact ⟨((h c).1 5).trans (final5 m c), (kept 0).trans (V_main_arg0 m c), (kept 1).trans (V_main_arg1 m c), (kept 2).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩

end Cert.GmlpFIdeal.Arr

end
-- ==== Proof.RmsFValue.lean ====
/- The norm of a row times its gain, kernel and plain formula. -/
module

public import proofs.«01_k».proof.Proof.Gen.RmsFIdeal.Value
public import proofs.«01_k».proof.Proof.Gen.RmsFRefIdeal.Read
public import proofs.«01_k».proof.Proof.Real
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.RmsFIdeal.Arr
open Cert.RmsFIdeal Cert.RmsFIdeal.Gen
open Cert.Fin

/-- A row divided by its root mean square, times the gain. -/
def nX (x g : Fin 2048 → EReal) (k : Fin 2048) : EReal :=
  x k * Ideal.rsqrt (Ideal.div (∑ j, x j * x j) (2048 : ℝ) + (eps : ℝ)) * g k

theorem ref_at (x0 : FVec Ideal S2048x2048 .f32) (x1 : FVec Ideal S1x2048 .f32) (r k : Fin 2048) :
    Cert.RmsFRefIdeal.Read.val_main_v14 (F := Ideal) x0 x1 (ix2 r k) = nX (fun k => x0 (ix2 r k)) (fun k => x1 (ix2 0 k)) k := by
  open Cert.RmsFRefIdeal.Read in
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  simp only [lit_2048, lit_eps]
  rfl
theorem pay_at (x0 : FVec Ideal S512x2048 .f32) (x1 : FVec Ideal S1x2048 .f32) (r : Fin 512) (k : Fin 2048) :
    k0_pay1 (F := Ideal) x0 x1 (ix2 r k) = nX (fun k => x0 (ix2 r k)) (fun k => x1 (ix2 0 k)) k := by
  pointwise [k0_pay1]
  simp only [lit_2048, lit_eps]
  rfl

theorem idx : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ)
abbrev xA (c : Dev nD) : FVec Ideal S2048x2048 .f32 := m ((c.tc : Thread nD τ).loc main_arg0)
abbrev gA (c : Dev nD) : FVec Ideal S1x2048 .f32 := m ((c.tc : Thread nD τ).loc main_arg1)
abbrev ref2 (c : Dev nD) := Cert.RmsFRefIdeal.Read.val_main_v14 (F := Ideal) (xA m c) (gA m c)

theorem final2 (c : Dev nD) : (dats m 0 c).arrAt 2 (cfgs 0).N = ref2 m c := by
  refine (dats m 0 c).arrAt_eq_of_covers 2 _ (by decide +kernel) fun t _ y => ?_
  blk_simp
  rw [after0_2]
  frame_out
  have ht : t.val < 4 := lt_of_lt_of_eq t.isLt N_0
  have e : (y : S512x2048.Idx) = ix2 (y 0) (y 1) := eq_ix2 y
  have hr : 512 * t.val + (y 0).val < 2048 := by have := (y 0).isLt; have : (y 0).val < 512 := this; omega
  refine (congrArg _ e).trans ((pay_at _ _ (y 0) (y 1)).trans (Eq.trans ?_ ((ref_at (xA m c) (gA m c) ⟨512 * t.val + (y 0).val, hr⟩ (y 1)).symm.trans (congrArg _ ?_))))
  · congr 1
    · funext k; blk_point [iblk, V_main_arg0, idx t]
    · funext k; blk_point [iblk, V_main_arg1, idx t]
  · blk_ext [idx t]

end Cert.RmsFIdeal.Arr

end
-- ==== Proof.PrepFValue.lean ====
/- The discretisation of the states, kernel and plain formula. -/
module

public import proofs.«01_k».proof.Proof.Gen.PrepFIdeal.Value
public import proofs.«01_k».proof.Proof.Gen.PrepFRefIdeal.Read
public import proofs.«01_k».proof.Proof.Real
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.PrepFIdeal.Arr
open Cert.PrepFIdeal Cert.PrepFIdeal.Gen Cert.PrepFRefIdeal.Read
open Cert.Fin

section Pay
variable {x0 x1 : FVec Ideal S64x128 .f32} {x2 : FVec Ideal S1x128 .f32} {x3 x4 : FVec Ideal S64x16x128 .f32}
  {X2 : FVec Ideal S1x128 .f32} {X0 X1 : FVec Ideal S1x128x64 .f32} {X3 X4 : FVec Ideal S1x128x64x16 .f32}
variable (h0 : ∀ p g, x0 (ix2 p g) = X0 (ix3 0 g p)) (h2 : x2 = X2) (h1 : ∀ p g, x1 (ix2 p g) = X1 (ix3 0 g p))
  (h3 : ∀ p j g, x3 (ix3 p j g) = X3 (ix4 0 g p j)) (h4 : ∀ p j g, x4 (ix3 p j g) = X4 (ix4 0 g p j))
include h0 h1 h2
theorem re_at (p : Fin 64) (g : Fin 128) : k0_pay7 (F := Ideal) x0 x1 x2 (ix2 p g) = val_main_v48 (F := Ideal) X0 X1 X2 (ix2 p g) := by
  subst h2
  pointwise [k0_pay1, k0_pay2, k0_pay3, k0_pay4, k0_pay5, k0_pay6, k0_pay7, k0_pay8, k0_pay9, k0_pay10, k0_pay11, k0_pay12, k0_pay13, k0_pay14, k0_pay15, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_cst, val_main_cst_0]
  simp only [h0, h1]
theorem im_at (p : Fin 64) (g : Fin 128) : k0_pay8 (F := Ideal) x0 x1 x2 (ix2 p g) = val_main_v49 (F := Ideal) X0 X1 X2 (ix2 p g) := by
  subst h2
  pointwise [k0_pay1, k0_pay2, k0_pay3, k0_pay4, k0_pay5, k0_pay6, k0_pay7, k0_pay8, k0_pay9, k0_pay10, k0_pay11, k0_pay12, k0_pay13, k0_pay14, k0_pay15, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_cst, val_main_cst_0]
  simp only [h0, h1]
include h3 h4
theorem bre_at (p : Fin 64) (j : Fin 16) (g : Fin 128) : k0_pay15 (F := Ideal) x0 x1 x2 x3 x4 (ix3 p j g) = val_main_v50 (F := Ideal) X0 X1 X2 X3 X4 (ix3 p j g) := by
  subst h2
  pointwise [k0_pay1, k0_pay2, k0_pay3, k0_pay4, k0_pay5, k0_pay6, k0_pay7, k0_pay8, k0_pay9, k0_pay10, k0_pay11, k0_pay12, k0_pay13, k0_pay14, k0_pay15, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_cst, val_main_cst_0]
  simp only [h0, h1, h3, h4]
theorem bim_at (p : Fin 64) (j : Fin 16) (g : Fin 128) : k0_pay1 (F := Ideal) (k0_pay11 (F := Ideal) x0 x1 x2) (k0_pay12 (F := Ideal) x0 x1 x2) (k0_pay13 (F := Ideal) x3) (k0_pay14 (F := Ideal) x4) (ix3 p j g)
    = val_main_v51 (F := Ideal) X0 X1 X2 X3 X4 (ix3 p j g) := by
  subst h2
  pointwise [k0_pay1, k0_pay2, k0_pay3, k0_pay4, k0_pay5, k0_pay6, k0_pay7, k0_pay8, k0_pay9, k0_pay10, k0_pay11, k0_pay12, k0_pay13, k0_pay14, k0_pay15, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_cst, val_main_cst_0]
  simp only [h0, h1, h3, h4]
end Pay

theorem idx : ∀ t : Fin cfg0.N, win0_0.index t = ![0, 0] ∧ win0_1.index t = ![0, 0] ∧ win0_2.index t = ![0, 0] ∧ win0_3.index t = ![0, 0, 0] ∧ win0_4.index t = ![0, 0, 0]
    ∧ win0_5.index t = ![0, 0] ∧ win0_6.index t = ![0, 0] ∧ win0_7.index t = ![0, 0, 0] ∧ win0_8.index t = ![0, 0, 0] :=
  (by decide +kernel : ∀ t : Fin grid0.N, _)

variable (m : (ℓ : Loc nD τ sig) → Buf (Elt Ideal) ℓ)
abbrev a0 (c : Dev nD) : FVec Ideal S1x128x64 .f32 := m ((c.tc : Thread nD τ).loc main_arg0)
abbrev a1 (c : Dev nD) : FVec Ideal S1x128x64 .f32 := m ((c.tc : Thread nD τ).loc main_arg1)
abbrev a2 (c : Dev nD) : FVec Ideal S1x128 .f32 := m ((c.tc : Thread nD τ).loc main_arg2)
abbrev a3 (c : Dev nD) : FVec Ideal S1x128x64x16 .f32 := m ((c.tc : Thread nD τ).loc main_arg3)
abbrev a4 (c : Dev nD) : FVec Ideal S1x128x64x16 .f32 := m ((c.tc : Thread nD τ).loc main_arg4)
abbrev ref5 (c : Dev nD) := val_main_v48 (F := Ideal) (a0 m c) (a1 m c) (a2 m c)
abbrev ref6 (c : Dev nD) := val_main_v49 (F := Ideal) (a0 m c) (a1 m c) (a2 m c)
abbrev ref7 (c : Dev nD) := val_main_v50 (F := Ideal) (a0 m c) (a1 m c) (a2 m c) (a3 m c) (a4 m c)
abbrev ref8 (c : Dev nD) := val_main_v51 (F := Ideal) (a0 m c) (a1 m c) (a2 m c) (a3 m c) (a4 m c)

section
variable (c : Dev nD) (t : Fin cfg0.N)
theorem b0 (p : Fin 64) (g : Fin 128) : (show FVec Ideal S64x128 .f32 from iblk m c 0 t) (ix2 p g) = a0 m c (ix3 0 g p) := by
  blk_simp [iblk, idx t]
  entry_read
  pointwise
  blk_point [idx t]
theorem b1 (p : Fin 64) (g : Fin 128) : (show FVec Ideal S64x128 .f32 from iblk m c 1 t) (ix2 p g) = a1 m c (ix3 0 g p) := by
  blk_simp [iblk, idx t]
  entry_read
  pointwise
  blk_point [idx t]
theorem b2 : (show FVec Ideal S1x128 .f32 from iblk m c 2 t) = a2 m c := by
  funext y
  blk_point [iblk, V_main_arg2, idx t]
theorem b3 (p : Fin 64) (j : Fin 16) (g : Fin 128) : (show FVec Ideal S64x16x128 .f32 from iblk m c 3 t) (ix3 p j g) = a3 m c (ix4 0 g p j) := by
  blk_simp [iblk, idx t]
  entry_read
  pointwise
  blk_point [idx t]
theorem b4 (p : Fin 64) (j : Fin 16) (g : Fin 128) : (show FVec Ideal S64x16x128 .f32 from iblk m c 4 t) (ix3 p j g) = a4 m c (ix4 0 g p j) := by
  blk_simp [iblk, idx t]
  entry_read
  pointwise
  blk_point [idx t]
end

theorem final5 (c : Dev nD) : (dats m 0 c).arrAt 5 (cfgs 0).N = ref5 m c := by
  refine (dats m 0 c).arrAt_eq_of_covers 5 _ (by decide +kernel) fun t _ y => ?_
  blk_simp
  rw [after0_5]
  frame_out
  refine (congrArg _ (eq_ix2 (y : S64x128.Idx))).trans ((re_at (b0 m c t) (b2 m c t) (b1 m c t) _ _).trans ?_)
  refine congrArg (ref5 m c) ?_
  blk_ext [idx t]
theorem final6 (c : Dev nD) : (dats m 0 c).arrAt 6 (cfgs 0).N = ref6 m c := by
  refine (dats m 0 c).arrAt_eq_of_covers 6 _ (by decide +kernel) fun t _ y => ?_
  blk_simp
  rw [after0_6]
  frame_out
  refine (congrArg _ (eq_ix2 (y : S64x128.Idx))).trans ((im_at (b0 m c t) (b2 m c t) (b1 m c t) _ _).trans ?_)
  refine congrArg (ref6 m c) ?_
  blk_ext [idx t]
theorem final7 (c : Dev nD) : (dats m 0 c).arrAt 7 (cfgs 0).N = ref7 m c := by
  refine (dats m 0 c).arrAt_eq_of_covers 7 _ (by decide +kernel) fun t _ y => ?_
  blk_simp
  rw [after0_7]
  frame_out
  refine (congrArg _ (eq_ix3 (y : S64x16x128.Idx))).trans ((bre_at (b0 m c t) (b2 m c t) (b1 m c t) (b3 m c t) (b4 m c t) _ _ _).trans ?_)
  refine congrArg (ref7 m c) ?_
  blk_ext [idx t]
theorem final8 (c : Dev nD) : (dats m 0 c).arrAt 8 (cfgs 0).N = ref8 m c := by
  refine (dats m 0 c).arrAt_eq_of_covers 8 _ (by decide +kernel) fun t _ y => ?_
  blk_simp
  rw [after0_8]
  frame_out
  refine (congrArg _ (eq_ix3 (y : S64x16x128.Idx))).trans ((bim_at (b0 m c t) (b2 m c t) (b1 m c t) (b3 m c t) (b4 m c t) _ _ _).trans ?_)
  refine congrArg (ref8 m c) ?_
  blk_ext [idx t]

end Cert.PrepFIdeal.Arr

end
-- ==== Proof.UpValue.lean ====
/- The gated product of the feed-forward part: each result array of the call is the reference's array. -/
module

public import proofs.«01_k».proof.Proof.Gen.UpIdeal.Value
public import proofs.«01_k».proof.Proof.Gen.UpRefIdeal.Read
public import proofs.«01_k».proof.Proof.SwiValue
public import proofs.«01_k».proof.Proof.Real
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.UpIdeal.Arr
open Cert.UpIdeal Cert.UpIdeal.Gen
open Cert.Fin
open Cert.SwiIdeal.Arr (sg half halves)

variable (m : (ℓ : Loc nD τ sig) → Buf (Elt Ideal) ℓ)

abbrev xA (c : Dev nD) : FVec Ideal S2048x2048 .f32 := m ((c : Thread nD τ).loc main_arg0)
abbrev uA (c : Dev nD) : FVec Ideal S2048x5632 .f32 := m ((c : Thread nD τ).loc main_arg1)
abbrev vA (c : Dev nD) : FVec Ideal S2048x5632 .f32 := m ((c : Thread nD τ).loc main_arg2)

abbrev ref3 (c : Dev nD) := Cert.UpRefIdeal.Read.val_main_v2 (F := Ideal) (xA m c) (uA m c)
abbrev ref4 (c : Dev nD) := Cert.UpRefIdeal.Read.val_main_v3 (F := Ideal) (xA m c) (vA m c)
abbrev ref5 (c : Dev nD) := Cert.UpRefIdeal.Read.val_main_v6 (F := Ideal) (xA m c) (uA m c) (vA m c)

/-- The block indices of the windows: a point counts the halves of the sum fastest, then the columns, then the rows. -/
theorem idx : ∀ t : Fin cfg0.N, win0_0.index t = ![t.val / 8, t.val % 2] ∧ win0_1.index t = ![t.val / 2 % 4, t.val % 2, 0, 0]
    ∧ win0_2.index t = ![t.val / 2 % 4, t.val % 2, 0, 0] ∧ win0_3.index t = ![t.val / 8, t.val / 2 % 4]
    ∧ win0_4.index t = ![t.val / 8, t.val / 2 % 4] ∧ win0_5.index t = ![t.val / 8, t.val / 2 % 4] :=
  (by decide +kernel : ∀ t : Fin grid0.N, _)

def row (t : Fin cfg0.N) (n : Fin 1024) : Fin 2048 := ⟨1024 * (t.val / 8) + n.val, by
  have ht : t.val < 16 := lt_of_lt_of_eq t.isLt N_0
  omega⟩
def col (t : Fin cfg0.N) (f : Fin 1408) : Fin 5632 := ⟨1408 * (t.val / 2 % 4) + f.val, by omega⟩

theorem u_entry (c : Dev nD) (p : Fin 4) (q : Fin 2) (k : Fin 1024) (f : Fin 1408) :
    (show FVec Ideal S4x2x1024x1408 .bf16 from V m c main_v3) (ix4 p q k f) = uA m c (ix2 (half q k) ⟨1408 * p.val + f.val, by omega⟩) := by
  entry_read
  pointwise
  exact congrArg (uA m c) (congrArg₂ ix2 (Fin.ext (congrArg (· + k.val) (Nat.mul_comm _ _))) (Fin.ext (congrArg (· + f.val) (Nat.mul_comm _ _))))
theorem v_entry (c : Dev nD) (p : Fin 4) (q : Fin 2) (k : Fin 1024) (f : Fin 1408) :
    (show FVec Ideal S4x2x1024x1408 .bf16 from V m c main_v6) (ix4 p q k f) = vA m c (ix2 (half q k) ⟨1408 * p.val + f.val, by omega⟩) := by
  entry_read
  pointwise
  exact congrArg (vA m c) (congrArg₂ ix2 (Fin.ext (congrArg (· + k.val) (Nat.mul_comm _ _))) (Fin.ext (congrArg (· + f.val) (Nat.mul_comm _ _))))

theorem b0 (c : Dev nD) (t : Fin cfg0.N) (n k : Fin 1024) :
    (show FVec Ideal S1024x1024 .bf16 from iblk m c 0 t) (ix2 n k) = xA m c (ix2 (row t n) ⟨1024 * (t.val % 2) + k.val, by omega⟩) := by
  refine Eq.trans (b := (show FVec Ideal S2048x2048 .bf16 from V m c main_v0) (ix2 ⟨1024 * (t.val / 8) + n.val, (row t n).isLt⟩ ⟨1024 * (t.val % 2) + k.val, by omega⟩)) (by blk_point [iblk, idx t]) ?_
  entry_read
  pointwise
  rfl
theorem b1 (c : Dev nD) (t : Fin cfg0.N) (k : Fin 1024) (f : Fin 1408) :
    (show FVec Ideal S1x1x1024x1408 .bf16 from iblk m c 1 t) (ix4 0 0 k f) = uA m c (ix2 ⟨1024 * (t.val % 2) + k.val, by omega⟩ (col t f)) := by
  refine Eq.trans (b := (show FVec Ideal S4x2x1024x1408 .bf16 from V m c main_v3) (ix4 ⟨t.val / 2 % 4, by omega⟩ ⟨t.val % 2, by omega⟩ k f)) (by blk_point [iblk, idx t]) ?_
  exact u_entry m c _ _ k f
theorem b2 (c : Dev nD) (t : Fin cfg0.N) (k : Fin 1024) (f : Fin 1408) :
    (show FVec Ideal S1x1x1024x1408 .bf16 from iblk m c 2 t) (ix4 0 0 k f) = vA m c (ix2 ⟨1024 * (t.val % 2) + k.val, by omega⟩ (col t f)) := by
  refine Eq.trans (b := (show FVec Ideal S4x2x1024x1408 .bf16 from V m c main_v6) (ix4 ⟨t.val / 2 % 4, by omega⟩ ⟨t.val % 2, by omega⟩ k f)) (by blk_point [iblk, idx t]) ?_
  exact v_entry m c _ _ k f

/-! The call's terms on blocks. -/

section Pay
variable (x : FVec Ideal S1024x1024 .bf16) (w w' : FVec Ideal S1x1x1024x1408 .bf16) (s s' : FVec Ideal S1024x1408 .f32) (n : Fin 1024) (f : Fin 1408)

theorem p1 : k0_pay1 (F := Ideal) x w (ix2 n f) = ∑ k, x (ix2 n k) * w (ix4 0 0 k f) := by
  pointwise [k0_pay1]
theorem p2 : k0_pay2 (F := Ideal) x w (ix2 n f) = ∑ k, x (ix2 n k) * w (ix4 0 0 k f) := by
  pointwise [k0_pay2]
theorem p5 : k0_pay5 (F := Ideal) x w s (ix2 n f) = s (ix2 n f) + ∑ k, x (ix2 n k) * w (ix4 0 0 k f) := by
  pointwise [k0_pay5]
theorem p6 : k0_pay6 (F := Ideal) x w s (ix2 n f) = s (ix2 n f) + ∑ k, x (ix2 n k) * w (ix4 0 0 k f) := by
  pointwise [k0_pay6]
theorem p9 : k0_pay9 (F := Ideal) x w x w' s s' (ix2 n f)
    = (k0_pay5 (F := Ideal) x w s (ix2 n f) * sg (k0_pay5 (F := Ideal) x w s (ix2 n f))) * k0_pay6 (F := Ideal) x w' s' (ix2 n f) := by
  pointwise [k0_pay9]
  rw [gate_eq]

end Pay

/-! The reference. -/

/-- An entry of the product with a weight. -/
abbrev pr (x : FVec Ideal S2048x2048 .f32) (w : FVec Ideal S2048x5632 .f32) (r : Fin 2048) (f : Fin 5632) : EReal := ∑ k, x (ix2 r k) * w (ix2 k f)

theorem r3 (c : Dev nD) (r : Fin 2048) (f : Fin 5632) : ref3 m c (ix2 r f) = pr (xA m c) (uA m c) r f := by
  unfold ref3
  rw [← Cert.UpRefIdeal.Read.val_main_v2_eq]
  pointwise
theorem r4 (c : Dev nD) (r : Fin 2048) (f : Fin 5632) : ref4 m c (ix2 r f) = pr (xA m c) (vA m c) r f := by
  unfold ref4
  rw [← Cert.UpRefIdeal.Read.val_main_v3_eq]
  pointwise
theorem r5 (c : Dev nD) (r : Fin 2048) (f : Fin 5632) :
    ref5 m c (ix2 r f) = (pr (xA m c) (uA m c) r f * sg (pr (xA m c) (uA m c) r f)) * pr (xA m c) (vA m c) r f := by
  unfold ref5
  rw [← Cert.UpRefIdeal.Read.val_main_v6_eq]
  pointwise

/-- A sum over blocks whose entries are the arrays' entries: the first half, as the point before computes it. -/
theorem firstSum (x : FVec Ideal S1024x1024 .bf16) (w : FVec Ideal S1x1x1024x1408 .bf16) (X : FVec Ideal S2048x2048 .f32) (W : FVec Ideal S2048x5632 .f32)
    (t : Fin cfg0.N) (ht : t.val % 2 = 1) (hl : t.val - 1 < cfg0.N) (n : Fin 1024) (f : Fin 1408)
    (hx : ∀ k, x (ix2 n k) = X (ix2 (row ⟨t.val - 1, hl⟩ n) ⟨1024 * ((t.val - 1) % 2) + k.val, by omega⟩))
    (hw : ∀ k, w (ix4 0 0 k f) = W (ix2 ⟨1024 * ((t.val - 1) % 2) + k.val, by omega⟩ (col ⟨t.val - 1, hl⟩ f))) :
    ∑ k, x (ix2 n k) * w (ix4 0 0 k f) = ∑ k, X (ix2 (row t n) (half 0 k)) * W (ix2 (half 0 k) (col t f)) := by
  refine Finset.sum_congr rfl fun k _ => congrArg₂ (· * ·) ((hx k).trans (congrArg X (congrArg₂ ix2 (Fin.ext ?_) (Fin.ext ?_)))) ((hw k).trans (congrArg W (congrArg₂ ix2 (Fin.ext ?_) (Fin.ext ?_))))
  · show 1024 * ((t.val - 1) / 8) + n.val = 1024 * (t.val / 8) + n.val
    omega
  · show 1024 * ((t.val - 1) % 2) + k.val = 1024 * 0 + k.val
    omega
  · show 1024 * ((t.val - 1) % 2) + k.val = 1024 * 0 + k.val
    omega
  · show 1408 * ((t.val - 1) / 2 % 4) + f.val = 1408 * (t.val / 2 % 4) + f.val
    omega

/-- The whole sum at the second point. -/
theorem wholeSum (x : FVec Ideal S1024x1024 .bf16) (w : FVec Ideal S1x1x1024x1408 .bf16) (X : FVec Ideal S2048x2048 .f32) (W : FVec Ideal S2048x5632 .f32)
    (t : Fin cfg0.N) (ht : t.val % 2 = 1) (n : Fin 1024) (f : Fin 1408) (s : EReal)
    (hs : s = ∑ k, X (ix2 (row t n) (half 0 k)) * W (ix2 (half 0 k) (col t f)))
    (hx : ∀ k, x (ix2 n k) = X (ix2 (row t n) ⟨1024 * (t.val % 2) + k.val, by omega⟩))
    (hw : ∀ k, w (ix4 0 0 k f) = W (ix2 ⟨1024 * (t.val % 2) + k.val, by omega⟩ (col t f))) :
    s + ∑ k, x (ix2 n k) * w (ix4 0 0 k f) = pr X W (row t n) (col t f) := by
  rw [hs]
  refine Eq.trans (congrArg₂ (· + ·) rfl (Finset.sum_congr rfl fun k _ => ?_)) (halves fun k => X (ix2 (row t n) k) * W (ix2 k (col t f)))
  have e : (⟨1024 * (t.val % 2) + k.val, by omega⟩ : Fin 2048) = half 1 k := Fin.ext (by show 1024 * (t.val % 2) + k.val = 1024 * 1 + k.val; omega)
  rw [hx, hw, e]

theorem prev_lt (t : Fin cfg0.N) : t.val - 1 < cfg0.N := Nat.lt_of_le_of_lt (Nat.sub_le _ _) t.isLt

theorem first1 (c : Dev nD) (t : Fin cfg0.N) (ht : t.val % 2 = 1) (n : Fin 1024) (f : Fin 1408) :
    (show FVec Ideal S1024x1408 .f32 from (outsAt0 m c (t.val - 1) (prev_lt t)).2.2.2.1) (ix2 n f)
      = ∑ k, xA m c (ix2 (row t n) (half 0 k)) * uA m c (ix2 (half 0 k) (col t f)) := by
  rw [outsAt0_A m c ⟨t.val - 1, prev_lt t⟩ (by show (t.val - 1) % 2 = 0; omega) (by show ¬ (t.val - 1) % 2 = 1; omega)]
  frame_out
  exact (p1 _ _ n f).trans (firstSum _ _ _ _ t ht (prev_lt t) n f (b0 m c _ n) fun k => b1 m c _ k f)
theorem first2 (c : Dev nD) (t : Fin cfg0.N) (ht : t.val % 2 = 1) (n : Fin 1024) (f : Fin 1408) :
    (show FVec Ideal S1024x1408 .f32 from (outsAt0 m c (t.val - 1) (prev_lt t)).2.2.2.2) (ix2 n f)
      = ∑ k, xA m c (ix2 (row t n) (half 0 k)) * vA m c (ix2 (half 0 k) (col t f)) := by
  rw [outsAt0_A m c ⟨t.val - 1, prev_lt t⟩ (by show (t.val - 1) % 2 = 0; omega) (by show ¬ (t.val - 1) % 2 = 1; omega)]
  frame_out
  exact (p2 _ _ n f).trans (firstSum _ _ _ _ t ht (prev_lt t) n f (b0 m c _ n) fun k => b2 m c _ k f)

theorem sum1 (c : Dev nD) (t : Fin cfg0.N) (ht : t.val % 2 = 1) (n : Fin 1024) (f : Fin 1408) :
    k0_pay5 (F := Ideal) (iblk m c 0 t) (iblk m c 1 t) (outsAt0 m c (t.val - 1) (prev_lt t)).2.2.2.1 (ix2 n f) = pr (xA m c) (uA m c) (row t n) (col t f) :=
  (p5 _ _ _ n f).trans (wholeSum _ _ _ _ t ht n f _ (first1 m c t ht n f) (b0 m c t n) fun k => b1 m c t k f)
theorem sum2 (c : Dev nD) (t : Fin cfg0.N) (ht : t.val % 2 = 1) (n : Fin 1024) (f : Fin 1408) :
    k0_pay6 (F := Ideal) (iblk m c 0 t) (iblk m c 2 t) (outsAt0 m c (t.val - 1) (prev_lt t)).2.2.2.2 (ix2 n f) = pr (xA m c) (vA m c) (row t n) (col t f) :=
  (p6 _ _ _ n f).trans (wholeSum _ _ _ _ t ht n f _ (first2 m c t ht n f) (b0 m c t n) fun k => b2 m c t k f)

variable {c : Dev nD}

theorem out3 (t : Fin cfg0.N) (ht : t.val % 2 = 1) (y : S1024x1408.Idx) :
    k0_pay7 (F := Ideal) (iblk m c 0 t) (iblk m c 1 t) (outsAt0 m c (t.val - 1) (prev_lt t)).2.2.2.1 y = ref3 m c (((cfg0.win 3).blk t).view.emb y) := by
  rw [eq_ix2 y]
  refine Eq.trans (sum1 m c t ht (y 0) (y 1)) ((r3 m c (row t (y 0)) (col t (y 1))).symm.trans (congrArg _ ?_))
  blk_ext [idx t]
  · show 1024 * (t.val / 8) + _ = _
    omega
  · show 1408 * (t.val / 2 % 4) + _ = _
    omega
theorem out4 (t : Fin cfg0.N) (ht : t.val % 2 = 1) (y : S1024x1408.Idx) :
    k0_pay8 (F := Ideal) (iblk m c 0 t) (iblk m c 2 t) (outsAt0 m c (t.val - 1) (prev_lt t)).2.2.2.2 y = ref4 m c (((cfg0.win 4).blk t).view.emb y) := by
  rw [eq_ix2 y]
  refine Eq.trans (sum2 m c t ht (y 0) (y 1)) ((r4 m c (row t (y 0)) (col t (y 1))).symm.trans (congrArg _ ?_))
  blk_ext [idx t]
  · show 1024 * (t.val / 8) + _ = _
    omega
  · show 1408 * (t.val / 2 % 4) + _ = _
    omega
theorem out5 (t : Fin cfg0.N) (ht : t.val % 2 = 1) (y : S1024x1408.Idx) :
    k0_pay9 (F := Ideal) (iblk m c 0 t) (iblk m c 1 t) (iblk m c 0 t) (iblk m c 2 t) (outsAt0 m c (t.val - 1) (prev_lt t)).2.2.2.1 (outsAt0 m c (t.val - 1) (prev_lt t)).2.2.2.2 y
      = ref5 m c (((cfg0.win 5).blk t).view.emb y) := by
  rw [eq_ix2 y]
  refine (p9 _ _ _ _ _ _ _).trans ?_
  refine (congrArg₂ (· * ·) (congrArg (fun z => z * sg z) (sum1 m c t ht _ _)) (sum2 m c t ht _ _)).trans ?_
  refine (r5 m c (row t (y 0)) (col t (y 1))).symm.trans (congrArg _ ?_)
  blk_ext [idx t]
  · show 1024 * (t.val / 8) + _ = _
    omega
  · show 1408 * (t.val / 2 % 4) + _ = _
    omega

theorem odd : ∀ t : Fin cfg0.N, ((cfg0.win 3).flush t = true → t.val % 2 = 1) ∧ ((cfg0.win 4).flush t = true → t.val % 2 = 1)
    ∧ ((cfg0.win 5).flush t = true → t.val % 2 = 1) := (by decide +kernel : ∀ t : Fin grid0.N, _)

theorem final3 (c : Dev nD) : (dats m 0 c).arrAt 3 (cfgs 0).N = ref3 m c := by
  refine (dats m 0 c).arrAt_eq_of_covers 3 _ (by decide +kernel) fun t hf y => ?_
  have h1 := (odd t).1 hf
  blk_simp
  rw [after0_3, outsAt0_B m c t (by omega) h1]; frame_out
  rw [read_unread_whole]
  exact out3 m t h1 y
theorem final4 (c : Dev nD) : (dats m 0 c).arrAt 4 (cfgs 0).N = ref4 m c := by
  refine (dats m 0 c).arrAt_eq_of_covers 4 _ (by decide +kernel) fun t hf y => ?_
  have h1 := (odd t).2.1 hf
  blk_simp
  rw [after0_4, outsAt0_B m c t (by omega) h1]; frame_out
  rw [read_unread_whole]
  exact out4 m t h1 y
theorem final5 (c : Dev nD) : (dats m 0 c).arrAt 5 (cfgs 0).N = ref5 m c := by
  refine (dats m 0 c).arrAt_eq_of_covers 5 _ (by decide +kernel) fun t hf y => ?_
  have h1 := (odd t).2.2 hf
  blk_simp
  rw [after0_5, outsAt0_B m c t (by omega) h1]; frame_out
  rw [read_unread_whole, read_unread_whole]
  exact out5 m t h1 y

end Cert.UpIdeal.Arr

end
-- ==== Proof.GateValue.lean ====
/- The gated projection of the per-layer embedding: each result array of the call is the reference's array. -/
module

public import proofs.«01_k».proof.Proof.Gen.GateIdeal.Value
public import proofs.«01_k».proof.Proof.Gen.GateRefIdeal.Read
public import proofs.«01_k».proof.Proof.SwiValue
public import proofs.«01_k».proof.Proof.Real
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.GateIdeal.Arr
open Cert.GateIdeal Cert.GateIdeal.Gen
open Cert.Fin
open Cert.SwiIdeal.Arr (sg)

variable (m : (ℓ : Loc nD τ sig) → Buf (Elt Ideal) ℓ)

abbrev hA (c : Dev nD) : FVec Ideal S2048x2048 .f32 := m ((c : Thread nD τ).loc main_arg0)
abbrev wA (c : Dev nD) : FVec Ideal S2048x2048 .f32 := m ((c : Thread nD τ).loc main_arg1)
abbrev pA (c : Dev nD) : FVec Ideal S2048x256 .f32 := m ((c : Thread nD τ).loc main_arg2)
abbrev jA (c : Dev nD) : FVec Ideal S256x2048 .f32 := m ((c : Thread nD τ).loc main_arg3)
abbrev xA (c : Dev nD) : FVec Ideal S2048x2048 .f32 := m ((c : Thread nD τ).loc main_arg4)

abbrev ref8 (c : Dev nD) := Cert.GateRefIdeal.Read.val_main_v9 (F := Ideal) (hA m c) (wA m c) (pA m c) (jA m c) (xA m c)
abbrev ref9 (c : Dev nD) := Cert.GateRefIdeal.Read.val_main_v10 (F := Ideal) (hA m c) (wA m c)
abbrev ref10 (c : Dev nD) := Cert.GateRefIdeal.Read.val_main_v7 (F := Ideal) (pA m c) (jA m c)

/-- The block indices of the windows: a point counts the quarters of the sum fastest, then the columns, then the rows. -/
theorem idx : ∀ t : Fin cfg0.N, win0_0.index t = ![t.val / 8, t.val % 4] ∧ win0_1.index t = ![t.val % 4, t.val / 4 % 2, 0, 0]
    ∧ win0_2.index t = ![t.val / 8, t.val / 4 % 2] ∧ win0_3.index t = ![t.val / 8, 0]
    ∧ win0_4.index t = ![2 * (t.val / 4 % 2), 0, 0, 0] ∧ win0_5.index t = ![2 * (t.val / 4 % 2), 1, 0, 0]
    ∧ win0_6.index t = ![2 * (t.val / 4 % 2) + 1, 0, 0, 0] ∧ win0_7.index t = ![2 * (t.val / 4 % 2) + 1, 1, 0, 0]
    ∧ win0_8.index t = ![t.val / 8, t.val / 4 % 2] ∧ win0_9.index t = ![t.val / 8, t.val / 4 % 2] ∧ win0_10.index t = ![t.val / 8, t.val / 4 % 2] :=
  (by decide +kernel : ∀ t : Fin grid0.N, _)

def row (t : Fin cfg0.N) (n : Fin 1024) : Fin 2048 := ⟨1024 * (t.val / 8) + n.val, by
  have ht : t.val < 16 := lt_of_lt_of_eq t.isLt N_0
  omega⟩
def col (t : Fin cfg0.N) (f : Fin 1024) : Fin 2048 := ⟨1024 * (t.val / 4 % 2) + f.val, by omega⟩
def quarter (q : Fin 4) (k : Fin 512) : Fin 2048 := ⟨512 * q.val + k.val, by omega⟩
def piece (h : Fin 2) (k : Fin 128) : Fin 256 := ⟨128 * h.val + k.val, by omega⟩

theorem w_entry (c : Dev nD) (p : Fin 4) (q : Fin 2) (k : Fin 512) (f : Fin 1024) :
    (show FVec Ideal S4x2x512x1024 .bf16 from V m c main_v2) (ix4 p q k f) = wA m c (ix2 (quarter p k) ⟨1024 * q.val + f.val, by omega⟩) := by
  entry_read
  pointwise
  exact congrArg (wA m c) (congrArg₂ ix2 (Fin.ext (congrArg (· + k.val) (Nat.mul_comm _ _))) (Fin.ext (congrArg (· + f.val) (Nat.mul_comm _ _))))
theorem j_entry (c : Dev nD) (p : Fin 4) (q : Fin 2) (k : Fin 128) (f : Fin 512) :
    (show FVec Ideal S4x2x128x512 .bf16 from V m c main_v5) (ix4 p q k f) = jA m c (ix2 (piece q k) ⟨512 * p.val + f.val, by omega⟩) := by
  entry_read
  pointwise
  exact congrArg (jA m c) (congrArg₂ ix2 (Fin.ext (congrArg (· + k.val) (Nat.mul_comm _ _))) (Fin.ext (congrArg (· + f.val) (Nat.mul_comm _ _))))

theorem b0 (c : Dev nD) (t : Fin cfg0.N) (q : Fin 4) (hq : t.val % 4 = q.val) (n : Fin 1024) (k : Fin 512) :
    (show FVec Ideal S1024x512 .bf16 from iblk m c 0 t) (ix2 n k) = hA m c (ix2 (row t n) (quarter q k)) := by
  refine Eq.trans (b := (show FVec Ideal S2048x2048 .bf16 from V m c main_v6) (ix2 ⟨1024 * (t.val / 8) + n.val, (row t n).isLt⟩ ⟨512 * (t.val % 4) + k.val, by omega⟩)) (by blk_point [iblk, idx t]) ?_
  entry_read
  pointwise
  exact congrArg (hA m c) (congrArg₂ ix2 rfl (Fin.ext (congrArg (512 * · + k.val) hq)))
theorem b1 (c : Dev nD) (t : Fin cfg0.N) (q : Fin 4) (hq : t.val % 4 = q.val) (k : Fin 512) (f : Fin 1024) :
    (show FVec Ideal S1x1x512x1024 .bf16 from iblk m c 1 t) (ix4 0 0 k f) = wA m c (ix2 (quarter q k) (col t f)) := by
  refine Eq.trans (b := (show FVec Ideal S4x2x512x1024 .bf16 from V m c main_v2) (ix4 ⟨t.val % 4, by omega⟩ ⟨t.val / 4 % 2, by omega⟩ k f)) (by blk_point [iblk, idx t]) ?_
  refine (w_entry m c _ _ k f).trans (congrArg (wA m c) (congrArg₂ ix2 (Fin.ext (congrArg (512 * · + k.val) hq)) rfl))
theorem b2 (c : Dev nD) (t : Fin cfg0.N) (n f : Fin 1024) :
    (show FVec Ideal S1024x1024 .f32 from iblk m c 2 t) (ix2 n f) = xA m c (ix2 (row t n) (col t f)) := by
  refine Eq.trans (b := (show FVec Ideal S2048x2048 .f32 from V m c main_arg4) (ix2 ⟨1024 * (t.val / 8) + n.val, (row t n).isLt⟩ ⟨1024 * (t.val / 4 % 2) + f.val, (col t f).isLt⟩)) (by blk_point [iblk, idx t]) ?_
  rw [V_main_arg4]
  rfl
theorem b3 (c : Dev nD) (t : Fin cfg0.N) (n : Fin 1024) (k : Fin 256) :
    (show FVec Ideal S1024x256 .f32 from iblk m c 3 t) (ix2 n k) = pA m c (ix2 (row t n) k) := by
  refine Eq.trans (b := (show FVec Ideal S2048x256 .f32 from V m c main_arg2) (ix2 ⟨1024 * (t.val / 8) + n.val, (row t n).isLt⟩ k)) (by blk_point [iblk, idx t]) ?_
  rw [V_main_arg2]
  rfl

/-- The column of the first and of the second part of a block's columns. -/
def colp (t : Fin cfg0.N) (a : Fin 2) (f : Fin 512) : Fin 2048 := ⟨1024 * (t.val / 4 % 2) + (512 * a.val + f.val), by omega⟩

theorem part (t : Fin cfg0.N) (a : Fin 2) (f : Fin 512) (h : 512 * (2 * (t.val / 4 % 2) + a.val) + f.val < 2048) : (⟨512 * (2 * (t.val / 4 % 2) + a.val) + f.val, h⟩ : Fin 2048) = colp t a f :=
  Fin.ext (by show 512 * (2 * (t.val / 4 % 2) + a.val) + f.val = 1024 * (t.val / 4 % 2) + (512 * a.val + f.val); omega)

theorem b4 (c : Dev nD) (t : Fin cfg0.N) (k : Fin 128) (f : Fin 512) :
    (show FVec Ideal S1x1x128x512 .bf16 from iblk m c 4 t) (ix4 0 0 k f) = jA m c (ix2 (piece 0 k) (colp t 0 f)) := by
  refine Eq.trans (b := (show FVec Ideal S4x2x128x512 .bf16 from V m c main_v5) (ix4 ⟨2 * (t.val / 4 % 2), by omega⟩ 0 k f)) (by blk_point [iblk, idx t]) ?_
  exact (j_entry m c _ _ k f).trans (congrArg (fun z => jA m c (ix2 (piece 0 k) z)) (part t 0 f _))
theorem b5 (c : Dev nD) (t : Fin cfg0.N) (k : Fin 128) (f : Fin 512) :
    (show FVec Ideal S1x1x128x512 .bf16 from iblk m c 5 t) (ix4 0 0 k f) = jA m c (ix2 (piece 1 k) (colp t 0 f)) := by
  refine Eq.trans (b := (show FVec Ideal S4x2x128x512 .bf16 from V m c main_v5) (ix4 ⟨2 * (t.val / 4 % 2), by omega⟩ 1 k f)) (by blk_point [iblk, idx t]) ?_
  exact (j_entry m c _ _ k f).trans (congrArg (fun z => jA m c (ix2 (piece 1 k) z)) (part t 0 f _))
theorem b6 (c : Dev nD) (t : Fin cfg0.N) (k : Fin 128) (f : Fin 512) :
    (show FVec Ideal S1x1x128x512 .bf16 from iblk m c 6 t) (ix4 0 0 k f) = jA m c (ix2 (piece 0 k) (colp t 1 f)) := by
  refine Eq.trans (b := (show FVec Ideal S4x2x128x512 .bf16 from V m c main_v5) (ix4 ⟨2 * (t.val / 4 % 2) + 1, by omega⟩ 0 k f)) (by blk_point [iblk, idx t]) ?_
  exact (j_entry m c _ _ k f).trans (congrArg (fun z => jA m c (ix2 (piece 0 k) z)) (part t 1 f _))
theorem b7 (c : Dev nD) (t : Fin cfg0.N) (k : Fin 128) (f : Fin 512) :
    (show FVec Ideal S1x1x128x512 .bf16 from iblk m c 7 t) (ix4 0 0 k f) = jA m c (ix2 (piece 1 k) (colp t 1 f)) := by
  refine Eq.trans (b := (show FVec Ideal S4x2x128x512 .bf16 from V m c main_v5) (ix4 ⟨2 * (t.val / 4 % 2) + 1, by omega⟩ 1 k f)) (by blk_point [iblk, idx t]) ?_
  exact (j_entry m c _ _ k f).trans (congrArg (fun z => jA m c (ix2 (piece 1 k) z)) (part t 1 f _))

/-! The call's terms on blocks. -/

section Pay
variable (x : FVec Ideal S1024x512 .bf16) (w : FVec Ideal S1x1x512x1024 .bf16) (s r : FVec Ideal S1024x1024 .f32)
  (p : FVec Ideal S1024x256 .f32) (u0 u1 u2 u3 : FVec Ideal S1x1x128x512 .bf16) (n f : Fin 1024)

theorem p1 : k0_pay1 (F := Ideal) x w (ix2 n f) = ∑ k, x (ix2 n k) * w (ix4 0 0 k f) := by
  pointwise [k0_pay1]
theorem p2 : k0_pay2 (F := Ideal) x w s (ix2 n f) = s (ix2 n f) + ∑ k, x (ix2 n k) * w (ix4 0 0 k f) := by
  pointwise [k0_pay2]
theorem p4 : k0_pay4 (F := Ideal) (k0_pay7 (F := Ideal) x w s) (ix2 n f) = sg (s (ix2 n f) + ∑ k, x (ix2 n k) * w (ix4 0 0 k f)) := by
  pointwise [k0_pay4, k0_pay7]
  exact gate_eq _
theorem p3 : k0_pay3 (F := Ideal) (k0_pay8 (F := Ideal) u3) (k0_pay9 (F := Ideal) p u0 u1) (k0_pay10 (F := Ideal) p u2) (k0_pay11 (F := Ideal) p) (ix2 n f)
    = if h : f.val < 512 then (∑ k, p (ix2 n (piece 0 k)) * u0 (ix4 0 0 k ⟨f.val, h⟩)) + ∑ k, p (ix2 n (piece 1 k)) * u1 (ix4 0 0 k ⟨f.val, h⟩)
      else (∑ k, p (ix2 n (piece 0 k)) * u2 (ix4 0 0 k ⟨f.val - 512, by omega⟩)) + ∑ k, p (ix2 n (piece 1 k)) * u3 (ix4 0 0 k ⟨f.val - 512, by omega⟩) := by
  have e0 : ∀ k : Fin 128, (⟨k.val, by omega⟩ : Fin 256) = piece 0 k := fun k => Fin.ext (by show k.val = 128 * 0 + k.val; omega)
  have e1 : ∀ k : Fin 128, (⟨128 + k.val, by omega⟩ : Fin 256) = piece 1 k := fun k => Fin.ext (by show 128 + k.val = 128 * 1 + k.val; omega)
  pointwise [k0_pay3, k0_pay8, k0_pay9, k0_pay10, k0_pay11]
  simp only [e0, e1]
theorem p5 (v27 : FVec Ideal S128x512 .bf16) (v34 v37 : FVec Ideal S1024x512 .f32) (v38 : FVec Ideal S1024x128 .f32) (v17 : FVec Ideal S1024x1024 .f32) :
    k0_pay5 (F := Ideal) v17 r v27 v34 v37 v38 (ix2 n f) = r (ix2 n f) + k0_pay4 (F := Ideal) v17 (ix2 n f) * k0_pay3 (F := Ideal) v27 v34 v37 v38 (ix2 n f) := by
  pointwise [k0_pay5]

end Pay

/-! The reference. -/

abbrev pr (c : Dev nD) (r f : Fin 2048) : EReal := ∑ k, hA m c (ix2 r k) * wA m c (ix2 k f)
abbrev pj (c : Dev nD) (r f : Fin 2048) : EReal := ∑ k, pA m c (ix2 r k) * jA m c (ix2 k f)

theorem r9 (c : Dev nD) (r f : Fin 2048) : ref9 m c (ix2 r f) = sg (pr m c r f) := by
  unfold ref9
  rw [← Cert.GateRefIdeal.Read.val_main_v10_eq]
  pointwise
theorem r10 (c : Dev nD) (r f : Fin 2048) : ref10 m c (ix2 r f) = pj m c r f := by
  unfold ref10
  rw [← Cert.GateRefIdeal.Read.val_main_v7_eq]
  pointwise
theorem r8 (c : Dev nD) (r f : Fin 2048) : ref8 m c (ix2 r f) = xA m c (ix2 r f) + sg (pr m c r f) * pj m c r f := by
  unfold ref8
  rw [← Cert.GateRefIdeal.Read.val_main_v9_eq]
  pointwise

/-! The sum over the four quarters. -/

theorem prev_lt (t : Fin cfg0.N) : t.val - 1 < cfg0.N := Nat.lt_of_le_of_lt (Nat.sub_le _ _) t.isLt
abbrev prev (t : Fin cfg0.N) : Fin cfg0.N := ⟨t.val - 1, prev_lt t⟩

theorem row_prev (t : Fin cfg0.N) (ht : t.val % 4 ≠ 0) (n : Fin 1024) : row (prev t) n = row t n :=
  Fin.ext (by show 1024 * ((t.val - 1) / 8) + n.val = 1024 * (t.val / 8) + n.val; omega)
theorem col_prev (t : Fin cfg0.N) (ht : t.val % 4 ≠ 0) (f : Fin 1024) : col (prev t) f = col t f :=
  Fin.ext (by show 1024 * ((t.val - 1) / 4 % 2) + f.val = 1024 * (t.val / 4 % 2) + f.val; omega)

/-- One quarter of an entry of the product. -/
abbrev qs (c : Dev nD) (r f : Fin 2048) (q : Fin 4) : EReal := ∑ k, hA m c (ix2 r (quarter q k)) * wA m c (ix2 (quarter q k) f)

theorem quarters (c : Dev nD) (r f : Fin 2048) : ((qs m c r f 0 + qs m c r f 1) + qs m c r f 2) + qs m c r f 3 = pr m c r f := by
  have h4 : ∀ g : Fin 2048 → EReal, (((∑ k, g (quarter 0 k)) + ∑ k, g (quarter 1 k)) + ∑ k, g (quarter 2 k)) + ∑ k, g (quarter 3 k) = ∑ k, g k := by
    intro g
    refine Eq.trans ?_ (Fin.sum_univ_add (a := 1536) (b := 512) g).symm
    refine congrArg₂ (· + ·) ?_ (Finset.sum_congr rfl fun k _ => congrArg g (Fin.ext (by show 512 * 3 + k.val = 1536 + k.val; omega)))
    refine Eq.trans ?_ (Fin.sum_univ_add (a := 1024) (b := 512) _).symm
    refine congrArg₂ (· + ·) ?_ (Finset.sum_congr rfl fun k _ => congrArg g (Fin.ext (by show 512 * 2 + k.val = 1024 + k.val; omega)))
    refine Eq.trans ?_ (Fin.sum_univ_add (a := 512) (b := 512) _).symm
    exact congrArg₂ (· + ·) (Finset.sum_congr rfl fun k _ => congrArg g (Fin.ext (by show 512 * 0 + k.val = k.val; omega)))
      (Finset.sum_congr rfl fun k _ => congrArg g (Fin.ext (by show 512 * 1 + k.val = 512 + k.val; omega)))
  exact h4 fun k => hA m c (ix2 r k) * wA m c (ix2 k f)

theorem pieces (c : Dev nD) (r f : Fin 2048) :
    (∑ k, pA m c (ix2 r (piece 0 k)) * jA m c (ix2 (piece 0 k) f)) + (∑ k, pA m c (ix2 r (piece 1 k)) * jA m c (ix2 (piece 1 k) f)) = pj m c r f := by
  have h2 : ∀ g : Fin 256 → EReal, (∑ k, g (piece 0 k)) + ∑ k, g (piece 1 k) = ∑ k, g k := by
    intro g
    refine Eq.trans ?_ (Fin.sum_univ_add (a := 128) (b := 128) g).symm
    exact congrArg₂ (· + ·) (Finset.sum_congr rfl fun k _ => congrArg g (Fin.ext (by show 128 * 0 + k.val = k.val; omega)))
      (Finset.sum_congr rfl fun k _ => congrArg g (Fin.ext (by show 128 * 1 + k.val = 128 + k.val; omega)))
  exact h2 fun k => pA m c (ix2 r k) * jA m c (ix2 k f)

theorem blkSum (c : Dev nD) (t : Fin cfg0.N) (q : Fin 4) (hq : t.val % 4 = q.val) (n f : Fin 1024) :
    ∑ k, (show FVec Ideal S1024x512 .bf16 from iblk m c 0 t) (ix2 n k) * (show FVec Ideal S1x1x512x1024 .bf16 from iblk m c 1 t) (ix4 0 0 k f) = qs m c (row t n) (col t f) q :=
  Finset.sum_congr rfl fun k _ => congrArg₂ (· * ·) (b0 m c t q hq n k) (b1 m c t q hq k f)

/-- The carried sum after a point. -/
abbrev acc (c : Dev nD) (t : Fin cfg0.N) : FVec Ideal S1024x1024 .f32 := (outsAt0 m c t.val t.isLt).2.2.2

theorem acc0 (c : Dev nD) (t : Fin cfg0.N) (ht : t.val % 4 = 0) (n f : Fin 1024) : acc m c t (ix2 n f) = qs m c (row t n) (col t f) 0 := by
  unfold acc
  rw [outsAt0_A m c t ht (by omega) (by omega)]
  frame_out
  exact (p1 _ _ n f).trans (blkSum m c t 0 ht n f)
theorem acc_step (c : Dev nD) (t : Fin cfg0.N) (q : Fin 4) (hq : t.val % 4 = q.val) (h1 : 1 ≤ t.val % 4 ∧ t.val % 4 ≤ 2) (n f : Fin 1024) :
    acc m c t (ix2 n f) = acc m c (prev t) (ix2 n f) + qs m c (row t n) (col t f) q := by
  unfold acc
  rw [outsAt0_B m c t (by omega) h1 (by omega)]
  frame_out
  rw [read_unread_whole]
  exact (p2 _ _ _ n f).trans (congrArg _ (blkSum m c t q hq n f))
theorem acc1 (c : Dev nD) (t : Fin cfg0.N) (ht : t.val % 4 = 1) (n f : Fin 1024) :
    acc m c t (ix2 n f) = qs m c (row t n) (col t f) 0 + qs m c (row t n) (col t f) 1 := by
  rw [acc_step m c t 1 ht (by omega), acc0 m c (prev t) (by show (t.val - 1) % 4 = 0; omega), row_prev t (by omega), col_prev t (by omega)]
theorem acc2 (c : Dev nD) (t : Fin cfg0.N) (ht : t.val % 4 = 2) (n f : Fin 1024) :
    acc m c t (ix2 n f) = (qs m c (row t n) (col t f) 0 + qs m c (row t n) (col t f) 1) + qs m c (row t n) (col t f) 2 := by
  rw [acc_step m c t 2 ht (by omega), acc1 m c (prev t) (by show (t.val - 1) % 4 = 1; omega), row_prev t (by omega), col_prev t (by omega)]

theorem gate_out (c : Dev nD) (t : Fin cfg0.N) (ht : t.val % 4 = 3) (n f : Fin 1024) :
    k0_pay4 (F := Ideal) (k0_pay7 (F := Ideal) (iblk m c 0 t) (iblk m c 1 t) (acc m c (prev t))) (ix2 n f) = sg (pr m c (row t n) (col t f)) := by
  refine (p4 _ _ _ n f).trans (congrArg sg ?_)
  refine (congrArg₂ (· + ·) (acc2 m c (prev t) (by show (t.val - 1) % 4 = 2; omega) n f) (blkSum m c t 3 ht n f)).trans ?_
  rw [row_prev t (by omega), col_prev t (by omega)]
  exact quarters m c _ _
theorem proj_out (c : Dev nD) (t : Fin cfg0.N) (n f : Fin 1024) :
    k0_pay3 (F := Ideal) (k0_pay8 (F := Ideal) (iblk m c 7 t)) (k0_pay9 (F := Ideal) (iblk m c 3 t) (iblk m c 4 t) (iblk m c 5 t))
        (k0_pay10 (F := Ideal) (iblk m c 3 t) (iblk m c 6 t)) (k0_pay11 (F := Ideal) (iblk m c 3 t)) (ix2 n f)
      = pj m c (row t n) (col t f) := by
  refine (p3 _ _ _ _ _ n f).trans ?_
  split_ifs with h
  · have e : colp t 0 ⟨f.val, h⟩ = col t f := Fin.ext (by show 1024 * (t.val / 4 % 2) + (512 * 0 + f.val) = 1024 * (t.val / 4 % 2) + f.val; omega)
    refine Eq.trans (congrArg₂ (· + ·) (Finset.sum_congr rfl fun k _ => congrArg₂ (· * ·) (b3 m c t n _) (b4 m c t k _)) (Finset.sum_congr rfl fun k _ => congrArg₂ (· * ·) (b3 m c t n _) (b5 m c t k _))) ?_
    rw [e]
    exact pieces m c _ _
  · have e : colp t 1 ⟨f.val - 512, by omega⟩ = col t f := Fin.ext (by show 1024 * (t.val / 4 % 2) + (512 * 1 + (f.val - 512)) = 1024 * (t.val / 4 % 2) + f.val; omega)
    refine Eq.trans (congrArg₂ (· + ·) (Finset.sum_congr rfl fun k _ => congrArg₂ (· * ·) (b3 m c t n _) (b6 m c t k _)) (Finset.sum_congr rfl fun k _ => congrArg₂ (· * ·) (b3 m c t n _) (b7 m c t k _))) ?_
    rw [e]
    exact pieces m c _ _

variable {c : Dev nD}

theorem out8 (t : Fin cfg0.N) (ht : t.val % 4 = 3) (y : S1024x1024.Idx) :
    k0_pay5 (F := Ideal) (k0_pay7 (F := Ideal) (iblk m c 0 t) (iblk m c 1 t) (acc m c (prev t))) (iblk m c 2 t) (k0_pay8 (F := Ideal) (iblk m c 7 t))
        (k0_pay9 (F := Ideal) (iblk m c 3 t) (iblk m c 4 t) (iblk m c 5 t)) (k0_pay10 (F := Ideal) (iblk m c 3 t) (iblk m c 6 t)) (k0_pay11 (F := Ideal) (iblk m c 3 t)) y
      = ref8 m c (((cfg0.win 8).blk t).view.emb y) := by
  rw [eq_ix2 y]
  refine (p5 _ _ _ _ _ _ _ _).trans ?_
  refine (congrArg₂ (· + ·) (b2 m c t _ _) (congrArg₂ (· * ·) (gate_out m c t ht _ _) (proj_out m c t _ _))).trans ?_
  refine (r8 m c (row t (y 0)) (col t (y 1))).symm.trans (congrArg _ ?_)
  blk_ext [idx t]
  · show 1024 * (t.val / 8) + _ = _
    omega
  · show 1024 * (t.val / 4 % 2) + _ = _
    omega
theorem out9 (t : Fin cfg0.N) (ht : t.val % 4 = 3) (y : S1024x1024.Idx) :
    k0_pay6 (F := Ideal) (k0_pay7 (F := Ideal) (iblk m c 0 t) (iblk m c 1 t) (acc m c (prev t))) y = ref9 m c (((cfg0.win 9).blk t).view.emb y) := by
  rw [eq_ix2 y]
  refine Eq.trans (gate_out m c t ht (y 0) (y 1)) ((r9 m c (row t (y 0)) (col t (y 1))).symm.trans (congrArg _ ?_))
  blk_ext [idx t]
  · show 1024 * (t.val / 8) + _ = _
    omega
  · show 1024 * (t.val / 4 % 2) + _ = _
    omega
theorem out10 (t : Fin cfg0.N) (y : S1024x1024.Idx) :
    k0_pay3 (F := Ideal) (k0_pay8 (F := Ideal) (iblk m c 7 t)) (k0_pay9 (F := Ideal) (iblk m c 3 t) (iblk m c 4 t) (iblk m c 5 t))
        (k0_pay10 (F := Ideal) (iblk m c 3 t) (iblk m c 6 t)) (k0_pay11 (F := Ideal) (iblk m c 3 t)) y
      = ref10 m c (((cfg0.win 10).blk t).view.emb y) := by
  rw [eq_ix2 y]
  refine Eq.trans (proj_out m c t (y 0) (y 1)) ((r10 m c (row t (y 0)) (col t (y 1))).symm.trans (congrArg _ ?_))
  blk_ext [idx t]
  · show 1024 * (t.val / 8) + _ = _
    omega
  · show 1024 * (t.val / 4 % 2) + _ = _
    omega

theorem last : ∀ t : Fin cfg0.N, ((cfg0.win 8).flush t = true → t.val % 4 = 3) ∧ ((cfg0.win 9).flush t = true → t.val % 4 = 3)
    ∧ ((cfg0.win 10).flush t = true → t.val % 4 = 3) := (by decide +kernel : ∀ t : Fin grid0.N, _)

theorem final8 (c : Dev nD) : (dats m 0 c).arrAt 8 (cfgs 0).N = ref8 m c := by
  refine (dats m 0 c).arrAt_eq_of_covers 8 _ (by decide +kernel) fun t hf y => ?_
  have h1 := (last t).1 hf
  blk_simp
  rw [after0_8, outsAt0_C m c t (by omega) (by omega) h1]; frame_out
  rw [read_unread_whole]
  exact out8 m t h1 y
theorem final9 (c : Dev nD) : (dats m 0 c).arrAt 9 (cfgs 0).N = ref9 m c := by
  refine (dats m 0 c).arrAt_eq_of_covers 9 _ (by decide +kernel) fun t hf y => ?_
  have h1 := (last t).2.1 hf
  blk_simp
  rw [after0_9, outsAt0_C m c t (by omega) (by omega) h1]; frame_out
  rw [read_unread_whole]
  exact out9 m t h1 y
theorem final10 (c : Dev nD) : (dats m 0 c).arrAt 10 (cfgs 0).N = ref10 m c := by
  refine (dats m 0 c).arrAt_eq_of_covers 10 _ (by decide +kernel) fun t hf y => ?_
  have h1 := (last t).2.2 hf
  blk_simp
  rw [after0_10, outsAt0_C m c t (by omega) (by omega) h1]; frame_out
  exact out10 m t y

end Cert.GateIdeal.Arr

end
-- ==== Proof.OutValue.lean ====
/- The gate on the recurrence's output product: each result array of the call is the reference's array. -/
module

public import proofs.«01_k».proof.Proof.Gen.OutIdeal.Value
public import proofs.«01_k».proof.Proof.Gen.OutRefIdeal.Read
public import proofs.«01_k».proof.Proof.SwiValue
public import proofs.«01_k».proof.Proof.Real
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.OutIdeal.Arr
open Cert.OutIdeal Cert.OutIdeal.Gen
open Cert.Fin
open Cert.SwiIdeal.Arr (sg half halves)

variable (m : (ℓ : Loc nD τ sig) → Buf (Elt Ideal) ℓ)

abbrev gA (c : Dev nD) : FVec Ideal S2048x2048 .f32 := m ((c : Thread nD τ).loc main_arg0)
abbrev wA (c : Dev nD) : FVec Ideal S2048x4096 .f32 := m ((c : Thread nD τ).loc main_arg1)
abbrev xA (c : Dev nD) : FVec Ideal S2048x2048 .f32 := m ((c : Thread nD τ).loc main_arg2)

abbrev ref4 (c : Dev nD) := Cert.OutRefIdeal.Read.val_main_v10 (F := Ideal) (gA m c) (wA m c) (xA m c)
abbrev ref5 (c : Dev nD) := Cert.OutRefIdeal.Read.val_main_v11 (F := Ideal) (gA m c) (wA m c)
abbrev ref6 (c : Dev nD) := Cert.OutRefIdeal.Read.val_main_v12 (F := Ideal) (gA m c) (wA m c)

/-- The block indices of the windows: a point counts the halves of the sum fastest, then the columns, then the rows; the gate's columns are the second half of the weight. -/
theorem idx : ∀ t : Fin cfg0.N, win0_0.index t = ![t.val / 4, t.val % 2] ∧ win0_1.index t = ![t.val / 2 % 2, t.val % 2, 0, 0]
    ∧ win0_2.index t = ![t.val / 2 % 2 + 2, t.val % 2, 0, 0] ∧ win0_3.index t = ![t.val / 4, t.val / 2 % 2]
    ∧ win0_4.index t = ![t.val / 4, t.val / 2 % 2] ∧ win0_5.index t = ![t.val / 4, t.val / 2 % 2] ∧ win0_6.index t = ![t.val / 4, t.val / 2 % 2] :=
  (by decide +kernel : ∀ t : Fin grid0.N, _)

def row (t : Fin cfg0.N) (n : Fin 1024) : Fin 2048 := ⟨1024 * (t.val / 4) + n.val, by
  have ht : t.val < 8 := lt_of_lt_of_eq t.isLt N_0
  omega⟩
def col (t : Fin cfg0.N) (f : Fin 1024) : Fin 2048 := ⟨1024 * (t.val / 2 % 2) + f.val, by omega⟩
/-- The column of the value and the column of the gate. -/
def lo (f : Fin 2048) : Fin 4096 := ⟨f.val, by omega⟩
def hi (f : Fin 2048) : Fin 4096 := ⟨2048 + f.val, by omega⟩

theorem w_entry (c : Dev nD) (p : Fin 4) (q : Fin 2) (k : Fin 1024) (f : Fin 1024) :
    (show FVec Ideal S4x2x1024x1024 .bf16 from V m c main_v2) (ix4 p q k f) = wA m c (ix2 (half q k) ⟨1024 * p.val + f.val, by omega⟩) := by
  entry_read
  pointwise
  exact congrArg (wA m c) (congrArg₂ ix2 (Fin.ext (congrArg (· + k.val) (Nat.mul_comm _ _))) (Fin.ext (congrArg (· + f.val) (Nat.mul_comm _ _))))

theorem b0 (c : Dev nD) (t : Fin cfg0.N) (q : Fin 2) (hq : t.val % 2 = q.val) (n k : Fin 1024) :
    (show FVec Ideal S1024x1024 .bf16 from iblk m c 0 t) (ix2 n k) = gA m c (ix2 (row t n) (half q k)) := by
  refine Eq.trans (b := (show FVec Ideal S2048x2048 .bf16 from V m c main_v3) (ix2 ⟨1024 * (t.val / 4) + n.val, (row t n).isLt⟩ ⟨1024 * (t.val % 2) + k.val, by omega⟩)) (by blk_point [iblk, idx t]) ?_
  entry_read
  pointwise
  exact congrArg (gA m c) (congrArg₂ ix2 rfl (Fin.ext (congrArg (1024 * · + k.val) hq)))
theorem b1 (c : Dev nD) (t : Fin cfg0.N) (q : Fin 2) (hq : t.val % 2 = q.val) (k f : Fin 1024) :
    (show FVec Ideal S1x1x1024x1024 .bf16 from iblk m c 1 t) (ix4 0 0 k f) = wA m c (ix2 (half q k) (lo (col t f))) := by
  refine Eq.trans (b := (show FVec Ideal S4x2x1024x1024 .bf16 from V m c main_v2) (ix4 ⟨t.val / 2 % 2, by omega⟩ ⟨t.val % 2, by omega⟩ k f)) (by blk_point [iblk, idx t]) ?_
  refine (w_entry m c _ _ k f).trans (congrArg (wA m c) (congrArg₂ ix2 (Fin.ext (congrArg (1024 * · + k.val) hq)) rfl))
theorem b2 (c : Dev nD) (t : Fin cfg0.N) (q : Fin 2) (hq : t.val % 2 = q.val) (k f : Fin 1024) :
    (show FVec Ideal S1x1x1024x1024 .bf16 from iblk m c 2 t) (ix4 0 0 k f) = wA m c (ix2 (half q k) (hi (col t f))) := by
  refine Eq.trans (b := (show FVec Ideal S4x2x1024x1024 .bf16 from V m c main_v2) (ix4 ⟨t.val / 2 % 2 + 2, by omega⟩ ⟨t.val % 2, by omega⟩ k f)) (by blk_point [iblk, idx t]) ?_
  refine (w_entry m c _ _ k f).trans (congrArg (wA m c) (congrArg₂ ix2 (Fin.ext (congrArg (1024 * · + k.val) hq)) (Fin.ext ?_)))
  show 1024 * (t.val / 2 % 2 + 2) + f.val = 2048 + (1024 * (t.val / 2 % 2) + f.val)
  omega
theorem b3 (c : Dev nD) (t : Fin cfg0.N) (n f : Fin 1024) :
    (show FVec Ideal S1024x1024 .f32 from iblk m c 3 t) (ix2 n f) = xA m c (ix2 (row t n) (col t f)) := by
  refine Eq.trans (b := (show FVec Ideal S2048x2048 .f32 from V m c main_arg2) (ix2 ⟨1024 * (t.val / 4) + n.val, (row t n).isLt⟩ ⟨1024 * (t.val / 2 % 2) + f.val, (col t f).isLt⟩)) (by blk_point [iblk, idx t]) ?_
  rw [V_main_arg2]
  rfl

/-! The call's terms on blocks. -/

section Pay
variable (x : FVec Ideal S1024x1024 .bf16) (w w' : FVec Ideal S1x1x1024x1024 .bf16) (s s' r : FVec Ideal S1024x1024 .f32) (n f : Fin 1024)

theorem p1 : k0_pay1 (F := Ideal) x w (ix2 n f) = ∑ k, x (ix2 n k) * w (ix4 0 0 k f) := by
  pointwise [k0_pay1]
theorem p2 : k0_pay2 (F := Ideal) x w (ix2 n f) = ∑ k, x (ix2 n k) * w (ix4 0 0 k f) := by
  pointwise [k0_pay2]
theorem p5 : k0_pay5 (F := Ideal) x w s (ix2 n f) = s (ix2 n f) + ∑ k, x (ix2 n k) * w (ix4 0 0 k f) := by
  pointwise [k0_pay5]
theorem p6 : k0_pay6 (F := Ideal) x w s (ix2 n f) = sg (s (ix2 n f) + ∑ k, x (ix2 n k) * w (ix4 0 0 k f)) := by
  pointwise [k0_pay6]
  exact gate_eq _
theorem p7 : k0_pay7 (F := Ideal) x w x w' s s' r (ix2 n f)
    = r (ix2 n f) + k0_pay5 (F := Ideal) x w s (ix2 n f) * k0_pay6 (F := Ideal) x w' s' (ix2 n f) := by
  pointwise [k0_pay7]

end Pay

/-! The reference. -/

/-- An entry of the product with the weight. -/
abbrev pr (c : Dev nD) (r : Fin 2048) (f : Fin 4096) : EReal := ∑ k, gA m c (ix2 r k) * wA m c (ix2 k f)

theorem r5 (c : Dev nD) (r f : Fin 2048) : ref5 m c (ix2 r f) = pr m c r (lo f) := by
  unfold ref5
  rw [← Cert.OutRefIdeal.Read.val_main_v11_eq]
  pointwise
  rfl
theorem r6 (c : Dev nD) (r f : Fin 2048) : ref6 m c (ix2 r f) = sg (pr m c r (hi f)) := by
  unfold ref6
  rw [← Cert.OutRefIdeal.Read.val_main_v12_eq]
  pointwise
  rfl
theorem r4 (c : Dev nD) (r f : Fin 2048) : ref4 m c (ix2 r f) = xA m c (ix2 r f) + pr m c r (lo f) * sg (pr m c r (hi f)) := by
  unfold ref4
  rw [← Cert.OutRefIdeal.Read.val_main_v10_eq]
  pointwise
  rfl

/-! The sums over the two halves. -/

theorem prev_lt (t : Fin cfg0.N) : t.val - 1 < cfg0.N := Nat.lt_of_le_of_lt (Nat.sub_le _ _) t.isLt

/-- The point before the second point of a pair has the same rows and columns. -/
theorem row_prev (t : Fin cfg0.N) (ht : t.val % 2 = 1) (n : Fin 1024) : row ⟨t.val - 1, prev_lt t⟩ n = row t n :=
  Fin.ext (by show 1024 * ((t.val - 1) / 4) + n.val = 1024 * (t.val / 4) + n.val; omega)
theorem col_prev (t : Fin cfg0.N) (ht : t.val % 2 = 1) (f : Fin 1024) : col ⟨t.val - 1, prev_lt t⟩ f = col t f :=
  Fin.ext (by show 1024 * ((t.val - 1) / 2 % 2) + f.val = 1024 * (t.val / 2 % 2) + f.val; omega)

theorem first1 (c : Dev nD) (t : Fin cfg0.N) (ht : t.val % 2 = 1) (n f : Fin 1024) :
    (show FVec Ideal S1024x1024 .f32 from (outsAt0 m c (t.val - 1) (prev_lt t)).2.2.2.1) (ix2 n f)
      = ∑ k, gA m c (ix2 (row t n) (half 0 k)) * wA m c (ix2 (half 0 k) (lo (col t f))) := by
  have h0 : (t.val - 1) % 2 = 0 := by omega
  rw [outsAt0_A m c ⟨t.val - 1, prev_lt t⟩ h0 (by show ¬ (t.val - 1) % 2 = 1; omega)]
  frame_out
  refine (p1 _ _ n f).trans (Finset.sum_congr rfl fun k _ => congrArg₂ (· * ·) ((b0 m c _ 0 h0 n k).trans ?_) ((b1 m c _ 0 h0 k f).trans ?_))
  · rw [row_prev t ht]
  · rw [col_prev t ht]
theorem first2 (c : Dev nD) (t : Fin cfg0.N) (ht : t.val % 2 = 1) (n f : Fin 1024) :
    (show FVec Ideal S1024x1024 .f32 from (outsAt0 m c (t.val - 1) (prev_lt t)).2.2.2.2) (ix2 n f)
      = ∑ k, gA m c (ix2 (row t n) (half 0 k)) * wA m c (ix2 (half 0 k) (hi (col t f))) := by
  have h0 : (t.val - 1) % 2 = 0 := by omega
  rw [outsAt0_A m c ⟨t.val - 1, prev_lt t⟩ h0 (by show ¬ (t.val - 1) % 2 = 1; omega)]
  frame_out
  refine (p2 _ _ n f).trans (Finset.sum_congr rfl fun k _ => congrArg₂ (· * ·) ((b0 m c _ 0 h0 n k).trans ?_) ((b2 m c _ 0 h0 k f).trans ?_))
  · rw [row_prev t ht]
  · rw [col_prev t ht]

theorem sum1 (c : Dev nD) (t : Fin cfg0.N) (ht : t.val % 2 = 1) (n f : Fin 1024) :
    k0_pay5 (F := Ideal) (iblk m c 0 t) (iblk m c 1 t) (outsAt0 m c (t.val - 1) (prev_lt t)).2.2.2.1 (ix2 n f) = pr m c (row t n) (lo (col t f)) :=
  (p5 _ _ _ n f).trans <| (congrArg₂ (· + ·) (first1 m c t ht n f) (Finset.sum_congr rfl fun k _ => congrArg₂ (· * ·) (b0 m c t 1 ht n k) (b1 m c t 1 ht k f))).trans
    (halves fun k => gA m c (ix2 (row t n) k) * wA m c (ix2 k (lo (col t f))))
theorem sum2 (c : Dev nD) (t : Fin cfg0.N) (ht : t.val % 2 = 1) (n f : Fin 1024) :
    k0_pay6 (F := Ideal) (iblk m c 0 t) (iblk m c 2 t) (outsAt0 m c (t.val - 1) (prev_lt t)).2.2.2.2 (ix2 n f) = sg (pr m c (row t n) (hi (col t f))) :=
  (p6 _ _ _ n f).trans <| congrArg sg <| (congrArg₂ (· + ·) (first2 m c t ht n f) (Finset.sum_congr rfl fun k _ => congrArg₂ (· * ·) (b0 m c t 1 ht n k) (b2 m c t 1 ht k f))).trans
    (halves fun k => gA m c (ix2 (row t n) k) * wA m c (ix2 k (hi (col t f))))

variable {c : Dev nD}

theorem out4 (t : Fin cfg0.N) (ht : t.val % 2 = 1) (y : S1024x1024.Idx) :
    k0_pay7 (F := Ideal) (iblk m c 0 t) (iblk m c 1 t) (iblk m c 0 t) (iblk m c 2 t) (outsAt0 m c (t.val - 1) (prev_lt t)).2.2.2.1 (outsAt0 m c (t.val - 1) (prev_lt t)).2.2.2.2 (iblk m c 3 t) y
      = ref4 m c (((cfg0.win 4).blk t).view.emb y) := by
  rw [eq_ix2 y]
  refine (p7 _ _ _ _ _ _ _ _).trans ?_
  refine (congrArg₂ (· + ·) (b3 m c t _ _) (congrArg₂ (· * ·) (sum1 m c t ht _ _) (sum2 m c t ht _ _))).trans ?_
  refine (r4 m c (row t (y 0)) (col t (y 1))).symm.trans (congrArg _ ?_)
  blk_ext [idx t]
  · show 1024 * (t.val / 4) + _ = _
    omega
  · show 1024 * (t.val / 2 % 2) + _ = _
    omega
theorem out5 (t : Fin cfg0.N) (ht : t.val % 2 = 1) (y : S1024x1024.Idx) :
    k0_pay8 (F := Ideal) (iblk m c 0 t) (iblk m c 1 t) (outsAt0 m c (t.val - 1) (prev_lt t)).2.2.2.1 y = ref5 m c (((cfg0.win 5).blk t).view.emb y) := by
  rw [eq_ix2 y]
  refine Eq.trans (sum1 m c t ht (y 0) (y 1)) ((r5 m c (row t (y 0)) (col t (y 1))).symm.trans (congrArg _ ?_))
  blk_ext [idx t]
  · show 1024 * (t.val / 4) + _ = _
    omega
  · show 1024 * (t.val / 2 % 2) + _ = _
    omega
theorem out6 (t : Fin cfg0.N) (ht : t.val % 2 = 1) (y : S1024x1024.Idx) :
    k0_pay9 (F := Ideal) (iblk m c 0 t) (iblk m c 2 t) (outsAt0 m c (t.val - 1) (prev_lt t)).2.2.2.2 y = ref6 m c (((cfg0.win 6).blk t).view.emb y) := by
  rw [eq_ix2 y]
  refine Eq.trans (sum2 m c t ht (y 0) (y 1)) ((r6 m c (row t (y 0)) (col t (y 1))).symm.trans (congrArg _ ?_))
  blk_ext [idx t]
  · show 1024 * (t.val / 4) + _ = _
    omega
  · show 1024 * (t.val / 2 % 2) + _ = _
    omega

theorem odd : ∀ t : Fin cfg0.N, ((cfg0.win 4).flush t = true → t.val % 2 = 1) ∧ ((cfg0.win 5).flush t = true → t.val % 2 = 1)
    ∧ ((cfg0.win 6).flush t = true → t.val % 2 = 1) := (by decide +kernel : ∀ t : Fin grid0.N, _)

theorem final4 (c : Dev nD) : (dats m 0 c).arrAt 4 (cfgs 0).N = ref4 m c := by
  refine (dats m 0 c).arrAt_eq_of_covers 4 _ (by decide +kernel) fun t hf y => ?_
  have h1 := (odd t).1 hf
  blk_simp
  rw [after0_4, outsAt0_B m c t (by omega) h1]; frame_out
  rw [read_unread_whole, read_unread_whole]
  exact out4 m t h1 y
theorem final5 (c : Dev nD) : (dats m 0 c).arrAt 5 (cfgs 0).N = ref5 m c := by
  refine (dats m 0 c).arrAt_eq_of_covers 5 _ (by decide +kernel) fun t hf y => ?_
  have h1 := (odd t).2.1 hf
  blk_simp
  rw [after0_5, outsAt0_B m c t (by omega) h1]; frame_out
  rw [read_unread_whole]
  exact out5 m t h1 y
theorem final6 (c : Dev nD) : (dats m 0 c).arrAt 6 (cfgs 0).N = ref6 m c := by
  refine (dats m 0 c).arrAt_eq_of_covers 6 _ (by decide +kernel) fun t hf y => ?_
  have h1 := (odd t).2.2 hf
  blk_simp
  rw [after0_6, outsAt0_B m c t (by omega) h1]; frame_out
  rw [read_unread_whole]
  exact out6 m t h1 y

end Cert.OutIdeal.Arr

end
-- ==== Proof.FwdClaim.lean ====
/- The claims on the calls of the forward pass: the runs of each call and of its reference, side by side. -/
module

public import proofs.«01_k».proof.Proof.GmlpFValue
public import proofs.«01_k».proof.Proof.RmsFValue
public import proofs.«01_k».proof.Proof.PrepFValue
public import proofs.«01_k».proof.Proof.UpValue
public import proofs.«01_k».proof.Proof.GateValue
public import proofs.«01_k».proof.Proof.OutValue
public import proofs.«01_k».proof.Proof.Gen.GmlpFRefIdeal.Run
public import proofs.«01_k».proof.Proof.Gen.RmsFRefIdeal.Run
public import proofs.«01_k».proof.Proof.Gen.PrepFRefIdeal.Run
public import proofs.«01_k».proof.Proof.Gen.UpRefIdeal.Run
public import proofs.«01_k».proof.Proof.Gen.GateRefIdeal.Run
public import proofs.«01_k».proof.Proof.Gen.OutRefIdeal.Run
public import proofs.«01_k».proof.Proof.Real
public import Idealize.ShloMosaic.Lib.Claim

public import proofs.«01_k».proof.Defs

@[expose] public section

set_option maxRecDepth 16384

noncomputable section

open Idealize.ShloMosaic Idealize.ShloMosaic.TcCoe Idealize.SL.Sem
open Idealize.ShloMosaic.Pipeline (Dat)

namespace Cert.Fwd

theorem algebraic_gmlp_fwd : Cert.algebraic_GmlpFIdeal_GmlpFRefIdeal (hGmlpFIdeal := Cert.GmlpFIdeal.Gen.facts) (hGmlpFRefIdeal := Cert.GmlpFRefIdeal.Gen.facts) := by
  intro m g m' g' _ hag
  refine ⟨fun c => Cert.GmlpFIdeal.Arr.ref5 m c, ?_, ?_⟩
  · exact Cert.GmlpFIdeal.Arr.run_named m g
  · refine (θ_run _ _ _).mono (fun r h c => ?_) (Cert.GmlpFRefIdeal.Value.run m' g')
    obtain ⟨h0, hr⟩ := h c
    obtain ⟨e0, e1, e2, e3, e4⟩ := hag c
    replace h0 := h0.trans (Cert.GmlpFRefIdeal.Read.val_main_v56_eq _ _)
    rw [e0, e1, e2, e3, e4] at h0
    exact ⟨h0, hr⟩
theorem frame_gmlp_fwd_ref : Cert.quiescent_GmlpFRefIdeal (hGmlpFRefIdeal := Cert.GmlpFRefIdeal.Gen.facts) := fun m ρ _ =>
  (θ_run _ _ _).mono (fun r h => ⟨fun c => (h c).2, sem_eq_zero_of_no_sems rfl _⟩) (Cert.GmlpFRefIdeal.Value.run m ρ)

theorem algebraic_rms_fwd : Cert.algebraic_RmsFIdeal_RmsFRefIdeal (hRmsFIdeal := Cert.RmsFIdeal.Gen.facts) (hRmsFRefIdeal := Cert.RmsFRefIdeal.Gen.facts) := by
  intro m g m' g' _ hag
  refine ⟨fun c => Cert.RmsFIdeal.Arr.ref2 m c, ?_, ?_⟩
  · refine (θ_run _ _ _).mono (fun r h c => ?_) (Cert.RmsFIdeal.Value.run_blocks m g)
    obtain ⟨h0, hr⟩ := h c
    exact ⟨h0.trans (Cert.RmsFIdeal.Arr.final2 m c), hr⟩
  · refine (θ_run _ _ _).mono (fun r h c => ?_) (Cert.RmsFRefIdeal.Value.run m' g')
    obtain ⟨h0, hr⟩ := h c
    obtain ⟨e0, e1⟩ := hag c
    replace h0 := h0.trans (Cert.RmsFRefIdeal.Read.val_main_v14_eq _ _)
    rw [e0, e1] at h0
    exact ⟨h0, hr⟩
theorem frame_rms_fwd_ref : Cert.quiescent_RmsFRefIdeal (hRmsFRefIdeal := Cert.RmsFRefIdeal.Gen.facts) := fun m ρ _ =>
  (θ_run _ _ _).mono (fun r h => ⟨fun c => (h c).2, sem_eq_zero_of_no_sems rfl _⟩) (Cert.RmsFRefIdeal.Value.run m ρ)

theorem algebraic_prep_fwd : Cert.algebraic_PrepFIdeal_PrepFRefIdeal (hPrepFIdeal := Cert.PrepFIdeal.Gen.facts) (hPrepFRefIdeal := Cert.PrepFRefIdeal.Gen.facts) := by
  intro m g m' g' _ hag
  refine ⟨fun c => Cert.PrepFIdeal.Arr.ref5 m c, fun c => Cert.PrepFIdeal.Arr.ref6 m c, fun c => Cert.PrepFIdeal.Arr.ref7 m c, fun c => Cert.PrepFIdeal.Arr.ref8 m c, ?_, ?_⟩
  · refine (θ_run _ _ _).mono (fun r h c => ?_) (Cert.PrepFIdeal.Value.run_blocks m g)
    obtain ⟨h0, h1, h2, h3, hr⟩ := h c
    exact ⟨h0.trans (Cert.PrepFIdeal.Arr.final5 m c), h1.trans (Cert.PrepFIdeal.Arr.final6 m c), h2.trans (Cert.PrepFIdeal.Arr.final7 m c), h3.trans (Cert.PrepFIdeal.Arr.final8 m c), hr⟩
  · refine (θ_run _ _ _).mono (fun r h c => ?_) (Cert.PrepFRefIdeal.Value.run m' g')
    obtain ⟨h0, h1, h2, h3, hr⟩ := h c
    obtain ⟨e0, e1, e2, e3, e4⟩ := hag c
    replace h0 := h0.trans (Cert.PrepFRefIdeal.Read.val_main_v48_eq _ _ _)
    rw [e0, e1, e2] at h0
    replace h1 := h1.trans (Cert.PrepFRefIdeal.Read.val_main_v49_eq _ _ _)
    rw [e0, e1, e2] at h1
    replace h2 := h2.trans (Cert.PrepFRefIdeal.Read.val_main_v50_eq _ _)
    rw [e0, e1, e2, e3, e4] at h2
    replace h3 := h3.trans (Cert.PrepFRefIdeal.Read.val_main_v51_eq _ _)
    rw [e0, e1, e2, e3, e4] at h3
    exact ⟨h0, h1, h2, h3, hr⟩
theorem frame_prep_fwd_ref : Cert.quiescent_PrepFRefIdeal (hPrepFRefIdeal := Cert.PrepFRefIdeal.Gen.facts) := fun m ρ _ =>
  (θ_run _ _ _).mono (fun r h => ⟨fun c => (h c).2.2.2.2, sem_eq_zero_of_no_sems rfl _⟩) (Cert.PrepFRefIdeal.Value.run m ρ)

theorem algebraic_up : Cert.algebraic_UpIdeal_UpRefIdeal (hUpIdeal := Cert.UpIdeal.Gen.facts) (hUpRefIdeal := Cert.UpRefIdeal.Gen.facts) := by
  intro m g m' g' _ hag
  refine ⟨fun c => Cert.UpIdeal.Arr.ref3 m c, fun c => Cert.UpIdeal.Arr.ref4 m c, fun c => Cert.UpIdeal.Arr.ref5 m c, ?_, ?_⟩
  · refine (θ_run _ _ _).mono (fun r h c => ?_) (Cert.UpIdeal.Value.run_blocks m g)
    obtain ⟨h0, h1, h2, hr⟩ := h c
    exact ⟨h0.trans (Cert.UpIdeal.Arr.final3 m c), h1.trans (Cert.UpIdeal.Arr.final4 m c), h2.trans (Cert.UpIdeal.Arr.final5 m c), hr⟩
  · refine (θ_run _ _ _).mono (fun r h c => ?_) (Cert.UpRefIdeal.Value.run m' g')
    obtain ⟨h0, h1, h2, hr⟩ := h c
    obtain ⟨e0, e1, e2⟩ := hag c
    replace h0 := h0.trans (Cert.UpRefIdeal.Read.val_main_v2_eq _ _)
    rw [e0, e1] at h0
    replace h1 := h1.trans (Cert.UpRefIdeal.Read.val_main_v3_eq _ _)
    rw [e0, e2] at h1
    replace h2 := h2.trans (Cert.UpRefIdeal.Read.val_main_v6_eq _ _ _)
    rw [e0, e1, e2] at h2
    exact ⟨h0, h1, h2, hr⟩
theorem frame_up_ref : Cert.quiescent_UpRefIdeal (hUpRefIdeal := Cert.UpRefIdeal.Gen.facts) := fun m ρ _ =>
  (θ_run _ _ _).mono (fun r h => ⟨fun c => (h c).2.2.2, sem_eq_zero_of_no_sems rfl _⟩) (Cert.UpRefIdeal.Value.run m ρ)

theorem algebraic_gate : Cert.algebraic_GateIdeal_GateRefIdeal (hGateIdeal := Cert.GateIdeal.Gen.facts) (hGateRefIdeal := Cert.GateRefIdeal.Gen.facts) := by
  intro m g m' g' _ hag
  refine ⟨fun c => Cert.GateIdeal.Arr.ref8 m c, fun c => Cert.GateIdeal.Arr.ref9 m c, fun c => Cert.GateIdeal.Arr.ref10 m c, ?_, ?_⟩
  · refine (θ_run _ _ _).mono (fun r h c => ?_) (Cert.GateIdeal.Value.run_blocks m g)
    obtain ⟨h0, h1, h2, hr⟩ := h c
    exact ⟨h0.trans (Cert.GateIdeal.Arr.final8 m c), h1.trans (Cert.GateIdeal.Arr.final9 m c), h2.trans (Cert.GateIdeal.Arr.final10 m c), hr⟩
  · refine (θ_run _ _ _).mono (fun r h c => ?_) (Cert.GateRefIdeal.Value.run m' g')
    obtain ⟨h0, h1, h2, hr⟩ := h c
    obtain ⟨e0, e1, e2, e3, e4⟩ := hag c
    replace h0 := h0.trans (Cert.GateRefIdeal.Read.val_main_v9_eq _ _ _ _ _)
    rw [e0, e1, e2, e3, e4] at h0
    replace h1 := h1.trans (Cert.GateRefIdeal.Read.val_main_v10_eq _ _)
    rw [e0, e1] at h1
    replace h2 := h2.trans (Cert.GateRefIdeal.Read.val_main_v7_eq _ _)
    rw [e2, e3] at h2
    exact ⟨h0, h1, h2, hr⟩
theorem frame_gate_ref : Cert.quiescent_GateRefIdeal (hGateRefIdeal := Cert.GateRefIdeal.Gen.facts) := fun m ρ _ =>
  (θ_run _ _ _).mono (fun r h => ⟨fun c => (h c).2.2.2, sem_eq_zero_of_no_sems rfl _⟩) (Cert.GateRefIdeal.Value.run m ρ)

theorem algebraic_out : Cert.algebraic_OutIdeal_OutRefIdeal (hOutIdeal := Cert.OutIdeal.Gen.facts) (hOutRefIdeal := Cert.OutRefIdeal.Gen.facts) := by
  intro m g m' g' _ hag
  refine ⟨fun c => Cert.OutIdeal.Arr.ref4 m c, fun c => Cert.OutIdeal.Arr.ref5 m c, fun c => Cert.OutIdeal.Arr.ref6 m c, ?_, ?_⟩
  · refine (θ_run _ _ _).mono (fun r h c => ?_) (Cert.OutIdeal.Value.run_blocks m g)
    obtain ⟨h0, h1, h2, hr⟩ := h c
    exact ⟨h0.trans (Cert.OutIdeal.Arr.final4 m c), h1.trans (Cert.OutIdeal.Arr.final5 m c), h2.trans (Cert.OutIdeal.Arr.final6 m c), hr⟩
  · refine (θ_run _ _ _).mono (fun r h c => ?_) (Cert.OutRefIdeal.Value.run m' g')
    obtain ⟨h0, h1, h2, hr⟩ := h c
    obtain ⟨e0, e1, e2⟩ := hag c
    replace h0 := h0.trans (Cert.OutRefIdeal.Read.val_main_v10_eq _ _ _)
    rw [e0, e1, e2] at h0
    replace h1 := h1.trans (Cert.OutRefIdeal.Read.val_main_v11_eq _ _)
    rw [e0, e1] at h1
    replace h2 := h2.trans (Cert.OutRefIdeal.Read.val_main_v12_eq _ _)
    rw [e0, e1] at h2
    exact ⟨h0, h1, h2, hr⟩
theorem frame_out_ref : Cert.quiescent_OutRefIdeal (hOutRefIdeal := Cert.OutRefIdeal.Gen.facts) := fun m ρ _ =>
  (θ_run _ _ _).mono (fun r h => ⟨fun c => (h c).2.2.2, sem_eq_zero_of_no_sems rfl _⟩) (Cert.OutRefIdeal.Value.run m ρ)

end Cert.Fwd

end
-- ==== Proof.S5FLoop.lean ====
module

public import proofs.«01_k».proof.Proof.Gen.S5FIdeal.Loops
public import proofs.«01_k».proof.Proof.Gen.S5FIdeal.Frame

@[expose] public section

set_option maxRecDepth 16384
set_option maxHeartbeats 4000000

noncomputable section

namespace Cert.S5FK

open Cert.S5FIdeal Cert.S5FIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What the last loop reads (the rows in time order inside a segment) and what it writes (the rows in time order), before
    trip `k`. -/
abbrev heldT4 (c : Dev nD) (arg12 : Memref sig .tc .vmem S2048x128 .f32) (arg13 : Memref sig .tc .vmem S2048x128 .f32) (X12 : BufTy.Contents (Elt F) arg12.view.ty) (f13 : BufTy.Contents (Elt F) arg13.view.ty) : sProp 𝕄 :=
  iprop((arg12.view.loc (c : Thread nD τ) ↦[arg12.view.set]{fullShare} X12) ∗ (arg13.view.loc (c : Thread nD τ) ↦[arg13.view.set]{fullShare} f13))

/-- One trip of the last loop: the pieces it leaves in the second buffer are what the run finds. -/
@[irreducible] def tripT4 (𝒱 : Variants) (c : Dev nD) (bd : Option 𝒱.V) (i : grid0.Coords) (arg1 : Memref sig .tc .vmem S2048x128 .f32) (harg1 : arg1.IsWhole) (arg2 : Memref sig .tc .vmem S1x8x16x64 .f32) (harg2 : arg2.IsWhole) (arg3 : Memref sig .tc .vmem S1x8x16x64 .f32) (harg3 : arg3.IsWhole) (arg4 : Memref sig .tc .vmem S1x8x64x16 .f32) (harg4 : arg4.IsWhole) (arg5 : Memref sig .tc .vmem S1x8x64x16 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x128 .f32) (harg8 : arg8.IsWhole) (arg9 : Memref sig .tc .vmem S2048x128 .bf16) (harg9 : arg9.IsWhole) (arg10 : Memref sig .tc .vmem S2048x512 .f32) (harg10 : arg10.IsWhole) (arg11 : Memref sig .tc .vmem S2048x512 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S128x512 .f32) (harg14 : arg14.IsWhole) (arg15 : Memref sig .tc .vmem S128x512 .f32) (harg15 : arg15.IsWhole) (arg16 : Memref sig .tc .vmem S512x128 .f32) (harg16 : arg16.IsWhole) (arg17 : Memref sig .tc .vmem S512x128 .f32) (harg17 : arg17.IsWhole) (X12 : BufTy.Contents (Elt F) arg12.view.ty) (k : Fin k0_t4_loop.trips) :
    { L : List (View.Piece (Elt F) S2048x128 .f32) // ∀ (E : Set ℕ) (f13 : BufTy.Contents (Elt F) arg13.view.ty),
      heldT4 (F := F) c arg12 arg13 X12 f13
      ⊢ wp frame (wpE (defs₀ (F := F)) 𝒱 (c : Thread nD τ) bd) E (k0_t4_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 0#32 1#32 k PUnit.unit)
          (fun _ => heldT4 (F := F) c arg12 arg13 X12 (arg13.view.writes (Elt F) f13 L)) } := by
  have hk : k.val < 32 := Nat.lt_of_lt_of_le k.isLt k0_t4_abs.2.1
  refine ⟨?_, fun E f13 => ?run⟩
  case run =>
    unfold k0_t4_body
    iintro ⟨HR, HW⟩
    sl_exec
    sl_step
    sl_close

/-- The pieces of the trips before `k`, last first. -/
def beforeT4 (𝒱 : Variants) (c : Dev nD) (bd : Option 𝒱.V) (i : grid0.Coords) (arg1 : Memref sig .tc .vmem S2048x128 .f32) (harg1 : arg1.IsWhole) (arg2 : Memref sig .tc .vmem S1x8x16x64 .f32) (harg2 : arg2.IsWhole) (arg3 : Memref sig .tc .vmem S1x8x16x64 .f32) (harg3 : arg3.IsWhole) (arg4 : Memref sig .tc .vmem S1x8x64x16 .f32) (harg4 : arg4.IsWhole) (arg5 : Memref sig .tc .vmem S1x8x64x16 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x128 .f32) (harg8 : arg8.IsWhole) (arg9 : Memref sig .tc .vmem S2048x128 .bf16) (harg9 : arg9.IsWhole) (arg10 : Memref sig .tc .vmem S2048x512 .f32) (harg10 : arg10.IsWhole) (arg11 : Memref sig .tc .vmem S2048x512 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S128x512 .f32) (harg14 : arg14.IsWhole) (arg15 : Memref sig .tc .vmem S128x512 .f32) (harg15 : arg15.IsWhole) (arg16 : Memref sig .tc .vmem S512x128 .f32) (harg16 : arg16.IsWhole) (arg17 : Memref sig .tc .vmem S512x128 .f32) (harg17 : arg17.IsWhole) (X12 : BufTy.Contents (Elt F) arg12.view.ty) : ℕ → List (View.Piece (Elt F) S2048x128 .f32)
  | 0 => []
  | k + 1 => if h : k < k0_t4_loop.trips then (tripT4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X12 ⟨k, h⟩).1 ++ beforeT4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X12 k
      else beforeT4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X12 k

theorem beforeT4_succ (𝒱 : Variants) (c : Dev nD) (bd : Option 𝒱.V) (i : grid0.Coords) (arg1 : Memref sig .tc .vmem S2048x128 .f32) (harg1 : arg1.IsWhole) (arg2 : Memref sig .tc .vmem S1x8x16x64 .f32) (harg2 : arg2.IsWhole) (arg3 : Memref sig .tc .vmem S1x8x16x64 .f32) (harg3 : arg3.IsWhole) (arg4 : Memref sig .tc .vmem S1x8x64x16 .f32) (harg4 : arg4.IsWhole) (arg5 : Memref sig .tc .vmem S1x8x64x16 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x128 .f32) (harg8 : arg8.IsWhole) (arg9 : Memref sig .tc .vmem S2048x128 .bf16) (harg9 : arg9.IsWhole) (arg10 : Memref sig .tc .vmem S2048x512 .f32) (harg10 : arg10.IsWhole) (arg11 : Memref sig .tc .vmem S2048x512 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S128x512 .f32) (harg14 : arg14.IsWhole) (arg15 : Memref sig .tc .vmem S128x512 .f32) (harg15 : arg15.IsWhole) (arg16 : Memref sig .tc .vmem S512x128 .f32) (harg16 : arg16.IsWhole) (arg17 : Memref sig .tc .vmem S512x128 .f32) (harg17 : arg17.IsWhole) (X12 : BufTy.Contents (Elt F) arg12.view.ty) (k : Fin k0_t4_loop.trips) :
    beforeT4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X12 (k.val + 1)
      = (tripT4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X12 k).1 ++ beforeT4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X12 k.val := by
  rw [beforeT4.eq_2]; exact dif_pos k.isLt

/-- What holds before trip `k`: the first buffer as it was, the second with the earlier trips' pieces over what the loop found. -/
abbrev invT4 (𝒱 : Variants) (c : Dev nD) (bd : Option 𝒱.V) (i : grid0.Coords) (arg1 : Memref sig .tc .vmem S2048x128 .f32) (harg1 : arg1.IsWhole) (arg2 : Memref sig .tc .vmem S1x8x16x64 .f32) (harg2 : arg2.IsWhole) (arg3 : Memref sig .tc .vmem S1x8x16x64 .f32) (harg3 : arg3.IsWhole) (arg4 : Memref sig .tc .vmem S1x8x64x16 .f32) (harg4 : arg4.IsWhole) (arg5 : Memref sig .tc .vmem S1x8x64x16 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x128 .f32) (harg8 : arg8.IsWhole) (arg9 : Memref sig .tc .vmem S2048x128 .bf16) (harg9 : arg9.IsWhole) (arg10 : Memref sig .tc .vmem S2048x512 .f32) (harg10 : arg10.IsWhole) (arg11 : Memref sig .tc .vmem S2048x512 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S128x512 .f32) (harg14 : arg14.IsWhole) (arg15 : Memref sig .tc .vmem S128x512 .f32) (harg15 : arg15.IsWhole) (arg16 : Memref sig .tc .vmem S512x128 .f32) (harg16 : arg16.IsWhole) (arg17 : Memref sig .tc .vmem S512x128 .f32) (harg17 : arg17.IsWhole) (X12 : BufTy.Contents (Elt F) arg12.view.ty) (G13 : BufTy.Contents (Elt F) arg13.view.ty) (k : ℕ) (_u : PUnit) : sProp 𝕄 :=
  iprop((arg12.view.loc (c : Thread nD τ) ↦[arg12.view.set]{fullShare} X12) ∗ (∃ f, (arg13.view.loc (c : Thread nD τ) ↦[arg13.view.set]{fullShare} f) ∗ ⌜f = arg13.view.writes (Elt F) G13 (beforeT4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X12 k)⌝))

set_option warn.classDefReducibility false in
/-- The last loop goes through by that invariant. -/
@[sl_loop] def loopT4 (𝒱 : Variants) (c : Dev nD) (bd : Option 𝒱.V) (E : Set ℕ) (i : grid0.Coords) (arg1 : Memref sig .tc .vmem S2048x128 .f32) (harg1 : arg1.IsWhole) (arg2 : Memref sig .tc .vmem S1x8x16x64 .f32) (harg2 : arg2.IsWhole) (arg3 : Memref sig .tc .vmem S1x8x16x64 .f32) (harg3 : arg3.IsWhole) (arg4 : Memref sig .tc .vmem S1x8x64x16 .f32) (harg4 : arg4.IsWhole) (arg5 : Memref sig .tc .vmem S1x8x64x16 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x128 .f32) (harg8 : arg8.IsWhole) (arg9 : Memref sig .tc .vmem S2048x128 .bf16) (harg9 : arg9.IsWhole) (arg10 : Memref sig .tc .vmem S2048x512 .f32) (harg10 : arg10.IsWhole) (arg11 : Memref sig .tc .vmem S2048x512 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S128x512 .f32) (harg14 : arg14.IsWhole) (arg15 : Memref sig .tc .vmem S128x512 .f32) (harg15 : arg15.IsWhole) (arg16 : Memref sig .tc .vmem S512x128 .f32) (harg16 : arg16.IsWhole) (arg17 : Memref sig .tc .vmem S512x128 .f32) (harg17 : arg17.IsWhole) (X12 : BufTy.Contents (Elt F) arg12.view.ty) (G13 : BufTy.Contents (Elt F) arg13.view.ty) :
    LoopInvTy_k0_t4 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 0#32 1#32 where
  inv := invT4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X12 G13
  step k acc := by
    iintro ⟨HR, ⟨%f13, HW, %h13⟩⟩
    iapply (wp_wand_r Idealize.ShloMosaic.frame (wpE (defs₀ (F := F)) 𝒱 (c : Thread nD τ) bd) E)
    isplitl [HR HW]
    · iapply ((tripT4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X12 k).2 E f13)
      isplitl [HR]; · iexact HR
      iexact HW
    · iintro %_ ⟨HR, HW⟩
      isplitl [HR]; · iexact HR
      rw [beforeT4_succ]
      iexists _; isplitl [HW]; · iexact HW
      ipureintro; rw [h13, ← View.writes_append]

end Cert.S5FK

end
-- ==== Proof.S5FRead.lean ====
module

public import proofs.«01_k».proof.Proof.Gen.S5FIdeal.Loops
public import proofs.«01_k».proof.Proof.Gen.S5FIdeal.Frame
public import proofs.«01_k».proof.Proof.S5FLoop
public import Idealize.ShloMosaic.Lib.Pipeline.Value
public import Idealize.ShloMosaic.Lib.WritesUnit

@[expose] public section

set_option maxRecDepth 16384
set_option maxHeartbeats 4000000

noncomputable section

namespace Cert.S5FK

open Cert.S5FIdeal Cert.S5FIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section
variable (c : Dev nD) (i : grid0.Coords) (arg1 : Memref sig .tc .vmem S2048x128 .f32) (harg1 : arg1.IsWhole) (arg2 : Memref sig .tc .vmem S1x8x16x64 .f32) (harg2 : arg2.IsWhole) (arg3 : Memref sig .tc .vmem S1x8x16x64 .f32) (harg3 : arg3.IsWhole) (arg4 : Memref sig .tc .vmem S1x8x64x16 .f32) (harg4 : arg4.IsWhole) (arg5 : Memref sig .tc .vmem S1x8x64x16 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x128 .f32) (harg8 : arg8.IsWhole) (arg9 : Memref sig .tc .vmem S2048x128 .bf16) (harg9 : arg9.IsWhole) (arg10 : Memref sig .tc .vmem S2048x512 .f32) (harg10 : arg10.IsWhole) (arg11 : Memref sig .tc .vmem S2048x512 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S128x512 .f32) (harg14 : arg14.IsWhole) (arg15 : Memref sig .tc .vmem S128x512 .f32) (harg15 : arg15.IsWhole) (arg16 : Memref sig .tc .vmem S512x128 .f32) (harg16 : arg16.IsWhole) (arg17 : Memref sig .tc .vmem S512x128 .f32) (harg17 : arg17.IsWhole)

/-- Rows `8 n … 8 n + 7` of a buffer of states. -/
def rows8 (b : Vec F S2048x512 .f32) (n : ℕ) : Vec F S8x512 .f32 :=
  fun y => b (Fin.cons (α := fun a => Fin (S2048x512.size a)) ⟨(8 * n + (y 0).val) % 2048, Nat.mod_lt _ (by decide)⟩ (Fin.cons (α := fun a : Fin 1 => Fin (S2048x512.size a.succ)) ⟨(y 1).val, (y 1).isLt⟩ finZeroElim))

theorem rows8_eq (b : Vec F S2048x512 .f32) (n : ℕ) (y : S8x512.Idx) (z : S2048x512.Idx)
    (h0 : (z 0).val = 8 * n + (y 0).val) (h1 : (z 1).val = (y 1).val) : rows8 b n y = b z := by
  unfold rows8
  refine congrArg b (funext fun a => Fin.ext ?_)
  fin_cases a
  · show (8 * n + (y 0).val) % 2048 = (z 0).val
    rw [← h0]; exact Nat.mod_eq_of_lt (z 0).isLt
  · exact h1.symm

/-- One step of the recurrence on a block of states: the product with the decay, then the input. -/
def stepV (a b : FVec F S8x512 .f32) (s : FVec F S8x512 .f32 × FVec F S8x512 .f32) (xr xi : FVec F S8x512 .f32) :
    FVec F S8x512 .f32 × FVec F S8x512 .f32 :=
  (addf (subf (mulf a s.1) (mulf b s.2)) xr, addf (addf (mulf a s.2) (mulf b s.1)) xi)

/-- The block of states after `n` steps. -/
def runV (a b : FVec F S8x512 .f32) (xr xi : Vec F S2048x512 .f32) (s : FVec F S8x512 .f32 × FVec F S8x512 .f32) :
    ℕ → FVec F S8x512 .f32 × FVec F S8x512 .f32
  | 0 => s
  | n + 1 => stepV a b (runV a b xr xi s n) (rows8 xr n) (rows8 xi n)

theorem runV_succ (a b : FVec F S8x512 .f32) (xr xi : Vec F S2048x512 .f32) (s : FVec F S8x512 .f32 × FVec F S8x512 .f32) (n : ℕ) :
    runV a b xr xi s (n + 1) = stepV a b (runV a b xr xi s n) (rows8 xr n) (rows8 xi n) := rfl

section Load
variable {κ : Kind} {sp : Space} (v : View sig κ sp S2048x512 .f32) (f : v.ty.Contents (Elt F))

/-- A load of 8 whole rows reads those rows. -/
theorem load_rows (off : Fin 2 → ℕ) (inb) (n : ℕ) (hoff : off = ![8 * n, 0]) :
    v.readAt (Elt F) (Rect.unit (s := S2048x512) off S8x512.size inb).toLoadRect f = rows8 (v.read (Elt F) f) n := by
  subst hoff
  funext y
  rw [View.readAt_apply]
  refine (rows8_eq _ _ _ _ ?_ ?_).symm
  · show 8 * n + 1 * (y 0).val = _
    rw [Nat.one_mul]
  · show 0 + 1 * (y 1).val = _
    omega

end Load

theorem off3 (k : Fin k0_t2_loop.trips) (r : Fin 8) : k0_off3 k (BitVec.ofNat 32 r.val) = ![8 * (8 * k.val + r.val), 0] := by
  rw [k0_off3_eq]; congr 1; omega

theorem off4 (k : Fin k0_t3_loop.trips) (r : Fin 8) : k0_off4 k (BitVec.ofNat 32 r.val) = ![8 * (8 * k.val + r.val), 0] := by
  rw [k0_off4_eq]; congr 1; omega

theorem sc8 (v : Vec F S8x512 .f32) : (shapeCast S8x512 v shapeCasts_S8x512_S8x512 : FVec F S8x512 .f32) = v := Idealize.ShloMosaic.shapeCast_self v _

theorem sc8' (v : FVec F S8x512 .f32) : (shapeCast S8x512 v shapeCasts_S8x512_S8x512 : FVec F S8x512 .f32) = v := Idealize.ShloMosaic.shapeCast_self v _

/-- One trip of the first scan is eight steps. -/
theorem trip2 (v3 v7 : FVec F S8x512 .f32) (X10 : BufTy.Contents (Elt F) arg10.view.ty) (X11 : BufTy.Contents (Elt F) arg11.view.ty)
    (k : Fin k0_t2_loop.trips) (s0 s : FVec F S8x512 .f32 × FVec F S8x512 .f32)
    (hs : runV v3 v7 (arg10.view.read (Elt F) X10) (arg11.view.read (Elt F) X11) s0 (8 * k.val) = s) :
    tripR_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 v7 X10 X11 k s
      = runV v3 v7 (arg10.view.read (Elt F) X10) (arg11.view.read (Elt F) X11) s0 (8 * (k.val + 1)) := by
  have e : 8 * (k.val + 1) = 8 * k.val + 7 + 1 := by omega
  rw [e]
  iterate 8 rw [runV_succ]
  rw [hs]
  have a0 := load_rows arg10.view X10 (k0_off3 k 0#32) (k0_off3_inb k 0) (8 * k.val + 0) (off3 k 0)
  have b0 := load_rows arg11.view X11 (k0_off3 k 0#32) (k0_off3_inb k 0) (8 * k.val + 0) (off3 k 0)
  have a1 := load_rows arg10.view X10 (k0_off3 k 1#32) (k0_off3_inb k 1) (8 * k.val + 1) (off3 k 1)
  have b1 := load_rows arg11.view X11 (k0_off3 k 1#32) (k0_off3_inb k 1) (8 * k.val + 1) (off3 k 1)
  have a2 := load_rows arg10.view X10 (k0_off3 k 2#32) (k0_off3_inb k 2) (8 * k.val + 2) (off3 k 2)
  have b2 := load_rows arg11.view X11 (k0_off3 k 2#32) (k0_off3_inb k 2) (8 * k.val + 2) (off3 k 2)
  have a3 := load_rows arg10.view X10 (k0_off3 k 3#32) (k0_off3_inb k 3) (8 * k.val + 3) (off3 k 3)
  have b3 := load_rows arg11.view X11 (k0_off3 k 3#32) (k0_off3_inb k 3) (8 * k.val + 3) (off3 k 3)
  have a4 := load_rows arg10.view X10 (k0_off3 k 4#32) (k0_off3_inb k 4) (8 * k.val + 4) (off3 k 4)
  have b4 := load_rows arg11.view X11 (k0_off3 k 4#32) (k0_off3_inb k 4) (8 * k.val + 4) (off3 k 4)
  have a5 := load_rows arg10.view X10 (k0_off3 k 5#32) (k0_off3_inb k 5) (8 * k.val + 5) (off3 k 5)
  have b5 := load_rows arg11.view X11 (k0_off3 k 5#32) (k0_off3_inb k 5) (8 * k.val + 5) (off3 k 5)
  have a6 := load_rows arg10.view X10 (k0_off3 k 6#32) (k0_off3_inb k 6) (8 * k.val + 6) (off3 k 6)
  have b6 := load_rows arg11.view X11 (k0_off3 k 6#32) (k0_off3_inb k 6) (8 * k.val + 6) (off3 k 6)
  have a7 := load_rows arg10.view X10 (k0_off3 k 7#32) (k0_off3_inb k 7) (8 * k.val + 7) (off3 k 7)
  have b7 := load_rows arg11.view X11 (k0_off3 k 7#32) (k0_off3_inb k 7) (8 * k.val + 7) (off3 k 7)
  unfold tripR_k0_t2 trip_k0_t2
  simp only [trip_k0_t2.sl.r, trip_k0_t2.sl.r_1, trip_k0_t2.sl.r_2, trip_k0_t2.sl.r_3, trip_k0_t2.sl.r_4, trip_k0_t2.sl.r_5, a0, a1, a2, a3, a4, a5, a6, a7, b0, b1, b2, b3, b4, b5, b6, b7]
  generalize View.read (Elt F) arg10.view X10 = p
  generalize View.read (Elt F) arg11.view X11 = q
  simp only [k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay96, sc8, sc8', stepV, Nat.add_zero]

theorem trips2 : k0_t2_loop.trips = 32 := by decide +kernel

/-- The first scan before trip `k` holds the states after `8 k` steps. -/
theorem scan2 (v3 v7 : FVec F S8x512 .f32) (X10 : BufTy.Contents (Elt F) arg10.view.ty) (X11 : BufTy.Contents (Elt F) arg11.view.ty)
    (s0 : FVec F S8x512 .f32 × FVec F S8x512 .f32) (k : ℕ) (hk : k ≤ k0_t2_loop.trips) :
    st_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 v7 X10 X11 s0 k
      = runV v3 v7 (arg10.view.read (Elt F) X10) (arg11.view.read (Elt F) X11) s0 (8 * k) := by
  induction k with
  | zero => rfl
  | succ k ih =>
    rw [st_k0_t2_succ (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 v7 X10 X11 s0 ⟨k, hk⟩]
    exact trip2 (k := ⟨k, hk⟩) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 v7 X10 X11 s0 _ (ih (Nat.le_of_succ_le hk)).symm

/-! ### The second scan, which leaves each state in place of its input -/

/-- Entry `(y 0 mod 8, y 1)` of a block of rows. -/
def at8 (v : Vec F S8x512 .f32) (y : S2048x512.Idx) : F .f32 :=
  v (Fin.cons (α := fun a => Fin (S8x512.size a)) ⟨(y 0).val % 8, Nat.mod_lt _ (by decide)⟩ (Fin.cons (α := fun a : Fin 1 => Fin (S8x512.size a.succ)) ⟨(y 1).val, (y 1).isLt⟩ finZeroElim))

theorem at8_eq (v : Vec F S8x512 .f32) (y : S2048x512.Idx) (x : S8x512.Idx) (h0 : (y 0).val % 8 = (x 0).val)
    (h1 : (y 1).val = (x 1).val) : at8 v y = v x := by
  unfold at8
  refine congrArg v (funext fun a => Fin.ext ?_)
  fin_cases a
  · exact h0
  · exact h1

/-- The first `n` blocks replaced by the states after each step, the others as they were. -/
def mixV (S : ℕ → Vec F S8x512 .f32) (b : Vec F S2048x512 .f32) (n : ℕ) : Vec F S2048x512 .f32 :=
  fun y => if (y 0).val < 8 * n then at8 (S ((y 0).val / 8 + 1)) y else b y

theorem mixV_zero (S : ℕ → Vec F S8x512 .f32) (b : Vec F S2048x512 .f32) : mixV S b 0 = b := by
  funext y; unfold mixV; rw [if_neg (by omega)]

theorem rows8_mixV (S : ℕ → Vec F S8x512 .f32) (b : Vec F S2048x512 .f32) (n m : ℕ) (h : n ≤ m) (hm : m < 256) :
    rows8 (mixV S b n) m = rows8 b m := by
  funext y
  unfold rows8 mixV
  have hy : (y 0).val < 8 := (y 0).isLt
  rw [if_neg]
  show ¬ (8 * m + (y 0).val) % 2048 < 8 * n
  rw [Nat.mod_eq_of_lt (by omega)]; omega

section Store
variable {κ : Kind} {sp : Space} (v : View sig κ sp S2048x512 .f32) (f : v.ty.Contents (Elt F))

/-- Storing the state after step `n` over block `n`. -/
theorem store_mix (S : ℕ → Vec F S8x512 .f32) (b : Vec F S2048x512 .f32) (L : List (View.Piece (Elt F) S2048x512 .f32)) (n : ℕ)
    (off : Fin 2 → ℕ) (inb) (w : FVec F S8x512 .f32) (hoff : off = ![8 * n, 0])
    (hw : w = S (n + 1)) (h : v.read (Elt F) (v.writes (Elt F) f L) = mixV S b n) :
    v.read (Elt F) (v.writes (Elt F) f (⟨Rect.unit (s := S2048x512) off S8x512.size inb, w⟩ :: L)) = mixV S b (n + 1) := by
  funext y
  by_cases hy : 8 * n ≤ (y 0).val ∧ (y 0).val < 8 * n + 8
  · have hx : (y 0).val % 8 < 8 := Nat.mod_lt _ (by decide)
    rw [View.read_writes_cons_rows_of_mem (o := 8 * n) v f inb w L y
      (Fin.cons (α := fun a => Fin (S8x512.size a)) ⟨(y 0).val % 8, hx⟩ (Fin.cons (α := fun a : Fin 1 => Fin (S8x512.size a.succ)) ⟨(y 1).val, (y 1).isLt⟩ finZeroElim))
      hoff (by show (y 0).val = 8 * n + (y 0).val % 8; omega) rfl]
    unfold mixV
    have e : (y 0).val / 8 + 1 = n + 1 := by omega
    rw [if_pos (by omega), e, ← hw]
    exact (at8_eq w y _ rfl rfl).symm
  · rw [View.read_writes_cons_rows_of_not_mem (o := 8 * n) (W := 8) v f inb w L y hoff rfl (by omega), h]
    unfold mixV
    by_cases h8 : (y 0).val < 8 * n
    · rw [if_pos h8, if_pos (by omega)]
    · rw [if_neg h8, if_neg (by omega)]

end Store

/-- One trip of the second scan: eight steps, each state stored over its input. -/
theorem trip3 (v3 v7 : FVec F S8x512 .f32) (v186 v187 : Vec F S512x128 .f32) (v189 : Vec F S2048x128 .f32) (v190 : Vec F S1x128 .f32)
    (v395 v396 : FVec F S8x512 .f32) (f10 : BufTy.Contents (Elt F) arg10.view.ty) (f11 : BufTy.Contents (Elt F) arg11.view.ty)
    (b10 b11 : Vec F S2048x512 .f32) (k : Fin k0_t3_loop.trips) (s0 s : FVec F S8x512 .f32 × FVec F S8x512 .f32)
    (hs : s = runV v3 v7 b10 b11 s0 (8 * k.val))
    (h10 : arg10.view.read (Elt F) f10 = mixV (fun n => (runV v3 v7 b10 b11 s0 n).1) b10 (8 * k.val))
    (h11 : arg11.view.read (Elt F) f11 = mixV (fun n => (runV v3 v7 b10 b11 s0 n).2) b11 (8 * k.val)) :
    tripR_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 v7 v186 v187 v189 v190 v395 v396 k s f10 f11
      = runV v3 v7 b10 b11 s0 (8 * (k.val + 1))
    ∧ arg10.view.read (Elt F) (arg10.view.writes (Elt F) f10 (tripL_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 v7 v186 v187 v189 v190 v395 v396 k s f10 f11).1)
      = mixV (fun n => (runV v3 v7 b10 b11 s0 n).1) b10 (8 * (k.val + 1))
    ∧ arg11.view.read (Elt F) (arg11.view.writes (Elt F) f11 (tripL_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 v7 v186 v187 v189 v190 v395 v396 k s f10 f11).2)
      = mixV (fun n => (runV v3 v7 b10 b11 s0 n).2) b11 (8 * (k.val + 1)) := by
  have e : 8 * (k.val + 1) = 8 * k.val + 7 + 1 := by omega
  have hk : k.val < 32 := Nat.lt_of_lt_of_le k.isLt k0_t3_abs.2.1
  have a0 := (load_rows arg10.view f10 (k0_off4 k 0#32) (k0_off4_inb k 0) (8 * k.val + 0) (off4 k 0)).trans ((congrArg (fun b => rows8 b (8 * k.val + 0)) h10).trans (rows8_mixV _ _ _ _ (by omega) (by omega)))
  have b0 := (load_rows arg11.view f11 (k0_off4 k 0#32) (k0_off4_inb k 0) (8 * k.val + 0) (off4 k 0)).trans ((congrArg (fun b => rows8 b (8 * k.val + 0)) h11).trans (rows8_mixV _ _ _ _ (by omega) (by omega)))
  have a1 := (load_rows arg10.view f10 (k0_off4 k 1#32) (k0_off4_inb k 1) (8 * k.val + 1) (off4 k 1)).trans ((congrArg (fun b => rows8 b (8 * k.val + 1)) h10).trans (rows8_mixV _ _ _ _ (by omega) (by omega)))
  have b1 := (load_rows arg11.view f11 (k0_off4 k 1#32) (k0_off4_inb k 1) (8 * k.val + 1) (off4 k 1)).trans ((congrArg (fun b => rows8 b (8 * k.val + 1)) h11).trans (rows8_mixV _ _ _ _ (by omega) (by omega)))
  have a2 := (load_rows arg10.view f10 (k0_off4 k 2#32) (k0_off4_inb k 2) (8 * k.val + 2) (off4 k 2)).trans ((congrArg (fun b => rows8 b (8 * k.val + 2)) h10).trans (rows8_mixV _ _ _ _ (by omega) (by omega)))
  have b2 := (load_rows arg11.view f11 (k0_off4 k 2#32) (k0_off4_inb k 2) (8 * k.val + 2) (off4 k 2)).trans ((congrArg (fun b => rows8 b (8 * k.val + 2)) h11).trans (rows8_mixV _ _ _ _ (by omega) (by omega)))
  have a3 := (load_rows arg10.view f10 (k0_off4 k 3#32) (k0_off4_inb k 3) (8 * k.val + 3) (off4 k 3)).trans ((congrArg (fun b => rows8 b (8 * k.val + 3)) h10).trans (rows8_mixV _ _ _ _ (by omega) (by omega)))
  have b3 := (load_rows arg11.view f11 (k0_off4 k 3#32) (k0_off4_inb k 3) (8 * k.val + 3) (off4 k 3)).trans ((congrArg (fun b => rows8 b (8 * k.val + 3)) h11).trans (rows8_mixV _ _ _ _ (by omega) (by omega)))
  have a4 := (load_rows arg10.view f10 (k0_off4 k 4#32) (k0_off4_inb k 4) (8 * k.val + 4) (off4 k 4)).trans ((congrArg (fun b => rows8 b (8 * k.val + 4)) h10).trans (rows8_mixV _ _ _ _ (by omega) (by omega)))
  have b4 := (load_rows arg11.view f11 (k0_off4 k 4#32) (k0_off4_inb k 4) (8 * k.val + 4) (off4 k 4)).trans ((congrArg (fun b => rows8 b (8 * k.val + 4)) h11).trans (rows8_mixV _ _ _ _ (by omega) (by omega)))
  have a5 := (load_rows arg10.view f10 (k0_off4 k 5#32) (k0_off4_inb k 5) (8 * k.val + 5) (off4 k 5)).trans ((congrArg (fun b => rows8 b (8 * k.val + 5)) h10).trans (rows8_mixV _ _ _ _ (by omega) (by omega)))
  have b5 := (load_rows arg11.view f11 (k0_off4 k 5#32) (k0_off4_inb k 5) (8 * k.val + 5) (off4 k 5)).trans ((congrArg (fun b => rows8 b (8 * k.val + 5)) h11).trans (rows8_mixV _ _ _ _ (by omega) (by omega)))
  have a6 := (load_rows arg10.view f10 (k0_off4 k 6#32) (k0_off4_inb k 6) (8 * k.val + 6) (off4 k 6)).trans ((congrArg (fun b => rows8 b (8 * k.val + 6)) h10).trans (rows8_mixV _ _ _ _ (by omega) (by omega)))
  have b6 := (load_rows arg11.view f11 (k0_off4 k 6#32) (k0_off4_inb k 6) (8 * k.val + 6) (off4 k 6)).trans ((congrArg (fun b => rows8 b (8 * k.val + 6)) h11).trans (rows8_mixV _ _ _ _ (by omega) (by omega)))
  have a7 := (load_rows arg10.view f10 (k0_off4 k 7#32) (k0_off4_inb k 7) (8 * k.val + 7) (off4 k 7)).trans ((congrArg (fun b => rows8 b (8 * k.val + 7)) h10).trans (rows8_mixV _ _ _ _ (by omega) (by omega)))
  have b7 := (load_rows arg11.view f11 (k0_off4 k 7#32) (k0_off4_inb k 7) (8 * k.val + 7) (off4 k 7)).trans ((congrArg (fun b => rows8 b (8 * k.val + 7)) h11).trans (rows8_mixV _ _ _ _ (by omega) (by omega)))
  have s1 : runV v3 v7 b10 b11 s0 (8 * k.val + 0 + 1) = stepV v3 v7 (s) (rows8 b10 (8 * k.val + 0)) (rows8 b11 (8 * k.val + 0)) := by
    rw [hs]; exact runV_succ _ _ _ _ _ _
  have s2 : runV v3 v7 b10 b11 s0 (8 * k.val + 1 + 1) = stepV v3 v7 (runV v3 v7 b10 b11 s0 (8 * k.val + 0 + 1)) (rows8 b10 (8 * k.val + 1)) (rows8 b11 (8 * k.val + 1)) := by
    rw [runV_succ]
  have s3 : runV v3 v7 b10 b11 s0 (8 * k.val + 2 + 1) = stepV v3 v7 (runV v3 v7 b10 b11 s0 (8 * k.val + 1 + 1)) (rows8 b10 (8 * k.val + 2)) (rows8 b11 (8 * k.val + 2)) := by
    rw [runV_succ]
  have s4 : runV v3 v7 b10 b11 s0 (8 * k.val + 3 + 1) = stepV v3 v7 (runV v3 v7 b10 b11 s0 (8 * k.val + 2 + 1)) (rows8 b10 (8 * k.val + 3)) (rows8 b11 (8 * k.val + 3)) := by
    rw [runV_succ]
  have s5 : runV v3 v7 b10 b11 s0 (8 * k.val + 4 + 1) = stepV v3 v7 (runV v3 v7 b10 b11 s0 (8 * k.val + 3 + 1)) (rows8 b10 (8 * k.val + 4)) (rows8 b11 (8 * k.val + 4)) := by
    rw [runV_succ]
  have s6 : runV v3 v7 b10 b11 s0 (8 * k.val + 5 + 1) = stepV v3 v7 (runV v3 v7 b10 b11 s0 (8 * k.val + 4 + 1)) (rows8 b10 (8 * k.val + 5)) (rows8 b11 (8 * k.val + 5)) := by
    rw [runV_succ]
  have s7 : runV v3 v7 b10 b11 s0 (8 * k.val + 6 + 1) = stepV v3 v7 (runV v3 v7 b10 b11 s0 (8 * k.val + 5 + 1)) (rows8 b10 (8 * k.val + 6)) (rows8 b11 (8 * k.val + 6)) := by
    rw [runV_succ]
  have s8 : runV v3 v7 b10 b11 s0 (8 * k.val + 7 + 1) = stepV v3 v7 (runV v3 v7 b10 b11 s0 (8 * k.val + 6 + 1)) (rows8 b10 (8 * k.val + 7)) (rows8 b11 (8 * k.val + 7)) := by
    rw [runV_succ]
  rw [e]
  unfold tripR_k0_t3 tripL_k0_t3 trip_k0_t3
  refine ⟨?_, (store_mix arg10.view f10 _ _ _ (8 * k.val + 7) _ (k0_off4_inb k 7) _ (off4 k 7) ?_
      (store_mix arg10.view f10 _ _ _ (8 * k.val + 6) _ (k0_off4_inb k 6) _ (off4 k 6) ?_
      (store_mix arg10.view f10 _ _ _ (8 * k.val + 5) _ (k0_off4_inb k 5) _ (off4 k 5) ?_
      (store_mix arg10.view f10 _ _ _ (8 * k.val + 4) _ (k0_off4_inb k 4) _ (off4 k 4) ?_
      (store_mix arg10.view f10 _ _ _ (8 * k.val + 3) _ (k0_off4_inb k 3) _ (off4 k 3) ?_
      (store_mix arg10.view f10 _ _ _ (8 * k.val + 2) _ (k0_off4_inb k 2) _ (off4 k 2) ?_
      (store_mix arg10.view f10 _ _ _ (8 * k.val + 1) _ (k0_off4_inb k 1) _ (off4 k 1) ?_
      (store_mix arg10.view f10 _ _ _ (8 * k.val + 0) _ (k0_off4_inb k 0) _ (off4 k 0) ?_
      h10)))))))),
    (store_mix arg11.view f11 _ _ _ (8 * k.val + 7) _ (k0_off4_inb k 7) _ (off4 k 7) ?_
      (store_mix arg11.view f11 _ _ _ (8 * k.val + 6) _ (k0_off4_inb k 6) _ (off4 k 6) ?_
      (store_mix arg11.view f11 _ _ _ (8 * k.val + 5) _ (k0_off4_inb k 5) _ (off4 k 5) ?_
      (store_mix arg11.view f11 _ _ _ (8 * k.val + 4) _ (k0_off4_inb k 4) _ (off4 k 4) ?_
      (store_mix arg11.view f11 _ _ _ (8 * k.val + 3) _ (k0_off4_inb k 3) _ (off4 k 3) ?_
      (store_mix arg11.view f11 _ _ _ (8 * k.val + 2) _ (k0_off4_inb k 2) _ (off4 k 2) ?_
      (store_mix arg11.view f11 _ _ _ (8 * k.val + 1) _ (k0_off4_inb k 1) _ (off4 k 1) ?_
      (store_mix arg11.view f11 _ _ _ (8 * k.val + 0) _ (k0_off4_inb k 0) _ (off4 k 0) ?_
      h11))))))))⟩ <;>
  simp only [trip_k0_t3.sl.r, trip_k0_t3.sl.r_1, trip_k0_t3.sl.r_2, trip_k0_t3.sl.r_3, trip_k0_t3.sl.r_4, trip_k0_t3.sl.r_5, trip_k0_t3.sl.r_6, trip_k0_t3.sl.r_7, trip_k0_t3.sl.r_8, trip_k0_t3.sl.v471, trip_k0_t3.sl.v475, trip_k0_t3.sl.v493, trip_k0_t3.sl.v497, trip_k0_t3.sl.v515, trip_k0_t3.sl.v519, trip_k0_t3.sl.v537, trip_k0_t3.sl.v541, trip_k0_t3.sl.v559, trip_k0_t3.sl.v563, trip_k0_t3.sl.v581, trip_k0_t3.sl.v585, trip_k0_t3.sl.v603, trip_k0_t3.sl.v607, a0, a1, a2, a3, a4, a5, a6, a7, b0, b1, b2, b3, b4, b5, b6, b7, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay135, sc8, sc8', stepV, s1, s2, s3, s4, s5, s6, s7, s8]

theorem trips3 : k0_t3_loop.trips = 32 := by decide +kernel

/-- The second scan before trip `k`: the state carried, and the states stored so far. -/
theorem scan3 (v3 v7 : FVec F S8x512 .f32) (v186 v187 : Vec F S512x128 .f32) (v189 : Vec F S2048x128 .f32) (v190 : Vec F S1x128 .f32)
    (v395 v396 : FVec F S8x512 .f32) (G10 : BufTy.Contents (Elt F) arg10.view.ty) (G11 : BufTy.Contents (Elt F) arg11.view.ty)
    (b10 b11 : Vec F S2048x512 .f32) (h10 : arg10.view.read (Elt F) G10 = b10) (h11 : arg11.view.read (Elt F) G11 = b11)
    (s0 : FVec F S8x512 .f32 × FVec F S8x512 .f32) (k : ℕ) (hk : k ≤ k0_t3_loop.trips) :
    (st_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 v7 v186 v187 v189 v190 v395 v396 G10 G11 s0 k).1 = runV v3 v7 b10 b11 s0 (8 * k)
    ∧ arg10.view.read (Elt F) (arg10.view.writes (Elt F) G10 (st_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 v7 v186 v187 v189 v190 v395 v396 G10 G11 s0 k).2.1)
      = mixV (fun n => (runV v3 v7 b10 b11 s0 n).1) b10 (8 * k)
    ∧ arg11.view.read (Elt F) (arg11.view.writes (Elt F) G11 (st_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 v7 v186 v187 v189 v190 v395 v396 G10 G11 s0 k).2.2)
      = mixV (fun n => (runV v3 v7 b10 b11 s0 n).2) b11 (8 * k) := by
  induction k with
  | zero => exact ⟨rfl, h10.trans (mixV_zero _ _).symm, h11.trans (mixV_zero _ _).symm⟩
  | succ k ih =>
    obtain ⟨i1, i2, i3⟩ := ih (Nat.le_of_succ_le hk)
    rw [st_k0_t3_succ (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 v7 v186 v187 v189 v190 v395 v396 G10 G11 s0 ⟨k, hk⟩]
    rw [View.writes_append, View.writes_append]
    exact trip3 (k := ⟨k, hk⟩) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 v7 v186 v187 v189 v190 v395 v396 _ _ b10 b11 s0 _ i1 i2 i3

/-! ### The two loops that move rows -/

/-- The index `(a, b)` of a block of time steps. -/
def ix (a b : ℕ) : S2048x128.Idx :=
  Fin.cons (α := fun a => Fin (S2048x128.size a)) ⟨a % 2048, Nat.mod_lt _ (by decide)⟩ (Fin.cons (α := fun a : Fin 1 => Fin (S2048x128.size a.succ)) ⟨b % 128, Nat.mod_lt _ (by decide)⟩ finZeroElim)

theorem ix_eq (a b : ℕ) (z : S2048x128.Idx) (h0 : (z 0).val = a) (h1 : (z 1).val = b) : ix a b = z := by
  subst h0 h1
  unfold ix
  refine funext fun a => Fin.ext ?_
  fin_cases a
  · exact Nat.mod_eq_of_lt (z 0).isLt
  · exact Nat.mod_eq_of_lt (z 1).isLt

theorem sc1 (v : Vec F S8x128 .f32) : (shapeCast S8x128 v shapeCasts_S8x128_S8x128 : FVec F S8x128 .f32) = v := Idealize.ShloMosaic.shapeCast_self v _

theorem trips1 : k0_t1_loop.trips = 32 := by decide +kernel
theorem trips4 : k0_t4_loop.trips = 32 := by decide +kernel

theorem off1 (k : Fin k0_t1_loop.trips) (r : Fin 8) : k0_off1 k (BitVec.ofNat 32 r.val) = ![8 * k.val + r.val, 0] := k0_off1_eq k r

theorem off2 (k : Fin k0_t1_loop.trips) (r : Fin 8) : k0_off2 k (BitVec.ofNat 32 r.val) = ![8 * (8 * k.val + r.val), 0] := by
  rw [k0_off2_eq]; congr 1; omega

theorem off5 (k : Fin k0_t4_loop.trips) (r : Fin 8) : k0_off5 k (BitVec.ofNat 32 r.val) = ![8 * (8 * k.val + r.val), 0] := by
  rw [k0_off5_eq]; congr 1; omega

/-- The rows of the input put in the order of the scan: row `8 j + s` is time `256 s + j`; the first `n` blocks. -/
def inV (x b : Vec F S2048x128 .f32) (n : ℕ) : Vec F S2048x128 .f32 :=
  fun y => if (y 0).val < 8 * n then x (ix (256 * ((y 0).val % 8) + (y 0).val / 8) (y 1).val) else b y

/-- The rows put back in the order of time; the first `n` steps of each of the 8 segments. -/
def outV (x b : Vec F S2048x128 .f32) (n : ℕ) : Vec F S2048x128 .f32 :=
  fun y => if (y 0).val % 256 < n then x (ix (8 * ((y 0).val % 256) + (y 0).val / 256) (y 1).val) else b y

section Move
variable {κ : Kind} {sp : Space} (v : View sig κ sp S2048x128 .f32) (f : v.ty.Contents (Elt F))

/-- A load of 8 rows 256 apart. -/
theorem load_apart (off : Fin 2 → ℕ) (inb) (n : ℕ) (hoff : off = ![n, 0]) (y : S8x128.Idx) :
    v.readAt (Elt F) (⟨off, S8x128.size, ![256, 1], inb⟩ : LoadRect S2048x128) f y
      = v.read (Elt F) f (ix (256 * (y 0).val + n) (y 1).val) := by
  subst hoff
  rw [View.readAt_apply]
  refine congrArg (v.read (Elt F) f) (ix_eq _ _ _ ?_ ?_).symm
  · show n + 256 * (y 0).val = _
    omega
  · show 0 + 1 * (y 1).val = _
    omega

/-- A load of 8 whole rows. -/
theorem load_near (off : Fin 2 → ℕ) (inb) (n : ℕ) (hoff : off = ![8 * n, 0]) (y : S8x128.Idx) :
    v.readAt (Elt F) (Rect.unit (s := S2048x128) off S8x128.size inb).toLoadRect f y
      = v.read (Elt F) f (ix (8 * n + (y 0).val) (y 1).val) := by
  subst hoff
  rw [View.readAt_apply]
  refine congrArg (v.read (Elt F) f) (ix_eq _ _ _ ?_ ?_).symm
  · show 8 * n + 1 * (y 0).val = _
    omega
  · show 0 + 1 * (y 1).val = _
    omega

theorem store_in (x b : Vec F S2048x128 .f32) (L : List (View.Piece (Elt F) S2048x128 .f32)) (n : ℕ) (hn : n < 256)
    (off : Fin 2 → ℕ) (inb) (w : FVec F S8x128 .f32) (hoff : off = ![8 * n, 0])
    (hw : ∀ y : S8x128.Idx, w y = x (ix (256 * (y 0).val + n) (y 1).val)) (h : v.read (Elt F) (v.writes (Elt F) f L) = inV x b n) :
    v.read (Elt F) (v.writes (Elt F) f (⟨Rect.unit (s := S2048x128) off S8x128.size inb, w⟩ :: L)) = inV x b (n + 1) := by
  funext y
  by_cases hy : 8 * n ≤ (y 0).val ∧ (y 0).val < 8 * n + 8
  · have hx : (y 0).val % 8 < 8 := Nat.mod_lt _ (by decide)
    rw [View.read_writes_cons_rows_of_mem (o := 8 * n) v f inb w L y
      (Fin.cons (α := fun a => Fin (S8x128.size a)) ⟨(y 0).val % 8, hx⟩ (Fin.cons (α := fun a : Fin 1 => Fin (S8x128.size a.succ)) ⟨(y 1).val, (y 1).isLt⟩ finZeroElim))
      hoff (by show (y 0).val = 8 * n + (y 0).val % 8; omega) rfl]
    unfold inV
    have e : (y 0).val / 8 = n := by omega
    rw [if_pos (by omega), e]
    exact hw _
  · rw [View.read_writes_cons_rows_of_not_mem (o := 8 * n) (W := 8) v f inb w L y hoff rfl (by omega), h]
    unfold inV
    by_cases h8 : (y 0).val < 8 * n
    · rw [if_pos h8, if_pos (by omega)]
    · rw [if_neg h8, if_neg (by omega)]

theorem store_out (x b : Vec F S2048x128 .f32) (L : List (View.Piece (Elt F) S2048x128 .f32)) (n : ℕ) (hn : n < 256)
    (off : Fin 2 → ℕ) (inb) (hs) (w : FVec F S8x128 .f32) (hoff : off = ![n, 0])
    (hw : ∀ y : S8x128.Idx, w y = x (ix (8 * n + (y 0).val) (y 1).val)) (h : v.read (Elt F) (v.writes (Elt F) f L) = outV x b n) :
    v.read (Elt F) (v.writes (Elt F) f ((⟨(⟨(⟨off, S8x128.size, ![256, 1], inb⟩ : LoadRect S2048x128), hs⟩ : Rect S2048x128), w⟩ : View.Piece (Elt F) S2048x128 .f32) :: L)) = outV x b (n + 1) := by
  subst hoff
  funext y
  by_cases hy : (y 0).val % 256 = n
  · have hx : (y 0).val / 256 < 8 := by have := (y 0).isLt; have e : (y 0).val < 2048 := this; omega
    have e := View.read_writes_cons_emb v f (⟨(⟨![n, 0], S8x128.size, ![256, 1], inb⟩ : LoadRect S2048x128), hs⟩ : Rect S2048x128) w L
      (Fin.cons (α := fun a => Fin (S8x128.size a)) ⟨(y 0).val / 256, hx⟩ (Fin.cons (α := fun a : Fin 1 => Fin (S8x128.size a.succ)) ⟨(y 1).val, (y 1).isLt⟩ finZeroElim))
    have ey : y = (⟨(⟨![n, 0], S8x128.size, ![256, 1], inb⟩ : LoadRect S2048x128), hs⟩ : Rect S2048x128).emb
      (Fin.cons (α := fun a => Fin (S8x128.size a)) ⟨(y 0).val / 256, hx⟩ (Fin.cons (α := fun a : Fin 1 => Fin (S8x128.size a.succ)) ⟨(y 1).val, (y 1).isLt⟩ finZeroElim)) := by
      refine funext fun a => Fin.ext ?_
      fin_cases a
      · show (y 0).val = n + 256 * ((y 0).val / 256)
        omega
      · show (y 1).val = 0 + 1 * (y 1).val
        omega
    refine (congrArg _ ey).trans (e.trans ?_)
    rw [hw]
    unfold outV
    rw [if_pos (by omega), hy]
    rfl
  · rw [View.writes_cons, View.read_slice_write_of_not_mem, h]
    · unfold outV
      by_cases h8 : (y 0).val % 256 < n
      · rw [if_pos h8, if_pos (by omega)]
      · rw [if_neg h8, if_neg (by omega)]
    · rw [Rect.map_emb_univ, LoadRect.mem_set]
      intro hall
      obtain ⟨j, hj, e⟩ := hall 0
      have e' : (y 0).val = n + 256 * j := e
      omega

end Move

/-- One trip of the first loop. -/
theorem trip1 (v3 v7 : FVec F S8x512 .f32) (X1 : BufTy.Contents (Elt F) arg1.view.ty) (f12 : BufTy.Contents (Elt F) arg12.view.ty)
    (b : Vec F S2048x128 .f32) (k : Fin k0_t1_loop.trips)
    (h : arg12.view.read (Elt F) f12 = inV (arg1.view.read (Elt F) X1) b (8 * k.val)) :
    arg12.view.read (Elt F) (arg12.view.writes (Elt F) f12 (tripL_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 v7 X1 k))
      = inV (arg1.view.read (Elt F) X1) b (8 * (k.val + 1)) := by
  have e : 8 * (k.val + 1) = 8 * k.val + 7 + 1 := by omega
  have hk : k.val < 32 := Nat.lt_of_lt_of_le k.isLt k0_t1_abs.2.1
  rw [e]
  unfold tripL_k0_t1 trip_k0_t1
  refine store_in arg12.view f12 _ _ _ (8 * k.val + 7) (by omega) _ (k0_off2_inb k 7) _ (off2 k 7) (fun y => ?_) ?_
  · simp only [trip_k0_t1.sl.v447, trip_k0_t1.sl.v457, trip_k0_t1.sl.v467, trip_k0_t1.sl.v477, trip_k0_t1.sl.v487, trip_k0_t1.sl.v497, trip_k0_t1.sl.v507, trip_k0_t1.sl.r_1, k0_pay92, sc1]
    exact load_apart arg1.view X1 _ (k0_off1_inb k 7) (8 * k.val + 7) (off1 k 7) y
  refine store_in arg12.view f12 _ _ _ (8 * k.val + 6) (by omega) _ (k0_off2_inb k 6) _ (off2 k 6) (fun y => ?_) ?_
  · simp only [trip_k0_t1.sl.v447, trip_k0_t1.sl.v457, trip_k0_t1.sl.v467, trip_k0_t1.sl.v477, trip_k0_t1.sl.v487, trip_k0_t1.sl.v497, trip_k0_t1.sl.v507, trip_k0_t1.sl.r_1, k0_pay92, sc1]
    exact load_apart arg1.view X1 _ (k0_off1_inb k 6) (8 * k.val + 6) (off1 k 6) y
  refine store_in arg12.view f12 _ _ _ (8 * k.val + 5) (by omega) _ (k0_off2_inb k 5) _ (off2 k 5) (fun y => ?_) ?_
  · simp only [trip_k0_t1.sl.v447, trip_k0_t1.sl.v457, trip_k0_t1.sl.v467, trip_k0_t1.sl.v477, trip_k0_t1.sl.v487, trip_k0_t1.sl.v497, trip_k0_t1.sl.v507, trip_k0_t1.sl.r_1, k0_pay92, sc1]
    exact load_apart arg1.view X1 _ (k0_off1_inb k 5) (8 * k.val + 5) (off1 k 5) y
  refine store_in arg12.view f12 _ _ _ (8 * k.val + 4) (by omega) _ (k0_off2_inb k 4) _ (off2 k 4) (fun y => ?_) ?_
  · simp only [trip_k0_t1.sl.v447, trip_k0_t1.sl.v457, trip_k0_t1.sl.v467, trip_k0_t1.sl.v477, trip_k0_t1.sl.v487, trip_k0_t1.sl.v497, trip_k0_t1.sl.v507, trip_k0_t1.sl.r_1, k0_pay92, sc1]
    exact load_apart arg1.view X1 _ (k0_off1_inb k 4) (8 * k.val + 4) (off1 k 4) y
  refine store_in arg12.view f12 _ _ _ (8 * k.val + 3) (by omega) _ (k0_off2_inb k 3) _ (off2 k 3) (fun y => ?_) ?_
  · simp only [trip_k0_t1.sl.v447, trip_k0_t1.sl.v457, trip_k0_t1.sl.v467, trip_k0_t1.sl.v477, trip_k0_t1.sl.v487, trip_k0_t1.sl.v497, trip_k0_t1.sl.v507, trip_k0_t1.sl.r_1, k0_pay92, sc1]
    exact load_apart arg1.view X1 _ (k0_off1_inb k 3) (8 * k.val + 3) (off1 k 3) y
  refine store_in arg12.view f12 _ _ _ (8 * k.val + 2) (by omega) _ (k0_off2_inb k 2) _ (off2 k 2) (fun y => ?_) ?_
  · simp only [trip_k0_t1.sl.v447, trip_k0_t1.sl.v457, trip_k0_t1.sl.v467, trip_k0_t1.sl.v477, trip_k0_t1.sl.v487, trip_k0_t1.sl.v497, trip_k0_t1.sl.v507, trip_k0_t1.sl.r_1, k0_pay92, sc1]
    exact load_apart arg1.view X1 _ (k0_off1_inb k 2) (8 * k.val + 2) (off1 k 2) y
  refine store_in arg12.view f12 _ _ _ (8 * k.val + 1) (by omega) _ (k0_off2_inb k 1) _ (off2 k 1) (fun y => ?_) ?_
  · simp only [trip_k0_t1.sl.v447, trip_k0_t1.sl.v457, trip_k0_t1.sl.v467, trip_k0_t1.sl.v477, trip_k0_t1.sl.v487, trip_k0_t1.sl.v497, trip_k0_t1.sl.v507, trip_k0_t1.sl.r_1, k0_pay92, sc1]
    exact load_apart arg1.view X1 _ (k0_off1_inb k 1) (8 * k.val + 1) (off1 k 1) y
  refine store_in arg12.view f12 _ _ _ (8 * k.val + 0) (by omega) _ (k0_off2_inb k 0) _ (off2 k 0) (fun y => ?_) ?_
  · simp only [trip_k0_t1.sl.v447, trip_k0_t1.sl.v457, trip_k0_t1.sl.v467, trip_k0_t1.sl.v477, trip_k0_t1.sl.v487, trip_k0_t1.sl.v497, trip_k0_t1.sl.v507, trip_k0_t1.sl.r_1, k0_pay92, sc1]
    exact load_apart arg1.view X1 _ (k0_off1_inb k 0) (8 * k.val + 0) (off1 k 0) y
  exact h

/-- The first loop leaves the input in the order of the scan. -/
theorem move1 (v3 v7 : FVec F S8x512 .f32) (X1 : BufTy.Contents (Elt F) arg1.view.ty) (f12 : BufTy.Contents (Elt F) arg12.view.ty)
    (k : ℕ) (hk : k ≤ k0_t1_loop.trips) :
    arg12.view.read (Elt F) (arg12.view.writes (Elt F) f12 (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 v7 X1 k))
      = inV (arg1.view.read (Elt F) X1) (arg12.view.read (Elt F) f12) (8 * k) := by
  induction k with
  | zero => funext y; unfold inV; rw [if_neg (by omega)]; rfl
  | succ k ih =>
    rw [pb_k0_t1_succ (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 v7 X1 ⟨k, hk⟩, View.writes_append]
    exact trip1 (k := ⟨k, hk⟩) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 v7 X1 _ _ (ih (Nat.le_of_succ_le hk))

/-- One trip of the last loop. -/
theorem trip4 (X12 : BufTy.Contents (Elt F) arg12.view.ty) (f13 : BufTy.Contents (Elt F) arg13.view.ty)
    (b : Vec F S2048x128 .f32) (k : Fin k0_t4_loop.trips)
    (h : arg13.view.read (Elt F) f13 = outV (arg12.view.read (Elt F) X12) b (8 * k.val)) :
    arg13.view.read (Elt F) (arg13.view.writes (Elt F) f13 (tripT4 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X12 k).1)
      = outV (arg12.view.read (Elt F) X12) b (8 * (k.val + 1)) := by
  have e : 8 * (k.val + 1) = 8 * k.val + 7 + 1 := by omega
  have hk : k.val < 32 := Nat.lt_of_lt_of_le k.isLt k0_t4_abs.2.1
  rw [e]
  unfold tripT4
  unfold tripT4.sl.HW_6 tripT4.sl.HW_5 tripT4.sl.HW_4 tripT4.sl.HW_3 tripT4.sl.HW_2 tripT4.sl.HW_1
  refine store_out arg13.view f13 _ _ _ (8 * k.val + 7) (by omega) _ (k0_off6_inb k 7) _ _ (k0_off6_eq k 7) (fun y => ?_) ?_
  · simp only [tripT4.sl.v447, tripT4.sl.v457, tripT4.sl.v467, tripT4.sl.v477, tripT4.sl.v487, tripT4.sl.v497, tripT4.sl.v507, k0_pay1, sc1]
    exact load_near arg12.view X12 _ (k0_off5_inb k 7) (8 * k.val + 7) (off5 k 7) y
  refine store_out arg13.view f13 _ _ _ (8 * k.val + 6) (by omega) _ (k0_off6_inb k 6) _ _ (k0_off6_eq k 6) (fun y => ?_) ?_
  · simp only [tripT4.sl.v447, tripT4.sl.v457, tripT4.sl.v467, tripT4.sl.v477, tripT4.sl.v487, tripT4.sl.v497, tripT4.sl.v507, k0_pay1, sc1]
    exact load_near arg12.view X12 _ (k0_off5_inb k 6) (8 * k.val + 6) (off5 k 6) y
  refine store_out arg13.view f13 _ _ _ (8 * k.val + 5) (by omega) _ (k0_off6_inb k 5) _ _ (k0_off6_eq k 5) (fun y => ?_) ?_
  · simp only [tripT4.sl.v447, tripT4.sl.v457, tripT4.sl.v467, tripT4.sl.v477, tripT4.sl.v487, tripT4.sl.v497, tripT4.sl.v507, k0_pay1, sc1]
    exact load_near arg12.view X12 _ (k0_off5_inb k 5) (8 * k.val + 5) (off5 k 5) y
  refine store_out arg13.view f13 _ _ _ (8 * k.val + 4) (by omega) _ (k0_off6_inb k 4) _ _ (k0_off6_eq k 4) (fun y => ?_) ?_
  · simp only [tripT4.sl.v447, tripT4.sl.v457, tripT4.sl.v467, tripT4.sl.v477, tripT4.sl.v487, tripT4.sl.v497, tripT4.sl.v507, k0_pay1, sc1]
    exact load_near arg12.view X12 _ (k0_off5_inb k 4) (8 * k.val + 4) (off5 k 4) y
  refine store_out arg13.view f13 _ _ _ (8 * k.val + 3) (by omega) _ (k0_off6_inb k 3) _ _ (k0_off6_eq k 3) (fun y => ?_) ?_
  · simp only [tripT4.sl.v447, tripT4.sl.v457, tripT4.sl.v467, tripT4.sl.v477, tripT4.sl.v487, tripT4.sl.v497, tripT4.sl.v507, k0_pay1, sc1]
    exact load_near arg12.view X12 _ (k0_off5_inb k 3) (8 * k.val + 3) (off5 k 3) y
  refine store_out arg13.view f13 _ _ _ (8 * k.val + 2) (by omega) _ (k0_off6_inb k 2) _ _ (k0_off6_eq k 2) (fun y => ?_) ?_
  · simp only [tripT4.sl.v447, tripT4.sl.v457, tripT4.sl.v467, tripT4.sl.v477, tripT4.sl.v487, tripT4.sl.v497, tripT4.sl.v507, k0_pay1, sc1]
    exact load_near arg12.view X12 _ (k0_off5_inb k 2) (8 * k.val + 2) (off5 k 2) y
  refine store_out arg13.view f13 _ _ _ (8 * k.val + 1) (by omega) _ (k0_off6_inb k 1) _ _ (k0_off6_eq k 1) (fun y => ?_) ?_
  · simp only [tripT4.sl.v447, tripT4.sl.v457, tripT4.sl.v467, tripT4.sl.v477, tripT4.sl.v487, tripT4.sl.v497, tripT4.sl.v507, k0_pay1, sc1]
    exact load_near arg12.view X12 _ (k0_off5_inb k 1) (8 * k.val + 1) (off5 k 1) y
  refine store_out arg13.view f13 _ _ _ (8 * k.val + 0) (by omega) _ (k0_off6_inb k 0) _ _ (k0_off6_eq k 0) (fun y => ?_) ?_
  · simp only [tripT4.sl.v447, tripT4.sl.v457, tripT4.sl.v467, tripT4.sl.v477, tripT4.sl.v487, tripT4.sl.v497, tripT4.sl.v507, k0_pay1, sc1]
    exact load_near arg12.view X12 _ (k0_off5_inb k 0) (8 * k.val + 0) (off5 k 0) y
  exact h

/-- The last loop puts the rows back in the order of time. -/
theorem move4 (X12 : BufTy.Contents (Elt F) arg12.view.ty) (f13 : BufTy.Contents (Elt F) arg13.view.ty)
    (k : ℕ) (hk : k ≤ k0_t4_loop.trips) :
    arg13.view.read (Elt F) (arg13.view.writes (Elt F) f13 (beforeT4 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X12 k))
      = outV (arg12.view.read (Elt F) X12) (arg13.view.read (Elt F) f13) (8 * k) := by
  induction k with
  | zero => funext y; unfold outV; rw [if_neg (by omega)]; rfl
  | succ k ih =>
    rw [beforeT4_succ (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X12 ⟨k, hk⟩, View.writes_append]
    exact trip4 (k := ⟨k, hk⟩) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X12 _ _ (ih (Nat.le_of_succ_le hk))

end

end Cert.S5FK

end
-- ==== Proof.S5FSpec.lean ====
module

public import proofs.«01_k».proof.Proof.Gen.S5FIdeal.Loops
public import proofs.«01_k».proof.Proof.Gen.S5FIdeal.Frame
public import proofs.«01_k».proof.Proof.S5FRead
public import Idealize.ShloMosaic.Lib.VecWindow
public import Idealize.ShloMosaic.Lib.Pointwise

@[expose] public section

set_option maxRecDepth 16384
set_option maxHeartbeats 4000000

noncomputable section

namespace Cert.S5FK

open Cert.S5FIdeal Cert.S5FIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ### Blocks on the diagonal -/

/-- The blocks `0 … K - 1` of sizes `p × q` on the diagonal, `z` elsewhere. -/
def band {α : Type} {m n : ℕ} (p q : ℕ) (hp : 0 < p) (hq : 0 < q) (W : ℕ → (⟨2, ![p, q]⟩ : Shape).Idx → α) (z : α) (K : ℕ) :
    (⟨2, ![m, n]⟩ : Shape).Idx → α :=
  fun y => if (y 0).val / p = (y 1).val / q ∧ (y 0).val / p < K then
      W ((y 0).val / p) (ix2 ⟨(y 0).val % p, Nat.mod_lt _ hp⟩ ⟨(y 1).val % q, Nat.mod_lt _ hq⟩) else z

section Band
variable {m n p q : ℕ} {sig : RefSig} {κ : Kind} {sp : Space} (v : View sig κ sp (⟨2, ![m, n]⟩ : Shape) .f32) (f : v.ty.Contents (Elt F))

/-- Storing block `K` on the diagonal. -/
theorem store_band (hp : 0 < p) (hq : 0 < q) (W : ℕ → (⟨2, ![p, q]⟩ : Shape).Idx → F .f32) (z : F .f32)
    (L : List (View.Piece (Elt F) (⟨2, ![m, n]⟩ : Shape) .f32)) (K : ℕ) (off : Fin 2 → ℕ) (inb) (w : FVec F (⟨2, ![p, q]⟩ : Shape) .f32)
    (hoff : off = ![p * K, q * K]) (hw : w = W K) (h : v.read (Elt F) (v.writes (Elt F) f L) = band p q hp hq W z K) :
    v.read (Elt F) (v.writes (Elt F) f (⟨Rect.unit (s := ⟨2, ![m, n]⟩) off (![p, q]) inb, w⟩ :: L)) = band p q hp hq W z (K + 1) := by
  funext y
  by_cases h0 : (y 0).val / p = K
  · have e0 := Nat.div_add_mod (y 0).val p
    rw [h0] at e0
    by_cases h1 : (y 1).val / q = K
    · have e1 := Nat.div_add_mod (y 1).val q
      rw [h1] at e1
      rw [View.read_writes_cons_unit_of_mem (off' := ![p * K, q * K]) v f inb w L y
        (ix2 ⟨(y 0).val % p, Nat.mod_lt _ hp⟩ ⟨(y 1).val % q, Nat.mod_lt _ hq⟩) hoff
        (Fin.forall_fin_two.mpr ⟨e0.symm, e1.symm⟩), hw]
      unfold band
      rw [if_pos ⟨h0.trans h1.symm, by omega⟩, h0]
    · have hlt : (y 1).val < q * K ∨ q * K + q ≤ (y 1).val := by
        rcases Nat.lt_or_gt_of_ne h1 with hh | hh
        · left
          have := (Nat.div_lt_iff_lt_mul hq).mp hh
          rw [Nat.mul_comm]; exact this
        · right
          have : (K + 1) * q ≤ (y 1).val := (Nat.le_div_iff_mul_le hq).mp hh
          have e : (K + 1) * q = q * K + q := by ring
          omega
      rw [View.read_writes_cons_unit_of_not_mem (off' := ![p * K, q * K]) v f inb w L y hoff 1 hlt, h]
      unfold band
      rw [if_neg (by omega), if_neg (by omega)]
  · have hlt : (y 0).val < p * K ∨ p * K + p ≤ (y 0).val := by
      rcases Nat.lt_or_gt_of_ne h0 with hh | hh
      · left
        have := (Nat.div_lt_iff_lt_mul hp).mp hh
        rw [Nat.mul_comm]; exact this
      · right
        have : (K + 1) * p ≤ (y 0).val := (Nat.le_div_iff_mul_le hp).mp hh
        have e : (K + 1) * p = p * K + p := by ring
        omega
    rw [View.read_writes_cons_unit_of_not_mem (off' := ![p * K, q * K]) v f inb w L y hoff 0 hlt, h]
    unfold band
    by_cases h2 : (y 0).val / p = (y 1).val / q ∧ (y 0).val / p < K
    · rw [if_pos h2, if_pos ⟨h2.1, by omega⟩]
    · rw [if_neg h2, if_neg (by omega)]

/-- The buffer filled with one value. -/
theorem store_fill (hp : 0 < p) (hq : 0 < q) (W : ℕ → (⟨2, ![p, q]⟩ : Shape).Idx → F .f32) (z : F .f32)
    (L : List (View.Piece (Elt F) (⟨2, ![m, n]⟩ : Shape) .f32)) (off : Fin 2 → ℕ) (inb) (w : FVec F (⟨2, ![m, n]⟩ : Shape) .f32)
    (hw : w = fun _ => z) :
    v.read (Elt F) (v.writes (Elt F) f (⟨Rect.unit (s := ⟨2, ![m, n]⟩) off (⟨2, ![m, n]⟩ : Shape).size inb, w⟩ :: L)) = band p q hp hq W z 0 := by
  rw [View.read_writes_full, hw]
  funext y
  unfold band
  rw [if_neg fun h => Nat.not_lt_zero _ h.2]

end Band

/-- The groups of 16 rows by 64 columns of an input matrix on the diagonal. -/
def denseB (x : Vec F S1x8x16x64 .f32) : Vec F S128x512 .f32 :=
  band 16 64 (by decide) (by decide) (fun k y => x (ix4 0 ⟨k % 8, Nat.mod_lt _ (by decide)⟩ (y 0) (y 1))) (Scalar.ofBits .f32 0x00000000#32) 8

/-- The groups of 64 rows by 16 columns of an output matrix on the diagonal. -/
def denseC (x : Vec F S1x8x64x16 .f32) : Vec F S512x128 .f32 :=
  band 64 16 (by decide) (by decide) (fun k y => x (ix4 0 ⟨k % 8, Nat.mod_lt _ (by decide)⟩ (y 0) (y 1))) (Scalar.ofBits .f32 0x00000000#32) 8

section Block
variable {sig : RefSig} {κ : Kind} {sp : Space}

theorem blockB (v : View sig κ sp S1x8x16x64 .f32) (f : v.ty.Contents (Elt F)) (k : ℕ) (inb) :
    (shapeCast S16x64 (v.readAt (Elt F) (Rect.unit (s := S1x8x16x64) ![0, k, 0, 0] S1x1x16x64.size inb).toLoadRect f) shapeCasts_S1x1x16x64_S16x64 : FVec F S16x64 .f32)
      = fun y => v.read (Elt F) f (ix4 0 ⟨k % 8, Nat.mod_lt _ (by decide)⟩ (y 0) (y 1)) := by
  have e : ∀ (w : Vec F S1x1x16x64 .f32) (y : S16x64.Idx), shapeCast S16x64 w shapeCasts_S1x1x16x64_S16x64 y = w (ix4 0 0 (y 0) (y 1)) := by
    intro w y
    pointwise
  funext y
  refine (e _ y).trans ?_
  rw [View.readAt_apply]
  refine congrArg (v.read (Elt F) f) (funext fun a => Fin.ext ?_)
  have hk : k + 1 ≤ 8 := inb 1
  fin_cases a
  · rfl
  · show k + 1 * 0 = k % 8
    have := Nat.mod_eq_of_lt (show k < 8 by omega)
    omega
  · show 0 + 1 * (y 0).val = (y 0).val
    omega
  · show 0 + 1 * (y 1).val = (y 1).val
    omega

theorem blockC (v : View sig κ sp S1x8x64x16 .f32) (f : v.ty.Contents (Elt F)) (k : ℕ) (inb) :
    (shapeCast S64x16 (v.readAt (Elt F) (Rect.unit (s := S1x8x64x16) ![0, k, 0, 0] S1x1x64x16.size inb).toLoadRect f) shapeCasts_S1x1x64x16_S64x16 : FVec F S64x16 .f32)
      = fun y => v.read (Elt F) f (ix4 0 ⟨k % 8, Nat.mod_lt _ (by decide)⟩ (y 0) (y 1)) := by
  have e : ∀ (w : Vec F S1x1x64x16 .f32) (y : S64x16.Idx), shapeCast S64x16 w shapeCasts_S1x1x64x16_S64x16 y = w (ix4 0 0 (y 0) (y 1)) := by
    intro w y
    pointwise
  funext y
  refine (e _ y).trans ?_
  rw [View.readAt_apply]
  refine congrArg (v.read (Elt F) f) (funext fun a => Fin.ext ?_)
  have hk : k + 1 ≤ 8 := inb 1
  fin_cases a
  · rfl
  · show k + 1 * 0 = k % 8
    have := Nat.mod_eq_of_lt (show k < 8 by omega)
    omega
  · show 0 + 1 * (y 0).val = (y 0).val
    omega
  · show 0 + 1 * (y 1).val = (y 1).val
    omega

theorem scB (w : FVec F S16x64 .f32) : (shapeCast S16x64 w shapeCasts_S16x64_S16x64 : FVec F S16x64 .f32) = w := Idealize.ShloMosaic.shapeCast_self w _
theorem scC (w : FVec F S64x16 .f32) : (shapeCast S64x16 w shapeCasts_S64x16_S64x16 : FVec F S64x16 .f32) = w := Idealize.ShloMosaic.shapeCast_self w _
theorem fillB : (shapeCast S128x512 (broadcast S128x512 (Scalar.ofBits .f32 0x00000000#32 : F .f32)) shapeCasts_S128x512_S128x512 : FVec F S128x512 .f32) = fun _ => Scalar.ofBits .f32 0x00000000#32 :=
  Idealize.ShloMosaic.shapeCast_self _ _
theorem fillC : (shapeCast S512x128 (broadcast S512x128 (Scalar.ofBits .f32 0x00000000#32 : F .f32)) shapeCasts_S512x128_S512x128 : FVec F S512x128 .f32) = fun _ => Scalar.ofBits .f32 0x00000000#32 :=
  Idealize.ShloMosaic.shapeCast_self _ _

theorem storeB (v : View sig κ sp S128x512 .f32) (f : v.ty.Contents (Elt F)) (x : Vec F S1x8x16x64 .f32) (w0 w1 w2 w3 w4 w5 w6 w7 : FVec F S16x64 .f32) (z : FVec F S128x512 .f32)
    (h0 : w0 = fun y => x (ix4 0 ⟨0 % 8, Nat.mod_lt _ (by decide)⟩ (y 0) (y 1))) (h1 : w1 = fun y => x (ix4 0 ⟨1 % 8, Nat.mod_lt _ (by decide)⟩ (y 0) (y 1))) (h2 : w2 = fun y => x (ix4 0 ⟨2 % 8, Nat.mod_lt _ (by decide)⟩ (y 0) (y 1))) (h3 : w3 = fun y => x (ix4 0 ⟨3 % 8, Nat.mod_lt _ (by decide)⟩ (y 0) (y 1))) (h4 : w4 = fun y => x (ix4 0 ⟨4 % 8, Nat.mod_lt _ (by decide)⟩ (y 0) (y 1))) (h5 : w5 = fun y => x (ix4 0 ⟨5 % 8, Nat.mod_lt _ (by decide)⟩ (y 0) (y 1))) (h6 : w6 = fun y => x (ix4 0 ⟨6 % 8, Nat.mod_lt _ (by decide)⟩ (y 0) (y 1))) (h7 : w7 = fun y => x (ix4 0 ⟨7 % 8, Nat.mod_lt _ (by decide)⟩ (y 0) (y 1))) (hz : z = fun _ => Scalar.ofBits .f32 0x00000000#32) :
    v.read (Elt F) (v.writes (Elt F) f [⟨Rect.unit ![112, 448] S16x64.size inb_S128x512_S16x64_112_448, w7⟩, ⟨Rect.unit ![96, 384] S16x64.size inb_S128x512_S16x64_96_384, w6⟩, ⟨Rect.unit ![80, 320] S16x64.size inb_S128x512_S16x64_80_320, w5⟩, ⟨Rect.unit ![64, 256] S16x64.size inb_S128x512_S16x64_64_256, w4⟩, ⟨Rect.unit ![48, 192] S16x64.size inb_S128x512_S16x64_48_192, w3⟩, ⟨Rect.unit ![32, 128] S16x64.size inb_S128x512_S16x64_32_128, w2⟩, ⟨Rect.unit ![16, 64] S16x64.size inb_S128x512_S16x64_16_64, w1⟩, ⟨Rect.unit ![0, 0] S16x64.size inb_S128x512_S16x64_0_0, w0⟩, ⟨Rect.unit ![0, 0] S128x512.size inb_S128x512_S128x512_0_0, z⟩]) = denseB x := by
  refine store_band (p := 16) (q := 64) v f _ _ _ _ _ 7 _ _ w7 (by decide) h7 ?_
  refine store_band (p := 16) (q := 64) v f _ _ _ _ _ 6 _ _ w6 (by decide) h6 ?_
  refine store_band (p := 16) (q := 64) v f _ _ _ _ _ 5 _ _ w5 (by decide) h5 ?_
  refine store_band (p := 16) (q := 64) v f _ _ _ _ _ 4 _ _ w4 (by decide) h4 ?_
  refine store_band (p := 16) (q := 64) v f _ _ _ _ _ 3 _ _ w3 (by decide) h3 ?_
  refine store_band (p := 16) (q := 64) v f _ _ _ _ _ 2 _ _ w2 (by decide) h2 ?_
  refine store_band (p := 16) (q := 64) v f _ _ _ _ _ 1 _ _ w1 (by decide) h1 ?_
  refine store_band (p := 16) (q := 64) v f _ _ _ _ _ 0 _ _ w0 (by decide) h0 ?_
  exact store_fill v f _ _ _ _ _ _ _ z hz

theorem storeC (v : View sig κ sp S512x128 .f32) (f : v.ty.Contents (Elt F)) (x : Vec F S1x8x64x16 .f32) (w0 w1 w2 w3 w4 w5 w6 w7 : FVec F S64x16 .f32) (z : FVec F S512x128 .f32)
    (h0 : w0 = fun y => x (ix4 0 ⟨0 % 8, Nat.mod_lt _ (by decide)⟩ (y 0) (y 1))) (h1 : w1 = fun y => x (ix4 0 ⟨1 % 8, Nat.mod_lt _ (by decide)⟩ (y 0) (y 1))) (h2 : w2 = fun y => x (ix4 0 ⟨2 % 8, Nat.mod_lt _ (by decide)⟩ (y 0) (y 1))) (h3 : w3 = fun y => x (ix4 0 ⟨3 % 8, Nat.mod_lt _ (by decide)⟩ (y 0) (y 1))) (h4 : w4 = fun y => x (ix4 0 ⟨4 % 8, Nat.mod_lt _ (by decide)⟩ (y 0) (y 1))) (h5 : w5 = fun y => x (ix4 0 ⟨5 % 8, Nat.mod_lt _ (by decide)⟩ (y 0) (y 1))) (h6 : w6 = fun y => x (ix4 0 ⟨6 % 8, Nat.mod_lt _ (by decide)⟩ (y 0) (y 1))) (h7 : w7 = fun y => x (ix4 0 ⟨7 % 8, Nat.mod_lt _ (by decide)⟩ (y 0) (y 1))) (hz : z = fun _ => Scalar.ofBits .f32 0x00000000#32) :
    v.read (Elt F) (v.writes (Elt F) f [⟨Rect.unit ![448, 112] S64x16.size inb_S512x128_S64x16_448_112, w7⟩, ⟨Rect.unit ![384, 96] S64x16.size inb_S512x128_S64x16_384_96, w6⟩, ⟨Rect.unit ![320, 80] S64x16.size inb_S512x128_S64x16_320_80, w5⟩, ⟨Rect.unit ![256, 64] S64x16.size inb_S512x128_S64x16_256_64, w4⟩, ⟨Rect.unit ![192, 48] S64x16.size inb_S512x128_S64x16_192_48, w3⟩, ⟨Rect.unit ![128, 32] S64x16.size inb_S512x128_S64x16_128_32, w2⟩, ⟨Rect.unit ![64, 16] S64x16.size inb_S512x128_S64x16_64_16, w1⟩, ⟨Rect.unit ![0, 0] S64x16.size inb_S512x128_S64x16_0_0, w0⟩, ⟨Rect.unit ![0, 0] S512x128.size inb_S512x128_S512x128_0_0, z⟩]) = denseC x := by
  refine store_band (p := 64) (q := 16) v f _ _ _ _ _ 7 _ _ w7 (by decide) h7 ?_
  refine store_band (p := 64) (q := 16) v f _ _ _ _ _ 6 _ _ w6 (by decide) h6 ?_
  refine store_band (p := 64) (q := 16) v f _ _ _ _ _ 5 _ _ w5 (by decide) h5 ?_
  refine store_band (p := 64) (q := 16) v f _ _ _ _ _ 4 _ _ w4 (by decide) h4 ?_
  refine store_band (p := 64) (q := 16) v f _ _ _ _ _ 3 _ _ w3 (by decide) h3 ?_
  refine store_band (p := 64) (q := 16) v f _ _ _ _ _ 2 _ _ w2 (by decide) h2 ?_
  refine store_band (p := 64) (q := 16) v f _ _ _ _ _ 1 _ _ w1 (by decide) h1 ?_
  refine store_band (p := 64) (q := 16) v f _ _ _ _ _ 0 _ _ w0 (by decide) h0 ?_
  exact store_fill v f _ _ _ _ _ _ _ z hz

end Block

/-! ### What the call computes at one block of groups -/

/-- The square of a decay. -/
def sqV (a : FVec F S8x512 .f32 × FVec F S8x512 .f32) : FVec F S8x512 .f32 × FVec F S8x512 .f32 :=
  (subf (mulf a.1 a.1) (mulf a.2 a.2), addf (mulf a.1 a.2) (mulf a.2 a.1))

/-- Each segment's value moved to the next segment, zero at the first. -/
def shiftV (x : FVec F S8x512 .f32) : FVec F S8x512 .f32 :=
  select (cmpi .eq (iota .tc S8x512 32 [0] iota_S8x512_d0_w32) (broadcast S8x512 0#32)) (broadcast S8x512 (Scalar.ofBits .f32 0x00000000#32)) (dynamicRotate 0 1#32 none x rotates_S8x512_d0)

/-- One round: the state a segment starts from is the previous segment's own end plus the decayed start of that segment. -/
def roundV (a f g : FVec F S8x512 .f32 × FVec F S8x512 .f32) : FVec F S8x512 .f32 × FVec F S8x512 .f32 :=
  (shiftV (addf f.1 (subf (mulf a.1 g.1) (mulf a.2 g.2))), shiftV (addf f.2 (addf (mulf a.1 g.2) (mulf a.2 g.1))))

/-- The starts after the first shift and seven rounds. -/
def startV (a f : FVec F S8x512 .f32 × FVec F S8x512 .f32) : FVec F S8x512 .f32 × FVec F S8x512 .f32 :=
  (roundV a f)^[7] (shiftV f.1, shiftV f.2)

section Spec
variable (x0 : Vec F S2048x128 .f32) (x1 x2 : Vec F S1x8x16x64 .f32) (x3 x4 : Vec F S1x8x64x16 .f32) (x5 x6 : Vec F S1x1x512 .f32) (x7 : Vec F S1x128 .f32)

def lamV : FVec F S8x512 .f32 × FVec F S8x512 .f32 := (k0_pay52 x5, k0_pay53 x6)
/-- The input in the order of the scan. -/
def upV : Vec F S2048x128 .f32 := fun y => x0 (ix (256 * ((y 0).val % 8) + (y 0).val / 8) (y 1).val)
def inRe : Vec F S2048x512 .f32 := k0_pay93 (denseB x1) (upV x0)
def inIm : Vec F S2048x512 .f32 := k0_pay94 (denseB x2) (upV x0)
/-- Each segment's end when it starts from zero. -/
def endV : FVec F S8x512 .f32 × FVec F S8x512 .f32 :=
  runV (lamV x5 x6).1 (lamV x5 x6).2 (inRe x0 x1) (inIm x0 x2) (k0_pay95, k0_pay95) 256
/-- The state each segment starts from. -/
def fromV : FVec F S8x512 .f32 × FVec F S8x512 .f32 := startV (sqV^[8] (lamV x5 x6)) (endV x0 x1 x2 x5 x6)
/-- The states after `n` steps of every segment. -/
def stateV (n : ℕ) : FVec F S8x512 .f32 × FVec F S8x512 .f32 :=
  runV (lamV x5 x6).1 (lamV x5 x6).2 (inRe x0 x1) (inIm x0 x2) (fromV x0 x1 x2 x5 x6) n
def outRe : Vec F S2048x512 .f32 := mixV (fun n => (stateV x0 x1 x2 x5 x6 n).1) (inRe x0 x1) 256
def outIm : Vec F S2048x512 .f32 := mixV (fun n => (stateV x0 x1 x2 x5 x6 n).2) (inIm x0 x2) 256
def actV : Vec F S2048x128 .f32 :=
  k0_pay136 (denseC x3) (denseC x4) (upV x0) x7 (outRe x0 x1 x2 x5 x6) (outIm x0 x1 x2 x5 x6)
def outG : Vec F S2048x128 .bf16 :=
  k0_pay2 fun y => actV x0 x1 x2 x3 x4 x5 x6 x7 (ix (8 * ((y 0).val % 256) + (y 0).val / 256) (y 1).val)

end Spec

/-- The eight squarings of the call. -/
theorem pow_eq (v3 v7 : FVec F S8x512 .f32) : (k0_pay112 v3 v7 (k0_pay97 v3), k0_pay113 v3 v7 (k0_pay97 v3)) = sqV^[8] (v3, v7) := by
  have p1 : sqV (v3, v7) = (k0_pay98 v7 (k0_pay97 v3), k0_pay99 v3 v7) := rfl
  have p2 : sqV (k0_pay98 v7 (k0_pay97 v3), k0_pay99 v3 v7) = (k0_pay100 v3 v7 (k0_pay97 v3), k0_pay101 v3 v7 (k0_pay97 v3)) := rfl
  have p3 : sqV (k0_pay100 v3 v7 (k0_pay97 v3), k0_pay101 v3 v7 (k0_pay97 v3)) = (k0_pay102 v3 v7 (k0_pay97 v3), k0_pay103 v3 v7 (k0_pay97 v3)) := rfl
  have p4 : sqV (k0_pay102 v3 v7 (k0_pay97 v3), k0_pay103 v3 v7 (k0_pay97 v3)) = (k0_pay104 v3 v7 (k0_pay97 v3), k0_pay105 v3 v7 (k0_pay97 v3)) := rfl
  have p5 : sqV (k0_pay104 v3 v7 (k0_pay97 v3), k0_pay105 v3 v7 (k0_pay97 v3)) = (k0_pay106 v3 v7 (k0_pay97 v3), k0_pay107 v3 v7 (k0_pay97 v3)) := rfl
  have p6 : sqV (k0_pay106 v3 v7 (k0_pay97 v3), k0_pay107 v3 v7 (k0_pay97 v3)) = (k0_pay108 v3 v7 (k0_pay97 v3), k0_pay109 v3 v7 (k0_pay97 v3)) := rfl
  have p7 : sqV (k0_pay108 v3 v7 (k0_pay97 v3), k0_pay109 v3 v7 (k0_pay97 v3)) = (k0_pay110 v3 v7 (k0_pay97 v3), k0_pay111 v3 v7 (k0_pay97 v3)) := rfl
  have p8 : sqV (k0_pay110 v3 v7 (k0_pay97 v3), k0_pay111 v3 v7 (k0_pay97 v3)) = (k0_pay112 v3 v7 (k0_pay97 v3), k0_pay113 v3 v7 (k0_pay97 v3)) := rfl
  show _ = sqV (sqV (sqV (sqV (sqV (sqV (sqV (sqV (v3, v7))))))))
  rw [p1, p2, p3, p4, p5, p6, p7, p8]

/-- The shifts and rounds of the call. -/
theorem start_eq (a f : FVec F S8x512 .f32 × FVec F S8x512 .f32) (j : IVec S8x512 32) (hj : j = iota .tc S8x512 32 [0] iota_S8x512_d0_w32)
    (r11 r12 r13 r14 r15 r16 r17 : FVec F S8x512 .f32)
    (h11 : r11 = k0_pay114 f.1) (h12 : r12 = k0_pay115 f.2)
    (h13 : r13 = k0_pay119 f.1 f.2 a.1 a.2 r11 r12 j 0#32) (h14 : r14 = k0_pay120 f.1 f.2 a.1 a.2 r11 r12 j 0#32)
    (h15 : r15 = k0_pay121 f.1 f.2 a.1 a.2 r11 r12 j 0#32)
    (h16 : r16 = k0_pay126 f.1 f.2 a.1 a.2 r13 r14 r15) (h17 : r17 = k0_pay127 f.1 f.2 a.1 a.2 r13 r14 r15) :
    (k0_pay132 f.1 f.2 a.1 a.2 r16 r17 j, k0_pay134 (k0_pay133 f.1 f.2 a.1 a.2 r16 r17 j)) = startV a f := by
  subst hj
  have p1 : (shiftV f.1, shiftV f.2) = (r11, k0_pay116 r12 (iota .tc S8x512 32 [0] iota_S8x512_d0_w32) 0#32) := by rw [h11, h12]; rfl
  have p2 : roundV a f (r11, k0_pay116 r12 (iota .tc S8x512 32 [0] iota_S8x512_d0_w32) 0#32)
      = (k0_pay117 f.1 a.1 a.2 r11 r12 (iota .tc S8x512 32 [0] iota_S8x512_d0_w32) 0#32, k0_pay118 f.2 a.1 a.2 r11 r12 (iota .tc S8x512 32 [0] iota_S8x512_d0_w32) 0#32) := rfl
  have p3 : roundV a f (k0_pay117 f.1 a.1 a.2 r11 r12 (iota .tc S8x512 32 [0] iota_S8x512_d0_w32) 0#32, k0_pay118 f.2 a.1 a.2 r11 r12 (iota .tc S8x512 32 [0] iota_S8x512_d0_w32) 0#32)
      = (r13, r14) := by rw [h13, h14]; rfl
  have p4 : roundV a f (r13, r14) = (k0_pay122 f.1 r15, k0_pay123 f.2 a.1 a.2 r13 r14) := by rw [h15, h13, h14]; rfl
  have p5 : roundV a f (k0_pay122 f.1 r15, k0_pay123 f.2 a.1 a.2 r13 r14) = (k0_pay124 f.1 f.2 a.1 a.2 r13 r14 r15, k0_pay125 f.1 f.2 a.1 a.2 r13 r14 r15) := rfl
  have p6 : roundV a f (k0_pay124 f.1 f.2 a.1 a.2 r13 r14 r15, k0_pay125 f.1 f.2 a.1 a.2 r13 r14 r15)
      = (k0_pay128 r17 (iota .tc S8x512 32 [0] iota_S8x512_d0_w32), k0_pay129 r16) := by rw [h17, h16]; rfl
  have p7 : roundV a f (k0_pay128 r17 (iota .tc S8x512 32 [0] iota_S8x512_d0_w32), k0_pay129 r16)
      = (k0_pay130 f.1 a.1 a.2 r16 r17 (iota .tc S8x512 32 [0] iota_S8x512_d0_w32), k0_pay131 f.2 a.1 a.2 r16 r17 (iota .tc S8x512 32 [0] iota_S8x512_d0_w32)) := rfl
  have p8 : roundV a f (k0_pay130 f.1 a.1 a.2 r16 r17 (iota .tc S8x512 32 [0] iota_S8x512_d0_w32), k0_pay131 f.2 a.1 a.2 r16 r17 (iota .tc S8x512 32 [0] iota_S8x512_d0_w32))
      = (k0_pay132 f.1 f.2 a.1 a.2 r16 r17 (iota .tc S8x512 32 [0] iota_S8x512_d0_w32), k0_pay134 (k0_pay133 f.1 f.2 a.1 a.2 r16 r17 (iota .tc S8x512 32 [0] iota_S8x512_d0_w32))) := rfl
  show _ = roundV a f (roundV a f (roundV a f (roundV a f (roundV a f (roundV a f (roundV a f (shiftV f.1, shiftV f.2)))))))
  rw [p1, p2, p3, p4, p5, p6, p7, p8]

end Cert.S5FK

end
-- ==== Proof.S5FRun.lean ====
module

public import proofs.«01_k».proof.Proof.Gen.S5FIdeal.Loops
public import proofs.«01_k».proof.Proof.Gen.S5FIdeal.Frame
public import proofs.«01_k».proof.Proof.S5FSpec

@[expose] public section

set_option maxRecDepth 16384
set_option maxHeartbeats 4000000

noncomputable section

namespace Cert.S5FK

open Cert.S5FIdeal Cert.S5FIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The call at one block of groups: from the inputs' blocks it leaves the inputs as they were and the three results at the arrays
    that Proof/S5FSpec.lean states. -/
theorem run_body (c : Dev nD) (i : grid0.Coords) (arg1 : Memref sig .tc .vmem S2048x128 .f32) (harg1 : arg1.IsWhole) (arg2 : Memref sig .tc .vmem S1x8x16x64 .f32) (harg2 : arg2.IsWhole) (arg3 : Memref sig .tc .vmem S1x8x16x64 .f32) (harg3 : arg3.IsWhole) (arg4 : Memref sig .tc .vmem S1x8x64x16 .f32) (harg4 : arg4.IsWhole) (arg5 : Memref sig .tc .vmem S1x8x64x16 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x128 .f32) (harg8 : arg8.IsWhole) (arg9 : Memref sig .tc .vmem S2048x128 .bf16) (harg9 : arg9.IsWhole) (arg10 : Memref sig .tc .vmem S2048x512 .f32) (harg10 : arg10.IsWhole) (arg11 : Memref sig .tc .vmem S2048x512 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S128x512 .f32) (harg14 : arg14.IsWhole) (arg15 : Memref sig .tc .vmem S128x512 .f32) (harg15 : arg15.IsWhole) (arg16 : Memref sig .tc .vmem S512x128 .f32) (harg16 : arg16.IsWhole) (arg17 : Memref sig .tc .vmem S512x128 .f32) (harg17 : arg17.IsWhole) (x0 : Vec F S2048x128 .f32) (x1 : Vec F S1x8x16x64 .f32) (x2 : Vec F S1x8x16x64 .f32) (x3 : Vec F S1x8x64x16 .f32) (x4 : Vec F S1x8x64x16 .f32) (x5 : Vec F S1x1x512 .f32) (x6 : Vec F S1x1x512 .f32) (x7 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (outG x0 x1 x2 x3 x4 x5 x6 x7) ∗ owns (c : Thread nD τ) arg10 fullShare (outRe x0 x1 x2 x5 x6) ∗ owns (c : Thread nD τ) arg11 fullShare (outIm x0 x1 x2 x5 x6) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
      ⊢ wp frame (wpE (defs₀ (F := F)) Variants.none c none) E (cc0_s5_fwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_s5_fwd_eq_skeleton]; unfold cc0_s5_fwd_skel
  simp only [k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
  sl_exec
  sl_step
  have e_r : (run_body.sl.r c arg6 harg6 x5) = (lamV x5 x6).1 := by
    unfold run_body.sl.r; rw [View.readAt_full, harg6.read_unread]; rfl
  have e_r1 : (run_body.sl.r_1 c arg7 harg7 x6) = (lamV x5 x6).2 := by
    unfold run_body.sl.r_1; rw [View.readAt_full, harg7.read_unread]; rfl
  have e_r5 : (run_body.sl.r_5 c arg8 harg8 x7) = x7 := by
    unfold run_body.sl.r_5; rw [View.readAt_full, harg8.read_unread]
  have e_up : (run_body.sl.v189 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x5 x6 f12) = upV x0 := by
    unfold run_body.sl.v189
    rw [View.readAt_full, move1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ le_rfl, harg1.read_unread]
    funext y
    show (if (y 0).val < 8 * (8 * Scf.trips k0_t1_loop.lb k0_t1_loop.ub k0_t1_loop.st) then _ else _) = _
    have hy : (y 0).val < 2048 := (y 0).isLt
    rw [if_pos (by rw [show Scf.trips k0_t1_loop.lb k0_t1_loop.ub k0_t1_loop.st = 32 from trips1]; omega)]; rfl
  have e_v184 : (run_body.sl.v184 c arg2 harg2 arg14 x1) = denseB x1 := by
    unfold run_body.sl.v184 View.readCov
    rw [View.readAt_full]
    unfold run_body.sl.H14_9
    have hw : ∀ (k : ℕ) (inb), (shapeCast S16x64 (arg2.view.readAt (Elt F) (Rect.unit (s := S1x8x16x64) ![0, k, 0, 0] S1x1x16x64.size inb).toLoadRect (harg2.unread x1)) shapeCasts_S1x1x16x64_S16x64 : FVec F S16x64 .f32)
        = fun y => x1 (ix4 0 ⟨k % 8, Nat.mod_lt _ (by decide)⟩ (y 0) (y 1)) := fun k inb => by
      rw [blockB, harg2.read_unread]
    simp only [k0_pay54, k0_pay55, k0_pay56, k0_pay57, k0_pay58, k0_pay59, k0_pay60, k0_pay61, k0_pay62, scB, fillB, fillC]
    exact storeB _ _ _ _ _ _ _ _ _ _ _ _ (hw 0 _) (hw 1 _) (hw 2 _) (hw 3 _) (hw 4 _) (hw 5 _) (hw 6 _) (hw 7 _) rfl
  have e_v185 : (run_body.sl.v185 c arg3 harg3 arg15 x2) = denseB x2 := by
    unfold run_body.sl.v185 View.readCov
    rw [View.readAt_full]
    unfold run_body.sl.H15_9
    have hw : ∀ (k : ℕ) (inb), (shapeCast S16x64 (arg3.view.readAt (Elt F) (Rect.unit (s := S1x8x16x64) ![0, k, 0, 0] S1x1x16x64.size inb).toLoadRect (harg3.unread x2)) shapeCasts_S1x1x16x64_S16x64 : FVec F S16x64 .f32)
        = fun y => x2 (ix4 0 ⟨k % 8, Nat.mod_lt _ (by decide)⟩ (y 0) (y 1)) := fun k inb => by
      rw [blockB, harg3.read_unread]
    unfold run_body.sl.r_2 run_body.sl.cst_35
    simp only [k0_pay63, k0_pay64, k0_pay65, k0_pay66, k0_pay67, k0_pay68, k0_pay69, k0_pay70, k0_pay71, scB, fillB, fillC]
    exact storeB _ _ _ _ _ _ _ _ _ _ _ _ (hw 0 _) (hw 1 _) (hw 2 _) (hw 3 _) (hw 4 _) (hw 5 _) (hw 6 _) (hw 7 _) rfl
  have e_v186 : (run_body.sl.v186 c arg4 harg4 arg16 x3) = denseC x3 := by
    unfold run_body.sl.v186 View.readCov
    rw [View.readAt_full]
    unfold run_body.sl.H16_9
    have hw : ∀ (k : ℕ) (inb), (shapeCast S64x16 (arg4.view.readAt (Elt F) (Rect.unit (s := S1x8x64x16) ![0, k, 0, 0] S1x1x64x16.size inb).toLoadRect (harg4.unread x3)) shapeCasts_S1x1x64x16_S64x16 : FVec F S64x16 .f32)
        = fun y => x3 (ix4 0 ⟨k % 8, Nat.mod_lt _ (by decide)⟩ (y 0) (y 1)) := fun k inb => by
      rw [blockC, harg4.read_unread]
    unfold run_body.sl.H16_6 run_body.sl.H16_1 run_body.sl.r_3 run_body.sl.r_4
    simp only [k0_pay72, k0_pay73, k0_pay74, k0_pay75, k0_pay76, k0_pay77, k0_pay78, k0_pay79, k0_pay80, k0_pay81, k0_pay82, scC, fillB, fillC]
    exact storeC _ _ _ _ _ _ _ _ _ _ _ _ (hw 0 _) (hw 1 _) (hw 2 _) (hw 3 _) (hw 4 _) (hw 5 _) (hw 6 _) (hw 7 _) rfl
  have e_v187 : (run_body.sl.v187 c arg5 harg5 arg17 x4) = denseC x4 := by
    unfold run_body.sl.v187 View.readCov
    rw [View.readAt_full]
    unfold run_body.sl.H17_9
    have hw : ∀ (k : ℕ) (inb), (shapeCast S64x16 (arg5.view.readAt (Elt F) (Rect.unit (s := S1x8x64x16) ![0, k, 0, 0] S1x1x64x16.size inb).toLoadRect (harg5.unread x4)) shapeCasts_S1x1x64x16_S64x16 : FVec F S64x16 .f32)
        = fun y => x4 (ix4 0 ⟨k % 8, Nat.mod_lt _ (by decide)⟩ (y 0) (y 1)) := fun k inb => by
      rw [blockC, harg5.read_unread]
    simp only [k0_pay83, k0_pay84, k0_pay85, k0_pay86, k0_pay87, k0_pay88, k0_pay89, k0_pay90, k0_pay91, scC, fillB, fillC]
    exact storeC _ _ _ _ _ _ _ _ _ _ _ _ (hw 0 _) (hw 1 _) (hw 2 _) (hw 3 _) (hw 4 _) (hw 5 _) (hw 6 _) (hw 7 _) rfl
  have e_10 : arg10.view.read (Elt F) (arg10.view.writes (Elt F) arg10.view.junk (run_body.sl.H10_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x5 x6 f12)) = inRe x0 x1 := by
    unfold run_body.sl.H10_1
    rw [View.read_writes_full, e_v184, e_up]; rfl
  have e_11 : arg11.view.read (Elt F) (arg11.view.writes (Elt F) arg11.view.junk (run_body.sl.H11_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x2 x5 x6 f12)) = inIm x0 x2 := by
    unfold run_body.sl.H11_1
    rw [View.read_writes_full, e_v185, e_up]; rfl
  have e_end : ((run_body.sl.r_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x5 x6 f12), (run_body.sl.r_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x5 x6 f12)) = endV x0 x1 x2 x5 x6 := by
    unfold run_body.sl.r_6 run_body.sl.r_7 endV
    rw [scan2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ le_rfl, e_10, e_11, e_r, e_r1, trips2]
  have e_pow : ((run_body.sl.r_9 c arg6 harg6 arg7 harg7 x5 x6), (run_body.sl.r_10 c arg6 harg6 arg7 harg7 x5 x6)) = sqV^[8] (lamV x5 x6) := by
    unfold run_body.sl.r_9 run_body.sl.r_10 run_body.sl.r_8
    rw [e_r, e_r1]
    exact pow_eq _ _
  have e_from : ((run_body.sl.r_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x5 x6 f12), k0_pay134 (run_body.sl.r_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x5 x6 f12)) = fromV x0 x1 x2 x5 x6 := by
    unfold fromV
    rw [← e_pow, ← e_end]
    refine Eq.trans ?_ (start_eq _ _ (run_body.sl.v257) rfl _ _ _ _ _ _ _ rfl rfl rfl rfl rfl rfl rfl)
    rfl
  have e_3 := scan3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (run_body.sl.r c arg6 harg6 x5) (run_body.sl.r_1 c arg7 harg7 x6) (run_body.sl.v186 c arg4 harg4 arg16 x3) (run_body.sl.v187 c arg5 harg5 arg17 x4) (run_body.sl.v189 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x5 x6 f12) (run_body.sl.r_5 c arg8 harg8 x7) (run_body.sl.r_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x5 x6 f12) (run_body.sl.r_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x5 x6 f12) (arg10.view.writes (Elt F) arg10.view.junk (run_body.sl.H10_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x5 x6 f12)) (arg11.view.writes (Elt F) arg11.view.junk (run_body.sl.H11_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x2 x5 x6 f12)) _ _ e_10 e_11 ((run_body.sl.r_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x5 x6 f12), k0_pay134 (run_body.sl.r_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x5 x6 f12)) (Scf.trips k0_t3_loop.lb k0_t3_loop.ub k0_t3_loop.st) le_rfl
  have e_t3 : 8 * Scf.trips k0_t3_loop.lb k0_t3_loop.ub k0_t3_loop.st = 256 := by rw [show Scf.trips k0_t3_loop.lb k0_t3_loop.ub k0_t3_loop.st = 32 from trips3]
  have e_re : arg10.view.read (Elt F) (arg10.view.writes (Elt F) arg10.view.junk ((st_k0_t3 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (run_body.sl.r c arg6 harg6 x5) (run_body.sl.r_1 c arg7 harg7 x6) (run_body.sl.v186 c arg4 harg4 arg16 x3) (run_body.sl.v187 c arg5 harg5 arg17 x4) (run_body.sl.v189 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x5 x6 f12) (run_body.sl.r_5 c arg8 harg8 x7) (run_body.sl.r_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x5 x6 f12) (run_body.sl.r_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x5 x6 f12) (arg10.view.writes (Elt F) arg10.view.junk (run_body.sl.H10_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x5 x6 f12)) (arg11.view.writes (Elt F) arg11.view.junk (run_body.sl.H11_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x2 x5 x6 f12)) ((run_body.sl.r_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x5 x6 f12), k0_pay134 (run_body.sl.r_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x5 x6 f12)) (Scf.trips k0_t3_loop.lb k0_t3_loop.ub k0_t3_loop.st)).2.1 ++ (run_body.sl.H10_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x5 x6 f12))) = outRe x0 x1 x2 x5 x6 := by
    rw [View.writes_append, e_3.2.1, e_from, e_r, e_r1, e_t3]; rfl
  have e_im : arg11.view.read (Elt F) (arg11.view.writes (Elt F) arg11.view.junk ((st_k0_t3 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (run_body.sl.r c arg6 harg6 x5) (run_body.sl.r_1 c arg7 harg7 x6) (run_body.sl.v186 c arg4 harg4 arg16 x3) (run_body.sl.v187 c arg5 harg5 arg17 x4) (run_body.sl.v189 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x5 x6 f12) (run_body.sl.r_5 c arg8 harg8 x7) (run_body.sl.r_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x5 x6 f12) (run_body.sl.r_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x5 x6 f12) (arg10.view.writes (Elt F) arg10.view.junk (run_body.sl.H10_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x5 x6 f12)) (arg11.view.writes (Elt F) arg11.view.junk (run_body.sl.H11_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x2 x5 x6 f12)) ((run_body.sl.r_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x5 x6 f12), k0_pay134 (run_body.sl.r_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x5 x6 f12)) (Scf.trips k0_t3_loop.lb k0_t3_loop.ub k0_t3_loop.st)).2.2 ++ (run_body.sl.H11_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x2 x5 x6 f12))) = outIm x0 x1 x2 x5 x6 := by
    rw [View.writes_append, e_3.2.2, e_from, e_r, e_r1, e_t3]; rfl
  have e_404 : (run_body.sl.v404 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 f12) = outRe x0 x1 x2 x5 x6 := by
    unfold run_body.sl.v404 View.readCov
    rw [View.readAt_full]; exact e_re
  have e_409 : (run_body.sl.v409 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 f12) = outIm x0 x1 x2 x5 x6 := by
    unfold run_body.sl.v409 View.readCov
    rw [View.readAt_full]; exact e_im
  have e_12 : arg12.view.read (Elt F) (arg12.view.writes (Elt F) arg12.view.junk (run_body.sl.H12_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 f12)) = actV x0 x1 x2 x3 x4 x5 x6 x7 := by
    unfold run_body.sl.H12_1
    rw [View.read_writes_full, e_v186, e_v187, e_up, e_r5, e_404, e_409]; rfl
  have e_13 : arg13.view.read (Elt F) (arg13.view.writes (Elt F) f13 (beforeT4 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (arg12.view.writes (Elt F) arg12.view.junk (run_body.sl.H12_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 f12)) (Scf.trips k0_t4_loop.lb k0_t4_loop.ub k0_t4_loop.st)))
      = fun y => actV x0 x1 x2 x3 x4 x5 x6 x7 (ix (8 * ((y 0).val % 256) + (y 0).val / 256) (y 1).val) := by
    rw [move4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ le_rfl, e_12]
    funext y
    show (if (y 0).val % 256 < 8 * Scf.trips k0_t4_loop.lb k0_t4_loop.ub k0_t4_loop.st then _ else _) = _
    have hy := Nat.mod_lt (y 0).val (show 0 < 256 by decide)
    rw [if_pos (by rw [show Scf.trips k0_t4_loop.lb k0_t4_loop.ub k0_t4_loop.st = 32 from trips4]; omega)]
  iapply Hk
  isplitl [H1]
  · iexists _; isplitr
    swap; · iexact H1
    ipureintro; exact harg1.read_unread _
  isplitl [H2]
  · iexists _; isplitr
    swap; · iexact H2
    ipureintro; exact harg2.read_unread _
  isplitl [H3]
  · iexists _; isplitr
    swap; · iexact H3
    ipureintro; exact harg3.read_unread _
  isplitl [H4]
  · iexists _; isplitr
    swap; · iexact H4
    ipureintro; exact harg4.read_unread _
  isplitl [H5]
  · iexists _; isplitr
    swap; · iexact H5
    ipureintro; exact harg5.read_unread _
  isplitl [H6]
  · iexists _; isplitr
    swap; · iexact H6
    ipureintro; exact harg6.read_unread _
  isplitl [H7]
  · iexists _; isplitr
    swap; · iexact H7
    ipureintro; exact harg7.read_unread _
  isplitl [H8]
  · iexists _; isplitr
    swap; · iexact H8
    ipureintro; exact harg8.read_unread _
  isplitl [H9]
  · iexists _; isplitr
    swap; · iexact H9
    ipureintro
    rw [View.read_writes_full]
    unfold run_body.sl.v435
    rw [show ∀ f, arg13.view.readAt (Elt F) (Rect.unit (s := S2048x128) ![0, 0] ![2048, 128] inb_S2048x128_S2048x128_0_0).toLoadRect f = arg13.view.read (Elt F) f from fun f => View.readAt_full _ _ _, e_13]; rfl
  isplitl [H10]
  · iexists _; isplitr
    swap; · iexact H10
    ipureintro; exact e_re
  isplitl [H11]
  · iexists _; isplitr
    swap; · iexact H11
    ipureintro; exact e_im
  isplitl [H12]
  · iexists _; iexists _; isplitr
    swap; · iexact H12
    ipureintro; rfl
  isplitl [H13]
  · iexists _; iexists _; isplitr
    swap; · iexact H13
    ipureintro; rfl
  isplitl [H14]
  · iexists _; iexists _; isplitr
    swap; · iexact H14
    ipureintro; rfl
  isplitl [H15]
  · iexists _; iexists _; isplitr
    swap; · iexact H15
    ipureintro; rfl
  isplitl [H16]
  · iexists _; iexists _; isplitr
    swap; · iexact H16
    ipureintro; rfl
  iexists _; iexists _; isplitr
  swap; · iexact H17
  ipureintro; rfl

end Cert.S5FK

end
-- ==== Proof.S5FLaunch.lean ====
module

public import proofs.«01_k».proof.Proof.Gen.S5FIdeal.Loops
public import proofs.«01_k».proof.Proof.Gen.S5FIdeal.Frame
public import proofs.«01_k».proof.Proof.S5FRun
public import proofs.«01_k».proof.Proof.Gen.S5FIdeal.Points
public import Idealize.ShloMosaic.Lib.Pipeline.FrameBody
public import Idealize.ShloMosaic.Lib.Claim

@[expose] public section

set_option maxRecDepth 16384
set_option maxHeartbeats 4000000

noncomputable section

namespace Cert.S5FK

open Cert.S5FIdeal Cert.S5FIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

open Idealize.ShloMosaic.Rounds
open Idealize.ShloMosaic.Pipeline (Dat Cfg Window BodyObligation cellOf)

variable (m : (ℓ : Loc nD τ sig) → Buf (Elt F) ℓ) (ρ : Dev nD → PrngReg)

/-- The proof data of the pipeline: the arrays as the region finds them; after a point each input's buffer holds its block and each
    result's buffer the array of Proof/S5FSpec.lean at the inputs' blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outG (iblk m c 0 t) (iblk m c 1 t) (iblk m c 2 t) (iblk m c 3 t) (iblk m c 4 t) (iblk m c 5 t) (iblk m c 6 t) (iblk m c 7 t)
    | ⟨9, _⟩ => outRe (iblk m c 0 t) (iblk m c 1 t) (iblk m c 2 t) (iblk m c 5 t) (iblk m c 6 t)
    | ⟨10, _⟩ => outIm (iblk m c 0 t) (iblk m c 1 t) (iblk m c 2 t) (iblk m c 5 t) (iblk m c 6 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = outG (iblk m c 0 t) (iblk m c 1 t) (iblk m c 2 t) (iblk m c 3 t) (iblk m c 4 t) (iblk m c 5 t) (iblk m c 6 t) (iblk m c 7 t) := by dsimp only [dats]
theorem after0_9 (c : Dev nD) (t : Fin cfg0.N) : (dats m 0 c).after 9 t = outRe (iblk m c 0 t) (iblk m c 1 t) (iblk m c 2 t) (iblk m c 5 t) (iblk m c 6 t) := by dsimp only [dats]
theorem after0_10 (c : Dev nD) (t : Fin cfg0.N) : (dats m 0 c).after 10 t = outIm (iblk m c 0 t) (iblk m c 1 t) (iblk m c 2 t) (iblk m c 5 t) (iblk m c 6 t) := by dsimp only [dats]
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d
theorem before0_6 (c : Dev nD) (t : Fin cfg0.N) (d) : (dats m 0 c).before 6 t d = iblk m c 6 t := before0_6_of m (dats m 0 c) (A_eq m c 6) (after0_6 m c) t d
theorem before0_7 (c : Dev nD) (t : Fin cfg0.N) (d) : (dats m 0 c).before 7 t d = iblk m c 7 t := before0_7_of m (dats m 0 c) (A_eq m c 7) (after0_7 m c) t d

/-- What the class's invariant holds: the six scratch buffers at any contents and the generator register. -/
theorem phi_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d)) ∗ (∃ r, prngReg c r)) := by
  unfold Pipeline.ΦA; rw [scopedRest0_eq]; simp only [owns_whole]; try rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, phi_eq,
    after0_0, after0_1, after0_2, after0_3, after0_4, after0_5, after0_6, after0_7, after0_8, after0_9, after0_10]
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (run_body c (grid0.coords t) _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, H9, H10, HS0, HS1, HS2, HS3, HS4, HS5⟩
  isplitl [HS0 HS1 HS2 HS3 HS4 HS5 Hg]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem defs₀_row (t : Fin cfg0.N) : defs₀ (F := F) .tc cfg0.body (cfg0.bodyArgs t (cfg0.slots t)) = bodyAt0 t := by
  unfold defs₀; rw [Defs.onTc_tc]

/-- The pipeline's obligation on its body. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The whole run: the arrays end at what the proof data says, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end as they began, every counter at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_main_quiescent m ρ))

end Cert.S5FK

end
-- ==== Proof.S5FRec.lean ====
/- The state-space recurrence as a sequence of complex numbers: a sequence cut into eight runs is the whole one once each
   run starts from the end of the run before it, and seven rounds of passing ends along find those starts. -/
module

public import proofs.«01_k».proof.Proof.Real
public import Mathlib.Data.Complex.Basic

@[expose] public section

noncomputable section

namespace Cert.S5R

/-- One step on extended reals: the product with the decay, then the input. -/
def stepE (a b : EReal) (s : EReal × EReal) (x y : EReal) : EReal × EReal :=
  (a * s.1 - b * s.2 + x, a * s.2 + b * s.1 + y)

/-- The states of the recurrence, real and imaginary part. -/
def recE (a b : EReal) (x y : ℕ → EReal) (s : EReal × EReal) : ℕ → EReal × EReal
  | 0 => s
  | n + 1 => stepE a b (recE a b x y s n) (x n) (y n)

/-- A complex number as a pair of extended reals. -/
def toE (z : ℂ) : EReal × EReal := (((z.re : ℝ) : EReal), ((z.im : ℝ) : EReal))

/-- The states of the recurrence over the complex numbers. -/
def recC (l : ℂ) (x : ℕ → ℂ) (s : ℂ) : ℕ → ℂ
  | 0 => s
  | n + 1 => l * recC l x s n + x n

theorem stepE_toE (l s x : ℂ) : stepE (toE l).1 (toE l).2 (toE s) (toE x).1 (toE x).2 = toE (l * s + x) := by
  unfold stepE toE
  simp only [Complex.add_re, Complex.mul_re, Complex.add_im, Complex.mul_im]
  push_cast
  rfl

theorem recE_toE (l : ℂ) (x : ℕ → ℂ) (s : ℂ) (n : ℕ) :
    recE (toE l).1 (toE l).2 (fun k => (toE (x k)).1) (fun k => (toE (x k)).2) (toE s) n = toE (recC l x s n) := by
  induction n with
  | zero => rfl
  | succ n ih => rw [recE, ih]; exact stepE_toE l _ _

theorem recE_congr {a b a' b' : EReal} {x y x' y' : ℕ → EReal} {s s' : EReal × EReal} (ha : a = a') (hb : b = b')
    (hs : s = s') (n : ℕ) (hx : ∀ k < n, x k = x' k) (hy : ∀ k < n, y k = y' k) : recE a b x y s n = recE a' b' x' y' s' n := by
  subst ha hb hs
  induction n with
  | zero => rfl
  | succ n ih =>
    rw [recE, recE, ih (fun k h => hx k (Nat.lt_succ_of_lt h)) (fun k h => hy k (Nat.lt_succ_of_lt h)), hx n (Nat.lt_succ_self n), hy n (Nat.lt_succ_self n)]

theorem recC_congr {l : ℂ} {x x' : ℕ → ℂ} {s : ℂ} (n : ℕ) (hx : ∀ k < n, x k = x' k) : recC l x s n = recC l x' s n := by
  induction n with
  | zero => rfl
  | succ n ih => rw [recC, recC, ih fun k h => hx k (Nat.lt_succ_of_lt h), hx n (Nat.lt_succ_self n)]

/-- A run from `s` is the run from zero and the decayed start. -/
theorem recC_from (l : ℂ) (x : ℕ → ℂ) (s : ℂ) (n : ℕ) : recC l x s n = l ^ n * s + recC l x 0 n := by
  induction n with
  | zero => simp [recC]
  | succ n ih => rw [recC, recC, ih]; ring

/-- A run goes on from where it stands. -/
theorem recC_add (l : ℂ) (x : ℕ → ℂ) (s : ℂ) (m n : ℕ) : recC l x s (m + n) = recC l (fun k => x (m + k)) (recC l x s m) n := by
  induction n with
  | zero => rfl
  | succ n ih => rw [← Nat.add_assoc, recC, recC, ih]

/-- The state before run `s` of 256 steps. -/
def startC (l : ℂ) (x : ℕ → ℂ) (s : ℕ) : ℂ := recC l x 0 (256 * s)
/-- The end of run `s` from zero. -/
def endC (l : ℂ) (x : ℕ → ℂ) (s : ℕ) : ℂ := recC l (fun k => x (256 * s + k)) 0 256

theorem startC_succ (l : ℂ) (x : ℕ → ℂ) (s : ℕ) : startC l x (s + 1) = endC l x s + l ^ 256 * startC l x s := by
  unfold startC endC
  rw [Nat.mul_succ, recC_add, recC_from, add_comm]

/-- One round: every run's start is the end of the run before it, with the start known so far of that run carried through. -/
def roundC (w : ℂ) (f g : ℕ → ℂ) : ℕ → ℂ
  | 0 => 0
  | s + 1 => f s + w * g s

/-- After `j` rounds the first `j + 1` starts are right. -/
theorem round_start (l : ℂ) (x : ℕ → ℂ) (j : ℕ) : ∀ s ≤ j + 1,
    (roundC (l ^ 256) (endC l x))^[j] (roundC (l ^ 256) (endC l x) fun _ => 0) s = startC l x s := by
  induction j with
  | zero =>
    intro s hs
    rcases s with _ | _ | s
    · rfl
    · show endC l x 0 + l ^ 256 * 0 = startC l x 1
      rw [startC_succ]; rfl
    · omega
  | succ j ih =>
    intro s hs
    rw [Function.iterate_succ_apply']
    rcases s with _ | s
    · rfl
    · show endC l x s + l ^ 256 * _ = _
      rw [ih s (by omega), startC_succ]

/-- Run `s` from its start, after `n` steps: the whole sequence's state. -/
theorem run_start (l : ℂ) (x : ℕ → ℂ) (s n : ℕ) : recC l (fun k => x (256 * s + k)) (startC l x s) n = recC l x 0 (256 * s + n) :=
  (recC_add l x 0 (256 * s) n).symm

end Cert.S5R

end
-- ==== Proof.S5FBlock.lean ====
/- One grid point of the call on extended reals: the segments' states are the whole recurrence's. -/
module

public import proofs.«01_k».proof.Proof.S5FSpec
public import proofs.«01_k».proof.Proof.S5FRec
public import Idealize.ShloMosaic.Lib.Pointwise
public import Idealize.ShloMosaic.Lib.Pipeline.ValueKit

@[expose] public section

set_option maxRecDepth 16384
set_option maxHeartbeats 4000000

noncomputable section

namespace Cert.S5FK

open Cert.S5FIdeal Cert.S5FIdeal.Gen Cert.S5R
open Idealize.ShloMosaic Idealize.ShloMosaic.TcCoe Idealize.ShloMosaic.Tactic

/-- A sum whose terms vanish off one block of `q` is the sum over that block. -/
theorem sum_block {n q : ℕ} (f : Fin (n * q) → EReal) (a : Fin n) (hf : ∀ k : Fin (n * q), k.val / q ≠ a.val → f k = 0) :
    ∑ k, f k = ∑ h : Fin q, f (finProdFinEquiv (a, h)) := by
  rw [← finProdFinEquiv.sum_comp, Fintype.sum_prod_type]
  refine Finset.sum_eq_single a (fun b _ hb => Finset.sum_eq_zero fun h _ => hf _ fun e => hb (Fin.ext ?_)) fun h => absurd (Finset.mem_univ a) h
  rw [← e]
  show b.val = (h.val + q * b.val) / q
  rw [Nat.add_mul_div_left _ _ (Nat.lt_of_le_of_lt (Nat.zero_le _) h.isLt), Nat.div_eq_of_lt h.isLt, Nat.zero_add]

section Vals
variable (x0 : FVec Ideal S2048x128 .f32) (x1 x2 : FVec Ideal S1x8x16x64 .f32) (x3 x4 : FVec Ideal S1x8x64x16 .f32) (x5 x6 : FVec Ideal S1x1x512 .f32) (x7 : FVec Ideal S1x128 .f32)

/-- The group of a state column of one block and its place in it; the same of a channel. -/
def zg (z : Fin 512) : Fin 8 := ⟨z.val / 64, by omega⟩
def zp (z : Fin 512) : Fin 64 := ⟨z.val % 64, by omega⟩
def cg (j : Fin 128) : Fin 8 := ⟨j.val / 16, by omega⟩
def cp (j : Fin 128) : Fin 16 := ⟨j.val % 16, by omega⟩
def ch (g : Fin 8) (h : Fin 16) : Fin 128 := ⟨g.val * 16 + h.val, by omega⟩
def zc (g : Fin 8) (p : Fin 64) : Fin 512 := ⟨g.val * 64 + p.val, by omega⟩

/-- The input to state column `z` at time `t`. -/
def inB (x : FVec Ideal S1x8x16x64 .f32) (z : Fin 512) (t : ℕ) : EReal :=
  ∑ h : Fin 16, x (ix4 0 (zg z) h (zp z)) * x0 (ix2 ⟨t % 2048, Nat.mod_lt _ (by decide)⟩ (ch (zg z) h))

theorem up_at (r : Fin 2048) (j : Fin 128) : upV (F := Ideal) x0 (ix2 r j) = x0 (ix2 ⟨(256 * (r.val % 8) + r.val / 8) % 2048, Nat.mod_lt _ (by decide)⟩ j) := by
  unfold upV
  exact congrArg x0 (ix_eq _ _ _ (Nat.mod_eq_of_lt (by show 256 * (r.val % 8) + r.val / 8 < 2048; omega)) rfl)

theorem denseB_at (x : FVec Ideal S1x8x16x64 .f32) (k : Fin 128) (z : Fin 512) :
    denseB (F := Ideal) x (ix2 k z) = if k.val / 16 = z.val / 64 then x (ix4 0 (zg z) ⟨k.val % 16, Nat.mod_lt _ (by decide)⟩ (zp z)) else (0 : EReal) := by
  unfold denseB band
  by_cases e : k.val / 16 = z.val / 64
  · rw [if_pos e, if_pos ⟨e, (by show k.val / 16 < 8; omega)⟩]
    refine congrArg x ?_
    have : k.val / 16 % 8 = z.val / 64 := by omega
    blk_ext [zg, zp]
  · rw [if_neg e, if_neg fun h => e h.1]
    pointwise

theorem denseC_at (x : FVec Ideal S1x8x64x16 .f32) (z : Fin 512) (j : Fin 128) :
    denseC (F := Ideal) x (ix2 z j) = if z.val / 64 = j.val / 16 then x (ix4 0 (cg j) (zp z) (cp j)) else (0 : EReal) := by
  unfold denseC band
  by_cases e : z.val / 64 = j.val / 16
  · rw [if_pos e, if_pos ⟨e, (by show z.val / 64 < 8; omega)⟩]
    refine congrArg x ?_
    have : z.val / 64 % 8 = j.val / 16 := by omega
    blk_ext [cg, zp, cp]
  · rw [if_neg e, if_neg fun h => e h.1]
    pointwise

theorem in_sum (x : FVec Ideal S1x8x16x64 .f32) (r : Fin 2048) (z : Fin 512) :
    ∑ k : Fin 128, upV (F := Ideal) x0 (ix2 r k) * denseB (F := Ideal) x (ix2 k z) = inB x0 x z (256 * (r.val % 8) + r.val / 8) := by
  refine (sum_block (n := 8) (q := 16) (fun k => upV (F := Ideal) x0 (ix2 r k) * denseB (F := Ideal) x (ix2 k z)) (zg z) (fun k hk => ?_)).trans ?_
  · exact (congrArg (upV (F := Ideal) x0 (ix2 r k) * ·) ((denseB_at x k z).trans (if_neg hk))).trans (mul_zero _)
  · unfold inB
    refine Finset.sum_congr rfl fun h _ => ?_
    have e1 : (finProdFinEquiv (zg z, h) : Fin 128) = ch (zg z) h := Fin.ext (by show h.val + 16 * (zg z).val = (zg z).val * 16 + h.val; omega)
    rw [show (finProdFinEquiv (zg z, h) : Fin (8 * 16)) = ch (zg z) h from e1, denseB_at, up_at, if_pos (by show (z.val / 64 * 16 + h.val) / 16 = _; omega), mul_comm]
    refine congrArg (· * _) (congrArg x ?_)
    blk_ext [ch]

theorem inRe_at (r : Fin 2048) (z : Fin 512) : inRe (F := Ideal) x0 x1 (ix2 r z) = inB x0 x1 z (256 * (r.val % 8) + r.val / 8) := by
  rw [← in_sum]
  unfold inRe
  pointwise [k0_pay93]
theorem inIm_at (r : Fin 2048) (z : Fin 512) : inIm (F := Ideal) x0 x2 (ix2 r z) = inB x0 x2 z (256 * (r.val % 8) + r.val / 8) := by
  rw [← in_sum]
  unfold inIm
  pointwise [k0_pay94]

/-- One entry of a pair of blocks of states. -/
def ent (v : FVec Ideal S8x512 .f32 × FVec Ideal S8x512 .f32) (s : Fin 8) (z : Fin 512) : EReal × EReal := (v.1 (ix2 s z), v.2 (ix2 s z))

theorem lam_ent (s : Fin 8) (z : Fin 512) : ent (lamV (F := Ideal) x5 x6) s z = (x5 (ix3 0 0 z), x6 (ix3 0 0 z)) := by
  unfold ent lamV
  refine Prod.ext ?_ ?_
  · show k0_pay52 (F := Ideal) x5 (ix2 s z) = _
    pointwise [k0_pay52]
  · show k0_pay53 (F := Ideal) x6 (ix2 s z) = _
    pointwise [k0_pay53]

theorem shift_at (x : FVec Ideal S8x512 .f32) (s : Fin 8) (z : Fin 512) :
    shiftV (F := Ideal) x (ix2 s z) = if h : s.val = 0 then (0 : EReal) else x (ix2 ⟨s.val - 1, by omega⟩ z) := by
  unfold shiftV
  pointwise
  fin_cases s <;> rfl

theorem run_ent (a s0 : FVec Ideal S8x512 .f32 × FVec Ideal S8x512 .f32) (s : Fin 8) (z : Fin 512) (n : ℕ) (yr yi : FVec Ideal S2048x512 .f32) :
    ent (runV (F := Ideal) a.1 a.2 yr yi s0 n) s z
      = recE (ent a s z).1 (ent a s z).2 (fun k => rows8 (F := Ideal) yr k (ix2 s z)) (fun k => rows8 (F := Ideal) yi k (ix2 s z)) (ent s0 s z) n := by
  induction n with
  | zero => rfl
  | succ n ih => rw [runV_succ, recE, ← ih]; rfl

theorem rows_at (y : FVec Ideal S2048x512 .f32) (k : ℕ) (hk : k < 256) (s : Fin 8) (z : Fin 512) :
    rows8 (F := Ideal) y k (ix2 s z) = y (ix2 ⟨8 * k + s.val, by omega⟩ z) := rows8_eq (F := Ideal) y k (ix2 s z) (ix2 ⟨8 * k + s.val, by omega⟩ z) rfl rfl

/-! ### Finite blocks -/

variable (l : Fin 512 → ℂ) (X : Fin 512 → ℕ → ℂ)
  (hl : ∀ z, (x5 (ix3 0 0 z), x6 (ix3 0 0 z)) = toE (l z))
  (hX : ∀ z (t : ℕ), t < 2048 → (inB x0 x1 z t, inB x0 x2 z t) = toE (X z t))
include hl hX

theorem rows_in (s : Fin 8) (z : Fin 512) (k : ℕ) (hk : k < 256) :
    (rows8 (F := Ideal) (inRe x0 x1) k (ix2 s z), rows8 (F := Ideal) (inIm x0 x2) k (ix2 s z)) = toE (X z (256 * s.val + k)) := by
  rw [rows_at _ k hk, rows_at _ k hk, inRe_at, inIm_at, ← hX z _ (by omega)]
  have e : 256 * ((8 * k + s.val) % 8) + (8 * k + s.val) / 8 = 256 * s.val + k := by omega
  show (inB x0 x1 z (256 * ((8 * k + s.val) % 8) + (8 * k + s.val) / 8), inB x0 x2 z (256 * ((8 * k + s.val) % 8) + (8 * k + s.val) / 8)) = _
  rw [e]

theorem run_c (s0 : FVec Ideal S8x512 .f32 × FVec Ideal S8x512 .f32) (w : ℂ) (s : Fin 8) (z : Fin 512) (n : ℕ) (hn : n ≤ 256) (h0 : ent s0 s z = toE w) :
    ent (runV (F := Ideal) (lamV x5 x6).1 (lamV x5 x6).2 (inRe x0 x1) (inIm x0 x2) s0 n) s z
      = toE (recC (l z) (fun k => X z (256 * s.val + k)) w n) := by
  rw [run_ent, ← recE_toE]
  have e := (lam_ent x5 x6 s z).trans (hl z)
  refine recE_congr (congrArg Prod.fst e) (congrArg Prod.snd e) h0 n (fun k hk => ?_) (fun k hk => ?_)
  · exact congrArg Prod.fst (rows_in x0 x1 x2 x5 x6 l X hl hX s z k (by omega))
  · exact congrArg Prod.snd (rows_in x0 x1 x2 x5 x6 l X hl hX s z k (by omega))

theorem end_c (s : Fin 8) (z : Fin 512) : ent (endV (F := Ideal) x0 x1 x2 x5 x6) s z = toE (endC (l z) (X z) s.val) := by
  unfold endV endC
  refine run_c x0 x1 x2 x5 x6 l X hl hX _ 0 s z 256 le_rfl ?_
  have e : k0_pay95 (F := Ideal) (ix2 s z) = (0 : EReal) := by pointwise [k0_pay95]
  unfold ent toE
  rw [Complex.zero_re, Complex.zero_im]
  exact Prod.ext e e

theorem sq_c (j : ℕ) (s : Fin 8) (z : Fin 512) : ent (sqV^[j] (lamV (F := Ideal) x5 x6)) s z = toE (l z ^ 2 ^ j) := by
  induction j with
  | zero => rw [pow_zero, pow_one]; exact (lam_ent x5 x6 s z).trans (hl z)
  | succ j ih =>
    rw [Function.iterate_succ_apply', pow_succ, pow_mul, sq]
    generalize sqV^[j] (lamV (F := Ideal) x5 x6) = a at ih ⊢
    have h1 : a.1 (ix2 s z) = _ := congrArg Prod.fst ih
    have h2 : a.2 (ix2 s z) = _ := congrArg Prod.snd ih
    show ((a.1 (ix2 s z) * a.1 (ix2 s z) - a.2 (ix2 s z) * a.2 (ix2 s z) : EReal), (a.1 (ix2 s z) * a.2 (ix2 s z) + a.2 (ix2 s z) * a.1 (ix2 s z) : EReal)) = _
    rw [h1, h2]
    unfold toE
    simp only [Complex.mul_re, Complex.mul_im]
    push_cast
    rfl

theorem round_c (a f g : FVec Ideal S8x512 .f32 × FVec Ideal S8x512 .f32) (w : ℂ) (fc gc : ℕ → ℂ) (z : Fin 512)
    (ha : ∀ s, ent a s z = toE w) (hf : ∀ s : Fin 8, ent f s z = toE (fc s.val)) (hg : ∀ s : Fin 8, ent g s z = toE (gc s.val)) (s : Fin 8) :
    ent (roundV (F := Ideal) a f g) s z = toE (roundC w fc gc s.val) := by
  rcases s with ⟨s, hs⟩
  unfold roundV ent
  simp only [shift_at]
  rcases s with _ | s
  · rfl
  · have h := ha ⟨s, by omega⟩
    have h' := hf ⟨s, by omega⟩
    have h'' := hg ⟨s, by omega⟩
    have a1 : a.1 (ix2 ⟨s, by omega⟩ z) = _ := congrArg Prod.fst h
    have a2 : a.2 (ix2 ⟨s, by omega⟩ z) = _ := congrArg Prod.snd h
    have f1 : f.1 (ix2 ⟨s, by omega⟩ z) = _ := congrArg Prod.fst h'
    have f2 : f.2 (ix2 ⟨s, by omega⟩ z) = _ := congrArg Prod.snd h'
    have g1 : g.1 (ix2 ⟨s, by omega⟩ z) = _ := congrArg Prod.fst h''
    have g2 : g.2 (ix2 ⟨s, by omega⟩ z) = _ := congrArg Prod.snd h''
    show ((f.1 (ix2 ⟨s, by omega⟩ z) + (a.1 (ix2 ⟨s, by omega⟩ z) * g.1 (ix2 ⟨s, by omega⟩ z) - a.2 (ix2 ⟨s, by omega⟩ z) * g.2 (ix2 ⟨s, by omega⟩ z)) : EReal),
      (f.2 (ix2 ⟨s, by omega⟩ z) + (a.1 (ix2 ⟨s, by omega⟩ z) * g.2 (ix2 ⟨s, by omega⟩ z) + a.2 (ix2 ⟨s, by omega⟩ z) * g.1 (ix2 ⟨s, by omega⟩ z)) : EReal)) = toE (fc s + w * gc s)
    rw [a1, a2, f1, f2, g1, g2]
    unfold toE
    simp only [Complex.mul_re, Complex.mul_im, Complex.add_re, Complex.add_im]
    push_cast
    rfl

theorem shift_c (f : FVec Ideal S8x512 .f32 × FVec Ideal S8x512 .f32) (w : ℂ) (fc : ℕ → ℂ) (z : Fin 512)
    (hf : ∀ s : Fin 8, ent f s z = toE (fc s.val)) (s : Fin 8) :
    ent (shiftV (F := Ideal) f.1, shiftV (F := Ideal) f.2) s z = toE (roundC w fc (fun _ => 0) s.val) := by
  rcases s with ⟨s, hs⟩
  unfold ent
  simp only [shift_at]
  rcases s with _ | s
  · rfl
  · refine (hf ⟨s, by omega⟩).trans (congrArg toE ?_)
    show fc s = fc s + w * 0
    ring

theorem from_c (s : Fin 8) (z : Fin 512) : ent (fromV (F := Ideal) x0 x1 x2 x5 x6) s z = toE (startC (l z) (X z) s.val) := by
  rw [← round_start (l z) (X z) 7 s.val (by omega)]
  unfold fromV startV
  have hw : ∀ s, ent (sqV^[8] (lamV (F := Ideal) x5 x6)) s z = toE (l z ^ 256) := fun s => sq_c x0 x1 x2 x5 x6 l X hl hX 8 s z
  have hf : ∀ s, ent (endV (F := Ideal) x0 x1 x2 x5 x6) s z = toE (endC (l z) (X z) s.val) := fun s => end_c x0 x1 x2 x5 x6 l X hl hX s z
  generalize sqV^[8] (lamV (F := Ideal) x5 x6) = a at hw ⊢
  generalize endV (F := Ideal) x0 x1 x2 x5 x6 = f at hf ⊢
  generalize 7 = j
  induction j generalizing s with
  | zero => exact shift_c x0 x1 x2 x5 x6 l X hl hX f _ _ z hf s
  | succ j ih =>
    rw [Function.iterate_succ_apply', Function.iterate_succ_apply']
    exact round_c x0 x1 x2 x5 x6 l X hl hX a f _ _ _ _ z hw hf (fun s => ih s) s

theorem state_c (s : Fin 8) (z : Fin 512) (n : ℕ) (hn : n ≤ 256) :
    ent (stateV (F := Ideal) x0 x1 x2 x5 x6 n) s z = toE (recC (l z) (X z) 0 (256 * s.val + n)) := by
  rw [← run_start]
  exact run_c x0 x1 x2 x5 x6 l X hl hX _ _ s z n hn (from_c x0 x1 x2 x5 x6 l X hl hX s z)

/-- The state of column `z` after time `t`. -/
def stB (z : Fin 512) (t : ℕ) : EReal × EReal :=
  recE (x5 (ix3 0 0 z)) (x6 (ix3 0 0 z)) (inB x0 x1 z) (inB x0 x2 z) (0, 0) t

theorem stB_c (z : Fin 512) (t : ℕ) (ht : t ≤ 2048) : toE (recC (l z) (X z) 0 t) = stB x0 x1 x2 x5 x6 z t := by
  rw [← recE_toE]
  unfold stB
  exact recE_congr (congrArg Prod.fst (hl z).symm) (congrArg Prod.snd (hl z).symm) rfl t
    (fun k hk => congrArg Prod.fst (hX z k (by omega)).symm) (fun k hk => congrArg Prod.snd (hX z k (by omega)).symm)

theorem out_c (r : Fin 2048) (z : Fin 512) :
    (outRe (F := Ideal) x0 x1 x2 x5 x6 (ix2 r z), outIm (F := Ideal) x0 x1 x2 x5 x6 (ix2 r z))
      = stB x0 x1 x2 x5 x6 z (256 * (r.val % 8) + r.val / 8 + 1) := by
  rw [← stB_c x0 x1 x2 x5 x6 l X hl hX z _ (by omega), Nat.add_assoc]
  have h := state_c x0 x1 x2 x5 x6 l X hl hX ⟨r.val % 8, Nat.mod_lt _ (by decide)⟩ z (r.val / 8 + 1) (by omega)
  refine Eq.trans ?_ h
  unfold outRe outIm mixV ent
  have hr : r.val < 8 * 256 := r.isLt
  refine Prod.ext ?_ ?_
  · exact (if_pos hr).trans (at8_eq (F := Ideal) _ _ (ix2 ⟨r.val % 8, Nat.mod_lt _ (by decide)⟩ z) rfl rfl)
  · exact (if_pos hr).trans (at8_eq (F := Ideal) _ _ (ix2 ⟨r.val % 8, Nat.mod_lt _ (by decide)⟩ z) rfl rfl)

end Vals

end Cert.S5FK

end
-- ==== Proof.S5FRef.lean ====
/- What the plain formula leaves: its loop over time carried as a sequence of states, and the operations after the loop. -/
module

public import proofs.«01_k».proof.Proof.Gen.S5FRefIdeal.Run
public import Idealize.ShloMosaic.Lib.Quiescent
public import Idealize.ShloMosaic.Lib.DynamicIndex

@[expose] public section

set_option maxRecDepth 16384
set_option maxHeartbeats 4000000

noncomputable section

namespace Cert.S5FR

open Cert.S5FRefIdeal Cert.S5FRefIdeal.Gen Cert.S5FRefIdeal.Value
open Idealize.ShloMosaic Idealize.ShloMosaic.TcCoe Idealize.ShloMosaic.Tactic
open Idealize.SL Idealize.SL.Sem
open Idealize.ShloMosaic.StableHlo

variable {F : FTy → Type} [FloatOps F]
variable (m : (ℓ : Loc nD τ sig) → Buf (Elt F) ℓ) (ρ : Dev nD → PrngReg) (c : Dev nD)

/-- The references that one trip writes. -/
abbrev tripW : List (Ref sig .tc) :=
  condOps_W ++ while0Ops0_W ++ while0Ops0_1_W ++ while0Ops0_2_W ++ while0Ops0_3_W ++ while0Ops0_4_W ++ while0Ops0_5_W

/-- What no trip writes is after the loop what it was before it. -/
theorem atK_keep (r : Ref sig .tc) (h : r ∉ tripW) (k : ℕ) :
    atK m k c (Proc.devRef .tc r) = entryContents preI m c (Proc.devRef .tc r) := by
  simp only [tripW, List.mem_append, not_or] at h
  obtain ⟨⟨⟨⟨⟨⟨h0, h1⟩, h2⟩, h3⟩, h4⟩, h5⟩, h6⟩ := h
  induction k with
  | zero => rfl
  | succ k ih =>
    rw [show atK m (k + 1) c = afterL bodyI (after condOps (atK m k c)) from rfl]
    simp only [afterL_cons, afterL_nil]
    rw [after_of_writes_sub _ _ while0Ops0_5_writes h6, after_of_writes_sub _ _ while0Ops0_4_writes h5,
      after_of_writes_sub _ _ while0Ops0_3_writes h4, after_of_writes_sub _ _ while0Ops0_2_writes h3,
      after_of_writes_sub _ _ while0Ops0_1_writes h2, after_of_writes_sub _ _ while0Ops0_writes h1,
      after_of_writes_sub _ _ condOps_writes h0]
    exact ih

/-- The contents before the operations after the loop. -/
abbrev atEnd : Valuation τ sig (Elt F) := after condOps (atK m 2048 c)

theorem final_eq (r : DevRef τ sig) : finalContents condOps preI bodyI postI 2048 m c r = after hostOps0_1 (atEnd m c) r := rfl

theorem atEnd_eq (r : Ref sig .tc) (h : r ∉ (condOps_W : List (Ref sig .tc))) :
    atEnd m c (Proc.devRef .tc r) = atK m 2048 c (Proc.devRef .tc r) :=
  after_of_writes_sub _ _ condOps_writes h

/-- The references that the operations after the loop write. -/
abbrev postW : List (Ref sig .tc) := [main_v10, main_v11, main_v12, main_v13, main_v14, main_v15, main_v16, main_v17, main_v18, main_v19,
  main_v20, main_v21, main_cst_2, main_v22, main_v23, main_v24, main_cst_3, main_v25, main_v26, main_v27, main_cst_4, main_v28, main_v29,
  main_cst_5, main_v30, main_v31, main_v32, main_v33, main_v34, main_v35, main_v36, main_v37, main_v38, main_v39]
theorem post_writes : (hostOps0_1 : List (HloOp τ sig (Elt F))).Forall fun op => op.writes ⊆ (postW.map (Proc.devRef (τ := τ) .tc)).toFinset :=
  StableHlo.forall_writes_sub_of_map rfl

/-- A buffer nothing writes ends as it began. -/
theorem final_keep (r : Ref sig .tc) (h : r ∉ tripW) (hp : r ∉ postW) (h0 : r ∉ hostOps0_W) :
    finalContents condOps preI bodyI postI 2048 m c (Proc.devRef .tc r) = m (c.tc.loc r) := by
  rw [final_eq, after_of_writes_sub _ _ post_writes hp,
    atEnd_eq m c r (fun e => h (by simp only [tripW, List.mem_append]; exact Or.inl (Or.inl (Or.inl (Or.inl (Or.inl (Or.inl e))))))),
    atK_keep m c r h]
  simp only [entryContents, afterL_cons, afterL_nil]
  rw [after_of_writes_sub _ _ hostOps0_writes h0]

/-- The run leaves every argument and every counter as it was. -/
theorem run_frame : θ_run (defs (F := F)) (onTc (τ := τ) (main (F := F))) ⟨m, fun _ => 0, ρ⟩ (fun r => (∀ c : Dev nD,
      r.2.mem (c.tc.loc main_arg0) = m (c.tc.loc main_arg0) ∧ r.2.mem (c.tc.loc main_arg1) = m (c.tc.loc main_arg1)
      ∧ r.2.mem (c.tc.loc main_arg2) = m (c.tc.loc main_arg2) ∧ r.2.mem (c.tc.loc main_arg3) = m (c.tc.loc main_arg3)
      ∧ r.2.mem (c.tc.loc main_arg4) = m (c.tc.loc main_arg4) ∧ r.2.mem (c.tc.loc main_arg5) = m (c.tc.loc main_arg5)
      ∧ r.2.mem (c.tc.loc main_arg6) = m (c.tc.loc main_arg6) ∧ r.2.mem (c.tc.loc main_arg7) = m (c.tc.loc main_arg7))
      ∧ r.2.sem = fun _ => 0) := by
  refine (θ_run defs _ _).mono (fun r h => ⟨fun c => ?_, sem_eq_zero_of_no_sems rfl _⟩) (run_fold m ρ)
  exact ⟨(h c main_arg0 (by decide)).trans (final_keep m c main_arg0 (by decide) (by decide) (by decide)),
    (h c main_arg1 (by decide)).trans (final_keep m c main_arg1 (by decide) (by decide) (by decide)),
    (h c main_arg2 (by decide)).trans (final_keep m c main_arg2 (by decide) (by decide) (by decide)),
    (h c main_arg3 (by decide)).trans (final_keep m c main_arg3 (by decide) (by decide) (by decide)),
    (h c main_arg4 (by decide)).trans (final_keep m c main_arg4 (by decide) (by decide) (by decide)),
    (h c main_arg5 (by decide)).trans (final_keep m c main_arg5 (by decide) (by decide) (by decide)),
    (h c main_arg6 (by decide)).trans (final_keep m c main_arg6 (by decide) (by decide) (by decide)),
    (h c main_arg7 (by decide)).trans (final_keep m c main_arg7 (by decide) (by decide) (by decide))⟩

end Cert.S5FR

end
-- ==== Proof.S5FSeq.lean ====
/- The plain formula's loop over time: the states it carries are the recurrence, and each trip files its state. -/
module

public import proofs.«01_k».proof.Proof.S5FRef
public import proofs.«01_k».proof.Proof.S5FRec
public import Idealize.ShloMosaic.Lib.Pointwise
public import Idealize.ShloMosaic.Lib.Pipeline.Value
public import Idealize.ShloMosaic.Lib.Pipeline.ValueKit

@[expose] public section

set_option maxRecDepth 16384
set_option maxHeartbeats 4000000

noncomputable section

namespace Cert.S5FR

open Cert.S5FRefIdeal Cert.S5FRefIdeal.Gen Cert.S5FRefIdeal.Value Cert.S5R
open Idealize.ShloMosaic Idealize.ShloMosaic.TcCoe Idealize.ShloMosaic.Tactic
open Idealize.SL Idealize.SL.Sem
open Idealize.ShloMosaic.StableHlo

theorem slice_row (x : FVec Ideal S2048x128x64 .f32) (start : Fin 3 → Int) (k : Fin 2048) (h0 : start 0 = (k.val : Int)) (h1 : start 1 = 0)
    (h2 : start 2 = 0) (g : Fin 128) (p : Fin 64) :
    shapeCast S128x64 (Host.dynamicSlice S1x128x64 x start sliceFits_S2048x128x64_S1x128x64) shapeCasts_S1x128x64_S128x64 (ix2 g p) = x (ix3 k g p) := by
  rw [Host.dynamicSlice_eq_extractStridedSlice S1x128x64 x start ![k.val, 0, 0] _ ⟨rfl, fun a => by fin_cases a <;> simp [S2048x128x64, S1x128x64] <;> omega⟩
    (fun a => by fin_cases a <;> assumption)]
  pointwise
  blk_ext

theorem update_row (x : FVec Ideal S2048x128x64 .f32) (v : FVec Ideal S128x64 .f32) (start : Fin 3 → Int) (k : Fin 2048) (h0 : start 0 = (k.val : Int)) (h1 : start 1 = 0)
    (h2 : start 2 = 0) (l : Fin 2048) (g : Fin 128) (p : Fin 64) :
    Host.dynamicUpdateSlice x (broadcastInDim S1x128x64 ![1, 2] bcast_S128x64_S1x128x64_1_2 v) start sliceFits_S2048x128x64_S1x128x64 (ix3 l g p)
      = if l = k then v (ix2 g p) else x (ix3 l g p) := by
  rw [Host.dynamicUpdateSlice_eq_updateSlice x _ start sliceFits_S2048x128x64_S1x128x64 ![k.val, 0, 0] (fun a => by
    fin_cases a
    · show (min (max (start 0) 0) ((2048 - 1 : ℕ) : Int)).toNat = k.val
      rw [h0]; omega
    · show (min (max (start 1) 0) ((128 - 128 : ℕ) : Int)).toNat = 0
      rw [h1]; rfl
    · show (min (max (start 2) 0) ((64 - 64 : ℕ) : Int)).toNat = 0
      rw [h2]; rfl) ⟨rfl, fun a => by fin_cases a <;> simp [S2048x128x64, S1x128x64] <;> omega⟩]
  unfold updateSlice
  split
  case isTrue h =>
    have e := h 0
    have e' : k.val ≤ l.val ∧ l.val < k.val + 1 := e
    rw [if_pos (Fin.ext (by omega))]
    pointwise
    blk_ext
  case isFalse h =>
    rw [if_neg fun e => h fun a => ?_]
    subst e
    fin_cases a
    · exact ⟨Nat.le_refl _, Nat.lt_succ_self _⟩
    · exact ⟨Nat.zero_le _, (show g.val < 0 + 128 by omega)⟩
    · exact ⟨Nat.zero_le _, (show p.val < 0 + 64 by omega)⟩

variable (m : (ℓ : Loc nD τ sig) → Buf (Elt Ideal) ℓ) (c : Dev nD)

/-- The arguments by name. -/
abbrev uA : FVec Ideal S2048x2048 .f32 := m (c.tc.loc main_arg0)
abbrev lrA : FVec Ideal S128x64 .f32 := m (c.tc.loc main_arg1)
abbrev liA : FVec Ideal S128x64 .f32 := m (c.tc.loc main_arg2)
abbrev brA : FVec Ideal S128x64x16 .f32 := m (c.tc.loc main_arg3)
abbrev biA : FVec Ideal S128x64x16 .f32 := m (c.tc.loc main_arg4)
abbrev crA : FVec Ideal S128x16x64 .f32 := m (c.tc.loc main_arg5)
abbrev ciA : FVec Ideal S128x16x64 .f32 := m (c.tc.loc main_arg6)
abbrev dA : FVec Ideal S1x2048 .f32 := m (c.tc.loc main_arg7)

/-- Column `h` of group `g`. -/
def chan (g : Fin 128) (h : Fin 16) : Fin 2048 := ⟨g.val * 16 + h.val, by omega⟩
/-- The input to state `p` of group `g` at time `l`. -/
def inX (u : FVec Ideal S2048x2048 .f32) (B : FVec Ideal S128x64x16 .f32) (g : Fin 128) (p : Fin 64) (l : ℕ) : EReal :=
  ∑ h : Fin 16, B (ix3 g p h) * u (ix2 ⟨l % 2048, Nat.mod_lt _ (by decide)⟩ (chan g h))
/-- The state of group `g` after `n` steps. -/
def stX (u : FVec Ideal S2048x2048 .f32) (lr li : FVec Ideal S128x64 .f32) (br bi : FVec Ideal S128x64x16 .f32) (g : Fin 128) (p : Fin 64) (n : ℕ) : EReal × EReal :=
  recE (lr (ix2 g p)) (li (ix2 g p)) (inX u br g p) (inX u bi g p) (0, 0) n

abbrev E0 (r : Ref sig .tc) := entryContents preI m c (Proc.devRef .tc r)
theorem entry_v9_0 (l : Fin 2048) (g : Fin 128) (p : Fin 64) : (E0 m c main_v9_0 : FVec Ideal S2048x128x64 .f32) (ix3 l g p) = inX (uA m c) (brA m c) g p l.val := by
  simp only [E0, entryContents, afterL_cons, afterL_nil]
  after_reads_simp
  simp only [id_eq]
  pointwise
  unfold inX chan
  simp only [Nat.mod_eq_of_lt l.isLt]
theorem entry_v9_1 (l : Fin 2048) (g : Fin 128) (p : Fin 64) : (E0 m c main_v9_1 : FVec Ideal S2048x128x64 .f32) (ix3 l g p) = inX (uA m c) (biA m c) g p l.val := by
  simp only [E0, entryContents, afterL_cons, afterL_nil]
  after_reads_simp
  simp only [id_eq]
  pointwise
  unfold inX chan
  simp only [Nat.mod_eq_of_lt l.isLt]
theorem entry_v9_2 : E0 m c main_v9_2 = lrA m c := by
  simp only [E0, entryContents, afterL_cons, afterL_nil]
  after_reads_simp
  rfl
theorem entry_v9_3 : E0 m c main_v9_3 = liA m c := by
  simp only [E0, entryContents, afterL_cons, afterL_nil]
  after_reads_simp
  rfl
theorem entry_zero (j : S128x64.Idx) : (show FVec Ideal S128x64 .f32 from E0 m c main_v9_5) j = (0 : EReal) ∧ (show FVec Ideal S128x64 .f32 from E0 m c main_v9_6) j = (0 : EReal) := by
  constructor <;>
  · simp only [E0, entryContents, afterL_cons, afterL_nil]
    after_reads_simp
    simp only [id_eq]
    pointwise
theorem entry_v0 (j : Fin 2048) : (E0 m c main_v0 : FVec Ideal S2048 .f32) (ix1 j) = dA m c (ix2 0 j) := by
  simp only [E0, entryContents, afterL_cons, afterL_nil]
  after_reads_simp
  pointwise
theorem entry_stack (j : S2048x128x64.Idx) : (show FVec Ideal S2048x128x64 .f32 from E0 m c main_v9_7) j = (0 : EReal) ∧ (show FVec Ideal S2048x128x64 .f32 from E0 m c main_v9_8) j = (0 : EReal) := by
  constructor <;>
  · simp only [E0, entryContents, afterL_cons, afterL_nil]
    after_reads_simp
    simp only [id_eq]
    pointwise
theorem entry_arg (r : Ref sig .tc) (h : r ∉ hostOps0_W) : E0 m c r = m (c.tc.loc r) := by
  simp only [E0, entryContents, afterL_cons, afterL_nil]
  rw [after_of_writes_sub _ _ hostOps0_writes h]

/-- The trip counter, read as a number. -/
theorem ctr (k : ℕ) (hk : k ≤ 2048) : (Scf.iv 0#32 1#32 k).toInt = (k : Int) := by
  rw [Scf.toInt_iv (ub := 2048#32) (by decide) (show k ≤ Scf.trips 0#32 2048#32 1#32 from hk)]
  simp

abbrev At (k : ℕ) (r : Ref sig .tc) := atK m k c (Proc.devRef .tc r)
theorem cond_keep (k : ℕ) (r : Ref sig .tc) (h : r ∉ (condOps_W : List (Ref sig .tc))) :
    after condOps (atK m k c) (Proc.devRef .tc r) = At m c k r := after_of_writes_sub _ _ condOps_writes h

theorem next_re (k : ℕ) (hk : k < 2048) (g : Fin 128) (p : Fin 64) (s : EReal × EReal)
    (h5 : (show FVec Ideal S128x64 .f32 from At m c k main_v9_5) (ix2 g p) = s.1)
    (h6 : (show FVec Ideal S128x64 .f32 from At m c k main_v9_6) (ix2 g p) = s.2) :
    (show FVec Ideal S128x64 .f32 from res_main_while0b_v45 (after condOps (atK m k c))) (ix2 g p)
      = (stepE (lrA m c (ix2 g p)) (liA m c (ix2 g p)) s (inX (uA m c) (brA m c) g p k) (inX (uA m c) (biA m c) g p k)).1 := by
  unfold res_main_while0b_v45
  rw [cond_keep m c k main_v9_2 (by decide), cond_keep m c k main_v9_5 (by decide), cond_keep m c k main_v9_3 (by decide), cond_keep m c k main_v9_6 (by decide),
    cond_keep m c k main_v9_0 (by decide), cond_keep m c k main_v9_4 (by decide)]
  rw [show At m c k main_v9_2 = lrA m c from (atK_keep m c _ (by decide) k).trans (entry_v9_2 m c), show At m c k main_v9_3 = liA m c from (atK_keep m c _ (by decide) k).trans (entry_v9_3 m c),
    show At m c k main_v9_0 = E0 m c main_v9_0 from atK_keep m c _ (by decide) k, show At m c k main_v9_4 = _ from atK_ctr m c k]
  have e := slice_row (E0 m c main_v9_0) (fun a => ((![fun _ => Scf.iv 0#32 1#32 k, constantI S_ 32 0#32, constantI S_ 32 0#32] : Fin 3 → (⟨S_, .i32⟩ : BufTy).Contents (Elt Ideal)) a (Shape.Idx.first h_S_)).toInt) ⟨k, hk⟩ (ctr k hk.le) rfl rfl g p
  show lrA m c (ix2 g p) * _ - liA m c (ix2 g p) * _ + _ = lrA m c (ix2 g p) * s.1 - liA m c (ix2 g p) * s.2 + _
  refine congrArg₂ (· + ·) (congrArg₂ (· - ·) (congrArg _ h5) (congrArg _ h6)) (e.trans (entry_v9_0 m c ⟨k, hk⟩ g p))

theorem next_im (k : ℕ) (hk : k < 2048) (g : Fin 128) (p : Fin 64) (s : EReal × EReal)
    (h5 : (show FVec Ideal S128x64 .f32 from At m c k main_v9_5) (ix2 g p) = s.1)
    (h6 : (show FVec Ideal S128x64 .f32 from At m c k main_v9_6) (ix2 g p) = s.2) :
    (show FVec Ideal S128x64 .f32 from res_main_while0b_v49 (after condOps (atK m k c))) (ix2 g p)
      = (stepE (lrA m c (ix2 g p)) (liA m c (ix2 g p)) s (inX (uA m c) (brA m c) g p k) (inX (uA m c) (biA m c) g p k)).2 := by
  unfold res_main_while0b_v49
  rw [cond_keep m c k main_v9_2 (by decide), cond_keep m c k main_v9_5 (by decide), cond_keep m c k main_v9_3 (by decide), cond_keep m c k main_v9_6 (by decide),
    cond_keep m c k main_v9_1 (by decide), cond_keep m c k main_v9_4 (by decide)]
  rw [show At m c k main_v9_2 = lrA m c from (atK_keep m c _ (by decide) k).trans (entry_v9_2 m c), show At m c k main_v9_3 = liA m c from (atK_keep m c _ (by decide) k).trans (entry_v9_3 m c),
    show At m c k main_v9_1 = E0 m c main_v9_1 from atK_keep m c _ (by decide) k, show At m c k main_v9_4 = _ from atK_ctr m c k]
  have e := slice_row (E0 m c main_v9_1) (fun a => ((![fun _ => Scf.iv 0#32 1#32 k, constantI S_ 32 0#32, constantI S_ 32 0#32] : Fin 3 → (⟨S_, .i32⟩ : BufTy).Contents (Elt Ideal)) a (Shape.Idx.first h_S_)).toInt) ⟨k, hk⟩ (ctr k hk.le) rfl rfl g p
  show lrA m c (ix2 g p) * _ + liA m c (ix2 g p) * _ + _ = lrA m c (ix2 g p) * s.2 + liA m c (ix2 g p) * s.1 + _
  refine congrArg₂ (· + ·) (congrArg₂ (· + ·) (congrArg _ h6) (congrArg _ h5)) (e.trans (entry_v9_1 m c ⟨k, hk⟩ g p))

/-- The states of one group and entry by name. -/
abbrev stA (g : Fin 128) (p : Fin 64) (n : ℕ) : EReal × EReal := stX (uA m c) (lrA m c) (liA m c) (brA m c) (biA m c) g p n

/-- Before trip `k` the carried states are the recurrence after `k` steps. -/
theorem states (k : ℕ) (hk : k ≤ 2048) (g : Fin 128) (p : Fin 64) :
    (show FVec Ideal S128x64 .f32 from At m c k main_v9_5) (ix2 g p) = (stA m c g p k).1
    ∧ (show FVec Ideal S128x64 .f32 from At m c k main_v9_6) (ix2 g p) = (stA m c g p k).2 := by
  induction k with
  | zero => exact entry_zero m c (ix2 g p)
  | succ k ih =>
    obtain ⟨h5, h6⟩ := ih (Nat.le_of_succ_le hk)
    exact ⟨(congrFun (trip_main_v9_5 (after condOps (atK m k c))) _).trans (next_re m c k hk g p _ h5 h6),
      (congrFun (trip_main_v9_6 (after condOps (atK m k c))) _).trans (next_im m c k hk g p _ h5 h6)⟩

/-- Before trip `k` the filed states are those of the first `k` times. -/
theorem filed (k : ℕ) (hk : k ≤ 2048) (l : Fin 2048) (g : Fin 128) (p : Fin 64) :
    (show FVec Ideal S2048x128x64 .f32 from At m c k main_v9_7) (ix3 l g p) = (if l.val < k then (stA m c g p (l.val + 1)).1 else 0)
    ∧ (show FVec Ideal S2048x128x64 .f32 from At m c k main_v9_8) (ix3 l g p) = (if l.val < k then (stA m c g p (l.val + 1)).2 else 0) := by
  induction k with
  | zero => exact ⟨(entry_stack m c (ix3 l g p)).1.trans (if_neg (Nat.not_lt_zero _)).symm, (entry_stack m c (ix3 l g p)).2.trans (if_neg (Nat.not_lt_zero _)).symm⟩
  | succ k ih =>
    obtain ⟨h7, h8⟩ := ih (Nat.le_of_succ_le hk)
    obtain ⟨h5, h6⟩ := states m c k (Nat.le_of_succ_le hk) g p
    constructor
    · refine (congrFun (trip_main_v9_7 (after condOps (atK m k c))) _).trans ?_
      rw [cond_keep m c k main_v9_7 (by decide), cond_keep m c k main_v9_4 (by decide), show At m c k main_v9_4 = _ from atK_ctr m c k]
      refine (update_row _ _ _ ⟨k, hk⟩ (ctr k (Nat.le_of_succ_le hk)) rfl rfl l g p).trans ?_
      by_cases e : l.val = k
      · rw [if_pos (Fin.ext e), if_pos (by omega), e]
        exact next_re m c k hk g p _ h5 h6
      · rw [if_neg (fun h => e (congrArg Fin.val h))]
        refine h7.trans ?_
        by_cases e' : l.val < k
        · rw [if_pos e', if_pos (by omega)]
        · rw [if_neg e', if_neg (by omega)]
    · refine (congrFun (trip_main_v9_8 (after condOps (atK m k c))) _).trans ?_
      rw [cond_keep m c k main_v9_8 (by decide), cond_keep m c k main_v9_4 (by decide), show At m c k main_v9_4 = _ from atK_ctr m c k]
      refine (update_row _ _ _ ⟨k, hk⟩ (ctr k (Nat.le_of_succ_le hk)) rfl rfl l g p).trans ?_
      by_cases e : l.val = k
      · rw [if_pos (Fin.ext e), if_pos (by omega), e]
        exact next_im m c k hk g p _ h5 h6
      · rw [if_neg (fun h => e (congrArg Fin.val h))]
        refine h8.trans ?_
        by_cases e' : l.val < k
        · rw [if_pos e', if_pos (by omega)]
        · rw [if_neg e', if_neg (by omega)]

/-- The filed states after the loop. -/
theorem filed_end (l : Fin 2048) (g : Fin 128) (p : Fin 64) :
    (show FVec Ideal S2048x128x64 .f32 from atEnd m c (Proc.devRef .tc main_v9_7)) (ix3 l g p) = (stA m c g p (l.val + 1)).1
    ∧ (show FVec Ideal S2048x128x64 .f32 from atEnd m c (Proc.devRef .tc main_v9_8)) (ix3 l g p) = (stA m c g p (l.val + 1)).2 := by
  obtain ⟨h7, h8⟩ := filed m c 2048 (Nat.le_refl _) l g p
  rw [if_pos l.isLt] at h7 h8
  exact ⟨(congrFun (atEnd_eq m c main_v9_7 (by decide)) _).trans h7, (congrFun (atEnd_eq m c main_v9_8 (by decide)) _).trans h8⟩

end Cert.S5FR

end
-- ==== Proof.S5FPost.lean ====
/- What the plain formula leaves in its three results, entry by entry. -/
module

public import proofs.«01_k».proof.Proof.S5FSeq
public import Idealize.ShloMosaic.Lib.Pointwise
public import Idealize.ShloMosaic.Lib.Pipeline.Value
public import Idealize.ShloMosaic.Lib.Pipeline.ValueKit

@[expose] public section

set_option maxRecDepth 16384
set_option maxHeartbeats 4000000

noncomputable section

namespace Cert.S5FR

open Cert.S5FRefIdeal Cert.S5FRefIdeal.Gen Cert.S5FRefIdeal.Value Cert.S5R
open Idealize.ShloMosaic Idealize.ShloMosaic.TcCoe Idealize.ShloMosaic.Tactic
open Idealize.SL Idealize.SL.Sem
open Idealize.ShloMosaic.StableHlo

/-- The activation, entry by entry. -/
def geluX (y : EReal) : EReal :=
  y * (Ideal.ofBits .f32 0x3F000000#32 * (1 + Ideal.tanh (Ideal.ofBits .f32 0x3F4C422A#32 * (y + Ideal.ofBits .f32 0x3D372713#32 * (y * y * y)))))

section
variable (u : FVec Ideal S2048x2048 .f32) (lr li : FVec Ideal S128x64 .f32) (br bi : FVec Ideal S128x64x16 .f32) (cr ci : FVec Ideal S128x16x64 .f32) (d : FVec Ideal S1x2048 .f32)
/-- The group of a channel and its place in it. -/
def grp (j : Fin 2048) : Fin 128 := ⟨j.val / 16, by omega⟩
def plc (j : Fin 2048) : Fin 16 := ⟨j.val % 16, by omega⟩
/-- The group of a state column and its place in it. -/
def sgrp (j : Fin 8192) : Fin 128 := ⟨j.val / 64, by omega⟩
def splc (j : Fin 8192) : Fin 64 := ⟨j.val % 64, by omega⟩
/-- The time a saved row holds: row `8 k + s` is time `256 s + k`. -/
def tim (r : Fin 2048) : Fin 2048 := ⟨r.val % 8 * 256 + r.val / 8, by omega⟩
/-- The result of the call. -/
def outX (l j : Fin 2048) : EReal :=
  geluX ((∑ p : Fin 64, cr (ix3 (grp j) (plc j) p) * (stX u lr li br bi (grp j) p (l.val + 1)).1) - (∑ p : Fin 64, ci (ix3 (grp j) (plc j) p) * (stX u lr li br bi (grp j) p (l.val + 1)).2)
    + d (ix2 0 j) * u (ix2 l j))
/-- The saved states. -/
def saveX (r : Fin 2048) (j : Fin 8192) : EReal × EReal := stX u lr li br bi (sgrp j) (splc j) ((tim r).val + 1)
end

variable (m : (ℓ : Loc nD τ sig) → Buf (Elt Ideal) ℓ) (c : Dev nD)

abbrev Fn (r : Ref sig .tc) := finalContents condOps preI bodyI postI 2048 m c (Proc.devRef .tc r)

theorem final_re (r : Fin 2048) (j : Fin 8192) : (show FVec Ideal S2048x8192 .f32 from Fn m c main_v36) (ix2 r j)
    = (saveX (uA m c) (lrA m c) (liA m c) (brA m c) (biA m c) r j).1 := by
  refine Eq.trans ?_ (filed_end m c (tim r) (sgrp j) (splc j)).1
  show (show FVec Ideal S2048x8192 .f32 from after hostOps0_1 (atEnd m c) (Proc.devRef .tc main_v36)) (ix2 r j) = _
  generalize atEnd m c = V
  after_reads_simp
  pointwise
  blk_ext [tim, sgrp, splc]

theorem final_im (r : Fin 2048) (j : Fin 8192) : (show FVec Ideal S2048x8192 .f32 from Fn m c main_v39) (ix2 r j)
    = (saveX (uA m c) (lrA m c) (liA m c) (brA m c) (biA m c) r j).2 := by
  refine Eq.trans ?_ (filed_end m c (tim r) (sgrp j) (splc j)).2
  show (show FVec Ideal S2048x8192 .f32 from after hostOps0_1 (atEnd m c) (Proc.devRef .tc main_v39)) (ix2 r j) = _
  generalize atEnd m c = V
  after_reads_simp
  pointwise
  blk_ext [tim, sgrp, splc]

theorem post_out (V : Valuation τ sig (Elt Ideal)) (l j : Fin 2048) : (show FVec Ideal S2048x2048 .bf16 from after hostOps0_1 V (Proc.devRef .tc main_v33)) (ix2 l j)
    = geluX ((∑ p : Fin 64, (show FVec Ideal S128x16x64 .f32 from V (Proc.devRef .tc main_arg5)) (ix3 (grp j) (plc j) p) * (show FVec Ideal S2048x128x64 .f32 from V (Proc.devRef .tc main_v9_7)) (ix3 l (grp j) p))
      - (∑ p : Fin 64, (show FVec Ideal S128x16x64 .f32 from V (Proc.devRef .tc main_arg6)) (ix3 (grp j) (plc j) p) * (show FVec Ideal S2048x128x64 .f32 from V (Proc.devRef .tc main_v9_8)) (ix3 l (grp j) p))
      + (show FVec Ideal S2048 .f32 from V (Proc.devRef .tc main_v0)) (ix1 j) * (show FVec Ideal S2048x2048 .f32 from V (Proc.devRef .tc main_arg0)) (ix2 l j)) := by
  after_reads_simp
  pointwise
  rfl

theorem final_out (l j : Fin 2048) : (show FVec Ideal S2048x2048 .bf16 from Fn m c main_v33) (ix2 l j)
    = outX (uA m c) (lrA m c) (liA m c) (brA m c) (biA m c) (crA m c) (ciA m c) (dA m c) l j := by
  have keep : ∀ r : Ref sig .tc, r ∉ tripW → atEnd m c (Proc.devRef .tc r) = E0 m c r := fun r h =>
    (atEnd_eq m c r (fun e => h (by simp only [tripW, List.mem_append]; exact Or.inl (Or.inl (Or.inl (Or.inl (Or.inl (Or.inl e)))))))).trans (atK_keep m c r h 2048)
  refine (post_out (atEnd m c) l j).trans ?_
  rw [keep main_arg5 (by decide), keep main_arg6 (by decide), keep main_v0 (by decide), keep main_arg0 (by decide),
    entry_arg m c main_arg5 (by decide), entry_arg m c main_arg6 (by decide), entry_arg m c main_arg0 (by decide)]
  unfold outX
  refine congrArg geluX (congrArg₂ (· + ·) (congrArg₂ (· - ·) (Finset.sum_congr rfl fun p _ => congrArg _ (filed_end m c l (grp j) p).1)
    (Finset.sum_congr rfl fun p _ => congrArg _ (filed_end m c l (grp j) p).2)) (congrArg (· * _) (entry_v0 m c j)))

end Cert.S5FR

end
-- ==== Proof.S5FValue.lean ====
/- The three arrays the kernel leaves are those of the plain formula. -/
module

public import proofs.«01_k».proof.Proof.S5FLaunch
public import proofs.«01_k».proof.Proof.S5FBlock
public import proofs.«01_k».proof.Proof.S5FPost

@[expose] public section

set_option maxRecDepth 16384
set_option maxHeartbeats 1000000

noncomputable section

namespace Cert.S5FK

open Cert.S5FIdeal Cert.S5FIdeal.Gen Cert.S5R
open Cert.S5FR (stX inX chan outX saveX geluX grp plc sgrp splc tim)
open Idealize.ShloMosaic Idealize.ShloMosaic.TcCoe Idealize.ShloMosaic.Tactic Idealize.SL.Sem
open Idealize.ShloMosaic.Pipeline (Dat)

section Vals
variable (x0 : FVec Ideal S2048x128 .f32) (x1 x2 : FVec Ideal S1x8x16x64 .f32) (x3 x4 : FVec Ideal S1x8x64x16 .f32) (x5 x6 : FVec Ideal S1x1x512 .f32) (x7 : FVec Ideal S1x128 .f32)

/-- Finite blocks are complex numbers and a complex input. -/
theorem exists_c (h0 : ∃ f : S2048x128.Idx → ℝ, x0 = fun i => (f i : EReal)) (h1 : ∃ f : S1x8x16x64.Idx → ℝ, x1 = fun i => (f i : EReal))
    (h2 : ∃ f : S1x8x16x64.Idx → ℝ, x2 = fun i => (f i : EReal)) (h5 : ∃ f : S1x1x512.Idx → ℝ, x5 = fun i => (f i : EReal))
    (h6 : ∃ f : S1x1x512.Idx → ℝ, x6 = fun i => (f i : EReal)) :
    ∃ (l : Fin 512 → ℂ) (X : Fin 512 → ℕ → ℂ), (∀ z, (x5 (ix3 0 0 z), x6 (ix3 0 0 z)) = toE (l z))
      ∧ ∀ z (t : ℕ), t < 2048 → (inB x0 x1 z t, inB x0 x2 z t) = toE (X z t) := by
  obtain ⟨f0, rfl⟩ := h0
  obtain ⟨f1, rfl⟩ := h1
  obtain ⟨f2, rfl⟩ := h2
  obtain ⟨f5, rfl⟩ := h5
  obtain ⟨f6, rfl⟩ := h6
  refine ⟨fun z => ⟨f5 (ix3 0 0 z), f6 (ix3 0 0 z)⟩,
    fun z t => ⟨∑ h : Fin 16, f1 (ix4 0 (zg z) h (zp z)) * f0 (ix2 ⟨t % 2048, Nat.mod_lt _ (by decide)⟩ (ch (zg z) h)),
      ∑ h : Fin 16, f2 (ix4 0 (zg z) h (zp z)) * f0 (ix2 ⟨t % 2048, Nat.mod_lt _ (by decide)⟩ (ch (zg z) h))⟩, fun z => rfl, fun z t _ => ?_⟩
  unfold inB toE
  simp only [← EReal.coe_mul, Cert.Fin.sum_coe]

variable (l : Fin 512 → ℂ) (X : Fin 512 → ℕ → ℂ)
  (hl : ∀ z, (x5 (ix3 0 0 z), x6 (ix3 0 0 z)) = toE (l z))
  (hX : ∀ z (t : ℕ), t < 2048 → (inB x0 x1 z t, inB x0 x2 z t) = toE (X z t))

omit x0 in
theorem c_sum (s : FVec Ideal S2048x512 .f32) (x : FVec Ideal S1x8x64x16 .f32) (r : Fin 2048) (j : Fin 128) :
    ∑ z : Fin 512, s (ix2 r z) * denseC (F := Ideal) x (ix2 z j) = ∑ p : Fin 64, x (ix4 0 (cg j) p (cp j)) * s (ix2 r (zc (cg j) p)) := by
  refine (sum_block (n := 8) (q := 64) (fun z => s (ix2 r z) * denseC (F := Ideal) x (ix2 z j)) (cg j) (fun z hz => ?_)).trans ?_
  · exact (congrArg (s (ix2 r z) * ·) ((denseC_at x z j).trans (if_neg hz))).trans (mul_zero _)
  · refine Finset.sum_congr rfl fun p _ => ?_
    have e1 : (finProdFinEquiv (cg j, p) : Fin 512) = zc (cg j) p := Fin.ext (by show p.val + 64 * (cg j).val = (cg j).val * 64 + p.val; omega)
    rw [show (finProdFinEquiv (cg j, p) : Fin (8 * 64)) = zc (cg j) p from e1, denseC_at, if_pos (by show ((cg j).val * 64 + p.val) / 64 = (cg j).val; omega), mul_comm]
    refine congrArg (· * _) (congrArg x ?_)
    blk_ext [zp, zc]

theorem act_at (d3 d4 : FVec Ideal S512x128 .f32) (w : FVec Ideal S2048x128 .f32) (a b : FVec Ideal S2048x512 .f32) (r : Fin 2048) (j : Fin 128) :
    k0_pay136 (F := Ideal) d3 d4 w x7 a b (ix2 r j)
      = geluX ((∑ z : Fin 512, a (ix2 r z) * d3 (ix2 z j)) - (∑ z : Fin 512, b (ix2 r z) * d4 (ix2 z j)) + x7 (ix2 0 j) * w (ix2 r j)) := by
  unfold geluX
  rw [← mul_assoc, mul_comm _ (Ideal.ofBits .f32 0x3F000000#32)]
  pointwise [k0_pay136]

include hl hX in
theorem outG_at (t : Fin 2048) (j : Fin 128) : outG (F := Ideal) x0 x1 x2 x3 x4 x5 x6 x7 (ix2 t j)
    = geluX ((∑ p : Fin 64, x3 (ix4 0 (cg j) p (cp j)) * (stB x0 x1 x2 x5 x6 (zc (cg j) p) (t.val + 1)).1)
      - (∑ p : Fin 64, x4 (ix4 0 (cg j) p (cp j)) * (stB x0 x1 x2 x5 x6 (zc (cg j) p) (t.val + 1)).2) + x7 (ix2 0 j) * x0 (ix2 t j)) := by
  have e : outG (F := Ideal) x0 x1 x2 x3 x4 x5 x6 x7 (ix2 t j) = actV (F := Ideal) x0 x1 x2 x3 x4 x5 x6 x7 (ix2 ⟨8 * (t.val % 256) + t.val / 256, by omega⟩ j) := by
    unfold outG
    pointwise [k0_pay2]
    exact congrArg _ (ix_eq _ _ (ix2 ⟨8 * (t.val % 256) + t.val / 256, by omega⟩ j) rfl rfl)
  have et : 256 * ((8 * (t.val % 256) + t.val / 256) % 8) + (8 * (t.val % 256) + t.val / 256) / 8 = t.val := by omega
  rw [e]
  unfold actV
  rw [act_at, c_sum, c_sum, up_at]
  have ho := fun z => out_c x0 x1 x2 x5 x6 l X hl hX ⟨8 * (t.val % 256) + t.val / 256, by omega⟩ z
  refine congrArg geluX (congrArg₂ (· + ·) (congrArg₂ (· - ·) (Finset.sum_congr rfl fun p _ => congrArg (_ * ·) ?_)
    (Finset.sum_congr rfl fun p _ => congrArg (_ * ·) ?_)) (congrArg (_ * ·) (congrArg x0 ?_)))
  · refine (congrArg Prod.fst (ho _)).trans ?_
    show (stB x0 x1 x2 x5 x6 _ (256 * ((8 * (t.val % 256) + t.val / 256) % 8) + (8 * (t.val % 256) + t.val / 256) / 8 + 1)).1 = _
    rw [et]
  · refine (congrArg Prod.snd (ho _)).trans ?_
    show (stB x0 x1 x2 x5 x6 _ (256 * ((8 * (t.val % 256) + t.val / 256) % 8) + (8 * (t.val % 256) + t.val / 256) / 8 + 1)).2 = _
    rw [et]
  · refine congrArg (fun k => ix2 k j) (Fin.ext ?_)
    show (256 * ((8 * (t.val % 256) + t.val / 256) % 8) + (8 * (t.val % 256) + t.val / 256) / 8) % 2048 = t.val
    omega
end Vals

theorem idx : ∀ t : Fin cfg0.N, win0_0.index t = ![0, t.val] ∧ win0_1.index t = ![t.val, 0, 0, 0] ∧ win0_2.index t = ![t.val, 0, 0, 0] ∧ win0_3.index t = ![t.val, 0, 0, 0]
    ∧ win0_4.index t = ![t.val, 0, 0, 0] ∧ win0_5.index t = ![t.val, 0, 0] ∧ win0_6.index t = ![t.val, 0, 0] ∧ win0_7.index t = ![0, t.val]
    ∧ win0_8.index t = ![0, t.val] ∧ win0_9.index t = ![0, t.val] ∧ win0_10.index t = ![0, t.val] :=
  (by decide +kernel : ∀ t : Fin grid0.N, _)

variable (m : (ℓ : Loc nD τ sig) → Buf (Elt Ideal) ℓ) (c : Dev nD)
abbrev uA : FVec Ideal S2048x2048 .f32 := m ((c.tc : Thread nD τ).loc main_arg0)
abbrev lrA : FVec Ideal S128x64 .f32 := m ((c.tc : Thread nD τ).loc main_arg1)
abbrev liA : FVec Ideal S128x64 .f32 := m ((c.tc : Thread nD τ).loc main_arg2)
abbrev brA : FVec Ideal S128x64x16 .f32 := m ((c.tc : Thread nD τ).loc main_arg3)
abbrev biA : FVec Ideal S128x64x16 .f32 := m ((c.tc : Thread nD τ).loc main_arg4)
abbrev crA : FVec Ideal S128x16x64 .f32 := m ((c.tc : Thread nD τ).loc main_arg5)
abbrev ciA : FVec Ideal S128x16x64 .f32 := m ((c.tc : Thread nD τ).loc main_arg6)
abbrev dA : FVec Ideal S1x2048 .f32 := m ((c.tc : Thread nD τ).loc main_arg7)

section Blk
variable (t : Fin cfg0.N) (ht : t.val < 16)
def gG (g : Fin 8) : Fin 128 := ⟨t.val * 8 + g.val, by omega⟩
def gJ (j : Fin 128) : Fin 2048 := ⟨t.val * 128 + j.val, by omega⟩

theorem b0 (r : Fin 2048) (j : Fin 128) : (show FVec Ideal S2048x128 .f32 from iblk m c 0 t) (ix2 r j) = uA m c (ix2 r (gJ t ht j)) := by
  blk_point [iblk, V_main_arg0, idx t, gJ]
theorem b1 (g : Fin 8) (h : Fin 16) (p : Fin 64) : (show FVec Ideal S1x8x16x64 .f32 from iblk m c 1 t) (ix4 0 g h p) = brA m c (ix3 (gG t ht g) p h) := by
  blk_simp [iblk, idx t]
  entry_read
  pointwise
  blk_point [idx t, gG]
theorem b2 (g : Fin 8) (h : Fin 16) (p : Fin 64) : (show FVec Ideal S1x8x16x64 .f32 from iblk m c 2 t) (ix4 0 g h p) = biA m c (ix3 (gG t ht g) p h) := by
  blk_simp [iblk, idx t]
  entry_read
  pointwise
  blk_point [idx t, gG]
theorem b3 (g : Fin 8) (h : Fin 16) (p : Fin 64) : (show FVec Ideal S1x8x64x16 .f32 from iblk m c 3 t) (ix4 0 g p h) = crA m c (ix3 (gG t ht g) h p) := by
  blk_simp [iblk, idx t]
  entry_read
  pointwise
  blk_point [idx t, gG]
theorem b4 (g : Fin 8) (h : Fin 16) (p : Fin 64) : (show FVec Ideal S1x8x64x16 .f32 from iblk m c 4 t) (ix4 0 g p h) = ciA m c (ix3 (gG t ht g) h p) := by
  blk_simp [iblk, idx t]
  entry_read
  pointwise
  blk_point [idx t, gG]
theorem b5 (z : Fin 512) : (show FVec Ideal S1x1x512 .f32 from iblk m c 5 t) (ix3 0 0 z) = lrA m c (ix2 (gG t ht (zg z)) (zp z)) := by
  blk_simp [iblk, idx t]
  entry_read
  pointwise
  blk_point [idx t, gG, zg, zp]
theorem b6 (z : Fin 512) : (show FVec Ideal S1x1x512 .f32 from iblk m c 6 t) (ix3 0 0 z) = liA m c (ix2 (gG t ht (zg z)) (zp z)) := by
  blk_simp [iblk, idx t]
  entry_read
  pointwise
  blk_point [idx t, gG, zg, zp]
theorem b7 (j : Fin 128) : (show FVec Ideal S1x128 .f32 from iblk m c 7 t) (ix2 0 j) = dA m c (ix2 0 (gJ t ht j)) := by
  blk_point [iblk, V_main_arg7, idx t, gJ]

/-- One block's recurrence is the whole array's at the block's groups. -/
theorem stB_eq (z : Fin 512) (n : ℕ) : stB (iblk m c 0 t) (iblk m c 1 t) (iblk m c 2 t) (iblk m c 5 t) (iblk m c 6 t) z n
    = stX (uA m c) (lrA m c) (liA m c) (brA m c) (biA m c) (gG t ht (zg z)) (zp z) n := by
  have hin : ∀ (x : FVec Ideal S1x8x16x64 .f32) (B : FVec Ideal S128x64x16 .f32) (k : ℕ), (∀ g h p, x (ix4 0 g h p) = B (ix3 (gG t ht g) p h)) →
      inB (iblk m c 0 t) x z k = inX (uA m c) B (gG t ht (zg z)) (zp z) k := by
    intro x B k hx
    unfold inB inX
    refine Finset.sum_congr rfl fun h _ => congrArg₂ (· * ·) (hx _ _ _) ((b0 m c t ht _ _).trans (congrArg (uA m c) ?_))
    refine congrArg (ix2 _) (Fin.ext ?_)
    show t.val * 128 + ((zg z).val * 16 + h.val) = (t.val * 8 + (zg z).val) * 16 + h.val
    omega
  unfold stB stX
  exact recE_congr (b5 m c t ht z) (b6 m c t ht z) rfl n (fun k _ => hin _ _ k (b1 m c t ht)) (fun k _ => hin _ _ k (b2 m c t ht))

variable (hu : ∃ f : S2048x2048.Idx → ℝ, uA m c = fun i => (f i : EReal)) (hlr : ∃ f : S128x64.Idx → ℝ, lrA m c = fun i => (f i : EReal))
  (hli : ∃ f : S128x64.Idx → ℝ, liA m c = fun i => (f i : EReal)) (hbr : ∃ f : S128x64x16.Idx → ℝ, brA m c = fun i => (f i : EReal))
  (hbi : ∃ f : S128x64x16.Idx → ℝ, biA m c = fun i => (f i : EReal))
include hu hlr hli hbr hbi ht

theorem blocks_c : ∃ (l : Fin 512 → ℂ) (X : Fin 512 → ℕ → ℂ),
    (∀ z, ((show FVec Ideal S1x1x512 .f32 from iblk m c 5 t) (ix3 0 0 z), (show FVec Ideal S1x1x512 .f32 from iblk m c 6 t) (ix3 0 0 z)) = toE (l z))
      ∧ ∀ z (k : ℕ), k < 2048 → (inB (iblk m c 0 t) (iblk m c 1 t) z k, inB (iblk m c 0 t) (iblk m c 2 t) z k) = toE (X z k) := by
  obtain ⟨f0, h0⟩ := hu
  obtain ⟨f5, h5⟩ := hlr
  obtain ⟨f6, h6⟩ := hli
  obtain ⟨f1, h1⟩ := hbr
  obtain ⟨f2, h2⟩ := hbi
  refine exists_c (iblk m c 0 t) (iblk m c 1 t) (iblk m c 2 t) (iblk m c 5 t) (iblk m c 6 t)
    ⟨fun y => f0 (ix2 (y 0) (gJ t ht (y 1))), funext fun y => ?_⟩ ⟨fun y => f1 (ix3 (gG t ht (y 1)) (y 3) (y 2)), funext fun y => ?_⟩
    ⟨fun y => f2 (ix3 (gG t ht (y 1)) (y 3) (y 2)), funext fun y => ?_⟩ ⟨fun y => f5 (ix2 (gG t ht (zg (y 2))) (zp (y 2))), funext fun y => ?_⟩
    ⟨fun y => f6 (ix2 (gG t ht (zg (y 2))) (zp (y 2))), funext fun y => ?_⟩
  · obtain ⟨a, b, rfl⟩ : ∃ a b, y = ix2 a b := ⟨y 0, y 1, eq_ix2 y⟩
    exact (b0 m c t ht a b).trans (congrFun h0 _)
  · obtain ⟨a, g, h, p, rfl⟩ : ∃ a g h p, y = ix4 a g h p := ⟨y 0, y 1, y 2, y 3, eq_ix4 y⟩
    obtain rfl : a = 0 := Subsingleton.elim _ _
    exact (b1 m c t ht g h p).trans (congrFun h1 _)
  · obtain ⟨a, g, h, p, rfl⟩ : ∃ a g h p, y = ix4 a g h p := ⟨y 0, y 1, y 2, y 3, eq_ix4 y⟩
    obtain rfl : a = 0 := Subsingleton.elim _ _
    exact (b2 m c t ht g h p).trans (congrFun h2 _)
  · obtain ⟨a, b, z, rfl⟩ : ∃ a b z, y = ix3 a b z := ⟨y 0, y 1, y 2, eq_ix3 y⟩
    obtain rfl : a = 0 := Subsingleton.elim _ _
    obtain rfl : b = 0 := Subsingleton.elim _ _
    exact (b5 m c t ht z).trans (congrFun h5 _)
  · obtain ⟨a, b, z, rfl⟩ : ∃ a b z, y = ix3 a b z := ⟨y 0, y 1, y 2, eq_ix3 y⟩
    obtain rfl : a = 0 := Subsingleton.elim _ _
    obtain rfl : b = 0 := Subsingleton.elim _ _
    exact (b6 m c t ht z).trans (congrFun h6 _)

/-- The saved states of one grid point. -/
theorem save_at (r : Fin 2048) (z : Fin 512) (j : Fin 8192) (hj : j.val = t.val * 512 + z.val) :
    ((outRe (F := Ideal) (iblk m c 0 t) (iblk m c 1 t) (iblk m c 2 t) (iblk m c 5 t) (iblk m c 6 t) (ix2 r z) : EReal),
      (outIm (F := Ideal) (iblk m c 0 t) (iblk m c 1 t) (iblk m c 2 t) (iblk m c 5 t) (iblk m c 6 t) (ix2 r z) : EReal))
      = saveX (uA m c) (lrA m c) (liA m c) (brA m c) (biA m c) r j := by
  obtain ⟨l, X, hl, hX⟩ := blocks_c m c t ht hu hlr hli hbr hbi
  refine (out_c _ _ _ _ _ l X hl hX r z).trans ((stB_eq m c t ht z _).trans ?_)
  unfold saveX
  rw [show gG t ht (zg z) = sgrp j from Fin.ext (by show t.val * 8 + z.val / 64 = j.val / 64; omega),
    show zp z = splc j from Fin.ext (by show z.val % 64 = j.val % 64; omega),
    show 256 * (r.val % 8) + r.val / 8 = (tim r).val from by show _ = r.val % 8 * 256 + r.val / 8; omega]

/-- The result of one grid point. -/
theorem out_at (r : Fin 2048) (k : Fin 128) (j : Fin 2048) (hj : j.val = t.val * 128 + k.val) :
    outG (F := Ideal) (iblk m c 0 t) (iblk m c 1 t) (iblk m c 2 t) (iblk m c 3 t) (iblk m c 4 t) (iblk m c 5 t) (iblk m c 6 t) (iblk m c 7 t) (ix2 r k)
      = outX (uA m c) (lrA m c) (liA m c) (brA m c) (biA m c) (crA m c) (ciA m c) (dA m c) r j := by
  obtain ⟨l, X, hl, hX⟩ := blocks_c m c t ht hu hlr hli hbr hbi
  refine (outG_at _ _ _ _ _ _ _ _ l X hl hX r k).trans ?_
  unfold outX
  have e1 : gG t ht (cg k) = grp j := Fin.ext (by show t.val * 8 + k.val / 16 = j.val / 16; omega)
  have e2 : cp k = plc j := Fin.ext (by show k.val % 16 = j.val % 16; omega)
  have e3 : gJ t ht k = j := Fin.ext hj.symm
  have e4 : ∀ p, zg (zc (cg k) p) = cg k := fun p => Fin.ext (by show ((cg k).val * 64 + p.val) / 64 = (cg k).val; omega)
  have e5 : ∀ p, zp (zc (cg k) p) = p := fun p => Fin.ext (by show ((cg k).val * 64 + p.val) % 64 = p.val; omega)
  have es : ∀ p, stB (iblk m c 0 t) (iblk m c 1 t) (iblk m c 2 t) (iblk m c 5 t) (iblk m c 6 t) (zc (cg k) p) (r.val + 1)
      = stX (uA m c) (lrA m c) (liA m c) (brA m c) (biA m c) (grp j) p (r.val + 1) := fun p => by rw [stB_eq m c t ht, e4, e5, e1]
  refine congrArg geluX (congrArg₂ (· + ·) (congrArg₂ (· - ·) (Finset.sum_congr rfl fun p _ => congrArg₂ (· * ·) ?_ (congrArg Prod.fst (es p)))
    (Finset.sum_congr rfl fun p _ => congrArg₂ (· * ·) ?_ (congrArg Prod.snd (es p)))) (congrArg₂ (· * ·) ?_ ?_))
  · rw [← e1, ← e2]; exact b3 m c t ht (cg k) (cp k) p
  · rw [← e1, ← e2]; exact b4 m c t ht (cg k) (cp k) p
  · rw [← e3]; exact b7 m c t ht k
  · rw [← e3]; exact b0 m c t ht r k
end Blk

section Arrays
variable (hu : ∃ f : S2048x2048.Idx → ℝ, uA m c = fun i => (f i : EReal)) (hlr : ∃ f : S128x64.Idx → ℝ, lrA m c = fun i => (f i : EReal))
  (hli : ∃ f : S128x64.Idx → ℝ, liA m c = fun i => (f i : EReal)) (hbr : ∃ f : S128x64x16.Idx → ℝ, brA m c = fun i => (f i : EReal))
  (hbi : ∃ f : S128x64x16.Idx → ℝ, biA m c = fun i => (f i : EReal))

def ref8 : FVec Ideal S2048x2048 .bf16 := fun y => outX (uA m c) (lrA m c) (liA m c) (brA m c) (biA m c) (crA m c) (ciA m c) (dA m c) (y 0) (y 1)
def ref9 : FVec Ideal S2048x8192 .f32 := fun y => (saveX (uA m c) (lrA m c) (liA m c) (brA m c) (biA m c) (y 0) (y 1)).1
def ref10 : FVec Ideal S2048x8192 .f32 := fun y => (saveX (uA m c) (lrA m c) (liA m c) (brA m c) (biA m c) (y 0) (y 1)).2
theorem ref8_at (r j : Fin 2048) : outX (uA m c) (lrA m c) (liA m c) (brA m c) (biA m c) (crA m c) (ciA m c) (dA m c) r j = ref8 m c (ix2 r j) := rfl
theorem ref9_at (r : Fin 2048) (j : Fin 8192) : (saveX (uA m c) (lrA m c) (liA m c) (brA m c) (biA m c) r j).1 = ref9 m c (ix2 r j) := rfl
theorem ref10_at (r : Fin 2048) (j : Fin 8192) : (saveX (uA m c) (lrA m c) (liA m c) (brA m c) (biA m c) r j).2 = ref10 m c (ix2 r j) := rfl
include hu hlr hli hbr hbi

theorem final8 : (dats m 0 c).arrAt 8 (cfgs 0).N = ref8 m c := by
  refine (dats m 0 c).arrAt_eq_of_covers 8 _ (by decide +kernel) fun t _ y => ?_
  blk_simp
  rw [after0_8]
  have ht : t.val < 16 := lt_of_lt_of_eq t.isLt N_0
  obtain ⟨r, k, rfl⟩ : ∃ r k, y = ix2 r k := ⟨y 0, y 1, eq_ix2 y⟩
  refine (out_at m c t ht hu hlr hli hbr hbi r k (gJ t ht k) rfl).trans ((ref8_at m c r (gJ t ht k)).trans (congrArg (ref8 m c) ?_))
  blk_ext [idx t, gJ]

theorem save_ix (t : Fin cfg0.N) (ht : t.val < 16) (r : Fin 2048) (z : Fin 512) :
    ((outRe (F := Ideal) (iblk m c 0 t) (iblk m c 1 t) (iblk m c 2 t) (iblk m c 5 t) (iblk m c 6 t) (ix2 r z) : EReal),
      (outIm (F := Ideal) (iblk m c 0 t) (iblk m c 1 t) (iblk m c 2 t) (iblk m c 5 t) (iblk m c 6 t) (ix2 r z) : EReal))
      = saveX (uA m c) (lrA m c) (liA m c) (brA m c) (biA m c) r ⟨512 * t.val + z.val, by omega⟩ :=
  save_at m c t ht hu hlr hli hbr hbi r z _ (by show 512 * t.val + z.val = _; omega)

theorem final9 : (dats m 0 c).arrAt 9 (cfgs 0).N = ref9 m c := by
  refine (dats m 0 c).arrAt_eq_of_covers 9 _ (by decide +kernel) fun t _ y => ?_
  blk_simp
  rw [after0_9]
  have ht : t.val < 16 := lt_of_lt_of_eq t.isLt N_0
  obtain ⟨r, z, rfl⟩ : ∃ r z, y = ix2 r z := ⟨y 0, y 1, eq_ix2 y⟩
  refine (congrArg Prod.fst (save_ix m c hu hlr hli hbr hbi t ht r z)).trans ((ref9_at m c r _).trans (congrArg (ref9 m c) ?_))
  blk_ext [idx t]

theorem final10 : (dats m 0 c).arrAt 10 (cfgs 0).N = ref10 m c := by
  refine (dats m 0 c).arrAt_eq_of_covers 10 _ (by decide +kernel) fun t _ y => ?_
  blk_simp
  rw [after0_10]
  have ht : t.val < 16 := lt_of_lt_of_eq t.isLt N_0
  obtain ⟨r, z, rfl⟩ : ∃ r z, y = ix2 r z := ⟨y 0, y 1, eq_ix2 y⟩
  refine (congrArg Prod.snd (save_ix m c hu hlr hli hbr hbi t ht r z)).trans ((ref10_at m c r _).trans (congrArg (ref10 m c) ?_))
  blk_ext [idx t]
end Arrays

end Cert.S5FK

end
-- ==== Proof.S5FClaim.lean ====
/- The claims on the recurrence's forward call: the runs of the call and of the plain formula, side by side. -/
module

public import proofs.«01_k».proof.Proof.S5FValue
public import proofs.«01_k».proof.Proof.Gen.S5F.Frame
public import proofs.«01_k».proof.Proof.Gen.Pre_finite_s5f
public import proofs.«01_k».proof.Proof.Real
public import Idealize.ShloMosaic.Lib.Claim

public import proofs.«01_k».proof.Defs

@[expose] public section

set_option maxRecDepth 16384

noncomputable section

open Idealize.ShloMosaic Idealize.ShloMosaic.TcCoe Idealize.ShloMosaic.Tactic Idealize.SL.Sem
open Idealize.ShloMosaic.Pipeline (Dat)

namespace Cert.S5FK
open Cert.S5FIdeal Cert.S5FIdeal.Gen

instance : Subsingleton Cert.Pre_finite_s5f.S_.Idx := ⟨fun a b => funext fun d => d.elim0⟩

/-- What the precondition says: the input, the decays and the input matrices are arrays of real numbers. -/
theorem reals (x0 : FVec Ideal S2048x2048 .f32) (x1 x2 : FVec Ideal S128x64 .f32) (x3 x4 : FVec Ideal S128x64x16 .f32) (x5 x6 : FVec Ideal S128x16x64 .f32) (x7 : FVec Ideal S1x2048 .f32)
    (e : Cert.Pre_finite_s5f.fn (F := Ideal) x0 x1 x2 x3 x4 x5 x6 x7 = fun _ => 1#1) :
    (∃ f : S2048x2048.Idx → ℝ, x0 = fun i => (f i : EReal)) ∧ (∃ f : S128x64.Idx → ℝ, x1 = fun i => (f i : EReal)) ∧ (∃ f : S128x64.Idx → ℝ, x2 = fun i => (f i : EReal))
      ∧ (∃ f : S128x64x16.Idx → ℝ, x3 = fun i => (f i : EReal)) ∧ (∃ f : S128x64x16.Idx → ℝ, x4 = fun i => (f i : EReal)) := by
  have e1 := congrFun e (fun d => d.elim0)
  obtain ⟨e1, e5⟩ := IntOp.andi_eq_one.1 e1
  obtain ⟨e1, e4⟩ := IntOp.andi_eq_one.1 e1
  obtain ⟨e1, e3⟩ := IntOp.andi_eq_one.1 e1
  obtain ⟨e1, e2⟩ := IntOp.andi_eq_one.1 e1
  exact ⟨Cert.Fin.reals_of_all _ _ (fun _ => rfl) _ _ _ _ e1, Cert.Fin.reals_of_all _ _ (fun _ => rfl) _ _ _ _ e2, Cert.Fin.reals_of_all _ _ (fun _ => rfl) _ _ _ _ e3, Cert.Fin.reals_of_all _ _ (fun _ => rfl) _ _ _ _ e4, Cert.Fin.reals_of_all _ _ (fun _ => rfl) _ _ _ _ e5⟩

/-- The run with the arrays it leaves named and its arguments as they were. -/
theorem run_named (m : (ℓ : Loc nD τ sig) → Buf (Elt Ideal) ℓ) (ρ : Dev nD → PrngReg) : θ_run defs (onTc (τ := τ) (main (F := Ideal))) ⟨m, fun _ => 0, ρ⟩ fun r => ∀ c : Dev nD,
    r.2.mem ((c.tc : Thread nD τ).loc main_v10_0) = (dats m 0 c).arrAt 8 (cfgs 0).N
    ∧ r.2.mem ((c.tc : Thread nD τ).loc main_v10_1) = (dats m 0 c).arrAt 9 (cfgs 0).N
    ∧ r.2.mem ((c.tc : Thread nD τ).loc main_v10_2) = (dats m 0 c).arrAt 10 (cfgs 0).N
    ∧ r.2.mem ((c.tc : Thread nD τ).loc main_arg0) = uA m c ∧ r.2.mem ((c.tc : Thread nD τ).loc main_arg1) = lrA m c
    ∧ r.2.mem ((c.tc : Thread nD τ).loc main_arg2) = liA m c ∧ r.2.mem ((c.tc : Thread nD τ).loc main_arg3) = brA m c
    ∧ r.2.mem ((c.tc : Thread nD τ).loc main_arg4) = biA m c ∧ r.2.mem ((c.tc : Thread nD τ).loc main_arg5) = crA m c
    ∧ r.2.mem ((c.tc : Thread nD τ).loc main_arg6) = ciA m c ∧ r.2.mem ((c.tc : Thread nD τ).loc main_arg7) = dA m c :=
  (θ_run defs _ _).mono (fun r h c => ⟨(h.1 c).1 8, (h.1 c).1 9, (h.1 c).1 10, h.2.1 c⟩) (θ_run_and (run_main m ρ) (run_frame m ρ))

theorem ref_out (m : (ℓ : Loc nD τ sig) → Buf (Elt Ideal) ℓ) (m' : (ℓ : Loc Cert.S5FRefIdeal.nD Cert.S5FRefIdeal.τ Cert.S5FRefIdeal.sig) → Buf (Elt Ideal) ℓ) (c : Dev nD)
    (e0 : Cert.S5FR.uA m' c = uA m c) (e1 : Cert.S5FR.lrA m' c = lrA m c) (e2 : Cert.S5FR.liA m' c = liA m c) (e3 : Cert.S5FR.brA m' c = brA m c)
    (e4 : Cert.S5FR.biA m' c = biA m c) (e5 : Cert.S5FR.crA m' c = crA m c) (e6 : Cert.S5FR.ciA m' c = ciA m c) (e7 : Cert.S5FR.dA m' c = dA m c) :
    (show FVec Ideal S2048x2048 .bf16 from Cert.S5FR.Fn m' c Cert.S5FRefIdeal.main_v33) = ref8 m c
      ∧ (show FVec Ideal S2048x8192 .f32 from Cert.S5FR.Fn m' c Cert.S5FRefIdeal.main_v36) = ref9 m c
      ∧ (show FVec Ideal S2048x8192 .f32 from Cert.S5FR.Fn m' c Cert.S5FRefIdeal.main_v39) = ref10 m c := by
  refine ⟨funext fun y => ?_, funext fun y => ?_, funext fun y => ?_⟩
  · obtain ⟨r, j, rfl⟩ : ∃ r j, y = ix2 r j := ⟨y 0, y 1, eq_ix2 y⟩
    refine (Cert.S5FR.final_out m' c r j).trans ?_
    rw [e0, e1, e2, e3, e4, e5, e6, e7]
    exact ref8_at m c r j
  · obtain ⟨r, j, rfl⟩ : ∃ r j, y = ix2 r j := ⟨y 0, y 1, eq_ix2 y⟩
    refine (Cert.S5FR.final_re m' c r j).trans ?_
    rw [e0, e1, e2, e3, e4]
    exact ref9_at m c r j
  · obtain ⟨r, j, rfl⟩ : ∃ r j, y = ix2 r j := ⟨y 0, y 1, eq_ix2 y⟩
    refine (Cert.S5FR.final_im m' c r j).trans ?_
    rw [e0, e1, e2, e3, e4]
    exact ref10_at m c r j

theorem algebraic_s5f : Cert.algebraic_S5FIdeal_S5FRefIdeal_pre_finite_s5f (hS5FIdeal := Cert.S5FIdeal.Gen.facts)
    (hS5FRefIdeal := Cert.S5FRefIdeal.Gen.facts) (hPre_finite_s5f := Cert.Pre_finite_s5f.Gen.facts) := by
  intro m g m' g' hpre hag
  refine ⟨fun c => ref8 m c, fun c => ref9 m c, fun c => ref10 m c, ?_, ?_⟩
  · refine (θ_run _ _ _).mono (fun r h c => ?_) (run_named m g)
    obtain ⟨h0, h1, h2, hr⟩ := h c
    obtain ⟨k0, k1, k2, k3, k4⟩ := reals _ _ _ _ _ _ _ _ (hpre c)
    exact ⟨h0.trans (final8 m c k0 k1 k2 k3 k4), h1.trans (final9 m c k0 k1 k2 k3 k4), h2.trans (final10 m c k0 k1 k2 k3 k4), hr⟩
  · refine (θ_run _ _ _).mono (fun r h c => ?_) (θ_run_and (Cert.S5FRefIdeal.Value.run_fold m' g') (Cert.S5FR.run_frame m' g'))
    obtain ⟨e0, e1, e2, e3, e4, e5, e6, e7⟩ := hag c
    obtain ⟨a0, a1, a2⟩ := ref_out m m' c e0 e1 e2 e3 e4 e5 e6 e7
    exact ⟨(h.1 c Cert.S5FRefIdeal.main_v33 (by decide)).trans a0, (h.1 c Cert.S5FRefIdeal.main_v36 (by decide)).trans a1,
      (h.1 c Cert.S5FRefIdeal.main_v39 (by decide)).trans a2, h.2.1 c⟩

theorem frame_s5f_ref : Cert.quiescent_S5FRefIdeal (hS5FRefIdeal := Cert.S5FRefIdeal.Gen.facts) := fun m ρ _ => Cert.S5FR.run_frame m ρ
theorem frame_s5f_ideal : Cert.quiescent_S5FIdeal (hS5FIdeal := Cert.S5FIdeal.Gen.facts) := fun m ρ _ => run_frame m ρ
/-- The program read on words and the one read on extended reals have one text. -/
theorem main_text : Cert.S5F.main (F := Bits) = Cert.S5FIdeal.main (F := Bits) := by sl_kernel_rfl
theorem defs_text : Cert.S5F.defs (F := Bits) = Cert.S5FIdeal.defs (F := Bits) := by sl_kernel_rfl

theorem frame_s5f : Cert.quiescent_S5F (hS5F := Cert.S5F.Gen.facts) := fun m ρ _ => by
  rw [main_text, defs_text]
  exact run_frame (F := Bits) m ρ

end Cert.S5FK

end
-- ==== Proof.DownValue.lean ====
/- The last product of the feed-forward part with the residual added: the call's result is the reference's array. -/
module

public import proofs.«01_k».proof.Proof.Gen.DownIdeal.Value
public import proofs.«01_k».proof.Proof.Gen.DownRefIdeal.Read
public import proofs.«01_k».proof.Proof.Real
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

/-! A sum over four tiles. -/

namespace Cert.Tiles

def tile (p : Fin 4) (k : Fin 1408) : Fin 5632 := ⟨1408 * p.val + k.val, by omega⟩

theorem four (g : Fin 5632 → EReal) :
    (∑ k, g (tile 0 k)) + (∑ k, g (tile 1 k)) + (∑ k, g (tile 2 k)) + (∑ k, g (tile 3 k)) = ∑ k, g k := by
  have h3 := Fin.sum_univ_add (a := 4224) (b := 1408) g
  have h2 := Fin.sum_univ_add (a := 2816) (b := 1408) fun k => g (Fin.castAdd 1408 k)
  have h1 := Fin.sum_univ_add (a := 1408) (b := 1408) fun k => g (Fin.castAdd 1408 (Fin.castAdd 1408 k))
  refine Eq.trans ?_ (h3.trans (congrArg (· + _) (h2.trans (congrArg (· + _) h1)))).symm
  refine congrArg₂ (· + ·) (congrArg₂ (· + ·) (congrArg₂ (· + ·) ?_ ?_) ?_) ?_ <;>
    exact Finset.sum_congr rfl fun k _ => congrArg g (Fin.ext (by simp [tile, Nat.add_comm]))

end Cert.Tiles

namespace Cert.DownIdeal.Arr
open Cert.DownIdeal Cert.DownIdeal.Gen
open Cert.Fin
open Cert.Tiles

variable (m : (ℓ : Loc nD τ sig) → Buf (Elt Ideal) ℓ)

abbrev rA (c : Dev nD) : FVec Ideal S2048x2048 .f32 := m ((c : Thread nD τ).loc main_arg0)
abbrev xA (c : Dev nD) : FVec Ideal S2048x5632 .f32 := m ((c : Thread nD τ).loc main_arg1)
abbrev wA (c : Dev nD) : FVec Ideal S5632x2048 .f32 := m ((c : Thread nD τ).loc main_arg2)

abbrev ref3 (c : Dev nD) := Cert.DownRefIdeal.Read.val_main_v1 (F := Ideal) (rA m c) (xA m c) (wA m c)

/-- The block indices of the windows: a point counts the four tiles of the sum fastest, then the columns, then the rows. -/
theorem idx : ∀ t : Fin cfg0.N, win0_0.index t = ![t.val / 8, t.val % 4] ∧ win0_1.index t = ![t.val % 4, t.val / 4 % 2, 0, 0]
    ∧ win0_2.index t = ![t.val / 8, t.val / 4 % 2] ∧ win0_3.index t = ![t.val / 8, t.val / 4 % 2] :=
  (by decide +kernel : ∀ t : Fin grid0.N, _)

def row (t : Fin cfg0.N) (n : Fin 1024) : Fin 2048 := ⟨1024 * (t.val / 8) + n.val, by
  have ht : t.val < 16 := lt_of_lt_of_eq t.isLt N_0
  omega⟩
def col (t : Fin cfg0.N) (f : Fin 1024) : Fin 2048 := ⟨1024 * (t.val / 4 % 2) + f.val, by omega⟩
def seg (t : Fin cfg0.N) : Fin 4 := ⟨t.val % 4, by omega⟩

theorem w_entry (c : Dev nD) (p : Fin 4) (q : Fin 2) (k : Fin 1408) (f : Fin 1024) :
    (show FVec Ideal S4x2x1408x1024 .bf16 from V m c main_v2) (ix4 p q k f) = wA m c (ix2 (tile p k) ⟨1024 * q.val + f.val, by omega⟩) := by
  entry_read
  pointwise
  exact congrArg (wA m c) (congrArg₂ ix2 (Fin.ext (congrArg (· + k.val) (Nat.mul_comm _ _))) (Fin.ext (congrArg (· + f.val) (Nat.mul_comm _ _))))

theorem b0 (c : Dev nD) (t : Fin cfg0.N) (n : Fin 1024) (k : Fin 1408) :
    (show FVec Ideal S1024x1408 .bf16 from iblk m c 0 t) (ix2 n k) = xA m c (ix2 (row t n) (tile (seg t) k)) := by
  refine Eq.trans (b := (show FVec Ideal S2048x5632 .bf16 from V m c main_v3) (ix2 ⟨1024 * (t.val / 8) + n.val, (row t n).isLt⟩ ⟨1408 * (t.val % 4) + k.val, (tile (seg t) k).isLt⟩)) (by blk_point [iblk, idx t]) ?_
  entry_read
  pointwise
  rfl
theorem b1 (c : Dev nD) (t : Fin cfg0.N) (k : Fin 1408) (f : Fin 1024) :
    (show FVec Ideal S1x1x1408x1024 .bf16 from iblk m c 1 t) (ix4 0 0 k f) = wA m c (ix2 (tile (seg t) k) (col t f)) := by
  refine Eq.trans (b := (show FVec Ideal S4x2x1408x1024 .bf16 from V m c main_v2) (ix4 ⟨t.val % 4, (seg t).isLt⟩ ⟨t.val / 4 % 2, by omega⟩ k f)) (by blk_point [iblk, idx t]) ?_
  exact w_entry m c _ _ k f
theorem b2 (c : Dev nD) (t : Fin cfg0.N) (n f : Fin 1024) :
    (show FVec Ideal S1024x1024 .f32 from iblk m c 2 t) (ix2 n f) = rA m c (ix2 (row t n) (col t f)) := by
  refine Eq.trans (b := (show FVec Ideal S2048x2048 .f32 from V m c main_arg0) (ix2 ⟨1024 * (t.val / 8) + n.val, (row t n).isLt⟩ ⟨1024 * (t.val / 4 % 2) + f.val, (col t f).isLt⟩)) (by blk_point [iblk, idx t]) ?_
  rfl

section Pay
variable (x : FVec Ideal S1024x1408 .bf16) (w : FVec Ideal S1x1x1408x1024 .bf16) (s r : FVec Ideal S1024x1024 .f32) (n f : Fin 1024)

theorem p1 : k0_pay1 (F := Ideal) x w (ix2 n f) = ∑ k, x (ix2 n k) * w (ix4 0 0 k f) := by
  pointwise [k0_pay1]
theorem p2 : k0_pay2 (F := Ideal) x w s (ix2 n f) = s (ix2 n f) + ∑ k, x (ix2 n k) * w (ix4 0 0 k f) := by
  pointwise [k0_pay2]
theorem p3 : k0_pay3 (F := Ideal) x w s r (ix2 n f) = (s (ix2 n f) + ∑ k, x (ix2 n k) * w (ix4 0 0 k f)) + r (ix2 n f) := by
  pointwise [k0_pay3]

end Pay

theorem r3 (c : Dev nD) (r q : Fin 2048) : ref3 m c (ix2 r q) = rA m c (ix2 r q) + ∑ k, xA m c (ix2 r k) * wA m c (ix2 k q) := by
  unfold ref3
  rw [← Cert.DownRefIdeal.Read.val_main_v1_eq]
  pointwise

/-- The part of an entry's sum over one tile. -/
def T (c : Dev nD) (r q : Fin 2048) (p : Fin 4) : EReal := ∑ k, xA m c (ix2 r (tile p k)) * wA m c (ix2 (tile p k) q)

theorem blk_sum (c : Dev nD) (t : Fin cfg0.N) (n f : Fin 1024) :
    ∑ k, (show FVec Ideal S1024x1408 .bf16 from iblk m c 0 t) (ix2 n k) * (show FVec Ideal S1x1x1408x1024 .bf16 from iblk m c 1 t) (ix4 0 0 k f)
      = T m c (row t n) (col t f) (seg t) :=
  Finset.sum_congr rfl fun k _ => congrArg₂ (· * ·) (b0 m c t n k) (b1 m c t k f)

theorem tiles (c : Dev nD) (r q : Fin 2048) :
    T m c r q 0 + T m c r q 1 + T m c r q 2 + T m c r q 3 = ∑ k, xA m c (ix2 r k) * wA m c (ix2 k q) :=
  four fun k => xA m c (ix2 r k) * wA m c (ix2 k q)

/-- What a point leaves in the carried sum. -/
abbrev sc (c : Dev nD) (t : Fin cfg0.N) : FVec Ideal S1024x1024 .f32 := (outsAt0 m c t.val t.isLt).2

abbrev prev (t : Fin cfg0.N) : Fin cfg0.N := ⟨t.val - 1, Nat.lt_of_le_of_lt (Nat.sub_le _ _) t.isLt⟩

theorem row_prev (t : Fin cfg0.N) (ht : t.val % 4 ≠ 0) (n : Fin 1024) : row (prev t) n = row t n :=
  Fin.ext (by show 1024 * ((t.val - 1) / 8) + n.val = 1024 * (t.val / 8) + n.val; omega)
theorem col_prev (t : Fin cfg0.N) (ht : t.val % 4 ≠ 0) (f : Fin 1024) : col (prev t) f = col t f :=
  Fin.ext (by show 1024 * ((t.val - 1) / 4 % 2) + f.val = 1024 * (t.val / 4 % 2) + f.val; omega)

theorem sc0 (c : Dev nD) (t : Fin cfg0.N) (ht : t.val % 4 = 0) (n f : Fin 1024) : sc m c t (ix2 n f) = T m c (row t n) (col t f) 0 := by
  unfold sc
  rw [outsAt0_A m c t ht (by omega) (by omega)]
  frame_out
  have e : seg t = 0 := Fin.ext ht
  exact (p1 _ _ n f).trans ((blk_sum m c t n f).trans (congrArg _ e))

theorem sc_step (c : Dev nD) (t : Fin cfg0.N) (ht : 1 ≤ t.val % 4 ∧ t.val % 4 ≤ 2) (n f : Fin 1024) :
    sc m c t (ix2 n f) = sc m c (prev t) (ix2 n f) + T m c (row t n) (col t f) (seg t) := by
  unfold sc
  rw [outsAt0_B m c t (by omega) ht (by omega)]
  frame_out
  rw [read_unread_whole]
  exact (p2 _ _ _ n f).trans (congrArg (fun z : EReal => _ + z) (blk_sum m c t n f))

theorem sc1 (c : Dev nD) (t : Fin cfg0.N) (ht : t.val % 4 = 1) (n f : Fin 1024) :
    sc m c t (ix2 n f) = T m c (row t n) (col t f) 0 + T m c (row t n) (col t f) 1 := by
  have e : seg t = 1 := Fin.ext ht
  rw [sc_step m c t (by omega), sc0 m c (prev t) (by show (t.val - 1) % 4 = 0; omega), row_prev t (by omega), col_prev t (by omega), e]

theorem sc2 (c : Dev nD) (t : Fin cfg0.N) (ht : t.val % 4 = 2) (n f : Fin 1024) :
    sc m c t (ix2 n f) = T m c (row t n) (col t f) 0 + T m c (row t n) (col t f) 1 + T m c (row t n) (col t f) 2 := by
  have e : seg t = 2 := Fin.ext ht
  rw [sc_step m c t (by omega), sc1 m c (prev t) (by show (t.val - 1) % 4 = 1; omega), row_prev t (by omega), col_prev t (by omega), e]

/-- The whole sum at the last of the four points. -/
theorem whole (c : Dev nD) (t : Fin cfg0.N) (ht : t.val % 4 = 3) (n f : Fin 1024) :
    sc m c (prev t) (ix2 n f) + ∑ k, (show FVec Ideal S1024x1408 .bf16 from iblk m c 0 t) (ix2 n k) * (show FVec Ideal S1x1x1408x1024 .bf16 from iblk m c 1 t) (ix4 0 0 k f)
      = T m c (row t n) (col t f) 0 + T m c (row t n) (col t f) 1 + T m c (row t n) (col t f) 2 + T m c (row t n) (col t f) 3 := by
  have e : seg t = 3 := Fin.ext ht
  rw [sc2 m c (prev t) (by show (t.val - 1) % 4 = 2; omega), blk_sum, row_prev t (by omega), col_prev t (by omega), e]

variable {c : Dev nD}

theorem out3 (t : Fin cfg0.N) (ht : t.val % 4 = 3) (y : S1024x1024.Idx) :
    k0_pay3 (F := Ideal) (iblk m c 0 t) (iblk m c 1 t) (sc m c (prev t)) (iblk m c 2 t) y = ref3 m c (((cfg0.win 3).blk t).view.emb y) := by
  rw [eq_ix2 y]
  refine (p3 _ _ _ _ _ _).trans ?_
  refine Eq.trans ?_ ((r3 m c (row t (y 0)) (col t (y 1))).symm.trans (congrArg _ ?_))
  · refine (congrArg₂ (· + ·) (whole m c t ht (y 0) (y 1)) (b2 m c t _ _)).trans ?_
    rw [tiles, add_comm]
  · blk_ext [idx t]
    · show 1024 * (t.val / 8) + _ = _
      omega
    · show 1024 * (t.val / 4 % 2) + _ = _
      omega

theorem fl : ∀ t : Fin cfg0.N, (cfg0.win 3).flush t = true → t.val % 4 = 3 := (by decide +kernel : ∀ t : Fin grid0.N, _)

theorem final3 (c : Dev nD) : (dats m 0 c).arrAt 3 (cfgs 0).N = ref3 m c := by
  refine (dats m 0 c).arrAt_eq_of_covers 3 _ (by decide +kernel) fun t hf y => ?_
  have h1 := fl t hf
  blk_simp
  rw [after0_3, outsAt0_C m c t (by omega) (by omega) h1]; frame_out; rw [read_unread_whole]
  exact out3 m t h1 y

end Cert.DownIdeal.Arr

end
-- ==== Proof.DxValue.lean ====
/- The gradient of the two products of the feed-forward part in their common argument: the call's result is the reference's array. -/
module

public import proofs.«01_k».proof.Proof.Gen.DxIdeal.Value
public import proofs.«01_k».proof.Proof.Gen.DxRefIdeal.Read
public import proofs.«01_k».proof.Proof.DownValue
public import proofs.«01_k».proof.Proof.SwiValue

@[expose] public section

set_option maxRecDepth 16384

noncomputable section

open Idealize.ShloMosaic Idealize.ShloMosaic.TcCoe Idealize.SL.Sem
open Idealize.ShloMosaic.Pipeline (Dat)

namespace Cert.DxIdeal.Arr
open Cert.DxIdeal Cert.DxIdeal.Gen
open Cert.Fin
open Cert.Tiles
open Cert.SwiIdeal.Arr (half)

variable (m : (ℓ : Loc nD τ sig) → Buf (Elt Ideal) ℓ)

abbrev uA (c : Dev nD) : FVec Ideal S2048x5632 .f32 := m ((c : Thread nD τ).loc main_arg0)
abbrev vA (c : Dev nD) : FVec Ideal S2048x5632 .f32 := m ((c : Thread nD τ).loc main_arg1)
abbrev aA (c : Dev nD) : FVec Ideal S2048x5632 .f32 := m ((c : Thread nD τ).loc main_arg2)
abbrev bA (c : Dev nD) : FVec Ideal S2048x5632 .f32 := m ((c : Thread nD τ).loc main_arg3)

abbrev ref4 (c : Dev nD) := Cert.DxRefIdeal.Read.val_main_v5 (F := Ideal) (uA m c) (vA m c) (aA m c) (bA m c)

/-- The block indices of the windows: a point counts the four tiles of the sum fastest, then the columns, then the rows. -/
theorem idx : ∀ t : Fin cfg0.N, win0_0.index t = ![t.val / 8, t.val % 4] ∧ win0_1.index t = ![t.val / 8, t.val % 4]
    ∧ win0_2.index t = ![t.val % 4, t.val / 4 % 2, 0, 0] ∧ win0_3.index t = ![t.val % 4, t.val / 4 % 2, 0, 0]
    ∧ win0_4.index t = ![t.val / 8, t.val / 4 % 2] :=
  (by decide +kernel : ∀ t : Fin grid0.N, _)

def row (t : Fin cfg0.N) (n : Fin 1024) : Fin 2048 := ⟨1024 * (t.val / 8) + n.val, by
  have ht : t.val < 16 := lt_of_lt_of_eq t.isLt N_0
  omega⟩
def col (t : Fin cfg0.N) (f : Fin 1024) : Fin 2048 := ⟨1024 * (t.val / 4 % 2) + f.val, by omega⟩
def seg (t : Fin cfg0.N) : Fin 4 := ⟨t.val % 4, by omega⟩

theorem u_entry (c : Dev nD) (p : Fin 4) (q : Fin 2) (f : Fin 1024) (k : Fin 1408) :
    (show FVec Ideal S4x2x1024x1408 .bf16 from V m c main_v4) (ix4 p q f k) = uA m c (ix2 (half q f) (tile p k)) := by
  entry_read
  pointwise
  exact congrArg (uA m c) (congrArg₂ ix2 (Fin.ext (congrArg (· + f.val) (Nat.mul_comm _ _))) (Fin.ext (congrArg (· + k.val) (Nat.mul_comm _ _))))
theorem v_entry (c : Dev nD) (p : Fin 4) (q : Fin 2) (f : Fin 1024) (k : Fin 1408) :
    (show FVec Ideal S4x2x1024x1408 .bf16 from V m c main_v7) (ix4 p q f k) = vA m c (ix2 (half q f) (tile p k)) := by
  entry_read
  pointwise
  exact congrArg (vA m c) (congrArg₂ ix2 (Fin.ext (congrArg (· + f.val) (Nat.mul_comm _ _))) (Fin.ext (congrArg (· + k.val) (Nat.mul_comm _ _))))

theorem b0 (c : Dev nD) (t : Fin cfg0.N) (n : Fin 1024) (k : Fin 1408) :
    (show FVec Ideal S1024x1408 .bf16 from iblk m c 0 t) (ix2 n k) = aA m c (ix2 (row t n) (tile (seg t) k)) := by
  refine Eq.trans (b := (show FVec Ideal S2048x5632 .bf16 from V m c main_v0) (ix2 ⟨1024 * (t.val / 8) + n.val, (row t n).isLt⟩ ⟨1408 * (t.val % 4) + k.val, (tile (seg t) k).isLt⟩)) (by blk_point [iblk, idx t]) ?_
  entry_read
  pointwise
  rfl
theorem b1 (c : Dev nD) (t : Fin cfg0.N) (n : Fin 1024) (k : Fin 1408) :
    (show FVec Ideal S1024x1408 .bf16 from iblk m c 1 t) (ix2 n k) = bA m c (ix2 (row t n) (tile (seg t) k)) := by
  refine Eq.trans (b := (show FVec Ideal S2048x5632 .bf16 from V m c main_v1) (ix2 ⟨1024 * (t.val / 8) + n.val, (row t n).isLt⟩ ⟨1408 * (t.val % 4) + k.val, (tile (seg t) k).isLt⟩)) (by blk_point [iblk, idx t]) ?_
  entry_read
  pointwise
  rfl
theorem b2 (c : Dev nD) (t : Fin cfg0.N) (f : Fin 1024) (k : Fin 1408) :
    (show FVec Ideal S1x1x1024x1408 .bf16 from iblk m c 2 t) (ix4 0 0 f k) = uA m c (ix2 (col t f) (tile (seg t) k)) := by
  refine Eq.trans (b := (show FVec Ideal S4x2x1024x1408 .bf16 from V m c main_v4) (ix4 ⟨t.val % 4, (seg t).isLt⟩ ⟨t.val / 4 % 2, by omega⟩ f k)) (by blk_point [iblk, idx t]) ?_
  exact u_entry m c _ _ f k
theorem b3 (c : Dev nD) (t : Fin cfg0.N) (f : Fin 1024) (k : Fin 1408) :
    (show FVec Ideal S1x1x1024x1408 .bf16 from iblk m c 3 t) (ix4 0 0 f k) = vA m c (ix2 (col t f) (tile (seg t) k)) := by
  refine Eq.trans (b := (show FVec Ideal S4x2x1024x1408 .bf16 from V m c main_v7) (ix4 ⟨t.val % 4, (seg t).isLt⟩ ⟨t.val / 4 % 2, by omega⟩ f k)) (by blk_point [iblk, idx t]) ?_
  exact v_entry m c _ _ f k

section Pay
variable (x : FVec Ideal S1024x1408 .bf16) (w : FVec Ideal S1x1x1024x1408 .bf16) (x' : FVec Ideal S1024x1408 .bf16) (w' : FVec Ideal S1x1x1024x1408 .bf16)
  (s : FVec Ideal S1024x1024 .f32) (n f : Fin 1024)

theorem p1 : k0_pay1 (F := Ideal) x w x' w' (ix2 n f) = (∑ k, x (ix2 n k) * w (ix4 0 0 f k)) + ∑ k, x' (ix2 n k) * w' (ix4 0 0 f k) := by
  pointwise [k0_pay1]
theorem p2 : k0_pay2 (F := Ideal) x w x' w' s (ix2 n f) = s (ix2 n f) + ((∑ k, x (ix2 n k) * w (ix4 0 0 f k)) + ∑ k, x' (ix2 n k) * w' (ix4 0 0 f k)) := by
  pointwise [k0_pay2]
theorem p3 : k0_pay3 (F := Ideal) x w x' w' s (ix2 n f) = s (ix2 n f) + ((∑ k, x (ix2 n k) * w (ix4 0 0 f k)) + ∑ k, x' (ix2 n k) * w' (ix4 0 0 f k)) := by
  pointwise [k0_pay3]

end Pay

theorem r4 (c : Dev nD) (r q : Fin 2048) :
    ref4 m c (ix2 r q) = (∑ k, bA m c (ix2 r k) * vA m c (ix2 q k)) + ∑ k, aA m c (ix2 r k) * uA m c (ix2 q k) := by
  unfold ref4
  rw [← Cert.DxRefIdeal.Read.val_main_v5_eq]
  pointwise

/-- The part of an entry's two sums over one tile. -/
def T (c : Dev nD) (r q : Fin 2048) (p : Fin 4) : EReal :=
  (∑ k, aA m c (ix2 r (tile p k)) * uA m c (ix2 q (tile p k))) + ∑ k, bA m c (ix2 r (tile p k)) * vA m c (ix2 q (tile p k))

theorem blk_sum (c : Dev nD) (t : Fin cfg0.N) (n f : Fin 1024) :
    (∑ k, (show FVec Ideal S1024x1408 .bf16 from iblk m c 0 t) (ix2 n k) * (show FVec Ideal S1x1x1024x1408 .bf16 from iblk m c 2 t) (ix4 0 0 f k))
      + ∑ k, (show FVec Ideal S1024x1408 .bf16 from iblk m c 1 t) (ix2 n k) * (show FVec Ideal S1x1x1024x1408 .bf16 from iblk m c 3 t) (ix4 0 0 f k)
      = T m c (row t n) (col t f) (seg t) :=
  congrArg₂ (· + ·) (Finset.sum_congr rfl fun k _ => congrArg₂ (· * ·) (b0 m c t n k) (b2 m c t f k))
    (Finset.sum_congr rfl fun k _ => congrArg₂ (· * ·) (b1 m c t n k) (b3 m c t f k))

theorem tiles (c : Dev nD) (r q : Fin 2048) :
    T m c r q 0 + T m c r q 1 + T m c r q 2 + T m c r q 3 = ref4 m c (ix2 r q) := by
  rw [r4, add_comm, ← four fun k => aA m c (ix2 r k) * uA m c (ix2 q k), ← four fun k => bA m c (ix2 r k) * vA m c (ix2 q k)]
  unfold T
  abel

/-- What a point leaves in the carried sum. -/
abbrev sc (c : Dev nD) (t : Fin cfg0.N) : FVec Ideal S1024x1024 .f32 := (outsAt0 m c t.val t.isLt).2

abbrev prev (t : Fin cfg0.N) : Fin cfg0.N := ⟨t.val - 1, Nat.lt_of_le_of_lt (Nat.sub_le _ _) t.isLt⟩

theorem row_prev (t : Fin cfg0.N) (ht : t.val % 4 ≠ 0) (n : Fin 1024) : row (prev t) n = row t n :=
  Fin.ext (by show 1024 * ((t.val - 1) / 8) + n.val = 1024 * (t.val / 8) + n.val; omega)
theorem col_prev (t : Fin cfg0.N) (ht : t.val % 4 ≠ 0) (f : Fin 1024) : col (prev t) f = col t f :=
  Fin.ext (by show 1024 * ((t.val - 1) / 4 % 2) + f.val = 1024 * (t.val / 4 % 2) + f.val; omega)

theorem sc0 (c : Dev nD) (t : Fin cfg0.N) (ht : t.val % 4 = 0) (n f : Fin 1024) : sc m c t (ix2 n f) = T m c (row t n) (col t f) 0 := by
  unfold sc
  rw [outsAt0_A m c t ht (by omega) (by omega)]
  frame_out
  have e : seg t = 0 := Fin.ext ht
  exact (p1 _ _ _ _ n f).trans ((blk_sum m c t n f).trans (congrArg _ e))

theorem sc_step (c : Dev nD) (t : Fin cfg0.N) (ht : 1 ≤ t.val % 4 ∧ t.val % 4 ≤ 2) (n f : Fin 1024) :
    sc m c t (ix2 n f) = sc m c (prev t) (ix2 n f) + T m c (row t n) (col t f) (seg t) := by
  unfold sc
  rw [outsAt0_B m c t (by omega) ht (by omega)]
  frame_out
  rw [read_unread_whole]
  exact (p2 _ _ _ _ _ n f).trans (congrArg (fun z : EReal => _ + z) (blk_sum m c t n f))

theorem sc1 (c : Dev nD) (t : Fin cfg0.N) (ht : t.val % 4 = 1) (n f : Fin 1024) :
    sc m c t (ix2 n f) = T m c (row t n) (col t f) 0 + T m c (row t n) (col t f) 1 := by
  have e : seg t = 1 := Fin.ext ht
  rw [sc_step m c t (by omega), sc0 m c (prev t) (by show (t.val - 1) % 4 = 0; omega), row_prev t (by omega), col_prev t (by omega), e]

theorem sc2 (c : Dev nD) (t : Fin cfg0.N) (ht : t.val % 4 = 2) (n f : Fin 1024) :
    sc m c t (ix2 n f) = T m c (row t n) (col t f) 0 + T m c (row t n) (col t f) 1 + T m c (row t n) (col t f) 2 := by
  have e : seg t = 2 := Fin.ext ht
  rw [sc_step m c t (by omega), sc1 m c (prev t) (by show (t.val - 1) % 4 = 1; omega), row_prev t (by omega), col_prev t (by omega), e]

/-- The whole sum at the last of the four points. -/
theorem whole (c : Dev nD) (t : Fin cfg0.N) (ht : t.val % 4 = 3) (n f : Fin 1024) :
    sc m c (prev t) (ix2 n f) + ((∑ k, (show FVec Ideal S1024x1408 .bf16 from iblk m c 0 t) (ix2 n k) * (show FVec Ideal S1x1x1024x1408 .bf16 from iblk m c 2 t) (ix4 0 0 f k))
      + ∑ k, (show FVec Ideal S1024x1408 .bf16 from iblk m c 1 t) (ix2 n k) * (show FVec Ideal S1x1x1024x1408 .bf16 from iblk m c 3 t) (ix4 0 0 f k))
      = T m c (row t n) (col t f) 0 + T m c (row t n) (col t f) 1 + T m c (row t n) (col t f) 2 + T m c (row t n) (col t f) 3 := by
  have e : seg t = 3 := Fin.ext ht
  rw [sc2 m c (prev t) (by show (t.val - 1) % 4 = 2; omega), blk_sum, row_prev t (by omega), col_prev t (by omega), e]

variable {c : Dev nD}

theorem out4 (t : Fin cfg0.N) (ht : t.val % 4 = 3) (y : S1024x1024.Idx) :
    k0_pay3 (F := Ideal) (iblk m c 0 t) (iblk m c 2 t) (iblk m c 1 t) (iblk m c 3 t) (sc m c (prev t)) y = ref4 m c (((cfg0.win 4).blk t).view.emb y) := by
  rw [eq_ix2 y]
  refine (p3 _ _ _ _ _ _ _).trans ((whole m c t ht (y 0) (y 1)).trans ((tiles m c _ _).trans (congrArg _ ?_)))
  blk_ext [idx t]
  · show 1024 * (t.val / 8) + _ = _
    omega
  · show 1024 * (t.val / 4 % 2) + _ = _
    omega

theorem fl : ∀ t : Fin cfg0.N, (cfg0.win 4).flush t = true → t.val % 4 = 3 := (by decide +kernel : ∀ t : Fin grid0.N, _)

theorem final4 (c : Dev nD) : (dats m 0 c).arrAt 4 (cfgs 0).N = ref4 m c := by
  refine (dats m 0 c).arrAt_eq_of_covers 4 _ (by decide +kernel) fun t hf y => ?_
  have h1 := fl t hf
  blk_simp
  rw [after0_4, outsAt0_C m c t (by omega) (by omega) h1]; frame_out; rw [read_unread_whole]
  exact out4 m t h1 y

end Cert.DxIdeal.Arr

end
-- ==== Proof.DwValue.lean ====
/- The gradient of the two products of the feed-forward part in their weights: each result of the call is the reference's array. -/
module

public import proofs.«01_k».proof.Proof.Gen.DwIdeal.Value
public import proofs.«01_k».proof.Proof.Gen.DwRefIdeal.Read
public import proofs.«01_k».proof.Proof.SwiValue

@[expose] public section

set_option maxRecDepth 16384

noncomputable section

open Idealize.ShloMosaic Idealize.ShloMosaic.TcCoe Idealize.SL.Sem
open Idealize.ShloMosaic.Pipeline (Dat)

namespace Cert.DwIdeal.Arr
open Cert.DwIdeal Cert.DwIdeal.Gen
open Cert.Fin
open Cert.SwiIdeal.Arr (half halves)

variable (m : (ℓ : Loc nD τ sig) → Buf (Elt Ideal) ℓ)

abbrev hA (c : Dev nD) : FVec Ideal S2048x2048 .f32 := m ((c : Thread nD τ).loc main_arg0)
abbrev aA (c : Dev nD) : FVec Ideal S2048x5632 .f32 := m ((c : Thread nD τ).loc main_arg1)
abbrev bA (c : Dev nD) : FVec Ideal S2048x5632 .f32 := m ((c : Thread nD τ).loc main_arg2)

abbrev ref3 (c : Dev nD) := Cert.DwRefIdeal.Read.val_main_v9 (F := Ideal) (hA m c) (aA m c)
abbrev ref4 (c : Dev nD) := Cert.DwRefIdeal.Read.val_main_v12 (F := Ideal) (hA m c) (bA m c)

/-- The block indices of the windows: a point counts the halves of the sum fastest, then the columns, then the rows. -/
theorem idx : ∀ t : Fin cfg0.N, win0_0.index t = ![t.val % 2, t.val / 8] ∧ win0_1.index t = ![t.val % 2, t.val / 2 % 4]
    ∧ win0_2.index t = ![t.val % 2, t.val / 2 % 4] ∧ win0_3.index t = ![t.val / 8, t.val / 2 % 4, 0, 0]
    ∧ win0_4.index t = ![t.val / 8, t.val / 2 % 4, 0, 0] :=
  (by decide +kernel : ∀ t : Fin grid0.N, _)

def rp (t : Fin cfg0.N) : Fin 2 := ⟨t.val / 8, by
  have ht : t.val < 16 := lt_of_lt_of_eq t.isLt N_0
  omega⟩
def cp (t : Fin cfg0.N) : Fin 4 := ⟨t.val / 2 % 4, by omega⟩
def seg (t : Fin cfg0.N) : Fin 2 := ⟨t.val % 2, by omega⟩
def part (p : Fin 4) (f : Fin 1408) : Fin 5632 := ⟨1408 * p.val + f.val, by omega⟩

theorem b0 (c : Dev nD) (t : Fin cfg0.N) (k n : Fin 1024) :
    (show FVec Ideal S1024x1024 .bf16 from iblk m c 0 t) (ix2 k n) = hA m c (ix2 (half (seg t) k) (half (rp t) n)) := by
  refine Eq.trans (b := (show FVec Ideal S2048x2048 .bf16 from V m c main_v0) (ix2 ⟨1024 * (t.val % 2) + k.val, (half (seg t) k).isLt⟩ ⟨1024 * (t.val / 8) + n.val, (half (rp t) n).isLt⟩)) (by blk_point [iblk, idx t]) ?_
  entry_read
  pointwise
  rfl
theorem b1 (c : Dev nD) (t : Fin cfg0.N) (k : Fin 1024) (f : Fin 1408) :
    (show FVec Ideal S1024x1408 .bf16 from iblk m c 1 t) (ix2 k f) = aA m c (ix2 (half (seg t) k) (part (cp t) f)) := by
  refine Eq.trans (b := (show FVec Ideal S2048x5632 .bf16 from V m c main_v1) (ix2 ⟨1024 * (t.val % 2) + k.val, (half (seg t) k).isLt⟩ ⟨1408 * (t.val / 2 % 4) + f.val, (part (cp t) f).isLt⟩)) (by blk_point [iblk, idx t]) ?_
  entry_read
  pointwise
  rfl
theorem b2 (c : Dev nD) (t : Fin cfg0.N) (k : Fin 1024) (f : Fin 1408) :
    (show FVec Ideal S1024x1408 .bf16 from iblk m c 2 t) (ix2 k f) = bA m c (ix2 (half (seg t) k) (part (cp t) f)) := by
  refine Eq.trans (b := (show FVec Ideal S2048x5632 .bf16 from V m c main_v2) (ix2 ⟨1024 * (t.val % 2) + k.val, (half (seg t) k).isLt⟩ ⟨1408 * (t.val / 2 % 4) + f.val, (part (cp t) f).isLt⟩)) (by blk_point [iblk, idx t]) ?_
  entry_read
  pointwise
  rfl

section Pay
variable (x : FVec Ideal S1024x1024 .bf16) (w : FVec Ideal S1024x1408 .bf16) (s : FVec Ideal S1024x1408 .f32) (n : Fin 1024) (f : Fin 1408)

theorem p1 : k0_pay1 (F := Ideal) x w (ix2 n f) = ∑ k, x (ix2 k n) * w (ix2 k f) := by
  pointwise [k0_pay1]
theorem p2 : k0_pay2 (F := Ideal) x w (ix2 n f) = ∑ k, x (ix2 k n) * w (ix2 k f) := by
  pointwise [k0_pay2]
theorem p5 : k0_pay5 (F := Ideal) x w s (ix4 0 0 n f) = s (ix2 n f) + ∑ k, x (ix2 k n) * w (ix2 k f) := by
  pointwise [k0_pay5]
theorem p6 : k0_pay6 (F := Ideal) x w s (ix4 0 0 n f) = s (ix2 n f) + ∑ k, x (ix2 k n) * w (ix2 k f) := by
  pointwise [k0_pay6]

end Pay

/-- An entry of the product with the transposed left factor, and its part over one half of the sum. -/
def pr (x : FVec Ideal S2048x2048 .f32) (w : FVec Ideal S2048x5632 .f32) (r : Fin 2048) (q : Fin 5632) : EReal := ∑ k, x (ix2 k r) * w (ix2 k q)
def T (x : FVec Ideal S2048x2048 .f32) (w : FVec Ideal S2048x5632 .f32) (r : Fin 2048) (q : Fin 5632) (p : Fin 2) : EReal :=
  ∑ k, x (ix2 (half p k) r) * w (ix2 (half p k) q)
theorem both (x : FVec Ideal S2048x2048 .f32) (w : FVec Ideal S2048x5632 .f32) (r : Fin 2048) (q : Fin 5632) : T x w r q 0 + T x w r q 1 = pr x w r q :=
  halves fun k => x (ix2 k r) * w (ix2 k q)

theorem r3 (c : Dev nD) (h : Fin 2) (p : Fin 4) (n : Fin 1024) (f : Fin 1408) :
    ref3 m c (ix4 h p n f) = pr (hA m c) (aA m c) (half h n) (part p f) := by
  unfold ref3 pr
  rw [← Cert.DwRefIdeal.Read.val_main_v9_eq]
  pointwise
  refine Finset.sum_congr rfl fun k _ => (mul_comm _ _).trans (congrArg₂ (· * ·) ?_ ?_)
  · exact congrArg (hA m c) (congrArg (ix2 k) (Fin.ext (congrArg (· + n.val) (Nat.mul_comm _ _))))
  · exact congrArg (aA m c) (congrArg (ix2 k) (Fin.ext (congrArg (· + f.val) (Nat.mul_comm _ _))))
theorem r4 (c : Dev nD) (h : Fin 2) (p : Fin 4) (n : Fin 1024) (f : Fin 1408) :
    ref4 m c (ix4 h p n f) = pr (hA m c) (bA m c) (half h n) (part p f) := by
  unfold ref4 pr
  rw [← Cert.DwRefIdeal.Read.val_main_v12_eq]
  pointwise
  refine Finset.sum_congr rfl fun k _ => (mul_comm _ _).trans (congrArg₂ (· * ·) ?_ ?_)
  · exact congrArg (hA m c) (congrArg (ix2 k) (Fin.ext (congrArg (· + n.val) (Nat.mul_comm _ _))))
  · exact congrArg (bA m c) (congrArg (ix2 k) (Fin.ext (congrArg (· + f.val) (Nat.mul_comm _ _))))
theorem blk_sum1 (c : Dev nD) (t : Fin cfg0.N) (n : Fin 1024) (f : Fin 1408) :
    ∑ k, (show FVec Ideal S1024x1024 .bf16 from iblk m c 0 t) (ix2 k n) * (show FVec Ideal S1024x1408 .bf16 from iblk m c 1 t) (ix2 k f)
      = T (hA m c) (aA m c) (half (rp t) n) (part (cp t) f) (seg t) :=
  Finset.sum_congr rfl fun k _ => congrArg₂ (· * ·) (b0 m c t k n) (b1 m c t k f)
theorem blk_sum2 (c : Dev nD) (t : Fin cfg0.N) (n : Fin 1024) (f : Fin 1408) :
    ∑ k, (show FVec Ideal S1024x1024 .bf16 from iblk m c 0 t) (ix2 k n) * (show FVec Ideal S1024x1408 .bf16 from iblk m c 2 t) (ix2 k f)
      = T (hA m c) (bA m c) (half (rp t) n) (part (cp t) f) (seg t) :=
  Finset.sum_congr rfl fun k _ => congrArg₂ (· * ·) (b0 m c t k n) (b2 m c t k f)

abbrev prev (t : Fin cfg0.N) : Fin cfg0.N := ⟨t.val - 1, Nat.lt_of_le_of_lt (Nat.sub_le _ _) t.isLt⟩

theorem rp_prev (t : Fin cfg0.N) (ht : t.val % 2 = 1) : rp (prev t) = rp t := Fin.ext (by show (t.val - 1) / 8 = t.val / 8; omega)
theorem cp_prev (t : Fin cfg0.N) (ht : t.val % 2 = 1) : cp (prev t) = cp t := Fin.ext (by show (t.val - 1) / 2 % 4 = t.val / 2 % 4; omega)
theorem seg_prev (t : Fin cfg0.N) (ht : t.val % 2 = 1) : seg (prev t) = 0 := Fin.ext (by show (t.val - 1) % 2 = 0; omega)
theorem seg_odd (t : Fin cfg0.N) (ht : t.val % 2 = 1) : seg t = 1 := Fin.ext ht

theorem first1 (c : Dev nD) (t : Fin cfg0.N) (ht : t.val % 2 = 1) (n : Fin 1024) (f : Fin 1408) :
    (show FVec Ideal S1024x1408 .f32 from (outsAt0 m c (prev t).val (prev t).isLt).2.2.1) (ix2 n f) = T (hA m c) (aA m c) (half (rp t) n) (part (cp t) f) 0 := by
  rw [outsAt0_A m c (prev t) (by show (t.val - 1) % 2 = 0; omega) (by show ¬ (t.val - 1) % 2 = 1; omega)]
  frame_out
  refine (p1 _ _ n f).trans ((blk_sum1 m c (prev t) n f).trans ?_)
  rw [rp_prev t ht, cp_prev t ht, seg_prev t ht]
theorem first2 (c : Dev nD) (t : Fin cfg0.N) (ht : t.val % 2 = 1) (n : Fin 1024) (f : Fin 1408) :
    (show FVec Ideal S1024x1408 .f32 from (outsAt0 m c (prev t).val (prev t).isLt).2.2.2) (ix2 n f) = T (hA m c) (bA m c) (half (rp t) n) (part (cp t) f) 0 := by
  rw [outsAt0_A m c (prev t) (by show (t.val - 1) % 2 = 0; omega) (by show ¬ (t.val - 1) % 2 = 1; omega)]
  frame_out
  refine (p2 _ _ n f).trans ((blk_sum2 m c (prev t) n f).trans ?_)
  rw [rp_prev t ht, cp_prev t ht, seg_prev t ht]

variable {c : Dev nD}

theorem out3 (t : Fin cfg0.N) (ht : t.val % 2 = 1) (y : S1x1x1024x1408.Idx) :
    k0_pay5 (F := Ideal) (iblk m c 0 t) (iblk m c 1 t) (outsAt0 m c (prev t).val (prev t).isLt).2.2.1 y = ref3 m c (((cfg0.win 3).blk t).view.emb y) := by
  obtain ⟨a, b, n, f, rfl⟩ : ∃ a b n f, y = ix4 a b n f := ⟨y 0, y 1, y 2, y 3, eq_ix4 y⟩
  obtain rfl : a = 0 := Subsingleton.elim _ _
  obtain rfl : b = 0 := Subsingleton.elim _ _
  refine (p5 _ _ _ _ _).trans ((congrArg₂ (· + ·) (first1 m c t ht n f) (blk_sum1 m c t n f)).trans ?_)
  rw [seg_odd t ht]
  refine (both _ _ _ _).trans ((r3 m c (rp t) (cp t) n f).symm.trans (congrArg _ ?_))
  blk_ext [idx t] <;> rfl
theorem out4 (t : Fin cfg0.N) (ht : t.val % 2 = 1) (y : S1x1x1024x1408.Idx) :
    k0_pay6 (F := Ideal) (iblk m c 0 t) (iblk m c 2 t) (outsAt0 m c (prev t).val (prev t).isLt).2.2.2 y = ref4 m c (((cfg0.win 4).blk t).view.emb y) := by
  obtain ⟨a, b, n, f, rfl⟩ : ∃ a b n f, y = ix4 a b n f := ⟨y 0, y 1, y 2, y 3, eq_ix4 y⟩
  obtain rfl : a = 0 := Subsingleton.elim _ _
  obtain rfl : b = 0 := Subsingleton.elim _ _
  refine (p6 _ _ _ _ _).trans ((congrArg₂ (· + ·) (first2 m c t ht n f) (blk_sum2 m c t n f)).trans ?_)
  rw [seg_odd t ht]
  refine (both _ _ _ _).trans ((r4 m c (rp t) (cp t) n f).symm.trans (congrArg _ ?_))
  blk_ext [idx t] <;> rfl

theorem odd : ∀ t : Fin cfg0.N, ((cfg0.win 3).flush t = true → t.val % 2 = 1) ∧ ((cfg0.win 4).flush t = true → t.val % 2 = 1) :=
  (by decide +kernel : ∀ t : Fin grid0.N, _)

theorem final3 (c : Dev nD) : (dats m 0 c).arrAt 3 (cfgs 0).N = ref3 m c := by
  refine (dats m 0 c).arrAt_eq_of_covers 3 _ (by decide +kernel) fun t hf y => ?_
  have h1 := (odd t).1 hf
  blk_simp
  rw [after0_3, outsAt0_B m c t (by omega) h1]; frame_out; rw [read_unread_whole]
  exact out3 m t h1 y
theorem final4 (c : Dev nD) : (dats m 0 c).arrAt 4 (cfgs 0).N = ref4 m c := by
  refine (dats m 0 c).arrAt_eq_of_covers 4 _ (by decide +kernel) fun t hf y => ?_
  have h1 := (odd t).2 hf
  blk_simp
  rw [after0_4, outsAt0_B m c t (by omega) h1]; frame_out; rw [read_unread_whole]
  exact out4 m t h1 y

end Cert.DwIdeal.Arr

end
-- ==== Proof.ElemValue.lean ====
/- The update of a small weight and the cast of a weight's shard: each result of the call is the reference's array. -/
module

public import proofs.«01_k».proof.Proof.Gen.AdamIdeal.Value
public import proofs.«01_k».proof.Proof.Gen.AdamRefIdeal.Read
public import proofs.«01_k».proof.Proof.Gen.CastIdeal.Value
public import proofs.«01_k».proof.Proof.Gen.CastRefIdeal.Read
public import proofs.«01_k».proof.Proof.Real
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.AdamIdeal.Arr
open Cert.AdamIdeal Cert.AdamIdeal.Gen

variable (m : (ℓ : Loc nD τ sig) → Buf (Elt Ideal) ℓ)

abbrev wA (c : Dev nD) : FVec Ideal S1x16x128x128 .f32 := m ((c : Thread nD τ).loc main_arg0)
abbrev gA (c : Dev nD) : FVec Ideal S1x16x128x128 .f32 := m ((c : Thread nD τ).loc main_arg1)
abbrev mA (c : Dev nD) : FVec Ideal S1x16x128x128 .f32 := m ((c : Thread nD τ).loc main_arg2)
abbrev vA (c : Dev nD) : FVec Ideal S1x16x128x128 .f32 := m ((c : Thread nD τ).loc main_arg3)

abbrev ref4 (c : Dev nD) := Cert.AdamRefIdeal.Read.val_main_v23 (F := Ideal) (wA m c) (gA m c) (mA m c) (vA m c)
abbrev ref5 (c : Dev nD) := Cert.AdamRefIdeal.Read.val_main_v4 (F := Ideal) (gA m c) (mA m c)
abbrev ref6 (c : Dev nD) := Cert.AdamRefIdeal.Read.val_main_v10 (F := Ideal) (gA m c) (vA m c)

theorem eq4 (c : Dev nD) : Value.G4 (F := Ideal) (wA m c) (gA m c) (mA m c) (vA m c) = ref4 m c := rfl
theorem eq5 (c : Dev nD) : Value.G5 (F := Ideal) (gA m c) (mA m c) = ref5 m c := rfl
theorem eq6 (c : Dev nD) : Value.G6 (F := Ideal) (gA m c) (vA m c) = ref6 m c := rfl

end Cert.AdamIdeal.Arr

namespace Cert.CastIdeal.Arr
open Cert.CastIdeal Cert.CastIdeal.Gen

variable (m : (ℓ : Loc nD τ sig) → Buf (Elt Ideal) ℓ)

abbrev wA (c : Dev nD) : FVec Ideal S2x2048x1408 .f32 := m ((c : Thread nD τ).loc main_arg0)

abbrev ref1 (c : Dev nD) := Cert.CastRefIdeal.Read.val_main_v3 (F := Ideal) (wA m c)

theorem idx : ∀ t : Fin cfg0.N, win0_0.index t = ![0, t.val, 0] ∧ win0_1.index t = ![t.val / 2, t.val % 2, 0] :=
  (by decide +kernel : ∀ t : Fin grid0.N, _)

def row (h : Fin 2) (n : Fin 1024) : Fin 2048 := ⟨1024 * h.val + n.val, by omega⟩

theorem p1 (x : FVec Ideal S1x512x1408 .f32) (n : Fin 512) (f : Fin 1408) : k0_pay1 (F := Ideal) x (ix3 0 n f) = x (ix3 0 n f) := by
  pointwise [k0_pay1]
theorem r1 (c : Dev nD) (h : Fin 2) (n : Fin 1024) (f : Fin 1408) : ref1 m c (ix3 h n f) = wA m c (ix3 0 (row h n) f) := by
  unfold ref1
  rw [← Cert.CastRefIdeal.Read.val_main_v3_eq]
  pointwise
  exact congrArg (fun r => wA m c (ix3 0 r f)) (Fin.ext (congrArg (· + n.val) (Nat.mul_comm _ _)))

theorem b0 (c : Dev nD) (t : Fin cfg0.N) (n : Fin 512) (f : Fin 1408) (h : 512 * t.val + n.val < 2048) :
    (show FVec Ideal S1x512x1408 .f32 from iblk m c 0 t) (ix3 0 n f) = wA m c (ix3 0 ⟨512 * t.val + n.val, h⟩ f) := by
  refine Eq.trans (b := (show FVec Ideal S2x2048x1408 .f32 from V m c main_arg0) (ix3 0 ⟨512 * t.val + n.val, h⟩ f)) (by blk_point [iblk, idx t]) ?_
  rfl

theorem final1 (c : Dev nD) : (dats m 0 c).arrAt 1 (cfgs 0).N = ref1 m c := by
  refine (dats m 0 c).arrAt_eq_of_covers 1 _ (by decide +kernel) fun t _ y => ?_
  blk_simp
  rw [after0_1]
  frame_out
  have ht : t.val < 4 := lt_of_lt_of_eq t.isLt N_0
  obtain ⟨a, n, f, e⟩ : ∃ a n f, (y : S1x512x1408.Idx) = ix3 a n f := ⟨y 0, y 1, y 2, eq_ix3 _⟩
  obtain rfl : a = 0 := Subsingleton.elim _ _
  subst e
  refine (p1 _ n f).trans ((b0 m c t n f (by omega)).trans (Eq.trans ?_ ((r1 m c ⟨t.val / 2, by omega⟩ ⟨512 * (t.val % 2) + n.val, by omega⟩ f).symm.trans (congrArg _ ?_))))
  · exact congrArg (fun r => wA m c (ix3 0 r f)) (Fin.ext (by show 512 * t.val + n.val = 1024 * (t.val / 2) + (512 * (t.val % 2) + n.val); omega))
  · blk_ext [idx t] <;> rfl

end Cert.CastIdeal.Arr

end
-- ==== Proof.SumValue.lean ====
/- The sums after an exchange: each call leaves the sum the reference states. -/
module

public import proofs.«01_k».proof.Proof.Gen.SliceSumIdeal.Value
public import proofs.«01_k».proof.Proof.Gen.SliceSumRefIdeal.Read
public import proofs.«01_k».proof.Proof.Gen.ChipSum.Frame
public import proofs.«01_k».proof.Proof.Gen.ChipSumIdeal.Frame
public import proofs.«01_k».proof.Proof.Gen.ChipSumRefIdeal.Read
public import proofs.«01_k».proof.Proof.Gen.PartSum.Frame
public import proofs.«01_k».proof.Proof.Gen.PartSumIdeal.Frame
public import proofs.«01_k».proof.Proof.Gen.PartSumRefIdeal.Read
public import proofs.«01_k».proof.Proof.Real
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.SliceSumIdeal.Arr
open Cert.SliceSumIdeal Cert.SliceSumIdeal.Gen

variable (m : (ℓ : Loc nD τ sig) → Buf (Elt Ideal) ℓ)

abbrev vA (c : Dev nD) : FVec Ideal S8x808x128 .f32 := m ((c : Thread nD τ).loc main_arg0)
abbrev tA (c : Dev nD) : FVec Ideal S8x808x128 .f32 := m ((c : Thread nD τ).loc main_arg1)
abbrev ref2 (c : Dev nD) := Cert.SliceSumRefIdeal.Read.val_main_v4 (F := Ideal) (vA m c) (tA m c)

open Cert.SliceSumRefIdeal.Read in
theorem r2 (c : Dev nD) (r : Fin 808) (l : Fin 128) :
    ref2 m c (ix2 r l) = vA m c (ix3 0 r l) + ∑ k : Fin 7, tA m c (ix3 k.succ r l) := by
  unfold ref2
  rw [← val_main_v4_eq]
  pointwise
  refine congrArg (fun a : EReal => vA m c (ix3 0 r l) + a) (Finset.sum_congr rfl fun k _ => ?_)
  exact congrArg (fun q => tA m c (ix3 q r l)) (Fin.ext (Nat.add_comm _ _))

theorem p1 (v0 v1 v2 v3 v4 v5 v6 v7 : FVec Ideal S1x808x128 .f32) (r : Fin 808) (l : Fin 128) :
    k0_pay1 (F := Ideal) v0 v1 v2 v3 v4 v5 v6 v7 (ix2 r l)
      = v0 (ix3 0 r l) + (v1 (ix3 0 r l) + v2 (ix3 0 r l) + v3 (ix3 0 r l) + v4 (ix3 0 r l) + v5 (ix3 0 r l) + v6 (ix3 0 r l) + v7 (ix3 0 r l)) := by
  pointwise [k0_pay1]
  simp only [add_assoc]

theorem idx : ∀ t : Fin cfg0.N, win0_0.index t = ![0, 0, 0] ∧ win0_1.index t = ![0, 0, 0] ∧ win0_2.index t = ![0, 0] :=
  (by decide +kernel : ∀ t : Fin grid0.N, _)

theorem b0 (c : Dev nD) (t : Fin cfg0.N) (k : Fin 8) (r : Fin 808) (l : Fin 128) :
    (show FVec Ideal S8x808x128 .f32 from iblk m c 0 t) (ix3 k r l) = vA m c (ix3 k r l) := by
  refine Eq.trans (b := (show FVec Ideal S8x808x128 .f32 from V m c main_arg0) (ix3 k r l)) (by blk_point [iblk, idx t]) ?_
  rfl
theorem b1 (c : Dev nD) (t : Fin cfg0.N) (k : Fin 8) (r : Fin 808) (l : Fin 128) :
    (show FVec Ideal S8x808x128 .f32 from iblk m c 1 t) (ix3 k r l) = tA m c (ix3 k r l) := by
  refine Eq.trans (b := (show FVec Ideal S8x808x128 .f32 from V m c main_arg1) (ix3 k r l)) (by blk_point [iblk, idx t]) ?_
  rfl

theorem slab (k : Nat) (hk : k < 8) (inb) (r : Fin 808) (l : Fin 128) :
    (Rect.unit (s := S8x808x128) ![k, 0, 0] ![1, 808, 128] inb).idx (ix3 (0 : Fin 1) r l) = ix3 (⟨k, hk⟩ : Fin 8) r l := by
  refine funext fun a => Fin.ext ?_
  match a with
  | ⟨0, _⟩ => show k + 1 * 0 = k; omega
  | ⟨1, _⟩ => show 0 + 1 * r.val = r.val; omega
  | ⟨2, _⟩ => show 0 + 1 * l.val = l.val; omega
theorem s0 (c : Dev nD) (t : Fin cfg0.N) (inb) (r : Fin 808) (l : Fin 128) :
    (View.ld (iblk m c 0 t) (Rect.unit (s := S8x808x128) ![0, 0, 0] ![1, 808, 128] inb) : FVec Ideal S1x808x128 .f32) (ix3 0 r l) = vA m c (ix3 0 r l) :=
  (congrArg (iblk m c 0 t) (slab 0 (by decide) inb r l)).trans (b0 m c t 0 r l)
theorem s1 (c : Dev nD) (t : Fin cfg0.N) (k : Fin 8) (inb) (r : Fin 808) (l : Fin 128) :
    (View.ld (iblk m c 1 t) (Rect.unit (s := S8x808x128) ![k.val, 0, 0] ![1, 808, 128] inb) : FVec Ideal S1x808x128 .f32) (ix3 0 r l) = tA m c (ix3 k r l) :=
  (congrArg (iblk m c 1 t) (slab k.val k.isLt inb r l)).trans (b1 m c t k r l)

theorem final2 (c : Dev nD) : (dats m 0 c).arrAt 2 (cfgs 0).N = ref2 m c := by
  refine (dats m 0 c).arrAt_eq_of_covers 2 _ (by decide +kernel) fun t _ y => ?_
  blk_simp
  rw [after0_2]
  obtain ⟨r, l, e⟩ : ∃ r l, (y : S808x128.Idx) = ix2 r l := ⟨y 0, y 1, eq_ix2 _⟩
  subst e
  unfold outsAt0
  frame_out
  simp only [read_unread_whole]
  refine (p1 _ _ _ _ _ _ _ _ r l).trans (Eq.trans ?_ ((r2 m c r l).symm.trans (congrArg (ref2 m c) ?_)))
  · rw [Fin.sum_univ_seven]
    exact congrArg₂ (fun a b : EReal => a + b) (s0 m c t _ r l) (congrArg₂ (fun a b : EReal => a + b) (congrArg₂ (fun a b : EReal => a + b) (congrArg₂ (fun a b : EReal => a + b) (congrArg₂ (fun a b : EReal => a + b)
      (congrArg₂ (fun a b : EReal => a + b) (congrArg₂ (fun a b : EReal => a + b) (s1 m c t 1 _ r l) (s1 m c t 2 _ r l)) (s1 m c t 3 _ r l)) (s1 m c t 4 _ r l)) (s1 m c t 5 _ r l)) (s1 m c t 6 _ r l)) (s1 m c t 7 _ r l))
  · blk_ext [idx t]

end Cert.SliceSumIdeal.Arr

namespace Cert.ChipSumIdeal.Arr
open Cert.ChipSumIdeal Cert.ChipSumIdeal.Gen

/-- The map of the first window, at the table's word. -/
def at0 (i : grid0.Coords) : Fin 4 → Nat := ![(0#32).toNat, (BitVec.ofNat 32 (i 0).val).toNat, (BitVec.ofNat 32 (i 1).val).toNat, (0#32).toNat]

/-- The block it names lies inside the array. -/
theorem inside : ∀ i : grid0.Coords, ∃ h : (∀ a, (at0 i a + 1) * S1x1x512x1408.size a ≤ S2x4x1024x1408.size a), EltTy.bits .bf16 = 32 ∨ (Rect.block (s := S2x4x1024x1408) S1x1x512x1408.size (at0 i) h).WholeWords (EltTy.packing .bf16) := by
  decide +kernel

variable (m : (ℓ : Loc nD τ sig) → Buf (Elt Ideal) ℓ)

theorem ok : Ok m := fun i => inside i

abbrev gA (c : Dev nD) : FVec Ideal S2x4x1024x1408 .bf16 := m ((c : Thread nD τ).loc main_arg0)
abbrev tA (c : Dev nD) : FVec Ideal S4x1024x1408 .bf16 := m ((c : Thread nD τ).loc main_arg1)
abbrev ref2 (c : Dev nD) := Cert.ChipSumRefIdeal.Read.val_main_v5 (F := Ideal) (gA m c) (tA m c)

theorem idxT : ∀ t : Fin grid0.N, at0 (grid0.coords t) = ![0, t.val / 2, t.val % 2, 0] ∧ cc0_transform_1 (grid0.coords t) = ![t.val / 2, t.val % 2, 0] ∧ cc0_transform_3 (grid0.coords t) = ![t.val / 2, t.val % 2, 0] := by
  decide +kernel
theorem idx (t : Fin (cfgM m (ok m)).N) : ((cfgM m (ok m)).win 0).index t = ![0, t.val / 2, t.val % 2, 0] ∧ ((cfgM m (ok m)).win 1).index t = ![t.val / 2, t.val % 2, 0] ∧ ((cfgM m (ok m)).win 2).index t = ![t.val / 2, t.val % 2, 0] :=
  idxT t

theorem p1 (x : FVec Ideal S1x1x512x1408 .bf16) (y : FVec Ideal S1x512x1408 .bf16) (n : Fin 512) (f : Fin 1408) :
    k0_pay1 (F := Ideal) x y (ix3 0 n f) = x (ix4 0 0 n f) + y (ix3 0 n f) := by
  pointwise [k0_pay1]

theorem r2 (c : Dev nD) (h : Fin 4) (n : Fin 1024) (f : Fin 1408) : ref2 m c (ix3 h n f) = gA m c (ix4 0 h n f) + tA m c (ix3 h n f) := by
  unfold ref2
  rw [← Cert.ChipSumRefIdeal.Read.val_main_v5_eq]
  pointwise

theorem b0 (c : Dev nD) (t : Fin (cfgM m (ok m)).N) (n : Fin 512) (f : Fin 1408) (h : t.val / 2 < 4) (h' : 512 * (t.val % 2) + n.val < 1024) :
    (show FVec Ideal S1x1x512x1408 .bf16 from iblk m (ok m) c 0 t) (ix4 0 0 n f) = gA m c (ix4 0 ⟨t.val / 2, h⟩ ⟨512 * (t.val % 2) + n.val, h'⟩ f) := by
  refine Eq.trans (b := (show FVec Ideal S2x4x1024x1408 .bf16 from V m c main_arg0) (ix4 0 ⟨t.val / 2, h⟩ ⟨512 * (t.val % 2) + n.val, h'⟩ f)) (by blk_point [iblk, idx m t]) ?_
  rfl
theorem b1 (c : Dev nD) (t : Fin (cfgM m (ok m)).N) (n : Fin 512) (f : Fin 1408) (h : t.val / 2 < 4) (h' : 512 * (t.val % 2) + n.val < 1024) :
    (show FVec Ideal S1x512x1408 .bf16 from iblk m (ok m) c 1 t) (ix3 0 n f) = tA m c (ix3 ⟨t.val / 2, h⟩ ⟨512 * (t.val % 2) + n.val, h'⟩ f) := by
  refine Eq.trans (b := (show FVec Ideal S4x1024x1408 .bf16 from V m c main_arg1) (ix3 ⟨t.val / 2, h⟩ ⟨512 * (t.val % 2) + n.val, h'⟩ f)) (by blk_point [iblk, idx m t]) ?_
  rfl

theorem final2 (c : Dev nD) : (dats m (ok m) 0 c).arrAt 2 (cfgM m (ok m)).N = ref2 m c := by
  refine (dats m (ok m) 0 c).arrAt_eq_of_covers 2 _ ?_ fun t _ y => ?_
  · exact of_decide_eq_true (by sl_kernel_rfl)
  blk_simp
  rw [after0_2]
  unfold outsAt0
  frame_out
  have ht : t.val < 8 := t.isLt
  obtain ⟨a, n, f, e⟩ : ∃ a n f, (y : S1x512x1408.Idx) = ix3 a n f := ⟨(show S1x512x1408.Idx from y) 0, (show S1x512x1408.Idx from y) 1, (show S1x512x1408.Idx from y) 2, eq_ix3 _⟩
  obtain rfl : a = 0 := Subsingleton.elim _ _
  subst e
  refine (p1 _ _ n f).trans (Eq.trans ?_ ((r2 m c ⟨t.val / 2, by omega⟩ ⟨512 * (t.val % 2) + n.val, by omega⟩ f).symm.trans (congrArg (ref2 m c) ?_)))
  · exact congrArg₂ (fun a b : EReal => a + b) ((congrFun (Memref.IsWhole.read_unread (hs0_0 m (ok m) t) _) _).trans (b0 m c t n f (by omega) (by omega)))
      ((congrFun (Memref.IsWhole.read_unread (hs0_1 m (ok m) t) _) _).trans (b1 m c t n f (by omega) (by omega)))
  · blk_ext [idx m t]

/-- The run with the array it leaves named and its arguments as they were. -/
theorem run_named (ρ : Dev nD → PrngReg) : θ_run defs (onTc (τ := τ) (main (F := Ideal))) ⟨m, fun _ => 0, ρ⟩ fun r => ∀ c : Dev nD,
    r.2.mem ((c : Thread nD τ).loc main_v1) = ref2 m c
    ∧ r.2.mem ((c : Thread nD τ).loc main_arg0) = gA m c ∧ r.2.mem ((c : Thread nD τ).loc main_arg1) = tA m c :=
  (θ_run defs _ _).mono (fun r h c => ⟨((h.1 c).1 2).trans (final2 m c), h.2 c⟩) (θ_run_and (run_main m ρ (ok m)) (unchanged m ρ (ok m)))

end Cert.ChipSumIdeal.Arr

theorem Cert.ChipSum.Gen.tables {F : FTy → Type} [FloatOps F] (m) : Cert.ChipSum.Gen.Ok (F := F) m := fun i => Cert.ChipSumIdeal.Arr.inside i

namespace Cert.PartSumIdeal.Arr
open Cert.PartSumIdeal Cert.PartSumIdeal.Gen

/-- A window's map, at the table's word. -/
def at0 (k : BitVec 32) (i : grid0.Coords) : Fin 3 → Nat := ![k.toNat, (BitVec.ofNat 32 (i 0).val).toNat, (0#32).toNat]

def word : Fin 4 → BitVec 32 := ![0#32, 2#32, 1#32, 3#32]

/-- The block it names lies inside the array. -/
theorem inside : ∀ (k : Fin 4) (i : grid0.Coords), ∃ h : (∀ a, (at0 (word k) i a + 1) * S1x512x1408.size a ≤ S4x1024x1408.size a), EltTy.bits .bf16 = 32 ∨ (Rect.block (s := S4x1024x1408) S1x512x1408.size (at0 (word k) i) h).WholeWords (EltTy.packing .bf16) := by
  decide +kernel

variable (m : (ℓ : Loc nD τ sig) → Buf (Elt Ideal) ℓ)

theorem ok : Ok m := ⟨inside 0, inside 1, inside 2, inside 3⟩

abbrev pA (c : Dev nD) : FVec Ideal S4x1024x1408 .bf16 := m ((c : Thread nD τ).loc main_arg0)
abbrev tA (c : Dev nD) : FVec Ideal S4x1024x1408 .bf16 := m ((c : Thread nD τ).loc main_arg1)
abbrev ref4 (c : Dev nD) := Cert.PartSumRefIdeal.Read.val_main_v6 (F := Ideal) (pA m c) (tA m c)

theorem idxT : ∀ t : Fin grid0.N, (∀ k : Fin 4, at0 (word k) (grid0.coords t) = ![(word k).toNat, t.val, 0]) ∧ cc0_transform_5 (grid0.coords t) = ![t.val, 0] := by
  decide +kernel
theorem idx (t : Fin (cfgM m (ok m)).N) : ((cfgM m (ok m)).win 0).index t = ![0, t.val, 0] ∧ ((cfgM m (ok m)).win 1).index t = ![2, t.val, 0] ∧ ((cfgM m (ok m)).win 2).index t = ![1, t.val, 0]
    ∧ ((cfgM m (ok m)).win 3).index t = ![3, t.val, 0] ∧ ((cfgM m (ok m)).win 4).index t = ![t.val, 0] :=
  ⟨(idxT t).1 0, (idxT t).1 1, (idxT t).1 2, (idxT t).1 3, (idxT t).2⟩

theorem p1 (x y z w : FVec Ideal S1x512x1408 .bf16) (n : Fin 512) (f : Fin 1408) :
    k0_pay1 (F := Ideal) x y z w (ix2 n f) = x (ix3 0 n f) + y (ix3 0 n f) + z (ix3 0 n f) + w (ix3 0 n f) := by
  pointwise [k0_pay1]

theorem shuffle (a b c d : EReal) : a + (b + c + d) = a + c + b + d := by
  rw [add_comm b c]
  simp only [add_assoc]

theorem r4 (c : Dev nD) (n : Fin 1024) (f : Fin 1408) :
    ref4 m c (ix2 n f) = pA m c (ix3 0 n f) + tA m c (ix3 2 n f) + tA m c (ix3 1 n f) + tA m c (ix3 3 n f) := by
  unfold ref4
  rw [← Cert.PartSumRefIdeal.Read.val_main_v6_eq]
  pointwise
  rw [Fin.sum_univ_three]
  exact shuffle _ _ _ _

theorem b0 (c : Dev nD) (t : Fin (cfgM m (ok m)).N) (n : Fin 512) (f : Fin 1408) (h : 512 * t.val + n.val < 1024) :
    (show FVec Ideal S1x512x1408 .bf16 from iblk m (ok m) c 0 t) (ix3 0 n f) = pA m c (ix3 0 ⟨512 * t.val + n.val, h⟩ f) := by
  refine Eq.trans (b := (show FVec Ideal S4x1024x1408 .bf16 from V m c main_arg0) (ix3 0 ⟨512 * t.val + n.val, h⟩ f)) (by blk_point [iblk, idx m t]) ?_
  rfl
theorem b1 (c : Dev nD) (t : Fin (cfgM m (ok m)).N) (n : Fin 512) (f : Fin 1408) (h : 512 * t.val + n.val < 1024) :
    (show FVec Ideal S1x512x1408 .bf16 from iblk m (ok m) c 1 t) (ix3 0 n f) = tA m c (ix3 2 ⟨512 * t.val + n.val, h⟩ f) := by
  refine Eq.trans (b := (show FVec Ideal S4x1024x1408 .bf16 from V m c main_arg1) (ix3 2 ⟨512 * t.val + n.val, h⟩ f)) (by blk_point [iblk, idx m t]) ?_
  rfl
theorem b2 (c : Dev nD) (t : Fin (cfgM m (ok m)).N) (n : Fin 512) (f : Fin 1408) (h : 512 * t.val + n.val < 1024) :
    (show FVec Ideal S1x512x1408 .bf16 from iblk m (ok m) c 2 t) (ix3 0 n f) = tA m c (ix3 1 ⟨512 * t.val + n.val, h⟩ f) := by
  refine Eq.trans (b := (show FVec Ideal S4x1024x1408 .bf16 from V m c main_arg1) (ix3 1 ⟨512 * t.val + n.val, h⟩ f)) (by blk_point [iblk, idx m t]) ?_
  rfl
theorem b3 (c : Dev nD) (t : Fin (cfgM m (ok m)).N) (n : Fin 512) (f : Fin 1408) (h : 512 * t.val + n.val < 1024) :
    (show FVec Ideal S1x512x1408 .bf16 from iblk m (ok m) c 3 t) (ix3 0 n f) = tA m c (ix3 3 ⟨512 * t.val + n.val, h⟩ f) := by
  refine Eq.trans (b := (show FVec Ideal S4x1024x1408 .bf16 from V m c main_arg1) (ix3 3 ⟨512 * t.val + n.val, h⟩ f)) (by blk_point [iblk, idx m t]) ?_
  rfl

theorem final4 (c : Dev nD) : (dats m (ok m) 0 c).arrAt 4 (cfgM m (ok m)).N = ref4 m c := by
  refine (dats m (ok m) 0 c).arrAt_eq_of_covers 4 _ (of_decide_eq_true (by sl_kernel_rfl)) fun t _ y => ?_
  blk_simp
  rw [after0_4]
  unfold outsAt0
  frame_out
  have ht : t.val < 2 := t.isLt
  obtain ⟨n, f, e⟩ : ∃ n f, (y : S512x1408.Idx) = ix2 n f := ⟨(show S512x1408.Idx from y) 0, (show S512x1408.Idx from y) 1, eq_ix2 _⟩
  subst e
  refine (p1 _ _ _ _ n f).trans (Eq.trans ?_ ((r4 m c ⟨512 * t.val + n.val, by omega⟩ f).symm.trans (congrArg (ref4 m c) ?_)))
  · exact congrArg₂ (fun a b : EReal => a + b) (congrArg₂ (fun a b : EReal => a + b) (congrArg₂ (fun a b : EReal => a + b)
      ((congrFun (Memref.IsWhole.read_unread (hs0_0 m (ok m) t) _) _).trans (b0 m c t n f (by omega)))
      ((congrFun (Memref.IsWhole.read_unread (hs0_1 m (ok m) t) _) _).trans (b1 m c t n f (by omega))))
      ((congrFun (Memref.IsWhole.read_unread (hs0_2 m (ok m) t) _) _).trans (b2 m c t n f (by omega))))
      ((congrFun (Memref.IsWhole.read_unread (hs0_3 m (ok m) t) _) _).trans (b3 m c t n f (by omega)))
  · blk_ext [idx m t]

/-- The run with the array it leaves named and its arguments as they were. -/
theorem run_named (ρ : Dev nD → PrngReg) : θ_run defs (onTc (τ := τ) (main (F := Ideal))) ⟨m, fun _ => 0, ρ⟩ fun r => ∀ c : Dev nD,
    r.2.mem ((c : Thread nD τ).loc main_v1) = ref4 m c
    ∧ r.2.mem ((c : Thread nD τ).loc main_arg0) = pA m c ∧ r.2.mem ((c : Thread nD τ).loc main_arg1) = tA m c :=
  (θ_run defs _ _).mono (fun r h c => ⟨((h.1 c).1 4).trans (final4 m c), h.2 c⟩) (θ_run_and (run_main m ρ (ok m)) (unchanged m ρ (ok m)))

end Cert.PartSumIdeal.Arr

theorem Cert.PartSum.Gen.tables {F : FTy → Type} [FloatOps F] (m) : Cert.PartSum.Gen.Ok (F := F) m :=
  ⟨Cert.PartSumIdeal.Arr.inside 0, Cert.PartSumIdeal.Arr.inside 1, Cert.PartSumIdeal.Arr.inside 2, Cert.PartSumIdeal.Arr.inside 3⟩

end
-- ==== Proof.BigValue.lean ====
/- The update of a large weight from its own half of the gradient and the other one: each result of the call is the reference's array. -/
module

public import proofs.«01_k».proof.Proof.Gen.AdamBig.Frame
public import proofs.«01_k».proof.Proof.Gen.AdamBigIdeal.Frame
public import proofs.«01_k».proof.Proof.Gen.AdamBigRefIdeal.Read
public import proofs.«01_k».proof.Proof.Real
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.AdamBigIdeal.Arr
open Cert.AdamBigIdeal Cert.AdamBigIdeal.Gen

/-- Whether the half a point works on is the one held. -/
def held (i : grid0.Coords) : BitVec 1 := Scalar.cmpi .eq (BitVec.ofNat 32 (i 0).val) 0#32
/-- The row block of a gradient half: the point's where the half is read, else the first one. -/
def pick (b : BitVec 1) (i : grid0.Coords) : Fin 2 → Nat := ![(Scalar.select b (BitVec.ofNat 32 (i 1).val) 0#32).toNat, (0#32).toNat]
def at3 (i : grid0.Coords) : Fin 2 → Nat := pick (Scalar.xori (Scalar.xori (held i) 1#1) 1#1) i
def at4 (i : grid0.Coords) : Fin 2 → Nat := pick (Scalar.xori (Scalar.xori (held i) 0#1) 1#1) i

theorem inside3 : ∀ i : grid0.Coords, ∃ h : (∀ a, (at3 i a + 1) * S512x1024.size a ≤ S1024x1024.size a), EltTy.bits .f32 = 32 ∨ (Rect.block (s := S1024x1024) S512x1024.size (at3 i) h).WholeWords (EltTy.packing .f32) := by
  decide +kernel
theorem inside4 : ∀ i : grid0.Coords, ∃ h : (∀ a, (at4 i a + 1) * S512x1024.size a ≤ S1024x1024.size a), EltTy.bits .f32 = 32 ∨ (Rect.block (s := S1024x1024) S512x1024.size (at4 i) h).WholeWords (EltTy.packing .f32) := by
  decide +kernel

variable (m : (ℓ : Loc nD τ sig) → Buf (Elt Ideal) ℓ)

theorem ok : Ok m := ⟨fun i => inside3 i, fun i => inside4 i⟩

abbrev wA (c : Dev nD) : FVec Ideal S1x2048x1024 .f32 := m ((c : Thread nD τ).loc main_arg0)
abbrev mA (c : Dev nD) : FVec Ideal S1x2048x1024 .f32 := m ((c : Thread nD τ).loc main_arg1)
abbrev vA (c : Dev nD) : FVec Ideal S1x2048x1024 .f32 := m ((c : Thread nD τ).loc main_arg2)
abbrev oA (c : Dev nD) : FVec Ideal S1024x1024 .f32 := m ((c : Thread nD τ).loc main_arg3)
abbrev tA (c : Dev nD) : FVec Ideal S1024x1024 .f32 := m ((c : Thread nD τ).loc main_arg4)
abbrev ref5 (c : Dev nD) := Cert.AdamBigRefIdeal.Read.val_main_v1 (F := Ideal) (oA m c) (tA m c)
abbrev ref6 (c : Dev nD) := Cert.AdamBigRefIdeal.Read.val_main_v25 (F := Ideal) (wA m c) (mA m c) (vA m c) (oA m c) (tA m c)
abbrev ref7 (c : Dev nD) := Cert.AdamBigRefIdeal.Read.val_main_v6 (F := Ideal) (mA m c) (oA m c) (tA m c)
abbrev ref8 (c : Dev nD) := Cert.AdamBigRefIdeal.Read.val_main_v12 (F := Ideal) (vA m c) (oA m c) (tA m c)

theorem idxT : ∀ t : Fin grid0.N, held (grid0.coords t) = (if t.val < 2 then 1#1 else 0#1) ∧ cc0_transform_0 (grid0.coords t) = ![0, t.val, 0]
    ∧ at3 (grid0.coords t) = ![if t.val < 2 then t.val else 0, 0] ∧ at4 (grid0.coords t) = ![if t.val < 2 then 0 else t.val - 2, 0] := by
  decide +kernel
theorem idx (t : Fin (cfgM m (ok m)).N) : ((cfgM m (ok m)).win 0).index t = ![0, t.val, 0] ∧ ((cfgM m (ok m)).win 1).index t = ![0, t.val, 0] ∧ ((cfgM m (ok m)).win 2).index t = ![0, t.val, 0]
    ∧ ((cfgM m (ok m)).win 3).index t = ![if t.val < 2 then t.val else 0, 0] ∧ ((cfgM m (ok m)).win 4).index t = ![if t.val < 2 then 0 else t.val - 2, 0]
    ∧ ((cfgM m (ok m)).win 5).index t = ![0, t.val, 0] ∧ ((cfgM m (ok m)).win 6).index t = ![0, t.val, 0] ∧ ((cfgM m (ok m)).win 7).index t = ![0, t.val, 0] ∧ ((cfgM m (ok m)).win 8).index t = ![0, t.val, 0] :=
  ⟨(idxT t).2.1, (idxT t).2.1, (idxT t).2.1, (idxT t).2.2.1, (idxT t).2.2.2, (idxT t).2.1, (idxT t).2.1, (idxT t).2.1, (idxT t).2.1⟩

/-- The two running means and the step, entry by entry. -/
def updM (x g : Ideal .f32) : Ideal .f32 := FloatOps.addf (FloatOps.mulf (FloatOps.ofBits .f32 0x3F666666#32) x) (FloatOps.mulf (FloatOps.ofBits .f32 0x3DCCCCCD#32) g)
def updV (x g : Ideal .f32) : Ideal .f32 := FloatOps.addf (FloatOps.mulf (FloatOps.ofBits .f32 0x3F7FBE77#32) x) (FloatOps.mulf (FloatOps.ofBits .f32 0x3A83126F#32) (FloatOps.mulf g g))
def step (w a b : Ideal .f32) : Ideal .f32 :=
  FloatOps.mulf (FloatOps.ofBits .f32 0xBA83126F#32) (FloatOps.addf (FloatOps.divf (FloatOps.divf a (FloatOps.ofBits .f32 0x3F26BD02#32))
    (FloatOps.addf (FloatOps.sqrt (FloatOps.divf b (FloatOps.ofBits .f32 0x3C231ACC#32))) (FloatOps.ofBits .f32 0x322BCC77#32))) (FloatOps.mulf (FloatOps.ofBits .f32 0x3C23D70A#32) w))

variable (i : grid0.Coords) (v0 : BitVec 32) (x y : FVec Ideal S512x1024 .f32) (u v w : FVec Ideal S1x512x1024 .f32) (n : Fin 512) (f : Fin 1024)
theorem p5 : k0_pay1 (F := Ideal) x (ix3 0 n f) = x (ix2 n f) := by pointwise [k0_pay1]
theorem p6 : k0_pay2 (F := Ideal) (k0_pay8 i v0 x y u v w) (ix3 0 n f)
    = step (u (ix3 0 n f)) (updM (v (ix3 0 n f)) (k0_pay5 (F := Ideal) i v0 x y (ix2 n f))) (updV (w (ix3 0 n f)) (k0_pay5 (F := Ideal) i v0 x y (ix2 n f))) := by
  unfold k0_pay8 k0_pay7 k0_pay6
  generalize k0_pay5 (F := Ideal) i v0 x y = g
  pointwise [k0_pay2]
  rfl
theorem p7 : k0_pay3 (F := Ideal) (k0_pay6 i v0 x y v) (ix3 0 n f) = updM (v (ix3 0 n f)) (k0_pay5 (F := Ideal) i v0 x y (ix2 n f)) := by
  unfold k0_pay6
  generalize k0_pay5 (F := Ideal) i v0 x y = g
  pointwise [k0_pay3]
  rfl
theorem p8 : k0_pay4 (F := Ideal) (k0_pay7 i v0 x y w) (ix3 0 n f) = updV (w (ix3 0 n f)) (k0_pay5 (F := Ideal) i v0 x y (ix2 n f)) := by
  unfold k0_pay7
  generalize k0_pay5 (F := Ideal) i v0 x y = g
  pointwise [k0_pay4]
  rfl

variable (c : Dev nD) (j : S1x2048x1024.Idx)
theorem r7 : ref7 m c j = updM (mA m c j) (ref5 m c j) := rfl
theorem r8 : ref8 m c j = updV (vA m c j) (ref5 m c j) := rfl
theorem r6 : ref6 m c j = step (wA m c j) (ref7 m c j) (ref8 m c j) := rfl

theorem r5 (n : Fin 2048) (f : Fin 1024) : ref5 m c (ix3 0 n f) = if h : n.val < 1024 then oA m c (ix2 ⟨n.val, h⟩ f) else tA m c (ix2 ⟨n.val - 1024, by omega⟩ f) := by
  unfold ref5
  rw [← Cert.AdamBigRefIdeal.Read.val_main_v1_eq]
  pointwise

variable (t : Fin (cfgM m (ok m)).N) (h : 512 * t.val + n.val < 2048)
theorem b0 : (show FVec Ideal S1x512x1024 .f32 from iblk m (ok m) c 0 t) (ix3 0 n f) = wA m c (ix3 0 ⟨512 * t.val + n.val, h⟩ f) := by
  refine Eq.trans (b := (show FVec Ideal S1x2048x1024 .f32 from V m c main_arg0) (ix3 0 ⟨512 * t.val + n.val, h⟩ f)) (by blk_point [iblk, idx m t]) ?_
  rfl
theorem b1 : (show FVec Ideal S1x512x1024 .f32 from iblk m (ok m) c 1 t) (ix3 0 n f) = mA m c (ix3 0 ⟨512 * t.val + n.val, h⟩ f) := by
  refine Eq.trans (b := (show FVec Ideal S1x2048x1024 .f32 from V m c main_arg1) (ix3 0 ⟨512 * t.val + n.val, h⟩ f)) (by blk_point [iblk, idx m t]) ?_
  rfl
theorem b2 : (show FVec Ideal S1x512x1024 .f32 from iblk m (ok m) c 2 t) (ix3 0 n f) = vA m c (ix3 0 ⟨512 * t.val + n.val, h⟩ f) := by
  refine Eq.trans (b := (show FVec Ideal S1x2048x1024 .f32 from V m c main_arg2) (ix3 0 ⟨512 * t.val + n.val, h⟩ f)) (by blk_point [iblk, idx m t]) ?_
  rfl
theorem b3 (ht : t.val < 2) (h' : 512 * t.val + n.val < 1024) : (show FVec Ideal S512x1024 .f32 from iblk m (ok m) c 3 t) (ix2 n f) = oA m c (ix2 ⟨512 * t.val + n.val, h'⟩ f) := by
  refine Eq.trans (b := (show FVec Ideal S1024x1024 .f32 from V m c main_arg3) (ix2 ⟨512 * t.val + n.val, h'⟩ f)) (by blk_point [iblk, idx m t, if_pos ht]) ?_
  rfl
theorem b4 (ht : ¬t.val < 2) (h' : 512 * t.val + n.val - 1024 < 1024) : (show FVec Ideal S512x1024 .f32 from iblk m (ok m) c 4 t) (ix2 n f) = tA m c (ix2 ⟨512 * t.val + n.val - 1024, h'⟩ f) := by
  refine Eq.trans (b := (show FVec Ideal S1024x1024 .f32 from V m c main_arg4) (ix2 ⟨512 * t.val + n.val - 1024, h'⟩ f)) (by blk_point [iblk, idx m t, if_neg ht]) ?_
  rfl

theorem grad : k0_pay5 (F := Ideal) (grid0.coords t) 0#32 (iblk m (ok m) c 3 t) (iblk m (ok m) c 4 t) (ix2 n f) = ref5 m c (ix3 0 ⟨512 * t.val + n.val, h⟩ f) := by
  have hh : held (grid0.coords t) = _ := (idxT t).1
  rw [r5]
  by_cases ht : t.val < 2
  · have h' : 512 * t.val + n.val < 1024 := by omega
    rw [if_pos ht] at hh
    rw [dif_pos h', ← b3 m n f c t ht h']
    show (Scalar.select (held (grid0.coords t)) _ _ : FVec Ideal S512x1024 .f32) _ = _
    rw [hh]
    rfl
  · have h' : ¬ 512 * t.val + n.val < 1024 := by omega
    rw [if_neg ht] at hh
    rw [dif_neg h', ← b4 m n f c t ht (by omega)]
    show (Scalar.select (held (grid0.coords t)) _ _ : FVec Ideal S512x1024 .f32) _ = _
    rw [hh]
    rfl

/-- The block a point writes, entry by entry, is where the point's rows lie. -/
theorem place (y : S1x512x1024.Idx) : ∃ n : Fin 512, ∃ f : Fin 1024, ∃ h : 512 * t.val + n.val < 2048, y = ix3 0 n f
    ∧ ((spec0 5).arr.view.slice ((pcfg0.win (adm m (ok m)) 5).rect t)).emb (ix3 0 n f) = ix3 0 ⟨512 * t.val + n.val, h⟩ f := by
  have ht : t.val < 4 := t.isLt
  have ei : (pcfg0.win (adm m (ok m)) 5).index t = ![0, t.val, 0] := (idxT t).2.1
  obtain ⟨a, n, f, rfl⟩ : ∃ a n f, y = ix3 a n f := ⟨y 0, y 1, y 2, eq_ix3 _⟩
  obtain rfl : a = 0 := Subsingleton.elim _ _
  refine ⟨n, f, by omega, rfl, ?_⟩
  blk_ext [ei]

/-- What the body reads of each window at a point, in the arrays. -/
theorem q0 : View.read (Elt Ideal) (ms0_0 m (ok m) t).view ((hs0_0 m (ok m) t).unread (iblk m (ok m) c 0 t)) (ix3 0 n f) = wA m c (ix3 0 ⟨512 * t.val + n.val, h⟩ f) :=
  (congrFun (Memref.IsWhole.read_unread (hs0_0 m (ok m) t) _) _).trans (b0 m n f c t h)
theorem q1 : View.read (Elt Ideal) (ms0_1 m (ok m) t).view ((hs0_1 m (ok m) t).unread (iblk m (ok m) c 1 t)) (ix3 0 n f) = mA m c (ix3 0 ⟨512 * t.val + n.val, h⟩ f) :=
  (congrFun (Memref.IsWhole.read_unread (hs0_1 m (ok m) t) _) _).trans (b1 m n f c t h)
theorem q2 : View.read (Elt Ideal) (ms0_2 m (ok m) t).view ((hs0_2 m (ok m) t).unread (iblk m (ok m) c 2 t)) (ix3 0 n f) = vA m c (ix3 0 ⟨512 * t.val + n.val, h⟩ f) :=
  (congrFun (Memref.IsWhole.read_unread (hs0_2 m (ok m) t) _) _).trans (b2 m n f c t h)
theorem qg : k0_pay5 (F := Ideal) (grid0.coords t) 0#32 (View.read (Elt Ideal) (ms0_3 m (ok m) t).view ((hs0_3 m (ok m) t).unread (iblk m (ok m) c 3 t)))
    (View.read (Elt Ideal) (ms0_4 m (ok m) t).view ((hs0_4 m (ok m) t).unread (iblk m (ok m) c 4 t))) (ix2 n f) = ref5 m c (ix3 0 ⟨512 * t.val + n.val, h⟩ f) :=
  (congrFun (congrArg₂ (k0_pay5 (F := Ideal) (grid0.coords t) 0#32) (Memref.IsWhole.read_unread (hs0_3 m (ok m) t) _) (Memref.IsWhole.read_unread (hs0_4 m (ok m) t) _)) _).trans (grad m n f c t h)

theorem final5 (c : Dev nD) : (dats m (ok m) 0 c).arrAt 5 (cfgM m (ok m)).N = ref5 m c := by
  refine (dats m (ok m) 0 c).arrAt_eq_of_covers 5 _ (of_decide_eq_true (by sl_kernel_rfl)) fun t _ y => ?_
  obtain ⟨n, f, h, e, ej⟩ := place m t y
  blk_simp
  rw [after0_5]
  unfold outsAt0
  frame_out
  refine (congrArg _ e).trans (Eq.trans ?_ (congrArg (ref5 m c) ((congrArg _ e).trans ej)).symm)
  exact (p5 _ n f).trans (qg m n f c t h)

theorem final7 (c : Dev nD) : (dats m (ok m) 0 c).arrAt 7 (cfgM m (ok m)).N = ref7 m c := by
  refine (dats m (ok m) 0 c).arrAt_eq_of_covers 7 _ (of_decide_eq_true (by sl_kernel_rfl)) fun t _ y => ?_
  obtain ⟨n, f, h, e, ej⟩ := place m t y
  blk_simp
  rw [after0_7]
  unfold outsAt0
  frame_out
  refine (congrArg _ e).trans (Eq.trans ?_ (congrArg (ref7 m c) ((congrArg _ e).trans ej)).symm)
  exact (p7 _ _ _ _ _ n f).trans ((congrArg₂ updM (q1 m n f c t h) (qg m n f c t h)).trans (r7 m c _).symm)

theorem final8 (c : Dev nD) : (dats m (ok m) 0 c).arrAt 8 (cfgM m (ok m)).N = ref8 m c := by
  refine (dats m (ok m) 0 c).arrAt_eq_of_covers 8 _ (of_decide_eq_true (by sl_kernel_rfl)) fun t _ y => ?_
  obtain ⟨n, f, h, e, ej⟩ := place m t y
  blk_simp
  rw [after0_8]
  unfold outsAt0
  frame_out
  refine (congrArg _ e).trans (Eq.trans ?_ (congrArg (ref8 m c) ((congrArg _ e).trans ej)).symm)
  exact (p8 _ _ _ _ _ n f).trans ((congrArg₂ updV (q2 m n f c t h) (qg m n f c t h)).trans (r8 m c _).symm)

theorem step_congr {a a' b b' d d' : Ideal .f32} (h : a = a') (h' : b = b') (h'' : d = d') : step a b d = step a' b' d' := by rw [h, h', h'']

theorem final6 (c : Dev nD) : (dats m (ok m) 0 c).arrAt 6 (cfgM m (ok m)).N = ref6 m c := by
  refine (dats m (ok m) 0 c).arrAt_eq_of_covers 6 _ (of_decide_eq_true (by sl_kernel_rfl)) fun t _ y => ?_
  obtain ⟨n, f, h, e, ej⟩ := place m t y
  blk_simp
  rw [after0_6]
  unfold outsAt0
  frame_out
  refine (congrArg _ e).trans (Eq.trans ?_ (congrArg (ref6 m c) ((congrArg _ e).trans ej)).symm)
  exact (p6 _ _ _ _ _ _ _ n f).trans ((step_congr (q0 m n f c t h) (congrArg₂ updM (q1 m n f c t h) (qg m n f c t h)) (congrArg₂ updV (q2 m n f c t h) (qg m n f c t h))).trans (r6 m c _).symm)

/-- The run with the arrays it leaves named and its arguments as they were. -/
theorem run_named (ρ : Dev nD → PrngReg) : θ_run defs (onTc (τ := τ) (main (F := Ideal))) ⟨m, fun _ => 0, ρ⟩ fun r => ∀ c : Dev nD,
    r.2.mem ((c : Thread nD τ).loc main_v1_0) = ref5 m c ∧ r.2.mem ((c : Thread nD τ).loc main_v1_1) = ref6 m c
    ∧ r.2.mem ((c : Thread nD τ).loc main_v1_2) = ref7 m c ∧ r.2.mem ((c : Thread nD τ).loc main_v1_3) = ref8 m c
    ∧ r.2.mem ((c : Thread nD τ).loc main_arg0) = wA m c
    ∧ r.2.mem ((c : Thread nD τ).loc main_arg1) = mA m c
    ∧ r.2.mem ((c : Thread nD τ).loc main_arg2) = vA m c
    ∧ r.2.mem ((c : Thread nD τ).loc main_arg3) = oA m c
    ∧ r.2.mem ((c : Thread nD τ).loc main_arg4) = tA m c :=
  (θ_run defs _ _).mono (fun r h c => ⟨((h.1 c).1 5).trans (final5 m c), ((h.1 c).1 6).trans (final6 m c), ((h.1 c).1 7).trans (final7 m c), ((h.1 c).1 8).trans (final8 m c), h.2 c⟩)
    (θ_run_and (run_main m ρ (ok m)) (unchanged m ρ (ok m)))

end Cert.AdamBigIdeal.Arr

theorem Cert.AdamBig.Gen.tables {F : FTy → Type} [FloatOps F] (m) : Cert.AdamBig.Gen.Ok (F := F) m :=
  ⟨fun i => Cert.AdamBigIdeal.Arr.inside3 i, fun i => Cert.AdamBigIdeal.Arr.inside4 i⟩

end
-- ==== Proof.RestClaim.lean ====
/- The claims on the plain products, the updates of the weights, the sums of the exchanges and the cast of a weight: the runs of each call and of its reference, side by side. -/
module

public import proofs.«01_k».proof.Proof.DownValue
public import proofs.«01_k».proof.Proof.DxValue
public import proofs.«01_k».proof.Proof.DwValue
public import proofs.«01_k».proof.Proof.ElemValue
public import proofs.«01_k».proof.Proof.SumValue
public import proofs.«01_k».proof.Proof.BigValue
public import proofs.«01_k».proof.Proof.Gen.DownRefIdeal.Run
public import proofs.«01_k».proof.Proof.Gen.DxRefIdeal.Run
public import proofs.«01_k».proof.Proof.Gen.DwRefIdeal.Run
public import proofs.«01_k».proof.Proof.Gen.AdamRefIdeal.Run
public import proofs.«01_k».proof.Proof.Gen.ChipSumRefIdeal.Run
public import proofs.«01_k».proof.Proof.Gen.PartSumRefIdeal.Run
public import proofs.«01_k».proof.Proof.Gen.SliceSumRefIdeal.Run
public import proofs.«01_k».proof.Proof.Gen.AdamBigRefIdeal.Run
public import proofs.«01_k».proof.Proof.Gen.CastRefIdeal.Run
public import proofs.«01_k».proof.Proof.Real
public import Idealize.ShloMosaic.Lib.Claim

public import proofs.«01_k».proof.Defs

@[expose] public section

set_option maxRecDepth 16384

noncomputable section

open Idealize.ShloMosaic Idealize.ShloMosaic.TcCoe Idealize.SL.Sem
open Idealize.ShloMosaic.Pipeline (Dat)

namespace Cert.Rest

theorem algebraic_down : Cert.algebraic_DownIdeal_DownRefIdeal (hDownIdeal := Cert.DownIdeal.Gen.facts) (hDownRefIdeal := Cert.DownRefIdeal.Gen.facts) := by
  intro m g m' g' _ hag
  refine ⟨fun c => Cert.DownIdeal.Arr.ref3 m c, ?_, ?_⟩
  · refine (θ_run _ _ _).mono (fun r h c => ?_) (Cert.DownIdeal.Value.run_blocks m g)
    obtain ⟨h0, hr⟩ := h c
    exact ⟨h0.trans (Cert.DownIdeal.Arr.final3 m c), hr⟩
  · refine (θ_run _ _ _).mono (fun r h c => ?_) (Cert.DownRefIdeal.Value.run m' g')
    obtain ⟨h0, hr⟩ := h c
    obtain ⟨e0, e1, e2⟩ := hag c
    replace h0 := h0.trans (Cert.DownRefIdeal.Read.val_main_v1_eq _ _ _)
    rw [e0, e1, e2] at h0
    exact ⟨h0, hr⟩

theorem frame_down_ref : Cert.quiescent_DownRefIdeal (hDownRefIdeal := Cert.DownRefIdeal.Gen.facts) := fun m ρ _ =>
  (θ_run _ _ _).mono (fun r h => ⟨fun c => (h c).2, sem_eq_zero_of_no_sems rfl _⟩) (Cert.DownRefIdeal.Value.run m ρ)

theorem algebraic_dx : Cert.algebraic_DxIdeal_DxRefIdeal (hDxIdeal := Cert.DxIdeal.Gen.facts) (hDxRefIdeal := Cert.DxRefIdeal.Gen.facts) := by
  intro m g m' g' _ hag
  refine ⟨fun c => Cert.DxIdeal.Arr.ref4 m c, ?_, ?_⟩
  · refine (θ_run _ _ _).mono (fun r h c => ?_) (Cert.DxIdeal.Value.run_blocks m g)
    obtain ⟨h0, hr⟩ := h c
    exact ⟨h0.trans (Cert.DxIdeal.Arr.final4 m c), hr⟩
  · refine (θ_run _ _ _).mono (fun r h c => ?_) (Cert.DxRefIdeal.Value.run m' g')
    obtain ⟨h0, hr⟩ := h c
    obtain ⟨e0, e1, e2, e3⟩ := hag c
    replace h0 := h0.trans (Cert.DxRefIdeal.Read.val_main_v5_eq _ _ _ _)
    rw [e0, e1, e2, e3] at h0
    exact ⟨h0, hr⟩

theorem frame_dx_ref : Cert.quiescent_DxRefIdeal (hDxRefIdeal := Cert.DxRefIdeal.Gen.facts) := fun m ρ _ =>
  (θ_run _ _ _).mono (fun r h => ⟨fun c => (h c).2, sem_eq_zero_of_no_sems rfl _⟩) (Cert.DxRefIdeal.Value.run m ρ)

theorem algebraic_dw : Cert.algebraic_DwIdeal_DwRefIdeal (hDwIdeal := Cert.DwIdeal.Gen.facts) (hDwRefIdeal := Cert.DwRefIdeal.Gen.facts) := by
  intro m g m' g' _ hag
  refine ⟨fun c => Cert.DwIdeal.Arr.ref3 m c, fun c => Cert.DwIdeal.Arr.ref4 m c, ?_, ?_⟩
  · refine (θ_run _ _ _).mono (fun r h c => ?_) (Cert.DwIdeal.Value.run_blocks m g)
    obtain ⟨h0, h1, hr⟩ := h c
    exact ⟨h0.trans (Cert.DwIdeal.Arr.final3 m c), h1.trans (Cert.DwIdeal.Arr.final4 m c), hr⟩
  · refine (θ_run _ _ _).mono (fun r h c => ?_) (Cert.DwRefIdeal.Value.run m' g')
    obtain ⟨h0, h1, hr⟩ := h c
    obtain ⟨e0, e1, e2⟩ := hag c
    replace h0 := h0.trans (Cert.DwRefIdeal.Read.val_main_v9_eq _ _)
    rw [e0, e1] at h0
    replace h1 := h1.trans (Cert.DwRefIdeal.Read.val_main_v12_eq _ _)
    rw [e0, e2] at h1
    exact ⟨h0, h1, hr⟩

theorem frame_dw_ref : Cert.quiescent_DwRefIdeal (hDwRefIdeal := Cert.DwRefIdeal.Gen.facts) := fun m ρ _ =>
  (θ_run _ _ _).mono (fun r h => ⟨fun c => (h c).2.2, sem_eq_zero_of_no_sems rfl _⟩) (Cert.DwRefIdeal.Value.run m ρ)

theorem algebraic_adam : Cert.algebraic_AdamIdeal_AdamRefIdeal (hAdamIdeal := Cert.AdamIdeal.Gen.facts) (hAdamRefIdeal := Cert.AdamRefIdeal.Gen.facts) := by
  intro m g m' g' _ hag
  refine ⟨fun c => Cert.AdamIdeal.Arr.ref4 m c, fun c => Cert.AdamIdeal.Arr.ref5 m c, fun c => Cert.AdamIdeal.Arr.ref6 m c, ?_, ?_⟩
  · refine (θ_run _ _ _).mono (fun r h c => ?_) (Cert.AdamIdeal.Value.run m g)
    obtain ⟨h0, h1, h2, hr⟩ := h c
    exact ⟨h0.trans (Cert.AdamIdeal.Arr.eq4 m c), h1.trans (Cert.AdamIdeal.Arr.eq5 m c), h2.trans (Cert.AdamIdeal.Arr.eq6 m c), hr⟩
  · refine (θ_run _ _ _).mono (fun r h c => ?_) (Cert.AdamRefIdeal.Value.run m' g')
    obtain ⟨h0, h1, h2, hr⟩ := h c
    obtain ⟨e0, e1, e2, e3⟩ := hag c
    replace h0 := h0.trans (Cert.AdamRefIdeal.Read.val_main_v23_eq _ _ _ _)
    rw [e0, e1, e2, e3] at h0
    replace h1 := h1.trans (Cert.AdamRefIdeal.Read.val_main_v4_eq _ _)
    rw [e1, e2] at h1
    replace h2 := h2.trans (Cert.AdamRefIdeal.Read.val_main_v10_eq _ _)
    rw [e1, e3] at h2
    exact ⟨h0, h1, h2, hr⟩

theorem frame_adam_ref : Cert.quiescent_AdamRefIdeal (hAdamRefIdeal := Cert.AdamRefIdeal.Gen.facts) := fun m ρ _ =>
  (θ_run _ _ _).mono (fun r h => ⟨fun c => (h c).2.2.2, sem_eq_zero_of_no_sems rfl _⟩) (Cert.AdamRefIdeal.Value.run m ρ)

theorem algebraic_chipsum : Cert.algebraic_ChipSumIdeal_ChipSumRefIdeal (hChipSumIdeal := Cert.ChipSumIdeal.Gen.facts) (hChipSumRefIdeal := Cert.ChipSumRefIdeal.Gen.facts) := by
  intro m g m' g' _ hag
  refine ⟨fun c => Cert.ChipSumIdeal.Arr.ref2 m c, ?_, ?_⟩
  · exact Cert.ChipSumIdeal.Arr.run_named m g
  · refine (θ_run _ _ _).mono (fun r h c => ?_) (Cert.ChipSumRefIdeal.Value.run m' g')
    obtain ⟨h0, hr⟩ := h c
    obtain ⟨e0, e1⟩ := hag c
    replace h0 := h0.trans (Cert.ChipSumRefIdeal.Read.val_main_v5_eq _ _)
    rw [e0, e1] at h0
    exact ⟨h0, hr⟩

theorem frame_chipsum_ref : Cert.quiescent_ChipSumRefIdeal (hChipSumRefIdeal := Cert.ChipSumRefIdeal.Gen.facts) := fun m ρ _ =>
  (θ_run _ _ _).mono (fun r h => ⟨fun c => (h c).2, sem_eq_zero_of_no_sems rfl _⟩) (Cert.ChipSumRefIdeal.Value.run m ρ)

theorem algebraic_partsum : Cert.algebraic_PartSumIdeal_PartSumRefIdeal (hPartSumIdeal := Cert.PartSumIdeal.Gen.facts) (hPartSumRefIdeal := Cert.PartSumRefIdeal.Gen.facts) := by
  intro m g m' g' _ hag
  refine ⟨fun c => Cert.PartSumIdeal.Arr.ref4 m c, ?_, ?_⟩
  · exact Cert.PartSumIdeal.Arr.run_named m g
  · refine (θ_run _ _ _).mono (fun r h c => ?_) (Cert.PartSumRefIdeal.Value.run m' g')
    obtain ⟨h0, hr⟩ := h c
    obtain ⟨e0, e1⟩ := hag c
    replace h0 := h0.trans (Cert.PartSumRefIdeal.Read.val_main_v6_eq _ _)
    rw [e0, e1] at h0
    exact ⟨h0, hr⟩

theorem frame_partsum_ref : Cert.quiescent_PartSumRefIdeal (hPartSumRefIdeal := Cert.PartSumRefIdeal.Gen.facts) := fun m ρ _ =>
  (θ_run _ _ _).mono (fun r h => ⟨fun c => (h c).2, sem_eq_zero_of_no_sems rfl _⟩) (Cert.PartSumRefIdeal.Value.run m ρ)

theorem algebraic_slicesum : Cert.algebraic_SliceSumIdeal_SliceSumRefIdeal (hSliceSumIdeal := Cert.SliceSumIdeal.Gen.facts) (hSliceSumRefIdeal := Cert.SliceSumRefIdeal.Gen.facts) := by
  intro m g m' g' _ hag
  refine ⟨fun c => Cert.SliceSumIdeal.Arr.ref2 m c, ?_, ?_⟩
  · refine (θ_run _ _ _).mono (fun r h c => ?_) (Cert.SliceSumIdeal.Value.run_blocks m g)
    obtain ⟨h0, hr⟩ := h c
    exact ⟨h0.trans (Cert.SliceSumIdeal.Arr.final2 m c), hr⟩
  · refine (θ_run _ _ _).mono (fun r h c => ?_) (Cert.SliceSumRefIdeal.Value.run m' g')
    obtain ⟨h0, hr⟩ := h c
    obtain ⟨e0, e1⟩ := hag c
    replace h0 := h0.trans (Cert.SliceSumRefIdeal.Read.val_main_v4_eq _ _)
    rw [e0, e1] at h0
    exact ⟨h0, hr⟩

theorem frame_slicesum_ref : Cert.quiescent_SliceSumRefIdeal (hSliceSumRefIdeal := Cert.SliceSumRefIdeal.Gen.facts) := fun m ρ _ =>
  (θ_run _ _ _).mono (fun r h => ⟨fun c => (h c).2, sem_eq_zero_of_no_sems rfl _⟩) (Cert.SliceSumRefIdeal.Value.run m ρ)

theorem algebraic_adambig : Cert.algebraic_AdamBigIdeal_AdamBigRefIdeal (hAdamBigIdeal := Cert.AdamBigIdeal.Gen.facts) (hAdamBigRefIdeal := Cert.AdamBigRefIdeal.Gen.facts) := by
  intro m g m' g' _ hag
  refine ⟨fun c => Cert.AdamBigIdeal.Arr.ref5 m c, fun c => Cert.AdamBigIdeal.Arr.ref6 m c, fun c => Cert.AdamBigIdeal.Arr.ref7 m c, fun c => Cert.AdamBigIdeal.Arr.ref8 m c, ?_, ?_⟩
  · exact Cert.AdamBigIdeal.Arr.run_named m g
  · refine (θ_run _ _ _).mono (fun r h c => ?_) (Cert.AdamBigRefIdeal.Value.run m' g')
    obtain ⟨h0, h1, h2, h3, hr⟩ := h c
    obtain ⟨e0, e1, e2, e3, e4⟩ := hag c
    replace h0 := h0.trans (Cert.AdamBigRefIdeal.Read.val_main_v1_eq _ _)
    rw [e3, e4] at h0
    replace h1 := h1.trans (Cert.AdamBigRefIdeal.Read.val_main_v25_eq _ _ _ _ _)
    rw [e0, e1, e2, e3, e4] at h1
    replace h2 := h2.trans (Cert.AdamBigRefIdeal.Read.val_main_v6_eq _ _ _)
    rw [e1, e3, e4] at h2
    replace h3 := h3.trans (Cert.AdamBigRefIdeal.Read.val_main_v12_eq _ _ _)
    rw [e2, e3, e4] at h3
    exact ⟨h0, h1, h2, h3, hr⟩

theorem frame_adambig_ref : Cert.quiescent_AdamBigRefIdeal (hAdamBigRefIdeal := Cert.AdamBigRefIdeal.Gen.facts) := fun m ρ _ =>
  (θ_run _ _ _).mono (fun r h => ⟨fun c => (h c).2.2.2.2, sem_eq_zero_of_no_sems rfl _⟩) (Cert.AdamBigRefIdeal.Value.run m ρ)

theorem algebraic_cast : Cert.algebraic_CastIdeal_CastRefIdeal (hCastIdeal := Cert.CastIdeal.Gen.facts) (hCastRefIdeal := Cert.CastRefIdeal.Gen.facts) := by
  intro m g m' g' _ hag
  refine ⟨fun c => Cert.CastIdeal.Arr.ref1 m c, ?_, ?_⟩
  · refine (θ_run _ _ _).mono (fun r h c => ?_) (Cert.CastIdeal.Value.run_blocks m g)
    obtain ⟨h0, hr⟩ := h c
    exact ⟨h0.trans (Cert.CastIdeal.Arr.final1 m c), hr⟩
  · refine (θ_run _ _ _).mono (fun r h c => ?_) (Cert.CastRefIdeal.Value.run m' g')
    obtain ⟨h0, hr⟩ := h c
    have e0 := hag c
    replace h0 := h0.trans (Cert.CastRefIdeal.Read.val_main_v3_eq _)
    rw [e0] at h0
    exact ⟨h0, hr⟩

theorem frame_cast_ref : Cert.quiescent_CastRefIdeal (hCastRefIdeal := Cert.CastRefIdeal.Gen.facts) := fun m ρ _ =>
  (θ_run _ _ _).mono (fun r h => ⟨fun c => (h c).2, sem_eq_zero_of_no_sems rfl _⟩) (Cert.CastRefIdeal.Value.run m ρ)

end Cert.Rest

end
-- ==== Proof.PackValue.lean ====
/- What is packed for one exchange comes back unpacked. -/
module

public import proofs.«01_k».proof.Proof.Gen.Pack.Run
public import proofs.«01_k».proof.Proof.Gen.PackIdeal.Read
public import proofs.«01_k».proof.Proof.Gen.PackRefIdeal
public import proofs.«01_k».proof.Proof.Real
public import Idealize.ShloMosaic.Lib.Claim
public import Idealize.ShloMosaic.Lib.KernelVsHost
public import Idealize.ShloMosaic.Lib.StableHlo.Run

public import proofs.«01_k».proof.Defs

@[expose] public section

set_option maxRecDepth 16384

noncomputable section

open Idealize.ShloMosaic Idealize.ShloMosaic.TcCoe Idealize.SL.Sem Idealize.ShloMosaic.StableHlo

namespace Cert.PackIdeal.Arr
open Cert.PackIdeal Cert.PackIdeal.Gen Cert.PackIdeal.Read

variable (x0 x1 x2 : (⟨S2x2048, .f32⟩ : BufTy).Contents (Elt Ideal)) (x3 : (⟨S2048, .f32⟩ : BufTy).Contents (Elt Ideal)) (x4 x5 : (⟨S1x2048, .f32⟩ : BufTy).Contents (Elt Ideal)) (x6 : (⟨S1x16x128x128, .f32⟩ : BufTy).Contents (Elt Ideal)) (x7 : (⟨S1x16x128, .f32⟩ : BufTy).Contents (Elt Ideal)) (x8 x9 : (⟨S1x64x128, .f32⟩ : BufTy).Contents (Elt Ideal)) (x10 : (⟨S1x128, .f32⟩ : BufTy).Contents (Elt Ideal)) (x11 x12 : (⟨S1x64x16x128, .f32⟩ : BufTy).Contents (Elt Ideal)) (x13 x14 : (⟨S1x16x64x128, .f32⟩ : BufTy).Contents (Elt Ideal)) (x15 : (⟨S1x2048, .f32⟩ : BufTy).Contents (Elt Ideal))

/-- The arrays in the order they are packed in, each as one row. -/
def parts : List ((s : Shape) × (s.Idx → Ideal .f32)) := [⟨S4096, val_main_v0 x0⟩, ⟨S4096, val_main_v1 x1⟩, ⟨S4096, val_main_v2 x2⟩, ⟨S2048, x3⟩, ⟨S2048, val_main_v3 x4⟩, ⟨S2048, val_main_v4 x5⟩, ⟨S262144, val_main_v5 x6⟩, ⟨S2048, val_main_v6 x7⟩, ⟨S8192, val_main_v7 x8⟩, ⟨S8192, val_main_v8 x9⟩, ⟨S128, val_main_v9 x10⟩, ⟨S131072, val_main_v10 x11⟩, ⟨S131072, val_main_v11 x12⟩, ⟨S131072, val_main_v12 x13⟩, ⟨S131072, val_main_v13 x14⟩, ⟨S2048, val_main_v14 x15⟩]

/-- The elements before array `k` in the row. -/
def before (k : Nat) : Nat := ((([S4096, S4096, S4096, S2048, S2048, S2048, S262144, S2048, S8192, S8192, S128, S131072, S131072, S131072, S131072, S2048] : List Shape).take k).map fun s => if h : s.rank = S825472.rank then s.size ((0 : Fin 1).cast h.symm) else 0).sum

variable {x0 x1 x2 x3 x4 x5 x6 x7 x8 x9 x10 x11 x12 x13 x14 x15}

theorem flat_eq : val_main_v19 (F := Ideal) x0 x1 x2 x3 x4 x5 x6 x7 x8 x9 x10 x11 x12 x13 x14 x15 = val_main_v16 x0 x1 x2 x3 x4 x5 x6 x7 x8 x9 x10 x11 x12 x13 x14 x15 := by
  unfold val_main_v19 val_main_v18 val_main_v17
  rw [shapeCast_comp, shapeCast_comp, shapeCast_id]

/-- The part of the packed row that belongs to array `k` is that array. -/
theorem part {n off : Nat} (k : Nat) (hk : k < 16) (x : (⟨1, ![n]⟩ : Shape).Idx → Ideal .f32) (hx : (parts x0 x1 x2 x3 x4 x5 x6 x7 x8 x9 x10 x11 x12 x13 x14 x15)[k]'hk = ⟨⟨1, ![n]⟩, x⟩)
    (hpre : before k = off)
    (hs : S827392.Slices ![off] ⟨1, ![n]⟩) (hn : off + n ≤ 825472) : extractStridedSlice ⟨1, ![n]⟩ ![off] (val_main_v19 (F := Ideal) x0 x1 x2 x3 x4 x5 x6 x7 x8 x9 x10 x11 x12 x13 x14 x15) hs = x := by
  rw [flat_eq]
  funext q
  unfold extractStridedSlice val_main_v16
  have hq : (q 0).val < n := (q 0).isLt
  have hl : off + (q 0).val < 825472 := by omega
  refine (pad_apply_of_inside (s := S825472) _ _ _ _ _ _ _ _ (fun a => match a with | 0 => ⟨off + (q 0).val, hl⟩) fun a => ?_).trans ?_
  · match a with
    | 0 => show off + (q 0).val = 0 + (off + (q 0).val) * (0 + 1); omega
  · refine concatenate_apply_piece (t := S825472) 0 (parts x0 x1 x2 x3 x4 x5 x6 x7 x8 x9 x10 x11 x12 x13 x14 x15) _ _ k hk _ x hx rfl off (by rw [List.map_take]; exact hpre) q (fun b hb => ?_) ?_
    · match b with
      | 0 => exact absurd rfl hb
    · rfl

/-- An array laid out as a row, taken from the packed row, is the array. -/
theorem back {s : Shape} {n : Nat} (off k : Nat) (hk : k < 16) (x : s.Idx → Ideal .f32) (h : s.ShapeCasts ⟨1, ![n]⟩)
    (hx : (parts x0 x1 x2 x3 x4 x5 x6 x7 x8 x9 x10 x11 x12 x13 x14 x15)[k]'hk = ⟨⟨1, ![n]⟩, shapeCast _ x h⟩)
    (hpre : before k = off)
    (hs : S827392.Slices ![off] ⟨1, ![n]⟩) (hn : off + n ≤ 825472) (h' : (⟨1, ![n]⟩ : Shape).ShapeCasts s) :
    shapeCast s (extractStridedSlice ⟨1, ![n]⟩ ![off] (val_main_v19 (F := Ideal) x0 x1 x2 x3 x4 x5 x6 x7 x8 x9 x10 x11 x12 x13 x14 x15) hs) h' = x := by
  rw [part k hk _ hx hpre hs hn]
  exact shapeCast_shapeCast x h h'

theorem at0 : val_main_v21 (F := Ideal) x0 x1 x2 x3 x4 x5 x6 x7 x8 x9 x10 x11 x12 x13 x14 x15 = x0 := back 0 0 (by decide) x0 _ rfl (by decide +kernel) _ (by decide) _
theorem at1 : val_main_v23 (F := Ideal) x0 x1 x2 x3 x4 x5 x6 x7 x8 x9 x10 x11 x12 x13 x14 x15 = x1 := back 4096 1 (by decide) x1 _ rfl (by decide +kernel) _ (by decide) _
theorem at2 : val_main_v25 (F := Ideal) x0 x1 x2 x3 x4 x5 x6 x7 x8 x9 x10 x11 x12 x13 x14 x15 = x2 := back 8192 2 (by decide) x2 _ rfl (by decide +kernel) _ (by decide) _
theorem at3 : val_main_v26 (F := Ideal) x0 x1 x2 x3 x4 x5 x6 x7 x8 x9 x10 x11 x12 x13 x14 x15 = x3 := part (off := 12288) 3 (by decide) x3 rfl (by decide +kernel) _ (by decide)
theorem at4 : val_main_v28 (F := Ideal) x0 x1 x2 x3 x4 x5 x6 x7 x8 x9 x10 x11 x12 x13 x14 x15 = x4 := back 14336 4 (by decide) x4 _ rfl (by decide +kernel) _ (by decide) _
theorem at5 : val_main_v30 (F := Ideal) x0 x1 x2 x3 x4 x5 x6 x7 x8 x9 x10 x11 x12 x13 x14 x15 = x5 := back 16384 5 (by decide) x5 _ rfl (by decide +kernel) _ (by decide) _
theorem at6 : val_main_v32 (F := Ideal) x0 x1 x2 x3 x4 x5 x6 x7 x8 x9 x10 x11 x12 x13 x14 x15 = x6 := back 18432 6 (by decide) x6 _ rfl (by decide +kernel) _ (by decide) _
theorem at7 : val_main_v34 (F := Ideal) x0 x1 x2 x3 x4 x5 x6 x7 x8 x9 x10 x11 x12 x13 x14 x15 = x7 := back 280576 7 (by decide) x7 _ rfl (by decide +kernel) _ (by decide) _
theorem at8 : val_main_v36 (F := Ideal) x0 x1 x2 x3 x4 x5 x6 x7 x8 x9 x10 x11 x12 x13 x14 x15 = x8 := back 282624 8 (by decide) x8 _ rfl (by decide +kernel) _ (by decide) _
theorem at9 : val_main_v38 (F := Ideal) x0 x1 x2 x3 x4 x5 x6 x7 x8 x9 x10 x11 x12 x13 x14 x15 = x9 := back 290816 9 (by decide) x9 _ rfl (by decide +kernel) _ (by decide) _
theorem at10 : val_main_v40 (F := Ideal) x0 x1 x2 x3 x4 x5 x6 x7 x8 x9 x10 x11 x12 x13 x14 x15 = x10 := back 299008 10 (by decide) x10 _ rfl (by decide +kernel) _ (by decide) _
theorem at11 : val_main_v42 (F := Ideal) x0 x1 x2 x3 x4 x5 x6 x7 x8 x9 x10 x11 x12 x13 x14 x15 = x11 := back 299136 11 (by decide) x11 _ rfl (by decide +kernel) _ (by decide) _
theorem at12 : val_main_v44 (F := Ideal) x0 x1 x2 x3 x4 x5 x6 x7 x8 x9 x10 x11 x12 x13 x14 x15 = x12 := back 430208 12 (by decide) x12 _ rfl (by decide +kernel) _ (by decide) _
theorem at13 : val_main_v46 (F := Ideal) x0 x1 x2 x3 x4 x5 x6 x7 x8 x9 x10 x11 x12 x13 x14 x15 = x13 := back 561280 13 (by decide) x13 _ rfl (by decide +kernel) _ (by decide) _
theorem at14 : val_main_v48 (F := Ideal) x0 x1 x2 x3 x4 x5 x6 x7 x8 x9 x10 x11 x12 x13 x14 x15 = x14 := back 692352 14 (by decide) x14 _ rfl (by decide +kernel) _ (by decide) _
theorem at15 : val_main_v50 (F := Ideal) x0 x1 x2 x3 x4 x5 x6 x7 x8 x9 x10 x11 x12 x13 x14 x15 = x15 := back 823424 15 (by decide) x15 _ rfl (by decide +kernel) _ (by decide) _

end Cert.PackIdeal.Arr

namespace Cert.PackRefIdeal.Arr
open Cert.PackRefIdeal Cert.PackRefIdeal.Gen

/-- The reference leaves every array as it was. -/
theorem run (m : (ℓ : Loc nD τ sig) → Buf (Elt Ideal) ℓ) (ρ : Dev nD → PrngReg) :
    θ_run defs (onTc (τ := τ) (main (F := Ideal))) ⟨m, fun _ => 0, ρ⟩ fun r => ∀ (c : Dev nD) (b : Ref sig .tc), r.2.mem ((c : Thread nD τ).loc b) = m ((c : Thread nD τ).loc b) :=
  run_seq (by decide) (by decide) defs main (fun _ => []) (fun _ => rfl) (fun _ => trivial) m ρ

end Cert.PackRefIdeal.Arr

namespace Cert.Packing

theorem frame_pack : Cert.quiescent_Pack (hPack := Cert.Pack.Gen.facts) := fun m ρ _ =>
  (θ_run _ _ _).mono (fun r h => ⟨fun c => (h c).2.2.2.2.2.2.2.2.2.2.2.2.2.2.2.2, sem_eq_zero_of_no_sems rfl _⟩) (Cert.Pack.Value.run m ρ)
theorem frame_pack_ideal : Cert.quiescent_PackIdeal (hPackIdeal := Cert.PackIdeal.Gen.facts) := fun m ρ _ =>
  (θ_run _ _ _).mono (fun r h => ⟨fun c => (h c).2.2.2.2.2.2.2.2.2.2.2.2.2.2.2.2, sem_eq_zero_of_no_sems rfl _⟩) (Cert.PackIdeal.Value.run m ρ)
theorem frame_pack_ref : Cert.quiescent_PackRefIdeal (hPackRefIdeal := Cert.PackRefIdeal.Gen.facts) := fun m ρ _ =>
  (θ_run _ _ _).mono (fun r h => ⟨fun c => ⟨h c _, h c _, h c _, h c _, h c _, h c _, h c _, h c _, h c _, h c _, h c _, h c _, h c _, h c _, h c _, h c _⟩, sem_eq_zero_of_no_sems rfl _⟩) (Cert.PackRefIdeal.Arr.run m ρ)

set_option maxHeartbeats 2000000 in
open Cert.PackIdeal in
theorem algebraic_pack : Cert.algebraic_PackIdeal_PackRefIdeal (hPackIdeal := Cert.PackIdeal.Gen.facts) (hPackRefIdeal := Cert.PackRefIdeal.Gen.facts) := by
  intro m g m' g' _ hag
  refine ⟨fun c => m ((c : Thread nD τ).loc main_arg0), fun c => m ((c : Thread nD τ).loc main_arg1), fun c => m ((c : Thread nD τ).loc main_arg2), fun c => m ((c : Thread nD τ).loc main_arg3), fun c => m ((c : Thread nD τ).loc main_arg4), fun c => m ((c : Thread nD τ).loc main_arg5), fun c => m ((c : Thread nD τ).loc main_arg6), fun c => m ((c : Thread nD τ).loc main_arg7), fun c => m ((c : Thread nD τ).loc main_arg8), fun c => m ((c : Thread nD τ).loc main_arg9), fun c => m ((c : Thread nD τ).loc main_arg10), fun c => m ((c : Thread nD τ).loc main_arg11), fun c => m ((c : Thread nD τ).loc main_arg12), fun c => m ((c : Thread nD τ).loc main_arg13), fun c => m ((c : Thread nD τ).loc main_arg14), fun c => m ((c : Thread nD τ).loc main_arg15),
    (θ_run _ _ _).mono (fun r h c => ?_) (Value.run m g), (θ_run _ _ _).mono (fun r h c => ?_) (Cert.PackRefIdeal.Arr.run m' g')⟩
  · obtain ⟨h0, h1, h2, h3, h4, h5, h6, h7, h8, h9, h10, h11, h12, h13, h14, h15, hr⟩ := h c
    exact ⟨h0.trans ((Read.val_main_v21_eq _ _ _ _ _ _ _ _ _ _ _ _ _ _ _ _).trans Arr.at0), h1.trans ((Read.val_main_v23_eq _ _ _ _ _ _ _ _ _ _ _ _ _ _ _ _).trans Arr.at1), h2.trans ((Read.val_main_v25_eq _ _ _ _ _ _ _ _ _ _ _ _ _ _ _ _).trans Arr.at2), h3.trans ((Read.val_main_v26_eq _ _ _ _ _ _ _ _ _ _ _ _ _ _ _ _).trans Arr.at3), h4.trans ((Read.val_main_v28_eq _ _ _ _ _ _ _ _ _ _ _ _ _ _ _ _).trans Arr.at4), h5.trans ((Read.val_main_v30_eq _ _ _ _ _ _ _ _ _ _ _ _ _ _ _ _).trans Arr.at5), h6.trans ((Read.val_main_v32_eq _ _ _ _ _ _ _ _ _ _ _ _ _ _ _ _).trans Arr.at6), h7.trans ((Read.val_main_v34_eq _ _ _ _ _ _ _ _ _ _ _ _ _ _ _ _).trans Arr.at7), h8.trans ((Read.val_main_v36_eq _ _ _ _ _ _ _ _ _ _ _ _ _ _ _ _).trans Arr.at8), h9.trans ((Read.val_main_v38_eq _ _ _ _ _ _ _ _ _ _ _ _ _ _ _ _).trans Arr.at9), h10.trans ((Read.val_main_v40_eq _ _ _ _ _ _ _ _ _ _ _ _ _ _ _ _).trans Arr.at10), h11.trans ((Read.val_main_v42_eq _ _ _ _ _ _ _ _ _ _ _ _ _ _ _ _).trans Arr.at11), h12.trans ((Read.val_main_v44_eq _ _ _ _ _ _ _ _ _ _ _ _ _ _ _ _).trans Arr.at12), h13.trans ((Read.val_main_v46_eq _ _ _ _ _ _ _ _ _ _ _ _ _ _ _ _).trans Arr.at13), h14.trans ((Read.val_main_v48_eq _ _ _ _ _ _ _ _ _ _ _ _ _ _ _ _).trans Arr.at14), h15.trans ((Read.val_main_v50_eq _ _ _ _ _ _ _ _ _ _ _ _ _ _ _ _).trans Arr.at15), hr⟩
  · obtain ⟨e0, e1, e2, e3, e4, e5, e6, e7, e8, e9, e10, e11, e12, e13, e14, e15⟩ := hag c
    exact ⟨(h c _).trans e0, (h c _).trans e1, (h c _).trans e2, (h c _).trans e3, (h c _).trans e4, (h c _).trans e5, (h c _).trans e6, (h c _).trans e7, (h c _).trans e8, (h c _).trans e9, (h c _).trans e10, (h c _).trans e11, (h c _).trans e12, (h c _).trans e13, (h c _).trans e14, (h c _).trans e15, h c _, h c _, h c _, h c _, h c _, h c _, h c _, h c _, h c _, h c _, h c _, h c _, h c _, h c _, h c _, h c _⟩

end Cert.Packing

end
-- ==== Proof.lean ====
/- The claims about the calls of the backward pass, put together: frames from the generated runs, values from the modules named below. -/
module

public import proofs.«01_k».proof.Defs
public import proofs.«01_k».proof.Proof.Gen.Ple
public import proofs.«01_k».proof.Proof.Gen.Ple.Skeleton
public import proofs.«01_k».proof.Proof.Gen.Ple.Launch
public import proofs.«01_k».proof.Proof.Gen.Ple.Points
public import proofs.«01_k».proof.Proof.Gen.Ple.Frame
public import proofs.«01_k».proof.Proof.Gen.PleIdeal
public import proofs.«01_k».proof.Proof.Gen.PleIdeal.Skeleton
public import proofs.«01_k».proof.Proof.Gen.PleIdeal.Launch
public import proofs.«01_k».proof.Proof.Gen.PleIdeal.Points
public import proofs.«01_k».proof.Proof.Gen.PleIdeal.Frame
public import proofs.«01_k».proof.Proof.Gen.PleRefIdeal
public import proofs.«01_k».proof.Proof.Gen.Glu
public import proofs.«01_k».proof.Proof.Gen.Glu.Skeleton
public import proofs.«01_k».proof.Proof.Gen.Glu.Launch
public import proofs.«01_k».proof.Proof.Gen.Glu.Points
public import proofs.«01_k».proof.Proof.Gen.Glu.Frame
public import proofs.«01_k».proof.Proof.Gen.GluIdeal
public import proofs.«01_k».proof.Proof.Gen.GluIdeal.Skeleton
public import proofs.«01_k».proof.Proof.Gen.GluIdeal.Launch
public import proofs.«01_k».proof.Proof.Gen.GluIdeal.Points
public import proofs.«01_k».proof.Proof.Gen.GluIdeal.Frame
public import proofs.«01_k».proof.Proof.Gen.GluRefIdeal
public import proofs.«01_k».proof.Proof.Gen.PleIdeal.Value
public import proofs.«01_k».proof.Proof.Gen.GluIdeal.Value
public import proofs.«01_k».proof.Proof.Gen.PleRefIdeal.Run
public import proofs.«01_k».proof.Proof.Gen.PleRefIdeal.Read
public import proofs.«01_k».proof.Proof.Gen.GluRefIdeal.Run
public import proofs.«01_k».proof.Proof.Gen.GluRefIdeal.Read
public import proofs.«01_k».proof.Proof.Gen.Gmlp
public import proofs.«01_k».proof.Proof.Gen.Gmlp.Skeleton
public import proofs.«01_k».proof.Proof.Gen.Gmlp.Launch
public import proofs.«01_k».proof.Proof.Gen.Gmlp.Points
public import proofs.«01_k».proof.Proof.Gen.Gmlp.Frame
public import proofs.«01_k».proof.Proof.Gen.GmlpIdeal
public import proofs.«01_k».proof.Proof.Gen.GmlpIdeal.Skeleton
public import proofs.«01_k».proof.Proof.Gen.GmlpIdeal.Launch
public import proofs.«01_k».proof.Proof.Gen.GmlpIdeal.Points
public import proofs.«01_k».proof.Proof.Gen.GmlpIdeal.Frame
public import proofs.«01_k».proof.Proof.Gen.GmlpIdeal.Value
public import proofs.«01_k».proof.Proof.Gen.GmlpRefIdeal
public import proofs.«01_k».proof.Proof.Gen.GmlpRefIdeal.Run
public import proofs.«01_k».proof.Proof.Gen.GmlpRefIdeal.Read
public import proofs.«01_k».proof.Proof.Gen.Pre_finite_gmlp
public import proofs.«01_k».proof.Proof.Gen.Pre_finite_s5f
public import proofs.«01_k».proof.Proof.Gen.RmsBwd
public import proofs.«01_k».proof.Proof.Gen.RmsBwd.Skeleton
public import proofs.«01_k».proof.Proof.Gen.RmsBwd.Launch
public import proofs.«01_k».proof.Proof.Gen.RmsBwd.Points
public import proofs.«01_k».proof.Proof.Gen.RmsBwd.Frame
public import proofs.«01_k».proof.Proof.Gen.RmsBwdIdeal
public import proofs.«01_k».proof.Proof.Gen.RmsBwdIdeal.Skeleton
public import proofs.«01_k».proof.Proof.Gen.RmsBwdIdeal.Launch
public import proofs.«01_k».proof.Proof.Gen.RmsBwdIdeal.Points
public import proofs.«01_k».proof.Proof.Gen.RmsBwdIdeal.Frame
public import proofs.«01_k».proof.Proof.Gen.RmsBwdIdeal.Value
public import proofs.«01_k».proof.Proof.Gen.RmsRefIdeal
public import proofs.«01_k».proof.Proof.Gen.RmsRefIdeal.Run
public import proofs.«01_k».proof.Proof.Gen.RmsRefIdeal.Read
public import proofs.«01_k».proof.Proof.Gen.Pre_finite_rms
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossIdeal.Value
public import proofs.«01_k».proof.Proof.Gen.LossRefIdeal
public import proofs.«01_k».proof.Proof.Gen.LossRefIdeal.Run
public import proofs.«01_k».proof.Proof.Gen.LossRefIdeal.Read
public import proofs.«01_k».proof.Proof.Gen.Pre_finite_loss
public import proofs.«01_k».proof.Proof.Gen.Prep
public import proofs.«01_k».proof.Proof.Gen.Prep.Skeleton
public import proofs.«01_k».proof.Proof.Gen.Prep.Launch
public import proofs.«01_k».proof.Proof.Gen.Prep.Points
public import proofs.«01_k».proof.Proof.Gen.Prep.Frame
public import proofs.«01_k».proof.Proof.Gen.PrepIdeal
public import proofs.«01_k».proof.Proof.Gen.PrepIdeal.Skeleton
public import proofs.«01_k».proof.Proof.Gen.PrepIdeal.Launch
public import proofs.«01_k».proof.Proof.Gen.PrepIdeal.Points
public import proofs.«01_k».proof.Proof.Gen.PrepIdeal.Frame
public import proofs.«01_k».proof.Proof.Gen.PrepIdeal.Value
public import proofs.«01_k».proof.Proof.Gen.PrepRefIdeal
public import proofs.«01_k».proof.Proof.Gen.PrepRefIdeal.Run
public import proofs.«01_k».proof.Proof.Gen.PrepRefIdeal.Read
public import proofs.«01_k».proof.Proof.Gen.Pre_tame_prep
public import proofs.«01_k».proof.Proof.Gen.Swi
public import proofs.«01_k».proof.Proof.Gen.Swi.Skeleton
public import proofs.«01_k».proof.Proof.Gen.Swi.Launch
public import proofs.«01_k».proof.Proof.Gen.Swi.Points
public import proofs.«01_k».proof.Proof.Gen.Swi.Frame
public import proofs.«01_k».proof.Proof.Gen.SwiIdeal
public import proofs.«01_k».proof.Proof.Gen.SwiIdeal.Skeleton
public import proofs.«01_k».proof.Proof.Gen.SwiIdeal.Launch
public import proofs.«01_k».proof.Proof.Gen.SwiIdeal.Points
public import proofs.«01_k».proof.Proof.Gen.SwiIdeal.Frame
public import proofs.«01_k».proof.Proof.Gen.SwiIdeal.Value
public import proofs.«01_k».proof.Proof.Gen.SwiRefIdeal
public import proofs.«01_k».proof.Proof.Gen.SwiRefIdeal.Run
public import proofs.«01_k».proof.Proof.Gen.SwiRefIdeal.Read
public import proofs.«01_k».proof.Proof.Gen.Pre_finite_swi
public import proofs.«01_k».proof.Proof.Gen.GmlpF
public import proofs.«01_k».proof.Proof.Gen.GmlpF.Skeleton
public import proofs.«01_k».proof.Proof.Gen.GmlpF.Launch
public import proofs.«01_k».proof.Proof.Gen.GmlpF.Points
public import proofs.«01_k».proof.Proof.Gen.GmlpF.Frame
public import proofs.«01_k».proof.Proof.Gen.GmlpFIdeal
public import proofs.«01_k».proof.Proof.Gen.GmlpFIdeal.Skeleton
public import proofs.«01_k».proof.Proof.Gen.GmlpFIdeal.Launch
public import proofs.«01_k».proof.Proof.Gen.GmlpFIdeal.Points
public import proofs.«01_k».proof.Proof.Gen.GmlpFIdeal.Frame
public import proofs.«01_k».proof.Proof.Gen.GmlpFRefIdeal
public import proofs.«01_k».proof.Proof.Gen.GmlpFRefIdeal.Run
public import proofs.«01_k».proof.Proof.Gen.GmlpFRefIdeal.Read
public import proofs.«01_k».proof.Proof.Gen.RmsF
public import proofs.«01_k».proof.Proof.Gen.RmsF.Skeleton
public import proofs.«01_k».proof.Proof.Gen.RmsF.Launch
public import proofs.«01_k».proof.Proof.Gen.RmsF.Points
public import proofs.«01_k».proof.Proof.Gen.RmsF.Frame
public import proofs.«01_k».proof.Proof.Gen.RmsFIdeal
public import proofs.«01_k».proof.Proof.Gen.RmsFIdeal.Skeleton
public import proofs.«01_k».proof.Proof.Gen.RmsFIdeal.Launch
public import proofs.«01_k».proof.Proof.Gen.RmsFIdeal.Points
public import proofs.«01_k».proof.Proof.Gen.RmsFIdeal.Frame
public import proofs.«01_k».proof.Proof.Gen.RmsFIdeal.Value
public import proofs.«01_k».proof.Proof.Gen.RmsFRefIdeal
public import proofs.«01_k».proof.Proof.Gen.RmsFRefIdeal.Run
public import proofs.«01_k».proof.Proof.Gen.RmsFRefIdeal.Read
public import proofs.«01_k».proof.Proof.Gen.PrepF
public import proofs.«01_k».proof.Proof.Gen.PrepF.Skeleton
public import proofs.«01_k».proof.Proof.Gen.PrepF.Launch
public import proofs.«01_k».proof.Proof.Gen.PrepF.Points
public import proofs.«01_k».proof.Proof.Gen.PrepF.Frame
public import proofs.«01_k».proof.Proof.Gen.PrepFIdeal
public import proofs.«01_k».proof.Proof.Gen.PrepFIdeal.Skeleton
public import proofs.«01_k».proof.Proof.Gen.PrepFIdeal.Launch
public import proofs.«01_k».proof.Proof.Gen.PrepFIdeal.Points
public import proofs.«01_k».proof.Proof.Gen.PrepFIdeal.Frame
public import proofs.«01_k».proof.Proof.Gen.PrepFIdeal.Value
public import proofs.«01_k».proof.Proof.Gen.PrepFRefIdeal
public import proofs.«01_k».proof.Proof.Gen.PrepFRefIdeal.Run
public import proofs.«01_k».proof.Proof.Gen.PrepFRefIdeal.Read
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpIdeal.Value
public import proofs.«01_k».proof.Proof.Gen.UpRefIdeal
public import proofs.«01_k».proof.Proof.Gen.UpRefIdeal.Run
public import proofs.«01_k».proof.Proof.Gen.UpRefIdeal.Read
public import proofs.«01_k».proof.Proof.Gen.Gate
public import proofs.«01_k».proof.Proof.Gen.Gate.Skeleton
public import proofs.«01_k».proof.Proof.Gen.Gate.Launch
public import proofs.«01_k».proof.Proof.Gen.Gate.Points
public import proofs.«01_k».proof.Proof.Gen.Gate.Frame
public import proofs.«01_k».proof.Proof.Gen.GateIdeal
public import proofs.«01_k».proof.Proof.Gen.GateIdeal.Skeleton
public import proofs.«01_k».proof.Proof.Gen.GateIdeal.Launch
public import proofs.«01_k».proof.Proof.Gen.GateIdeal.Points
public import proofs.«01_k».proof.Proof.Gen.GateIdeal.Frame
public import proofs.«01_k».proof.Proof.Gen.GateIdeal.Value
public import proofs.«01_k».proof.Proof.Gen.GateRefIdeal
public import proofs.«01_k».proof.Proof.Gen.GateRefIdeal.Run
public import proofs.«01_k».proof.Proof.Gen.GateRefIdeal.Read
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutIdeal.Value
public import proofs.«01_k».proof.Proof.Gen.OutRefIdeal
public import proofs.«01_k».proof.Proof.Gen.OutRefIdeal.Run
public import proofs.«01_k».proof.Proof.Gen.OutRefIdeal.Read
public import proofs.«01_k».proof.Proof.Gen.S5F.Frame
public import proofs.«01_k».proof.Proof.Gen.S5F.Loops
public import proofs.«01_k».proof.Proof.Gen.S5F.Points
public import proofs.«01_k».proof.Proof.Gen.S5FIdeal.Frame
public import proofs.«01_k».proof.Proof.Gen.S5FIdeal.Loops
public import proofs.«01_k».proof.Proof.Gen.S5FIdeal.Points
public import proofs.«01_k».proof.Proof.Gen.S5FRefIdeal.Run
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Gen.DownRefIdeal.Read
public import proofs.«01_k».proof.Proof.Gen.Dx
public import proofs.«01_k».proof.Proof.Gen.Dx.Skeleton
public import proofs.«01_k».proof.Proof.Gen.Dx.Launch
public import proofs.«01_k».proof.Proof.Gen.Dx.Points
public import proofs.«01_k».proof.Proof.Gen.Dx.Frame
public import proofs.«01_k».proof.Proof.Gen.DxIdeal
public import proofs.«01_k».proof.Proof.Gen.DxIdeal.Skeleton
public import proofs.«01_k».proof.Proof.Gen.DxIdeal.Launch
public import proofs.«01_k».proof.Proof.Gen.DxIdeal.Points
public import proofs.«01_k».proof.Proof.Gen.DxIdeal.Frame
public import proofs.«01_k».proof.Proof.Gen.DxIdeal.Value
public import proofs.«01_k».proof.Proof.Gen.DxRefIdeal
public import proofs.«01_k».proof.Proof.Gen.DxRefIdeal.Run
public import proofs.«01_k».proof.Proof.Gen.DxRefIdeal.Read
public import proofs.«01_k».proof.Proof.Gen.Dw
public import proofs.«01_k».proof.Proof.Gen.Dw.Skeleton
public import proofs.«01_k».proof.Proof.Gen.Dw.Launch
public import proofs.«01_k».proof.Proof.Gen.Dw.Points
public import proofs.«01_k».proof.Proof.Gen.Dw.Frame
public import proofs.«01_k».proof.Proof.Gen.DwIdeal
public import proofs.«01_k».proof.Proof.Gen.DwIdeal.Skeleton
public import proofs.«01_k».proof.Proof.Gen.DwIdeal.Launch
public import proofs.«01_k».proof.Proof.Gen.DwIdeal.Points
public import proofs.«01_k».proof.Proof.Gen.DwIdeal.Frame
public import proofs.«01_k».proof.Proof.Gen.DwIdeal.Value
public import proofs.«01_k».proof.Proof.Gen.DwRefIdeal
public import proofs.«01_k».proof.Proof.Gen.DwRefIdeal.Run
public import proofs.«01_k».proof.Proof.Gen.DwRefIdeal.Read
public import proofs.«01_k».proof.Proof.Gen.Adam
public import proofs.«01_k».proof.Proof.Gen.Adam.Skeleton
public import proofs.«01_k».proof.Proof.Gen.Adam.Launch
public import proofs.«01_k».proof.Proof.Gen.Adam.Points
public import proofs.«01_k».proof.Proof.Gen.Adam.Frame
public import proofs.«01_k».proof.Proof.Gen.AdamIdeal
public import proofs.«01_k».proof.Proof.Gen.AdamIdeal.Skeleton
public import proofs.«01_k».proof.Proof.Gen.AdamIdeal.Launch
public import proofs.«01_k».proof.Proof.Gen.AdamIdeal.Points
public import proofs.«01_k».proof.Proof.Gen.AdamIdeal.Frame
public import proofs.«01_k».proof.Proof.Gen.AdamIdeal.Value
public import proofs.«01_k».proof.Proof.Gen.AdamRefIdeal
public import proofs.«01_k».proof.Proof.Gen.AdamRefIdeal.Run
public import proofs.«01_k».proof.Proof.Gen.AdamRefIdeal.Read
public import proofs.«01_k».proof.Proof.Gen.Cast
public import proofs.«01_k».proof.Proof.Gen.Cast.Skeleton
public import proofs.«01_k».proof.Proof.Gen.Cast.Launch
public import proofs.«01_k».proof.Proof.Gen.Cast.Points
public import proofs.«01_k».proof.Proof.Gen.Cast.Frame
public import proofs.«01_k».proof.Proof.Gen.CastIdeal
public import proofs.«01_k».proof.Proof.Gen.CastIdeal.Skeleton
public import proofs.«01_k».proof.Proof.Gen.CastIdeal.Launch
public import proofs.«01_k».proof.Proof.Gen.CastIdeal.Points
public import proofs.«01_k».proof.Proof.Gen.CastIdeal.Frame
public import proofs.«01_k».proof.Proof.Gen.CastIdeal.Value
public import proofs.«01_k».proof.Proof.Gen.CastRefIdeal
public import proofs.«01_k».proof.Proof.Gen.CastRefIdeal.Run
public import proofs.«01_k».proof.Proof.Gen.CastRefIdeal.Read
public import proofs.«01_k».proof.Proof.Gen.ChipSum
public import proofs.«01_k».proof.Proof.Gen.ChipSum.Skeleton
public import proofs.«01_k».proof.Proof.Gen.ChipSum.Launch
public import proofs.«01_k».proof.Proof.Gen.ChipSum.Points
public import proofs.«01_k».proof.Proof.Gen.ChipSum.Frame
public import proofs.«01_k».proof.Proof.Gen.ChipSumIdeal
public import proofs.«01_k».proof.Proof.Gen.ChipSumIdeal.Skeleton
public import proofs.«01_k».proof.Proof.Gen.ChipSumIdeal.Launch
public import proofs.«01_k».proof.Proof.Gen.ChipSumIdeal.Points
public import proofs.«01_k».proof.Proof.Gen.ChipSumIdeal.Frame
public import proofs.«01_k».proof.Proof.Gen.ChipSumRefIdeal
public import proofs.«01_k».proof.Proof.Gen.ChipSumRefIdeal.Run
public import proofs.«01_k».proof.Proof.Gen.ChipSumRefIdeal.Read
public import proofs.«01_k».proof.Proof.Gen.PartSum
public import proofs.«01_k».proof.Proof.Gen.PartSum.Skeleton
public import proofs.«01_k».proof.Proof.Gen.PartSum.Launch
public import proofs.«01_k».proof.Proof.Gen.PartSum.Points
public import proofs.«01_k».proof.Proof.Gen.PartSum.Frame
public import proofs.«01_k».proof.Proof.Gen.PartSumIdeal
public import proofs.«01_k».proof.Proof.Gen.PartSumIdeal.Skeleton
public import proofs.«01_k».proof.Proof.Gen.PartSumIdeal.Launch
public import proofs.«01_k».proof.Proof.Gen.PartSumIdeal.Points
public import proofs.«01_k».proof.Proof.Gen.PartSumIdeal.Frame
public import proofs.«01_k».proof.Proof.Gen.PartSumRefIdeal
public import proofs.«01_k».proof.Proof.Gen.PartSumRefIdeal.Run
public import proofs.«01_k».proof.Proof.Gen.PartSumRefIdeal.Read
public import proofs.«01_k».proof.Proof.Gen.SliceSum
public import proofs.«01_k».proof.Proof.Gen.SliceSum.Skeleton
public import proofs.«01_k».proof.Proof.Gen.SliceSum.Launch
public import proofs.«01_k».proof.Proof.Gen.SliceSum.Points
public import proofs.«01_k».proof.Proof.Gen.SliceSum.Frame
public import proofs.«01_k».proof.Proof.Gen.SliceSumIdeal
public import proofs.«01_k».proof.Proof.Gen.SliceSumIdeal.Skeleton
public import proofs.«01_k».proof.Proof.Gen.SliceSumIdeal.Launch
public import proofs.«01_k».proof.Proof.Gen.SliceSumIdeal.Points
public import proofs.«01_k».proof.Proof.Gen.SliceSumIdeal.Frame
public import proofs.«01_k».proof.Proof.Gen.SliceSumIdeal.Value
public import proofs.«01_k».proof.Proof.Gen.SliceSumRefIdeal
public import proofs.«01_k».proof.Proof.Gen.SliceSumRefIdeal.Run
public import proofs.«01_k».proof.Proof.Gen.SliceSumRefIdeal.Read
public import proofs.«01_k».proof.Proof.Gen.AdamBig
public import proofs.«01_k».proof.Proof.Gen.AdamBig.Skeleton
public import proofs.«01_k».proof.Proof.Gen.AdamBig.Launch
public import proofs.«01_k».proof.Proof.Gen.AdamBig.Points
public import proofs.«01_k».proof.Proof.Gen.AdamBig.Frame
public import proofs.«01_k».proof.Proof.Gen.AdamBigIdeal
public import proofs.«01_k».proof.Proof.Gen.AdamBigIdeal.Skeleton
public import proofs.«01_k».proof.Proof.Gen.AdamBigIdeal.Launch
public import proofs.«01_k».proof.Proof.Gen.AdamBigIdeal.Points
public import proofs.«01_k».proof.Proof.Gen.AdamBigIdeal.Frame
public import proofs.«01_k».proof.Proof.Gen.AdamBigRefIdeal
public import proofs.«01_k».proof.Proof.Gen.AdamBigRefIdeal.Run
public import proofs.«01_k».proof.Proof.Gen.AdamBigRefIdeal.Read
public import proofs.«01_k».proof.Proof.Gen.Pack
public import proofs.«01_k».proof.Proof.Gen.Pack.Run
public import proofs.«01_k».proof.Proof.Gen.PackIdeal
public import proofs.«01_k».proof.Proof.Gen.PackIdeal.Run
public import proofs.«01_k».proof.Proof.Gen.PackIdeal.Read
public import proofs.«01_k».proof.Proof.Gen.PackRefIdeal
public import Idealize.ShloMosaic.Adequacy
public import Idealize.ShloMosaic.Init
public import proofs.«01_k».proof.Proof.EmbedGate
public import proofs.«01_k».proof.Proof.Mix
public import proofs.«01_k».proof.Proof.Norm
public import proofs.«01_k».proof.Proof.LossClaim
public import proofs.«01_k».proof.Proof.PrepClaim
public import proofs.«01_k».proof.Proof.SwiClaim
public import proofs.«01_k».proof.Proof.FwdClaim
public import proofs.«01_k».proof.Proof.S5FClaim
public import proofs.«01_k».proof.Proof.RestClaim
public import proofs.«01_k».proof.Proof.PackValue

@[expose] public section

noncomputable section

namespace Cert.Proof

open Idealize.ShloMosaic Idealize.SL.Sem

/-- A reference of host operations only terminates and leaves its arguments unchanged; it has no counter. -/
theorem frame_ple_ref : Cert.quiescent_PleRefIdeal (hPleRefIdeal := Cert.PleRefIdeal.Gen.facts) := fun m ρ _ =>
  (θ_run _ _ _).mono (fun r h => ⟨fun c => (h c).2.2, sem_eq_zero_of_no_sems rfl _⟩) (Cert.PleRefIdeal.Value.run m ρ)

theorem frame_glu_ref : Cert.quiescent_GluRefIdeal (hGluRefIdeal := Cert.GluRefIdeal.Gen.facts) := fun m ρ _ =>
  (θ_run _ _ _).mono (fun r h => ⟨fun c => (h c).2, sem_eq_zero_of_no_sems rfl _⟩) (Cert.GluRefIdeal.Value.run m ρ)

theorem claim : Cert.Claim := ⟨Cert.Ple.Gen.facts, Cert.PleIdeal.Gen.facts, Cert.PleRefIdeal.Gen.facts, Cert.Glu.Gen.facts, Cert.GluIdeal.Gen.facts, Cert.GluRefIdeal.Gen.facts, Cert.Gmlp.Gen.facts, Cert.GmlpIdeal.Gen.facts, Cert.GmlpRefIdeal.Gen.facts, Cert.RmsBwd.Gen.facts, Cert.RmsBwdIdeal.Gen.facts, Cert.RmsRefIdeal.Gen.facts, Cert.Loss.Gen.facts, Cert.LossIdeal.Gen.facts, Cert.LossRefIdeal.Gen.facts, Cert.Prep.Gen.facts, Cert.PrepIdeal.Gen.facts, Cert.PrepRefIdeal.Gen.facts, Cert.Swi.Gen.facts, Cert.SwiIdeal.Gen.facts, Cert.SwiRefIdeal.Gen.facts, Cert.GmlpF.Gen.facts, Cert.GmlpFIdeal.Gen.facts, Cert.GmlpFRefIdeal.Gen.facts, Cert.RmsF.Gen.facts, Cert.RmsFIdeal.Gen.facts, Cert.RmsFRefIdeal.Gen.facts, Cert.PrepF.Gen.facts, Cert.PrepFIdeal.Gen.facts, Cert.PrepFRefIdeal.Gen.facts, Cert.Up.Gen.facts, Cert.UpIdeal.Gen.facts, Cert.UpRefIdeal.Gen.facts, Cert.Gate.Gen.facts, Cert.GateIdeal.Gen.facts, Cert.GateRefIdeal.Gen.facts, Cert.Out.Gen.facts, Cert.OutIdeal.Gen.facts, Cert.OutRefIdeal.Gen.facts, Cert.S5F.Gen.facts, Cert.S5FIdeal.Gen.facts, Cert.S5FRefIdeal.Gen.facts, Cert.Down.Gen.facts, Cert.DownIdeal.Gen.facts, Cert.DownRefIdeal.Gen.facts, Cert.Dx.Gen.facts, Cert.DxIdeal.Gen.facts, Cert.DxRefIdeal.Gen.facts, Cert.Dw.Gen.facts, Cert.DwIdeal.Gen.facts, Cert.DwRefIdeal.Gen.facts, Cert.Adam.Gen.facts, Cert.AdamIdeal.Gen.facts, Cert.AdamRefIdeal.Gen.facts, Cert.Cast.Gen.facts, Cert.CastIdeal.Gen.facts, Cert.CastRefIdeal.Gen.facts, Cert.ChipSum.Gen.facts, Cert.ChipSumIdeal.Gen.facts, Cert.ChipSumRefIdeal.Gen.facts, Cert.PartSum.Gen.facts, Cert.PartSumIdeal.Gen.facts, Cert.PartSumRefIdeal.Gen.facts, Cert.SliceSum.Gen.facts, Cert.SliceSumIdeal.Gen.facts, Cert.SliceSumRefIdeal.Gen.facts, Cert.AdamBig.Gen.facts, Cert.AdamBigIdeal.Gen.facts, Cert.AdamBigRefIdeal.Gen.facts, Cert.Pack.Gen.facts, Cert.PackIdeal.Gen.facts, Cert.PackRefIdeal.Gen.facts, Cert.Pre_finite_gmlp.Gen.facts, Cert.Pre_finite_rms.Gen.facts, Cert.Pre_finite_loss.Gen.facts, Cert.Pre_tame_prep.Gen.facts, Cert.Pre_finite_swi.Gen.facts, Cert.Pre_finite_s5f.Gen.facts,
  fun m ρ _ => Cert.Ple.Gen.frame m ρ, fun m ρ _ => Cert.PleIdeal.Gen.frame m ρ, frame_ple_ref,
  fun m ρ _ => Cert.Glu.Gen.frame m ρ, fun m ρ _ => Cert.GluIdeal.Gen.frame m ρ, frame_glu_ref,
  fun m ρ _ => Cert.Gmlp.Gen.frame m ρ, fun m ρ _ => Cert.GmlpIdeal.Gen.frame m ρ, fun m ρ _ => Cert.GmlpIdeal.Gen.frame m ρ, Cert.Mix.frame_mix_ref, fun m ρ _ => Cert.Mix.frame_mix_ref m ρ trivial,
  fun m ρ _ => Cert.RmsBwd.Gen.frame m ρ, fun m ρ _ => Cert.RmsBwdIdeal.Gen.frame m ρ, fun m ρ _ => Cert.RmsBwdIdeal.Gen.frame m ρ, Cert.Norm.frame_rms_ref, fun m ρ _ => Cert.Norm.frame_rms_ref m ρ trivial,
  fun m ρ _ => Cert.Loss.Gen.frame m ρ, fun m ρ _ => Cert.LossIdeal.Gen.frame m ρ, fun m ρ _ => Cert.LossIdeal.Gen.frame m ρ, Cert.Cost.frame_loss_ref, fun m ρ _ => Cert.Cost.frame_loss_ref m ρ trivial,
  fun m ρ _ => Cert.Prep.Gen.frame m ρ, fun m ρ _ => Cert.PrepIdeal.Gen.frame m ρ, fun m ρ _ => Cert.PrepIdeal.Gen.frame m ρ, Cert.Disc.frame_prep_ref, fun m ρ _ => Cert.Disc.frame_prep_ref m ρ trivial,
  fun m ρ _ => Cert.Swi.Gen.frame m ρ, fun m ρ _ => Cert.SwiIdeal.Gen.frame m ρ, fun m ρ _ => Cert.SwiIdeal.Gen.frame m ρ, Cert.Swish.frame_swi_ref, fun m ρ _ => Cert.Swish.frame_swi_ref m ρ trivial,
  fun m ρ _ => Cert.GmlpF.Gen.frame m ρ, fun m ρ _ => Cert.GmlpFIdeal.Gen.frame m ρ, Cert.Fwd.frame_gmlp_fwd_ref,
  fun m ρ _ => Cert.RmsF.Gen.frame m ρ, fun m ρ _ => Cert.RmsFIdeal.Gen.frame m ρ, Cert.Fwd.frame_rms_fwd_ref,
  fun m ρ _ => Cert.PrepF.Gen.frame m ρ, fun m ρ _ => Cert.PrepFIdeal.Gen.frame m ρ, Cert.Fwd.frame_prep_fwd_ref,
  fun m ρ _ => Cert.Up.Gen.frame m ρ, fun m ρ _ => Cert.UpIdeal.Gen.frame m ρ, Cert.Fwd.frame_up_ref,
  fun m ρ _ => Cert.Gate.Gen.frame m ρ, fun m ρ _ => Cert.GateIdeal.Gen.frame m ρ, Cert.Fwd.frame_gate_ref,
  fun m ρ _ => Cert.Out.Gen.frame m ρ, fun m ρ _ => Cert.OutIdeal.Gen.frame m ρ, Cert.Fwd.frame_out_ref,
  Cert.S5FK.frame_s5f, Cert.S5FK.frame_s5f_ideal, fun m ρ _ => Cert.S5FK.frame_s5f_ideal m ρ trivial, Cert.S5FK.frame_s5f_ref, fun m ρ _ => Cert.S5FK.frame_s5f_ref m ρ trivial,
  fun m ρ _ => Cert.Down.Gen.frame m ρ, fun m ρ _ => Cert.DownIdeal.Gen.frame m ρ, Cert.Rest.frame_down_ref,
  fun m ρ _ => Cert.Dx.Gen.frame m ρ, fun m ρ _ => Cert.DxIdeal.Gen.frame m ρ, Cert.Rest.frame_dx_ref,
  fun m ρ _ => Cert.Dw.Gen.frame m ρ, fun m ρ _ => Cert.DwIdeal.Gen.frame m ρ, Cert.Rest.frame_dw_ref,
  fun m ρ _ => Cert.Adam.Gen.frame m ρ, fun m ρ _ => Cert.AdamIdeal.Gen.frame m ρ, Cert.Rest.frame_adam_ref,
  fun m ρ _ => Cert.Cast.Gen.frame m ρ, fun m ρ _ => Cert.CastIdeal.Gen.frame m ρ, Cert.Rest.frame_cast_ref,
  fun m ρ _ => Cert.ChipSum.Gen.frame m ρ (Cert.ChipSum.Gen.tables m), fun m ρ _ => Cert.ChipSumIdeal.Gen.frame m ρ (Cert.ChipSumIdeal.Arr.ok m), Cert.Rest.frame_chipsum_ref,
  fun m ρ _ => Cert.PartSum.Gen.frame m ρ (Cert.PartSum.Gen.tables m), fun m ρ _ => Cert.PartSumIdeal.Gen.frame m ρ (Cert.PartSumIdeal.Arr.ok m), Cert.Rest.frame_partsum_ref,
  fun m ρ _ => Cert.SliceSum.Gen.frame m ρ, fun m ρ _ => Cert.SliceSumIdeal.Gen.frame m ρ, Cert.Rest.frame_slicesum_ref,
  fun m ρ _ => Cert.AdamBig.Gen.frame m ρ (Cert.AdamBig.Gen.tables m), fun m ρ _ => Cert.AdamBigIdeal.Gen.frame m ρ (Cert.AdamBigIdeal.Arr.ok m), Cert.Rest.frame_adambig_ref,
  Cert.Packing.frame_pack, Cert.Packing.frame_pack_ideal, Cert.Packing.frame_pack_ref,
  trivial, Cert.Gates.algebraic_ple,
  trivial, Cert.Gates.algebraic_glu,
  ⟨IdealRules.named_const.statement Cert.GmlpIdeal.κ "cube" .f32 0x3D372713#32 _ rfl, IdealRules.named_const.statement Cert.GmlpIdeal.κ "cube3" .f32 0x3E095D4F#32 _ rfl⟩, Cert.Mix.algebraic_mix,
  trivial, Cert.Norm.algebraic_rms,
  trivial, Cert.Cost.algebraic_loss,
  trivial, Cert.Disc.algebraic_prep,
  trivial, Cert.Swish.algebraic_swi,
  IdealRules.named_const.statement Cert.GmlpFIdeal.κ "cube" .f32 0x3D372713#32 _ rfl, Cert.Fwd.algebraic_gmlp_fwd,
  trivial, Cert.Fwd.algebraic_rms_fwd,
  trivial, Cert.Fwd.algebraic_prep_fwd,
  trivial, Cert.Fwd.algebraic_up,
  trivial, Cert.Fwd.algebraic_gate,
  trivial, Cert.Fwd.algebraic_out,
  trivial, Cert.S5FK.algebraic_s5f,
  trivial, Cert.Rest.algebraic_down,
  trivial, Cert.Rest.algebraic_dx,
  trivial, Cert.Rest.algebraic_dw,
  trivial, Cert.Rest.algebraic_adam,
  trivial, Cert.Rest.algebraic_cast,
  trivial, Cert.Rest.algebraic_chipsum,
  trivial, Cert.Rest.algebraic_partsum,
  trivial, Cert.Rest.algebraic_slicesum,
  trivial, Cert.Rest.algebraic_adambig,
  trivial, Cert.Packing.algebraic_pack⟩

end Cert.Proof

end
